-- ==== Defs.lean ====
def Pre_Ffn1Bwd (m : (ℓ : Loc Cert.Ffn1Bwd.nD Cert.Ffn1Bwd.τ Cert.Ffn1Bwd.sig) → Buf (Elt Bits) ℓ) : Prop :=
  True

def Pre_Ffn1BwdIdeal (m : (ℓ : Loc Cert.Ffn1BwdIdeal.nD Cert.Ffn1BwdIdeal.τ Cert.Ffn1BwdIdeal.sig) → Buf (Elt Ideal) ℓ) : Prop :=
  True

def Pre_Ffn1BwdIdeal_finite_ffn1 [hPre_finite_ffn1 : Cert.Pre_finite_ffn1.Facts] (m : (ℓ : Loc Cert.Ffn1BwdIdeal.nD Cert.Ffn1BwdIdeal.τ Cert.Ffn1BwdIdeal.sig) → Buf (Elt Ideal) ℓ) : Prop :=
  ∀ c : Dev Cert.Ffn1BwdIdeal.nD,
    (Cert.Pre_finite_ffn1.fn (F := Ideal) (m ((c.tc : Thread Cert.Ffn1BwdIdeal.nD Cert.Ffn1BwdIdeal.τ).loc Cert.Ffn1BwdIdeal.main_arg0)) (m ((c.tc : Thread Cert.Ffn1BwdIdeal.nD Cert.Ffn1BwdIdeal.τ).loc Cert.Ffn1BwdIdeal.main_arg1)) (m ((c.tc : Thread Cert.Ffn1BwdIdeal.nD Cert.Ffn1BwdIdeal.τ).loc Cert.Ffn1BwdIdeal.main_arg2)) (m ((c.tc : Thread Cert.Ffn1BwdIdeal.nD Cert.Ffn1BwdIdeal.τ).loc Cert.Ffn1BwdIdeal.main_arg3)) (m ((c.tc : Thread Cert.Ffn1BwdIdeal.nD Cert.Ffn1BwdIdeal.τ).loc Cert.Ffn1BwdIdeal.main_arg4))).1 = (fun _ => 1#1)
    ∧ (Cert.Pre_finite_ffn1.fn (F := Ideal) (m ((c.tc : Thread Cert.Ffn1BwdIdeal.nD Cert.Ffn1BwdIdeal.τ).loc Cert.Ffn1BwdIdeal.main_arg0)) (m ((c.tc : Thread Cert.Ffn1BwdIdeal.nD Cert.Ffn1BwdIdeal.τ).loc Cert.Ffn1BwdIdeal.main_arg1)) (m ((c.tc : Thread Cert.Ffn1BwdIdeal.nD Cert.Ffn1BwdIdeal.τ).loc Cert.Ffn1BwdIdeal.main_arg2)) (m ((c.tc : Thread Cert.Ffn1BwdIdeal.nD Cert.Ffn1BwdIdeal.τ).loc Cert.Ffn1BwdIdeal.main_arg3)) (m ((c.tc : Thread Cert.Ffn1BwdIdeal.nD Cert.Ffn1BwdIdeal.τ).loc Cert.Ffn1BwdIdeal.main_arg4))).2.1 = (fun _ => 1#1)
    ∧ (Cert.Pre_finite_ffn1.fn (F := Ideal) (m ((c.tc : Thread Cert.Ffn1BwdIdeal.nD Cert.Ffn1BwdIdeal.τ).loc Cert.Ffn1BwdIdeal.main_arg0)) (m ((c.tc : Thread Cert.Ffn1BwdIdeal.nD Cert.Ffn1BwdIdeal.τ).loc Cert.Ffn1BwdIdeal.main_arg1)) (m ((c.tc : Thread Cert.Ffn1BwdIdeal.nD Cert.Ffn1BwdIdeal.τ).loc Cert.Ffn1BwdIdeal.main_arg2)) (m ((c.tc : Thread Cert.Ffn1BwdIdeal.nD Cert.Ffn1BwdIdeal.τ).loc Cert.Ffn1BwdIdeal.main_arg3)) (m ((c.tc : Thread Cert.Ffn1BwdIdeal.nD Cert.Ffn1BwdIdeal.τ).loc Cert.Ffn1BwdIdeal.main_arg4))).2.2.1 = (fun _ => 1#1)
    ∧ (Cert.Pre_finite_ffn1.fn (F := Ideal) (m ((c.tc : Thread Cert.Ffn1BwdIdeal.nD Cert.Ffn1BwdIdeal.τ).loc Cert.Ffn1BwdIdeal.main_arg0)) (m ((c.tc : Thread Cert.Ffn1BwdIdeal.nD Cert.Ffn1BwdIdeal.τ).loc Cert.Ffn1BwdIdeal.main_arg1)) (m ((c.tc : Thread Cert.Ffn1BwdIdeal.nD Cert.Ffn1BwdIdeal.τ).loc Cert.Ffn1BwdIdeal.main_arg2)) (m ((c.tc : Thread Cert.Ffn1BwdIdeal.nD Cert.Ffn1BwdIdeal.τ).loc Cert.Ffn1BwdIdeal.main_arg3)) (m ((c.tc : Thread Cert.Ffn1BwdIdeal.nD Cert.Ffn1BwdIdeal.τ).loc Cert.Ffn1BwdIdeal.main_arg4))).2.2.2 = (fun _ => 1#1)

def Pre_Ffn1BwdRefIdeal (m : (ℓ : Loc Cert.Ffn1BwdRefIdeal.nD Cert.Ffn1BwdRefIdeal.τ Cert.Ffn1BwdRefIdeal.sig) → Buf (Elt Ideal) ℓ) : Prop :=
  True

def Pre_Ffn1BwdRefIdeal_finite_ffn1 [hPre_finite_ffn1 : Cert.Pre_finite_ffn1.Facts] (m : (ℓ : Loc Cert.Ffn1BwdRefIdeal.nD Cert.Ffn1BwdRefIdeal.τ Cert.Ffn1BwdRefIdeal.sig) → Buf (Elt Ideal) ℓ) : Prop :=
  ∀ c : Dev Cert.Ffn1BwdRefIdeal.nD,
    (Cert.Pre_finite_ffn1.fn (F := Ideal) (m ((c.tc : Thread Cert.Ffn1BwdRefIdeal.nD Cert.Ffn1BwdRefIdeal.τ).loc Cert.Ffn1BwdRefIdeal.main_arg0)) (m ((c.tc : Thread Cert.Ffn1BwdRefIdeal.nD Cert.Ffn1BwdRefIdeal.τ).loc Cert.Ffn1BwdRefIdeal.main_arg1)) (m ((c.tc : Thread Cert.Ffn1BwdRefIdeal.nD Cert.Ffn1BwdRefIdeal.τ).loc Cert.Ffn1BwdRefIdeal.main_arg2)) (m ((c.tc : Thread Cert.Ffn1BwdRefIdeal.nD Cert.Ffn1BwdRefIdeal.τ).loc Cert.Ffn1BwdRefIdeal.main_arg3)) (m ((c.tc : Thread Cert.Ffn1BwdRefIdeal.nD Cert.Ffn1BwdRefIdeal.τ).loc Cert.Ffn1BwdRefIdeal.main_arg4))).1 = (fun _ => 1#1)
    ∧ (Cert.Pre_finite_ffn1.fn (F := Ideal) (m ((c.tc : Thread Cert.Ffn1BwdRefIdeal.nD Cert.Ffn1BwdRefIdeal.τ).loc Cert.Ffn1BwdRefIdeal.main_arg0)) (m ((c.tc : Thread Cert.Ffn1BwdRefIdeal.nD Cert.Ffn1BwdRefIdeal.τ).loc Cert.Ffn1BwdRefIdeal.main_arg1)) (m ((c.tc : Thread Cert.Ffn1BwdRefIdeal.nD Cert.Ffn1BwdRefIdeal.τ).loc Cert.Ffn1BwdRefIdeal.main_arg2)) (m ((c.tc : Thread Cert.Ffn1BwdRefIdeal.nD Cert.Ffn1BwdRefIdeal.τ).loc Cert.Ffn1BwdRefIdeal.main_arg3)) (m ((c.tc : Thread Cert.Ffn1BwdRefIdeal.nD Cert.Ffn1BwdRefIdeal.τ).loc Cert.Ffn1BwdRefIdeal.main_arg4))).2.1 = (fun _ => 1#1)
    ∧ (Cert.Pre_finite_ffn1.fn (F := Ideal) (m ((c.tc : Thread Cert.Ffn1BwdRefIdeal.nD Cert.Ffn1BwdRefIdeal.τ).loc Cert.Ffn1BwdRefIdeal.main_arg0)) (m ((c.tc : Thread Cert.Ffn1BwdRefIdeal.nD Cert.Ffn1BwdRefIdeal.τ).loc Cert.Ffn1BwdRefIdeal.main_arg1)) (m ((c.tc : Thread Cert.Ffn1BwdRefIdeal.nD Cert.Ffn1BwdRefIdeal.τ).loc Cert.Ffn1BwdRefIdeal.main_arg2)) (m ((c.tc : Thread Cert.Ffn1BwdRefIdeal.nD Cert.Ffn1BwdRefIdeal.τ).loc Cert.Ffn1BwdRefIdeal.main_arg3)) (m ((c.tc : Thread Cert.Ffn1BwdRefIdeal.nD Cert.Ffn1BwdRefIdeal.τ).loc Cert.Ffn1BwdRefIdeal.main_arg4))).2.2.1 = (fun _ => 1#1)
    ∧ (Cert.Pre_finite_ffn1.fn (F := Ideal) (m ((c.tc : Thread Cert.Ffn1BwdRefIdeal.nD Cert.Ffn1BwdRefIdeal.τ).loc Cert.Ffn1BwdRefIdeal.main_arg0)) (m ((c.tc : Thread Cert.Ffn1BwdRefIdeal.nD Cert.Ffn1BwdRefIdeal.τ).loc Cert.Ffn1BwdRefIdeal.main_arg1)) (m ((c.tc : Thread Cert.Ffn1BwdRefIdeal.nD Cert.Ffn1BwdRefIdeal.τ).loc Cert.Ffn1BwdRefIdeal.main_arg2)) (m ((c.tc : Thread Cert.Ffn1BwdRefIdeal.nD Cert.Ffn1BwdRefIdeal.τ).loc Cert.Ffn1BwdRefIdeal.main_arg3)) (m ((c.tc : Thread Cert.Ffn1BwdRefIdeal.nD Cert.Ffn1BwdRefIdeal.τ).loc Cert.Ffn1BwdRefIdeal.main_arg4))).2.2.2 = (fun _ => 1#1)

def Pre_Ffn2Bwd (m : (ℓ : Loc Cert.Ffn2Bwd.nD Cert.Ffn2Bwd.τ Cert.Ffn2Bwd.sig) → Buf (Elt Bits) ℓ) : Prop :=
  True

def Pre_Ffn2BwdIdeal (m : (ℓ : Loc Cert.Ffn2BwdIdeal.nD Cert.Ffn2BwdIdeal.τ Cert.Ffn2BwdIdeal.sig) → Buf (Elt Ideal) ℓ) : Prop :=
  True

def Pre_Ffn2BwdIdeal_finite_ffn2 [hPre_finite_ffn2 : Cert.Pre_finite_ffn2.Facts] (m : (ℓ : Loc Cert.Ffn2BwdIdeal.nD Cert.Ffn2BwdIdeal.τ Cert.Ffn2BwdIdeal.sig) → Buf (Elt Ideal) ℓ) : Prop :=
  ∀ c : Dev Cert.Ffn2BwdIdeal.nD,
    (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4)) (m ((c.tc : Thread Cert.Ffn2BwdIdeal.nD Cert.Ffn2BwdIdeal.τ).loc Cert.Ffn2BwdIdeal.main_arg5))).1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4)) (m ((c.tc : Thread Cert.Ffn2BwdIdeal.nD Cert.Ffn2BwdIdeal.τ).loc Cert.Ffn2BwdIdeal.main_arg5))).2.1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4)) (m ((c.tc : Thread Cert.Ffn2BwdIdeal.nD Cert.Ffn2BwdIdeal.τ).loc Cert.Ffn2BwdIdeal.main_arg5))).2.2.1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4)) (m ((c.tc : Thread Cert.Ffn2BwdIdeal.nD Cert.Ffn2BwdIdeal.τ).loc Cert.Ffn2BwdIdeal.main_arg5))).2.2.2.1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4)) (m ((c.tc : Thread Cert.Ffn2BwdIdeal.nD Cert.Ffn2BwdIdeal.τ).loc Cert.Ffn2BwdIdeal.main_arg5))).2.2.2.2 = (fun _ => 1#1)

def Pre_Ffn2BwdRefIdeal (m : (ℓ : Loc Cert.Ffn2BwdRefIdeal.nD Cert.Ffn2BwdRefIdeal.τ Cert.Ffn2BwdRefIdeal.sig) → Buf (Elt Ideal) ℓ) : Prop :=
  True

def Pre_Ffn2BwdRefIdeal_finite_ffn2 [hPre_finite_ffn2 : Cert.Pre_finite_ffn2.Facts] (m : (ℓ : Loc Cert.Ffn2BwdRefIdeal.nD Cert.Ffn2BwdRefIdeal.τ Cert.Ffn2BwdRefIdeal.sig) → Buf (Elt Ideal) ℓ) : Prop :=
  ∀ c : Dev Cert.Ffn2BwdRefIdeal.nD,
    (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4)) (m ((c.tc : Thread Cert.Ffn2BwdRefIdeal.nD Cert.Ffn2BwdRefIdeal.τ).loc Cert.Ffn2BwdRefIdeal.main_arg5))).1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4)) (m ((c.tc : Thread Cert.Ffn2BwdRefIdeal.nD Cert.Ffn2BwdRefIdeal.τ).loc Cert.Ffn2BwdRefIdeal.main_arg5))).2.1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4)) (m ((c.tc : Thread Cert.Ffn2BwdRefIdeal.nD Cert.Ffn2BwdRefIdeal.τ).loc Cert.Ffn2BwdRefIdeal.main_arg5))).2.2.1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4)) (m ((c.tc : Thread Cert.Ffn2BwdRefIdeal.nD Cert.Ffn2BwdRefIdeal.τ).loc Cert.Ffn2BwdRefIdeal.main_arg5))).2.2.2.1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4)) (m ((c.tc : Thread Cert.Ffn2BwdRefIdeal.nD Cert.Ffn2BwdRefIdeal.τ).loc Cert.Ffn2BwdRefIdeal.main_arg5))).2.2.2.2 = (fun _ => 1#1)

def Pre_Ffn1Fwd (m : (ℓ : Loc Cert.Ffn1Fwd.nD Cert.Ffn1Fwd.τ Cert.Ffn1Fwd.sig) → Buf (Elt Bits) ℓ) : Prop :=
  True

def Pre_Ffn1FwdIdeal (m : (ℓ : Loc Cert.Ffn1FwdIdeal.nD Cert.Ffn1FwdIdeal.τ Cert.Ffn1FwdIdeal.sig) → Buf (Elt Ideal) ℓ) : Prop :=
  True

def Pre_Ffn1FwdRefIdeal (m : (ℓ : Loc Cert.Ffn1FwdRefIdeal.nD Cert.Ffn1FwdRefIdeal.τ Cert.Ffn1FwdRefIdeal.sig) → Buf (Elt Ideal) ℓ) : Prop :=
  True

def Pre_Ffn2Fwd (m : (ℓ : Loc Cert.Ffn2Fwd.nD Cert.Ffn2Fwd.τ Cert.Ffn2Fwd.sig) → Buf (Elt Bits) ℓ) : Prop :=
  True

def Pre_Ffn2FwdIdeal (m : (ℓ : Loc Cert.Ffn2FwdIdeal.nD Cert.Ffn2FwdIdeal.τ Cert.Ffn2FwdIdeal.sig) → Buf (Elt Ideal) ℓ) : Prop :=
  True

def Pre_Ffn2FwdRefIdeal (m : (ℓ : Loc Cert.Ffn2FwdRefIdeal.nD Cert.Ffn2FwdRefIdeal.τ Cert.Ffn2FwdRefIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_OutProjFwd (m : (ℓ : Loc Cert.OutProjFwd.nD Cert.OutProjFwd.τ Cert.OutProjFwd.sig) → Buf (Elt Bits) ℓ) : Prop :=
  True

def Pre_OutProjFwdIdeal (m : (ℓ : Loc Cert.OutProjFwdIdeal.nD Cert.OutProjFwdIdeal.τ Cert.OutProjFwdIdeal.sig) → Buf (Elt Ideal) ℓ) : Prop :=
  True

def Pre_OutProjFwdRefIdeal (m : (ℓ : Loc Cert.OutProjFwdRefIdeal.nD Cert.OutProjFwdRefIdeal.τ Cert.OutProjFwdRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_Ffn1Bwd [hFfn1Bwd : Cert.Ffn1Bwd.Facts] : Prop :=
  ∀ (m : (ℓ : Loc Cert.Ffn1Bwd.nD Cert.Ffn1Bwd.τ Cert.Ffn1Bwd.sig) → Buf (Elt Bits) ℓ) (g : Dev Cert.Ffn1Bwd.nD → PrngReg), Pre_Ffn1Bwd m →
    θ_run (Cert.Ffn1Bwd.defs (F := Bits)) (onTc (τ := Cert.Ffn1Bwd.τ) (Cert.Ffn1Bwd.main (F := Bits))) ⟨m, fun _ => 0, g⟩ (fun r => (∀ c : Dev Cert.Ffn1Bwd.nD,
      r.2.mem ((c.tc : Thread Cert.Ffn1Bwd.nD Cert.Ffn1Bwd.τ).loc Cert.Ffn1Bwd.main_arg0) = m ((c.tc : Thread Cert.Ffn1Bwd.nD Cert.Ffn1Bwd.τ).loc Cert.Ffn1Bwd.main_arg0)
      ∧ r.2.mem ((c.tc : Thread Cert.Ffn1Bwd.nD Cert.Ffn1Bwd.τ).loc Cert.Ffn1Bwd.main_arg1) = m ((c.tc : Thread Cert.Ffn1Bwd.nD Cert.Ffn1Bwd.τ).loc Cert.Ffn1Bwd.main_arg1)
      ∧ r.2.mem ((c.tc : Thread Cert.Ffn1Bwd.nD Cert.Ffn1Bwd.τ).loc Cert.Ffn1Bwd.main_arg2) = m ((c.tc : Thread Cert.Ffn1Bwd.nD Cert.Ffn1Bwd.τ).loc Cert.Ffn1Bwd.main_arg2)
      ∧ r.2.mem ((c.tc : Thread Cert.Ffn1Bwd.nD Cert.Ffn1Bwd.τ).loc Cert.Ffn1Bwd.main_arg3) = m ((c.tc : Thread Cert.Ffn1Bwd.nD Cert.Ffn1Bwd.τ).loc Cert.Ffn1Bwd.main_arg3)
      ∧ r.2.mem ((c.tc : Thread Cert.Ffn1Bwd.nD Cert.Ffn1Bwd.τ).loc Cert.Ffn1Bwd.main_arg4) = m ((c.tc : Thread Cert.Ffn1Bwd.nD Cert.Ffn1Bwd.τ).loc Cert.Ffn1Bwd.main_arg4))
      ∧ r.2.sem = fun _ => 0)

def quiescent_Ffn1BwdIdeal [hFfn1BwdIdeal : Cert.Ffn1BwdIdeal.Facts] : Prop :=
  ∀ (m : (ℓ : Loc Cert.Ffn1BwdIdeal.nD Cert.Ffn1BwdIdeal.τ Cert.Ffn1BwdIdeal.sig) → Buf (Elt Ideal) ℓ) (g : Dev Cert.Ffn1BwdIdeal.nD → PrngReg), Pre_Ffn1BwdIdeal m →
    θ_run (Cert.Ffn1BwdIdeal.defs (F := Ideal)) (onTc (τ := Cert.Ffn1BwdIdeal.τ) (Cert.Ffn1BwdIdeal.main (F := Ideal))) ⟨m, fun _ => 0, g⟩ (fun r => (∀ c : Dev Cert.Ffn1BwdIdeal.nD,
      r.2.mem ((c.tc : Thread Cert.Ffn1BwdIdeal.nD Cert.Ffn1BwdIdeal.τ).loc Cert.Ffn1BwdIdeal.main_arg0) = m ((c.tc : Thread Cert.Ffn1BwdIdeal.nD Cert.Ffn1BwdIdeal.τ).loc Cert.Ffn1BwdIdeal.main_arg0)
      ∧ r.2.mem ((c.tc : Thread Cert.Ffn1BwdIdeal.nD Cert.Ffn1BwdIdeal.τ).loc Cert.Ffn1BwdIdeal.main_arg1) = m ((c.tc : Thread Cert.Ffn1BwdIdeal.nD Cert.Ffn1BwdIdeal.τ).loc Cert.Ffn1BwdIdeal.main_arg1)
      ∧ r.2.mem ((c.tc : Thread Cert.Ffn1BwdIdeal.nD Cert.Ffn1BwdIdeal.τ).loc Cert.Ffn1BwdIdeal.main_arg2) = m ((c.tc : Thread Cert.Ffn1BwdIdeal.nD Cert.Ffn1BwdIdeal.τ).loc Cert.Ffn1BwdIdeal.main_arg2)
      ∧ r.2.mem ((c.tc : Thread Cert.Ffn1BwdIdeal.nD Cert.Ffn1BwdIdeal.τ).loc Cert.Ffn1BwdIdeal.main_arg3) = m ((c.tc : Thread Cert.Ffn1BwdIdeal.nD Cert.Ffn1BwdIdeal.τ).loc Cert.Ffn1BwdIdeal.main_arg3)
      ∧ r.2.mem ((c.tc : Thread Cert.Ffn1BwdIdeal.nD Cert.Ffn1BwdIdeal.τ).loc Cert.Ffn1BwdIdeal.main_arg4) = m ((c.tc : Thread Cert.Ffn1BwdIdeal.nD Cert.Ffn1BwdIdeal.τ).loc Cert.Ffn1BwdIdeal.main_arg4))
      ∧ r.2.sem = fun _ => 0)

def quiescent_Ffn1BwdIdeal_pre_finite_ffn1 [hFfn1BwdIdeal : Cert.Ffn1BwdIdeal.Facts] [hPre_finite_ffn1 : Cert.Pre_finite_ffn1.Facts] : Prop :=
  ∀ (m : (ℓ : Loc Cert.Ffn1BwdIdeal.nD Cert.Ffn1BwdIdeal.τ Cert.Ffn1BwdIdeal.sig) → Buf (Elt Ideal) ℓ) (g : Dev Cert.Ffn1BwdIdeal.nD → PrngReg), Pre_Ffn1BwdIdeal_finite_ffn1 m →
    θ_run (Cert.Ffn1BwdIdeal.defs (F := Ideal)) (onTc (τ := Cert.Ffn1BwdIdeal.τ) (Cert.Ffn1BwdIdeal.main (F := Ideal))) ⟨m, fun _ => 0, g⟩ (fun r => (∀ c : Dev Cert.Ffn1BwdIdeal.nD,
      r.2.mem ((c.tc : Thread Cert.Ffn1BwdIdeal.nD Cert.Ffn1BwdIdeal.τ).loc Cert.Ffn1BwdIdeal.main_arg0) = m ((c.tc : Thread Cert.Ffn1BwdIdeal.nD Cert.Ffn1BwdIdeal.τ).loc Cert.Ffn1BwdIdeal.main_arg0)
      ∧ r.2.mem ((c.tc : Thread Cert.Ffn1BwdIdeal.nD Cert.Ffn1BwdIdeal.τ).loc Cert.Ffn1BwdIdeal.main_arg1) = m ((c.tc : Thread Cert.Ffn1BwdIdeal.nD Cert.Ffn1BwdIdeal.τ).loc Cert.Ffn1BwdIdeal.main_arg1)
      ∧ r.2.mem ((c.tc : Thread Cert.Ffn1BwdIdeal.nD Cert.Ffn1BwdIdeal.τ).loc Cert.Ffn1BwdIdeal.main_arg2) = m ((c.tc : Thread Cert.Ffn1BwdIdeal.nD Cert.Ffn1BwdIdeal.τ).loc Cert.Ffn1BwdIdeal.main_arg2)
      ∧ r.2.mem ((c.tc : Thread Cert.Ffn1BwdIdeal.nD Cert.Ffn1BwdIdeal.τ).loc Cert.Ffn1BwdIdeal.main_arg3) = m ((c.tc : Thread Cert.Ffn1BwdIdeal.nD Cert.Ffn1BwdIdeal.τ).loc Cert.Ffn1BwdIdeal.main_arg3)
      ∧ r.2.mem ((c.tc : Thread Cert.Ffn1BwdIdeal.nD Cert.Ffn1BwdIdeal.τ).loc Cert.Ffn1BwdIdeal.main_arg4) = m ((c.tc : Thread Cert.Ffn1BwdIdeal.nD Cert.Ffn1BwdIdeal.τ).loc Cert.Ffn1BwdIdeal.main_arg4))
      ∧ r.2.sem = fun _ => 0)

def quiescent_Ffn1BwdRefIdeal [hFfn1BwdRefIdeal : Cert.Ffn1BwdRefIdeal.Facts] : Prop :=
  ∀ (m : (ℓ : Loc Cert.Ffn1BwdRefIdeal.nD Cert.Ffn1BwdRefIdeal.τ Cert.Ffn1BwdRefIdeal.sig) → Buf (Elt Ideal) ℓ) (g : Dev Cert.Ffn1BwdRefIdeal.nD → PrngReg), Pre_Ffn1BwdRefIdeal m →
    θ_run (Cert.Ffn1BwdRefIdeal.defs (F := Ideal)) (onTc (τ := Cert.Ffn1BwdRefIdeal.τ) (Cert.Ffn1BwdRefIdeal.main (F := Ideal))) ⟨m, fun _ => 0, g⟩ (fun r => (∀ c : Dev Cert.Ffn1BwdRefIdeal.nD,
      r.2.mem ((c.tc : Thread Cert.Ffn1BwdRefIdeal.nD Cert.Ffn1BwdRefIdeal.τ).loc Cert.Ffn1BwdRefIdeal.main_arg0) = m ((c.tc : Thread Cert.Ffn1BwdRefIdeal.nD Cert.Ffn1BwdRefIdeal.τ).loc Cert.Ffn1BwdRefIdeal.main_arg0)
      ∧ r.2.mem ((c.tc : Thread Cert.Ffn1BwdRefIdeal.nD Cert.Ffn1BwdRefIdeal.τ).loc Cert.Ffn1BwdRefIdeal.main_arg1) = m ((c.tc : Thread Cert.Ffn1BwdRefIdeal.nD Cert.Ffn1BwdRefIdeal.τ).loc Cert.Ffn1BwdRefIdeal.main_arg1)
      ∧ r.2.mem ((c.tc : Thread Cert.Ffn1BwdRefIdeal.nD Cert.Ffn1BwdRefIdeal.τ).loc Cert.Ffn1BwdRefIdeal.main_arg2) = m ((c.tc : Thread Cert.Ffn1BwdRefIdeal.nD Cert.Ffn1BwdRefIdeal.τ).loc Cert.Ffn1BwdRefIdeal.main_arg2)
      ∧ r.2.mem ((c.tc : Thread Cert.Ffn1BwdRefIdeal.nD Cert.Ffn1BwdRefIdeal.τ).loc Cert.Ffn1BwdRefIdeal.main_arg3) = m ((c.tc : Thread Cert.Ffn1BwdRefIdeal.nD Cert.Ffn1BwdRefIdeal.τ).loc Cert.Ffn1BwdRefIdeal.main_arg3)
      ∧ r.2.mem ((c.tc : Thread Cert.Ffn1BwdRefIdeal.nD Cert.Ffn1BwdRefIdeal.τ).loc Cert.Ffn1BwdRefIdeal.main_arg4) = m ((c.tc : Thread Cert.Ffn1BwdRefIdeal.nD Cert.Ffn1BwdRefIdeal.τ).loc Cert.Ffn1BwdRefIdeal.main_arg4))
      ∧ r.2.sem = fun _ => 0)

def quiescent_Ffn1BwdRefIdeal_pre_finite_ffn1 [hFfn1BwdRefIdeal : Cert.Ffn1BwdRefIdeal.Facts] [hPre_finite_ffn1 : Cert.Pre_finite_ffn1.Facts] : Prop :=
  ∀ (m : (ℓ : Loc Cert.Ffn1BwdRefIdeal.nD Cert.Ffn1BwdRefIdeal.τ Cert.Ffn1BwdRefIdeal.sig) → Buf (Elt Ideal) ℓ) (g : Dev Cert.Ffn1BwdRefIdeal.nD → PrngReg), Pre_Ffn1BwdRefIdeal_finite_ffn1 m →
    θ_run (Cert.Ffn1BwdRefIdeal.defs (F := Ideal)) (onTc (τ := Cert.Ffn1BwdRefIdeal.τ) (Cert.Ffn1BwdRefIdeal.main (F := Ideal))) ⟨m, fun _ => 0, g⟩ (fun r => (∀ c : Dev Cert.Ffn1BwdRefIdeal.nD,
      r.2.mem ((c.tc : Thread Cert.Ffn1BwdRefIdeal.nD Cert.Ffn1BwdRefIdeal.τ).loc Cert.Ffn1BwdRefIdeal.main_arg0) = m ((c.tc : Thread Cert.Ffn1BwdRefIdeal.nD Cert.Ffn1BwdRefIdeal.τ).loc Cert.Ffn1BwdRefIdeal.main_arg0)
      ∧ r.2.mem ((c.tc : Thread Cert.Ffn1BwdRefIdeal.nD Cert.Ffn1BwdRefIdeal.τ).loc Cert.Ffn1BwdRefIdeal.main_arg1) = m ((c.tc : Thread Cert.Ffn1BwdRefIdeal.nD Cert.Ffn1BwdRefIdeal.τ).loc Cert.Ffn1BwdRefIdeal.main_arg1)
      ∧ r.2.mem ((c.tc : Thread Cert.Ffn1BwdRefIdeal.nD Cert.Ffn1BwdRefIdeal.τ).loc Cert.Ffn1BwdRefIdeal.main_arg2) = m ((c.tc : Thread Cert.Ffn1BwdRefIdeal.nD Cert.Ffn1BwdRefIdeal.τ).loc Cert.Ffn1BwdRefIdeal.main_arg2)
      ∧ r.2.mem ((c.tc : Thread Cert.Ffn1BwdRefIdeal.nD Cert.Ffn1BwdRefIdeal.τ).loc Cert.Ffn1BwdRefIdeal.main_arg3) = m ((c.tc : Thread Cert.Ffn1BwdRefIdeal.nD Cert.Ffn1BwdRefIdeal.τ).loc Cert.Ffn1BwdRefIdeal.main_arg3)
      ∧ r.2.mem ((c.tc : Thread Cert.Ffn1BwdRefIdeal.nD Cert.Ffn1BwdRefIdeal.τ).loc Cert.Ffn1BwdRefIdeal.main_arg4) = m ((c.tc : Thread Cert.Ffn1BwdRefIdeal.nD Cert.Ffn1BwdRefIdeal.τ).loc Cert.Ffn1BwdRefIdeal.main_arg4))
      ∧ r.2.sem = fun _ => 0)

def quiescent_Ffn2Bwd [hFfn2Bwd : Cert.Ffn2Bwd.Facts] : Prop :=
  ∀ (m : (ℓ : Loc Cert.Ffn2Bwd.nD Cert.Ffn2Bwd.τ Cert.Ffn2Bwd.sig) → Buf (Elt Bits) ℓ) (g : Dev Cert.Ffn2Bwd.nD → PrngReg), Pre_Ffn2Bwd m →
    θ_run (Cert.Ffn2Bwd.defs (F := Bits)) (onTc (τ := Cert.Ffn2Bwd.τ) (Cert.Ffn2Bwd.main (F := Bits))) ⟨m, fun _ => 0, g⟩ (fun r => (∀ c : Dev Cert.Ffn2Bwd.nD,
      r.2.mem ((c.tc : Thread Cert.Ffn2Bwd.nD Cert.Ffn2Bwd.τ).loc Cert.Ffn2Bwd.main_arg0) = m ((c.tc : Thread Cert.Ffn2Bwd.nD Cert.Ffn2Bwd.τ).loc Cert.Ffn2Bwd.main_arg0)
      ∧ r.2.mem ((c.tc : Thread Cert.Ffn2Bwd.nD Cert.Ffn2Bwd.τ).loc Cert.Ffn2Bwd.main_arg1) = m ((c.tc : Thread Cert.Ffn2Bwd.nD Cert.Ffn2Bwd.τ).loc Cert.Ffn2Bwd.main_arg1)
      ∧ r.2.mem ((c.tc : Thread Cert.Ffn2Bwd.nD Cert.Ffn2Bwd.τ).loc Cert.Ffn2Bwd.main_arg2) = m ((c.tc : Thread Cert.Ffn2Bwd.nD Cert.Ffn2Bwd.τ).loc Cert.Ffn2Bwd.main_arg2)
      ∧ r.2.mem ((c.tc : Thread Cert.Ffn2Bwd.nD Cert.Ffn2Bwd.τ).loc Cert.Ffn2Bwd.main_arg3) = m ((c.tc : Thread Cert.Ffn2Bwd.nD Cert.Ffn2Bwd.τ).loc Cert.Ffn2Bwd.main_arg3)
      ∧ r.2.mem ((c.tc : Thread Cert.Ffn2Bwd.nD Cert.Ffn2Bwd.τ).loc Cert.Ffn2Bwd.main_arg4) = m ((c.tc : Thread Cert.Ffn2Bwd.nD Cert.Ffn2Bwd.τ).loc Cert.Ffn2Bwd.main_arg4)
      ∧ r.2.mem ((c.tc : Thread Cert.Ffn2Bwd.nD Cert.Ffn2Bwd.τ).loc Cert.Ffn2Bwd.main_arg5) = m ((c.tc : Thread Cert.Ffn2Bwd.nD Cert.Ffn2Bwd.τ).loc Cert.Ffn2Bwd.main_arg5))
      ∧ r.2.sem = fun _ => 0)

def quiescent_Ffn2BwdIdeal [hFfn2BwdIdeal : Cert.Ffn2BwdIdeal.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg), Pre_Ffn2BwdIdeal m →
    θ_run (Cert.Ffn2BwdIdeal.defs (F := Ideal)) (onTc (τ := Cert.Ffn2BwdIdeal.τ) (Cert.Ffn2BwdIdeal.main (F := Ideal))) ⟨m, fun _ => 0, g⟩ (fun r => (∀ c : Dev Cert.Ffn2BwdIdeal.nD,
      r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
      ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
      ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
      ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
      ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4)
      ∧ r.2.mem ((c.tc : Thread Cert.Ffn2BwdIdeal.nD Cert.Ffn2BwdIdeal.τ).loc Cert.Ffn2BwdIdeal.main_arg5) = m ((c.tc : Thread Cert.Ffn2BwdIdeal.nD Cert.Ffn2BwdIdeal.τ).loc Cert.Ffn2BwdIdeal.main_arg5))
      ∧ r.2.sem = fun _ => 0)

def quiescent_Ffn2BwdIdeal_pre_finite_ffn2 [hFfn2BwdIdeal : Cert.Ffn2BwdIdeal.Facts] [hPre_finite_ffn2 : Cert.Pre_finite_ffn2.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg), Pre_Ffn2BwdIdeal_finite_ffn2 m →
    θ_run (Cert.Ffn2BwdIdeal.defs (F := Ideal)) (onTc (τ := Cert.Ffn2BwdIdeal.τ) (Cert.Ffn2BwdIdeal.main (F := Ideal))) ⟨m, fun _ => 0, g⟩ (fun r => (∀ c : Dev Cert.Ffn2BwdIdeal.nD,
      r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
      ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
      ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
      ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
      ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4)
      ∧ r.2.mem ((c.tc : Thread Cert.Ffn2BwdIdeal.nD Cert.Ffn2BwdIdeal.τ).loc Cert.Ffn2BwdIdeal.main_arg5) = m ((c.tc : Thread Cert.Ffn2BwdIdeal.nD Cert.Ffn2BwdIdeal.τ).loc Cert.Ffn2BwdIdeal.main_arg5))
      ∧ r.2.sem = fun _ => 0)

def quiescent_Ffn2BwdRefIdeal [hFfn2BwdRefIdeal : Cert.Ffn2BwdRefIdeal.Facts] : Prop :=
  ∀ (m : (ℓ : Loc Cert.Ffn2BwdRefIdeal.nD Cert.Ffn2BwdRefIdeal.τ Cert.Ffn2BwdRefIdeal.sig) → Buf (Elt Ideal) ℓ) (g : Dev Cert.Ffn2BwdRefIdeal.nD → PrngReg), Pre_Ffn2BwdRefIdeal m →
    θ_run (Cert.Ffn2BwdRefIdeal.defs (F := Ideal)) (onTc (τ := Cert.Ffn2BwdRefIdeal.τ) (Cert.Ffn2BwdRefIdeal.main (F := Ideal))) ⟨m, fun _ => 0, g⟩ (fun r => (∀ c : Dev Cert.Ffn2BwdRefIdeal.nD,
      r.2.mem ((c.tc : Thread Cert.Ffn2BwdRefIdeal.nD Cert.Ffn2BwdRefIdeal.τ).loc Cert.Ffn2BwdRefIdeal.main_arg0) = m ((c.tc : Thread Cert.Ffn2BwdRefIdeal.nD Cert.Ffn2BwdRefIdeal.τ).loc Cert.Ffn2BwdRefIdeal.main_arg0)
      ∧ r.2.mem ((c.tc : Thread Cert.Ffn2BwdRefIdeal.nD Cert.Ffn2BwdRefIdeal.τ).loc Cert.Ffn2BwdRefIdeal.main_arg1) = m ((c.tc : Thread Cert.Ffn2BwdRefIdeal.nD Cert.Ffn2BwdRefIdeal.τ).loc Cert.Ffn2BwdRefIdeal.main_arg1)
      ∧ r.2.mem ((c.tc : Thread Cert.Ffn2BwdRefIdeal.nD Cert.Ffn2BwdRefIdeal.τ).loc Cert.Ffn2BwdRefIdeal.main_arg2) = m ((c.tc : Thread Cert.Ffn2BwdRefIdeal.nD Cert.Ffn2BwdRefIdeal.τ).loc Cert.Ffn2BwdRefIdeal.main_arg2)
      ∧ r.2.mem ((c.tc : Thread Cert.Ffn2BwdRefIdeal.nD Cert.Ffn2BwdRefIdeal.τ).loc Cert.Ffn2BwdRefIdeal.main_arg3) = m ((c.tc : Thread Cert.Ffn2BwdRefIdeal.nD Cert.Ffn2BwdRefIdeal.τ).loc Cert.Ffn2BwdRefIdeal.main_arg3)
      ∧ r.2.mem ((c.tc : Thread Cert.Ffn2BwdRefIdeal.nD Cert.Ffn2BwdRefIdeal.τ).loc Cert.Ffn2BwdRefIdeal.main_arg4) = m ((c.tc : Thread Cert.Ffn2BwdRefIdeal.nD Cert.Ffn2BwdRefIdeal.τ).loc Cert.Ffn2BwdRefIdeal.main_arg4)
      ∧ r.2.mem ((c.tc : Thread Cert.Ffn2BwdRefIdeal.nD Cert.Ffn2BwdRefIdeal.τ).loc Cert.Ffn2BwdRefIdeal.main_arg5) = m ((c.tc : Thread Cert.Ffn2BwdRefIdeal.nD Cert.Ffn2BwdRefIdeal.τ).loc Cert.Ffn2BwdRefIdeal.main_arg5))
      ∧ r.2.sem = fun _ => 0)

def quiescent_Ffn2BwdRefIdeal_pre_finite_ffn2 [hFfn2BwdRefIdeal : Cert.Ffn2BwdRefIdeal.Facts] [hPre_finite_ffn2 : Cert.Pre_finite_ffn2.Facts] : Prop :=
  ∀ (m : (ℓ : Loc Cert.Ffn2BwdRefIdeal.nD Cert.Ffn2BwdRefIdeal.τ Cert.Ffn2BwdRefIdeal.sig) → Buf (Elt Ideal) ℓ) (g : Dev Cert.Ffn2BwdRefIdeal.nD → PrngReg), Pre_Ffn2BwdRefIdeal_finite_ffn2 m →
    θ_run (Cert.Ffn2BwdRefIdeal.defs (F := Ideal)) (onTc (τ := Cert.Ffn2BwdRefIdeal.τ) (Cert.Ffn2BwdRefIdeal.main (F := Ideal))) ⟨m, fun _ => 0, g⟩ (fun r => (∀ c : Dev Cert.Ffn2BwdRefIdeal.nD,
      r.2.mem ((c.tc : Thread Cert.Ffn2BwdRefIdeal.nD Cert.Ffn2BwdRefIdeal.τ).loc Cert.Ffn2BwdRefIdeal.main_arg0) = m ((c.tc : Thread Cert.Ffn2BwdRefIdeal.nD Cert.Ffn2BwdRefIdeal.τ).loc Cert.Ffn2BwdRefIdeal.main_arg0)
      ∧ r.2.mem ((c.tc : Thread Cert.Ffn2BwdRefIdeal.nD Cert.Ffn2BwdRefIdeal.τ).loc Cert.Ffn2BwdRefIdeal.main_arg1) = m ((c.tc : Thread Cert.Ffn2BwdRefIdeal.nD Cert.Ffn2BwdRefIdeal.τ).loc Cert.Ffn2BwdRefIdeal.main_arg1)
      ∧ r.2.mem ((c.tc : Thread Cert.Ffn2BwdRefIdeal.nD Cert.Ffn2BwdRefIdeal.τ).loc Cert.Ffn2BwdRefIdeal.main_arg2) = m ((c.tc : Thread Cert.Ffn2BwdRefIdeal.nD Cert.Ffn2BwdRefIdeal.τ).loc Cert.Ffn2BwdRefIdeal.main_arg2)
      ∧ r.2.mem ((c.tc : Thread Cert.Ffn2BwdRefIdeal.nD Cert.Ffn2BwdRefIdeal.τ).loc Cert.Ffn2BwdRefIdeal.main_arg3) = m ((c.tc : Thread Cert.Ffn2BwdRefIdeal.nD Cert.Ffn2BwdRefIdeal.τ).loc Cert.Ffn2BwdRefIdeal.main_arg3)
      ∧ r.2.mem ((c.tc : Thread Cert.Ffn2BwdRefIdeal.nD Cert.Ffn2BwdRefIdeal.τ).loc Cert.Ffn2BwdRefIdeal.main_arg4) = m ((c.tc : Thread Cert.Ffn2BwdRefIdeal.nD Cert.Ffn2BwdRefIdeal.τ).loc Cert.Ffn2BwdRefIdeal.main_arg4)
      ∧ r.2.mem ((c.tc : Thread Cert.Ffn2BwdRefIdeal.nD Cert.Ffn2BwdRefIdeal.τ).loc Cert.Ffn2BwdRefIdeal.main_arg5) = m ((c.tc : Thread Cert.Ffn2BwdRefIdeal.nD Cert.Ffn2BwdRefIdeal.τ).loc Cert.Ffn2BwdRefIdeal.main_arg5))
      ∧ r.2.sem = fun _ => 0)

def quiescent_Ffn1Fwd [hFfn1Fwd : Cert.Ffn1Fwd.Facts] : Prop :=
  ∀ (m : (ℓ : Loc Cert.Ffn1Fwd.nD Cert.Ffn1Fwd.τ Cert.Ffn1Fwd.sig) → Buf (Elt Bits) ℓ) (g : Dev Cert.Ffn1Fwd.nD → PrngReg), Pre_Ffn1Fwd m →
    θ_run (Cert.Ffn1Fwd.defs (F := Bits)) (onTc (τ := Cert.Ffn1Fwd.τ) (Cert.Ffn1Fwd.main (F := Bits))) ⟨m, fun _ => 0, g⟩ (fun r => (∀ c : Dev Cert.Ffn1Fwd.nD,
      r.2.mem ((c.tc : Thread Cert.Ffn1Fwd.nD Cert.Ffn1Fwd.τ).loc Cert.Ffn1Fwd.main_arg0) = m ((c.tc : Thread Cert.Ffn1Fwd.nD Cert.Ffn1Fwd.τ).loc Cert.Ffn1Fwd.main_arg0)
      ∧ r.2.mem ((c.tc : Thread Cert.Ffn1Fwd.nD Cert.Ffn1Fwd.τ).loc Cert.Ffn1Fwd.main_arg1) = m ((c.tc : Thread Cert.Ffn1Fwd.nD Cert.Ffn1Fwd.τ).loc Cert.Ffn1Fwd.main_arg1)
      ∧ r.2.mem ((c.tc : Thread Cert.Ffn1Fwd.nD Cert.Ffn1Fwd.τ).loc Cert.Ffn1Fwd.main_arg2) = m ((c.tc : Thread Cert.Ffn1Fwd.nD Cert.Ffn1Fwd.τ).loc Cert.Ffn1Fwd.main_arg2)
      ∧ r.2.mem ((c.tc : Thread Cert.Ffn1Fwd.nD Cert.Ffn1Fwd.τ).loc Cert.Ffn1Fwd.main_arg3) = m ((c.tc : Thread Cert.Ffn1Fwd.nD Cert.Ffn1Fwd.τ).loc Cert.Ffn1Fwd.main_arg3)
      ∧ r.2.mem ((c.tc : Thread Cert.Ffn1Fwd.nD Cert.Ffn1Fwd.τ).loc Cert.Ffn1Fwd.main_arg4) = m ((c.tc : Thread Cert.Ffn1Fwd.nD Cert.Ffn1Fwd.τ).loc Cert.Ffn1Fwd.main_arg4)
      ∧ r.2.mem ((c.tc : Thread Cert.Ffn1Fwd.nD Cert.Ffn1Fwd.τ).loc Cert.Ffn1Fwd.main_arg5) = m ((c.tc : Thread Cert.Ffn1Fwd.nD Cert.Ffn1Fwd.τ).loc Cert.Ffn1Fwd.main_arg5))
      ∧ r.2.sem = fun _ => 0)

def quiescent_Ffn1FwdIdeal [hFfn1FwdIdeal : Cert.Ffn1FwdIdeal.Facts] : Prop :=
  ∀ (m : (ℓ : Loc Cert.Ffn1FwdIdeal.nD Cert.Ffn1FwdIdeal.τ Cert.Ffn1FwdIdeal.sig) → Buf (Elt Ideal) ℓ) (g : Dev Cert.Ffn1FwdIdeal.nD → PrngReg), Pre_Ffn1FwdIdeal m →
    θ_run (Cert.Ffn1FwdIdeal.defs (F := Ideal)) (onTc (τ := Cert.Ffn1FwdIdeal.τ) (Cert.Ffn1FwdIdeal.main (F := Ideal))) ⟨m, fun _ => 0, g⟩ (fun r => (∀ c : Dev Cert.Ffn1FwdIdeal.nD,
      r.2.mem ((c.tc : Thread Cert.Ffn1FwdIdeal.nD Cert.Ffn1FwdIdeal.τ).loc Cert.Ffn1FwdIdeal.main_arg0) = m ((c.tc : Thread Cert.Ffn1FwdIdeal.nD Cert.Ffn1FwdIdeal.τ).loc Cert.Ffn1FwdIdeal.main_arg0)
      ∧ r.2.mem ((c.tc : Thread Cert.Ffn1FwdIdeal.nD Cert.Ffn1FwdIdeal.τ).loc Cert.Ffn1FwdIdeal.main_arg1) = m ((c.tc : Thread Cert.Ffn1FwdIdeal.nD Cert.Ffn1FwdIdeal.τ).loc Cert.Ffn1FwdIdeal.main_arg1)
      ∧ r.2.mem ((c.tc : Thread Cert.Ffn1FwdIdeal.nD Cert.Ffn1FwdIdeal.τ).loc Cert.Ffn1FwdIdeal.main_arg2) = m ((c.tc : Thread Cert.Ffn1FwdIdeal.nD Cert.Ffn1FwdIdeal.τ).loc Cert.Ffn1FwdIdeal.main_arg2)
      ∧ r.2.mem ((c.tc : Thread Cert.Ffn1FwdIdeal.nD Cert.Ffn1FwdIdeal.τ).loc Cert.Ffn1FwdIdeal.main_arg3) = m ((c.tc : Thread Cert.Ffn1FwdIdeal.nD Cert.Ffn1FwdIdeal.τ).loc Cert.Ffn1FwdIdeal.main_arg3)
      ∧ r.2.mem ((c.tc : Thread Cert.Ffn1FwdIdeal.nD Cert.Ffn1FwdIdeal.τ).loc Cert.Ffn1FwdIdeal.main_arg4) = m ((c.tc : Thread Cert.Ffn1FwdIdeal.nD Cert.Ffn1FwdIdeal.τ).loc Cert.Ffn1FwdIdeal.main_arg4)
      ∧ r.2.mem ((c.tc : Thread Cert.Ffn1FwdIdeal.nD Cert.Ffn1FwdIdeal.τ).loc Cert.Ffn1FwdIdeal.main_arg5) = m ((c.tc : Thread Cert.Ffn1FwdIdeal.nD Cert.Ffn1FwdIdeal.τ).loc Cert.Ffn1FwdIdeal.main_arg5))
      ∧ r.2.sem = fun _ => 0)

def quiescent_Ffn1FwdRefIdeal [hFfn1FwdRefIdeal : Cert.Ffn1FwdRefIdeal.Facts] : Prop :=
  ∀ (m : (ℓ : Loc Cert.Ffn1FwdRefIdeal.nD Cert.Ffn1FwdRefIdeal.τ Cert.Ffn1FwdRefIdeal.sig) → Buf (Elt Ideal) ℓ) (g : Dev Cert.Ffn1FwdRefIdeal.nD → PrngReg), Pre_Ffn1FwdRefIdeal m →
    θ_run (Cert.Ffn1FwdRefIdeal.defs (F := Ideal)) (onTc (τ := Cert.Ffn1FwdRefIdeal.τ) (Cert.Ffn1FwdRefIdeal.main (F := Ideal))) ⟨m, fun _ => 0, g⟩ (fun r => (∀ c : Dev Cert.Ffn1FwdRefIdeal.nD,
      r.2.mem ((c.tc : Thread Cert.Ffn1FwdRefIdeal.nD Cert.Ffn1FwdRefIdeal.τ).loc Cert.Ffn1FwdRefIdeal.main_arg0) = m ((c.tc : Thread Cert.Ffn1FwdRefIdeal.nD Cert.Ffn1FwdRefIdeal.τ).loc Cert.Ffn1FwdRefIdeal.main_arg0)
      ∧ r.2.mem ((c.tc : Thread Cert.Ffn1FwdRefIdeal.nD Cert.Ffn1FwdRefIdeal.τ).loc Cert.Ffn1FwdRefIdeal.main_arg1) = m ((c.tc : Thread Cert.Ffn1FwdRefIdeal.nD Cert.Ffn1FwdRefIdeal.τ).loc Cert.Ffn1FwdRefIdeal.main_arg1)
      ∧ r.2.mem ((c.tc : Thread Cert.Ffn1FwdRefIdeal.nD Cert.Ffn1FwdRefIdeal.τ).loc Cert.Ffn1FwdRefIdeal.main_arg2) = m ((c.tc : Thread Cert.Ffn1FwdRefIdeal.nD Cert.Ffn1FwdRefIdeal.τ).loc Cert.Ffn1FwdRefIdeal.main_arg2)
      ∧ r.2.mem ((c.tc : Thread Cert.Ffn1FwdRefIdeal.nD Cert.Ffn1FwdRefIdeal.τ).loc Cert.Ffn1FwdRefIdeal.main_arg3) = m ((c.tc : Thread Cert.Ffn1FwdRefIdeal.nD Cert.Ffn1FwdRefIdeal.τ).loc Cert.Ffn1FwdRefIdeal.main_arg3)
      ∧ r.2.mem ((c.tc : Thread Cert.Ffn1FwdRefIdeal.nD Cert.Ffn1FwdRefIdeal.τ).loc Cert.Ffn1FwdRefIdeal.main_arg4) = m ((c.tc : Thread Cert.Ffn1FwdRefIdeal.nD Cert.Ffn1FwdRefIdeal.τ).loc Cert.Ffn1FwdRefIdeal.main_arg4)
      ∧ r.2.mem ((c.tc : Thread Cert.Ffn1FwdRefIdeal.nD Cert.Ffn1FwdRefIdeal.τ).loc Cert.Ffn1FwdRefIdeal.main_arg5) = m ((c.tc : Thread Cert.Ffn1FwdRefIdeal.nD Cert.Ffn1FwdRefIdeal.τ).loc Cert.Ffn1FwdRefIdeal.main_arg5))
      ∧ r.2.sem = fun _ => 0)

def quiescent_Ffn2Fwd [hFfn2Fwd : Cert.Ffn2Fwd.Facts] : Prop :=
  ∀ (m : (ℓ : Loc Cert.Ffn2Fwd.nD Cert.Ffn2Fwd.τ Cert.Ffn2Fwd.sig) → Buf (Elt Bits) ℓ) (g : Dev Cert.Ffn2Fwd.nD → PrngReg), Pre_Ffn2Fwd m →
    θ_run (Cert.Ffn2Fwd.defs (F := Bits)) (onTc (τ := Cert.Ffn2Fwd.τ) (Cert.Ffn2Fwd.main (F := Bits))) ⟨m, fun _ => 0, g⟩ (fun r => (∀ c : Dev Cert.Ffn2Fwd.nD,
      r.2.mem ((c.tc : Thread Cert.Ffn2Fwd.nD Cert.Ffn2Fwd.τ).loc Cert.Ffn2Fwd.main_arg0) = m ((c.tc : Thread Cert.Ffn2Fwd.nD Cert.Ffn2Fwd.τ).loc Cert.Ffn2Fwd.main_arg0)
      ∧ r.2.mem ((c.tc : Thread Cert.Ffn2Fwd.nD Cert.Ffn2Fwd.τ).loc Cert.Ffn2Fwd.main_arg1) = m ((c.tc : Thread Cert.Ffn2Fwd.nD Cert.Ffn2Fwd.τ).loc Cert.Ffn2Fwd.main_arg1)
      ∧ r.2.mem ((c.tc : Thread Cert.Ffn2Fwd.nD Cert.Ffn2Fwd.τ).loc Cert.Ffn2Fwd.main_arg2) = m ((c.tc : Thread Cert.Ffn2Fwd.nD Cert.Ffn2Fwd.τ).loc Cert.Ffn2Fwd.main_arg2)
      ∧ r.2.mem ((c.tc : Thread Cert.Ffn2Fwd.nD Cert.Ffn2Fwd.τ).loc Cert.Ffn2Fwd.main_arg3) = m ((c.tc : Thread Cert.Ffn2Fwd.nD Cert.Ffn2Fwd.τ).loc Cert.Ffn2Fwd.main_arg3)
      ∧ r.2.mem ((c.tc : Thread Cert.Ffn2Fwd.nD Cert.Ffn2Fwd.τ).loc Cert.Ffn2Fwd.main_arg4) = m ((c.tc : Thread Cert.Ffn2Fwd.nD Cert.Ffn2Fwd.τ).loc Cert.Ffn2Fwd.main_arg4)
      ∧ r.2.mem ((c.tc : Thread Cert.Ffn2Fwd.nD Cert.Ffn2Fwd.τ).loc Cert.Ffn2Fwd.main_arg5) = m ((c.tc : Thread Cert.Ffn2Fwd.nD Cert.Ffn2Fwd.τ).loc Cert.Ffn2Fwd.main_arg5))
      ∧ r.2.sem = fun _ => 0)

def quiescent_Ffn2FwdIdeal [hFfn2FwdIdeal : Cert.Ffn2FwdIdeal.Facts] : Prop :=
  ∀ (m : (ℓ : Loc Cert.Ffn2FwdIdeal.nD Cert.Ffn2FwdIdeal.τ Cert.Ffn2FwdIdeal.sig) → Buf (Elt Ideal) ℓ) (g : Dev Cert.Ffn2FwdIdeal.nD → PrngReg), Pre_Ffn2FwdIdeal m →
    θ_run (Cert.Ffn2FwdIdeal.defs (F := Ideal)) (onTc (τ := Cert.Ffn2FwdIdeal.τ) (Cert.Ffn2FwdIdeal.main (F := Ideal))) ⟨m, fun _ => 0, g⟩ (fun r => (∀ c : Dev Cert.Ffn2FwdIdeal.nD,
      r.2.mem ((c.tc : Thread Cert.Ffn2FwdIdeal.nD Cert.Ffn2FwdIdeal.τ).loc Cert.Ffn2FwdIdeal.main_arg0) = m ((c.tc : Thread Cert.Ffn2FwdIdeal.nD Cert.Ffn2FwdIdeal.τ).loc Cert.Ffn2FwdIdeal.main_arg0)
      ∧ r.2.mem ((c.tc : Thread Cert.Ffn2FwdIdeal.nD Cert.Ffn2FwdIdeal.τ).loc Cert.Ffn2FwdIdeal.main_arg1) = m ((c.tc : Thread Cert.Ffn2FwdIdeal.nD Cert.Ffn2FwdIdeal.τ).loc Cert.Ffn2FwdIdeal.main_arg1)
      ∧ r.2.mem ((c.tc : Thread Cert.Ffn2FwdIdeal.nD Cert.Ffn2FwdIdeal.τ).loc Cert.Ffn2FwdIdeal.main_arg2) = m ((c.tc : Thread Cert.Ffn2FwdIdeal.nD Cert.Ffn2FwdIdeal.τ).loc Cert.Ffn2FwdIdeal.main_arg2)
      ∧ r.2.mem ((c.tc : Thread Cert.Ffn2FwdIdeal.nD Cert.Ffn2FwdIdeal.τ).loc Cert.Ffn2FwdIdeal.main_arg3) = m ((c.tc : Thread Cert.Ffn2FwdIdeal.nD Cert.Ffn2FwdIdeal.τ).loc Cert.Ffn2FwdIdeal.main_arg3)
      ∧ r.2.mem ((c.tc : Thread Cert.Ffn2FwdIdeal.nD Cert.Ffn2FwdIdeal.τ).loc Cert.Ffn2FwdIdeal.main_arg4) = m ((c.tc : Thread Cert.Ffn2FwdIdeal.nD Cert.Ffn2FwdIdeal.τ).loc Cert.Ffn2FwdIdeal.main_arg4)
      ∧ r.2.mem ((c.tc : Thread Cert.Ffn2FwdIdeal.nD Cert.Ffn2FwdIdeal.τ).loc Cert.Ffn2FwdIdeal.main_arg5) = m ((c.tc : Thread Cert.Ffn2FwdIdeal.nD Cert.Ffn2FwdIdeal.τ).loc Cert.Ffn2FwdIdeal.main_arg5))
      ∧ r.2.sem = fun _ => 0)

def quiescent_Ffn2FwdRefIdeal [hFfn2FwdRefIdeal : Cert.Ffn2FwdRefIdeal.Facts] : Prop :=
  ∀ (m : (ℓ : Loc Cert.Ffn2FwdRefIdeal.nD Cert.Ffn2FwdRefIdeal.τ Cert.Ffn2FwdRefIdeal.sig) → Buf (Elt Ideal) ℓ) (g : Dev Cert.Ffn2FwdRefIdeal.nD → PrngReg), Pre_Ffn2FwdRefIdeal m →
    θ_run (Cert.Ffn2FwdRefIdeal.defs (F := Ideal)) (onTc (τ := Cert.Ffn2FwdRefIdeal.τ) (Cert.Ffn2FwdRefIdeal.main (F := Ideal))) ⟨m, fun _ => 0, g⟩ (fun r => (∀ c : Dev Cert.Ffn2FwdRefIdeal.nD,
      r.2.mem ((c.tc : Thread Cert.Ffn2FwdRefIdeal.nD Cert.Ffn2FwdRefIdeal.τ).loc Cert.Ffn2FwdRefIdeal.main_arg0) = m ((c.tc : Thread Cert.Ffn2FwdRefIdeal.nD Cert.Ffn2FwdRefIdeal.τ).loc Cert.Ffn2FwdRefIdeal.main_arg0)
      ∧ r.2.mem ((c.tc : Thread Cert.Ffn2FwdRefIdeal.nD Cert.Ffn2FwdRefIdeal.τ).loc Cert.Ffn2FwdRefIdeal.main_arg1) = m ((c.tc : Thread Cert.Ffn2FwdRefIdeal.nD Cert.Ffn2FwdRefIdeal.τ).loc Cert.Ffn2FwdRefIdeal.main_arg1)
      ∧ r.2.mem ((c.tc : Thread Cert.Ffn2FwdRefIdeal.nD Cert.Ffn2FwdRefIdeal.τ).loc Cert.Ffn2FwdRefIdeal.main_arg2) = m ((c.tc : Thread Cert.Ffn2FwdRefIdeal.nD Cert.Ffn2FwdRefIdeal.τ).loc Cert.Ffn2FwdRefIdeal.main_arg2)
      ∧ r.2.mem ((c.tc : Thread Cert.Ffn2FwdRefIdeal.nD Cert.Ffn2FwdRefIdeal.τ).loc Cert.Ffn2FwdRefIdeal.main_arg3) = m ((c.tc : Thread Cert.Ffn2FwdRefIdeal.nD Cert.Ffn2FwdRefIdeal.τ).loc Cert.Ffn2FwdRefIdeal.main_arg3)
      ∧ r.2.mem ((c.tc : Thread Cert.Ffn2FwdRefIdeal.nD Cert.Ffn2FwdRefIdeal.τ).loc Cert.Ffn2FwdRefIdeal.main_arg4) = m ((c.tc : Thread Cert.Ffn2FwdRefIdeal.nD Cert.Ffn2FwdRefIdeal.τ).loc Cert.Ffn2FwdRefIdeal.main_arg4)
      ∧ r.2.mem ((c.tc : Thread Cert.Ffn2FwdRefIdeal.nD Cert.Ffn2FwdRefIdeal.τ).loc Cert.Ffn2FwdRefIdeal.main_arg5) = m ((c.tc : Thread Cert.Ffn2FwdRefIdeal.nD Cert.Ffn2FwdRefIdeal.τ).loc Cert.Ffn2FwdRefIdeal.main_arg5))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1)
      ∧ r.2.mem ((c.tc : Thread Cert.OutProjBwd.nD Cert.OutProjBwd.τ).loc Cert.OutProjBwd.main_arg2) = m ((c.tc : Thread Cert.OutProjBwd.nD Cert.OutProjBwd.τ).loc Cert.OutProjBwd.main_arg2))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1)
      ∧ r.2.mem ((c.tc : Thread Cert.OutProjBwdRefIdeal.nD Cert.OutProjBwdRefIdeal.τ).loc Cert.OutProjBwdRefIdeal.main_arg2) = m ((c.tc : Thread Cert.OutProjBwdRefIdeal.nD Cert.OutProjBwdRefIdeal.τ).loc Cert.OutProjBwdRefIdeal.main_arg2))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1))
      ∧ r.2.sem = fun _ => 0)

def quiescent_OutProjFwd [hOutProjFwd : Cert.OutProjFwd.Facts] : Prop :=
  ∀ (m : (ℓ : Loc Cert.OutProjFwd.nD Cert.OutProjFwd.τ Cert.OutProjFwd.sig) → Buf (Elt Bits) ℓ) (g : Dev Cert.OutProjFwd.nD → PrngReg), Pre_OutProjFwd m →
    θ_run (Cert.OutProjFwd.defs (F := Bits)) (onTc (τ := Cert.OutProjFwd.τ) (Cert.OutProjFwd.main (F := Bits))) ⟨m, fun _ => 0, g⟩ (fun r => (∀ c : Dev Cert.OutProjFwd.nD,
      r.2.mem ((c.tc : Thread Cert.OutProjFwd.nD Cert.OutProjFwd.τ).loc Cert.OutProjFwd.main_arg0) = m ((c.tc : Thread Cert.OutProjFwd.nD Cert.OutProjFwd.τ).loc Cert.OutProjFwd.main_arg0)
      ∧ r.2.mem ((c.tc : Thread Cert.OutProjFwd.nD Cert.OutProjFwd.τ).loc Cert.OutProjFwd.main_arg1) = m ((c.tc : Thread Cert.OutProjFwd.nD Cert.OutProjFwd.τ).loc Cert.OutProjFwd.main_arg1)
      ∧ r.2.mem ((c.tc : Thread Cert.OutProjFwd.nD Cert.OutProjFwd.τ).loc Cert.OutProjFwd.main_arg2) = m ((c.tc : Thread Cert.OutProjFwd.nD Cert.OutProjFwd.τ).loc Cert.OutProjFwd.main_arg2)
      ∧ r.2.mem ((c.tc : Thread Cert.OutProjFwd.nD Cert.OutProjFwd.τ).loc Cert.OutProjFwd.main_arg3) = m ((c.tc : Thread Cert.OutProjFwd.nD Cert.OutProjFwd.τ).loc Cert.OutProjFwd.main_arg3))
      ∧ r.2.sem = fun _ => 0)

def quiescent_OutProjFwdIdeal [hOutProjFwdIdeal : Cert.OutProjFwdIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg), Pre_OutProjFwdIdeal m →
    θ_run (Cert.OutProjFwdIdeal.defs (F := Ideal)) (onTc (τ := Cert.OutProjFwdIdeal.τ) (Cert.OutProjFwdIdeal.main (F := Ideal))) ⟨m, fun _ => 0, g⟩ (fun r => (∀ c : Dev Cert.OutProjFwdIdeal.nD,
      r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
      ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
      ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
      ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3))
      ∧ r.2.sem = fun _ => 0)

def quiescent_OutProjFwdRefIdeal [hOutProjFwdRefIdeal : Cert.OutProjFwdRefIdeal.Facts] : Prop :=
  ∀ (m : (ℓ : Loc Cert.OutProjFwdRefIdeal.nD Cert.OutProjFwdRefIdeal.τ Cert.OutProjFwdRefIdeal.sig) → Buf (Elt Ideal) ℓ) (g : Dev Cert.OutProjFwdRefIdeal.nD → PrngReg), Pre_OutProjFwdRefIdeal m →
    θ_run (Cert.OutProjFwdRefIdeal.defs (F := Ideal)) (onTc (τ := Cert.OutProjFwdRefIdeal.τ) (Cert.OutProjFwdRefIdeal.main (F := Ideal))) ⟨m, fun _ => 0, g⟩ (fun r => (∀ c : Dev Cert.OutProjFwdRefIdeal.nD,
      r.2.mem ((c.tc : Thread Cert.OutProjFwdRefIdeal.nD Cert.OutProjFwdRefIdeal.τ).loc Cert.OutProjFwdRefIdeal.main_arg0) = m ((c.tc : Thread Cert.OutProjFwdRefIdeal.nD Cert.OutProjFwdRefIdeal.τ).loc Cert.OutProjFwdRefIdeal.main_arg0)
      ∧ r.2.mem ((c.tc : Thread Cert.OutProjFwdRefIdeal.nD Cert.OutProjFwdRefIdeal.τ).loc Cert.OutProjFwdRefIdeal.main_arg1) = m ((c.tc : Thread Cert.OutProjFwdRefIdeal.nD Cert.OutProjFwdRefIdeal.τ).loc Cert.OutProjFwdRefIdeal.main_arg1)
      ∧ r.2.mem ((c.tc : Thread Cert.OutProjFwdRefIdeal.nD Cert.OutProjFwdRefIdeal.τ).loc Cert.OutProjFwdRefIdeal.main_arg2) = m ((c.tc : Thread Cert.OutProjFwdRefIdeal.nD Cert.OutProjFwdRefIdeal.τ).loc Cert.OutProjFwdRefIdeal.main_arg2)
      ∧ r.2.mem ((c.tc : Thread Cert.OutProjFwdRefIdeal.nD Cert.OutProjFwdRefIdeal.τ).loc Cert.OutProjFwdRefIdeal.main_arg3) = m ((c.tc : Thread Cert.OutProjFwdRefIdeal.nD Cert.OutProjFwdRefIdeal.τ).loc Cert.OutProjFwdRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3)
      ∧ r.2.mem ((c.tc : Thread Cert.AdamwSmall.nD Cert.AdamwSmall.τ).loc Cert.AdamwSmall.main_arg4) = m ((c.tc : Thread Cert.AdamwSmall.nD Cert.AdamwSmall.τ).loc Cert.AdamwSmall.main_arg4)
      ∧ r.2.mem ((c.tc : Thread Cert.AdamwSmall.nD Cert.AdamwSmall.τ).loc Cert.AdamwSmall.main_arg5) = m ((c.tc : Thread Cert.AdamwSmall.nD Cert.AdamwSmall.τ).loc Cert.AdamwSmall.main_arg5)
      ∧ r.2.mem ((c.tc : Thread Cert.AdamwSmall.nD Cert.AdamwSmall.τ).loc Cert.AdamwSmall.main_arg6) = m ((c.tc : Thread Cert.AdamwSmall.nD Cert.AdamwSmall.τ).loc Cert.AdamwSmall.main_arg6)
      ∧ r.2.mem ((c.tc : Thread Cert.AdamwSmall.nD Cert.AdamwSmall.τ).loc Cert.AdamwSmall.main_arg7) = m ((c.tc : Thread Cert.AdamwSmall.nD Cert.AdamwSmall.τ).loc Cert.AdamwSmall.main_arg7)
      ∧ r.2.mem ((c.tc : Thread Cert.AdamwSmall.nD Cert.AdamwSmall.τ).loc Cert.AdamwSmall.main_arg8) = m ((c.tc : Thread Cert.AdamwSmall.nD Cert.AdamwSmall.τ).loc Cert.AdamwSmall.main_arg8)
      ∧ r.2.mem ((c.tc : Thread Cert.AdamwSmall.nD Cert.AdamwSmall.τ).loc Cert.AdamwSmall.main_arg9) = m ((c.tc : Thread Cert.AdamwSmall.nD Cert.AdamwSmall.τ).loc Cert.AdamwSmall.main_arg9)
      ∧ r.2.mem ((c.tc : Thread Cert.AdamwSmall.nD Cert.AdamwSmall.τ).loc Cert.AdamwSmall.main_arg10) = m ((c.tc : Thread Cert.AdamwSmall.nD Cert.AdamwSmall.τ).loc Cert.AdamwSmall.main_arg10)
      ∧ r.2.mem ((c.tc : Thread Cert.AdamwSmall.nD Cert.AdamwSmall.τ).loc Cert.AdamwSmall.main_arg11) = m ((c.tc : Thread Cert.AdamwSmall.nD Cert.AdamwSmall.τ).loc Cert.AdamwSmall.main_arg11)
      ∧ r.2.mem ((c.tc : Thread Cert.AdamwSmall.nD Cert.AdamwSmall.τ).loc Cert.AdamwSmall.main_arg12) = m ((c.tc : Thread Cert.AdamwSmall.nD Cert.AdamwSmall.τ).loc Cert.AdamwSmall.main_arg12)
      ∧ r.2.mem ((c.tc : Thread Cert.AdamwSmall.nD Cert.AdamwSmall.τ).loc Cert.AdamwSmall.main_arg13) = m ((c.tc : Thread Cert.AdamwSmall.nD Cert.AdamwSmall.τ).loc Cert.AdamwSmall.main_arg13)
      ∧ r.2.mem ((c.tc : Thread Cert.AdamwSmall.nD Cert.AdamwSmall.τ).loc Cert.AdamwSmall.main_arg14) = m ((c.tc : Thread Cert.AdamwSmall.nD Cert.AdamwSmall.τ).loc Cert.AdamwSmall.main_arg14)
      ∧ r.2.mem ((c.tc : Thread Cert.AdamwSmall.nD Cert.AdamwSmall.τ).loc Cert.AdamwSmall.main_arg15) = m ((c.tc : Thread Cert.AdamwSmall.nD Cert.AdamwSmall.τ).loc Cert.AdamwSmall.main_arg15)
      ∧ r.2.mem ((c.tc : Thread Cert.AdamwSmall.nD Cert.AdamwSmall.τ).loc Cert.AdamwSmall.main_arg16) = m ((c.tc : Thread Cert.AdamwSmall.nD Cert.AdamwSmall.τ).loc Cert.AdamwSmall.main_arg16)
      ∧ r.2.mem ((c.tc : Thread Cert.AdamwSmall.nD Cert.AdamwSmall.τ).loc Cert.AdamwSmall.main_arg17) = m ((c.tc : Thread Cert.AdamwSmall.nD Cert.AdamwSmall.τ).loc Cert.AdamwSmall.main_arg17)
      ∧ r.2.mem ((c.tc : Thread Cert.AdamwSmall.nD Cert.AdamwSmall.τ).loc Cert.AdamwSmall.main_arg18) = m ((c.tc : Thread Cert.AdamwSmall.nD Cert.AdamwSmall.τ).loc Cert.AdamwSmall.main_arg18)
      ∧ r.2.mem ((c.tc : Thread Cert.AdamwSmall.nD Cert.AdamwSmall.τ).loc Cert.AdamwSmall.main_arg19) = m ((c.tc : Thread Cert.AdamwSmall.nD Cert.AdamwSmall.τ).loc Cert.AdamwSmall.main_arg19)
      ∧ r.2.mem ((c.tc : Thread Cert.AdamwSmall.nD Cert.AdamwSmall.τ).loc Cert.AdamwSmall.main_arg20) = m ((c.tc : Thread Cert.AdamwSmall.nD Cert.AdamwSmall.τ).loc Cert.AdamwSmall.main_arg20)
      ∧ r.2.mem ((c.tc : Thread Cert.AdamwSmall.nD Cert.AdamwSmall.τ).loc Cert.AdamwSmall.main_arg21) = m ((c.tc : Thread Cert.AdamwSmall.nD Cert.AdamwSmall.τ).loc Cert.AdamwSmall.main_arg21)
      ∧ r.2.mem ((c.tc : Thread Cert.AdamwSmall.nD Cert.AdamwSmall.τ).loc Cert.AdamwSmall.main_arg22) = m ((c.tc : Thread Cert.AdamwSmall.nD Cert.AdamwSmall.τ).loc Cert.AdamwSmall.main_arg22)
      ∧ r.2.mem ((c.tc : Thread Cert.AdamwSmall.nD Cert.AdamwSmall.τ).loc Cert.AdamwSmall.main_arg23) = m ((c.tc : Thread Cert.AdamwSmall.nD Cert.AdamwSmall.τ).loc Cert.AdamwSmall.main_arg23)
      ∧ r.2.mem ((c.tc : Thread Cert.AdamwSmall.nD Cert.AdamwSmall.τ).loc Cert.AdamwSmall.main_arg24) = m ((c.tc : Thread Cert.AdamwSmall.nD Cert.AdamwSmall.τ).loc Cert.AdamwSmall.main_arg24)
      ∧ r.2.mem ((c.tc : Thread Cert.AdamwSmall.nD Cert.AdamwSmall.τ).loc Cert.AdamwSmall.main_arg25) = m ((c.tc : Thread Cert.AdamwSmall.nD Cert.AdamwSmall.τ).loc Cert.AdamwSmall.main_arg25)
      ∧ r.2.mem ((c.tc : Thread Cert.AdamwSmall.nD Cert.AdamwSmall.τ).loc Cert.AdamwSmall.main_arg26) = m ((c.tc : Thread Cert.AdamwSmall.nD Cert.AdamwSmall.τ).loc Cert.AdamwSmall.main_arg26)
      ∧ r.2.mem ((c.tc : Thread Cert.AdamwSmall.nD Cert.AdamwSmall.τ).loc Cert.AdamwSmall.main_arg27) = m ((c.tc : Thread Cert.AdamwSmall.nD Cert.AdamwSmall.τ).loc Cert.AdamwSmall.main_arg27)
      ∧ r.2.mem ((c.tc : Thread Cert.AdamwSmall.nD Cert.AdamwSmall.τ).loc Cert.AdamwSmall.main_arg28) = m ((c.tc : Thread Cert.AdamwSmall.nD Cert.AdamwSmall.τ).loc Cert.AdamwSmall.main_arg28)
      ∧ r.2.mem ((c.tc : Thread Cert.AdamwSmall.nD Cert.AdamwSmall.τ).loc Cert.AdamwSmall.main_arg29) = m ((c.tc : Thread Cert.AdamwSmall.nD Cert.AdamwSmall.τ).loc Cert.AdamwSmall.main_arg29)
      ∧ r.2.mem ((c.tc : Thread Cert.AdamwSmall.nD Cert.AdamwSmall.τ).loc Cert.AdamwSmall.main_arg30) = m ((c.tc : Thread Cert.AdamwSmall.nD Cert.AdamwSmall.τ).loc Cert.AdamwSmall.main_arg30)
      ∧ r.2.mem ((c.tc : Thread Cert.AdamwSmall.nD Cert.AdamwSmall.τ).loc Cert.AdamwSmall.main_arg31) = m ((c.tc : Thread Cert.AdamwSmall.nD Cert.AdamwSmall.τ).loc Cert.AdamwSmall.main_arg31)
      ∧ r.2.mem ((c.tc : Thread Cert.AdamwSmall.nD Cert.AdamwSmall.τ).loc Cert.AdamwSmall.main_arg32) = m ((c.tc : Thread Cert.AdamwSmall.nD Cert.AdamwSmall.τ).loc Cert.AdamwSmall.main_arg32)
      ∧ r.2.mem ((c.tc : Thread Cert.AdamwSmall.nD Cert.AdamwSmall.τ).loc Cert.AdamwSmall.main_arg33) = m ((c.tc : Thread Cert.AdamwSmall.nD Cert.AdamwSmall.τ).loc Cert.AdamwSmall.main_arg33)
      ∧ r.2.mem ((c.tc : Thread Cert.AdamwSmall.nD Cert.AdamwSmall.τ).loc Cert.AdamwSmall.main_arg34) = m ((c.tc : Thread Cert.AdamwSmall.nD Cert.AdamwSmall.τ).loc Cert.AdamwSmall.main_arg34)
      ∧ r.2.mem ((c.tc : Thread Cert.AdamwSmall.nD Cert.AdamwSmall.τ).loc Cert.AdamwSmall.main_arg35) = m ((c.tc : Thread Cert.AdamwSmall.nD Cert.AdamwSmall.τ).loc Cert.AdamwSmall.main_arg35))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
      ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
      ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
      ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
      ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
      ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
      ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
      ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
      ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11)
      ∧ r.2.mem ((c.tc : Thread Cert.AdamwSmallIdeal.nD Cert.AdamwSmallIdeal.τ).loc Cert.AdamwSmallIdeal.main_arg12) = m ((c.tc : Thread Cert.AdamwSmallIdeal.nD Cert.AdamwSmallIdeal.τ).loc Cert.AdamwSmallIdeal.main_arg12)
      ∧ r.2.mem ((c.tc : Thread Cert.AdamwSmallIdeal.nD Cert.AdamwSmallIdeal.τ).loc Cert.AdamwSmallIdeal.main_arg13) = m ((c.tc : Thread Cert.AdamwSmallIdeal.nD Cert.AdamwSmallIdeal.τ).loc Cert.AdamwSmallIdeal.main_arg13)
      ∧ r.2.mem ((c.tc : Thread Cert.AdamwSmallIdeal.nD Cert.AdamwSmallIdeal.τ).loc Cert.AdamwSmallIdeal.main_arg14) = m ((c.tc : Thread Cert.AdamwSmallIdeal.nD Cert.AdamwSmallIdeal.τ).loc Cert.AdamwSmallIdeal.main_arg14)
      ∧ r.2.mem ((c.tc : Thread Cert.AdamwSmallIdeal.nD Cert.AdamwSmallIdeal.τ).loc Cert.AdamwSmallIdeal.main_arg15) = m ((c.tc : Thread Cert.AdamwSmallIdeal.nD Cert.AdamwSmallIdeal.τ).loc Cert.AdamwSmallIdeal.main_arg15)
      ∧ r.2.mem ((c.tc : Thread Cert.AdamwSmallIdeal.nD Cert.AdamwSmallIdeal.τ).loc Cert.AdamwSmallIdeal.main_arg16) = m ((c.tc : Thread Cert.AdamwSmallIdeal.nD Cert.AdamwSmallIdeal.τ).loc Cert.AdamwSmallIdeal.main_arg16)
      ∧ r.2.mem ((c.tc : Thread Cert.AdamwSmallIdeal.nD Cert.AdamwSmallIdeal.τ).loc Cert.AdamwSmallIdeal.main_arg17) = m ((c.tc : Thread Cert.AdamwSmallIdeal.nD Cert.AdamwSmallIdeal.τ).loc Cert.AdamwSmallIdeal.main_arg17)
      ∧ r.2.mem ((c.tc : Thread Cert.AdamwSmallIdeal.nD Cert.AdamwSmallIdeal.τ).loc Cert.AdamwSmallIdeal.main_arg18) = m ((c.tc : Thread Cert.AdamwSmallIdeal.nD Cert.AdamwSmallIdeal.τ).loc Cert.AdamwSmallIdeal.main_arg18)
      ∧ r.2.mem ((c.tc : Thread Cert.AdamwSmallIdeal.nD Cert.AdamwSmallIdeal.τ).loc Cert.AdamwSmallIdeal.main_arg19) = m ((c.tc : Thread Cert.AdamwSmallIdeal.nD Cert.AdamwSmallIdeal.τ).loc Cert.AdamwSmallIdeal.main_arg19)
      ∧ r.2.mem ((c.tc : Thread Cert.AdamwSmallIdeal.nD Cert.AdamwSmallIdeal.τ).loc Cert.AdamwSmallIdeal.main_arg20) = m ((c.tc : Thread Cert.AdamwSmallIdeal.nD Cert.AdamwSmallIdeal.τ).loc Cert.AdamwSmallIdeal.main_arg20)
      ∧ r.2.mem ((c.tc : Thread Cert.AdamwSmallIdeal.nD Cert.AdamwSmallIdeal.τ).loc Cert.AdamwSmallIdeal.main_arg21) = m ((c.tc : Thread Cert.AdamwSmallIdeal.nD Cert.AdamwSmallIdeal.τ).loc Cert.AdamwSmallIdeal.main_arg21)
      ∧ r.2.mem ((c.tc : Thread Cert.AdamwSmallIdeal.nD Cert.AdamwSmallIdeal.τ).loc Cert.AdamwSmallIdeal.main_arg22) = m ((c.tc : Thread Cert.AdamwSmallIdeal.nD Cert.AdamwSmallIdeal.τ).loc Cert.AdamwSmallIdeal.main_arg22)
      ∧ r.2.mem ((c.tc : Thread Cert.AdamwSmallIdeal.nD Cert.AdamwSmallIdeal.τ).loc Cert.AdamwSmallIdeal.main_arg23) = m ((c.tc : Thread Cert.AdamwSmallIdeal.nD Cert.AdamwSmallIdeal.τ).loc Cert.AdamwSmallIdeal.main_arg23)
      ∧ r.2.mem ((c.tc : Thread Cert.AdamwSmallIdeal.nD Cert.AdamwSmallIdeal.τ).loc Cert.AdamwSmallIdeal.main_arg24) = m ((c.tc : Thread Cert.AdamwSmallIdeal.nD Cert.AdamwSmallIdeal.τ).loc Cert.AdamwSmallIdeal.main_arg24)
      ∧ r.2.mem ((c.tc : Thread Cert.AdamwSmallIdeal.nD Cert.AdamwSmallIdeal.τ).loc Cert.AdamwSmallIdeal.main_arg25) = m ((c.tc : Thread Cert.AdamwSmallIdeal.nD Cert.AdamwSmallIdeal.τ).loc Cert.AdamwSmallIdeal.main_arg25)
      ∧ r.2.mem ((c.tc : Thread Cert.AdamwSmallIdeal.nD Cert.AdamwSmallIdeal.τ).loc Cert.AdamwSmallIdeal.main_arg26) = m ((c.tc : Thread Cert.AdamwSmallIdeal.nD Cert.AdamwSmallIdeal.τ).loc Cert.AdamwSmallIdeal.main_arg26)
      ∧ r.2.mem ((c.tc : Thread Cert.AdamwSmallIdeal.nD Cert.AdamwSmallIdeal.τ).loc Cert.AdamwSmallIdeal.main_arg27) = m ((c.tc : Thread Cert.AdamwSmallIdeal.nD Cert.AdamwSmallIdeal.τ).loc Cert.AdamwSmallIdeal.main_arg27)
      ∧ r.2.mem ((c.tc : Thread Cert.AdamwSmallIdeal.nD Cert.AdamwSmallIdeal.τ).loc Cert.AdamwSmallIdeal.main_arg28) = m ((c.tc : Thread Cert.AdamwSmallIdeal.nD Cert.AdamwSmallIdeal.τ).loc Cert.AdamwSmallIdeal.main_arg28)
      ∧ r.2.mem ((c.tc : Thread Cert.AdamwSmallIdeal.nD Cert.AdamwSmallIdeal.τ).loc Cert.AdamwSmallIdeal.main_arg29) = m ((c.tc : Thread Cert.AdamwSmallIdeal.nD Cert.AdamwSmallIdeal.τ).loc Cert.AdamwSmallIdeal.main_arg29)
      ∧ r.2.mem ((c.tc : Thread Cert.AdamwSmallIdeal.nD Cert.AdamwSmallIdeal.τ).loc Cert.AdamwSmallIdeal.main_arg30) = m ((c.tc : Thread Cert.AdamwSmallIdeal.nD Cert.AdamwSmallIdeal.τ).loc Cert.AdamwSmallIdeal.main_arg30)
      ∧ r.2.mem ((c.tc : Thread Cert.AdamwSmallIdeal.nD Cert.AdamwSmallIdeal.τ).loc Cert.AdamwSmallIdeal.main_arg31) = m ((c.tc : Thread Cert.AdamwSmallIdeal.nD Cert.AdamwSmallIdeal.τ).loc Cert.AdamwSmallIdeal.main_arg31)
      ∧ r.2.mem ((c.tc : Thread Cert.AdamwSmallIdeal.nD Cert.AdamwSmallIdeal.τ).loc Cert.AdamwSmallIdeal.main_arg32) = m ((c.tc : Thread Cert.AdamwSmallIdeal.nD Cert.AdamwSmallIdeal.τ).loc Cert.AdamwSmallIdeal.main_arg32)
      ∧ r.2.mem ((c.tc : Thread Cert.AdamwSmallIdeal.nD Cert.AdamwSmallIdeal.τ).loc Cert.AdamwSmallIdeal.main_arg33) = m ((c.tc : Thread Cert.AdamwSmallIdeal.nD Cert.AdamwSmallIdeal.τ).loc Cert.AdamwSmallIdeal.main_arg33)
      ∧ r.2.mem ((c.tc : Thread Cert.AdamwSmallIdeal.nD Cert.AdamwSmallIdeal.τ).loc Cert.AdamwSmallIdeal.main_arg34) = m ((c.tc : Thread Cert.AdamwSmallIdeal.nD Cert.AdamwSmallIdeal.τ).loc Cert.AdamwSmallIdeal.main_arg34)
      ∧ r.2.mem ((c.tc : Thread Cert.AdamwSmallIdeal.nD Cert.AdamwSmallIdeal.τ).loc Cert.AdamwSmallIdeal.main_arg35) = m ((c.tc : Thread Cert.AdamwSmallIdeal.nD Cert.AdamwSmallIdeal.τ).loc Cert.AdamwSmallIdeal.main_arg35))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3)
      ∧ r.2.mem ((c.tc : Thread Cert.AdamwSmallRefIdeal.nD Cert.AdamwSmallRefIdeal.τ).loc Cert.AdamwSmallRefIdeal.main_arg4) = m ((c.tc : Thread Cert.AdamwSmallRefIdeal.nD Cert.AdamwSmallRefIdeal.τ).loc Cert.AdamwSmallRefIdeal.main_arg4)
      ∧ r.2.mem ((c.tc : Thread Cert.AdamwSmallRefIdeal.nD Cert.AdamwSmallRefIdeal.τ).loc Cert.AdamwSmallRefIdeal.main_arg5) = m ((c.tc : Thread Cert.AdamwSmallRefIdeal.nD Cert.AdamwSmallRefIdeal.τ).loc Cert.AdamwSmallRefIdeal.main_arg5)
      ∧ r.2.mem ((c.tc : Thread Cert.AdamwSmallRefIdeal.nD Cert.AdamwSmallRefIdeal.τ).loc Cert.AdamwSmallRefIdeal.main_arg6) = m ((c.tc : Thread Cert.AdamwSmallRefIdeal.nD Cert.AdamwSmallRefIdeal.τ).loc Cert.AdamwSmallRefIdeal.main_arg6)
      ∧ r.2.mem ((c.tc : Thread Cert.AdamwSmallRefIdeal.nD Cert.AdamwSmallRefIdeal.τ).loc Cert.AdamwSmallRefIdeal.main_arg7) = m ((c.tc : Thread Cert.AdamwSmallRefIdeal.nD Cert.AdamwSmallRefIdeal.τ).loc Cert.AdamwSmallRefIdeal.main_arg7)
      ∧ r.2.mem ((c.tc : Thread Cert.AdamwSmallRefIdeal.nD Cert.AdamwSmallRefIdeal.τ).loc Cert.AdamwSmallRefIdeal.main_arg8) = m ((c.tc : Thread Cert.AdamwSmallRefIdeal.nD Cert.AdamwSmallRefIdeal.τ).loc Cert.AdamwSmallRefIdeal.main_arg8)
      ∧ r.2.mem ((c.tc : Thread Cert.AdamwSmallRefIdeal.nD Cert.AdamwSmallRefIdeal.τ).loc Cert.AdamwSmallRefIdeal.main_arg9) = m ((c.tc : Thread Cert.AdamwSmallRefIdeal.nD Cert.AdamwSmallRefIdeal.τ).loc Cert.AdamwSmallRefIdeal.main_arg9)
      ∧ r.2.mem ((c.tc : Thread Cert.AdamwSmallRefIdeal.nD Cert.AdamwSmallRefIdeal.τ).loc Cert.AdamwSmallRefIdeal.main_arg10) = m ((c.tc : Thread Cert.AdamwSmallRefIdeal.nD Cert.AdamwSmallRefIdeal.τ).loc Cert.AdamwSmallRefIdeal.main_arg10)
      ∧ r.2.mem ((c.tc : Thread Cert.AdamwSmallRefIdeal.nD Cert.AdamwSmallRefIdeal.τ).loc Cert.AdamwSmallRefIdeal.main_arg11) = m ((c.tc : Thread Cert.AdamwSmallRefIdeal.nD Cert.AdamwSmallRefIdeal.τ).loc Cert.AdamwSmallRefIdeal.main_arg11)
      ∧ r.2.mem ((c.tc : Thread Cert.AdamwSmallRefIdeal.nD Cert.AdamwSmallRefIdeal.τ).loc Cert.AdamwSmallRefIdeal.main_arg12) = m ((c.tc : Thread Cert.AdamwSmallRefIdeal.nD Cert.AdamwSmallRefIdeal.τ).loc Cert.AdamwSmallRefIdeal.main_arg12)
      ∧ r.2.mem ((c.tc : Thread Cert.AdamwSmallRefIdeal.nD Cert.AdamwSmallRefIdeal.τ).loc Cert.AdamwSmallRefIdeal.main_arg13) = m ((c.tc : Thread Cert.AdamwSmallRefIdeal.nD Cert.AdamwSmallRefIdeal.τ).loc Cert.AdamwSmallRefIdeal.main_arg13)
      ∧ r.2.mem ((c.tc : Thread Cert.AdamwSmallRefIdeal.nD Cert.AdamwSmallRefIdeal.τ).loc Cert.AdamwSmallRefIdeal.main_arg14) = m ((c.tc : Thread Cert.AdamwSmallRefIdeal.nD Cert.AdamwSmallRefIdeal.τ).loc Cert.AdamwSmallRefIdeal.main_arg14)
      ∧ r.2.mem ((c.tc : Thread Cert.AdamwSmallRefIdeal.nD Cert.AdamwSmallRefIdeal.τ).loc Cert.AdamwSmallRefIdeal.main_arg15) = m ((c.tc : Thread Cert.AdamwSmallRefIdeal.nD Cert.AdamwSmallRefIdeal.τ).loc Cert.AdamwSmallRefIdeal.main_arg15)
      ∧ r.2.mem ((c.tc : Thread Cert.AdamwSmallRefIdeal.nD Cert.AdamwSmallRefIdeal.τ).loc Cert.AdamwSmallRefIdeal.main_arg16) = m ((c.tc : Thread Cert.AdamwSmallRefIdeal.nD Cert.AdamwSmallRefIdeal.τ).loc Cert.AdamwSmallRefIdeal.main_arg16)
      ∧ r.2.mem ((c.tc : Thread Cert.AdamwSmallRefIdeal.nD Cert.AdamwSmallRefIdeal.τ).loc Cert.AdamwSmallRefIdeal.main_arg17) = m ((c.tc : Thread Cert.AdamwSmallRefIdeal.nD Cert.AdamwSmallRefIdeal.τ).loc Cert.AdamwSmallRefIdeal.main_arg17)
      ∧ r.2.mem ((c.tc : Thread Cert.AdamwSmallRefIdeal.nD Cert.AdamwSmallRefIdeal.τ).loc Cert.AdamwSmallRefIdeal.main_arg18) = m ((c.tc : Thread Cert.AdamwSmallRefIdeal.nD Cert.AdamwSmallRefIdeal.τ).loc Cert.AdamwSmallRefIdeal.main_arg18)
      ∧ r.2.mem ((c.tc : Thread Cert.AdamwSmallRefIdeal.nD Cert.AdamwSmallRefIdeal.τ).loc Cert.AdamwSmallRefIdeal.main_arg19) = m ((c.tc : Thread Cert.AdamwSmallRefIdeal.nD Cert.AdamwSmallRefIdeal.τ).loc Cert.AdamwSmallRefIdeal.main_arg19)
      ∧ r.2.mem ((c.tc : Thread Cert.AdamwSmallRefIdeal.nD Cert.AdamwSmallRefIdeal.τ).loc Cert.AdamwSmallRefIdeal.main_arg20) = m ((c.tc : Thread Cert.AdamwSmallRefIdeal.nD Cert.AdamwSmallRefIdeal.τ).loc Cert.AdamwSmallRefIdeal.main_arg20)
      ∧ r.2.mem ((c.tc : Thread Cert.AdamwSmallRefIdeal.nD Cert.AdamwSmallRefIdeal.τ).loc Cert.AdamwSmallRefIdeal.main_arg21) = m ((c.tc : Thread Cert.AdamwSmallRefIdeal.nD Cert.AdamwSmallRefIdeal.τ).loc Cert.AdamwSmallRefIdeal.main_arg21)
      ∧ r.2.mem ((c.tc : Thread Cert.AdamwSmallRefIdeal.nD Cert.AdamwSmallRefIdeal.τ).loc Cert.AdamwSmallRefIdeal.main_arg22) = m ((c.tc : Thread Cert.AdamwSmallRefIdeal.nD Cert.AdamwSmallRefIdeal.τ).loc Cert.AdamwSmallRefIdeal.main_arg22)
      ∧ r.2.mem ((c.tc : Thread Cert.AdamwSmallRefIdeal.nD Cert.AdamwSmallRefIdeal.τ).loc Cert.AdamwSmallRefIdeal.main_arg23) = m ((c.tc : Thread Cert.AdamwSmallRefIdeal.nD Cert.AdamwSmallRefIdeal.τ).loc Cert.AdamwSmallRefIdeal.main_arg23)
      ∧ r.2.mem ((c.tc : Thread Cert.AdamwSmallRefIdeal.nD Cert.AdamwSmallRefIdeal.τ).loc Cert.AdamwSmallRefIdeal.main_arg24) = m ((c.tc : Thread Cert.AdamwSmallRefIdeal.nD Cert.AdamwSmallRefIdeal.τ).loc Cert.AdamwSmallRefIdeal.main_arg24)
      ∧ r.2.mem ((c.tc : Thread Cert.AdamwSmallRefIdeal.nD Cert.AdamwSmallRefIdeal.τ).loc Cert.AdamwSmallRefIdeal.main_arg25) = m ((c.tc : Thread Cert.AdamwSmallRefIdeal.nD Cert.AdamwSmallRefIdeal.τ).loc Cert.AdamwSmallRefIdeal.main_arg25)
      ∧ r.2.mem ((c.tc : Thread Cert.AdamwSmallRefIdeal.nD Cert.AdamwSmallRefIdeal.τ).loc Cert.AdamwSmallRefIdeal.main_arg26) = m ((c.tc : Thread Cert.AdamwSmallRefIdeal.nD Cert.AdamwSmallRefIdeal.τ).loc Cert.AdamwSmallRefIdeal.main_arg26)
      ∧ r.2.mem ((c.tc : Thread Cert.AdamwSmallRefIdeal.nD Cert.AdamwSmallRefIdeal.τ).loc Cert.AdamwSmallRefIdeal.main_arg27) = m ((c.tc : Thread Cert.AdamwSmallRefIdeal.nD Cert.AdamwSmallRefIdeal.τ).loc Cert.AdamwSmallRefIdeal.main_arg27)
      ∧ r.2.mem ((c.tc : Thread Cert.AdamwSmallRefIdeal.nD Cert.AdamwSmallRefIdeal.τ).loc Cert.AdamwSmallRefIdeal.main_arg28) = m ((c.tc : Thread Cert.AdamwSmallRefIdeal.nD Cert.AdamwSmallRefIdeal.τ).loc Cert.AdamwSmallRefIdeal.main_arg28)
      ∧ r.2.mem ((c.tc : Thread Cert.AdamwSmallRefIdeal.nD Cert.AdamwSmallRefIdeal.τ).loc Cert.AdamwSmallRefIdeal.main_arg29) = m ((c.tc : Thread Cert.AdamwSmallRefIdeal.nD Cert.AdamwSmallRefIdeal.τ).loc Cert.AdamwSmallRefIdeal.main_arg29)
      ∧ r.2.mem ((c.tc : Thread Cert.AdamwSmallRefIdeal.nD Cert.AdamwSmallRefIdeal.τ).loc Cert.AdamwSmallRefIdeal.main_arg30) = m ((c.tc : Thread Cert.AdamwSmallRefIdeal.nD Cert.AdamwSmallRefIdeal.τ).loc Cert.AdamwSmallRefIdeal.main_arg30)
      ∧ r.2.mem ((c.tc : Thread Cert.AdamwSmallRefIdeal.nD Cert.AdamwSmallRefIdeal.τ).loc Cert.AdamwSmallRefIdeal.main_arg31) = m ((c.tc : Thread Cert.AdamwSmallRefIdeal.nD Cert.AdamwSmallRefIdeal.τ).loc Cert.AdamwSmallRefIdeal.main_arg31)
      ∧ r.2.mem ((c.tc : Thread Cert.AdamwSmallRefIdeal.nD Cert.AdamwSmallRefIdeal.τ).loc Cert.AdamwSmallRefIdeal.main_arg32) = m ((c.tc : Thread Cert.AdamwSmallRefIdeal.nD Cert.AdamwSmallRefIdeal.τ).loc Cert.AdamwSmallRefIdeal.main_arg32)
      ∧ r.2.mem ((c.tc : Thread Cert.AdamwSmallRefIdeal.nD Cert.AdamwSmallRefIdeal.τ).loc Cert.AdamwSmallRefIdeal.main_arg33) = m ((c.tc : Thread Cert.AdamwSmallRefIdeal.nD Cert.AdamwSmallRefIdeal.τ).loc Cert.AdamwSmallRefIdeal.main_arg33)
      ∧ r.2.mem ((c.tc : Thread Cert.AdamwSmallRefIdeal.nD Cert.AdamwSmallRefIdeal.τ).loc Cert.AdamwSmallRefIdeal.main_arg34) = m ((c.tc : Thread Cert.AdamwSmallRefIdeal.nD Cert.AdamwSmallRefIdeal.τ).loc Cert.AdamwSmallRefIdeal.main_arg34)
      ∧ r.2.mem ((c.tc : Thread Cert.AdamwSmallRefIdeal.nD Cert.AdamwSmallRefIdeal.τ).loc Cert.AdamwSmallRefIdeal.main_arg35) = m ((c.tc : Thread Cert.AdamwSmallRefIdeal.nD Cert.AdamwSmallRefIdeal.τ).loc Cert.AdamwSmallRefIdeal.main_arg35))
      ∧ r.2.sem = fun _ => 0)

def preserves_Ffn1Bwd_Ffn1BwdIdeal : Prop :=
  True

def algebraic_Ffn1BwdIdeal_Ffn1BwdRefIdeal_pre_finite_ffn1 [hFfn1BwdIdeal : Cert.Ffn1BwdIdeal.Facts] [hFfn1BwdRefIdeal : Cert.Ffn1BwdRefIdeal.Facts] [hPre_finite_ffn1 : Cert.Pre_finite_ffn1.Facts] : Prop :=
  ∀ (m : (ℓ : Loc Cert.Ffn1BwdIdeal.nD Cert.Ffn1BwdIdeal.τ Cert.Ffn1BwdIdeal.sig) → Buf (Elt Ideal) ℓ) (g : Dev Cert.Ffn1BwdIdeal.nD → PrngReg)
    (m' : (ℓ : Loc Cert.Ffn1BwdRefIdeal.nD Cert.Ffn1BwdRefIdeal.τ Cert.Ffn1BwdRefIdeal.sig) → Buf (Elt Ideal) ℓ) (g' : Dev Cert.Ffn1BwdRefIdeal.nD → PrngReg), Pre_Ffn1BwdIdeal_finite_ffn1 m →
    (∀ c : Dev Cert.Ffn1BwdIdeal.nD,
      m' ((c.tc : Thread Cert.Ffn1BwdRefIdeal.nD Cert.Ffn1BwdRefIdeal.τ).loc Cert.Ffn1BwdRefIdeal.main_arg0) = m ((c.tc : Thread Cert.Ffn1BwdIdeal.nD Cert.Ffn1BwdIdeal.τ).loc Cert.Ffn1BwdIdeal.main_arg0)
      ∧ m' ((c.tc : Thread Cert.Ffn1BwdRefIdeal.nD Cert.Ffn1BwdRefIdeal.τ).loc Cert.Ffn1BwdRefIdeal.main_arg1) = m ((c.tc : Thread Cert.Ffn1BwdIdeal.nD Cert.Ffn1BwdIdeal.τ).loc Cert.Ffn1BwdIdeal.main_arg1)
      ∧ m' ((c.tc : Thread Cert.Ffn1BwdRefIdeal.nD Cert.Ffn1BwdRefIdeal.τ).loc Cert.Ffn1BwdRefIdeal.main_arg2) = m ((c.tc : Thread Cert.Ffn1BwdIdeal.nD Cert.Ffn1BwdIdeal.τ).loc Cert.Ffn1BwdIdeal.main_arg2)
      ∧ m' ((c.tc : Thread Cert.Ffn1BwdRefIdeal.nD Cert.Ffn1BwdRefIdeal.τ).loc Cert.Ffn1BwdRefIdeal.main_arg3) = m ((c.tc : Thread Cert.Ffn1BwdIdeal.nD Cert.Ffn1BwdIdeal.τ).loc Cert.Ffn1BwdIdeal.main_arg3)
      ∧ m' ((c.tc : Thread Cert.Ffn1BwdRefIdeal.nD Cert.Ffn1BwdRefIdeal.τ).loc Cert.Ffn1BwdRefIdeal.main_arg4) = m ((c.tc : Thread Cert.Ffn1BwdIdeal.nD Cert.Ffn1BwdIdeal.τ).loc Cert.Ffn1BwdIdeal.main_arg4)) →
    ∃ (v0 : (c : Dev Cert.Ffn1BwdIdeal.nD) → Buf (Elt Ideal) ((c.tc : Thread Cert.Ffn1BwdIdeal.nD Cert.Ffn1BwdIdeal.τ).loc Cert.Ffn1BwdIdeal.main_v19_0)) (v1 : (c : Dev Cert.Ffn1BwdIdeal.nD) → Buf (Elt Ideal) ((c.tc : Thread Cert.Ffn1BwdIdeal.nD Cert.Ffn1BwdIdeal.τ).loc Cert.Ffn1BwdIdeal.main_v19_1)),
      θ_run (Cert.Ffn1BwdIdeal.defs (F := Ideal)) (onTc (τ := Cert.Ffn1BwdIdeal.τ) (Cert.Ffn1BwdIdeal.main (F := Ideal))) ⟨m, fun _ => 0, g⟩ (fun r => ∀ c : Dev Cert.Ffn1BwdIdeal.nD,
          r.2.mem ((c.tc : Thread Cert.Ffn1BwdIdeal.nD Cert.Ffn1BwdIdeal.τ).loc Cert.Ffn1BwdIdeal.main_v19_0) = v0 c
          ∧ r.2.mem ((c.tc : Thread Cert.Ffn1BwdIdeal.nD Cert.Ffn1BwdIdeal.τ).loc Cert.Ffn1BwdIdeal.main_v19_1) = v1 c
          ∧ r.2.mem ((c.tc : Thread Cert.Ffn1BwdIdeal.nD Cert.Ffn1BwdIdeal.τ).loc Cert.Ffn1BwdIdeal.main_arg0) = m ((c.tc : Thread Cert.Ffn1BwdIdeal.nD Cert.Ffn1BwdIdeal.τ).loc Cert.Ffn1BwdIdeal.main_arg0)
          ∧ r.2.mem ((c.tc : Thread Cert.Ffn1BwdIdeal.nD Cert.Ffn1BwdIdeal.τ).loc Cert.Ffn1BwdIdeal.main_arg1) = m ((c.tc : Thread Cert.Ffn1BwdIdeal.nD Cert.Ffn1BwdIdeal.τ).loc Cert.Ffn1BwdIdeal.main_arg1)
          ∧ r.2.mem ((c.tc : Thread Cert.Ffn1BwdIdeal.nD Cert.Ffn1BwdIdeal.τ).loc Cert.Ffn1BwdIdeal.main_arg2) = m ((c.tc : Thread Cert.Ffn1BwdIdeal.nD Cert.Ffn1BwdIdeal.τ).loc Cert.Ffn1BwdIdeal.main_arg2)
          ∧ r.2.mem ((c.tc : Thread Cert.Ffn1BwdIdeal.nD Cert.Ffn1BwdIdeal.τ).loc Cert.Ffn1BwdIdeal.main_arg3) = m ((c.tc : Thread Cert.Ffn1BwdIdeal.nD Cert.Ffn1BwdIdeal.τ).loc Cert.Ffn1BwdIdeal.main_arg3)
          ∧ r.2.mem ((c.tc : Thread Cert.Ffn1BwdIdeal.nD Cert.Ffn1BwdIdeal.τ).loc Cert.Ffn1BwdIdeal.main_arg4) = m ((c.tc : Thread Cert.Ffn1BwdIdeal.nD Cert.Ffn1BwdIdeal.τ).loc Cert.Ffn1BwdIdeal.main_arg4))
      ∧ θ_run (Cert.Ffn1BwdRefIdeal.defs (F := Ideal)) (onTc (τ := Cert.Ffn1BwdRefIdeal.τ) (Cert.Ffn1BwdRefIdeal.main (F := Ideal))) ⟨m', fun _ => 0, g'⟩ (fun r => ∀ c : Dev Cert.Ffn1BwdRefIdeal.nD,
          r.2.mem ((c.tc : Thread Cert.Ffn1BwdRefIdeal.nD Cert.Ffn1BwdRefIdeal.τ).loc Cert.Ffn1BwdRefIdeal.main_v21) = v0 c
          ∧ r.2.mem ((c.tc : Thread Cert.Ffn1BwdRefIdeal.nD Cert.Ffn1BwdRefIdeal.τ).loc Cert.Ffn1BwdRefIdeal.main_v28) = v1 c
          ∧ r.2.mem ((c.tc : Thread Cert.Ffn1BwdRefIdeal.nD Cert.Ffn1BwdRefIdeal.τ).loc Cert.Ffn1BwdRefIdeal.main_arg0) = m' ((c.tc : Thread Cert.Ffn1BwdRefIdeal.nD Cert.Ffn1BwdRefIdeal.τ).loc Cert.Ffn1BwdRefIdeal.main_arg0)
          ∧ r.2.mem ((c.tc : Thread Cert.Ffn1BwdRefIdeal.nD Cert.Ffn1BwdRefIdeal.τ).loc Cert.Ffn1BwdRefIdeal.main_arg1) = m' ((c.tc : Thread Cert.Ffn1BwdRefIdeal.nD Cert.Ffn1BwdRefIdeal.τ).loc Cert.Ffn1BwdRefIdeal.main_arg1)
          ∧ r.2.mem ((c.tc : Thread Cert.Ffn1BwdRefIdeal.nD Cert.Ffn1BwdRefIdeal.τ).loc Cert.Ffn1BwdRefIdeal.main_arg2) = m' ((c.tc : Thread Cert.Ffn1BwdRefIdeal.nD Cert.Ffn1BwdRefIdeal.τ).loc Cert.Ffn1BwdRefIdeal.main_arg2)
          ∧ r.2.mem ((c.tc : Thread Cert.Ffn1BwdRefIdeal.nD Cert.Ffn1BwdRefIdeal.τ).loc Cert.Ffn1BwdRefIdeal.main_arg3) = m' ((c.tc : Thread Cert.Ffn1BwdRefIdeal.nD Cert.Ffn1BwdRefIdeal.τ).loc Cert.Ffn1BwdRefIdeal.main_arg3)
          ∧ r.2.mem ((c.tc : Thread Cert.Ffn1BwdRefIdeal.nD Cert.Ffn1BwdRefIdeal.τ).loc Cert.Ffn1BwdRefIdeal.main_arg4) = m' ((c.tc : Thread Cert.Ffn1BwdRefIdeal.nD Cert.Ffn1BwdRefIdeal.τ).loc Cert.Ffn1BwdRefIdeal.main_arg4))

def preserves_Ffn2Bwd_Ffn2BwdIdeal : Prop :=
  True

def algebraic_Ffn2BwdIdeal_Ffn2BwdRefIdeal_pre_finite_ffn2 [hFfn2BwdIdeal : Cert.Ffn2BwdIdeal.Facts] [hFfn2BwdRefIdeal : Cert.Ffn2BwdRefIdeal.Facts] [hPre_finite_ffn2 : Cert.Pre_finite_ffn2.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg)
    (m' : (ℓ : Loc Cert.Ffn2BwdRefIdeal.nD Cert.Ffn2BwdRefIdeal.τ Cert.Ffn2BwdRefIdeal.sig) → Buf (Elt Ideal) ℓ) (g' : Dev Cert.Ffn2BwdRefIdeal.nD → PrngReg), Pre_Ffn2BwdIdeal_finite_ffn2 m →
    (∀ c : Dev Cert.Ffn2BwdIdeal.nD,
      m' ((c.tc : Thread Cert.Ffn2BwdRefIdeal.nD Cert.Ffn2BwdRefIdeal.τ).loc Cert.Ffn2BwdRefIdeal.main_arg0) = m ((c.tc : Thread Cert.Ffn2BwdIdeal.nD Cert.Ffn2BwdIdeal.τ).loc Cert.Ffn2BwdIdeal.main_arg0)
      ∧ m' ((c.tc : Thread Cert.Ffn2BwdRefIdeal.nD Cert.Ffn2BwdRefIdeal.τ).loc Cert.Ffn2BwdRefIdeal.main_arg1) = m ((c.tc : Thread Cert.Ffn2BwdIdeal.nD Cert.Ffn2BwdIdeal.τ).loc Cert.Ffn2BwdIdeal.main_arg1)
      ∧ m' ((c.tc : Thread Cert.Ffn2BwdRefIdeal.nD Cert.Ffn2BwdRefIdeal.τ).loc Cert.Ffn2BwdRefIdeal.main_arg2) = m ((c.tc : Thread Cert.Ffn2BwdIdeal.nD Cert.Ffn2BwdIdeal.τ).loc Cert.Ffn2BwdIdeal.main_arg2)
      ∧ m' ((c.tc : Thread Cert.Ffn2BwdRefIdeal.nD Cert.Ffn2BwdRefIdeal.τ).loc Cert.Ffn2BwdRefIdeal.main_arg3) = m ((c.tc : Thread Cert.Ffn2BwdIdeal.nD Cert.Ffn2BwdIdeal.τ).loc Cert.Ffn2BwdIdeal.main_arg3)
      ∧ m' ((c.tc : Thread Cert.Ffn2BwdRefIdeal.nD Cert.Ffn2BwdRefIdeal.τ).loc Cert.Ffn2BwdRefIdeal.main_arg4) = m ((c.tc : Thread Cert.Ffn2BwdIdeal.nD Cert.Ffn2BwdIdeal.τ).loc Cert.Ffn2BwdIdeal.main_arg4)
      ∧ m' ((c.tc : Thread Cert.Ffn2BwdRefIdeal.nD Cert.Ffn2BwdRefIdeal.τ).loc Cert.Ffn2BwdRefIdeal.main_arg5) = m ((c.tc : Thread Cert.Ffn2BwdIdeal.nD Cert.Ffn2BwdIdeal.τ).loc Cert.Ffn2BwdIdeal.main_arg5)) →
    ∃ (v0 : (c : Dev Cert.Ffn2BwdIdeal.nD) → Buf (Elt Ideal) ((c.tc : Thread Cert.Ffn2BwdIdeal.nD Cert.Ffn2BwdIdeal.τ).loc Cert.Ffn2BwdIdeal.main_v31_2)) (v1 : (c : Dev Cert.Ffn2BwdIdeal.nD) → Buf (Elt Ideal) ((c.tc : Thread Cert.Ffn2BwdIdeal.nD Cert.Ffn2BwdIdeal.τ).loc Cert.Ffn2BwdIdeal.main_v31_3)),
      θ_run (Cert.Ffn2BwdIdeal.defs (F := Ideal)) (onTc (τ := Cert.Ffn2BwdIdeal.τ) (Cert.Ffn2BwdIdeal.main (F := Ideal))) ⟨m, fun _ => 0, g⟩ (fun r => ∀ c : Dev Cert.Ffn2BwdIdeal.nD,
          r.2.mem ((c.tc : Thread Cert.Ffn2BwdIdeal.nD Cert.Ffn2BwdIdeal.τ).loc Cert.Ffn2BwdIdeal.main_v31_2) = v0 c
          ∧ r.2.mem ((c.tc : Thread Cert.Ffn2BwdIdeal.nD Cert.Ffn2BwdIdeal.τ).loc Cert.Ffn2BwdIdeal.main_v31_3) = v1 c
          ∧ r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
          ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
          ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
          ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
          ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4)
          ∧ r.2.mem ((c.tc : Thread Cert.Ffn2BwdIdeal.nD Cert.Ffn2BwdIdeal.τ).loc Cert.Ffn2BwdIdeal.main_arg5) = m ((c.tc : Thread Cert.Ffn2BwdIdeal.nD Cert.Ffn2BwdIdeal.τ).loc Cert.Ffn2BwdIdeal.main_arg5))
      ∧ θ_run (Cert.Ffn2BwdRefIdeal.defs (F := Ideal)) (onTc (τ := Cert.Ffn2BwdRefIdeal.τ) (Cert.Ffn2BwdRefIdeal.main (F := Ideal))) ⟨m', fun _ => 0, g'⟩ (fun r => ∀ c : Dev Cert.Ffn2BwdRefIdeal.nD,
          r.2.mem ((c.tc : Thread Cert.Ffn2BwdRefIdeal.nD Cert.Ffn2BwdRefIdeal.τ).loc Cert.Ffn2BwdRefIdeal.main_v41) = v0 c
          ∧ r.2.mem ((c.tc : Thread Cert.Ffn2BwdRefIdeal.nD Cert.Ffn2BwdRefIdeal.τ).loc Cert.Ffn2BwdRefIdeal.main_v65) = v1 c
          ∧ r.2.mem ((c.tc : Thread Cert.Ffn2BwdRefIdeal.nD Cert.Ffn2BwdRefIdeal.τ).loc Cert.Ffn2BwdRefIdeal.main_arg0) = m' ((c.tc : Thread Cert.Ffn2BwdRefIdeal.nD Cert.Ffn2BwdRefIdeal.τ).loc Cert.Ffn2BwdRefIdeal.main_arg0)
          ∧ r.2.mem ((c.tc : Thread Cert.Ffn2BwdRefIdeal.nD Cert.Ffn2BwdRefIdeal.τ).loc Cert.Ffn2BwdRefIdeal.main_arg1) = m' ((c.tc : Thread Cert.Ffn2BwdRefIdeal.nD Cert.Ffn2BwdRefIdeal.τ).loc Cert.Ffn2BwdRefIdeal.main_arg1)
          ∧ r.2.mem ((c.tc : Thread Cert.Ffn2BwdRefIdeal.nD Cert.Ffn2BwdRefIdeal.τ).loc Cert.Ffn2BwdRefIdeal.main_arg2) = m' ((c.tc : Thread Cert.Ffn2BwdRefIdeal.nD Cert.Ffn2BwdRefIdeal.τ).loc Cert.Ffn2BwdRefIdeal.main_arg2)
          ∧ r.2.mem ((c.tc : Thread Cert.Ffn2BwdRefIdeal.nD Cert.Ffn2BwdRefIdeal.τ).loc Cert.Ffn2BwdRefIdeal.main_arg3) = m' ((c.tc : Thread Cert.Ffn2BwdRefIdeal.nD Cert.Ffn2BwdRefIdeal.τ).loc Cert.Ffn2BwdRefIdeal.main_arg3)
          ∧ r.2.mem ((c.tc : Thread Cert.Ffn2BwdRefIdeal.nD Cert.Ffn2BwdRefIdeal.τ).loc Cert.Ffn2BwdRefIdeal.main_arg4) = m' ((c.tc : Thread Cert.Ffn2BwdRefIdeal.nD Cert.Ffn2BwdRefIdeal.τ).loc Cert.Ffn2BwdRefIdeal.main_arg4)
          ∧ r.2.mem ((c.tc : Thread Cert.Ffn2BwdRefIdeal.nD Cert.Ffn2BwdRefIdeal.τ).loc Cert.Ffn2BwdRefIdeal.main_arg5) = m' ((c.tc : Thread Cert.Ffn2BwdRefIdeal.nD Cert.Ffn2BwdRefIdeal.τ).loc Cert.Ffn2BwdRefIdeal.main_arg5))

def preserves_Ffn1Fwd_Ffn1FwdIdeal : Prop :=
  True

def algebraic_Ffn1FwdIdeal_Ffn1FwdRefIdeal [hFfn1FwdIdeal : Cert.Ffn1FwdIdeal.Facts] [hFfn1FwdRefIdeal : Cert.Ffn1FwdRefIdeal.Facts] : Prop :=
  ∀ (m : (ℓ : Loc Cert.Ffn1FwdIdeal.nD Cert.Ffn1FwdIdeal.τ Cert.Ffn1FwdIdeal.sig) → Buf (Elt Ideal) ℓ) (g : Dev Cert.Ffn1FwdIdeal.nD → PrngReg)
    (m' : (ℓ : Loc Cert.Ffn1FwdRefIdeal.nD Cert.Ffn1FwdRefIdeal.τ Cert.Ffn1FwdRefIdeal.sig) → Buf (Elt Ideal) ℓ) (g' : Dev Cert.Ffn1FwdRefIdeal.nD → PrngReg), Pre_Ffn1FwdIdeal m →
    (∀ c : Dev Cert.Ffn1FwdIdeal.nD,
      m' ((c.tc : Thread Cert.Ffn1FwdRefIdeal.nD Cert.Ffn1FwdRefIdeal.τ).loc Cert.Ffn1FwdRefIdeal.main_arg0) = m ((c.tc : Thread Cert.Ffn1FwdIdeal.nD Cert.Ffn1FwdIdeal.τ).loc Cert.Ffn1FwdIdeal.main_arg0)
      ∧ m' ((c.tc : Thread Cert.Ffn1FwdRefIdeal.nD Cert.Ffn1FwdRefIdeal.τ).loc Cert.Ffn1FwdRefIdeal.main_arg1) = m ((c.tc : Thread Cert.Ffn1FwdIdeal.nD Cert.Ffn1FwdIdeal.τ).loc Cert.Ffn1FwdIdeal.main_arg1)
      ∧ m' ((c.tc : Thread Cert.Ffn1FwdRefIdeal.nD Cert.Ffn1FwdRefIdeal.τ).loc Cert.Ffn1FwdRefIdeal.main_arg2) = m ((c.tc : Thread Cert.Ffn1FwdIdeal.nD Cert.Ffn1FwdIdeal.τ).loc Cert.Ffn1FwdIdeal.main_arg2)
      ∧ m' ((c.tc : Thread Cert.Ffn1FwdRefIdeal.nD Cert.Ffn1FwdRefIdeal.τ).loc Cert.Ffn1FwdRefIdeal.main_arg3) = m ((c.tc : Thread Cert.Ffn1FwdIdeal.nD Cert.Ffn1FwdIdeal.τ).loc Cert.Ffn1FwdIdeal.main_arg3)
      ∧ m' ((c.tc : Thread Cert.Ffn1FwdRefIdeal.nD Cert.Ffn1FwdRefIdeal.τ).loc Cert.Ffn1FwdRefIdeal.main_arg4) = m ((c.tc : Thread Cert.Ffn1FwdIdeal.nD Cert.Ffn1FwdIdeal.τ).loc Cert.Ffn1FwdIdeal.main_arg4)
      ∧ m' ((c.tc : Thread Cert.Ffn1FwdRefIdeal.nD Cert.Ffn1FwdRefIdeal.τ).loc Cert.Ffn1FwdRefIdeal.main_arg5) = m ((c.tc : Thread Cert.Ffn1FwdIdeal.nD Cert.Ffn1FwdIdeal.τ).loc Cert.Ffn1FwdIdeal.main_arg5)) →
    ∃ (v0 : (c : Dev Cert.Ffn1FwdIdeal.nD) → Buf (Elt Ideal) ((c.tc : Thread Cert.Ffn1FwdIdeal.nD Cert.Ffn1FwdIdeal.τ).loc Cert.Ffn1FwdIdeal.main_v8_0)) (v1 : (c : Dev Cert.Ffn1FwdIdeal.nD) → Buf (Elt Ideal) ((c.tc : Thread Cert.Ffn1FwdIdeal.nD Cert.Ffn1FwdIdeal.τ).loc Cert.Ffn1FwdIdeal.main_v8_1)) (v2 : (c : Dev Cert.Ffn1FwdIdeal.nD) → Buf (Elt Ideal) ((c.tc : Thread Cert.Ffn1FwdIdeal.nD Cert.Ffn1FwdIdeal.τ).loc Cert.Ffn1FwdIdeal.main_v8_2)) (v3 : (c : Dev Cert.Ffn1FwdIdeal.nD) → Buf (Elt Ideal) ((c.tc : Thread Cert.Ffn1FwdIdeal.nD Cert.Ffn1FwdIdeal.τ).loc Cert.Ffn1FwdIdeal.main_v8_3)),
      θ_run (Cert.Ffn1FwdIdeal.defs (F := Ideal)) (onTc (τ := Cert.Ffn1FwdIdeal.τ) (Cert.Ffn1FwdIdeal.main (F := Ideal))) ⟨m, fun _ => 0, g⟩ (fun r => ∀ c : Dev Cert.Ffn1FwdIdeal.nD,
          r.2.mem ((c.tc : Thread Cert.Ffn1FwdIdeal.nD Cert.Ffn1FwdIdeal.τ).loc Cert.Ffn1FwdIdeal.main_v8_0) = v0 c
          ∧ r.2.mem ((c.tc : Thread Cert.Ffn1FwdIdeal.nD Cert.Ffn1FwdIdeal.τ).loc Cert.Ffn1FwdIdeal.main_v8_1) = v1 c
          ∧ r.2.mem ((c.tc : Thread Cert.Ffn1FwdIdeal.nD Cert.Ffn1FwdIdeal.τ).loc Cert.Ffn1FwdIdeal.main_v8_2) = v2 c
          ∧ r.2.mem ((c.tc : Thread Cert.Ffn1FwdIdeal.nD Cert.Ffn1FwdIdeal.τ).loc Cert.Ffn1FwdIdeal.main_v8_3) = v3 c
          ∧ r.2.mem ((c.tc : Thread Cert.Ffn1FwdIdeal.nD Cert.Ffn1FwdIdeal.τ).loc Cert.Ffn1FwdIdeal.main_arg0) = m ((c.tc : Thread Cert.Ffn1FwdIdeal.nD Cert.Ffn1FwdIdeal.τ).loc Cert.Ffn1FwdIdeal.main_arg0)
          ∧ r.2.mem ((c.tc : Thread Cert.Ffn1FwdIdeal.nD Cert.Ffn1FwdIdeal.τ).loc Cert.Ffn1FwdIdeal.main_arg1) = m ((c.tc : Thread Cert.Ffn1FwdIdeal.nD Cert.Ffn1FwdIdeal.τ).loc Cert.Ffn1FwdIdeal.main_arg1)
          ∧ r.2.mem ((c.tc : Thread Cert.Ffn1FwdIdeal.nD Cert.Ffn1FwdIdeal.τ).loc Cert.Ffn1FwdIdeal.main_arg2) = m ((c.tc : Thread Cert.Ffn1FwdIdeal.nD Cert.Ffn1FwdIdeal.τ).loc Cert.Ffn1FwdIdeal.main_arg2)
          ∧ r.2.mem ((c.tc : Thread Cert.Ffn1FwdIdeal.nD Cert.Ffn1FwdIdeal.τ).loc Cert.Ffn1FwdIdeal.main_arg3) = m ((c.tc : Thread Cert.Ffn1FwdIdeal.nD Cert.Ffn1FwdIdeal.τ).loc Cert.Ffn1FwdIdeal.main_arg3)
          ∧ r.2.mem ((c.tc : Thread Cert.Ffn1FwdIdeal.nD Cert.Ffn1FwdIdeal.τ).loc Cert.Ffn1FwdIdeal.main_arg4) = m ((c.tc : Thread Cert.Ffn1FwdIdeal.nD Cert.Ffn1FwdIdeal.τ).loc Cert.Ffn1FwdIdeal.main_arg4)
          ∧ r.2.mem ((c.tc : Thread Cert.Ffn1FwdIdeal.nD Cert.Ffn1FwdIdeal.τ).loc Cert.Ffn1FwdIdeal.main_arg5) = m ((c.tc : Thread Cert.Ffn1FwdIdeal.nD Cert.Ffn1FwdIdeal.τ).loc Cert.Ffn1FwdIdeal.main_arg5))
      ∧ θ_run (Cert.Ffn1FwdRefIdeal.defs (F := Ideal)) (onTc (τ := Cert.Ffn1FwdRefIdeal.τ) (Cert.Ffn1FwdRefIdeal.main (F := Ideal))) ⟨m', fun _ => 0, g'⟩ (fun r => ∀ c : Dev Cert.Ffn1FwdRefIdeal.nD,
          r.2.mem ((c.tc : Thread Cert.Ffn1FwdRefIdeal.nD Cert.Ffn1FwdRefIdeal.τ).loc Cert.Ffn1FwdRefIdeal.main_v7) = v0 c
          ∧ r.2.mem ((c.tc : Thread Cert.Ffn1FwdRefIdeal.nD Cert.Ffn1FwdRefIdeal.τ).loc Cert.Ffn1FwdRefIdeal.main_v10) = v1 c
          ∧ r.2.mem ((c.tc : Thread Cert.Ffn1FwdRefIdeal.nD Cert.Ffn1FwdRefIdeal.τ).loc Cert.Ffn1FwdRefIdeal.main_v13) = v2 c
          ∧ r.2.mem ((c.tc : Thread Cert.Ffn1FwdRefIdeal.nD Cert.Ffn1FwdRefIdeal.τ).loc Cert.Ffn1FwdRefIdeal.main_v26) = v3 c
          ∧ r.2.mem ((c.tc : Thread Cert.Ffn1FwdRefIdeal.nD Cert.Ffn1FwdRefIdeal.τ).loc Cert.Ffn1FwdRefIdeal.main_arg0) = m' ((c.tc : Thread Cert.Ffn1FwdRefIdeal.nD Cert.Ffn1FwdRefIdeal.τ).loc Cert.Ffn1FwdRefIdeal.main_arg0)
          ∧ r.2.mem ((c.tc : Thread Cert.Ffn1FwdRefIdeal.nD Cert.Ffn1FwdRefIdeal.τ).loc Cert.Ffn1FwdRefIdeal.main_arg1) = m' ((c.tc : Thread Cert.Ffn1FwdRefIdeal.nD Cert.Ffn1FwdRefIdeal.τ).loc Cert.Ffn1FwdRefIdeal.main_arg1)
          ∧ r.2.mem ((c.tc : Thread Cert.Ffn1FwdRefIdeal.nD Cert.Ffn1FwdRefIdeal.τ).loc Cert.Ffn1FwdRefIdeal.main_arg2) = m' ((c.tc : Thread Cert.Ffn1FwdRefIdeal.nD Cert.Ffn1FwdRefIdeal.τ).loc Cert.Ffn1FwdRefIdeal.main_arg2)
          ∧ r.2.mem ((c.tc : Thread Cert.Ffn1FwdRefIdeal.nD Cert.Ffn1FwdRefIdeal.τ).loc Cert.Ffn1FwdRefIdeal.main_arg3) = m' ((c.tc : Thread Cert.Ffn1FwdRefIdeal.nD Cert.Ffn1FwdRefIdeal.τ).loc Cert.Ffn1FwdRefIdeal.main_arg3)
          ∧ r.2.mem ((c.tc : Thread Cert.Ffn1FwdRefIdeal.nD Cert.Ffn1FwdRefIdeal.τ).loc Cert.Ffn1FwdRefIdeal.main_arg4) = m' ((c.tc : Thread Cert.Ffn1FwdRefIdeal.nD Cert.Ffn1FwdRefIdeal.τ).loc Cert.Ffn1FwdRefIdeal.main_arg4)
          ∧ r.2.mem ((c.tc : Thread Cert.Ffn1FwdRefIdeal.nD Cert.Ffn1FwdRefIdeal.τ).loc Cert.Ffn1FwdRefIdeal.main_arg5) = m' ((c.tc : Thread Cert.Ffn1FwdRefIdeal.nD Cert.Ffn1FwdRefIdeal.τ).loc Cert.Ffn1FwdRefIdeal.main_arg5))

def preserves_Ffn2Fwd_Ffn2FwdIdeal : Prop :=
  True

def algebraic_Ffn2FwdIdeal_Ffn2FwdRefIdeal [hFfn2FwdIdeal : Cert.Ffn2FwdIdeal.Facts] [hFfn2FwdRefIdeal : Cert.Ffn2FwdRefIdeal.Facts] : Prop :=
  ∀ (m : (ℓ : Loc Cert.Ffn2FwdIdeal.nD Cert.Ffn2FwdIdeal.τ Cert.Ffn2FwdIdeal.sig) → Buf (Elt Ideal) ℓ) (g : Dev Cert.Ffn2FwdIdeal.nD → PrngReg)
    (m' : (ℓ : Loc Cert.Ffn2FwdRefIdeal.nD Cert.Ffn2FwdRefIdeal.τ Cert.Ffn2FwdRefIdeal.sig) → Buf (Elt Ideal) ℓ) (g' : Dev Cert.Ffn2FwdRefIdeal.nD → PrngReg), Pre_Ffn2FwdIdeal m →
    (∀ c : Dev Cert.Ffn2FwdIdeal.nD,
      m' ((c.tc : Thread Cert.Ffn2FwdRefIdeal.nD Cert.Ffn2FwdRefIdeal.τ).loc Cert.Ffn2FwdRefIdeal.main_arg0) = m ((c.tc : Thread Cert.Ffn2FwdIdeal.nD Cert.Ffn2FwdIdeal.τ).loc Cert.Ffn2FwdIdeal.main_arg0)
      ∧ m' ((c.tc : Thread Cert.Ffn2FwdRefIdeal.nD Cert.Ffn2FwdRefIdeal.τ).loc Cert.Ffn2FwdRefIdeal.main_arg1) = m ((c.tc : Thread Cert.Ffn2FwdIdeal.nD Cert.Ffn2FwdIdeal.τ).loc Cert.Ffn2FwdIdeal.main_arg1)
      ∧ m' ((c.tc : Thread Cert.Ffn2FwdRefIdeal.nD Cert.Ffn2FwdRefIdeal.τ).loc Cert.Ffn2FwdRefIdeal.main_arg2) = m ((c.tc : Thread Cert.Ffn2FwdIdeal.nD Cert.Ffn2FwdIdeal.τ).loc Cert.Ffn2FwdIdeal.main_arg2)
      ∧ m' ((c.tc : Thread Cert.Ffn2FwdRefIdeal.nD Cert.Ffn2FwdRefIdeal.τ).loc Cert.Ffn2FwdRefIdeal.main_arg3) = m ((c.tc : Thread Cert.Ffn2FwdIdeal.nD Cert.Ffn2FwdIdeal.τ).loc Cert.Ffn2FwdIdeal.main_arg3)
      ∧ m' ((c.tc : Thread Cert.Ffn2FwdRefIdeal.nD Cert.Ffn2FwdRefIdeal.τ).loc Cert.Ffn2FwdRefIdeal.main_arg4) = m ((c.tc : Thread Cert.Ffn2FwdIdeal.nD Cert.Ffn2FwdIdeal.τ).loc Cert.Ffn2FwdIdeal.main_arg4)
      ∧ m' ((c.tc : Thread Cert.Ffn2FwdRefIdeal.nD Cert.Ffn2FwdRefIdeal.τ).loc Cert.Ffn2FwdRefIdeal.main_arg5) = m ((c.tc : Thread Cert.Ffn2FwdIdeal.nD Cert.Ffn2FwdIdeal.τ).loc Cert.Ffn2FwdIdeal.main_arg5)) →
    ∃ (v0 : (c : Dev Cert.Ffn2FwdIdeal.nD) → Buf (Elt Ideal) ((c.tc : Thread Cert.Ffn2FwdIdeal.nD Cert.Ffn2FwdIdeal.τ).loc Cert.Ffn2FwdIdeal.main_v8_0)) (v1 : (c : Dev Cert.Ffn2FwdIdeal.nD) → Buf (Elt Ideal) ((c.tc : Thread Cert.Ffn2FwdIdeal.nD Cert.Ffn2FwdIdeal.τ).loc Cert.Ffn2FwdIdeal.main_v8_1)) (v2 : (c : Dev Cert.Ffn2FwdIdeal.nD) → Buf (Elt Ideal) ((c.tc : Thread Cert.Ffn2FwdIdeal.nD Cert.Ffn2FwdIdeal.τ).loc Cert.Ffn2FwdIdeal.main_v8_2)) (v3 : (c : Dev Cert.Ffn2FwdIdeal.nD) → Buf (Elt Ideal) ((c.tc : Thread Cert.Ffn2FwdIdeal.nD Cert.Ffn2FwdIdeal.τ).loc Cert.Ffn2FwdIdeal.main_v8_3)) (v4 : (c : Dev Cert.Ffn2FwdIdeal.nD) → Buf (Elt Ideal) ((c.tc : Thread Cert.Ffn2FwdIdeal.nD Cert.Ffn2FwdIdeal.τ).loc Cert.Ffn2FwdIdeal.main_v9)),
      θ_run (Cert.Ffn2FwdIdeal.defs (F := Ideal)) (onTc (τ := Cert.Ffn2FwdIdeal.τ) (Cert.Ffn2FwdIdeal.main (F := Ideal))) ⟨m, fun _ => 0, g⟩ (fun r => ∀ c : Dev Cert.Ffn2FwdIdeal.nD,
          r.2.mem ((c.tc : Thread Cert.Ffn2FwdIdeal.nD Cert.Ffn2FwdIdeal.τ).loc Cert.Ffn2FwdIdeal.main_v8_0) = v0 c
          ∧ r.2.mem ((c.tc : Thread Cert.Ffn2FwdIdeal.nD Cert.Ffn2FwdIdeal.τ).loc Cert.Ffn2FwdIdeal.main_v8_1) = v1 c
          ∧ r.2.mem ((c.tc : Thread Cert.Ffn2FwdIdeal.nD Cert.Ffn2FwdIdeal.τ).loc Cert.Ffn2FwdIdeal.main_v8_2) = v2 c
          ∧ r.2.mem ((c.tc : Thread Cert.Ffn2FwdIdeal.nD Cert.Ffn2FwdIdeal.τ).loc Cert.Ffn2FwdIdeal.main_v8_3) = v3 c
          ∧ r.2.mem ((c.tc : Thread Cert.Ffn2FwdIdeal.nD Cert.Ffn2FwdIdeal.τ).loc Cert.Ffn2FwdIdeal.main_v9) = v4 c
          ∧ r.2.mem ((c.tc : Thread Cert.Ffn2FwdIdeal.nD Cert.Ffn2FwdIdeal.τ).loc Cert.Ffn2FwdIdeal.main_arg0) = m ((c.tc : Thread Cert.Ffn2FwdIdeal.nD Cert.Ffn2FwdIdeal.τ).loc Cert.Ffn2FwdIdeal.main_arg0)
          ∧ r.2.mem ((c.tc : Thread Cert.Ffn2FwdIdeal.nD Cert.Ffn2FwdIdeal.τ).loc Cert.Ffn2FwdIdeal.main_arg1) = m ((c.tc : Thread Cert.Ffn2FwdIdeal.nD Cert.Ffn2FwdIdeal.τ).loc Cert.Ffn2FwdIdeal.main_arg1)
          ∧ r.2.mem ((c.tc : Thread Cert.Ffn2FwdIdeal.nD Cert.Ffn2FwdIdeal.τ).loc Cert.Ffn2FwdIdeal.main_arg2) = m ((c.tc : Thread Cert.Ffn2FwdIdeal.nD Cert.Ffn2FwdIdeal.τ).loc Cert.Ffn2FwdIdeal.main_arg2)
          ∧ r.2.mem ((c.tc : Thread Cert.Ffn2FwdIdeal.nD Cert.Ffn2FwdIdeal.τ).loc Cert.Ffn2FwdIdeal.main_arg3) = m ((c.tc : Thread Cert.Ffn2FwdIdeal.nD Cert.Ffn2FwdIdeal.τ).loc Cert.Ffn2FwdIdeal.main_arg3)
          ∧ r.2.mem ((c.tc : Thread Cert.Ffn2FwdIdeal.nD Cert.Ffn2FwdIdeal.τ).loc Cert.Ffn2FwdIdeal.main_arg4) = m ((c.tc : Thread Cert.Ffn2FwdIdeal.nD Cert.Ffn2FwdIdeal.τ).loc Cert.Ffn2FwdIdeal.main_arg4)
          ∧ r.2.mem ((c.tc : Thread Cert.Ffn2FwdIdeal.nD Cert.Ffn2FwdIdeal.τ).loc Cert.Ffn2FwdIdeal.main_arg5) = m ((c.tc : Thread Cert.Ffn2FwdIdeal.nD Cert.Ffn2FwdIdeal.τ).loc Cert.Ffn2FwdIdeal.main_arg5))
      ∧ θ_run (Cert.Ffn2FwdRefIdeal.defs (F := Ideal)) (onTc (τ := Cert.Ffn2FwdRefIdeal.τ) (Cert.Ffn2FwdRefIdeal.main (F := Ideal))) ⟨m', fun _ => 0, g'⟩ (fun r => ∀ c : Dev Cert.Ffn2FwdRefIdeal.nD,
          r.2.mem ((c.tc : Thread Cert.Ffn2FwdRefIdeal.nD Cert.Ffn2FwdRefIdeal.τ).loc Cert.Ffn2FwdRefIdeal.main_v22) = v0 c
          ∧ r.2.mem ((c.tc : Thread Cert.Ffn2FwdRefIdeal.nD Cert.Ffn2FwdRefIdeal.τ).loc Cert.Ffn2FwdRefIdeal.main_v25) = v1 c
          ∧ r.2.mem ((c.tc : Thread Cert.Ffn2FwdRefIdeal.nD Cert.Ffn2FwdRefIdeal.τ).loc Cert.Ffn2FwdRefIdeal.main_v28) = v2 c
          ∧ r.2.mem ((c.tc : Thread Cert.Ffn2FwdRefIdeal.nD Cert.Ffn2FwdRefIdeal.τ).loc Cert.Ffn2FwdRefIdeal.main_v31) = v3 c
          ∧ r.2.mem ((c.tc : Thread Cert.Ffn2FwdRefIdeal.nD Cert.Ffn2FwdRefIdeal.τ).loc Cert.Ffn2FwdRefIdeal.main_v16) = v4 c
          ∧ r.2.mem ((c.tc : Thread Cert.Ffn2FwdRefIdeal.nD Cert.Ffn2FwdRefIdeal.τ).loc Cert.Ffn2FwdRefIdeal.main_arg0) = m' ((c.tc : Thread Cert.Ffn2FwdRefIdeal.nD Cert.Ffn2FwdRefIdeal.τ).loc Cert.Ffn2FwdRefIdeal.main_arg0)
          ∧ r.2.mem ((c.tc : Thread Cert.Ffn2FwdRefIdeal.nD Cert.Ffn2FwdRefIdeal.τ).loc Cert.Ffn2FwdRefIdeal.main_arg1) = m' ((c.tc : Thread Cert.Ffn2FwdRefIdeal.nD Cert.Ffn2FwdRefIdeal.τ).loc Cert.Ffn2FwdRefIdeal.main_arg1)
          ∧ r.2.mem ((c.tc : Thread Cert.Ffn2FwdRefIdeal.nD Cert.Ffn2FwdRefIdeal.τ).loc Cert.Ffn2FwdRefIdeal.main_arg2) = m' ((c.tc : Thread Cert.Ffn2FwdRefIdeal.nD Cert.Ffn2FwdRefIdeal.τ).loc Cert.Ffn2FwdRefIdeal.main_arg2)
          ∧ r.2.mem ((c.tc : Thread Cert.Ffn2FwdRefIdeal.nD Cert.Ffn2FwdRefIdeal.τ).loc Cert.Ffn2FwdRefIdeal.main_arg3) = m' ((c.tc : Thread Cert.Ffn2FwdRefIdeal.nD Cert.Ffn2FwdRefIdeal.τ).loc Cert.Ffn2FwdRefIdeal.main_arg3)
          ∧ r.2.mem ((c.tc : Thread Cert.Ffn2FwdRefIdeal.nD Cert.Ffn2FwdRefIdeal.τ).loc Cert.Ffn2FwdRefIdeal.main_arg4) = m' ((c.tc : Thread Cert.Ffn2FwdRefIdeal.nD Cert.Ffn2FwdRefIdeal.τ).loc Cert.Ffn2FwdRefIdeal.main_arg4)
          ∧ r.2.mem ((c.tc : Thread Cert.Ffn2FwdRefIdeal.nD Cert.Ffn2FwdRefIdeal.τ).loc Cert.Ffn2FwdRefIdeal.main_arg5) = m' ((c.tc : Thread Cert.Ffn2FwdRefIdeal.nD Cert.Ffn2FwdRefIdeal.τ).loc Cert.Ffn2FwdRefIdeal.main_arg5))

def preserves_OutProjBwd_OutProjBwdIdeal : Prop :=
  True

def algebraic_OutProjBwdIdeal_OutProjBwdRefIdeal [hOutProjBwdIdeal : Cert.OutProjBwdIdeal.Facts] [hOutProjBwdRefIdeal : Cert.OutProjBwdRefIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)
      ∧ m' ((c.tc : Thread Cert.OutProjBwdRefIdeal.nD Cert.OutProjBwdRefIdeal.τ).loc Cert.OutProjBwdRefIdeal.main_arg2) = m ((c.tc : Thread Cert.OutProjBwdIdeal.nD Cert.OutProjBwdIdeal.τ).loc Cert.OutProjBwdIdeal.main_arg2)) →
    ∃ (v0 : (c : Dev Cert.OutProjBwdIdeal.nD) → Buf (Elt Ideal) ((c.tc : Thread Cert.OutProjBwdIdeal.nD Cert.OutProjBwdIdeal.τ).loc Cert.OutProjBwdIdeal.main_v3_0)) (v1 : (c : Dev Cert.OutProjBwdIdeal.nD) → Buf (Elt Ideal) ((c.tc : Thread Cert.OutProjBwdIdeal.nD Cert.OutProjBwdIdeal.τ).loc Cert.OutProjBwdIdeal.main_v3_1)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v3_0) = v0 c
          ∧ r.2.mem ((c.tc : Thread Cert.OutProjBwdIdeal.nD Cert.OutProjBwdIdeal.τ).loc Cert.OutProjBwdIdeal.main_v3_1) = v1 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
          ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v3) = v0 c
          ∧ r.2.mem ((c.tc : Thread Cert.OutProjBwdRefIdeal.nD Cert.OutProjBwdRefIdeal.τ).loc Cert.OutProjBwdRefIdeal.main_v4) = v1 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1)
          ∧ r.2.mem ((c.tc : Thread Cert.OutProjBwdRefIdeal.nD Cert.OutProjBwdRefIdeal.τ).loc Cert.OutProjBwdRefIdeal.main_arg2) = m' ((c.tc : Thread Cert.OutProjBwdRefIdeal.nD Cert.OutProjBwdRefIdeal.τ).loc Cert.OutProjBwdRefIdeal.main_arg2))

def preserves_InProjBwd_InProjBwdIdeal : Prop :=
  True

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)) →
    ∃ (v0 : (c : Dev Cert.InProjBwdIdeal.nD) → Buf (Elt Ideal) ((c.tc : Thread Cert.InProjBwdIdeal.nD Cert.InProjBwdIdeal.τ).loc Cert.InProjBwdIdeal.main_v15_0)) (v1 : (c : Dev Cert.InProjBwdIdeal.nD) → Buf (Elt Ideal) ((c.tc : Thread Cert.InProjBwdIdeal.nD Cert.InProjBwdIdeal.τ).loc Cert.InProjBwdIdeal.main_v15_1)) (v2 : (c : Dev Cert.InProjBwdIdeal.nD) → Buf (Elt Ideal) ((c.tc : Thread Cert.InProjBwdIdeal.nD Cert.InProjBwdIdeal.τ).loc Cert.InProjBwdIdeal.main_v15_2)) (v3 : (c : Dev Cert.InProjBwdIdeal.nD) → Buf (Elt Ideal) ((c.tc : Thread Cert.InProjBwdIdeal.nD Cert.InProjBwdIdeal.τ).loc Cert.InProjBwdIdeal.main_v15_3)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v15_0) = v0 c
          ∧ r.2.mem ((c.tc : Thread Cert.InProjBwdIdeal.nD Cert.InProjBwdIdeal.τ).loc Cert.InProjBwdIdeal.main_v15_1) = v1 c
          ∧ r.2.mem ((c.tc : Thread Cert.InProjBwdIdeal.nD Cert.InProjBwdIdeal.τ).loc Cert.InProjBwdIdeal.main_v15_2) = v2 c
          ∧ r.2.mem ((c.tc : Thread Cert.InProjBwdIdeal.nD Cert.InProjBwdIdeal.τ).loc Cert.InProjBwdIdeal.main_v15_3) = v3 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v38) = v0 c
          ∧ r.2.mem ((c.tc : Thread Cert.InProjBwdRefIdeal.nD Cert.InProjBwdRefIdeal.τ).loc Cert.InProjBwdRefIdeal.main_v41) = v1 c
          ∧ r.2.mem ((c.tc : Thread Cert.InProjBwdRefIdeal.nD Cert.InProjBwdRefIdeal.τ).loc Cert.InProjBwdRefIdeal.main_v21) = v2 c
          ∧ r.2.mem ((c.tc : Thread Cert.InProjBwdRefIdeal.nD Cert.InProjBwdRefIdeal.τ).loc Cert.InProjBwdRefIdeal.main_v43) = v3 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)) →
    ∃ (v0 : (c : Dev Cert.InProjFwdIdeal.nD) → Buf (Elt Ideal) ((c.tc : Thread Cert.InProjFwdIdeal.nD Cert.InProjFwdIdeal.τ).loc Cert.InProjFwdIdeal.main_v3)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v3) = v0 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v0) = v0 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1))

def preserves_OutProjFwd_OutProjFwdIdeal : Prop :=
  True

def algebraic_OutProjFwdIdeal_OutProjFwdRefIdeal [hOutProjFwdIdeal : Cert.OutProjFwdIdeal.Facts] [hOutProjFwdRefIdeal : Cert.OutProjFwdRefIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg)
    (m' : (ℓ : Loc Cert.OutProjFwdRefIdeal.nD Cert.OutProjFwdRefIdeal.τ Cert.OutProjFwdRefIdeal.sig) → Buf (Elt Ideal) ℓ) (g' : Dev Cert.OutProjFwdRefIdeal.nD → PrngReg), Pre_OutProjFwdIdeal m →
    (∀ c : Dev Cert.OutProjFwdIdeal.nD,
      m' ((c.tc : Thread Cert.OutProjFwdRefIdeal.nD Cert.OutProjFwdRefIdeal.τ).loc Cert.OutProjFwdRefIdeal.main_arg0) = m ((c.tc : Thread Cert.OutProjFwdIdeal.nD Cert.OutProjFwdIdeal.τ).loc Cert.OutProjFwdIdeal.main_arg0)
      ∧ m' ((c.tc : Thread Cert.OutProjFwdRefIdeal.nD Cert.OutProjFwdRefIdeal.τ).loc Cert.OutProjFwdRefIdeal.main_arg1) = m ((c.tc : Thread Cert.OutProjFwdIdeal.nD Cert.OutProjFwdIdeal.τ).loc Cert.OutProjFwdIdeal.main_arg1)
      ∧ m' ((c.tc : Thread Cert.OutProjFwdRefIdeal.nD Cert.OutProjFwdRefIdeal.τ).loc Cert.OutProjFwdRefIdeal.main_arg2) = m ((c.tc : Thread Cert.OutProjFwdIdeal.nD Cert.OutProjFwdIdeal.τ).loc Cert.OutProjFwdIdeal.main_arg2)
      ∧ m' ((c.tc : Thread Cert.OutProjFwdRefIdeal.nD Cert.OutProjFwdRefIdeal.τ).loc Cert.OutProjFwdRefIdeal.main_arg3) = m ((c.tc : Thread Cert.OutProjFwdIdeal.nD Cert.OutProjFwdIdeal.τ).loc Cert.OutProjFwdIdeal.main_arg3)) →
    ∃ (v0 : (c : Dev Cert.OutProjFwdIdeal.nD) → Buf (Elt Ideal) ((c.tc : Thread Cert.OutProjFwdIdeal.nD Cert.OutProjFwdIdeal.τ).loc Cert.OutProjFwdIdeal.main_v2_0)) (v1 : (c : Dev Cert.OutProjFwdIdeal.nD) → Buf (Elt Ideal) ((c.tc : Thread Cert.OutProjFwdIdeal.nD Cert.OutProjFwdIdeal.τ).loc Cert.OutProjFwdIdeal.main_v2_1)),
      θ_run (Cert.OutProjFwdIdeal.defs (F := Ideal)) (onTc (τ := Cert.OutProjFwdIdeal.τ) (Cert.OutProjFwdIdeal.main (F := Ideal))) ⟨m, fun _ => 0, g⟩ (fun r => ∀ c : Dev Cert.OutProjFwdIdeal.nD,
          r.2.mem ((c.tc : Thread Cert.OutProjFwdIdeal.nD Cert.OutProjFwdIdeal.τ).loc Cert.OutProjFwdIdeal.main_v2_0) = v0 c
          ∧ r.2.mem ((c.tc : Thread Cert.OutProjFwdIdeal.nD Cert.OutProjFwdIdeal.τ).loc Cert.OutProjFwdIdeal.main_v2_1) = v1 c
          ∧ r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
          ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
          ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
          ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3))
      ∧ θ_run (Cert.OutProjFwdRefIdeal.defs (F := Ideal)) (onTc (τ := Cert.OutProjFwdRefIdeal.τ) (Cert.OutProjFwdRefIdeal.main (F := Ideal))) ⟨m', fun _ => 0, g'⟩ (fun r => ∀ c : Dev Cert.OutProjFwdRefIdeal.nD,
          r.2.mem ((c.tc : Thread Cert.OutProjFwdRefIdeal.nD Cert.OutProjFwdRefIdeal.τ).loc Cert.OutProjFwdRefIdeal.main_v1) = v0 c
          ∧ r.2.mem ((c.tc : Thread Cert.OutProjFwdRefIdeal.nD Cert.OutProjFwdRefIdeal.τ).loc Cert.OutProjFwdRefIdeal.main_v14) = v1 c
          ∧ r.2.mem ((c.tc : Thread Cert.OutProjFwdRefIdeal.nD Cert.OutProjFwdRefIdeal.τ).loc Cert.OutProjFwdRefIdeal.main_arg0) = m' ((c.tc : Thread Cert.OutProjFwdRefIdeal.nD Cert.OutProjFwdRefIdeal.τ).loc Cert.OutProjFwdRefIdeal.main_arg0)
          ∧ r.2.mem ((c.tc : Thread Cert.OutProjFwdRefIdeal.nD Cert.OutProjFwdRefIdeal.τ).loc Cert.OutProjFwdRefIdeal.main_arg1) = m' ((c.tc : Thread Cert.OutProjFwdRefIdeal.nD Cert.OutProjFwdRefIdeal.τ).loc Cert.OutProjFwdRefIdeal.main_arg1)
          ∧ r.2.mem ((c.tc : Thread Cert.OutProjFwdRefIdeal.nD Cert.OutProjFwdRefIdeal.τ).loc Cert.OutProjFwdRefIdeal.main_arg2) = m' ((c.tc : Thread Cert.OutProjFwdRefIdeal.nD Cert.OutProjFwdRefIdeal.τ).loc Cert.OutProjFwdRefIdeal.main_arg2)
          ∧ r.2.mem ((c.tc : Thread Cert.OutProjFwdRefIdeal.nD Cert.OutProjFwdRefIdeal.τ).loc Cert.OutProjFwdRefIdeal.main_arg3) = m' ((c.tc : Thread Cert.OutProjFwdRefIdeal.nD Cert.OutProjFwdRefIdeal.τ).loc Cert.OutProjFwdRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)
      ∧ m' ((c.tc : Thread Cert.AdamwSmallRefIdeal.nD Cert.AdamwSmallRefIdeal.τ).loc Cert.AdamwSmallRefIdeal.main_arg4) = m ((c.tc : Thread Cert.AdamwSmallIdeal.nD Cert.AdamwSmallIdeal.τ).loc Cert.AdamwSmallIdeal.main_arg4)
      ∧ m' ((c.tc : Thread Cert.AdamwSmallRefIdeal.nD Cert.AdamwSmallRefIdeal.τ).loc Cert.AdamwSmallRefIdeal.main_arg5) = m ((c.tc : Thread Cert.AdamwSmallIdeal.nD Cert.AdamwSmallIdeal.τ).loc Cert.AdamwSmallIdeal.main_arg5)
      ∧ m' ((c.tc : Thread Cert.AdamwSmallRefIdeal.nD Cert.AdamwSmallRefIdeal.τ).loc Cert.AdamwSmallRefIdeal.main_arg6) = m ((c.tc : Thread Cert.AdamwSmallIdeal.nD Cert.AdamwSmallIdeal.τ).loc Cert.AdamwSmallIdeal.main_arg6)
      ∧ m' ((c.tc : Thread Cert.AdamwSmallRefIdeal.nD Cert.AdamwSmallRefIdeal.τ).loc Cert.AdamwSmallRefIdeal.main_arg7) = m ((c.tc : Thread Cert.AdamwSmallIdeal.nD Cert.AdamwSmallIdeal.τ).loc Cert.AdamwSmallIdeal.main_arg7)
      ∧ m' ((c.tc : Thread Cert.AdamwSmallRefIdeal.nD Cert.AdamwSmallRefIdeal.τ).loc Cert.AdamwSmallRefIdeal.main_arg8) = m ((c.tc : Thread Cert.AdamwSmallIdeal.nD Cert.AdamwSmallIdeal.τ).loc Cert.AdamwSmallIdeal.main_arg8)
      ∧ m' ((c.tc : Thread Cert.AdamwSmallRefIdeal.nD Cert.AdamwSmallRefIdeal.τ).loc Cert.AdamwSmallRefIdeal.main_arg9) = m ((c.tc : Thread Cert.AdamwSmallIdeal.nD Cert.AdamwSmallIdeal.τ).loc Cert.AdamwSmallIdeal.main_arg9)
      ∧ m' ((c.tc : Thread Cert.AdamwSmallRefIdeal.nD Cert.AdamwSmallRefIdeal.τ).loc Cert.AdamwSmallRefIdeal.main_arg10) = m ((c.tc : Thread Cert.AdamwSmallIdeal.nD Cert.AdamwSmallIdeal.τ).loc Cert.AdamwSmallIdeal.main_arg10)
      ∧ m' ((c.tc : Thread Cert.AdamwSmallRefIdeal.nD Cert.AdamwSmallRefIdeal.τ).loc Cert.AdamwSmallRefIdeal.main_arg11) = m ((c.tc : Thread Cert.AdamwSmallIdeal.nD Cert.AdamwSmallIdeal.τ).loc Cert.AdamwSmallIdeal.main_arg11)
      ∧ m' ((c.tc : Thread Cert.AdamwSmallRefIdeal.nD Cert.AdamwSmallRefIdeal.τ).loc Cert.AdamwSmallRefIdeal.main_arg12) = m ((c.tc : Thread Cert.AdamwSmallIdeal.nD Cert.AdamwSmallIdeal.τ).loc Cert.AdamwSmallIdeal.main_arg12)
      ∧ m' ((c.tc : Thread Cert.AdamwSmallRefIdeal.nD Cert.AdamwSmallRefIdeal.τ).loc Cert.AdamwSmallRefIdeal.main_arg13) = m ((c.tc : Thread Cert.AdamwSmallIdeal.nD Cert.AdamwSmallIdeal.τ).loc Cert.AdamwSmallIdeal.main_arg13)
      ∧ m' ((c.tc : Thread Cert.AdamwSmallRefIdeal.nD Cert.AdamwSmallRefIdeal.τ).loc Cert.AdamwSmallRefIdeal.main_arg14) = m ((c.tc : Thread Cert.AdamwSmallIdeal.nD Cert.AdamwSmallIdeal.τ).loc Cert.AdamwSmallIdeal.main_arg14)
      ∧ m' ((c.tc : Thread Cert.AdamwSmallRefIdeal.nD Cert.AdamwSmallRefIdeal.τ).loc Cert.AdamwSmallRefIdeal.main_arg15) = m ((c.tc : Thread Cert.AdamwSmallIdeal.nD Cert.AdamwSmallIdeal.τ).loc Cert.AdamwSmallIdeal.main_arg15)
      ∧ m' ((c.tc : Thread Cert.AdamwSmallRefIdeal.nD Cert.AdamwSmallRefIdeal.τ).loc Cert.AdamwSmallRefIdeal.main_arg16) = m ((c.tc : Thread Cert.AdamwSmallIdeal.nD Cert.AdamwSmallIdeal.τ).loc Cert.AdamwSmallIdeal.main_arg16)
      ∧ m' ((c.tc : Thread Cert.AdamwSmallRefIdeal.nD Cert.AdamwSmallRefIdeal.τ).loc Cert.AdamwSmallRefIdeal.main_arg17) = m ((c.tc : Thread Cert.AdamwSmallIdeal.nD Cert.AdamwSmallIdeal.τ).loc Cert.AdamwSmallIdeal.main_arg17)
      ∧ m' ((c.tc : Thread Cert.AdamwSmallRefIdeal.nD Cert.AdamwSmallRefIdeal.τ).loc Cert.AdamwSmallRefIdeal.main_arg18) = m ((c.tc : Thread Cert.AdamwSmallIdeal.nD Cert.AdamwSmallIdeal.τ).loc Cert.AdamwSmallIdeal.main_arg18)
      ∧ m' ((c.tc : Thread Cert.AdamwSmallRefIdeal.nD Cert.AdamwSmallRefIdeal.τ).loc Cert.AdamwSmallRefIdeal.main_arg19) = m ((c.tc : Thread Cert.AdamwSmallIdeal.nD Cert.AdamwSmallIdeal.τ).loc Cert.AdamwSmallIdeal.main_arg19)
      ∧ m' ((c.tc : Thread Cert.AdamwSmallRefIdeal.nD Cert.AdamwSmallRefIdeal.τ).loc Cert.AdamwSmallRefIdeal.main_arg20) = m ((c.tc : Thread Cert.AdamwSmallIdeal.nD Cert.AdamwSmallIdeal.τ).loc Cert.AdamwSmallIdeal.main_arg20)
      ∧ m' ((c.tc : Thread Cert.AdamwSmallRefIdeal.nD Cert.AdamwSmallRefIdeal.τ).loc Cert.AdamwSmallRefIdeal.main_arg21) = m ((c.tc : Thread Cert.AdamwSmallIdeal.nD Cert.AdamwSmallIdeal.τ).loc Cert.AdamwSmallIdeal.main_arg21)
      ∧ m' ((c.tc : Thread Cert.AdamwSmallRefIdeal.nD Cert.AdamwSmallRefIdeal.τ).loc Cert.AdamwSmallRefIdeal.main_arg22) = m ((c.tc : Thread Cert.AdamwSmallIdeal.nD Cert.AdamwSmallIdeal.τ).loc Cert.AdamwSmallIdeal.main_arg22)
      ∧ m' ((c.tc : Thread Cert.AdamwSmallRefIdeal.nD Cert.AdamwSmallRefIdeal.τ).loc Cert.AdamwSmallRefIdeal.main_arg23) = m ((c.tc : Thread Cert.AdamwSmallIdeal.nD Cert.AdamwSmallIdeal.τ).loc Cert.AdamwSmallIdeal.main_arg23)
      ∧ m' ((c.tc : Thread Cert.AdamwSmallRefIdeal.nD Cert.AdamwSmallRefIdeal.τ).loc Cert.AdamwSmallRefIdeal.main_arg24) = m ((c.tc : Thread Cert.AdamwSmallIdeal.nD Cert.AdamwSmallIdeal.τ).loc Cert.AdamwSmallIdeal.main_arg24)
      ∧ m' ((c.tc : Thread Cert.AdamwSmallRefIdeal.nD Cert.AdamwSmallRefIdeal.τ).loc Cert.AdamwSmallRefIdeal.main_arg25) = m ((c.tc : Thread Cert.AdamwSmallIdeal.nD Cert.AdamwSmallIdeal.τ).loc Cert.AdamwSmallIdeal.main_arg25)
      ∧ m' ((c.tc : Thread Cert.AdamwSmallRefIdeal.nD Cert.AdamwSmallRefIdeal.τ).loc Cert.AdamwSmallRefIdeal.main_arg26) = m ((c.tc : Thread Cert.AdamwSmallIdeal.nD Cert.AdamwSmallIdeal.τ).loc Cert.AdamwSmallIdeal.main_arg26)
      ∧ m' ((c.tc : Thread Cert.AdamwSmallRefIdeal.nD Cert.AdamwSmallRefIdeal.τ).loc Cert.AdamwSmallRefIdeal.main_arg27) = m ((c.tc : Thread Cert.AdamwSmallIdeal.nD Cert.AdamwSmallIdeal.τ).loc Cert.AdamwSmallIdeal.main_arg27)
      ∧ m' ((c.tc : Thread Cert.AdamwSmallRefIdeal.nD Cert.AdamwSmallRefIdeal.τ).loc Cert.AdamwSmallRefIdeal.main_arg28) = m ((c.tc : Thread Cert.AdamwSmallIdeal.nD Cert.AdamwSmallIdeal.τ).loc Cert.AdamwSmallIdeal.main_arg28)
      ∧ m' ((c.tc : Thread Cert.AdamwSmallRefIdeal.nD Cert.AdamwSmallRefIdeal.τ).loc Cert.AdamwSmallRefIdeal.main_arg29) = m ((c.tc : Thread Cert.AdamwSmallIdeal.nD Cert.AdamwSmallIdeal.τ).loc Cert.AdamwSmallIdeal.main_arg29)
      ∧ m' ((c.tc : Thread Cert.AdamwSmallRefIdeal.nD Cert.AdamwSmallRefIdeal.τ).loc Cert.AdamwSmallRefIdeal.main_arg30) = m ((c.tc : Thread Cert.AdamwSmallIdeal.nD Cert.AdamwSmallIdeal.τ).loc Cert.AdamwSmallIdeal.main_arg30)
      ∧ m' ((c.tc : Thread Cert.AdamwSmallRefIdeal.nD Cert.AdamwSmallRefIdeal.τ).loc Cert.AdamwSmallRefIdeal.main_arg31) = m ((c.tc : Thread Cert.AdamwSmallIdeal.nD Cert.AdamwSmallIdeal.τ).loc Cert.AdamwSmallIdeal.main_arg31)
      ∧ m' ((c.tc : Thread Cert.AdamwSmallRefIdeal.nD Cert.AdamwSmallRefIdeal.τ).loc Cert.AdamwSmallRefIdeal.main_arg32) = m ((c.tc : Thread Cert.AdamwSmallIdeal.nD Cert.AdamwSmallIdeal.τ).loc Cert.AdamwSmallIdeal.main_arg32)
      ∧ m' ((c.tc : Thread Cert.AdamwSmallRefIdeal.nD Cert.AdamwSmallRefIdeal.τ).loc Cert.AdamwSmallRefIdeal.main_arg33) = m ((c.tc : Thread Cert.AdamwSmallIdeal.nD Cert.AdamwSmallIdeal.τ).loc Cert.AdamwSmallIdeal.main_arg33)
      ∧ m' ((c.tc : Thread Cert.AdamwSmallRefIdeal.nD Cert.AdamwSmallRefIdeal.τ).loc Cert.AdamwSmallRefIdeal.main_arg34) = m ((c.tc : Thread Cert.AdamwSmallIdeal.nD Cert.AdamwSmallIdeal.τ).loc Cert.AdamwSmallIdeal.main_arg34)
      ∧ m' ((c.tc : Thread Cert.AdamwSmallRefIdeal.nD Cert.AdamwSmallRefIdeal.τ).loc Cert.AdamwSmallRefIdeal.main_arg35) = m ((c.tc : Thread Cert.AdamwSmallIdeal.nD Cert.AdamwSmallIdeal.τ).loc Cert.AdamwSmallIdeal.main_arg35)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)) (v4 : (c : Dev Cert.AdamwSmallIdeal.nD) → Buf (Elt Ideal) ((c.tc : Thread Cert.AdamwSmallIdeal.nD Cert.AdamwSmallIdeal.τ).loc Cert.AdamwSmallIdeal.main_v0_4)) (v5 : (c : Dev Cert.AdamwSmallIdeal.nD) → Buf (Elt Ideal) ((c.tc : Thread Cert.AdamwSmallIdeal.nD Cert.AdamwSmallIdeal.τ).loc Cert.AdamwSmallIdeal.main_v0_5)) (v6 : (c : Dev Cert.AdamwSmallIdeal.nD) → Buf (Elt Ideal) ((c.tc : Thread Cert.AdamwSmallIdeal.nD Cert.AdamwSmallIdeal.τ).loc Cert.AdamwSmallIdeal.main_v0_6)) (v7 : (c : Dev Cert.AdamwSmallIdeal.nD) → Buf (Elt Ideal) ((c.tc : Thread Cert.AdamwSmallIdeal.nD Cert.AdamwSmallIdeal.τ).loc Cert.AdamwSmallIdeal.main_v0_7)) (v8 : (c : Dev Cert.AdamwSmallIdeal.nD) → Buf (Elt Ideal) ((c.tc : Thread Cert.AdamwSmallIdeal.nD Cert.AdamwSmallIdeal.τ).loc Cert.AdamwSmallIdeal.main_v0_8)) (v9 : (c : Dev Cert.AdamwSmallIdeal.nD) → Buf (Elt Ideal) ((c.tc : Thread Cert.AdamwSmallIdeal.nD Cert.AdamwSmallIdeal.τ).loc Cert.AdamwSmallIdeal.main_v0_9)) (v10 : (c : Dev Cert.AdamwSmallIdeal.nD) → Buf (Elt Ideal) ((c.tc : Thread Cert.AdamwSmallIdeal.nD Cert.AdamwSmallIdeal.τ).loc Cert.AdamwSmallIdeal.main_v0_10)) (v11 : (c : Dev Cert.AdamwSmallIdeal.nD) → Buf (Elt Ideal) ((c.tc : Thread Cert.AdamwSmallIdeal.nD Cert.AdamwSmallIdeal.τ).loc Cert.AdamwSmallIdeal.main_v0_11)) (v12 : (c : Dev Cert.AdamwSmallIdeal.nD) → Buf (Elt Ideal) ((c.tc : Thread Cert.AdamwSmallIdeal.nD Cert.AdamwSmallIdeal.τ).loc Cert.AdamwSmallIdeal.main_v0_12)) (v13 : (c : Dev Cert.AdamwSmallIdeal.nD) → Buf (Elt Ideal) ((c.tc : Thread Cert.AdamwSmallIdeal.nD Cert.AdamwSmallIdeal.τ).loc Cert.AdamwSmallIdeal.main_v0_13)) (v14 : (c : Dev Cert.AdamwSmallIdeal.nD) → Buf (Elt Ideal) ((c.tc : Thread Cert.AdamwSmallIdeal.nD Cert.AdamwSmallIdeal.τ).loc Cert.AdamwSmallIdeal.main_v0_14)) (v15 : (c : Dev Cert.AdamwSmallIdeal.nD) → Buf (Elt Ideal) ((c.tc : Thread Cert.AdamwSmallIdeal.nD Cert.AdamwSmallIdeal.τ).loc Cert.AdamwSmallIdeal.main_v0_15)) (v16 : (c : Dev Cert.AdamwSmallIdeal.nD) → Buf (Elt Ideal) ((c.tc : Thread Cert.AdamwSmallIdeal.nD Cert.AdamwSmallIdeal.τ).loc Cert.AdamwSmallIdeal.main_v0_16)) (v17 : (c : Dev Cert.AdamwSmallIdeal.nD) → Buf (Elt Ideal) ((c.tc : Thread Cert.AdamwSmallIdeal.nD Cert.AdamwSmallIdeal.τ).loc Cert.AdamwSmallIdeal.main_v0_17)) (v18 : (c : Dev Cert.AdamwSmallIdeal.nD) → Buf (Elt Ideal) ((c.tc : Thread Cert.AdamwSmallIdeal.nD Cert.AdamwSmallIdeal.τ).loc Cert.AdamwSmallIdeal.main_v0_18)) (v19 : (c : Dev Cert.AdamwSmallIdeal.nD) → Buf (Elt Ideal) ((c.tc : Thread Cert.AdamwSmallIdeal.nD Cert.AdamwSmallIdeal.τ).loc Cert.AdamwSmallIdeal.main_v0_19)) (v20 : (c : Dev Cert.AdamwSmallIdeal.nD) → Buf (Elt Ideal) ((c.tc : Thread Cert.AdamwSmallIdeal.nD Cert.AdamwSmallIdeal.τ).loc Cert.AdamwSmallIdeal.main_v0_20)) (v21 : (c : Dev Cert.AdamwSmallIdeal.nD) → Buf (Elt Ideal) ((c.tc : Thread Cert.AdamwSmallIdeal.nD Cert.AdamwSmallIdeal.τ).loc Cert.AdamwSmallIdeal.main_v0_21)) (v22 : (c : Dev Cert.AdamwSmallIdeal.nD) → Buf (Elt Ideal) ((c.tc : Thread Cert.AdamwSmallIdeal.nD Cert.AdamwSmallIdeal.τ).loc Cert.AdamwSmallIdeal.main_v0_22)) (v23 : (c : Dev Cert.AdamwSmallIdeal.nD) → Buf (Elt Ideal) ((c.tc : Thread Cert.AdamwSmallIdeal.nD Cert.AdamwSmallIdeal.τ).loc Cert.AdamwSmallIdeal.main_v0_23)) (v24 : (c : Dev Cert.AdamwSmallIdeal.nD) → Buf (Elt Ideal) ((c.tc : Thread Cert.AdamwSmallIdeal.nD Cert.AdamwSmallIdeal.τ).loc Cert.AdamwSmallIdeal.main_v0_24)) (v25 : (c : Dev Cert.AdamwSmallIdeal.nD) → Buf (Elt Ideal) ((c.tc : Thread Cert.AdamwSmallIdeal.nD Cert.AdamwSmallIdeal.τ).loc Cert.AdamwSmallIdeal.main_v0_25)) (v26 : (c : Dev Cert.AdamwSmallIdeal.nD) → Buf (Elt Ideal) ((c.tc : Thread Cert.AdamwSmallIdeal.nD Cert.AdamwSmallIdeal.τ).loc Cert.AdamwSmallIdeal.main_v0_26)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_v0_4) = v4 c
          ∧ r.2.mem ((c.tc : Thread Cert.AdamwSmallIdeal.nD Cert.AdamwSmallIdeal.τ).loc Cert.AdamwSmallIdeal.main_v0_5) = v5 c
          ∧ r.2.mem ((c.tc : Thread Cert.AdamwSmallIdeal.nD Cert.AdamwSmallIdeal.τ).loc Cert.AdamwSmallIdeal.main_v0_6) = v6 c
          ∧ r.2.mem ((c.tc : Thread Cert.AdamwSmallIdeal.nD Cert.AdamwSmallIdeal.τ).loc Cert.AdamwSmallIdeal.main_v0_7) = v7 c
          ∧ r.2.mem ((c.tc : Thread Cert.AdamwSmallIdeal.nD Cert.AdamwSmallIdeal.τ).loc Cert.AdamwSmallIdeal.main_v0_8) = v8 c
          ∧ r.2.mem ((c.tc : Thread Cert.AdamwSmallIdeal.nD Cert.AdamwSmallIdeal.τ).loc Cert.AdamwSmallIdeal.main_v0_9) = v9 c
          ∧ r.2.mem ((c.tc : Thread Cert.AdamwSmallIdeal.nD Cert.AdamwSmallIdeal.τ).loc Cert.AdamwSmallIdeal.main_v0_10) = v10 c
          ∧ r.2.mem ((c.tc : Thread Cert.AdamwSmallIdeal.nD Cert.AdamwSmallIdeal.τ).loc Cert.AdamwSmallIdeal.main_v0_11) = v11 c
          ∧ r.2.mem ((c.tc : Thread Cert.AdamwSmallIdeal.nD Cert.AdamwSmallIdeal.τ).loc Cert.AdamwSmallIdeal.main_v0_12) = v12 c
          ∧ r.2.mem ((c.tc : Thread Cert.AdamwSmallIdeal.nD Cert.AdamwSmallIdeal.τ).loc Cert.AdamwSmallIdeal.main_v0_13) = v13 c
          ∧ r.2.mem ((c.tc : Thread Cert.AdamwSmallIdeal.nD Cert.AdamwSmallIdeal.τ).loc Cert.AdamwSmallIdeal.main_v0_14) = v14 c
          ∧ r.2.mem ((c.tc : Thread Cert.AdamwSmallIdeal.nD Cert.AdamwSmallIdeal.τ).loc Cert.AdamwSmallIdeal.main_v0_15) = v15 c
          ∧ r.2.mem ((c.tc : Thread Cert.AdamwSmallIdeal.nD Cert.AdamwSmallIdeal.τ).loc Cert.AdamwSmallIdeal.main_v0_16) = v16 c
          ∧ r.2.mem ((c.tc : Thread Cert.AdamwSmallIdeal.nD Cert.AdamwSmallIdeal.τ).loc Cert.AdamwSmallIdeal.main_v0_17) = v17 c
          ∧ r.2.mem ((c.tc : Thread Cert.AdamwSmallIdeal.nD Cert.AdamwSmallIdeal.τ).loc Cert.AdamwSmallIdeal.main_v0_18) = v18 c
          ∧ r.2.mem ((c.tc : Thread Cert.AdamwSmallIdeal.nD Cert.AdamwSmallIdeal.τ).loc Cert.AdamwSmallIdeal.main_v0_19) = v19 c
          ∧ r.2.mem ((c.tc : Thread Cert.AdamwSmallIdeal.nD Cert.AdamwSmallIdeal.τ).loc Cert.AdamwSmallIdeal.main_v0_20) = v20 c
          ∧ r.2.mem ((c.tc : Thread Cert.AdamwSmallIdeal.nD Cert.AdamwSmallIdeal.τ).loc Cert.AdamwSmallIdeal.main_v0_21) = v21 c
          ∧ r.2.mem ((c.tc : Thread Cert.AdamwSmallIdeal.nD Cert.AdamwSmallIdeal.τ).loc Cert.AdamwSmallIdeal.main_v0_22) = v22 c
          ∧ r.2.mem ((c.tc : Thread Cert.AdamwSmallIdeal.nD Cert.AdamwSmallIdeal.τ).loc Cert.AdamwSmallIdeal.main_v0_23) = v23 c
          ∧ r.2.mem ((c.tc : Thread Cert.AdamwSmallIdeal.nD Cert.AdamwSmallIdeal.τ).loc Cert.AdamwSmallIdeal.main_v0_24) = v24 c
          ∧ r.2.mem ((c.tc : Thread Cert.AdamwSmallIdeal.nD Cert.AdamwSmallIdeal.τ).loc Cert.AdamwSmallIdeal.main_v0_25) = v25 c
          ∧ r.2.mem ((c.tc : Thread Cert.AdamwSmallIdeal.nD Cert.AdamwSmallIdeal.τ).loc Cert.AdamwSmallIdeal.main_v0_26) = v26 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
          ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
          ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
          ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
          ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
          ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
          ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
          ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
          ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11)
          ∧ r.2.mem ((c.tc : Thread Cert.AdamwSmallIdeal.nD Cert.AdamwSmallIdeal.τ).loc Cert.AdamwSmallIdeal.main_arg12) = m ((c.tc : Thread Cert.AdamwSmallIdeal.nD Cert.AdamwSmallIdeal.τ).loc Cert.AdamwSmallIdeal.main_arg12)
          ∧ r.2.mem ((c.tc : Thread Cert.AdamwSmallIdeal.nD Cert.AdamwSmallIdeal.τ).loc Cert.AdamwSmallIdeal.main_arg13) = m ((c.tc : Thread Cert.AdamwSmallIdeal.nD Cert.AdamwSmallIdeal.τ).loc Cert.AdamwSmallIdeal.main_arg13)
          ∧ r.2.mem ((c.tc : Thread Cert.AdamwSmallIdeal.nD Cert.AdamwSmallIdeal.τ).loc Cert.AdamwSmallIdeal.main_arg14) = m ((c.tc : Thread Cert.AdamwSmallIdeal.nD Cert.AdamwSmallIdeal.τ).loc Cert.AdamwSmallIdeal.main_arg14)
          ∧ r.2.mem ((c.tc : Thread Cert.AdamwSmallIdeal.nD Cert.AdamwSmallIdeal.τ).loc Cert.AdamwSmallIdeal.main_arg15) = m ((c.tc : Thread Cert.AdamwSmallIdeal.nD Cert.AdamwSmallIdeal.τ).loc Cert.AdamwSmallIdeal.main_arg15)
          ∧ r.2.mem ((c.tc : Thread Cert.AdamwSmallIdeal.nD Cert.AdamwSmallIdeal.τ).loc Cert.AdamwSmallIdeal.main_arg16) = m ((c.tc : Thread Cert.AdamwSmallIdeal.nD Cert.AdamwSmallIdeal.τ).loc Cert.AdamwSmallIdeal.main_arg16)
          ∧ r.2.mem ((c.tc : Thread Cert.AdamwSmallIdeal.nD Cert.AdamwSmallIdeal.τ).loc Cert.AdamwSmallIdeal.main_arg17) = m ((c.tc : Thread Cert.AdamwSmallIdeal.nD Cert.AdamwSmallIdeal.τ).loc Cert.AdamwSmallIdeal.main_arg17)
          ∧ r.2.mem ((c.tc : Thread Cert.AdamwSmallIdeal.nD Cert.AdamwSmallIdeal.τ).loc Cert.AdamwSmallIdeal.main_arg18) = m ((c.tc : Thread Cert.AdamwSmallIdeal.nD Cert.AdamwSmallIdeal.τ).loc Cert.AdamwSmallIdeal.main_arg18)
          ∧ r.2.mem ((c.tc : Thread Cert.AdamwSmallIdeal.nD Cert.AdamwSmallIdeal.τ).loc Cert.AdamwSmallIdeal.main_arg19) = m ((c.tc : Thread Cert.AdamwSmallIdeal.nD Cert.AdamwSmallIdeal.τ).loc Cert.AdamwSmallIdeal.main_arg19)
          ∧ r.2.mem ((c.tc : Thread Cert.AdamwSmallIdeal.nD Cert.AdamwSmallIdeal.τ).loc Cert.AdamwSmallIdeal.main_arg20) = m ((c.tc : Thread Cert.AdamwSmallIdeal.nD Cert.AdamwSmallIdeal.τ).loc Cert.AdamwSmallIdeal.main_arg20)
          ∧ r.2.mem ((c.tc : Thread Cert.AdamwSmallIdeal.nD Cert.AdamwSmallIdeal.τ).loc Cert.AdamwSmallIdeal.main_arg21) = m ((c.tc : Thread Cert.AdamwSmallIdeal.nD Cert.AdamwSmallIdeal.τ).loc Cert.AdamwSmallIdeal.main_arg21)
          ∧ r.2.mem ((c.tc : Thread Cert.AdamwSmallIdeal.nD Cert.AdamwSmallIdeal.τ).loc Cert.AdamwSmallIdeal.main_arg22) = m ((c.tc : Thread Cert.AdamwSmallIdeal.nD Cert.AdamwSmallIdeal.τ).loc Cert.AdamwSmallIdeal.main_arg22)
          ∧ r.2.mem ((c.tc : Thread Cert.AdamwSmallIdeal.nD Cert.AdamwSmallIdeal.τ).loc Cert.AdamwSmallIdeal.main_arg23) = m ((c.tc : Thread Cert.AdamwSmallIdeal.nD Cert.AdamwSmallIdeal.τ).loc Cert.AdamwSmallIdeal.main_arg23)
          ∧ r.2.mem ((c.tc : Thread Cert.AdamwSmallIdeal.nD Cert.AdamwSmallIdeal.τ).loc Cert.AdamwSmallIdeal.main_arg24) = m ((c.tc : Thread Cert.AdamwSmallIdeal.nD Cert.AdamwSmallIdeal.τ).loc Cert.AdamwSmallIdeal.main_arg24)
          ∧ r.2.mem ((c.tc : Thread Cert.AdamwSmallIdeal.nD Cert.AdamwSmallIdeal.τ).loc Cert.AdamwSmallIdeal.main_arg25) = m ((c.tc : Thread Cert.AdamwSmallIdeal.nD Cert.AdamwSmallIdeal.τ).loc Cert.AdamwSmallIdeal.main_arg25)
          ∧ r.2.mem ((c.tc : Thread Cert.AdamwSmallIdeal.nD Cert.AdamwSmallIdeal.τ).loc Cert.AdamwSmallIdeal.main_arg26) = m ((c.tc : Thread Cert.AdamwSmallIdeal.nD Cert.AdamwSmallIdeal.τ).loc Cert.AdamwSmallIdeal.main_arg26)
          ∧ r.2.mem ((c.tc : Thread Cert.AdamwSmallIdeal.nD Cert.AdamwSmallIdeal.τ).loc Cert.AdamwSmallIdeal.main_arg27) = m ((c.tc : Thread Cert.AdamwSmallIdeal.nD Cert.AdamwSmallIdeal.τ).loc Cert.AdamwSmallIdeal.main_arg27)
          ∧ r.2.mem ((c.tc : Thread Cert.AdamwSmallIdeal.nD Cert.AdamwSmallIdeal.τ).loc Cert.AdamwSmallIdeal.main_arg28) = m ((c.tc : Thread Cert.AdamwSmallIdeal.nD Cert.AdamwSmallIdeal.τ).loc Cert.AdamwSmallIdeal.main_arg28)
          ∧ r.2.mem ((c.tc : Thread Cert.AdamwSmallIdeal.nD Cert.AdamwSmallIdeal.τ).loc Cert.AdamwSmallIdeal.main_arg29) = m ((c.tc : Thread Cert.AdamwSmallIdeal.nD Cert.AdamwSmallIdeal.τ).loc Cert.AdamwSmallIdeal.main_arg29)
          ∧ r.2.mem ((c.tc : Thread Cert.AdamwSmallIdeal.nD Cert.AdamwSmallIdeal.τ).loc Cert.AdamwSmallIdeal.main_arg30) = m ((c.tc : Thread Cert.AdamwSmallIdeal.nD Cert.AdamwSmallIdeal.τ).loc Cert.AdamwSmallIdeal.main_arg30)
          ∧ r.2.mem ((c.tc : Thread Cert.AdamwSmallIdeal.nD Cert.AdamwSmallIdeal.τ).loc Cert.AdamwSmallIdeal.main_arg31) = m ((c.tc : Thread Cert.AdamwSmallIdeal.nD Cert.AdamwSmallIdeal.τ).loc Cert.AdamwSmallIdeal.main_arg31)
          ∧ r.2.mem ((c.tc : Thread Cert.AdamwSmallIdeal.nD Cert.AdamwSmallIdeal.τ).loc Cert.AdamwSmallIdeal.main_arg32) = m ((c.tc : Thread Cert.AdamwSmallIdeal.nD Cert.AdamwSmallIdeal.τ).loc Cert.AdamwSmallIdeal.main_arg32)
          ∧ r.2.mem ((c.tc : Thread Cert.AdamwSmallIdeal.nD Cert.AdamwSmallIdeal.τ).loc Cert.AdamwSmallIdeal.main_arg33) = m ((c.tc : Thread Cert.AdamwSmallIdeal.nD Cert.AdamwSmallIdeal.τ).loc Cert.AdamwSmallIdeal.main_arg33)
          ∧ r.2.mem ((c.tc : Thread Cert.AdamwSmallIdeal.nD Cert.AdamwSmallIdeal.τ).loc Cert.AdamwSmallIdeal.main_arg34) = m ((c.tc : Thread Cert.AdamwSmallIdeal.nD Cert.AdamwSmallIdeal.τ).loc Cert.AdamwSmallIdeal.main_arg34)
          ∧ r.2.mem ((c.tc : Thread Cert.AdamwSmallIdeal.nD Cert.AdamwSmallIdeal.τ).loc Cert.AdamwSmallIdeal.main_arg35) = m ((c.tc : Thread Cert.AdamwSmallIdeal.nD Cert.AdamwSmallIdeal.τ).loc Cert.AdamwSmallIdeal.main_arg35))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v47) = v1 c
          ∧ r.2.mem ((c.tc : Thread Cert.AdamwSmallRefIdeal.nD Cert.AdamwSmallRefIdeal.τ).loc Cert.AdamwSmallRefIdeal.main_v71) = v2 c
          ∧ r.2.mem ((c.tc : Thread Cert.AdamwSmallRefIdeal.nD Cert.AdamwSmallRefIdeal.τ).loc Cert.AdamwSmallRefIdeal.main_v95) = v3 c
          ∧ r.2.mem ((c.tc : Thread Cert.AdamwSmallRefIdeal.nD Cert.AdamwSmallRefIdeal.τ).loc Cert.AdamwSmallRefIdeal.main_v119) = v4 c
          ∧ r.2.mem ((c.tc : Thread Cert.AdamwSmallRefIdeal.nD Cert.AdamwSmallRefIdeal.τ).loc Cert.AdamwSmallRefIdeal.main_v143) = v5 c
          ∧ r.2.mem ((c.tc : Thread Cert.AdamwSmallRefIdeal.nD Cert.AdamwSmallRefIdeal.τ).loc Cert.AdamwSmallRefIdeal.main_v167) = v6 c
          ∧ r.2.mem ((c.tc : Thread Cert.AdamwSmallRefIdeal.nD Cert.AdamwSmallRefIdeal.τ).loc Cert.AdamwSmallRefIdeal.main_v191) = v7 c
          ∧ r.2.mem ((c.tc : Thread Cert.AdamwSmallRefIdeal.nD Cert.AdamwSmallRefIdeal.τ).loc Cert.AdamwSmallRefIdeal.main_v215) = v8 c
          ∧ r.2.mem ((c.tc : Thread Cert.AdamwSmallRefIdeal.nD Cert.AdamwSmallRefIdeal.τ).loc Cert.AdamwSmallRefIdeal.main_v4) = v9 c
          ∧ r.2.mem ((c.tc : Thread Cert.AdamwSmallRefIdeal.nD Cert.AdamwSmallRefIdeal.τ).loc Cert.AdamwSmallRefIdeal.main_v28) = v10 c
          ∧ r.2.mem ((c.tc : Thread Cert.AdamwSmallRefIdeal.nD Cert.AdamwSmallRefIdeal.τ).loc Cert.AdamwSmallRefIdeal.main_v52) = v11 c
          ∧ r.2.mem ((c.tc : Thread Cert.AdamwSmallRefIdeal.nD Cert.AdamwSmallRefIdeal.τ).loc Cert.AdamwSmallRefIdeal.main_v76) = v12 c
          ∧ r.2.mem ((c.tc : Thread Cert.AdamwSmallRefIdeal.nD Cert.AdamwSmallRefIdeal.τ).loc Cert.AdamwSmallRefIdeal.main_v100) = v13 c
          ∧ r.2.mem ((c.tc : Thread Cert.AdamwSmallRefIdeal.nD Cert.AdamwSmallRefIdeal.τ).loc Cert.AdamwSmallRefIdeal.main_v124) = v14 c
          ∧ r.2.mem ((c.tc : Thread Cert.AdamwSmallRefIdeal.nD Cert.AdamwSmallRefIdeal.τ).loc Cert.AdamwSmallRefIdeal.main_v148) = v15 c
          ∧ r.2.mem ((c.tc : Thread Cert.AdamwSmallRefIdeal.nD Cert.AdamwSmallRefIdeal.τ).loc Cert.AdamwSmallRefIdeal.main_v172) = v16 c
          ∧ r.2.mem ((c.tc : Thread Cert.AdamwSmallRefIdeal.nD Cert.AdamwSmallRefIdeal.τ).loc Cert.AdamwSmallRefIdeal.main_v196) = v17 c
          ∧ r.2.mem ((c.tc : Thread Cert.AdamwSmallRefIdeal.nD Cert.AdamwSmallRefIdeal.τ).loc Cert.AdamwSmallRefIdeal.main_v10) = v18 c
          ∧ r.2.mem ((c.tc : Thread Cert.AdamwSmallRefIdeal.nD Cert.AdamwSmallRefIdeal.τ).loc Cert.AdamwSmallRefIdeal.main_v34) = v19 c
          ∧ r.2.mem ((c.tc : Thread Cert.AdamwSmallRefIdeal.nD Cert.AdamwSmallRefIdeal.τ).loc Cert.AdamwSmallRefIdeal.main_v58) = v20 c
          ∧ r.2.mem ((c.tc : Thread Cert.AdamwSmallRefIdeal.nD Cert.AdamwSmallRefIdeal.τ).loc Cert.AdamwSmallRefIdeal.main_v82) = v21 c
          ∧ r.2.mem ((c.tc : Thread Cert.AdamwSmallRefIdeal.nD Cert.AdamwSmallRefIdeal.τ).loc Cert.AdamwSmallRefIdeal.main_v106) = v22 c
          ∧ r.2.mem ((c.tc : Thread Cert.AdamwSmallRefIdeal.nD Cert.AdamwSmallRefIdeal.τ).loc Cert.AdamwSmallRefIdeal.main_v130) = v23 c
          ∧ r.2.mem ((c.tc : Thread Cert.AdamwSmallRefIdeal.nD Cert.AdamwSmallRefIdeal.τ).loc Cert.AdamwSmallRefIdeal.main_v154) = v24 c
          ∧ r.2.mem ((c.tc : Thread Cert.AdamwSmallRefIdeal.nD Cert.AdamwSmallRefIdeal.τ).loc Cert.AdamwSmallRefIdeal.main_v178) = v25 c
          ∧ r.2.mem ((c.tc : Thread Cert.AdamwSmallRefIdeal.nD Cert.AdamwSmallRefIdeal.τ).loc Cert.AdamwSmallRefIdeal.main_v202) = v26 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3)
          ∧ r.2.mem ((c.tc : Thread Cert.AdamwSmallRefIdeal.nD Cert.AdamwSmallRefIdeal.τ).loc Cert.AdamwSmallRefIdeal.main_arg4) = m' ((c.tc : Thread Cert.AdamwSmallRefIdeal.nD Cert.AdamwSmallRefIdeal.τ).loc Cert.AdamwSmallRefIdeal.main_arg4)
          ∧ r.2.mem ((c.tc : Thread Cert.AdamwSmallRefIdeal.nD Cert.AdamwSmallRefIdeal.τ).loc Cert.AdamwSmallRefIdeal.main_arg5) = m' ((c.tc : Thread Cert.AdamwSmallRefIdeal.nD Cert.AdamwSmallRefIdeal.τ).loc Cert.AdamwSmallRefIdeal.main_arg5)
          ∧ r.2.mem ((c.tc : Thread Cert.AdamwSmallRefIdeal.nD Cert.AdamwSmallRefIdeal.τ).loc Cert.AdamwSmallRefIdeal.main_arg6) = m' ((c.tc : Thread Cert.AdamwSmallRefIdeal.nD Cert.AdamwSmallRefIdeal.τ).loc Cert.AdamwSmallRefIdeal.main_arg6)
          ∧ r.2.mem ((c.tc : Thread Cert.AdamwSmallRefIdeal.nD Cert.AdamwSmallRefIdeal.τ).loc Cert.AdamwSmallRefIdeal.main_arg7) = m' ((c.tc : Thread Cert.AdamwSmallRefIdeal.nD Cert.AdamwSmallRefIdeal.τ).loc Cert.AdamwSmallRefIdeal.main_arg7)
          ∧ r.2.mem ((c.tc : Thread Cert.AdamwSmallRefIdeal.nD Cert.AdamwSmallRefIdeal.τ).loc Cert.AdamwSmallRefIdeal.main_arg8) = m' ((c.tc : Thread Cert.AdamwSmallRefIdeal.nD Cert.AdamwSmallRefIdeal.τ).loc Cert.AdamwSmallRefIdeal.main_arg8)
          ∧ r.2.mem ((c.tc : Thread Cert.AdamwSmallRefIdeal.nD Cert.AdamwSmallRefIdeal.τ).loc Cert.AdamwSmallRefIdeal.main_arg9) = m' ((c.tc : Thread Cert.AdamwSmallRefIdeal.nD Cert.AdamwSmallRefIdeal.τ).loc Cert.AdamwSmallRefIdeal.main_arg9)
          ∧ r.2.mem ((c.tc : Thread Cert.AdamwSmallRefIdeal.nD Cert.AdamwSmallRefIdeal.τ).loc Cert.AdamwSmallRefIdeal.main_arg10) = m' ((c.tc : Thread Cert.AdamwSmallRefIdeal.nD Cert.AdamwSmallRefIdeal.τ).loc Cert.AdamwSmallRefIdeal.main_arg10)
          ∧ r.2.mem ((c.tc : Thread Cert.AdamwSmallRefIdeal.nD Cert.AdamwSmallRefIdeal.τ).loc Cert.AdamwSmallRefIdeal.main_arg11) = m' ((c.tc : Thread Cert.AdamwSmallRefIdeal.nD Cert.AdamwSmallRefIdeal.τ).loc Cert.AdamwSmallRefIdeal.main_arg11)
          ∧ r.2.mem ((c.tc : Thread Cert.AdamwSmallRefIdeal.nD Cert.AdamwSmallRefIdeal.τ).loc Cert.AdamwSmallRefIdeal.main_arg12) = m' ((c.tc : Thread Cert.AdamwSmallRefIdeal.nD Cert.AdamwSmallRefIdeal.τ).loc Cert.AdamwSmallRefIdeal.main_arg12)
          ∧ r.2.mem ((c.tc : Thread Cert.AdamwSmallRefIdeal.nD Cert.AdamwSmallRefIdeal.τ).loc Cert.AdamwSmallRefIdeal.main_arg13) = m' ((c.tc : Thread Cert.AdamwSmallRefIdeal.nD Cert.AdamwSmallRefIdeal.τ).loc Cert.AdamwSmallRefIdeal.main_arg13)
          ∧ r.2.mem ((c.tc : Thread Cert.AdamwSmallRefIdeal.nD Cert.AdamwSmallRefIdeal.τ).loc Cert.AdamwSmallRefIdeal.main_arg14) = m' ((c.tc : Thread Cert.AdamwSmallRefIdeal.nD Cert.AdamwSmallRefIdeal.τ).loc Cert.AdamwSmallRefIdeal.main_arg14)
          ∧ r.2.mem ((c.tc : Thread Cert.AdamwSmallRefIdeal.nD Cert.AdamwSmallRefIdeal.τ).loc Cert.AdamwSmallRefIdeal.main_arg15) = m' ((c.tc : Thread Cert.AdamwSmallRefIdeal.nD Cert.AdamwSmallRefIdeal.τ).loc Cert.AdamwSmallRefIdeal.main_arg15)
          ∧ r.2.mem ((c.tc : Thread Cert.AdamwSmallRefIdeal.nD Cert.AdamwSmallRefIdeal.τ).loc Cert.AdamwSmallRefIdeal.main_arg16) = m' ((c.tc : Thread Cert.AdamwSmallRefIdeal.nD Cert.AdamwSmallRefIdeal.τ).loc Cert.AdamwSmallRefIdeal.main_arg16)
          ∧ r.2.mem ((c.tc : Thread Cert.AdamwSmallRefIdeal.nD Cert.AdamwSmallRefIdeal.τ).loc Cert.AdamwSmallRefIdeal.main_arg17) = m' ((c.tc : Thread Cert.AdamwSmallRefIdeal.nD Cert.AdamwSmallRefIdeal.τ).loc Cert.AdamwSmallRefIdeal.main_arg17)
          ∧ r.2.mem ((c.tc : Thread Cert.AdamwSmallRefIdeal.nD Cert.AdamwSmallRefIdeal.τ).loc Cert.AdamwSmallRefIdeal.main_arg18) = m' ((c.tc : Thread Cert.AdamwSmallRefIdeal.nD Cert.AdamwSmallRefIdeal.τ).loc Cert.AdamwSmallRefIdeal.main_arg18)
          ∧ r.2.mem ((c.tc : Thread Cert.AdamwSmallRefIdeal.nD Cert.AdamwSmallRefIdeal.τ).loc Cert.AdamwSmallRefIdeal.main_arg19) = m' ((c.tc : Thread Cert.AdamwSmallRefIdeal.nD Cert.AdamwSmallRefIdeal.τ).loc Cert.AdamwSmallRefIdeal.main_arg19)
          ∧ r.2.mem ((c.tc : Thread Cert.AdamwSmallRefIdeal.nD Cert.AdamwSmallRefIdeal.τ).loc Cert.AdamwSmallRefIdeal.main_arg20) = m' ((c.tc : Thread Cert.AdamwSmallRefIdeal.nD Cert.AdamwSmallRefIdeal.τ).loc Cert.AdamwSmallRefIdeal.main_arg20)
          ∧ r.2.mem ((c.tc : Thread Cert.AdamwSmallRefIdeal.nD Cert.AdamwSmallRefIdeal.τ).loc Cert.AdamwSmallRefIdeal.main_arg21) = m' ((c.tc : Thread Cert.AdamwSmallRefIdeal.nD Cert.AdamwSmallRefIdeal.τ).loc Cert.AdamwSmallRefIdeal.main_arg21)
          ∧ r.2.mem ((c.tc : Thread Cert.AdamwSmallRefIdeal.nD Cert.AdamwSmallRefIdeal.τ).loc Cert.AdamwSmallRefIdeal.main_arg22) = m' ((c.tc : Thread Cert.AdamwSmallRefIdeal.nD Cert.AdamwSmallRefIdeal.τ).loc Cert.AdamwSmallRefIdeal.main_arg22)
          ∧ r.2.mem ((c.tc : Thread Cert.AdamwSmallRefIdeal.nD Cert.AdamwSmallRefIdeal.τ).loc Cert.AdamwSmallRefIdeal.main_arg23) = m' ((c.tc : Thread Cert.AdamwSmallRefIdeal.nD Cert.AdamwSmallRefIdeal.τ).loc Cert.AdamwSmallRefIdeal.main_arg23)
          ∧ r.2.mem ((c.tc : Thread Cert.AdamwSmallRefIdeal.nD Cert.AdamwSmallRefIdeal.τ).loc Cert.AdamwSmallRefIdeal.main_arg24) = m' ((c.tc : Thread Cert.AdamwSmallRefIdeal.nD Cert.AdamwSmallRefIdeal.τ).loc Cert.AdamwSmallRefIdeal.main_arg24)
          ∧ r.2.mem ((c.tc : Thread Cert.AdamwSmallRefIdeal.nD Cert.AdamwSmallRefIdeal.τ).loc Cert.AdamwSmallRefIdeal.main_arg25) = m' ((c.tc : Thread Cert.AdamwSmallRefIdeal.nD Cert.AdamwSmallRefIdeal.τ).loc Cert.AdamwSmallRefIdeal.main_arg25)
          ∧ r.2.mem ((c.tc : Thread Cert.AdamwSmallRefIdeal.nD Cert.AdamwSmallRefIdeal.τ).loc Cert.AdamwSmallRefIdeal.main_arg26) = m' ((c.tc : Thread Cert.AdamwSmallRefIdeal.nD Cert.AdamwSmallRefIdeal.τ).loc Cert.AdamwSmallRefIdeal.main_arg26)
          ∧ r.2.mem ((c.tc : Thread Cert.AdamwSmallRefIdeal.nD Cert.AdamwSmallRefIdeal.τ).loc Cert.AdamwSmallRefIdeal.main_arg27) = m' ((c.tc : Thread Cert.AdamwSmallRefIdeal.nD Cert.AdamwSmallRefIdeal.τ).loc Cert.AdamwSmallRefIdeal.main_arg27)
          ∧ r.2.mem ((c.tc : Thread Cert.AdamwSmallRefIdeal.nD Cert.AdamwSmallRefIdeal.τ).loc Cert.AdamwSmallRefIdeal.main_arg28) = m' ((c.tc : Thread Cert.AdamwSmallRefIdeal.nD Cert.AdamwSmallRefIdeal.τ).loc Cert.AdamwSmallRefIdeal.main_arg28)
          ∧ r.2.mem ((c.tc : Thread Cert.AdamwSmallRefIdeal.nD Cert.AdamwSmallRefIdeal.τ).loc Cert.AdamwSmallRefIdeal.main_arg29) = m' ((c.tc : Thread Cert.AdamwSmallRefIdeal.nD Cert.AdamwSmallRefIdeal.τ).loc Cert.AdamwSmallRefIdeal.main_arg29)
          ∧ r.2.mem ((c.tc : Thread Cert.AdamwSmallRefIdeal.nD Cert.AdamwSmallRefIdeal.τ).loc Cert.AdamwSmallRefIdeal.main_arg30) = m' ((c.tc : Thread Cert.AdamwSmallRefIdeal.nD Cert.AdamwSmallRefIdeal.τ).loc Cert.AdamwSmallRefIdeal.main_arg30)
          ∧ r.2.mem ((c.tc : Thread Cert.AdamwSmallRefIdeal.nD Cert.AdamwSmallRefIdeal.τ).loc Cert.AdamwSmallRefIdeal.main_arg31) = m' ((c.tc : Thread Cert.AdamwSmallRefIdeal.nD Cert.AdamwSmallRefIdeal.τ).loc Cert.AdamwSmallRefIdeal.main_arg31)
          ∧ r.2.mem ((c.tc : Thread Cert.AdamwSmallRefIdeal.nD Cert.AdamwSmallRefIdeal.τ).loc Cert.AdamwSmallRefIdeal.main_arg32) = m' ((c.tc : Thread Cert.AdamwSmallRefIdeal.nD Cert.AdamwSmallRefIdeal.τ).loc Cert.AdamwSmallRefIdeal.main_arg32)
          ∧ r.2.mem ((c.tc : Thread Cert.AdamwSmallRefIdeal.nD Cert.AdamwSmallRefIdeal.τ).loc Cert.AdamwSmallRefIdeal.main_arg33) = m' ((c.tc : Thread Cert.AdamwSmallRefIdeal.nD Cert.AdamwSmallRefIdeal.τ).loc Cert.AdamwSmallRefIdeal.main_arg33)
          ∧ r.2.mem ((c.tc : Thread Cert.AdamwSmallRefIdeal.nD Cert.AdamwSmallRefIdeal.τ).loc Cert.AdamwSmallRefIdeal.main_arg34) = m' ((c.tc : Thread Cert.AdamwSmallRefIdeal.nD Cert.AdamwSmallRefIdeal.τ).loc Cert.AdamwSmallRefIdeal.main_arg34)
          ∧ r.2.mem ((c.tc : Thread Cert.AdamwSmallRefIdeal.nD Cert.AdamwSmallRefIdeal.τ).loc Cert.AdamwSmallRefIdeal.main_arg35) = m' ((c.tc : Thread Cert.AdamwSmallRefIdeal.nD Cert.AdamwSmallRefIdeal.τ).loc Cert.AdamwSmallRefIdeal.main_arg35))

def Claim : Prop :=
  ∃ (hFfn1Bwd : Cert.Ffn1Bwd.Facts) (hFfn1BwdIdeal : Cert.Ffn1BwdIdeal.Facts) (hFfn1BwdRefIdeal : Cert.Ffn1BwdRefIdeal.Facts) (hFfn2Bwd : Cert.Ffn2Bwd.Facts) (hFfn2BwdIdeal : Cert.Ffn2BwdIdeal.Facts) (hFfn2BwdRefIdeal : Cert.Ffn2BwdRefIdeal.Facts) (hFfn1Fwd : Cert.Ffn1Fwd.Facts) (hFfn1FwdIdeal : Cert.Ffn1FwdIdeal.Facts) (hFfn1FwdRefIdeal : Cert.Ffn1FwdRefIdeal.Facts) (hFfn2Fwd : Cert.Ffn2Fwd.Facts) (hFfn2FwdIdeal : Cert.Ffn2FwdIdeal.Facts) (hFfn2FwdRefIdeal : Cert.Ffn2FwdRefIdeal.Facts) (hOutProjBwd : Cert.OutProjBwd.Facts) (hOutProjBwdIdeal : Cert.OutProjBwdIdeal.Facts) (hOutProjBwdRefIdeal : Cert.OutProjBwdRefIdeal.Facts) (hInProjBwd : Cert.InProjBwd.Facts) (hInProjBwdIdeal : Cert.InProjBwdIdeal.Facts) (hInProjBwdRefIdeal : Cert.InProjBwdRefIdeal.Facts) (hInProjFwd : Cert.InProjFwd.Facts) (hInProjFwdIdeal : Cert.InProjFwdIdeal.Facts) (hInProjFwdRefIdeal : Cert.InProjFwdRefIdeal.Facts) (hOutProjFwd : Cert.OutProjFwd.Facts) (hOutProjFwdIdeal : Cert.OutProjFwdIdeal.Facts) (hOutProjFwdRefIdeal : Cert.OutProjFwdRefIdeal.Facts) (hAdamwSmall : Cert.AdamwSmall.Facts) (hAdamwSmallIdeal : Cert.AdamwSmallIdeal.Facts) (hAdamwSmallRefIdeal : Cert.AdamwSmallRefIdeal.Facts) (hPre_finite_ffn1 : Cert.Pre_finite_ffn1.Facts) (hPre_finite_ffn2 : Cert.Pre_finite_ffn2.Facts),
    quiescent_Ffn1Bwd (hFfn1Bwd := hFfn1Bwd)
    ∧ quiescent_Ffn1BwdIdeal (hFfn1BwdIdeal := hFfn1BwdIdeal)
    ∧ quiescent_Ffn1BwdIdeal_pre_finite_ffn1 (hFfn1BwdIdeal := hFfn1BwdIdeal) (hPre_finite_ffn1 := hPre_finite_ffn1)
    ∧ quiescent_Ffn1BwdRefIdeal (hFfn1BwdRefIdeal := hFfn1BwdRefIdeal)
    ∧ quiescent_Ffn1BwdRefIdeal_pre_finite_ffn1 (hFfn1BwdRefIdeal := hFfn1BwdRefIdeal) (hPre_finite_ffn1 := hPre_finite_ffn1)
    ∧ quiescent_Ffn2Bwd (hFfn2Bwd := hFfn2Bwd)
    ∧ quiescent_Ffn2BwdIdeal (hFfn2BwdIdeal := hFfn2BwdIdeal)
    ∧ quiescent_Ffn2BwdIdeal_pre_finite_ffn2 (hFfn2BwdIdeal := hFfn2BwdIdeal) (hPre_finite_ffn2 := hPre_finite_ffn2)
    ∧ quiescent_Ffn2BwdRefIdeal (hFfn2BwdRefIdeal := hFfn2BwdRefIdeal)
    ∧ quiescent_Ffn2BwdRefIdeal_pre_finite_ffn2 (hFfn2BwdRefIdeal := hFfn2BwdRefIdeal) (hPre_finite_ffn2 := hPre_finite_ffn2)
    ∧ quiescent_Ffn1Fwd (hFfn1Fwd := hFfn1Fwd)
    ∧ quiescent_Ffn1FwdIdeal (hFfn1FwdIdeal := hFfn1FwdIdeal)
    ∧ quiescent_Ffn1FwdRefIdeal (hFfn1FwdRefIdeal := hFfn1FwdRefIdeal)
    ∧ quiescent_Ffn2Fwd (hFfn2Fwd := hFfn2Fwd)
    ∧ quiescent_Ffn2FwdIdeal (hFfn2FwdIdeal := hFfn2FwdIdeal)
    ∧ quiescent_Ffn2FwdRefIdeal (hFfn2FwdRefIdeal := hFfn2FwdRefIdeal)
    ∧ quiescent_OutProjBwd (hOutProjBwd := hOutProjBwd)
    ∧ quiescent_OutProjBwdIdeal (hOutProjBwdIdeal := hOutProjBwdIdeal)
    ∧ quiescent_OutProjBwdRefIdeal (hOutProjBwdRefIdeal := hOutProjBwdRefIdeal)
    ∧ quiescent_InProjBwd (hInProjBwd := hInProjBwd)
    ∧ quiescent_InProjBwdIdeal (hInProjBwdIdeal := hInProjBwdIdeal)
    ∧ quiescent_InProjBwdRefIdeal (hInProjBwdRefIdeal := hInProjBwdRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_OutProjFwd (hOutProjFwd := hOutProjFwd)
    ∧ quiescent_OutProjFwdIdeal (hOutProjFwdIdeal := hOutProjFwdIdeal)
    ∧ quiescent_OutProjFwdRefIdeal (hOutProjFwdRefIdeal := hOutProjFwdRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ preserves_Ffn1Bwd_Ffn1BwdIdeal
    ∧ algebraic_Ffn1BwdIdeal_Ffn1BwdRefIdeal_pre_finite_ffn1 (hFfn1BwdIdeal := hFfn1BwdIdeal) (hFfn1BwdRefIdeal := hFfn1BwdRefIdeal) (hPre_finite_ffn1 := hPre_finite_ffn1)
    ∧ preserves_Ffn2Bwd_Ffn2BwdIdeal
    ∧ algebraic_Ffn2BwdIdeal_Ffn2BwdRefIdeal_pre_finite_ffn2 (hFfn2BwdIdeal := hFfn2BwdIdeal) (hFfn2BwdRefIdeal := hFfn2BwdRefIdeal) (hPre_finite_ffn2 := hPre_finite_ffn2)
    ∧ preserves_Ffn1Fwd_Ffn1FwdIdeal
    ∧ algebraic_Ffn1FwdIdeal_Ffn1FwdRefIdeal (hFfn1FwdIdeal := hFfn1FwdIdeal) (hFfn1FwdRefIdeal := hFfn1FwdRefIdeal)
    ∧ preserves_Ffn2Fwd_Ffn2FwdIdeal
    ∧ algebraic_Ffn2FwdIdeal_Ffn2FwdRefIdeal (hFfn2FwdIdeal := hFfn2FwdIdeal) (hFfn2FwdRefIdeal := hFfn2FwdRefIdeal)
    ∧ preserves_OutProjBwd_OutProjBwdIdeal
    ∧ algebraic_OutProjBwdIdeal_OutProjBwdRefIdeal (hOutProjBwdIdeal := hOutProjBwdIdeal) (hOutProjBwdRefIdeal := hOutProjBwdRefIdeal)
    ∧ preserves_InProjBwd_InProjBwdIdeal
    ∧ algebraic_InProjBwdIdeal_InProjBwdRefIdeal (hInProjBwdIdeal := hInProjBwdIdeal) (hInProjBwdRefIdeal := hInProjBwdRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_OutProjFwd_OutProjFwdIdeal
    ∧ algebraic_OutProjFwdIdeal_OutProjFwdRefIdeal (hOutProjFwdIdeal := hOutProjFwdIdeal) (hOutProjFwdRefIdeal := hOutProjFwdRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== Pre_finite_ffn1.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S2048x1024 1 × IVec S1024x2816 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite_ffn2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1x1024 .f32) (main_arg2 : FVec F S1024x2816 .f32) (main_arg3 : FVec F S1024x2816 .f32) (main_arg4 : FVec F S2816x1024 .f32) (main_arg5 : FVec F S2048x1024 .f32) : IVec S2048x1024 1 × IVec S1x1024 1 × IVec S1024x2816 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg3
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S2048x1024 .f32 := Host.absf main_arg5
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Ffn1Bwd.lean ====
abbrev S2048x1024 : Shape := ⟨2, ![2048, 1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S2048x2816 : Shape := ⟨2, ![2048, 2816]⟩
abbrev S2048x11x256 : Shape := ⟨3, ![2048, 11, 256]⟩
abbrev S11x2048x256 : Shape := ⟨3, ![11, 2048, 256]⟩
abbrev S_ : Shape := ⟨0, ![]⟩
abbrev S1x2048x256 : Shape := ⟨3, ![1, 2048, 256]⟩
abbrev S3x256x1024 : Shape := ⟨3, ![3, 256, 1024]⟩
abbrev S2048x512 : Shape := ⟨2, ![2048, 512]⟩
abbrev S2048x256 : Shape := ⟨2, ![2048, 256]⟩
abbrev S2 : Shape := ⟨1, ![2]⟩
abbrev S1 : Shape := ⟨1, ![1]⟩
abbrev S2x256x1024 : Shape := ⟨3, ![2, 256, 1024]⟩
abbrev S512x1024 : Shape := ⟨2, ![512, 1024]⟩
abbrev S256x1024 : Shape := ⟨2, ![256, 1024]⟩
abbrev S1x256x256 : Shape := ⟨3, ![1, 256, 256]⟩
abbrev S256x256 : Shape := ⟨2, ![256, 256]⟩
abbrev S1x256x1024 : Shape := ⟨3, ![1, 256, 1024]⟩
abbrev S256x512 : Shape := ⟨2, ![256, 512]⟩

abbrev nBuf : Space → Nat
  | .hbm => 27
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .bf16⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S2048x2816, .f32⟩
  | .hbm, ⟨14, _⟩ => ⟨S2048x11x256, .f32⟩
  | .hbm, ⟨15, _⟩ => ⟨S11x2048x256, .f32⟩
  | .hbm, ⟨16, _⟩ => ⟨S11x2048x256, .bf16⟩
  | .hbm, ⟨17, _⟩ => ⟨S2048x2816, .f32⟩
  | .hbm, ⟨18, _⟩ => ⟨S2048x11x256, .f32⟩
  | .hbm, ⟨19, _⟩ => ⟨S11x2048x256, .f32⟩
  | .hbm, ⟨20, _⟩ => ⟨S11x2048x256, .bf16⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .bf16⟩
  | .hbm, ⟨25, _⟩ => ⟨S2048x1024, .f32⟩
  | .hbm, ⟨26, _⟩ => ⟨S3x2816x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S3x256x1024, .bf16⟩
  | .local _ .vmem, ⟨5, _⟩ => ⟨S3x256x1024, .bf16⟩
  | .local _ .vmem, ⟨6, _⟩ => ⟨S3x256x1024, .bf16⟩
  | .local _ .vmem, ⟨7, _⟩ => ⟨S3x256x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .f32⟩
  | .local _ .vmem, ⟨11, _⟩ => ⟨S2048x512, .bf16⟩
  | .local _ .vmem, ⟨12, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Ffn1BwdRefIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S1x2816x1024 : Shape := ⟨3, ![1, 2816, 1024]⟩
abbrev S3x2816x1024 : Shape := ⟨3, ![3, 2816, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1024x2816, .f32⟩
  | .hbm, ⟨29, _⟩ => ⟨S2816x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | .hbm, ⟨35, _⟩ => ⟨S2048x1024, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2816x1024, .f32⟩
  | .hbm, ⟨41, _⟩ => ⟨S1024x2816, .f32⟩
  | .hbm, ⟨42, _⟩ => ⟨S2048x1024, .f32⟩
  | .hbm, ⟨43, _⟩ => ⟨S2048x1024, .f32⟩
  | .hbm, ⟨44, _⟩ => ⟨S2816x1024, .f32⟩
  | .hbm, ⟨45, _⟩ => ⟨S2816x1024, .f32⟩
  | .hbm, ⟨46, _⟩ => ⟨S1x2816x1024, .f32⟩
  | .hbm, ⟨47, _⟩ => ⟨S1x2816x1024, .f32⟩
  | .hbm, ⟨48, _⟩ => ⟨S1x2816x1024, .f32⟩
  | .hbm, ⟨49, _⟩ => ⟨S3x2816x1024, .f32⟩
  | .hbm, ⟨50, _⟩ => ⟨S3x2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Ffn2Bwd.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x2816x1024 : Shape := ⟨3, ![1, 2816, 1024]⟩
abbrev S3x2816x1024 : Shape := ⟨3, ![3, 2816, 1024]⟩
abbrev S2048x2816 : Shape := ⟨2, ![2048, 2816]⟩
abbrev S2048x11x256 : Shape := ⟨3, ![2048, 11, 256]⟩
abbrev S11x2048x256 : Shape := ⟨3, ![11, 2048, 256]⟩
abbrev S1x2048x256 : Shape := ⟨3, ![1, 2048, 256]⟩
abbrev S3x256x1024 : Shape := ⟨3, ![3, 256, 1024]⟩
abbrev S2048x512 : Shape := ⟨2, ![2048, 512]⟩
abbrev S2048x256 : Shape := ⟨2, ![2048, 256]⟩
abbrev S2 : Shape := ⟨1, ![2]⟩
abbrev S1024x1024 : Shape := ⟨2, ![1024, 1024]⟩
abbrev S6 : Shape := ⟨1, ![6]⟩
abbrev S4 : Shape := ⟨1, ![4]⟩
abbrev S1 : Shape := ⟨1, ![1]⟩
abbrev S2x256x1024 : Shape := ⟨3, ![2, 256, 1024]⟩
abbrev S512x1024 : Shape := ⟨2, ![512, 1024]⟩
abbrev S256x1024 : Shape := ⟨2, ![256, 1024]⟩
abbrev S1x256x256 : Shape := ⟨3, ![1, 256, 256]⟩
abbrev S256x256 : Shape := ⟨2, ![256, 256]⟩
abbrev S1x256x1024 : Shape := ⟨3, ![1, 256, 1024]⟩
abbrev S256x512 : Shape := ⟨2, ![256, 512]⟩
abbrev S512 : Shape := ⟨1, ![512]⟩
abbrev S512x1 : Shape := ⟨2, ![512, 1]⟩
abbrev S1024 : Shape := ⟨1, ![1024]⟩

abbrev nBuf : Space → Nat
  | .hbm => 45
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2816x1024, .f32⟩
  | .hbm, ⟨22, _⟩ => ⟨S2816x1024, .f32⟩
  | .hbm, ⟨23, _⟩ => ⟨S1x2816x1024, .f32⟩
  | .hbm, ⟨24, _⟩ => ⟨S1x2816x1024, .f32⟩
  | .hbm, ⟨25, _⟩ => ⟨S1x2816x1024, .f32⟩
  | .hbm, ⟨26, _⟩ => ⟨S3x2816x1024, .f32⟩
  | .hbm, ⟨27, _⟩ => ⟨S3x2816x1024, .bf16⟩
  | .hbm, ⟨28, _⟩ => ⟨S2048x2816, .f32⟩
  | .hbm, ⟨29, _⟩ => ⟨S2048x11x256, .f32⟩
  | .hbm, ⟨30, _⟩ => ⟨S11x2048x256, .f32⟩
  | .hbm, ⟨31, _⟩ => ⟨S11x2048x256, .bf16⟩
  | .hbm, ⟨32, _⟩ => ⟨S2048x2816, .f32⟩
  | .hbm, ⟨33, _⟩ => ⟨S2048x11x256, .f32⟩
  | .hbm, ⟨34, _⟩ => ⟨S11x2048x256, .f32⟩
  | .hbm, ⟨35, _⟩ => ⟨S11x2048x256, .bf16⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .bf16⟩
  | .hbm, ⟨40, _⟩ => ⟨S2048x1024, .bf16⟩
  | .hbm, ⟨41, _⟩ => ⟨S2048x1024, .f32⟩
  | .hbm, ⟨42, _⟩ => ⟨S2048x1024, .bf16⟩
  | .hbm, ⟨43, _⟩ => ⟨S1x1024, .f32⟩
  | .hbm, ⟨44, _⟩ => ⟨S3x2816x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S3x256x1024, .bf16⟩
  | .local _ .vmem, ⟨5, _⟩ => ⟨S3x256x1024, .bf16⟩
  | .local _ .vmem, ⟨6, _⟩ => ⟨S1x1024, .f32⟩
  | .local _ .vmem, ⟨7, _⟩ => ⟨S1x1024, .f32⟩
  | .local _ .vmem, ⟨8, _⟩ => ⟨S3x256x1024, .bf16⟩
  | .local _ .vmem, ⟨9, _⟩ => ⟨S3x256x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .f32⟩
  | .local _ .vmem, ⟨13, _⟩ => ⟨S2048x512, .bf16⟩
  | .local _ .vmem, ⟨14, _⟩ => ⟨S2048x256, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v31_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v371 : BitVec 1 := Scalar.cmpi .eq arg0 c10_i32
  let v372 : BitVec 32 := Scalar.extui v371
  let c0_i32_218 : BitVec 32 := 0#32
  let v373 : BitVec 1 := Scalar.cmpi .ne v372 c0_i32_218
  v373

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn2BwdRefIdeal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S1x2816x1024 : Shape := ⟨3, ![1, 2816, 1024]⟩
abbrev S3x2816x1024 : Shape := ⟨3, ![3, 2816, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S1024x2816, .f32⟩
  | .hbm, ⟨51, _⟩ => ⟨S2816x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2816x1024, .f32⟩
  | .hbm, ⟨56, _⟩ => ⟨S1024x2816, .f32⟩
  | .hbm, ⟨57, _⟩ => ⟨S2048x1024, .f32⟩
  | .hbm, ⟨58, _⟩ => ⟨S2048x2816, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2816x1024, .f32⟩
  | .hbm, ⟨63, _⟩ => ⟨S1024x2816, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2816x1024, .f32⟩
  | .hbm, ⟨91, _⟩ => ⟨S2816x1024, .f32⟩
  | .hbm, ⟨92, _⟩ => ⟨S1x2816x1024, .f32⟩
  | .hbm, ⟨93, _⟩ => ⟨S1x2816x1024, .f32⟩
  | .hbm, ⟨94, _⟩ => ⟨S1x2816x1024, .f32⟩
  | .hbm, ⟨95, _⟩ => ⟨S3x2816x1024, .f32⟩
  | .hbm, ⟨96, _⟩ => ⟨S3x2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Ffn1Fwd.lean ====
abbrev S2048x1024 : Shape := ⟨2, ![2048, 1024]⟩
abbrev S1024x2816 : Shape := ⟨2, ![1024, 2816]⟩
abbrev S2816x1024 : Shape := ⟨2, ![2816, 1024]⟩
abbrev S1x1024 : Shape := ⟨2, ![1, 1024]⟩
abbrev S1x2816x1024 : Shape := ⟨3, ![1, 2816, 1024]⟩
abbrev S3x2816x1024 : Shape := ⟨3, ![3, 2816, 1024]⟩
abbrev S11x2048x256 : Shape := ⟨3, ![11, 2048, 256]⟩
abbrev S3x256x1024 : Shape := ⟨3, ![3, 256, 1024]⟩
abbrev S1x2048x256 : Shape := ⟨3, ![1, 2048, 256]⟩
abbrev S2 : Shape := ⟨1, ![2]⟩
abbrev S1 : Shape := ⟨1, ![1]⟩
abbrev S_ : Shape := ⟨0, ![]⟩
abbrev S1024x1024 : Shape := ⟨2, ![1024, 1024]⟩
abbrev S2x256x1024 : Shape := ⟨3, ![2, 256, 1024]⟩
abbrev S512x1024 : Shape := ⟨2, ![512, 1024]⟩
abbrev S1024x512 : Shape := ⟨2, ![1024, 512]⟩
abbrev S1024x256 : Shape := ⟨2, ![1024, 256]⟩
abbrev S1x1024x256 : Shape := ⟨3, ![1, 1024, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S1x1024, .f32⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S2048x1024, .bf16⟩
  | .hbm, ⟨14, _⟩ => ⟨S2048x1024, .f32⟩
  | .hbm, ⟨15, _⟩ => ⟨S11x2048x256, .bf16⟩
  | .hbm, ⟨16, _⟩ => ⟨S11x2048x256, .bf16⟩
  | .hbm, ⟨17, _⟩ => ⟨S2048x1024, .bf16⟩
  | .local _ .vmem, ⟨0, _⟩ => ⟨S2048x1024, .bf16⟩
  | .local _ .vmem, ⟨1, _⟩ => ⟨S3x256x1024, .bf16⟩
  | .local _ .vmem, ⟨2, _⟩ => ⟨S3x256x1024, .bf16⟩
  | .local _ .vmem, ⟨3, _⟩ => ⟨S1x1024, .f32⟩
  | .local _ .vmem, ⟨4, _⟩ => ⟨S2048x1024, .f32⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c10_i32 : BitVec 32 := 10#32
  let v6 : BitVec 1 := Scalar.cmpi .eq arg0 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn1FwdRefIdeal.lean ====
abbrev S2048x1024 : Shape := ⟨2, ![2048, 1024]⟩
abbrev S1024x2816 : Shape := ⟨2, ![1024, 2816]⟩
abbrev S2816x1024 : Shape := ⟨2, ![2816, 1024]⟩
abbrev S1x1024 : Shape := ⟨2, ![1, 1024]⟩
abbrev S2048x2816 : Shape := ⟨2, ![2048, 2816]⟩
abbrev S_ : Shape := ⟨0, ![]⟩
abbrev S2048x11x256 : Shape := ⟨3, ![2048, 11, 256]⟩
abbrev S11x2048x256 : Shape := ⟨3, ![11, 2048, 256]⟩
abbrev S2048 : Shape := ⟨1, ![2048]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S1x1024, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x11x256, .f32⟩
  | .hbm, ⟨24, _⟩ => ⟨S11x2048x256, .f32⟩
  | .hbm, ⟨25, _⟩ => ⟨S11x2048x256, .bf16⟩
  | .hbm, ⟨26, _⟩ => ⟨S2048x11x256, .f32⟩
  | .hbm, ⟨27, _⟩ => ⟨S11x2048x256, .f32⟩
  | .hbm, ⟨28, _⟩ => ⟨S11x2048x256, .bf16⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Ffn2Fwd.lean ====
abbrev S2048x1024 : Shape := ⟨2, ![2048, 1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S11x2048x256 : Shape := ⟨3, ![11, 2048, 256]⟩
abbrev S1x128 : Shape := ⟨2, ![1, 128]⟩
abbrev S3x256x1024 : Shape := ⟨3, ![3, 256, 1024]⟩
abbrev S1x2048x256 : Shape := ⟨3, ![1, 2048, 256]⟩
abbrev S1024x1024 : Shape := ⟨2, ![1024, 1024]⟩
abbrev S2 : Shape := ⟨1, ![2]⟩
abbrev S1 : Shape := ⟨1, ![1]⟩
abbrev S_ : Shape := ⟨0, ![]⟩
abbrev S2x256x1024 : Shape := ⟨3, ![2, 256, 1024]⟩
abbrev S512x1024 : Shape := ⟨2, ![512, 1024]⟩
abbrev S1024x512 : Shape := ⟨2, ![1024, 512]⟩
abbrev S1024x256 : Shape := ⟨2, ![1024, 256]⟩
abbrev S1x1024x256 : Shape := ⟨3, ![1, 1024, 256]⟩
abbrev S1x256x1024 : Shape := ⟨3, ![1, 256, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 21
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S2048x1024, .bf16⟩
  | .hbm, ⟨14, _⟩ => ⟨S2048x1024, .f32⟩
  | .hbm, ⟨15, _⟩ => ⟨S11x2048x256, .bf16⟩
  | .hbm, ⟨16, _⟩ => ⟨S11x2048x256, .bf16⟩
  | .hbm, ⟨17, _⟩ => ⟨S2048x1024, .bf16⟩
  | .hbm, ⟨18, _⟩ => ⟨S1x128, .f32⟩
  | .hbm, ⟨19, _⟩ => ⟨S_, .f32⟩
  | .hbm, ⟨20, _⟩ => ⟨S_, .f32⟩
  | .local _ .vmem, ⟨0, _⟩ => ⟨S2048x1024, .bf16⟩
  | .local _ .vmem, ⟨1, _⟩ => ⟨S3x256x1024, .bf16⟩
  | .local _ .vmem, ⟨2, _⟩ => ⟨S3x256x1024, .bf16⟩
  | .local _ .vmem, ⟨3, _⟩ => ⟨S2048x1024, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x1024, .bf16⟩
  | .local _ .vmem, ⟨9, _⟩ => ⟨S1x128, .f32⟩
  | .local _ .vmem, ⟨10, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_cst : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c10_i32 : BitVec 32 := 10#32
  let v6 : BitVec 1 := Scalar.cmpi .eq arg0 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn2FwdRefIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S2048 : Shape := ⟨1, ![2048]⟩
abbrev S2048x11x256 : Shape := ⟨3, ![2048, 11, 256]⟩
abbrev S11x2048x256 : Shape := ⟨3, ![11, 2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x11x256, .f32⟩
  | .hbm, ⟨47, _⟩ => ⟨S11x2048x256, .f32⟩
  | .hbm, ⟨48, _⟩ => ⟨S11x2048x256, .bf16⟩
  | .hbm, ⟨49, _⟩ => ⟨S2048x11x256, .f32⟩
  | .hbm, ⟨50, _⟩ => ⟨S11x2048x256, .f32⟩
  | .hbm, ⟨51, _⟩ => ⟨S11x2048x256, .bf16⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_cst_5 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== OutProjBwd.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .bf16⟩
  | .hbm, ⟨6, _⟩ => ⟨S2048x1024, .f32⟩
  | .hbm, ⟨7, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutProjBwdRefIdeal.lean ====
abbrev S2048x1024 : Shape := ⟨2, ![2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjBwd.lean ====
abbrev S2048x1024 : Shape := ⟨2, ![2048, 1024]⟩
abbrev S1x1024 : Shape := ⟨2, ![1, 1024]⟩
abbrev S1024x1280 : Shape := ⟨2, ![1024, 1280]⟩
abbrev S2048x1280 : Shape := ⟨2, ![2048, 1280]⟩
abbrev S_ : Shape := ⟨0, ![]⟩
abbrev S2048 : Shape := ⟨1, ![2048]⟩
abbrev S2048x1 : Shape := ⟨2, ![2048, 1]⟩
abbrev S1280x1024 : Shape := ⟨2, ![1280, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1280, .f32⟩
  | .hbm, ⟨3, _⟩ => ⟨S2048x1024, .f32⟩
  | .hbm, ⟨4, _⟩ => ⟨S2048x1280, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1280x1024, .f32⟩
  | .hbm, ⟨22, _⟩ => ⟨S1280x1024, .bf16⟩
  | .hbm, ⟨23, _⟩ => ⟨S2048x1024, .f32⟩
  | .hbm, ⟨24, _⟩ => ⟨S2048x1024, .bf16⟩
  | .hbm, ⟨25, _⟩ => ⟨S1x1024, .f32⟩
  | .hbm, ⟨26, _⟩ => ⟨S1280x1024, .bf16⟩
  | .local _ .vmem, ⟨0, _⟩ => ⟨S512x1280, .f32⟩
  | .local _ .vmem, ⟨1, _⟩ => ⟨S512x1280, .f32⟩
  | .local _ .vmem, ⟨2, _⟩ => ⟨S1280x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1280x1024, .bf16⟩
  | .local _ .vmem, ⟨16, _⟩ => ⟨S1280x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_23 : BitVec 32 := 0#32
  let v44 : BitVec 1 := Scalar.cmpi .ne v43 c0_i32_23
  v44

def k0_cond2 (i : grid0.Coords) : BitVec 1 :=
  let arg0 : BitVec 32 := BitVec.ofNat 32 (i 0).val
  let c0_i32_24 : BitVec 32 := 0#32
  let v45 : BitVec 1 := Scalar.cmpi .sgt arg0 c0_i32_24
  let v46 : BitVec 32 := Scalar.extui v45
  let c0_i32_25 : BitVec 32 := 0#32
  let v47 : BitVec 1 := Scalar.cmpi .ne v46 c0_i32_25
  v47

def k0_cond3 (i : grid0.Coords) : BitVec 1 :=
  let arg0 : BitVec 32 := BitVec.ofNat 32 (i 0).val
  let c3_i32 : BitVec 32 := 3#32
  let v48 : BitVec 1 := Scalar.cmpi .eq arg0 c3_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjBwdRefIdeal.lean ====
abbrev S2048x1024 : Shape := ⟨2, ![2048, 1024]⟩
abbrev S1x1024 : Shape := ⟨2, ![1, 1024]⟩
abbrev S1024x1280 : Shape := ⟨2, ![1024, 1280]⟩
abbrev S2048x1280 : Shape := ⟨2, ![2048, 1280]⟩
abbrev S_ : Shape := ⟨0, ![]⟩
abbrev S2048 : Shape := ⟨1, ![2048]⟩
abbrev S2048x1 : Shape := ⟨2, ![2048, 1]⟩
abbrev S1280x1024 : Shape := ⟨2, ![1280, 1024]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1280, .f32⟩
  | .hbm, ⟨3, _⟩ => ⟨S2048x1024, .f32⟩
  | .hbm, ⟨4, _⟩ => ⟨S2048x1280, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1280, .f32⟩
  | .hbm, ⟨25, _⟩ => ⟨S1280x1024, .f32⟩
  | .hbm, ⟨26, _⟩ => ⟨S1024x1280, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S1280x1024, .f32⟩
  | .hbm, ⟨57, _⟩ => ⟨S1280x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== InProjFwd.lean ====
abbrev S2048x1024 : Shape := ⟨2, ![2048, 1024]⟩
abbrev S1024x1280 : Shape := ⟨2, ![1024, 1280]⟩
abbrev S1280x1024 : Shape := ⟨2, ![1280, 1024]⟩
abbrev S2048x1280 : Shape := ⟨2, ![2048, 1280]⟩
abbrev S512x1024 : Shape := ⟨2, ![512, 1024]⟩
abbrev S512x1280 : Shape := ⟨2, ![512, 1280]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1280, .f32⟩
  | .hbm, ⟨2, _⟩ => ⟨S2048x1024, .bf16⟩
  | .hbm, ⟨3, _⟩ => ⟨S1280x1024, .f32⟩
  | .hbm, ⟨4, _⟩ => ⟨S1280x1024, .bf16⟩
  | .hbm, ⟨5, _⟩ => ⟨S2048x1280, .f32⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S512x1280, .f32⟩
  | .local _ .vmem, ⟨4, _⟩ => ⟨S512x1280, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjFwdRefIdeal.lean ====
abbrev S2048x1024 : Shape := ⟨2, ![2048, 1024]⟩
abbrev S1024x1280 : Shape := ⟨2, ![1024, 1280]⟩
abbrev S2048x1280 : Shape := ⟨2, ![2048, 1280]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1280, .f32⟩
  | .hbm, ⟨2, _⟩ => ⟨S2048x1280, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProjFwd.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjFwdRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== AdamwSmall.lean ====
abbrev S1x1024 : Shape := ⟨2, ![1, 1024]⟩
abbrev S1x512 : Shape := ⟨2, ![1, 512]⟩
abbrev S1x64 : Shape := ⟨2, ![1, 64]⟩
abbrev S1x8 : Shape := ⟨2, ![1, 8]⟩
abbrev S32x8 : Shape := ⟨2, ![32, 8]⟩
abbrev S1x4x128x128 : Shape := ⟨4, ![1, 4, 128, 128]⟩

abbrev nBuf : Space → Nat
  | .hbm => 63
  | .vmem => 63
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x512, .f32⟩
  | .hbm, ⟨4, _⟩ => ⟨S1x64, .f32⟩
  | .hbm, ⟨5, _⟩ => ⟨S1x64, .f32⟩
  | .hbm, ⟨6, _⟩ => ⟨S1x8, .f32⟩
  | .hbm, ⟨7, _⟩ => ⟨S32x8, .f32⟩
  | .hbm, ⟨8, _⟩ => ⟨S1x4x128x128, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x512, .f32⟩
  | .hbm, ⟨13, _⟩ => ⟨S1x64, .f32⟩
  | .hbm, ⟨14, _⟩ => ⟨S1x64, .f32⟩
  | .hbm, ⟨15, _⟩ => ⟨S1x8, .f32⟩
  | .hbm, ⟨16, _⟩ => ⟨S32x8, .f32⟩
  | .hbm, ⟨17, _⟩ => ⟨S1x4x128x128, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x512, .f32⟩
  | .hbm, ⟨22, _⟩ => ⟨S1x64, .f32⟩
  | .hbm, ⟨23, _⟩ => ⟨S1x64, .f32⟩
  | .hbm, ⟨24, _⟩ => ⟨S1x8, .f32⟩
  | .hbm, ⟨25, _⟩ => ⟨S32x8, .f32⟩
  | .hbm, ⟨26, _⟩ => ⟨S1x4x128x128, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x512, .f32⟩
  | .hbm, ⟨31, _⟩ => ⟨S1x64, .f32⟩
  | .hbm, ⟨32, _⟩ => ⟨S1x64, .f32⟩
  | .hbm, ⟨33, _⟩ => ⟨S1x8, .f32⟩
  | .hbm, ⟨34, _⟩ => ⟨S32x8, .f32⟩
  | .hbm, ⟨35, _⟩ => ⟨S1x4x128x128, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x512, .f32⟩
  | .hbm, ⟨40, _⟩ => ⟨S1x64, .f32⟩
  | .hbm, ⟨41, _⟩ => ⟨S1x64, .f32⟩
  | .hbm, ⟨42, _⟩ => ⟨S1x8, .f32⟩
  | .hbm, ⟨43, _⟩ => ⟨S32x8, .f32⟩
  | .hbm, ⟨44, _⟩ => ⟨S1x4x128x128, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x512, .f32⟩
  | .hbm, ⟨49, _⟩ => ⟨S1x64, .f32⟩
  | .hbm, ⟨50, _⟩ => ⟨S1x64, .f32⟩
  | .hbm, ⟨51, _⟩ => ⟨S1x8, .f32⟩
  | .hbm, ⟨52, _⟩ => ⟨S32x8, .f32⟩
  | .hbm, ⟨53, _⟩ => ⟨S1x4x128x128, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x512, .f32⟩
  | .hbm, ⟨58, _⟩ => ⟨S1x64, .f32⟩
  | .hbm, ⟨59, _⟩ => ⟨S1x64, .f32⟩
  | .hbm, ⟨60, _⟩ => ⟨S1x8, .f32⟩
  | .hbm, ⟨61, _⟩ => ⟨S32x8, .f32⟩
  | .hbm, ⟨62, _⟩ => ⟨S1x4x128x128, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x512, .f32⟩
  | .local _ .vmem, ⟨4, _⟩ => ⟨S1x64, .f32⟩
  | .local _ .vmem, ⟨5, _⟩ => ⟨S1x64, .f32⟩
  | .local _ .vmem, ⟨6, _⟩ => ⟨S1x8, .f32⟩
  | .local _ .vmem, ⟨7, _⟩ => ⟨S32x8, .f32⟩
  | .local _ .vmem, ⟨8, _⟩ => ⟨S1x4x128x128, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x64, .f32⟩
  | .local _ .vmem, ⟨14, _⟩ => ⟨S1x64, .f32⟩
  | .local _ .vmem, ⟨15, _⟩ => ⟨S1x8, .f32⟩
  | .local _ .vmem, ⟨16, _⟩ => ⟨S32x8, .f32⟩
  | .local _ .vmem, ⟨17, _⟩ => ⟨S1x4x128x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x512, .f32⟩
  | .local _ .vmem, ⟨22, _⟩ => ⟨S1x64, .f32⟩
  | .local _ .vmem, ⟨23, _⟩ => ⟨S1x64, .f32⟩
  | .local _ .vmem, ⟨24, _⟩ => ⟨S1x8, .f32⟩
  | .local _ .vmem, ⟨25, _⟩ => ⟨S32x8, .f32⟩
  | .local _ .vmem, ⟨26, _⟩ => ⟨S1x4x128x128, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x512, .f32⟩
  | .local _ .vmem, ⟨31, _⟩ => ⟨S1x64, .f32⟩
  | .local _ .vmem, ⟨32, _⟩ => ⟨S1x64, .f32⟩
  | .local _ .vmem, ⟨33, _⟩ => ⟨S1x8, .f32⟩
  | .local _ .vmem, ⟨34, _⟩ => ⟨S32x8, .f32⟩
  | .local _ .vmem, ⟨35, _⟩ => ⟨S1x4x128x128, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x512, .f32⟩
  | .local _ .vmem, ⟨40, _⟩ => ⟨S1x64, .f32⟩
  | .local _ .vmem, ⟨41, _⟩ => ⟨S1x64, .f32⟩
  | .local _ .vmem, ⟨42, _⟩ => ⟨S1x8, .f32⟩
  | .local _ .vmem, ⟨43, _⟩ => ⟨S32x8, .f32⟩
  | .local _ .vmem, ⟨44, _⟩ => ⟨S1x4x128x128, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x512, .f32⟩
  | .local _ .vmem, ⟨49, _⟩ => ⟨S1x64, .f32⟩
  | .local _ .vmem, ⟨50, _⟩ => ⟨S1x64, .f32⟩
  | .local _ .vmem, ⟨51, _⟩ => ⟨S1x8, .f32⟩
  | .local _ .vmem, ⟨52, _⟩ => ⟨S32x8, .f32⟩
  | .local _ .vmem, ⟨53, _⟩ => ⟨S1x4x128x128, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x512, .f32⟩
  | .local _ .vmem, ⟨58, _⟩ => ⟨S1x64, .f32⟩
  | .local _ .vmem, ⟨59, _⟩ => ⟨S1x64, .f32⟩
  | .local _ .vmem, ⟨60, _⟩ => ⟨S1x8, .f32⟩
  | .local _ .vmem, ⟨61, _⟩ => ⟨S32x8, .f32⟩
  | .local _ .vmem, ⟨62, _⟩ => ⟨S1x4x128x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0_0 : Ref sig .tc := ⟨.hbm, 36, rfl⟩
abbrev main_v0_1 : Ref sig .tc := ⟨.hbm, 37, rfl⟩
abbrev main_v0_2 : Ref sig .tc := ⟨.hbm, 38, rfl⟩
abbrev main_v0_3 : Ref sig .tc := ⟨.hbm, 39, rfl⟩
abbrev main_v0_4 : Ref sig .tc := ⟨.hbm, 40, rfl⟩
abbrev main_v0_5 : Ref sig .tc := ⟨.hbm, 41, rfl⟩
abbrev main_v0_6 : Ref sig .tc := ⟨.hbm, 42, rfl⟩
abbrev main_v0_7 : Ref sig .tc := ⟨.hbm, 43, rfl⟩
abbrev main_v0_8 : Ref sig .tc := ⟨.hbm, 44, rfl⟩
abbrev main_v0_9 : Ref sig .tc := ⟨.hbm, 45, rfl⟩
abbrev main_v0_10 : Ref sig .tc := ⟨.hbm, 46, rfl⟩
abbrev main_v0_11 : Ref sig .tc := ⟨.hbm, 47, rfl⟩
abbrev main_v0_12 : Ref sig .tc := ⟨.hbm, 48, rfl⟩
abbrev main_v0_13 : Ref sig .tc := ⟨.hbm, 49, rfl⟩
abbrev main_v0_14 : Ref sig .tc := ⟨.hbm, 50, rfl⟩
abbrev main_v0_15 : Ref sig .tc := ⟨.hbm, 51, rfl⟩
abbrev main_v0_16 : Ref sig .tc := ⟨.hbm, 52, rfl⟩
abbrev main_v0_17 : Ref sig .tc := ⟨.hbm, 53, rfl⟩
abbrev main_v0_18 : Ref sig .tc := ⟨.hbm, 54, rfl⟩
abbrev main_v0_19 : Ref sig .tc := ⟨.hbm, 55, rfl⟩
abbrev main_v0_20 : Ref sig .tc := ⟨.hbm, 56, rfl⟩
abbrev main_v0_21 : Ref sig .tc := ⟨.hbm, 57, rfl⟩
abbrev main_v0_22 : Ref sig .tc := ⟨.hbm, 58, rfl⟩
abbrev main_v0_23 : Ref sig .tc := ⟨.hbm, 59, rfl⟩
abbrev main_v0_24 : Ref sig .tc := ⟨.hbm, 60, rfl⟩
abbrev main_v0_25 : Ref sig .tc := ⟨.hbm, 61, rfl⟩
abbrev main_v0_26 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x8 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S32x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x4x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x8 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S32x8 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x4x128x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x8 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S32x8 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x4x128x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x8 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S32x8 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x4x128x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x8 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S32x8 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x4x128x128 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== AdamwSmallRefIdeal.lean ====
abbrev S1x1024 : Shape := ⟨2, ![1, 1024]⟩
abbrev S1x512 : Shape := ⟨2, ![1, 512]⟩
abbrev S1x64 : Shape := ⟨2, ![1, 64]⟩
abbrev S1x8 : Shape := ⟨2, ![1, 8]⟩
abbrev S32x8 : Shape := ⟨2, ![32, 8]⟩
abbrev S1x4x128x128 : Shape := ⟨4, ![1, 4, 128, 128]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x512, .f32⟩
  | 4 => ⟨S1x64, .f32⟩
  | 5 => ⟨S1x64, .f32⟩
  | 6 => ⟨S1x8, .f32⟩
  | 7 => ⟨S32x8, .f32⟩
  | 8 => ⟨S1x4x128x128, .f32⟩
  | 9 => ⟨S1x1024, .f32⟩
  | 10 => ⟨S1x1024, .f32⟩
  | 11 => ⟨S1x1024, .f32⟩
  | 12 => ⟨S1x512, .f32⟩
  | 13 => ⟨S1x64, .f32⟩
  | 14 => ⟨S1x64, .f32⟩
  | 15 => ⟨S1x8, .f32⟩
  | 16 => ⟨S32x8, .f32⟩
  | 17 => ⟨S1x4x128x128, .f32⟩
  | 18 => ⟨S1x1024, .f32⟩
  | 19 => ⟨S1x1024, .f32⟩
  | 20 => ⟨S1x1024, .f32⟩
  | 21 => ⟨S1x512, .f32⟩
  | 22 => ⟨S1x64, .f32⟩
  | 23 => ⟨S1x64, .f32⟩
  | 24 => ⟨S1x8, .f32⟩
  | 25 => ⟨S32x8, .f32⟩
  | 26 => ⟨S1x4x128x128, .f32⟩
  | 27 => ⟨S1x1024, .f32⟩
  | 28 => ⟨S1x1024, .f32⟩
  | 29 => ⟨S1x1024, .f32⟩
  | 30 => ⟨S1x512, .f32⟩
  | 31 => ⟨S1x64, .f32⟩
  | 32 => ⟨S1x64, .f32⟩
  | 33 => ⟨S1x8, .f32⟩
  | 34 => ⟨S32x8, .f32⟩
  | 35 => ⟨S1x4x128x128, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x1024, .f32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S_, .f32⟩
  | 92 => ⟨S1x64, .f32⟩
  | 93 => ⟨S1x64, .f32⟩
  | 94 => ⟨S1x64, .f32⟩
  | 95 => ⟨S_, .f32⟩
  | 96 => ⟨S1x64, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S_, .f32⟩
  | 107 => ⟨S1x8, .f32⟩
  | 108 => ⟨S1x8, .f32⟩
  | 109 => ⟨S_, .f32⟩
  | 110 => ⟨S1x8, .f32⟩
  | 111 => ⟨S1x8, .f32⟩
  | 112 => ⟨S1x8, .f32⟩
  | 113 => ⟨S_, .f32⟩
  | 114 => ⟨S1x8, .f32⟩
  | 115 => ⟨S1x8, .f32⟩
  | 116 => ⟨S1x8, .f32⟩
  | 117 => ⟨S_, .f32⟩
  | 118 => ⟨S1x8, .f32⟩
  | 119 => ⟨S1x8, .f32⟩
  | 120 => ⟨S1x8, .f32⟩
  | 121 => ⟨S_, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S1x8, .f32⟩
  | _ => ⟨S1x1024, .f32⟩

abbrev hbmTy0_2 (i : Nat) : BufTy := match i % 128 with
  | 0 => ⟨S_, .f32⟩
  | 1 => ⟨S1x8, .f32⟩
  | 2 => ⟨S1x8, .f32⟩
  | 3 => ⟨S1x8, .f32⟩
  | 4 => ⟨S_, .f32⟩
  | 5 => ⟨S1x8, .f32⟩
  | 6 => ⟨S1x8, .f32⟩
  | 7 => ⟨S1x8, .f32⟩
  | 8 => ⟨S_, .f32⟩
  | 9 => ⟨S1x8, .f32⟩
  | 10 => ⟨S1x8, .f32⟩
  | 11 => ⟨S_, .f32⟩
  | 12 => ⟨S32x8, .f32⟩
  | 13 => ⟨S32x8, .f32⟩
  | 14 => ⟨S_, .f32⟩
  | 15 => ⟨S32x8, .f32⟩
  | 16 => ⟨S32x8, .f32⟩
  | 17 => ⟨S32x8, .f32⟩
  | 18 => ⟨S_, .f32⟩
  | 19 => ⟨S32x8, .f32⟩
  | 20 => ⟨S32x8, .f32⟩
  | 21 => ⟨S32x8, .f32⟩
  | 22 => ⟨S_, .f32⟩
  | 23 => ⟨S32x8, .f32⟩
  | 24 => ⟨S32x8, .f32⟩
  | 25 => ⟨S32x8, .f32⟩
  | 26 => ⟨S_, .f32⟩
  | 27 => ⟨S32x8, .f32⟩
  | 28 => ⟨S32x8, .f32⟩
  | 29 => ⟨S_, .f32⟩
  | 30 => ⟨S32x8, .f32⟩
  | 31 => ⟨S32x8, .f32⟩
  | 32 => ⟨S32x8, .f32⟩
  | 33 => ⟨S_, .f32⟩
  | 34 => ⟨S32x8, .f32⟩
  | 35 => ⟨S32x8, .f32⟩
  | 36 => ⟨S32x8, .f32⟩
  | 37 => ⟨S_, .f32⟩
  | 38 => ⟨S32x8, .f32⟩
  | 39 => ⟨S32x8, .f32⟩
  | 40 => ⟨S32x8, .f32⟩
  | 41 => ⟨S_, .f32⟩
  | 42 => ⟨S32x8, .f32⟩
  | 43 => ⟨S32x8, .f32⟩
  | 44 => ⟨S_, .f32⟩
  | 45 => ⟨S1x4x128x128, .f32⟩
  | 46 => ⟨S1x4x128x128, .f32⟩
  | 47 => ⟨S_, .f32⟩
  | 48 => ⟨S1x4x128x128, .f32⟩
  | 49 => ⟨S1x4x128x128, .f32⟩
  | 50 => ⟨S1x4x128x128, .f32⟩
  | 51 => ⟨S_, .f32⟩
  | 52 => ⟨S1x4x128x128, .f32⟩
  | 53 => ⟨S1x4x128x128, .f32⟩
  | 54 => ⟨S1x4x128x128, .f32⟩
  | 55 => ⟨S_, .f32⟩
  | 56 => ⟨S1x4x128x128, .f32⟩
  | 57 => ⟨S1x4x128x128, .f32⟩
  | 58 => ⟨S1x4x128x128, .f32⟩
  | 59 => ⟨S_, .f32⟩
  | 60 => ⟨S1x4x128x128, .f32⟩
  | 61 => ⟨S1x4x128x128, .f32⟩
  | 62 => ⟨S_, .f32⟩
  | 63 => ⟨S1x4x128x128, .f32⟩
  | 64 => ⟨S1x4x128x128, .f32⟩
  | 65 => ⟨S1x4x128x128, .f32⟩
  | 66 => ⟨S_, .f32⟩
  | 67 => ⟨S1x4x128x128, .f32⟩
  | 68 => ⟨S1x4x128x128, .f32⟩
  | 69 => ⟨S1x4x128x128, .f32⟩
  | 70 => ⟨S_, .f32⟩
  | 71 => ⟨S1x4x128x128, .f32⟩
  | 72 => ⟨S1x4x128x128, .f32⟩
  | 73 => ⟨S1x4x128x128, .f32⟩
  | 74 => ⟨S_, .f32⟩
  | 75 => ⟨S1x4x128x128, .f32⟩
  | 76 => ⟨S1x4x128x128, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Proof.FfnMath.lean ====
module
public import Idealize.ShloMosaic.Lib.Pointwise
public import Idealize.ShloMosaic.Lib.Pipeline.ValueKit.Tiles
public import Idealize.ShloMosaic.Lib.Pipeline.ReadBack

/-! The arithmetic of the gated feed-forward's gradient on one block of 256 hidden columns, as plain functions of the
block's arrays: `d` the half of the incoming gradient (rows by model width), `h` the layer's input, `g` and `u` the saved
gate and up columns, `w` the three weights' block (gate, up, down: hidden column by model width). -/

@[expose] public section
noncomputable section
namespace Cert.FfnMath
open Idealize.ShloMosaic

/-- An array of two axes over the extended reals. -/
abbrev A2 (a b : Nat) : Type := (⟨2, ![a, b]⟩ : Shape).Idx → EReal
/-- An array of three axes over the extended reals. -/
abbrev A3 (a b c : Nat) : Type := (⟨3, ![a, b, c]⟩ : Shape).Idx → EReal

/-- The logistic function. -/
def sg (g : EReal) : EReal := Ideal.div 1 (1 + Ideal.exp (0 - g))
/-- The gradient that reaches the gate, from the gradient `a` of the activation. -/
def gateG (a g u : EReal) : EReal := a * u * (sg g * (1 + g * (1 - sg g)))
/-- The gradient that reaches the up projection. -/
def upG (a g : EReal) : EReal := a * (g * sg g)
/-- The activation. -/
def actF (g u : EReal) : EReal := g * sg g * u

section Block
variable (d h : A2 2048 1024) (g u : A3 1 2048 256) (w : A3 3 256 1024)

/-- The activation's gradient: row `r`, hidden column `k` of the block. -/
def dAct (r : Fin 2048) (k : Fin 256) : EReal := ∑ x : Fin 1024, d (ix2 r x) * w (ix3 2 k x)

/-- The gate's gradient. -/
def dG (r : Fin 2048) (k : Fin 256) : EReal := gateG (dAct d w r k) (g (ix3 0 r k)) (u (ix3 0 r k))
/-- The up projection's gradient. -/
def dU (r : Fin 2048) (k : Fin 256) : EReal := upG (dAct d w r k) (g (ix3 0 r k))
/-- The activation. -/
def aC (r : Fin 2048) (k : Fin 256) : EReal := actF (g (ix3 0 r k)) (u (ix3 0 r k))

/-- The gate's and the up projection's gradients beside each other, 512 columns. -/
def dGU (r : Fin 2048) (k : Fin 512) : EReal :=
  if h : k.val < 256 then dG d g u w r ⟨k.val, h⟩ else dU d g w r ⟨k.val - 256, by omega⟩

/-- The three weights' gradients of the block: gate, up, down. -/
def dWBlk (p : Fin 3) (k : Fin 256) (x : Fin 1024) : EReal :=
  match p with
  | 0 => ∑ r : Fin 2048, dG d g u w r k * h (ix2 r x)
  | 1 => ∑ r : Fin 2048, dU d g w r k * h (ix2 r x)
  | 2 => ∑ r : Fin 2048, aC g u r k * d (ix2 r x)

/-- What the block adds to the input's gradient. -/
def dHStep (r : Fin 2048) (x : Fin 1024) : EReal :=
  ∑ k : Fin 256, dG d g u w r k * w (ix3 0 k x) + ∑ k : Fin 256, dU d g w r k * w (ix3 1 k x)

end Block

/-- Block `t` of an array of eleven blocks of columns. -/
def blkCols (G : A3 11 2048 256) (t : Fin 11) : A3 1 2048 256 := fun i => G (ix3 t (i 1) (i 2))
/-- Block `t` of the three weights: 256 hidden columns of each. -/
def blkRows (W : A3 3 2816 1024) (t : Fin 11) : A3 3 256 1024 := fun i =>
  W (ix3 (i 0) ⟨256 * t.val + (i 1).val, by have h1 := t.isLt; have h2 : (i 1).val < 256 := (i 1).isLt; omega⟩ (i 2))

/-- A load of whole rows of an array of two axes, read at an index. -/
theorem ld_rows {Val : EltTy → Type} {e : EltTy} {n m a o : Nat} (X : (⟨2, ![n, m]⟩ : Shape).Idx → Val e)
    (inb : ∀ q, (![o, 0] : Fin 2 → Nat) q + (![a, m] : Fin 2 → Nat) q ≤ (⟨2, ![n, m]⟩ : Shape).size q)
    (r : Fin a) (k : Fin m) :
    View.ld X (Rect.unit ![o, 0] ![a, m] inb) (ix2 r k) = X (ix2 ⟨o + r.val, (by
      have := inb 0; have h : o + a ≤ n := this; omega)⟩ k) :=
  View.ld_unit_apply_of X _ _ inb (ix2 r k) _ fun q => by
    match q with
    | 0 => rfl
    | 1 => exact (Nat.zero_add _).symm

/-- A load of whole rows of some planes of an array of three axes, read at an index. -/
theorem ld_planes {Val : EltTy → Type} {e : EltTy} {l n m a b o q : Nat} (X : (⟨3, ![l, n, m]⟩ : Shape).Idx → Val e)
    (inb : ∀ j, (![q, o, 0] : Fin 3 → Nat) j + (![a, b, m] : Fin 3 → Nat) j ≤ (⟨3, ![l, n, m]⟩ : Shape).size j)
    (p : Fin a) (r : Fin b) (k : Fin m) :
    View.ld X (Rect.unit ![q, o, 0] ![a, b, m] inb) (ix3 p r k) = X (ix3 ⟨q + p.val, (by
      have := inb 0; have h : q + a ≤ l := this; omega)⟩ ⟨o + r.val, (by
      have := inb 1; have h : o + b ≤ n := this; omega)⟩ k) :=
  View.ld_unit_apply_of X _ _ inb (ix3 p r k) _ fun j => by
    match j with
    | 0 => rfl
    | 1 => rfl
    | 2 => exact (Nat.zero_add _).symm

/-- Where the later stores (`L`, listed first) hold `y` and agree there on `v`, the buffer reads `v`, whatever was
stored before them (`L'`). -/
theorem canon_append_of_allAt {S : Shape} {Val : EltTy → Type} {e : EltTy} [∀ e, Nonempty (Val e)]
    (L' : List (View.Piece Val S e)) (y : S.Idx) (v : Val e) : ∀ L : List (View.Piece Val S e),
    (∃ p ∈ L, y ∈ p.1.set) → View.AllAt L y v → View.canon (L ++ L') y = v
  | [], hc, _ => by obtain ⟨p, hp, _⟩ := hc; exact absurd hp List.not_mem_nil
  | p :: L, hc, h => by
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      refine canon_append_of_allAt L' y v L ?_ fun q hq => h q (List.mem_cons_of_mem _ hq)
      obtain ⟨q, hq, hyq⟩ := hc
      rcases List.mem_cons.mp hq with rfl | hq'
      · exact absurd hyq hm
      · exact ⟨q, hq', hyq⟩

/-- A load from a buffer that one store of the whole left as `w` reads `w`. -/
theorem readCov_whole {sig : RefSig} {κ : Kind} {sp : Space} {s : Shape} {Val : EltTy → Type} {e : EltTy} [∀ e, Nonempty (Val e)]
    (v : View sig κ sp s e) (w : s.Idx → Val e) (r : Rect s) :
    v.readCov [(⟨Rect.whole s, w⟩ : View.Piece Val s e)] r.toLoadRect = View.ld w r := by
  rw [View.readCov_eq_canon']
  funext j
  exact congrFun (View.canon_unit_zero rfl (fun _ => by simp) w) _

/-- A hidden column of the first half lies in the gate's plane. -/
theorem div_lo (k : Fin 256) (h : k.val / 256 < 3) : (⟨k.val / 256, h⟩ : Fin 3) = 0 := Fin.ext (by
  have := k.isLt; show k.val / 256 = 0; omega)
/-- A hidden column of the second half lies in the up projection's plane. -/
theorem div_hi (k : Fin 256) (h : (256 + k.val) / 256 < 3) : (⟨(256 + k.val) / 256, h⟩ : Fin 3) = 1 := Fin.ext (by
  have := k.isLt; show (256 + k.val) / 256 = 1; omega)
theorem mod_lo (k : Fin 256) (h : k.val % 256 < 256) : (⟨k.val % 256, h⟩ : Fin 256) = k := Fin.ext (by
  have := k.isLt; show k.val % 256 = k.val; omega)
theorem mod_hi (k : Fin 256) (h : (256 + k.val) % 256 < 256) : (⟨(256 + k.val) % 256, h⟩ : Fin 256) = k := Fin.ext (by
  have := k.isLt; show (256 + k.val) % 256 = k.val; omega)

end Cert.FfnMath
end
-- ==== Proof.FfnWhole.lean ====
module
public import proofs.«01_k».proof.Proof.FfnMath

/-! The gated feed-forward's gradient over all 2816 hidden columns, as plain functions of the whole arrays: `d` the half of
the incoming gradient, `h` the layer's input, the three weights. The eleven blocks of 256 columns add up to it. -/

@[expose] public section
noncomputable section
namespace Cert.FfnMath
open Idealize.ShloMosaic

/-- Column `k` of block `t` among all the hidden columns. -/
def colOf (t : Fin 11) (k : Fin 256) : Fin 2816 := ⟨256 * t.val + k.val, by have := t.isLt; have := k.isLt; omega⟩

/-- A sum over the blocks and over each block's columns is the sum over all the columns. -/
theorem sum_blocks (F : Fin 2816 → EReal) : ∑ t : Fin 11, ∑ k : Fin 256, F (colOf t k) = ∑ f : Fin 2816, F f := by
  rw [← Fintype.sum_prod_type' (fun t k => F (colOf t k))]
  refine Fintype.sum_equiv (finProdFinEquiv (m := 11) (n := 256)) _ _ fun p => ?_
  refine congrArg F (Fin.ext ?_)
  show 256 * p.1.val + p.2.val = p.2.val + 256 * p.1.val
  exact Nat.add_comm _ _

/-- Every hidden column is a column of a block. -/
theorem colOf_surj (f : Fin 2816) : ∃ t k, f = colOf t k :=
  ⟨⟨f.val / 256, by have := f.isLt; omega⟩, ⟨f.val % 256, by omega⟩, Fin.ext (by show f.val = 256 * (f.val / 256) + f.val % 256; omega)⟩

theorem exists_ix2 {a b : Nat} (i : (⟨2, ![a, b]⟩ : Shape).Idx) : ∃ (r : Fin a) (x : Fin b), i = ix2 r x := ⟨i 0, i 1, eq_ix2 i⟩
theorem exists_ix3 {a b c : Nat} (i : (⟨3, ![a, b, c]⟩ : Shape).Idx) : ∃ (p : Fin a) (r : Fin b) (x : Fin c), i = ix3 p r x :=
  ⟨i 0, i 1, i 2, eq_ix3 i⟩

section Whole
variable (d h : A2 2048 1024) (wg wu : A2 1024 2816) (wd : A2 2816 1024)

/-- The gate's column, or the up projection's: the input times a weight. -/
def proj (r : Fin 2048) (f : Fin 2816) : EReal := ∑ y : Fin 1024, h (ix2 r y) * wg (ix2 y f)
/-- The activation's gradient. -/
def wAct (r : Fin 2048) (f : Fin 2816) : EReal := ∑ x : Fin 1024, d (ix2 r x) * wd (ix2 f x)
/-- The gate's gradient. -/
def wG (r : Fin 2048) (f : Fin 2816) : EReal := gateG (wAct d wd r f) (proj h wg r f) (proj h wu r f)
/-- The up projection's gradient. -/
def wU (r : Fin 2048) (f : Fin 2816) : EReal := upG (wAct d wd r f) (proj h wg r f)
/-- The activation. -/
def wC (r : Fin 2048) (f : Fin 2816) : EReal := actF (proj h wg r f) (proj h wu r f)

/-- The three weights' gradients. -/
def wDW (p : Fin 3) (f : Fin 2816) (x : Fin 1024) : EReal :=
  match p with
  | 0 => ∑ r : Fin 2048, wG d h wg wu wd r f * h (ix2 r x)
  | 1 => ∑ r : Fin 2048, wU d h wg wd r f * h (ix2 r x)
  | 2 => ∑ r : Fin 2048, wC h wg wu r f * d (ix2 r x)

/-- The input's gradient. -/
def wDH (r : Fin 2048) (x : Fin 1024) : EReal :=
  ∑ f : Fin 2816, wG d h wg wu wd r f * wg (ix2 x f) + ∑ f : Fin 2816, wU d h wg wd r f * wu (ix2 x f)

variable {d h wg wu wd}
variable {G U : A3 11 2048 256} {W : A3 3 2816 1024}
  (hG : ∀ t r k, G (ix3 t r k) = proj h wg r (colOf t k)) (hU : ∀ t r k, U (ix3 t r k) = proj h wu r (colOf t k))
  (h0 : ∀ f x, W (ix3 0 f x) = wg (ix2 x f)) (h1 : ∀ f x, W (ix3 1 f x) = wu (ix2 x f)) (h2 : ∀ f x, W (ix3 2 f x) = wd (ix2 f x))

include h2 in
theorem dAct_whole (t : Fin 11) (r : Fin 2048) (k : Fin 256) : dAct d (blkRows W t) r k = wAct d wd r (colOf t k) :=
  Finset.sum_congr rfl fun x _ => congrArg (d (ix2 r x) * ·) (h2 (colOf t k) x)

include hG hU h2 in
theorem dG_whole (t : Fin 11) (r : Fin 2048) (k : Fin 256) :
    dG d (blkCols G t) (blkCols U t) (blkRows W t) r k = wG d h wg wu wd r (colOf t k) := by
  unfold dG wG
  rw [dAct_whole h2]
  exact congr (congrArg _ (hG t r k)) (hU t r k)

include hG h2 in
theorem dU_whole (t : Fin 11) (r : Fin 2048) (k : Fin 256) :
    dU d (blkCols G t) (blkRows W t) r k = wU d h wg wd r (colOf t k) := by
  unfold dU wU
  rw [dAct_whole h2]
  exact congrArg _ (hG t r k)

include hG hU in
theorem aC_whole (t : Fin 11) (r : Fin 2048) (k : Fin 256) : aC (blkCols G t) (blkCols U t) r k = wC h wg wu r (colOf t k) :=
  congr (congrArg actF (hG t r k)) (hU t r k)

include hG hU h2 in
/-- A block's weights' gradients are the block's columns of the whole. -/
theorem dW_whole (t : Fin 11) (p : Fin 3) (k : Fin 256) (x : Fin 1024) :
    dWBlk d h (blkCols G t) (blkCols U t) (blkRows W t) p k x = wDW d h wg wu wd p (colOf t k) x := by
  match p with
  | 0 => exact Finset.sum_congr rfl fun r _ => congrArg (· * h (ix2 r x)) (dG_whole hG hU h2 t r k)
  | 1 => exact Finset.sum_congr rfl fun r _ => congrArg (· * h (ix2 r x)) (dU_whole hG h2 t r k)
  | 2 => exact Finset.sum_congr rfl fun r _ => congrArg (· * d (ix2 r x)) (aC_whole hG hU t r k)

include hG hU h0 h1 h2 in
/-- The blocks' contributions to the input's gradient add up to the whole. -/
theorem dH_whole (r : Fin 2048) (x : Fin 1024) :
    ∑ t : Fin 11, dHStep d (blkCols G t) (blkCols U t) (blkRows W t) r x = wDH d h wg wu wd r x := by
  unfold wDH
  rw [← sum_blocks, ← sum_blocks, ← Finset.sum_add_distrib]
  refine Finset.sum_congr rfl fun t _ => congr (congrArg HAdd.hAdd ?_) ?_
  · refine Finset.sum_congr rfl fun k _ => ?_
    rw [dG_whole hG hU h2]
    exact congrArg (_ * ·) (h0 (colOf t k) x)
  · refine Finset.sum_congr rfl fun k _ => ?_
    rw [dU_whole hG h2]
    exact congrArg (_ * ·) (h1 (colOf t k) x)

end Whole

/-! The gate's gradient two ways. -/

theorem sg_real (g : ℝ) : sg (g : EReal) = ((1 / (1 + Real.exp (-g)) : ℝ) : EReal) := by
  have hp : (1 + Real.exp (-g) : ℝ) ≠ 0 := by positivity
  unfold sg
  rw [zero_sub, ← EReal.coe_neg]
  show Ideal.div 1 (1 + ((Real.exp (-g) : ℝ) : EReal)) = _
  rw [← EReal.coe_one, ← EReal.coe_add]
  unfold Ideal.div
  rw [if_neg (by exact_mod_cast hp), ← EReal.coe_inv, ← EReal.coe_mul, one_div, one_mul]

theorem sg_top : sg ⊤ = 1 := by
  unfold sg
  rw [zero_sub, EReal.neg_top]
  show Ideal.div 1 (1 + 0) = 1
  unfold Ideal.div
  rw [add_zero, if_neg one_ne_zero, ← EReal.coe_one, ← EReal.coe_inv, ← EReal.coe_mul, inv_one, one_mul]

theorem sg_bot : sg ⊥ = 0 := by
  unfold sg
  rw [zero_sub, EReal.neg_bot]
  show Ideal.div 1 (1 + ⊤) = 0
  unfold Ideal.div
  rw [← EReal.coe_one, EReal.coe_add_top, if_neg (by simp), EReal.inv_top, mul_zero]

/-- The product rule for `g ↦ g * sg g`, term by term or gathered, the factor `a * u` real. -/
theorem gate_two_ways (a u : ℝ) (g : EReal) :
    gateG a g u = (a * u : EReal) * sg g + (g * (a * u : EReal)) * (sg g * (1 - sg g)) := by
  unfold gateG
  induction g with
  | bot => rw [sg_bot]; simp
  | top =>
    have e : (1 : EReal) - 1 = 0 := by rw [← EReal.coe_one, ← EReal.coe_sub, sub_self, EReal.coe_zero]
    rw [sg_top, e]; simp
  | coe g =>
    rw [sg_real]
    generalize (1 / (1 + Real.exp (-g)) : ℝ) = s
    norm_cast
    ring

end Cert.FfnMath
end
-- ==== Proof.Reals.lean ====
module
public import proofs.«01_k».proof.Proof.FfnWhole
public import Idealize.ShloMosaic.Lib.IdealHost

/-! Extended reals that are real, and what keeps them so. -/

@[expose] public section
noncomputable section
namespace Cert.FfnMath
open Idealize.ShloMosaic

/-- The number is real: neither infinity. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (f : ι → EReal) (h : ∀ i ∈ s, IsR (f i)) : IsR (∑ i ∈ s, f i) :=
  Finset.sum_induction f IsR (fun _ _ => IsR.add) ⟨0, rfl⟩ h

theorem ofBits_inf : Ideal.ofBits .f32 0x7F800000#32 = ⊤ := by
  simp [Ideal.ofBits, Ideal.ieee]

theorem isR_half : IsR (Ideal.ofBits .f32 0x3F000000#32) := by
  refine ⟨1 / 2, ?_⟩
  simp [Ideal.ofBits, Ideal.ieee, -EReal.coe_mul]; norm_num

/-- An absolute value below infinity is a real number's. -/
theorem isR_of_lt {x : EReal} (h : max x (-x) < Ideal.ofBits .f32 0x7F800000#32) : IsR x := by
  rw [ofBits_inf, max_lt_iff] at h
  induction x with
  | bot => exact absurd h.2 (by simp)
  | top => exact absurd h.1 (by simp)
  | coe r => exact ⟨r, rfl⟩

/-- A comparison of absolute values with infinity that is one everywhere says that every entry is real. -/
theorem isR_of_fin {s : Shape} (a : s.Idx → EReal) (b : s.Idx → EReal) (hb : ∀ i, b i = Ideal.ofBits .f32 0x7F800000#32)
    (h : cmpf (F := Ideal) (φ := .f32) .olt (Host.absf (F := Ideal) (φ := .f32) a) b = fun _ => 1#1) (i : s.Idx) : IsR (a i) := by
  have e : BitVec.ofBool (decide (max (a i) (-(a i)) < b i)) = 1#1 := congrFun h i
  rw [hb] at e
  by_cases c : max (a i) (-(a i)) < Ideal.ofBits .f32 0x7F800000#32
  · exact isR_of_lt c
  · rw [decide_eq_false c] at e; exact absurd e (by decide)

theorem isR_proj {h : A2 2048 1024} {w : A2 1024 2816} (hh : ∀ i, IsR (h i)) (hw : ∀ i, IsR (w i)) (r : Fin 2048) (f : Fin 2816) :
    IsR (proj h w r f) := IsR.sum _ _ fun _ _ => (hh _).mul (hw _)
theorem isR_wAct {d : A2 2048 1024} {w : A2 2816 1024} (hd : ∀ i, IsR (d i)) (hw : ∀ i, IsR (w i)) (r : Fin 2048) (f : Fin 2816) :
    IsR (wAct d w r f) := IsR.sum _ _ fun _ _ => (hd _).mul (hw _)

end Cert.FfnMath
end
-- ==== Proof.Ffn1Block.lean ====
module
public import proofs.«01_k».proof.Proof.Gen.Ffn1BwdIdeal.Frame
public import proofs.«01_k».proof.Proof.FfnMath

/-! What one point of the grid stores: the eight row chunks' pieces of the accumulator, of the two gradients side by side
and of the activation, and their values at an index. -/

@[expose] public section
noncomputable section
namespace Cert.Ffn1BwdIdeal.Value
open Cert.Ffn1BwdIdeal Cert.Ffn1BwdIdeal.Gen Cert.FfnMath Idealize.ShloMosaic

section Pieces
variable (d h : Vec Ideal S2048x1024 .bf16) (g u : Vec Ideal S1x2048x256 .bf16) (w : Vec Ideal S3x256x1024 .bf16)
  (acc : Vec Ideal S2048x1024 .f32)

/-- The accumulator's stores, last first. -/
def accPieces : List (View.Piece (Elt Ideal) S2048x1024 .f32) :=
   [⟨Rect.unit ![1792, 0] ![256, 1024] inb_S2048x1024_S256x1024_1792_0,
      k0_pay79 (k0_pay4 (View.ld w (Rect.unit ![0, 0, 0] ![2, 256, 1024] inb_S3x256x1024_S2x256x1024_0_0_0)))
        (View.ld d (Rect.unit ![1792, 0] ![256, 1024] inb_S2048x1024_S256x1024_1792_0))
        (k0_pay72 (View.ld g (Rect.unit ![0, 1792, 0] ![1, 256, 256] inb_S1x2048x256_S1x256x256_0_1792_0)))
        (k0_pay73 (View.ld u (Rect.unit ![0, 1792, 0] ![1, 256, 256] inb_S1x2048x256_S1x256x256_0_1792_0)))
        (FloatOps.ofBits FTy.f32 0#32)
        (View.ld w (Rect.unit ![2, 0, 0] ![1, 256, 1024] inb_S3x256x1024_S1x256x1024_2_0_0))
        (View.ld acc (Rect.unit ![1792, 0] ![256, 1024] inb_S2048x1024_S256x1024_1792_0))⟩,
    ⟨Rect.unit ![1536, 0] ![256, 1024] inb_S2048x1024_S256x1024_1536_0,
      k0_pay71 (k0_pay4 (View.ld w (Rect.unit ![0, 0, 0] ![2, 256, 1024] inb_S3x256x1024_S2x256x1024_0_0_0)))
        (View.ld d (Rect.unit ![1536, 0] ![256, 1024] inb_S2048x1024_S256x1024_1536_0))
        (k0_pay64 (View.ld g (Rect.unit ![0, 1536, 0] ![1, 256, 256] inb_S1x2048x256_S1x256x256_0_1536_0)))
        (k0_pay65 (View.ld u (Rect.unit ![0, 1536, 0] ![1, 256, 256] inb_S1x2048x256_S1x256x256_0_1536_0)))
        (k0_pay66 (View.ld g (Rect.unit ![0, 1536, 0] ![1, 256, 256] inb_S1x2048x256_S1x256x256_0_1536_0)))
        (k0_pay67 (View.ld g (Rect.unit ![0, 1536, 0] ![1, 256, 256] inb_S1x2048x256_S1x256x256_0_1536_0)))
        (View.ld w (Rect.unit ![2, 0, 0] ![1, 256, 1024] inb_S3x256x1024_S1x256x1024_2_0_0))
        (View.ld acc (Rect.unit ![1536, 0] ![256, 1024] inb_S2048x1024_S256x1024_1536_0))⟩,
    ⟨Rect.unit ![1280, 0] ![256, 1024] inb_S2048x1024_S256x1024_1280_0,
      k0_pay63 (k0_pay4 (View.ld w (Rect.unit ![0, 0, 0] ![2, 256, 1024] inb_S3x256x1024_S2x256x1024_0_0_0)))
        (k0_pay54 (View.ld g (Rect.unit ![0, 1280, 0] ![1, 256, 256] inb_S1x2048x256_S1x256x256_0_1280_0)))
        (k0_pay57 (View.ld d (Rect.unit ![1280, 0] ![256, 1024] inb_S2048x1024_S256x1024_1280_0))
          (View.ld g (Rect.unit ![0, 1280, 0] ![1, 256, 256] inb_S1x2048x256_S1x256x256_0_1280_0))
          (View.ld w (Rect.unit ![2, 0, 0] ![1, 256, 1024] inb_S3x256x1024_S1x256x1024_2_0_0)))
        (k0_pay58 (View.ld d (Rect.unit ![1280, 0] ![256, 1024] inb_S2048x1024_S256x1024_1280_0))
          (View.ld u (Rect.unit ![0, 1280, 0] ![1, 256, 256] inb_S1x2048x256_S1x256x256_0_1280_0))
          (View.ld w (Rect.unit ![2, 0, 0] ![1, 256, 1024] inb_S3x256x1024_S1x256x1024_2_0_0)))
        (k0_pay59 (View.ld g (Rect.unit ![0, 1280, 0] ![1, 256, 256] inb_S1x2048x256_S1x256x256_0_1280_0)))
        (View.ld acc (Rect.unit ![1280, 0] ![256, 1024] inb_S2048x1024_S256x1024_1280_0))⟩,
    ⟨Rect.unit ![1024, 0] ![256, 1024] inb_S2048x1024_S256x1024_1024_0,
      k0_pay51 (k0_pay4 (View.ld w (Rect.unit ![0, 0, 0] ![2, 256, 1024] inb_S3x256x1024_S2x256x1024_0_0_0)))
        (k0_pay47 (View.ld d (Rect.unit ![1024, 0] ![256, 1024] inb_S2048x1024_S256x1024_1024_0))
          (View.ld g (Rect.unit ![0, 1024, 0] ![1, 256, 256] inb_S1x2048x256_S1x256x256_0_1024_0))
          (View.ld u (Rect.unit ![0, 1024, 0] ![1, 256, 256] inb_S1x2048x256_S1x256x256_0_1024_0))
          (View.ld w (Rect.unit ![2, 0, 0] ![1, 256, 1024] inb_S3x256x1024_S1x256x1024_2_0_0)))
        (View.ld acc (Rect.unit ![1024, 0] ![256, 1024] inb_S2048x1024_S256x1024_1024_0))⟩,
    ⟨Rect.unit ![768, 0] ![256, 1024] inb_S2048x1024_S256x1024_768_0,
      k0_pay42
        (k0_pay41 (k0_pay4 (View.ld w (Rect.unit ![0, 0, 0] ![2, 256, 1024] inb_S3x256x1024_S2x256x1024_0_0_0)))
          (View.ld d (Rect.unit ![768, 0] ![256, 1024] inb_S2048x1024_S256x1024_768_0))
          (k0_pay33 (View.ld g (Rect.unit ![0, 768, 0] ![1, 256, 256] inb_S1x2048x256_S1x256x256_0_768_0)))
          (View.ld u (Rect.unit ![0, 768, 0] ![1, 256, 256] inb_S1x2048x256_S1x256x256_0_768_0))
          (View.ld w (Rect.unit ![2, 0, 0] ![1, 256, 1024] inb_S3x256x1024_S1x256x1024_2_0_0))
          (View.ld acc (Rect.unit ![768, 0] ![256, 1024] inb_S2048x1024_S256x1024_768_0)))⟩,
    ⟨Rect.unit ![512, 0] ![256, 1024] inb_S2048x1024_S256x1024_512_0,
      k0_pay32 (k0_pay4 (View.ld w (Rect.unit ![0, 0, 0] ![2, 256, 1024] inb_S3x256x1024_S2x256x1024_0_0_0)))
        (View.ld d (Rect.unit ![512, 0] ![256, 1024] inb_S2048x1024_S256x1024_512_0))
        (k0_pay23 (View.ld g (Rect.unit ![0, 512, 0] ![1, 256, 256] inb_S1x2048x256_S1x256x256_0_512_0)))
        (k0_pay24 (View.ld u (Rect.unit ![0, 512, 0] ![1, 256, 256] inb_S1x2048x256_S1x256x256_0_512_0)))
        (k0_pay25 (View.ld g (Rect.unit ![0, 512, 0] ![1, 256, 256] inb_S1x2048x256_S1x256x256_0_512_0))) k0_pay26
        (View.ld w (Rect.unit ![2, 0, 0] ![1, 256, 1024] inb_S3x256x1024_S1x256x1024_2_0_0))
        (View.ld acc (Rect.unit ![512, 0] ![256, 1024] inb_S2048x1024_S256x1024_512_0))⟩,
    ⟨Rect.unit ![256, 0] ![256, 1024] inb_S2048x1024_S256x1024_256_0,
      k0_pay22 (k0_pay4 (View.ld w (Rect.unit ![0, 0, 0] ![2, 256, 1024] inb_S3x256x1024_S2x256x1024_0_0_0)))
        (k0_pay13 (View.ld g (Rect.unit ![0, 256, 0] ![1, 256, 256] inb_S1x2048x256_S1x256x256_0_256_0)))
        (k0_pay14 (View.ld u (Rect.unit ![0, 256, 0] ![1, 256, 256] inb_S1x2048x256_S1x256x256_0_256_0)))
        (k0_pay15 (View.ld g (Rect.unit ![0, 256, 0] ![1, 256, 256] inb_S1x2048x256_S1x256x256_0_256_0)))
        (k0_pay17 (View.ld d (Rect.unit ![256, 0] ![256, 1024] inb_S2048x1024_S256x1024_256_0))
          (View.ld w (Rect.unit ![2, 0, 0] ![1, 256, 1024] inb_S3x256x1024_S1x256x1024_2_0_0)))
        (k0_pay18 (View.ld d (Rect.unit ![256, 0] ![256, 1024] inb_S2048x1024_S256x1024_256_0))
          (View.ld g (Rect.unit ![0, 256, 0] ![1, 256, 256] inb_S1x2048x256_S1x256x256_0_256_0))
          (View.ld w (Rect.unit ![2, 0, 0] ![1, 256, 1024] inb_S3x256x1024_S1x256x1024_2_0_0)))
        (View.ld acc (Rect.unit ![256, 0] ![256, 1024] inb_S2048x1024_S256x1024_256_0))⟩,
    ⟨Rect.unit ![0, 0] ![256, 1024] inb_S2048x1024_S256x1024_0_0,
      k0_pay12 (k0_pay4 (View.ld w (Rect.unit ![0, 0, 0] ![2, 256, 1024] inb_S3x256x1024_S2x256x1024_0_0_0)))
        (k0_pay9 (View.ld d (Rect.unit ![0, 0] ![256, 1024] inb_S2048x1024_S256x1024_0_0))
          (View.ld g (Rect.unit ![0, 0, 0] ![1, 256, 256] inb_S1x2048x256_S1x256x256_0_0_0))
          (View.ld u (Rect.unit ![0, 0, 0] ![1, 256, 256] inb_S1x2048x256_S1x256x256_0_0_0))
          (View.ld w (Rect.unit ![2, 0, 0] ![1, 256, 1024] inb_S3x256x1024_S1x256x1024_2_0_0)))
        (View.ld acc (Rect.unit ![0, 0] ![256, 1024] inb_S2048x1024_S256x1024_0_0))⟩]

/-- The stores of the gate's and the up projection's gradients, last first. -/
def dguPieces : List (View.Piece (Elt Ideal) S2048x512 .bf16) :=
  [⟨Rect.unit ![1792, 0] ![256, 512] inb_S2048x512_S256x512_1792_0,
      k0_pay77 (View.ld d (Rect.unit ![1792, 0] ![256, 1024] inb_S2048x1024_S256x1024_1792_0))
        (k0_pay72 (View.ld g (Rect.unit ![0, 1792, 0] ![1, 256, 256] inb_S1x2048x256_S1x256x256_0_1792_0)))
        (k0_pay73 (View.ld u (Rect.unit ![0, 1792, 0] ![1, 256, 256] inb_S1x2048x256_S1x256x256_0_1792_0)))
        (FloatOps.ofBits FTy.f32 0#32)
        (View.ld w (Rect.unit ![2, 0, 0] ![1, 256, 1024] inb_S3x256x1024_S1x256x1024_2_0_0))⟩,
    ⟨Rect.unit ![1536, 0] ![256, 512] inb_S2048x512_S256x512_1536_0,
      k0_pay69 (View.ld d (Rect.unit ![1536, 0] ![256, 1024] inb_S2048x1024_S256x1024_1536_0))
        (k0_pay64 (View.ld g (Rect.unit ![0, 1536, 0] ![1, 256, 256] inb_S1x2048x256_S1x256x256_0_1536_0)))
        (k0_pay65 (View.ld u (Rect.unit ![0, 1536, 0] ![1, 256, 256] inb_S1x2048x256_S1x256x256_0_1536_0)))
        (k0_pay66 (View.ld g (Rect.unit ![0, 1536, 0] ![1, 256, 256] inb_S1x2048x256_S1x256x256_0_1536_0)))
        (k0_pay67 (View.ld g (Rect.unit ![0, 1536, 0] ![1, 256, 256] inb_S1x2048x256_S1x256x256_0_1536_0)))
        (View.ld w (Rect.unit ![2, 0, 0] ![1, 256, 1024] inb_S3x256x1024_S1x256x1024_2_0_0))⟩,
    ⟨Rect.unit ![1280, 0] ![256, 512] inb_S2048x512_S256x512_1280_0,
      k0_pay61
        (k0_pay54 (View.ld g (Rect.unit ![0, 1280, 0] ![1, 256, 256] inb_S1x2048x256_S1x256x256_0_1280_0)))
        (k0_pay57 (View.ld d (Rect.unit ![1280, 0] ![256, 1024] inb_S2048x1024_S256x1024_1280_0))
          (View.ld g (Rect.unit ![0, 1280, 0] ![1, 256, 256] inb_S1x2048x256_S1x256x256_0_1280_0))
          (View.ld w (Rect.unit ![2, 0, 0] ![1, 256, 1024] inb_S3x256x1024_S1x256x1024_2_0_0)))
        (k0_pay58 (View.ld d (Rect.unit ![1280, 0] ![256, 1024] inb_S2048x1024_S256x1024_1280_0))
          (View.ld u (Rect.unit ![0, 1280, 0] ![1, 256, 256] inb_S1x2048x256_S1x256x256_0_1280_0))
          (View.ld w (Rect.unit ![2, 0, 0] ![1, 256, 1024] inb_S3x256x1024_S1x256x1024_2_0_0)))
        (k0_pay59 (View.ld g (Rect.unit ![0, 1280, 0] ![1, 256, 256] inb_S1x2048x256_S1x256x256_0_1280_0)))⟩,
    ⟨Rect.unit ![1024, 0] ![256, 512] inb_S2048x512_S256x512_1024_0,
      k0_pay48 (View.ld d (Rect.unit ![1024, 0] ![256, 1024] inb_S2048x1024_S256x1024_1024_0))
        (View.ld g (Rect.unit ![0, 1024, 0] ![1, 256, 256] inb_S1x2048x256_S1x256x256_0_1024_0))
        (View.ld u (Rect.unit ![0, 1024, 0] ![1, 256, 256] inb_S1x2048x256_S1x256x256_0_1024_0))
        (View.ld w (Rect.unit ![2, 0, 0] ![1, 256, 1024] inb_S3x256x1024_S1x256x1024_2_0_0))⟩,
    ⟨Rect.unit ![768, 0] ![256, 512] inb_S2048x512_S256x512_768_0,
      k0_pay39 (View.ld d (Rect.unit ![768, 0] ![256, 1024] inb_S2048x1024_S256x1024_768_0))
        (k0_pay33 (View.ld g (Rect.unit ![0, 768, 0] ![1, 256, 256] inb_S1x2048x256_S1x256x256_0_768_0)))
        (View.ld u (Rect.unit ![0, 768, 0] ![1, 256, 256] inb_S1x2048x256_S1x256x256_0_768_0))
        (View.ld w (Rect.unit ![2, 0, 0] ![1, 256, 1024] inb_S3x256x1024_S1x256x1024_2_0_0))⟩,
    ⟨Rect.unit ![512, 0] ![256, 512] inb_S2048x512_S256x512_512_0,
      k0_pay30 (View.ld d (Rect.unit ![512, 0] ![256, 1024] inb_S2048x1024_S256x1024_512_0))
        (k0_pay23 (View.ld g (Rect.unit ![0, 512, 0] ![1, 256, 256] inb_S1x2048x256_S1x256x256_0_512_0)))
        (k0_pay24 (View.ld u (Rect.unit ![0, 512, 0] ![1, 256, 256] inb_S1x2048x256_S1x256x256_0_512_0)))
        (k0_pay25 (View.ld g (Rect.unit ![0, 512, 0] ![1, 256, 256] inb_S1x2048x256_S1x256x256_0_512_0)))
        k0_pay26 (View.ld w (Rect.unit ![2, 0, 0] ![1, 256, 1024] inb_S3x256x1024_S1x256x1024_2_0_0))⟩,
    ⟨Rect.unit ![256, 0] ![256, 512] inb_S2048x512_S256x512_256_0,
      k0_pay20
        (k0_pay13 (View.ld g (Rect.unit ![0, 256, 0] ![1, 256, 256] inb_S1x2048x256_S1x256x256_0_256_0)))
        (k0_pay14 (View.ld u (Rect.unit ![0, 256, 0] ![1, 256, 256] inb_S1x2048x256_S1x256x256_0_256_0)))
        (k0_pay15 (View.ld g (Rect.unit ![0, 256, 0] ![1, 256, 256] inb_S1x2048x256_S1x256x256_0_256_0)))
        (k0_pay17 (View.ld d (Rect.unit ![256, 0] ![256, 1024] inb_S2048x1024_S256x1024_256_0))
          (View.ld w (Rect.unit ![2, 0, 0] ![1, 256, 1024] inb_S3x256x1024_S1x256x1024_2_0_0)))
        (k0_pay18 (View.ld d (Rect.unit ![256, 0] ![256, 1024] inb_S2048x1024_S256x1024_256_0))
          (View.ld g (Rect.unit ![0, 256, 0] ![1, 256, 256] inb_S1x2048x256_S1x256x256_0_256_0))
          (View.ld w (Rect.unit ![2, 0, 0] ![1, 256, 1024] inb_S3x256x1024_S1x256x1024_2_0_0)))⟩,
    ⟨Rect.unit ![0, 0] ![256, 512] inb_S2048x512_S256x512_0_0,
      k0_pay10
        (k0_pay9 (View.ld d (Rect.unit ![0, 0] ![256, 1024] inb_S2048x1024_S256x1024_0_0))
          (View.ld g (Rect.unit ![0, 0, 0] ![1, 256, 256] inb_S1x2048x256_S1x256x256_0_0_0))
          (View.ld u (Rect.unit ![0, 0, 0] ![1, 256, 256] inb_S1x2048x256_S1x256x256_0_0_0))
          (View.ld w (Rect.unit ![2, 0, 0] ![1, 256, 1024] inb_S3x256x1024_S1x256x1024_2_0_0)))⟩]

/-- The activation's stores, last first. -/
def actPieces : List (View.Piece (Elt Ideal) S2048x256 .bf16) :=
  [⟨Rect.unit ![1792, 0] ![256, 256] inb_S2048x256_S256x256_1792_0,
      k0_pay78
        (k0_pay72 (View.ld g (Rect.unit ![0, 1792, 0] ![1, 256, 256] inb_S1x2048x256_S1x256x256_0_1792_0)))
        (k0_pay73 (View.ld u (Rect.unit ![0, 1792, 0] ![1, 256, 256] inb_S1x2048x256_S1x256x256_0_1792_0)))
        (FloatOps.ofBits FTy.f32 0#32)⟩,
    ⟨Rect.unit ![1536, 0] ![256, 256] inb_S2048x256_S256x256_1536_0,
      k0_pay70
        (k0_pay65 (View.ld u (Rect.unit ![0, 1536, 0] ![1, 256, 256] inb_S1x2048x256_S1x256x256_0_1536_0)))
        (k0_pay67 (View.ld g (Rect.unit ![0, 1536, 0] ![1, 256, 256] inb_S1x2048x256_S1x256x256_0_1536_0)))⟩,
    ⟨Rect.unit ![1280, 0] ![256, 256] inb_S2048x256_S256x256_1280_0,
      k0_pay62
        (k0_pay53 (View.ld u (Rect.unit ![0, 1280, 0] ![1, 256, 256] inb_S1x2048x256_S1x256x256_0_1280_0)))
        (k0_pay55 (View.ld g (Rect.unit ![0, 1280, 0] ![1, 256, 256] inb_S1x2048x256_S1x256x256_0_1280_0)))⟩,
    ⟨Rect.unit ![1024, 0] ![256, 256] inb_S2048x256_S256x256_1024_0,
      k0_pay50
        (k0_pay49 (View.ld g (Rect.unit ![0, 1024, 0] ![1, 256, 256] inb_S1x2048x256_S1x256x256_0_1024_0))
          (View.ld u (Rect.unit ![0, 1024, 0] ![1, 256, 256] inb_S1x2048x256_S1x256x256_0_1024_0)))⟩,
    ⟨Rect.unit ![768, 0] ![256, 256] inb_S2048x256_S256x256_768_0,
      k0_pay40
        (k0_pay33 (View.ld g (Rect.unit ![0, 768, 0] ![1, 256, 256] inb_S1x2048x256_S1x256x256_0_768_0)))
        (View.ld u (Rect.unit ![0, 768, 0] ![1, 256, 256] inb_S1x2048x256_S1x256x256_0_768_0))⟩,
    ⟨Rect.unit ![512, 0] ![256, 256] inb_S2048x256_S256x256_512_0,
      k0_pay31
        (k0_pay23 (View.ld g (Rect.unit ![0, 512, 0] ![1, 256, 256] inb_S1x2048x256_S1x256x256_0_512_0)))
        (k0_pay24 (View.ld u (Rect.unit ![0, 512, 0] ![1, 256, 256] inb_S1x2048x256_S1x256x256_0_512_0)))
        (k0_pay25 (View.ld g (Rect.unit ![0, 512, 0] ![1, 256, 256] inb_S1x2048x256_S1x256x256_0_512_0)))
        k0_pay26⟩,
    ⟨Rect.unit ![256, 0] ![256, 256] inb_S2048x256_S256x256_256_0,
      k0_pay21
        (k0_pay14 (View.ld u (Rect.unit ![0, 256, 0] ![1, 256, 256] inb_S1x2048x256_S1x256x256_0_256_0)))
        (k0_pay16 (View.ld g (Rect.unit ![0, 256, 0] ![1, 256, 256] inb_S1x2048x256_S1x256x256_0_256_0)))⟩,
    ⟨Rect.unit ![0, 0] ![256, 256] inb_S2048x256_S256x256_0_0,
      k0_pay11 (k0_pay6 (View.ld u (Rect.unit ![0, 0, 0] ![1, 256, 256] inb_S1x2048x256_S1x256x256_0_0_0)))
        (k0_pay8 (View.ld g (Rect.unit ![0, 0, 0] ![1, 256, 256] inb_S1x2048x256_S1x256x256_0_0_0)))⟩]

theorem acc_at (r : Fin 2048) (x : Fin 1024) :
    View.AllAt (accPieces d g u w acc) (ix2 r x) (acc (ix2 r x) + dHStep d g u w r x) := by
  unfold accPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 1024), y = ix2 a b := ⟨y 0, y 1, eq_ix2 y⟩
    obtain ⟨r, hr⟩ := r
    obtain rfl : r = _ + a.val := hy 0
    obtain rfl : x = b := Fin.ext ((hy 1).trans (Nat.zero_add _))
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
    try simp only [ld_rows, ld_planes, zero_add, Fin.eta, div_lo, div_hi, mod_lo, mod_hi]
    rfl

theorem dgu_at (r : Fin 2048) (x : Fin 512) : View.AllAt (dguPieces d g u w) (ix2 r x) (dGU d g u w r x) := by
  unfold dguPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 512), y = ix2 a b := ⟨y 0, y 1, eq_ix2 y⟩
    obtain ⟨r, hr⟩ := r
    obtain rfl : r = _ + a.val := hy 0
    obtain rfl : x = b := Fin.ext ((hy 1).trans (Nat.zero_add _))
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
    try simp only [ld_rows, ld_planes, zero_add, Fin.eta, div_lo, div_hi, mod_lo, mod_hi]
    rfl

theorem act_at (r : Fin 2048) (x : Fin 256) : View.AllAt (actPieces g u) (ix2 r x) (aC g u r x) := by
  unfold actPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 256), y = ix2 a b := ⟨y 0, y 1, eq_ix2 y⟩
    obtain ⟨r, hr⟩ := r
    obtain rfl : r = _ + a.val := hy 0
    obtain rfl : x = b := Fin.ext ((hy 1).trans (Nat.zero_add _))
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
    try simp only [ld_rows, ld_planes, zero_add, Fin.eta, div_lo, div_hi, mod_lo, mod_hi]
    rfl

theorem acc_cover (y : S2048x1024.Idx) : ∃ p ∈ accPieces d g u w acc, y ∈ p.1.set :=
  View.cover_of_tiled _ ![256, 1024] (by sl_kernel_rfl) y
theorem dgu_cover (y : S2048x512.Idx) : ∃ p ∈ dguPieces d g u w, y ∈ p.1.set :=
  View.cover_of_tiled _ ![256, 512] (by sl_kernel_rfl) y
theorem act_cover (y : S2048x256.Idx) : ∃ p ∈ actPieces g u, y ∈ p.1.set :=
  View.cover_of_tiled _ ![256, 256] (by sl_kernel_rfl) y

/-- The stores of the three weights' gradients, last first, from the stores of the gradients and of the activation. -/
def dwPieces {sig : RefSig} {κ κ' : Kind} {sp sp' : Space} (v11 : View sig κ sp S2048x512 .bf16)
    (v12 : View sig κ' sp' S2048x256 .bf16) : List (View.Piece (Elt Ideal) S3x256x1024 .bf16) :=
  [⟨Rect.unit ![2, 0, 0] ![1, 256, 1024] inb_S3x256x1024_S1x256x1024_2_0_0,
      k0_pay2 (v12.readCov (actPieces g u) (Rect.unit ![0, 0] ![2048, 256] inb_S2048x256_S2048x256_0_0).toLoadRect)
        (View.ld d (Rect.unit ![0, 0] ![2048, 1024] inb_S2048x1024_S2048x1024_0_0))⟩,
    ⟨Rect.unit ![0, 0, 0] ![2, 256, 1024] inb_S3x256x1024_S2x256x1024_0_0_0,
      k0_pay1 (v11.readCov (dguPieces d g u w) (Rect.unit ![0, 0] ![2048, 512] inb_S2048x512_S2048x512_0_0).toLoadRect)
        (View.ld h (Rect.unit ![0, 0] ![2048, 1024] inb_S2048x1024_S2048x1024_0_0))⟩]

theorem dgu_read {sig : RefSig} {κ : Kind} {sp : Space} (v : View sig κ sp S2048x512 .bf16) :
    v.readCov (dguPieces d g u w) (Rect.unit ![0, 0] ![2048, 512] inb_S2048x512_S2048x512_0_0).toLoadRect
      = fun j : (⟨2, ![2048, 512]⟩ : Shape).Idx => dGU d g u w (j 0) (j 1) := by
  rw [View.readCov_eq_canon_ld _ _ _ (dgu_cover d g u w)]
  funext j
  obtain ⟨r, k, rfl⟩ : ∃ (r : Fin 2048) (k : Fin 512), j = ix2 r k := ⟨j 0, j 1, eq_ix2 j⟩
  refine (ld_rows _ _ r k).trans ?_
  simp only [zero_add, Fin.eta]
  exact View.canon_eq_of_allAt _ _ _ (dgu_cover d g u w _) (dgu_at d g u w r k)

theorem act_read {sig : RefSig} {κ : Kind} {sp : Space} (v : View sig κ sp S2048x256 .bf16) :
    v.readCov (actPieces g u) (Rect.unit ![0, 0] ![2048, 256] inb_S2048x256_S2048x256_0_0).toLoadRect
      = fun j : (⟨2, ![2048, 256]⟩ : Shape).Idx => aC g u (j 0) (j 1) := by
  rw [View.readCov_eq_canon_ld _ _ _ (act_cover g u)]
  funext j
  obtain ⟨r, k, rfl⟩ : ∃ (r : Fin 2048) (k : Fin 256), j = ix2 r k := ⟨j 0, j 1, eq_ix2 j⟩
  refine (ld_rows _ _ r k).trans ?_
  simp only [zero_add, Fin.eta]
  exact View.canon_eq_of_allAt _ _ _ (act_cover g u _) (act_at g u r k)

theorem dw_at {sig : RefSig} {κ κ' : Kind} {sp sp' : Space} (v11 : View sig κ sp S2048x512 .bf16)
    (v12 : View sig κ' sp' S2048x256 .bf16) (p : Fin 3) (k : Fin 256) (x : Fin 1024) :
    View.AllAt (dwPieces d h g u w v11 v12) (ix3 p k x) (dWBlk d h g u w p k x) := by
  unfold dwPieces
  rw [act_read, dgu_read]
  refine View.allAt_cons_unit _ _ _ _ _ ?_ (View.allAt_cons_unit _ _ _ _ _ ?_ (View.allAt_nil _ _))
  · intro y hy
    obtain ⟨a, b, e, rfl⟩ : ∃ (a : Fin 1) (b : Fin 256) (e : Fin 1024), y = ix3 a b e := ⟨y 0, y 1, y 2, eq_ix3 y⟩
    obtain rfl : k = b := Fin.ext ((hy 1).trans (Nat.zero_add _))
    obtain rfl : x = e := Fin.ext ((hy 2).trans (Nat.zero_add _))
    obtain rfl : p = 2 := Fin.ext ((hy 0).trans (by show 2 + a.val = 2; omega))
    pointwise [k0_pay2]
    rfl
  · intro y hy
    obtain ⟨a, b, e, rfl⟩ : ∃ (a : Fin 2) (b : Fin 256) (e : Fin 1024), y = ix3 a b e := ⟨y 0, y 1, y 2, eq_ix3 y⟩
    obtain rfl : k = b := Fin.ext ((hy 1).trans (Nat.zero_add _))
    obtain rfl : x = e := Fin.ext ((hy 2).trans (Nat.zero_add _))
    pointwise [k0_pay1]
    obtain ⟨p, hp⟩ := p
    obtain rfl : p = 0 + a.val := hy 0
    match a with
    | 0 =>
      refine Finset.sum_congr rfl fun r _ => congrArg (· * _) ?_
      refine (dif_pos (by show 0 * 256 + k.val < 256; omega)).trans (congrArg (dG d g u w r) (Fin.ext ?_))
      show 0 * 256 + k.val = k.val
      omega
    | 1 =>
      refine Finset.sum_congr rfl fun r _ => congrArg (· * _) ?_
      refine (dif_neg (by show ¬ 1 * 256 + k.val < 256; omega)).trans (congrArg (dU d g w r) (Fin.ext ?_))
      show 1 * 256 + k.val - 256 = k.val
      omega

theorem dw_cover {sig : RefSig} {κ κ' : Kind} {sp sp' : Space} (v11 : View sig κ sp S2048x512 .bf16)
    (v12 : View sig κ' sp' S2048x256 .bf16) (y : S3x256x1024.Idx) : ∃ q ∈ dwPieces d h g u w v11 v12, y ∈ q.1.set :=
  View.cover_of_tiledBy _ ![1, 256, 1024] (by sl_kernel_rfl) y

end Pieces
end Cert.Ffn1BwdIdeal.Value
end
-- ==== Proof.Ffn1Cases.lean ====
module
public import proofs.«01_k».proof.Proof.Ffn1Block

/-! What each kind of grid point leaves: the first (it fetches the two arrays and clears the accumulator), the middle ones,
and the last (it also copies the accumulator out). -/

@[expose] public section
noncomputable section
namespace Cert.Ffn1BwdIdeal.Value
open Cert.Ffn1BwdIdeal Cert.Ffn1BwdIdeal.Gen Cert.FfnMath Idealize.ShloMosaic

variable (c : Dev nD) (i : grid0.Coords) (a3 : Memref sig .tc .vmem S1x2048x256 .bf16) (k3 : a3.IsWhole)
  (a4 : Memref sig .tc .vmem S1x2048x256 .bf16) (k4 : a4.IsWhole)
  (a5 : Memref sig .tc .vmem S3x256x1024 .bf16) (k5 : a5.IsWhole)
  (a7 : Memref sig .tc .vmem S3x256x1024 .bf16) (k7 : a7.IsWhole)
  (a8 : Memref sig .tc .vmem S2048x1024 .bf16) (k8 : a8.IsWhole)
  (a9 : Memref sig .tc .vmem S2048x1024 .bf16) (k9 : a9.IsWhole)
  (a10 : Memref sig .tc .vmem S2048x1024 .f32) (k10 : a10.IsWhole)
  (a11 : Memref sig .tc .vmem S2048x512 .bf16) (k11 : a11.IsWhole)
  (a12 : Memref sig .tc .vmem S2048x256 .bf16) (k12 : a12.IsWhole)
  (x0 : Vec Ideal S1x2048x256 .bf16) (x1 : Vec Ideal S1x2048x256 .bf16) (x2 : Vec Ideal S3x256x1024 .bf16)
  (xs0 : Vec Ideal S2048x1024 .bf16) (xs1 : Vec Ideal S2048x1024 .bf16) (xs2 : Vec Ideal S2048x1024 .f32)
  (fh0 : HbBuf0 (F := Ideal) c hbM0_0) (fh1 : HbBuf0 (F := Ideal) c hbM0_1) (fw2 : HbBuf0 (F := Ideal) c hbM0_2)

theorem dw_A (hc0 : cond0_0 i) (hc1 : ¬cond0_1 i) (p : Fin 3) (k : Fin 256) (x : Fin 1024) :
    out0_A_3 (F := Ideal) c i a3 k3 a4 k4 a5 k5 a7 k7 a8 k8 a9 k9 a10 k10 a11 k11 a12 k12 hc0 hc1 x0 x1 x2 fh0 fh1 fw2 (ix3 p k x)
      = dWBlk fh0 fh1 x0 x1 x2 p k x := by
  unfold out0_A_3
  rw [View.read_writes_eq_canon _ _ _ (cover0_A_3 c i a3 k3 a4 k4 a5 k5 a7 k7 a8 k8 a9 k9 a10 k10 a11 k11 a12 k12 hc0 hc1 x0 x1 x2 fh0 fh1 fw2)]
  unfold kernelRun0_A
  dsimp only
  sl_unfold_words
  simp only [View.readAt_eq_ld, k3.read_unread, k4.read_unread, k5.read_unread, readCov_whole]
  exact View.canon_eq_of_allAt _ _ _ (dw_cover fh0 fh1 x0 x1 x2 a11.view a12.view _) (dw_at fh0 fh1 x0 x1 x2 a11.view a12.view p k x)

theorem acc_A (hc0 : cond0_0 i) (hc1 : ¬cond0_1 i) (r : Fin 2048) (x : Fin 1024) :
    sout0_A_2 (F := Ideal) c i a3 k3 a4 k4 a5 k5 a7 k7 a8 k8 a9 k9 a10 k10 a11 k11 a12 k12 hc0 hc1 x0 x1 x2 fh0 fh1 fw2 (ix2 r x)
      = 0 + dHStep fh0 x0 x1 x2 r x := by
  unfold sout0_A_2
  rw [View.read_writes_eq_canon _ _ _ (scover0_A_2 c i a3 k3 a4 k4 a5 k5 a7 k7 a8 k8 a9 k9 a10 k10 a11 k11 a12 k12 hc0 hc1 x0 x1 x2 fh0 fh1 fw2)]
  unfold kernelRun0_A
  dsimp only
  sl_unfold_words
  simp only [View.readAt_eq_ld, k3.read_unread, k4.read_unread, k5.read_unread, readCov_whole]
  simp (disch := decide) only [↓View.readCov_skip, ↓View.readCov_fill]
  have key := canon_append_of_allAt [(⟨Rect.unit ![0, 0] ![2048, 1024] inb_S2048x1024_S2048x1024_0_0, k0_pay3 (F := Ideal)⟩ :
      View.Piece (Elt Ideal) S2048x1024 .f32)] _ _ (accPieces fh0 x0 x1 x2 (k0_pay3 (F := Ideal))) (acc_cover fh0 x0 x1 x2 (k0_pay3 (F := Ideal)) _)
    (acc_at fh0 x0 x1 x2 (k0_pay3 (F := Ideal)) r x)
  simp only [accPieces, List.cons_append, List.nil_append] at key
  exact key.trans (congrArg (· + _) (by pointwise [k0_pay3]))

theorem dw_B (hc0 : ¬cond0_0 i) (hc1 : ¬cond0_1 i) (p : Fin 3) (k : Fin 256) (x : Fin 1024) :
    out0_B_3 (F := Ideal) c i a3 k3 a4 k4 a5 k5 a7 k7 a8 k8 a9 k9 a10 k10 a11 k11 a12 k12 hc0 hc1 x0 x1 x2 xs0 xs1 xs2 fh0 fh1 fw2 (ix3 p k x)
      = dWBlk xs0 xs1 x0 x1 x2 p k x := by
  unfold out0_B_3
  rw [View.read_writes_eq_canon _ _ _ (cover0_B_3 c i a3 k3 a4 k4 a5 k5 a7 k7 a8 k8 a9 k9 a10 k10 a11 k11 a12 k12 hc0 hc1 x0 x1 x2 xs0 xs1 xs2 fh0 fh1 fw2)]
  unfold kernelRun0_B
  dsimp only
  sl_unfold_words
  simp only [View.readAt_eq_ld, k3.read_unread, k4.read_unread, k5.read_unread, k8.read_unread,
    k9.read_unread]
  exact View.canon_eq_of_allAt _ _ _ (dw_cover xs0 xs1 x0 x1 x2 a11.view a12.view _) (dw_at xs0 xs1 x0 x1 x2 a11.view a12.view p k x)

theorem acc_B (hc0 : ¬cond0_0 i) (hc1 : ¬cond0_1 i) (r : Fin 2048) (x : Fin 1024) :
    sout0_B_2 (F := Ideal) c i a3 k3 a4 k4 a5 k5 a7 k7 a8 k8 a9 k9 a10 k10 a11 k11 a12 k12 hc0 hc1 x0 x1 x2 xs0 xs1 xs2 fh0 fh1 fw2 (ix2 r x)
      = xs2 (ix2 r x) + dHStep xs0 x0 x1 x2 r x := by
  unfold sout0_B_2
  rw [View.read_writes_eq_canon _ _ _ (scover0_B_2 c i a3 k3 a4 k4 a5 k5 a7 k7 a8 k8 a9 k9 a10 k10 a11 k11 a12 k12 hc0 hc1 x0 x1 x2 xs0 xs1 xs2 fh0 fh1 fw2)]
  unfold kernelRun0_B
  dsimp only
  sl_unfold_words
  simp only [View.readAt_eq_ld, k3.read_unread, k4.read_unread, k5.read_unread, k8.read_unread,
    k9.read_unread, k10.read_unread]
  exact View.canon_eq_of_allAt _ _ _ (acc_cover xs0 x0 x1 x2 xs2 _) (acc_at xs0 x0 x1 x2 xs2 r x)

theorem dw_C (hc0 : ¬cond0_0 i) (hc1 : cond0_1 i) (p : Fin 3) (k : Fin 256) (x : Fin 1024) :
    out0_C_3 (F := Ideal) c i a3 k3 a4 k4 a5 k5 a7 k7 a8 k8 a9 k9 a10 k10 a11 k11 a12 k12 hc0 hc1 x0 x1 x2 xs0 xs1 xs2 fh0 fh1 fw2 (ix3 p k x)
      = dWBlk xs0 xs1 x0 x1 x2 p k x := by
  unfold out0_C_3
  rw [View.read_writes_eq_canon _ _ _ (cover0_C_3 c i a3 k3 a4 k4 a5 k5 a7 k7 a8 k8 a9 k9 a10 k10 a11 k11 a12 k12 hc0 hc1 x0 x1 x2 xs0 xs1 xs2 fh0 fh1 fw2)]
  unfold kernelRun0_C
  dsimp only
  sl_unfold_words
  simp only [View.readAt_eq_ld, k3.read_unread, k4.read_unread, k5.read_unread, k8.read_unread,
    k9.read_unread]
  exact View.canon_eq_of_allAt _ _ _ (dw_cover xs0 xs1 x0 x1 x2 a11.view a12.view _) (dw_at xs0 xs1 x0 x1 x2 a11.view a12.view p k x)

theorem acc_C (hc0 : ¬cond0_0 i) (hc1 : cond0_1 i) (r : Fin 2048) (x : Fin 1024) :
    sout0_C_2 (F := Ideal) c i a3 k3 a4 k4 a5 k5 a7 k7 a8 k8 a9 k9 a10 k10 a11 k11 a12 k12 hc0 hc1 x0 x1 x2 xs0 xs1 xs2 fh0 fh1 fw2 (ix2 r x)
      = xs2 (ix2 r x) + dHStep xs0 x0 x1 x2 r x := by
  unfold sout0_C_2
  rw [View.read_writes_eq_canon _ _ _ (scover0_C_2 c i a3 k3 a4 k4 a5 k5 a7 k7 a8 k8 a9 k9 a10 k10 a11 k11 a12 k12 hc0 hc1 x0 x1 x2 xs0 xs1 xs2 fh0 fh1 fw2)]
  unfold kernelRun0_C
  dsimp only
  sl_unfold_words
  simp only [View.readAt_eq_ld, k3.read_unread, k4.read_unread, k5.read_unread, k8.read_unread,
    k9.read_unread, k10.read_unread]
  exact View.canon_eq_of_allAt _ _ _ (acc_cover xs0 x0 x1 x2 xs2 _) (acc_at xs0 x0 x1 x2 xs2 r x)

theorem keep0_A (hc0 : cond0_0 i) (hc1 : ¬cond0_1 i) :
    sout0_A_0 (F := Ideal) c i a3 k3 a4 k4 a5 k5 a7 k7 a8 k8 a9 k9 a10 k10 a11 k11 a12 k12 hc0 hc1 x0 x1 x2 fh0 fh1 fw2 = fh0 := by
  unfold sout0_A_0
  rw [View.read_writes_eq_canon _ _ _ (scover0_A_0 c i a3 k3 a4 k4 a5 k5 a7 k7 a8 k8 a9 k9 a10 k10 a11 k11 a12 k12 hc0 hc1 x0 x1 x2 fh0 fh1 fw2)]
  unfold kernelRun0_A
  dsimp only
  sl_unfold_words
  exact View.canon_unit_zero rfl _ _

theorem keep1_A (hc0 : cond0_0 i) (hc1 : ¬cond0_1 i) :
    sout0_A_1 (F := Ideal) c i a3 k3 a4 k4 a5 k5 a7 k7 a8 k8 a9 k9 a10 k10 a11 k11 a12 k12 hc0 hc1 x0 x1 x2 fh0 fh1 fw2 = fh1 := by
  unfold sout0_A_1
  rw [View.read_writes_eq_canon _ _ _ (scover0_A_1 c i a3 k3 a4 k4 a5 k5 a7 k7 a8 k8 a9 k9 a10 k10 a11 k11 a12 k12 hc0 hc1 x0 x1 x2 fh0 fh1 fw2)]
  unfold kernelRun0_A
  dsimp only
  sl_unfold_words
  exact View.canon_unit_zero rfl _ _

theorem dh_C (hc0 : ¬cond0_0 i) (hc1 : cond0_1 i) (r : Fin 2048) (x : Fin 1024) :
    (hbw0_C_2 (F := Ideal) c i a3 k3 a4 k4 a5 k5 a7 k7 a8 k8 a9 k9 a10 k10 a11 k11 a12 k12 hc0 hc1 x0 x1 x2 xs0 xs1 xs2 fh0 fh1 fw2 : Vec Ideal S2048x1024 .f32) (ix2 r x)
      = xs2 (ix2 r x) + dHStep xs0 x0 x1 x2 r x := by
  unfold hbw0_C_2
  unfold kernelRun0_C
  dsimp only
  sl_unfold_words
  simp only [View.readAt_eq_ld, k3.read_unread, k4.read_unread, k5.read_unread, k8.read_unread,
    k9.read_unread, k10.read_unread]
  refine (congrFun (View.write_whole_univ _ _ _) (ix2 r x)).trans ?_
  refine (congrFun (View.read_writes_eq_canon a10.view _ (accPieces xs0 x0 x1 x2 xs2) (acc_cover xs0 x0 x1 x2 xs2)) (ix2 r x)).trans ?_
  exact View.canon_eq_of_allAt _ _ _ (acc_cover xs0 x0 x1 x2 xs2 _) (acc_at xs0 x0 x1 x2 xs2 r x)

end Cert.Ffn1BwdIdeal.Value
end
-- ==== Proof.Ffn1Run.lean ====
module
public import proofs.«01_k».proof.Proof.Ffn1Cases
public import proofs.«01_k».proof.Proof.Gen.Ffn1BwdIdeal.Value

/-! The eleven grid points in order: what the scratch and the outputs hold after each, and so what the run returns. -/

@[expose] public section
noncomputable section
namespace Cert.Ffn1BwdIdeal.Value
open Cert.Ffn1BwdIdeal Cert.Ffn1BwdIdeal.Gen Cert.FfnMath Idealize.ShloMosaic Idealize.ShloMosaic.TcCoe Idealize.SL.Sem

variable (m : (ℓ : Loc nD τ sig) → Buf (Elt Ideal) ℓ) (ρ : Dev nD → PrngReg) (c : Dev nD)

/-- The arrays the call is given: half of the incoming gradient, the input, the saved gate and up columns, the weights. -/
def arrD : A2 2048 1024 := V m c main_v18
def arrH : A2 2048 1024 := V m c main_v0
def arrG : A3 11 2048 256 := V m c main_v11
def arrU : A3 11 2048 256 := V m c main_v15
def arrW : A3 3 2816 1024 := V m c main_v7

/-- A grid point as the number of its block. -/
def pt (t : Fin cfg0.N) : Fin 11 := ⟨t.val, lt_of_lt_of_eq t.isLt N_0⟩

theorem index0 (t : Fin cfg0.N) : win0_0.index t 0 = t.val ∧ win0_0.index t 1 = 0 ∧ win0_0.index t 2 = 0 := by
  rcases fin_N0 t with rfl | rfl | rfl | rfl | rfl | rfl | rfl | rfl | rfl | rfl | rfl <;> decide
theorem index1 (t : Fin cfg0.N) : win0_1.index t 0 = t.val ∧ win0_1.index t 1 = 0 ∧ win0_1.index t 2 = 0 := by
  rcases fin_N0 t with rfl | rfl | rfl | rfl | rfl | rfl | rfl | rfl | rfl | rfl | rfl <;> decide
theorem index2 (t : Fin cfg0.N) : win0_2.index t 0 = 0 ∧ win0_2.index t 1 = t.val ∧ win0_2.index t 2 = 0 := by
  rcases fin_N0 t with rfl | rfl | rfl | rfl | rfl | rfl | rfl | rfl | rfl | rfl | rfl <;> decide
theorem index3 (t : Fin cfg0.N) : win0_3.index t 0 = 0 ∧ win0_3.index t 1 = t.val ∧ win0_3.index t 2 = 0 := by
  rcases fin_N0 t with rfl | rfl | rfl | rfl | rfl | rfl | rfl | rfl | rfl | rfl | rfl <;> decide

theorem blk_gate (t : Fin cfg0.N) : (iblk m c 0 t : Vec Ideal S1x2048x256 .bf16) = blkCols (arrG m c) (pt t) := by
  funext j
  unfold iblk
  rw [View.read_apply]
  show V m c main_v11 _ = V m c main_v11 _
  congr 1
  funext a
  apply Fin.ext
  have hi := index0 t
  match a with
  | ⟨0, _⟩ => show win0_0.index t 0 * 1 + 1 * (j 0).val = t.val; rw [hi.1]; have h : (j 0).val < 1 := (j 0).isLt; omega
  | ⟨1, _⟩ => show win0_0.index t 1 * 2048 + 1 * (j 1).val = (j 1).val; rw [hi.2.1]; omega
  | ⟨2, _⟩ => show win0_0.index t 2 * 256 + 1 * (j 2).val = (j 2).val; rw [hi.2.2]; omega

theorem blk_up (t : Fin cfg0.N) : (iblk m c 1 t : Vec Ideal S1x2048x256 .bf16) = blkCols (arrU m c) (pt t) := by
  funext j
  unfold iblk
  rw [View.read_apply]
  show V m c main_v15 _ = V m c main_v15 _
  congr 1
  funext a
  apply Fin.ext
  have hi := index1 t
  match a with
  | ⟨0, _⟩ => show win0_1.index t 0 * 1 + 1 * (j 0).val = t.val; rw [hi.1]; have h : (j 0).val < 1 := (j 0).isLt; omega
  | ⟨1, _⟩ => show win0_1.index t 1 * 2048 + 1 * (j 1).val = (j 1).val; rw [hi.2.1]; omega
  | ⟨2, _⟩ => show win0_1.index t 2 * 256 + 1 * (j 2).val = (j 2).val; rw [hi.2.2]; omega

theorem blk_w (t : Fin cfg0.N) : (iblk m c 2 t : Vec Ideal S3x256x1024 .bf16) = blkRows (arrW m c) (pt t) := by
  funext j
  unfold iblk
  rw [View.read_apply]
  show V m c main_v7 _ = V m c main_v7 _
  congr 1
  funext a
  apply Fin.ext
  have hi := index2 t
  match a with
  | ⟨0, _⟩ => show win0_2.index t 0 * 3 + 1 * (j 0).val = (j 0).val; rw [hi.1]; omega
  | ⟨1, _⟩ => show win0_2.index t 1 * 256 + 1 * (j 1).val = 256 * t.val + (j 1).val; rw [hi.2.1]; omega
  | ⟨2, _⟩ => show win0_2.index t 2 * 1024 + 1 * (j 2).val = (j 2).val; rw [hi.2.2]; omega

/-- What block `t` adds to the input's gradient. -/
def stepAt (t : Fin 11) (r : Fin 2048) (x : Fin 1024) : EReal :=
  dHStep (arrD m c) (blkCols (arrG m c) t) (blkCols (arrU m c) t) (blkRows (arrW m c) t) r x
/-- The weights' gradients of block `t`. -/
def dwAt (t : Fin 11) (p : Fin 3) (k : Fin 256) (x : Fin 1024) : EReal :=
  dWBlk (arrD m c) (arrH m c) (blkCols (arrG m c) t) (blkCols (arrU m c) t) (blkRows (arrW m c) t) p k x
/-- The blocks up to the `n`-th, added. -/
def accTo (n : Nat) (r : Fin 2048) (x : Fin 1024) : EReal :=
  ∑ t ∈ Finset.range (n + 1), if h : t < 11 then stepAt m c ⟨t, h⟩ r x else 0

theorem accTo_succ (n : Nat) (h : n + 1 < 11) (r : Fin 2048) (x : Fin 1024) :
    accTo m c (n + 1) r x = accTo m c n r x + stepAt m c ⟨n + 1, h⟩ r x := by
  unfold accTo
  rw [Finset.sum_range_succ, dif_pos h]

/-- What grid point `n` leaves: the fetched arrays, the accumulator, the weights' gradients of its block. -/
structure Left (n : Nat) (hn : n < cfg0.N) : Prop where
  d : (outsAt0 m c n hn).2.1 = arrD m c
  h : (outsAt0 m c n hn).2.2.1 = arrH m c
  acc : ∀ r x, (outsAt0 m c n hn).2.2.2.1 (ix2 r x) = accTo m c n r x
  dw : ∀ p k x, (outsAt0 m c n hn).1 (ix3 p k x) = dwAt m c (pt ⟨n, hn⟩) p k x
  dh : n = 10 → ∀ (r : Fin 2048) (x : Fin 1024),
    ((outsAt0 m c n hn).2.2.2.2 : Vec Ideal S2048x1024 .f32) (ix2 r x) = accTo m c n r x

theorem dw_ptA (t : Fin cfg0.N) (h0 : t.val % 11 = 0) (h1 : ¬t.val % 11 = 10) (p : Fin 3) (k : Fin 256) (x : Fin 1024) :
    (outsAt0 m c t.val t.isLt).1 (ix3 p k x) = dwAt m c (pt t) p k x := by
  rw [outsAt0_A m c t h0 h1]
  dsimp only
  rw [dw_A, blk_gate, blk_up, blk_w]
  rfl

theorem acc_ptA (t : Fin cfg0.N) (h0 : t.val % 11 = 0) (h1 : ¬t.val % 11 = 10) (r : Fin 2048) (x : Fin 1024) :
    (outsAt0 m c t.val t.isLt).2.2.2.1 (ix2 r x) = 0 + stepAt m c (pt t) r x := by
  rw [outsAt0_A m c t h0 h1]
  dsimp only
  rw [acc_A, blk_gate, blk_up, blk_w]
  rfl

theorem dw_ptB (t : Fin cfg0.N) (h0 : ¬t.val % 11 = 0) (h1 : ¬t.val % 11 = 10) (hd : (outsAt0 m c (t.val - 1) (Nat.lt_of_le_of_lt (Nat.sub_le _ _) t.isLt)).2.1 = arrD m c)
    (hh : (outsAt0 m c (t.val - 1) (Nat.lt_of_le_of_lt (Nat.sub_le _ _) t.isLt)).2.2.1 = arrH m c) (p : Fin 3) (k : Fin 256) (x : Fin 1024) :
    (outsAt0 m c t.val t.isLt).1 (ix3 p k x) = dwAt m c (pt t) p k x := by
  rw [outsAt0_B m c t h0 h1]
  dsimp only
  rw [dw_B, blk_gate, blk_up, blk_w, hd, hh]
  rfl

theorem acc_ptB (t : Fin cfg0.N) (h0 : ¬t.val % 11 = 0) (h1 : ¬t.val % 11 = 10) (hd : (outsAt0 m c (t.val - 1) (Nat.lt_of_le_of_lt (Nat.sub_le _ _) t.isLt)).2.1 = arrD m c) (r : Fin 2048) (x : Fin 1024) :
    (outsAt0 m c t.val t.isLt).2.2.2.1 (ix2 r x) = (outsAt0 m c (t.val - 1) (Nat.lt_of_le_of_lt (Nat.sub_le _ _) t.isLt)).2.2.2.1 (ix2 r x) + stepAt m c (pt t) r x := by
  rw [outsAt0_B m c t h0 h1]
  dsimp only
  rw [acc_B, blk_gate, blk_up, blk_w, hd]
  rfl

theorem dw_ptC (t : Fin cfg0.N) (h0 : ¬t.val % 11 = 0) (h1 : t.val % 11 = 10) (hd : (outsAt0 m c (t.val - 1) (Nat.lt_of_le_of_lt (Nat.sub_le _ _) t.isLt)).2.1 = arrD m c)
    (hh : (outsAt0 m c (t.val - 1) (Nat.lt_of_le_of_lt (Nat.sub_le _ _) t.isLt)).2.2.1 = arrH m c) (p : Fin 3) (k : Fin 256) (x : Fin 1024) :
    (outsAt0 m c t.val t.isLt).1 (ix3 p k x) = dwAt m c (pt t) p k x := by
  rw [outsAt0_C m c t h0 h1]
  dsimp only
  rw [dw_C, blk_gate, blk_up, blk_w, hd, hh]
  rfl

theorem acc_ptC (t : Fin cfg0.N) (h0 : ¬t.val % 11 = 0) (h1 : t.val % 11 = 10) (hd : (outsAt0 m c (t.val - 1) (Nat.lt_of_le_of_lt (Nat.sub_le _ _) t.isLt)).2.1 = arrD m c) (r : Fin 2048) (x : Fin 1024) :
    (outsAt0 m c t.val t.isLt).2.2.2.1 (ix2 r x) = (outsAt0 m c (t.val - 1) (Nat.lt_of_le_of_lt (Nat.sub_le _ _) t.isLt)).2.2.2.1 (ix2 r x) + stepAt m c (pt t) r x := by
  rw [outsAt0_C m c t h0 h1]
  dsimp only
  rw [acc_C, blk_gate, blk_up, blk_w, hd]
  rfl

theorem dh_ptC (t : Fin cfg0.N) (h0 : ¬t.val % 11 = 0) (h1 : t.val % 11 = 10) (hd : (outsAt0 m c (t.val - 1) (Nat.lt_of_le_of_lt (Nat.sub_le _ _) t.isLt)).2.1 = arrD m c) (r : Fin 2048) (x : Fin 1024) :
    ((outsAt0 m c t.val t.isLt).2.2.2.2 : Vec Ideal S2048x1024 .f32) (ix2 r x) = (outsAt0 m c (t.val - 1) (Nat.lt_of_le_of_lt (Nat.sub_le _ _) t.isLt)).2.2.2.1 (ix2 r x) + stepAt m c (pt t) r x := by
  rw [outsAt0_C m c t h0 h1]
  dsimp only
  rw [dh_C, blk_gate, blk_up, blk_w, hd]
  rfl

theorem d_ptA (t : Fin cfg0.N) (h0 : t.val % 11 = 0) (h1 : ¬t.val % 11 = 10) : (outsAt0 m c t.val t.isLt).2.1 = arrD m c := by
  rw [outsAt0_A m c t h0 h1]
  dsimp only
  exact keep0_A ..
theorem h_ptA (t : Fin cfg0.N) (h0 : t.val % 11 = 0) (h1 : ¬t.val % 11 = 10) : (outsAt0 m c t.val t.isLt).2.2.1 = arrH m c := by
  rw [outsAt0_A m c t h0 h1]
  dsimp only
  exact keep1_A ..

theorem d_ptB (t : Fin cfg0.N) (h0 : ¬t.val % 11 = 0) (h1 : ¬t.val % 11 = 10) : (outsAt0 m c t.val t.isLt).2.1
    = (outsAt0 m c (t.val - 1) (Nat.lt_of_le_of_lt (Nat.sub_le _ _) t.isLt)).2.1 := by
  rw [outsAt0_B m c t h0 h1]
  dsimp only
  unfold sout0_B_0
  rfl
theorem h_ptB (t : Fin cfg0.N) (h0 : ¬t.val % 11 = 0) (h1 : ¬t.val % 11 = 10) : (outsAt0 m c t.val t.isLt).2.2.1
    = (outsAt0 m c (t.val - 1) (Nat.lt_of_le_of_lt (Nat.sub_le _ _) t.isLt)).2.2.1 := by
  rw [outsAt0_B m c t h0 h1]
  dsimp only
  unfold sout0_B_1
  rfl
theorem d_ptC (t : Fin cfg0.N) (h0 : ¬t.val % 11 = 0) (h1 : t.val % 11 = 10) : (outsAt0 m c t.val t.isLt).2.1
    = (outsAt0 m c (t.val - 1) (Nat.lt_of_le_of_lt (Nat.sub_le _ _) t.isLt)).2.1 := by
  rw [outsAt0_C m c t h0 h1]
  dsimp only
  unfold sout0_C_0
  rfl
theorem h_ptC (t : Fin cfg0.N) (h0 : ¬t.val % 11 = 0) (h1 : t.val % 11 = 10) : (outsAt0 m c t.val t.isLt).2.2.1
    = (outsAt0 m c (t.val - 1) (Nat.lt_of_le_of_lt (Nat.sub_le _ _) t.isLt)).2.2.1 := by
  rw [outsAt0_C m c t h0 h1]
  dsimp only
  unfold sout0_C_1
  rfl

theorem left : ∀ (n : Nat) (hn : n < cfg0.N), Left m c n hn
  | 0, hn => {
      d := d_ptA m c ⟨0, hn⟩ (Nat.zero_mod _) (by show ¬ 0 % 11 = 10; omega)
      h := h_ptA m c ⟨0, hn⟩ (Nat.zero_mod _) (by show ¬ 0 % 11 = 10; omega)
      dw := dw_ptA m c ⟨0, hn⟩ (Nat.zero_mod _) (by show ¬ 0 % 11 = 10; omega)
      acc := fun r x => by
        refine (acc_ptA m c ⟨0, hn⟩ (Nat.zero_mod _) (by show ¬ 0 % 11 = 10; omega) r x).trans ?_
        unfold accTo
        rw [Finset.sum_range_one, dif_pos (by decide), zero_add]
        rfl
      dh := fun h => absurd h (by decide) }
  | n + 1, hn => by
    have hN : n + 1 < 11 := lt_of_lt_of_eq hn N_0
    have ih := left n (Nat.lt_of_succ_lt hn)
    have h0 : ¬ (n + 1) % 11 = 0 := by omega
    have e (r : Fin 2048) (x : Fin 1024) : (outsAt0 m c n (Nat.lt_of_succ_lt hn)).2.2.2.1 (ix2 r x) + stepAt m c (pt ⟨n + 1, hn⟩) r x
        = accTo m c (n + 1) r x := by rw [ih.acc, accTo_succ m c n hN]; rfl
    by_cases h10 : (n + 1) % 11 = 10
    · exact {
        d := (d_ptC m c ⟨n + 1, hn⟩ h0 h10).trans ih.d
        h := (h_ptC m c ⟨n + 1, hn⟩ h0 h10).trans ih.h
        dw := dw_ptC m c ⟨n + 1, hn⟩ h0 h10 ih.d ih.h
        acc := fun r x => (acc_ptC m c ⟨n + 1, hn⟩ h0 h10 ih.d r x).trans (e r x)
        dh := fun _ r x => (dh_ptC m c ⟨n + 1, hn⟩ h0 h10 ih.d r x).trans (e r x) }
    · exact {
        d := (d_ptB m c ⟨n + 1, hn⟩ h0 h10).trans ih.d
        h := (h_ptB m c ⟨n + 1, hn⟩ h0 h10).trans ih.h
        dw := dw_ptB m c ⟨n + 1, hn⟩ h0 h10 ih.d ih.h
        acc := fun r x => (acc_ptB m c ⟨n + 1, hn⟩ h0 h10 ih.d r x).trans (e r x)
        dh := fun h => absurd h (by omega) }

/-- The array of the weights' gradients after the run. -/
theorem final_dw (t : Fin 11) (p : Fin 3) (k : Fin 256) (x : Fin 1024) :
    ((dats m 0 c).arrAt 3 cfg0.N : Vec Ideal S3x2816x1024 .bf16) (ix3 p ⟨256 * t.val + k.val, by have := t.isLt; have := k.isLt; omega⟩ x) = dwAt m c t p k x := by
  have hn : t.val < cfg0.N := lt_of_lt_of_eq t.isLt N_0.symm
  have e := congrFun ((blocks3 m c ⟨t.val, hn⟩ (flush0_3 _)).trans (flushed3 m c ⟨t.val, hn⟩)) (ix3 p k x)
  rw [View.read_apply] at e
  refine Eq.trans ?_ (e.trans ((left m c t.val hn).dw p k x))
  show (dats m 0 c).arrAt 3 cfg0.N _ = (dats m 0 c).arrAt 3 cfg0.N _
  congr 1
  funext a
  apply Fin.ext
  have hi := index3 ⟨t.val, hn⟩
  have h0 := p.isLt
  match a with
  | ⟨0, _⟩ => show p.val = win0_3.index ⟨t.val, hn⟩ 0 * 3 + 1 * p.val; rw [hi.1]; omega
  | ⟨1, _⟩ => show 256 * t.val + k.val = win0_3.index ⟨t.val, hn⟩ 1 * 256 + 1 * k.val; rw [hi.2.1]; show 256 * t.val + k.val = t.val * 256 + 1 * k.val; omega
  | ⟨2, _⟩ => show x.val = win0_3.index ⟨t.val, hn⟩ 2 * 1024 + 1 * x.val; rw [hi.2.2]; omega

/-- The eleven blocks' contributions to the input's gradient, added. -/
def dhSum (r : Fin 2048) (x : Fin 1024) : EReal := ∑ t : Fin 11, stepAt m c t r x

theorem accTo_last (r : Fin 2048) (x : Fin 1024) : accTo m c 10 r x = dhSum m c r x := by
  unfold accTo dhSum
  rw [Finset.sum_range]
  exact Finset.sum_congr rfl fun t _ => dif_pos t.isLt

/-- The input's gradient after the run. -/
theorem final_dh (h) (r : Fin 2048) (x : Fin 1024) :
    ((outsAt0 m c ((Fin.last cfg0.N).val - 1) h).2.2.2.2 : Vec Ideal S2048x1024 .f32) (ix2 r x)
      = dhSum m c r x := by
  have e : (Fin.last cfg0.N).val - 1 = 10 := by rw [Fin.val_last]; have : cfg0.N = 11 := N_0; omega
  have k := (left m c _ h).dh e r x
  exact k.trans ((congrArg (fun n => accTo m c n r x) e).trans (accTo_last m c r x))

end Cert.Ffn1BwdIdeal.Value
end
-- ==== Proof.Ffn1Host.lean ====
module
public import proofs.«01_k».proof.Proof.Ffn1Run
public import proofs.«01_k».proof.Proof.FfnWhole

@[expose] public section
noncomputable section
namespace Cert.Ffn1BwdIdeal.Value
open Cert.Ffn1BwdIdeal Cert.Ffn1BwdIdeal.Gen Cert.FfnMath Idealize.ShloMosaic Idealize.ShloMosaic.TcCoe Idealize.SL.Sem

variable (m : (ℓ : Loc nD τ sig) → Buf (Elt Ideal) ℓ) (c : Dev nD)

/-- One half, as the program writes it. -/
abbrev half : EReal := Ideal.ofBits .f32 0x3F000000#32

/-- The program's arguments: the input, the three weights, the incoming gradient. -/
def inH : A2 2048 1024 := m ((c : Thread nD τ).loc main_arg0)
def inG : A2 1024 2816 := m ((c : Thread nD τ).loc main_arg1)
def inU : A2 1024 2816 := m ((c : Thread nD τ).loc main_arg2)
def inD : A2 2816 1024 := m ((c : Thread nD τ).loc main_arg3)
def inC : A2 2048 1024 := m ((c : Thread nD τ).loc main_arg4)

theorem arrD_at (r : Fin 2048) (x : Fin 1024) : arrD m c (ix2 r x) = half * inC m c (ix2 r x) := by
  unfold arrD V
  after_results_simp
  pointwise
  rfl
theorem arrH_eq : arrH m c = inH m c := by
  unfold arrH V
  after_results_simp
  rfl
theorem arrG_at (p : Fin 11) (r : Fin 2048) (x : Fin 256) : arrG m c (ix3 p r x) = proj (inH m c) (inG m c) r (colOf p x) := by
  unfold arrG V
  after_results_simp
  pointwise
  exact Finset.sum_congr rfl fun y _ => congrArg (fun q : Fin 2816 => inH m c (ix2 r y) * inG m c (ix2 y q))
    (Fin.ext (congrArg (· + x.val) (Nat.mul_comm p.val 256)))
theorem arrU_at (p : Fin 11) (r : Fin 2048) (x : Fin 256) : arrU m c (ix3 p r x) = proj (inH m c) (inU m c) r (colOf p x) := by
  unfold arrU V
  after_results_simp
  pointwise
  exact Finset.sum_congr rfl fun y _ => congrArg (fun q : Fin 2816 => inH m c (ix2 r y) * inU m c (ix2 y q))
    (Fin.ext (congrArg (· + x.val) (Nat.mul_comm p.val 256)))
theorem arrW_at0 (r : Fin 2816) (x : Fin 1024) : arrW m c (ix3 0 r x) = inG m c (ix2 x r) := by
  unfold arrW V
  after_results_simp
  pointwise
  after_results_simp
  pointwise
  rfl
theorem arrW_at1 (r : Fin 2816) (x : Fin 1024) : arrW m c (ix3 1 r x) = inU m c (ix2 x r) := by
  unfold arrW V
  after_results_simp
  pointwise
  after_results_simp
  pointwise
  rfl
theorem arrW_at2 (r : Fin 2816) (x : Fin 1024) : arrW m c (ix3 2 r x) = inD m c (ix2 r x) := by
  unfold arrW V
  after_results_simp
  pointwise
  after_results_simp
  pointwise
  rfl
end Cert.Ffn1BwdIdeal.Value
end
-- ==== Proof.Ffn1Ref.lean ====
module
public import proofs.«01_k».proof.Proof.FfnWhole
public import proofs.«01_k».proof.Proof.Gen.Ffn1BwdRefIdeal.Read

/-! What the reference computes, read at an index, in the words of the whole arrays' functions. -/

@[expose] public section
noncomputable section
namespace Cert.Ffn1BwdRefIdeal.Read
open Cert.Ffn1BwdRefIdeal Cert.FfnMath Idealize.ShloMosaic Idealize.ShloMosaic.TcCoe Idealize.SL.Sem

variable (h : A2 2048 1024) (wg wu : A2 1024 2816) (wd : A2 2816 1024) (ct d : A2 2048 1024)

theorem g_at (r : Fin 2048) (f : Fin 2816) : val_main_v0 (F := Ideal) h wg (ix2 r f) = proj h wg r f := by
  pointwise [val_main_v0]
  rfl

theorem u_at (r : Fin 2048) (f : Fin 2816) : val_main_v2 (F := Ideal) h wu (ix2 r f) = proj h wu r f := by
  pointwise [val_main_v2]
  rfl

theorem s_at (r : Fin 2048) (f : Fin 2816) : val_main_v1_2 (F := Ideal) h wg (ix2 r f) = sg (proj h wg r f) := by
  pointwise [val_main_v1_2, val_main_call0_v4, val_main_call0_v3, val_main_call0_v2, val_main_call0_v1, val_main_call0_v0, val_main_call0_cst, val_main_call0_cst_0, val_main_v0]
  unfold sg proj
  rw [zero_sub]

section
variable (hd : ∀ r x, d (ix2 r x) = Ideal.ofBits .f32 0x3F000000#32 * ct (ix2 r x))

include hd in
theorem a_at (r : Fin 2048) (f : Fin 2816) : val_main_v11 (F := Ideal) wd ct (ix2 r f) = wAct d wd r f := by
  pointwise [val_main_v11, val_main_v8, val_main_v7, val_main_cst_0]
  exact Finset.sum_congr rfl fun x _ => congrArg (· * wd (ix2 f x)) (hd r x).symm

theorem s1_at (r : Fin 2048) (f : Fin 2816) :
    val_main_v1_1 (F := Ideal) h wg (ix2 r f) = sg (proj h wg r f) * (1 - sg (proj h wg r f)) := by
  pointwise [val_main_v1_1, val_main_call0_v7, val_main_call0_v6, val_main_call0_cst_1]
  rw [s_at]

include hd in
/-- The gate's gradient, where the activation's gradient and the up column are real. -/
theorem dg_at (r : Fin 2048) (f : Fin 2816) (a u : ℝ) (ha : wAct d wd r f = a) (hu : proj h wu r f = u) :
    val_main_v17 (F := Ideal) h wg wu wd ct (ix2 r f) = wG d h wg wu wd r f := by
  pointwise [val_main_v17, val_main_call1_v0, val_main_call1_v1, val_main_call1_v2, val_main_v13]
  rw [a_at wd ct d hd, u_at, g_at, s_at, s1_at]
  unfold wG
  rw [ha, hu, gate_two_ways]

variable (fin : ∀ r f, (∃ a : ℝ, wAct d wd r f = a) ∧ ∃ u : ℝ, proj h wu r f = u)

include hd fin in
theorem dg_whole (r : Fin 2048) (f : Fin 2816) :
    val_main_v17 (F := Ideal) h wg wu wd ct (ix2 r f) = wG d h wg wu wd r f := by
  obtain ⟨⟨a, ha⟩, u, hu⟩ := fin r f
  exact dg_at h wg wu wd ct d hd r f a u ha hu

include hd in
theorem du_whole (r : Fin 2048) (f : Fin 2816) :
    val_main_v12 (F := Ideal) h wg wd ct (ix2 r f) = wU d h wg wd r f := by
  pointwise [val_main_v12, val_main_v1_0]
  rw [a_at wd ct d hd, g_at, s_at]
  exact mul_comm _ _

include hd fin in
/-- The reference's stacked gradients of the weights. -/
theorem dw_whole (p : Fin 3) (f : Fin 2816) (x : Fin 1024) :
    val_main_v28 (F := Ideal) h wg wu wd ct (ix3 p f x) = wDW d h wg wu wd p f x := by
  match p with
  | 0 =>
    pointwise [val_main_v28, val_main_v27, val_main_v24, val_main_v25, val_main_v26, val_main_v22, val_main_v19, val_main_v18]
    exact Finset.sum_congr rfl fun r _ => congrArg (· * h (ix2 r x)) (dg_whole h wg wu wd ct d hd fin r f)
  | 1 =>
    pointwise [val_main_v28, val_main_v27, val_main_v24, val_main_v25, val_main_v26, val_main_v23, val_main_v15, val_main_v14]
    exact Finset.sum_congr rfl fun r _ => congrArg (· * h (ix2 r x)) (du_whole h wg wd ct d hd r f)
  | 2 =>
    pointwise [val_main_v28, val_main_v27, val_main_v24, val_main_v25, val_main_v26, val_main_v10, val_main_v9, val_main_v3, val_main_v1_0, val_main_v8, val_main_v7, val_main_cst_0]
    refine Finset.sum_congr rfl fun r _ => ?_
    rw [← hd, g_at, s_at, u_at]
    exact mul_comm _ _

include hd fin in
/-- The reference's gradient of the input. -/
theorem dh_whole (r : Fin 2048) (x : Fin 1024) :
    val_main_v21 (F := Ideal) h wg wu wd ct (ix2 r x) = wDH d h wg wu wd r x := by
  pointwise [val_main_v21, val_main_v16, val_main_v20]
  refine (add_comm _ _).trans (congr (congrArg HAdd.hAdd ?_) ?_)
  · exact Finset.sum_congr rfl fun f _ => congrArg (· * wg (ix2 x f)) (dg_whole h wg wu wd ct d hd fin r f)
  · exact Finset.sum_congr rfl fun f _ => congrArg (· * wu (ix2 x f)) (du_whole h wg wd ct d hd r f)
end
end Cert.Ffn1BwdRefIdeal.Read
end
-- ==== Proof.Ffn1Value.lean ====
module
public import proofs.«01_k».proof.Defs
public import proofs.«01_k».proof.Proof.Reals
public import proofs.«01_k».proof.Proof.Ffn1Host
public import proofs.«01_k».proof.Proof.Ffn1Ref
public import proofs.«01_k».proof.Proof.Gen.Pre_finite_ffn1
public import proofs.«01_k».proof.Proof.Gen.Ffn1BwdRefIdeal.Run

/-! The first feed-forward's gradients: the kernel's and the reference's are the same functions of the arguments. -/

@[expose] public section
noncomputable section
namespace Cert.Ffn1Value
open Cert.FfnMath Idealize.ShloMosaic Idealize.ShloMosaic.TcCoe Idealize.SL.Sem

section Kernel
open Cert.Ffn1BwdIdeal Cert.Ffn1BwdIdeal.Gen Cert.Ffn1BwdIdeal.Value
variable (m : (ℓ : Loc nD τ sig) → Buf (Elt Ideal) ℓ) (c : Dev nD)

/-- The kernel's gradient of the input. -/
theorem kernel_dh (h) :
    ((outsAt0 m c ((Fin.last cfg0.N).val - 1) h).2.2.2.2 : A2 2048 1024)
      = fun i => wDH (arrD m c) (inH m c) (inG m c) (inU m c) (inD m c) (i 0) (i 1) := by
  funext i
  obtain ⟨r, x, rfl⟩ := exists_ix2 i
  refine (final_dh m c h r x).trans ?_
  exact dH_whole (d := arrD m c) (arrG_at m c) (arrU_at m c) (arrW_at0 m c) (arrW_at1 m c) (arrW_at2 m c) r x

/-- The kernel's gradients of the weights. -/
theorem kernel_dw :
    ((dats m 0 c).arrAt 3 cfg0.N : A3 3 2816 1024)
      = fun i => wDW (arrD m c) (inH m c) (inG m c) (inU m c) (inD m c) (i 0) (i 1) (i 2) := by
  funext i
  obtain ⟨p, f, x, rfl⟩ := exists_ix3 i
  obtain ⟨t, k, rfl⟩ := colOf_surj f
  refine (final_dw m c t p k x).trans ?_
  unfold dwAt
  rw [arrH_eq]
  exact dW_whole (d := arrD m c) (arrG_at m c) (arrU_at m c) (arrW_at2 m c) t p k x

/-- The precondition makes the activation's gradient and the up columns real. -/
theorem reals (hp : Cert.Pre_Ffn1BwdIdeal_finite_ffn1 m) (r : Fin 2048) (f : Fin 2816) :
    (∃ a : ℝ, wAct (arrD m c) (inD m c) r f = a) ∧ ∃ u : ℝ, proj (inH m c) (inU m c) r f = u := by
  obtain ⟨h0, h2, h3, h4⟩ := hp c
  have f0 : ∀ i, IsR (inH m c i) := isR_of_fin _ _ (fun _ => rfl) h0
  have f2 : ∀ i, IsR (inU m c i) := isR_of_fin _ _ (fun _ => rfl) h2
  have f3 : ∀ i, IsR (inD m c i) := isR_of_fin _ _ (fun _ => rfl) h3
  have f4 : ∀ i, IsR (inC m c i) := isR_of_fin _ _ (fun _ => rfl) h4
  refine ⟨isR_wAct (fun i => ?_) f3 r f, isR_proj f0 f2 r f⟩
  obtain ⟨a, b, rfl⟩ := exists_ix2 i
  rw [arrD_at]
  exact isR_half.mul (f4 _)
end Kernel

/-- The reference terminates, leaves its arguments alone, and declares no semaphore. -/
theorem frame_ref : Cert.quiescent_Ffn1BwdRefIdeal := fun m ρ _ =>
  (θ_run Cert.Ffn1BwdRefIdeal.defs _ _).mono (fun r h => ⟨fun c => (h c).2.2, sem_eq_zero_of_no_sems (by decide) r.2⟩)
    (Cert.Ffn1BwdRefIdeal.Value.run (F := Ideal) m ρ)

theorem algebraic : Cert.algebraic_Ffn1BwdIdeal_Ffn1BwdRefIdeal_pre_finite_ffn1 := by
  intro m g m' g' hp hm
  refine ⟨fun c i => wDH (Cert.Ffn1BwdIdeal.Value.arrD m c) (Cert.Ffn1BwdIdeal.Value.inH m c) (Cert.Ffn1BwdIdeal.Value.inG m c) (Cert.Ffn1BwdIdeal.Value.inU m c) (Cert.Ffn1BwdIdeal.Value.inD m c) (i 0) (i 1),
    fun c i => wDW (Cert.Ffn1BwdIdeal.Value.arrD m c) (Cert.Ffn1BwdIdeal.Value.inH m c) (Cert.Ffn1BwdIdeal.Value.inG m c) (Cert.Ffn1BwdIdeal.Value.inU m c) (Cert.Ffn1BwdIdeal.Value.inD m c) (i 0) (i 1) (i 2),
    (θ_run _ _ _).mono (fun r h c => ?_) (Cert.Ffn1BwdIdeal.Value.run_blocks m g),
    (θ_run _ _ _).mono (fun r h c => ?_) (Cert.Ffn1BwdRefIdeal.Value.run m' g')⟩
  · obtain ⟨e1, a0, a1, a2, a3, a4, e0⟩ := h c
    exact ⟨e0.trans (kernel_dh m c _), e1.trans (kernel_dw m c), a0, a1, a2, a3, a4⟩
  · obtain ⟨e0, e1, a⟩ := h c
    obtain ⟨h0, h1, h2, h3, h4⟩ := hm c
    refine ⟨e0.trans ?_, e1.trans ?_, a⟩
    · refine (Cert.Ffn1BwdRefIdeal.Read.val_main_v21_eq _ _ _ _ _).trans ?_
      rw [h0, h1, h2, h3, h4]
      funext i
      obtain ⟨r, x, rfl⟩ := exists_ix2 i
      exact Cert.Ffn1BwdRefIdeal.Read.dh_whole _ _ _ _ _ _ (Cert.Ffn1BwdIdeal.Value.arrD_at m c) (reals m c hp) r x
    · refine (Cert.Ffn1BwdRefIdeal.Read.val_main_v28_eq m' c).trans ?_
      rw [h0, h1, h2, h3, h4]
      funext i
      obtain ⟨p, f, x, rfl⟩ := exists_ix3 i
      exact Cert.Ffn1BwdRefIdeal.Read.dw_whole _ _ _ _ _ _ (Cert.Ffn1BwdIdeal.Value.arrD_at m c) (reals m c hp) p f x

end Cert.Ffn1Value
end
-- ==== Proof.Ffn2Block.lean ====
module
public import proofs.«01_k».proof.Proof.Gen.Ffn2BwdIdeal.Frame
public import proofs.«01_k».proof.Proof.FfnMath

/-! What one point of the grid stores: the eight row chunks' pieces of the accumulator, of the two gradients side by side
and of the activation, and their values at an index. -/

@[expose] public section
noncomputable section
namespace Cert.Ffn2BwdIdeal.Value
open Cert.Ffn2BwdIdeal Cert.Ffn2BwdIdeal.Gen Cert.FfnMath Idealize.ShloMosaic

section Pieces
variable (d h : Vec Ideal S2048x1024 .bf16) (g u : Vec Ideal S1x2048x256 .bf16) (w : Vec Ideal S3x256x1024 .bf16)
  (acc : Vec Ideal S2048x1024 .f32)

/-- The accumulator's stores, last first. -/
def accPieces : List (View.Piece (Elt Ideal) S2048x1024 .f32) :=
   [⟨Rect.unit ![1792, 0] ![256, 1024] inb_S2048x1024_S256x1024_1792_0,
      k0_pay104 (k0_pay29 (View.ld w (Rect.unit ![0, 0, 0] ![2, 256, 1024] inb_S3x256x1024_S2x256x1024_0_0_0)))
        (View.ld d (Rect.unit ![1792, 0] ![256, 1024] inb_S2048x1024_S256x1024_1792_0))
        (k0_pay97 (View.ld g (Rect.unit ![0, 1792, 0] ![1, 256, 256] inb_S1x2048x256_S1x256x256_0_1792_0)))
        (k0_pay98 (View.ld u (Rect.unit ![0, 1792, 0] ![1, 256, 256] inb_S1x2048x256_S1x256x256_0_1792_0)))
        (FloatOps.ofBits FTy.f32 0#32)
        (View.ld w (Rect.unit ![2, 0, 0] ![1, 256, 1024] inb_S3x256x1024_S1x256x1024_2_0_0))
        (View.ld acc (Rect.unit ![1792, 0] ![256, 1024] inb_S2048x1024_S256x1024_1792_0))⟩,
    ⟨Rect.unit ![1536, 0] ![256, 1024] inb_S2048x1024_S256x1024_1536_0,
      k0_pay96 (k0_pay29 (View.ld w (Rect.unit ![0, 0, 0] ![2, 256, 1024] inb_S3x256x1024_S2x256x1024_0_0_0)))
        (View.ld d (Rect.unit ![1536, 0] ![256, 1024] inb_S2048x1024_S256x1024_1536_0))
        (k0_pay89 (View.ld g (Rect.unit ![0, 1536, 0] ![1, 256, 256] inb_S1x2048x256_S1x256x256_0_1536_0)))
        (k0_pay90 (View.ld u (Rect.unit ![0, 1536, 0] ![1, 256, 256] inb_S1x2048x256_S1x256x256_0_1536_0)))
        (k0_pay91 (View.ld g (Rect.unit ![0, 1536, 0] ![1, 256, 256] inb_S1x2048x256_S1x256x256_0_1536_0)))
        (k0_pay92 (View.ld g (Rect.unit ![0, 1536, 0] ![1, 256, 256] inb_S1x2048x256_S1x256x256_0_1536_0)))
        (View.ld w (Rect.unit ![2, 0, 0] ![1, 256, 1024] inb_S3x256x1024_S1x256x1024_2_0_0))
        (View.ld acc (Rect.unit ![1536, 0] ![256, 1024] inb_S2048x1024_S256x1024_1536_0))⟩,
    ⟨Rect.unit ![1280, 0] ![256, 1024] inb_S2048x1024_S256x1024_1280_0,
      k0_pay88 (k0_pay29 (View.ld w (Rect.unit ![0, 0, 0] ![2, 256, 1024] inb_S3x256x1024_S2x256x1024_0_0_0)))
        (k0_pay79 (View.ld g (Rect.unit ![0, 1280, 0] ![1, 256, 256] inb_S1x2048x256_S1x256x256_0_1280_0)))
        (k0_pay82 (View.ld d (Rect.unit ![1280, 0] ![256, 1024] inb_S2048x1024_S256x1024_1280_0))
          (View.ld g (Rect.unit ![0, 1280, 0] ![1, 256, 256] inb_S1x2048x256_S1x256x256_0_1280_0))
          (View.ld w (Rect.unit ![2, 0, 0] ![1, 256, 1024] inb_S3x256x1024_S1x256x1024_2_0_0)))
        (k0_pay83 (View.ld d (Rect.unit ![1280, 0] ![256, 1024] inb_S2048x1024_S256x1024_1280_0))
          (View.ld u (Rect.unit ![0, 1280, 0] ![1, 256, 256] inb_S1x2048x256_S1x256x256_0_1280_0))
          (View.ld w (Rect.unit ![2, 0, 0] ![1, 256, 1024] inb_S3x256x1024_S1x256x1024_2_0_0)))
        (k0_pay84 (View.ld g (Rect.unit ![0, 1280, 0] ![1, 256, 256] inb_S1x2048x256_S1x256x256_0_1280_0)))
        (View.ld acc (Rect.unit ![1280, 0] ![256, 1024] inb_S2048x1024_S256x1024_1280_0))⟩,
    ⟨Rect.unit ![1024, 0] ![256, 1024] inb_S2048x1024_S256x1024_1024_0,
      k0_pay76 (k0_pay29 (View.ld w (Rect.unit ![0, 0, 0] ![2, 256, 1024] inb_S3x256x1024_S2x256x1024_0_0_0)))
        (k0_pay72 (View.ld d (Rect.unit ![1024, 0] ![256, 1024] inb_S2048x1024_S256x1024_1024_0))
          (View.ld g (Rect.unit ![0, 1024, 0] ![1, 256, 256] inb_S1x2048x256_S1x256x256_0_1024_0))
          (View.ld u (Rect.unit ![0, 1024, 0] ![1, 256, 256] inb_S1x2048x256_S1x256x256_0_1024_0))
          (View.ld w (Rect.unit ![2, 0, 0] ![1, 256, 1024] inb_S3x256x1024_S1x256x1024_2_0_0)))
        (View.ld acc (Rect.unit ![1024, 0] ![256, 1024] inb_S2048x1024_S256x1024_1024_0))⟩,
    ⟨Rect.unit ![768, 0] ![256, 1024] inb_S2048x1024_S256x1024_768_0,
      k0_pay67
        (k0_pay66 (k0_pay29 (View.ld w (Rect.unit ![0, 0, 0] ![2, 256, 1024] inb_S3x256x1024_S2x256x1024_0_0_0)))
          (View.ld d (Rect.unit ![768, 0] ![256, 1024] inb_S2048x1024_S256x1024_768_0))
          (k0_pay58 (View.ld g (Rect.unit ![0, 768, 0] ![1, 256, 256] inb_S1x2048x256_S1x256x256_0_768_0)))
          (View.ld u (Rect.unit ![0, 768, 0] ![1, 256, 256] inb_S1x2048x256_S1x256x256_0_768_0))
          (View.ld w (Rect.unit ![2, 0, 0] ![1, 256, 1024] inb_S3x256x1024_S1x256x1024_2_0_0))
          (View.ld acc (Rect.unit ![768, 0] ![256, 1024] inb_S2048x1024_S256x1024_768_0)))⟩,
    ⟨Rect.unit ![512, 0] ![256, 1024] inb_S2048x1024_S256x1024_512_0,
      k0_pay57 (k0_pay29 (View.ld w (Rect.unit ![0, 0, 0] ![2, 256, 1024] inb_S3x256x1024_S2x256x1024_0_0_0)))
        (View.ld d (Rect.unit ![512, 0] ![256, 1024] inb_S2048x1024_S256x1024_512_0))
        (k0_pay48 (View.ld g (Rect.unit ![0, 512, 0] ![1, 256, 256] inb_S1x2048x256_S1x256x256_0_512_0)))
        (k0_pay49 (View.ld u (Rect.unit ![0, 512, 0] ![1, 256, 256] inb_S1x2048x256_S1x256x256_0_512_0)))
        (k0_pay50 (View.ld g (Rect.unit ![0, 512, 0] ![1, 256, 256] inb_S1x2048x256_S1x256x256_0_512_0))) k0_pay51
        (View.ld w (Rect.unit ![2, 0, 0] ![1, 256, 1024] inb_S3x256x1024_S1x256x1024_2_0_0))
        (View.ld acc (Rect.unit ![512, 0] ![256, 1024] inb_S2048x1024_S256x1024_512_0))⟩,
    ⟨Rect.unit ![256, 0] ![256, 1024] inb_S2048x1024_S256x1024_256_0,
      k0_pay47 (k0_pay29 (View.ld w (Rect.unit ![0, 0, 0] ![2, 256, 1024] inb_S3x256x1024_S2x256x1024_0_0_0)))
        (k0_pay38 (View.ld g (Rect.unit ![0, 256, 0] ![1, 256, 256] inb_S1x2048x256_S1x256x256_0_256_0)))
        (k0_pay39 (View.ld u (Rect.unit ![0, 256, 0] ![1, 256, 256] inb_S1x2048x256_S1x256x256_0_256_0)))
        (k0_pay40 (View.ld g (Rect.unit ![0, 256, 0] ![1, 256, 256] inb_S1x2048x256_S1x256x256_0_256_0)))
        (k0_pay42 (View.ld d (Rect.unit ![256, 0] ![256, 1024] inb_S2048x1024_S256x1024_256_0))
          (View.ld w (Rect.unit ![2, 0, 0] ![1, 256, 1024] inb_S3x256x1024_S1x256x1024_2_0_0)))
        (k0_pay43 (View.ld d (Rect.unit ![256, 0] ![256, 1024] inb_S2048x1024_S256x1024_256_0))
          (View.ld g (Rect.unit ![0, 256, 0] ![1, 256, 256] inb_S1x2048x256_S1x256x256_0_256_0))
          (View.ld w (Rect.unit ![2, 0, 0] ![1, 256, 1024] inb_S3x256x1024_S1x256x1024_2_0_0)))
        (View.ld acc (Rect.unit ![256, 0] ![256, 1024] inb_S2048x1024_S256x1024_256_0))⟩,
    ⟨Rect.unit ![0, 0] ![256, 1024] inb_S2048x1024_S256x1024_0_0,
      k0_pay37 (k0_pay29 (View.ld w (Rect.unit ![0, 0, 0] ![2, 256, 1024] inb_S3x256x1024_S2x256x1024_0_0_0)))
        (k0_pay34 (View.ld d (Rect.unit ![0, 0] ![256, 1024] inb_S2048x1024_S256x1024_0_0))
          (View.ld g (Rect.unit ![0, 0, 0] ![1, 256, 256] inb_S1x2048x256_S1x256x256_0_0_0))
          (View.ld u (Rect.unit ![0, 0, 0] ![1, 256, 256] inb_S1x2048x256_S1x256x256_0_0_0))
          (View.ld w (Rect.unit ![2, 0, 0] ![1, 256, 1024] inb_S3x256x1024_S1x256x1024_2_0_0)))
        (View.ld acc (Rect.unit ![0, 0] ![256, 1024] inb_S2048x1024_S256x1024_0_0))⟩]

/-- The stores of the gate's and the up projection's gradients, last first. -/
def dguPieces : List (View.Piece (Elt Ideal) S2048x512 .bf16) :=
  [⟨Rect.unit ![1792, 0] ![256, 512] inb_S2048x512_S256x512_1792_0,
      k0_pay102 (View.ld d (Rect.unit ![1792, 0] ![256, 1024] inb_S2048x1024_S256x1024_1792_0))
        (k0_pay97 (View.ld g (Rect.unit ![0, 1792, 0] ![1, 256, 256] inb_S1x2048x256_S1x256x256_0_1792_0)))
        (k0_pay98 (View.ld u (Rect.unit ![0, 1792, 0] ![1, 256, 256] inb_S1x2048x256_S1x256x256_0_1792_0)))
        (FloatOps.ofBits FTy.f32 0#32)
        (View.ld w (Rect.unit ![2, 0, 0] ![1, 256, 1024] inb_S3x256x1024_S1x256x1024_2_0_0))⟩,
    ⟨Rect.unit ![1536, 0] ![256, 512] inb_S2048x512_S256x512_1536_0,
      k0_pay94 (View.ld d (Rect.unit ![1536, 0] ![256, 1024] inb_S2048x1024_S256x1024_1536_0))
        (k0_pay89 (View.ld g (Rect.unit ![0, 1536, 0] ![1, 256, 256] inb_S1x2048x256_S1x256x256_0_1536_0)))
        (k0_pay90 (View.ld u (Rect.unit ![0, 1536, 0] ![1, 256, 256] inb_S1x2048x256_S1x256x256_0_1536_0)))
        (k0_pay91 (View.ld g (Rect.unit ![0, 1536, 0] ![1, 256, 256] inb_S1x2048x256_S1x256x256_0_1536_0)))
        (k0_pay92 (View.ld g (Rect.unit ![0, 1536, 0] ![1, 256, 256] inb_S1x2048x256_S1x256x256_0_1536_0)))
        (View.ld w (Rect.unit ![2, 0, 0] ![1, 256, 1024] inb_S3x256x1024_S1x256x1024_2_0_0))⟩,
    ⟨Rect.unit ![1280, 0] ![256, 512] inb_S2048x512_S256x512_1280_0,
      k0_pay86
        (k0_pay79 (View.ld g (Rect.unit ![0, 1280, 0] ![1, 256, 256] inb_S1x2048x256_S1x256x256_0_1280_0)))
        (k0_pay82 (View.ld d (Rect.unit ![1280, 0] ![256, 1024] inb_S2048x1024_S256x1024_1280_0))
          (View.ld g (Rect.unit ![0, 1280, 0] ![1, 256, 256] inb_S1x2048x256_S1x256x256_0_1280_0))
          (View.ld w (Rect.unit ![2, 0, 0] ![1, 256, 1024] inb_S3x256x1024_S1x256x1024_2_0_0)))
        (k0_pay83 (View.ld d (Rect.unit ![1280, 0] ![256, 1024] inb_S2048x1024_S256x1024_1280_0))
          (View.ld u (Rect.unit ![0, 1280, 0] ![1, 256, 256] inb_S1x2048x256_S1x256x256_0_1280_0))
          (View.ld w (Rect.unit ![2, 0, 0] ![1, 256, 1024] inb_S3x256x1024_S1x256x1024_2_0_0)))
        (k0_pay84 (View.ld g (Rect.unit ![0, 1280, 0] ![1, 256, 256] inb_S1x2048x256_S1x256x256_0_1280_0)))⟩,
    ⟨Rect.unit ![1024, 0] ![256, 512] inb_S2048x512_S256x512_1024_0,
      k0_pay73 (View.ld d (Rect.unit ![1024, 0] ![256, 1024] inb_S2048x1024_S256x1024_1024_0))
        (View.ld g (Rect.unit ![0, 1024, 0] ![1, 256, 256] inb_S1x2048x256_S1x256x256_0_1024_0))
        (View.ld u (Rect.unit ![0, 1024, 0] ![1, 256, 256] inb_S1x2048x256_S1x256x256_0_1024_0))
        (View.ld w (Rect.unit ![2, 0, 0] ![1, 256, 1024] inb_S3x256x1024_S1x256x1024_2_0_0))⟩,
    ⟨Rect.unit ![768, 0] ![256, 512] inb_S2048x512_S256x512_768_0,
      k0_pay64 (View.ld d (Rect.unit ![768, 0] ![256, 1024] inb_S2048x1024_S256x1024_768_0))
        (k0_pay58 (View.ld g (Rect.unit ![0, 768, 0] ![1, 256, 256] inb_S1x2048x256_S1x256x256_0_768_0)))
        (View.ld u (Rect.unit ![0, 768, 0] ![1, 256, 256] inb_S1x2048x256_S1x256x256_0_768_0))
        (View.ld w (Rect.unit ![2, 0, 0] ![1, 256, 1024] inb_S3x256x1024_S1x256x1024_2_0_0))⟩,
    ⟨Rect.unit ![512, 0] ![256, 512] inb_S2048x512_S256x512_512_0,
      k0_pay55 (View.ld d (Rect.unit ![512, 0] ![256, 1024] inb_S2048x1024_S256x1024_512_0))
        (k0_pay48 (View.ld g (Rect.unit ![0, 512, 0] ![1, 256, 256] inb_S1x2048x256_S1x256x256_0_512_0)))
        (k0_pay49 (View.ld u (Rect.unit ![0, 512, 0] ![1, 256, 256] inb_S1x2048x256_S1x256x256_0_512_0)))
        (k0_pay50 (View.ld g (Rect.unit ![0, 512, 0] ![1, 256, 256] inb_S1x2048x256_S1x256x256_0_512_0)))
        k0_pay51 (View.ld w (Rect.unit ![2, 0, 0] ![1, 256, 1024] inb_S3x256x1024_S1x256x1024_2_0_0))⟩,
    ⟨Rect.unit ![256, 0] ![256, 512] inb_S2048x512_S256x512_256_0,
      k0_pay45
        (k0_pay38 (View.ld g (Rect.unit ![0, 256, 0] ![1, 256, 256] inb_S1x2048x256_S1x256x256_0_256_0)))
        (k0_pay39 (View.ld u (Rect.unit ![0, 256, 0] ![1, 256, 256] inb_S1x2048x256_S1x256x256_0_256_0)))
        (k0_pay40 (View.ld g (Rect.unit ![0, 256, 0] ![1, 256, 256] inb_S1x2048x256_S1x256x256_0_256_0)))
        (k0_pay42 (View.ld d (Rect.unit ![256, 0] ![256, 1024] inb_S2048x1024_S256x1024_256_0))
          (View.ld w (Rect.unit ![2, 0, 0] ![1, 256, 1024] inb_S3x256x1024_S1x256x1024_2_0_0)))
        (k0_pay43 (View.ld d (Rect.unit ![256, 0] ![256, 1024] inb_S2048x1024_S256x1024_256_0))
          (View.ld g (Rect.unit ![0, 256, 0] ![1, 256, 256] inb_S1x2048x256_S1x256x256_0_256_0))
          (View.ld w (Rect.unit ![2, 0, 0] ![1, 256, 1024] inb_S3x256x1024_S1x256x1024_2_0_0)))⟩,
    ⟨Rect.unit ![0, 0] ![256, 512] inb_S2048x512_S256x512_0_0,
      k0_pay35
        (k0_pay34 (View.ld d (Rect.unit ![0, 0] ![256, 1024] inb_S2048x1024_S256x1024_0_0))
          (View.ld g (Rect.unit ![0, 0, 0] ![1, 256, 256] inb_S1x2048x256_S1x256x256_0_0_0))
          (View.ld u (Rect.unit ![0, 0, 0] ![1, 256, 256] inb_S1x2048x256_S1x256x256_0_0_0))
          (View.ld w (Rect.unit ![2, 0, 0] ![1, 256, 1024] inb_S3x256x1024_S1x256x1024_2_0_0)))⟩]

/-- The activation's stores, last first. -/
def actPieces : List (View.Piece (Elt Ideal) S2048x256 .bf16) :=
  [⟨Rect.unit ![1792, 0] ![256, 256] inb_S2048x256_S256x256_1792_0,
      k0_pay103
        (k0_pay97 (View.ld g (Rect.unit ![0, 1792, 0] ![1, 256, 256] inb_S1x2048x256_S1x256x256_0_1792_0)))
        (k0_pay98 (View.ld u (Rect.unit ![0, 1792, 0] ![1, 256, 256] inb_S1x2048x256_S1x256x256_0_1792_0)))
        (FloatOps.ofBits FTy.f32 0#32)⟩,
    ⟨Rect.unit ![1536, 0] ![256, 256] inb_S2048x256_S256x256_1536_0,
      k0_pay95
        (k0_pay90 (View.ld u (Rect.unit ![0, 1536, 0] ![1, 256, 256] inb_S1x2048x256_S1x256x256_0_1536_0)))
        (k0_pay92 (View.ld g (Rect.unit ![0, 1536, 0] ![1, 256, 256] inb_S1x2048x256_S1x256x256_0_1536_0)))⟩,
    ⟨Rect.unit ![1280, 0] ![256, 256] inb_S2048x256_S256x256_1280_0,
      k0_pay87
        (k0_pay78 (View.ld u (Rect.unit ![0, 1280, 0] ![1, 256, 256] inb_S1x2048x256_S1x256x256_0_1280_0)))
        (k0_pay80 (View.ld g (Rect.unit ![0, 1280, 0] ![1, 256, 256] inb_S1x2048x256_S1x256x256_0_1280_0)))⟩,
    ⟨Rect.unit ![1024, 0] ![256, 256] inb_S2048x256_S256x256_1024_0,
      k0_pay75
        (k0_pay74 (View.ld g (Rect.unit ![0, 1024, 0] ![1, 256, 256] inb_S1x2048x256_S1x256x256_0_1024_0))
          (View.ld u (Rect.unit ![0, 1024, 0] ![1, 256, 256] inb_S1x2048x256_S1x256x256_0_1024_0)))⟩,
    ⟨Rect.unit ![768, 0] ![256, 256] inb_S2048x256_S256x256_768_0,
      k0_pay65
        (k0_pay58 (View.ld g (Rect.unit ![0, 768, 0] ![1, 256, 256] inb_S1x2048x256_S1x256x256_0_768_0)))
        (View.ld u (Rect.unit ![0, 768, 0] ![1, 256, 256] inb_S1x2048x256_S1x256x256_0_768_0))⟩,
    ⟨Rect.unit ![512, 0] ![256, 256] inb_S2048x256_S256x256_512_0,
      k0_pay56
        (k0_pay48 (View.ld g (Rect.unit ![0, 512, 0] ![1, 256, 256] inb_S1x2048x256_S1x256x256_0_512_0)))
        (k0_pay49 (View.ld u (Rect.unit ![0, 512, 0] ![1, 256, 256] inb_S1x2048x256_S1x256x256_0_512_0)))
        (k0_pay50 (View.ld g (Rect.unit ![0, 512, 0] ![1, 256, 256] inb_S1x2048x256_S1x256x256_0_512_0)))
        k0_pay51⟩,
    ⟨Rect.unit ![256, 0] ![256, 256] inb_S2048x256_S256x256_256_0,
      k0_pay46
        (k0_pay39 (View.ld u (Rect.unit ![0, 256, 0] ![1, 256, 256] inb_S1x2048x256_S1x256x256_0_256_0)))
        (k0_pay41 (View.ld g (Rect.unit ![0, 256, 0] ![1, 256, 256] inb_S1x2048x256_S1x256x256_0_256_0)))⟩,
    ⟨Rect.unit ![0, 0] ![256, 256] inb_S2048x256_S256x256_0_0,
      k0_pay36 (k0_pay31 (View.ld u (Rect.unit ![0, 0, 0] ![1, 256, 256] inb_S1x2048x256_S1x256x256_0_0_0)))
        (k0_pay33 (View.ld g (Rect.unit ![0, 0, 0] ![1, 256, 256] inb_S1x2048x256_S1x256x256_0_0_0)))⟩]

theorem acc_at (r : Fin 2048) (x : Fin 1024) :
    View.AllAt (accPieces d g u w acc) (ix2 r x) (acc (ix2 r x) + dHStep d g u w r x) := by
  unfold accPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 1024), y = ix2 a b := ⟨y 0, y 1, eq_ix2 y⟩
    obtain ⟨r, hr⟩ := r
    obtain rfl : r = _ + a.val := hy 0
    obtain rfl : x = b := Fin.ext ((hy 1).trans (Nat.zero_add _))
    pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
    try simp only [ld_rows, ld_planes, zero_add, Fin.eta, div_lo, div_hi, mod_lo, mod_hi]
    rfl

theorem dgu_at (r : Fin 2048) (x : Fin 512) : View.AllAt (dguPieces d g u w) (ix2 r x) (dGU d g u w r x) := by
  unfold dguPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 512), y = ix2 a b := ⟨y 0, y 1, eq_ix2 y⟩
    obtain ⟨r, hr⟩ := r
    obtain rfl : r = _ + a.val := hy 0
    obtain rfl : x = b := Fin.ext ((hy 1).trans (Nat.zero_add _))
    pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
    try simp only [ld_rows, ld_planes, zero_add, Fin.eta, div_lo, div_hi, mod_lo, mod_hi]
    rfl

theorem act_at (r : Fin 2048) (x : Fin 256) : View.AllAt (actPieces g u) (ix2 r x) (aC g u r x) := by
  unfold actPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 256), y = ix2 a b := ⟨y 0, y 1, eq_ix2 y⟩
    obtain ⟨r, hr⟩ := r
    obtain rfl : r = _ + a.val := hy 0
    obtain rfl : x = b := Fin.ext ((hy 1).trans (Nat.zero_add _))
    pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
    try simp only [ld_rows, ld_planes, zero_add, Fin.eta, div_lo, div_hi, mod_lo, mod_hi]
    rfl

theorem acc_cover (y : S2048x1024.Idx) : ∃ p ∈ accPieces d g u w acc, y ∈ p.1.set :=
  View.cover_of_tiled _ ![256, 1024] (by sl_kernel_rfl) y
theorem dgu_cover (y : S2048x512.Idx) : ∃ p ∈ dguPieces d g u w, y ∈ p.1.set :=
  View.cover_of_tiled _ ![256, 512] (by sl_kernel_rfl) y
theorem act_cover (y : S2048x256.Idx) : ∃ p ∈ actPieces g u, y ∈ p.1.set :=
  View.cover_of_tiled _ ![256, 256] (by sl_kernel_rfl) y

/-- The stores of the three weights' gradients, last first, from the stores of the gradients and of the activation. -/
def dwPieces {sig : RefSig} {κ κ' : Kind} {sp sp' : Space} (v11 : View sig κ sp S2048x512 .bf16)
    (v12 : View sig κ' sp' S2048x256 .bf16) : List (View.Piece (Elt Ideal) S3x256x1024 .bf16) :=
  [⟨Rect.unit ![2, 0, 0] ![1, 256, 1024] inb_S3x256x1024_S1x256x1024_2_0_0,
      k0_pay2 (v12.readCov (actPieces g u) (Rect.unit ![0, 0] ![2048, 256] inb_S2048x256_S2048x256_0_0).toLoadRect)
        (View.ld d (Rect.unit ![0, 0] ![2048, 1024] inb_S2048x1024_S2048x1024_0_0))⟩,
    ⟨Rect.unit ![0, 0, 0] ![2, 256, 1024] inb_S3x256x1024_S2x256x1024_0_0_0,
      k0_pay1 (v11.readCov (dguPieces d g u w) (Rect.unit ![0, 0] ![2048, 512] inb_S2048x512_S2048x512_0_0).toLoadRect)
        (View.ld h (Rect.unit ![0, 0] ![2048, 1024] inb_S2048x1024_S2048x1024_0_0))⟩]

theorem dgu_read {sig : RefSig} {κ : Kind} {sp : Space} (v : View sig κ sp S2048x512 .bf16) :
    v.readCov (dguPieces d g u w) (Rect.unit ![0, 0] ![2048, 512] inb_S2048x512_S2048x512_0_0).toLoadRect
      = fun j : (⟨2, ![2048, 512]⟩ : Shape).Idx => dGU d g u w (j 0) (j 1) := by
  rw [View.readCov_eq_canon_ld _ _ _ (dgu_cover d g u w)]
  funext j
  obtain ⟨r, k, rfl⟩ : ∃ (r : Fin 2048) (k : Fin 512), j = ix2 r k := ⟨j 0, j 1, eq_ix2 j⟩
  refine (ld_rows _ _ r k).trans ?_
  simp only [zero_add, Fin.eta]
  exact View.canon_eq_of_allAt _ _ _ (dgu_cover d g u w _) (dgu_at d g u w r k)

theorem act_read {sig : RefSig} {κ : Kind} {sp : Space} (v : View sig κ sp S2048x256 .bf16) :
    v.readCov (actPieces g u) (Rect.unit ![0, 0] ![2048, 256] inb_S2048x256_S2048x256_0_0).toLoadRect
      = fun j : (⟨2, ![2048, 256]⟩ : Shape).Idx => aC g u (j 0) (j 1) := by
  rw [View.readCov_eq_canon_ld _ _ _ (act_cover g u)]
  funext j
  obtain ⟨r, k, rfl⟩ : ∃ (r : Fin 2048) (k : Fin 256), j = ix2 r k := ⟨j 0, j 1, eq_ix2 j⟩
  refine (ld_rows _ _ r k).trans ?_
  simp only [zero_add, Fin.eta]
  exact View.canon_eq_of_allAt _ _ _ (act_cover g u _) (act_at g u r k)

theorem dw_at {sig : RefSig} {κ κ' : Kind} {sp sp' : Space} (v11 : View sig κ sp S2048x512 .bf16)
    (v12 : View sig κ' sp' S2048x256 .bf16) (p : Fin 3) (k : Fin 256) (x : Fin 1024) :
    View.AllAt (dwPieces d h g u w v11 v12) (ix3 p k x) (dWBlk d h g u w p k x) := by
  unfold dwPieces
  rw [act_read, dgu_read]
  refine View.allAt_cons_unit _ _ _ _ _ ?_ (View.allAt_cons_unit _ _ _ _ _ ?_ (View.allAt_nil _ _))
  · intro y hy
    obtain ⟨a, b, e, rfl⟩ : ∃ (a : Fin 1) (b : Fin 256) (e : Fin 1024), y = ix3 a b e := ⟨y 0, y 1, y 2, eq_ix3 y⟩
    obtain rfl : k = b := Fin.ext ((hy 1).trans (Nat.zero_add _))
    obtain rfl : x = e := Fin.ext ((hy 2).trans (Nat.zero_add _))
    obtain rfl : p = 2 := Fin.ext ((hy 0).trans (by show 2 + a.val = 2; omega))
    pointwise [k0_pay2]
    rfl
  · intro y hy
    obtain ⟨a, b, e, rfl⟩ : ∃ (a : Fin 2) (b : Fin 256) (e : Fin 1024), y = ix3 a b e := ⟨y 0, y 1, y 2, eq_ix3 y⟩
    obtain rfl : k = b := Fin.ext ((hy 1).trans (Nat.zero_add _))
    obtain rfl : x = e := Fin.ext ((hy 2).trans (Nat.zero_add _))
    pointwise [k0_pay1]
    obtain ⟨p, hp⟩ := p
    obtain rfl : p = 0 + a.val := hy 0
    match a with
    | 0 =>
      refine Finset.sum_congr rfl fun r _ => congrArg (· * _) ?_
      refine (dif_pos (by show 0 * 256 + k.val < 256; omega)).trans (congrArg (dG d g u w r) (Fin.ext ?_))
      show 0 * 256 + k.val = k.val
      omega
    | 1 =>
      refine Finset.sum_congr rfl fun r _ => congrArg (· * _) ?_
      refine (dif_neg (by show ¬ 1 * 256 + k.val < 256; omega)).trans (congrArg (dU d g w r) (Fin.ext ?_))
      show 1 * 256 + k.val - 256 = k.val
      omega

theorem dw_cover {sig : RefSig} {κ κ' : Kind} {sp sp' : Space} (v11 : View sig κ sp S2048x512 .bf16)
    (v12 : View sig κ' sp' S2048x256 .bf16) (y : S3x256x1024.Idx) : ∃ q ∈ dwPieces d h g u w v11 v12, y ∈ q.1.set :=
  View.cover_of_tiledBy _ ![1, 256, 1024] (by sl_kernel_rfl) y

end Pieces
end Cert.Ffn2BwdIdeal.Value
end
-- ==== Proof.Ffn2Cases.lean ====
module
public import proofs.«01_k».proof.Proof.Ffn2Block

/-! What each kind of grid point leaves of the second feed-forward's gradients: the first (it fetches the two arrays and
clears the accumulator), the middle ones, and the last (it also goes back through the norm). -/

@[expose] public section
noncomputable section
namespace Cert.Ffn2BwdIdeal.Value
open Cert.Ffn2BwdIdeal Cert.Ffn2BwdIdeal.Gen Cert.FfnMath Idealize.ShloMosaic

variable (c : Dev nD) (i : grid0.Coords)
  (a3 : Memref sig .tc .vmem S1x2048x256 .bf16) (k3 : a3.IsWhole)
  (a4 : Memref sig .tc .vmem S1x2048x256 .bf16) (k4 : a4.IsWhole)
  (a5 : Memref sig .tc .vmem S3x256x1024 .bf16) (k5 : a5.IsWhole)
  (a7 : Memref sig .tc .vmem S1x1024 .f32) (k7 : a7.IsWhole)
  (a11 : Memref sig .tc .vmem S1x1024 .f32) (k11 : a11.IsWhole)
  (a12 : Memref sig .tc .vmem S3x256x1024 .bf16) (k12 : a12.IsWhole)
  (a13 : Memref sig .tc .vmem S2048x1024 .bf16) (k13 : a13.IsWhole)
  (a14 : Memref sig .tc .vmem S2048x1024 .bf16) (k14 : a14.IsWhole)
  (a15 : Memref sig .tc .vmem S2048x1024 .f32) (k15 : a15.IsWhole)
  (a16 : Memref sig .tc .vmem S2048x512 .bf16) (k16 : a16.IsWhole)
  (a17 : Memref sig .tc .vmem S2048x256 .bf16) (k17 : a17.IsWhole)
  (a19 : Memref sig .tc .vmem S1024x1024 .f32) (k19 : a19.IsWhole)
  (a20 : Memref sig .tc .vmem S1024x1024 .f32) (k20 : a20.IsWhole)
  (a21 : Memref sig .tc .vmem S1024x1024 .f32) (k21 : a21.IsWhole)
  (a22 : Memref sig .tc .vmem S1024x1024 .bf16) (k22 : a22.IsWhole)
  (x0 : Vec Ideal S1x2048x256 .bf16) (x1 : Vec Ideal S1x2048x256 .bf16) (x2 : Vec Ideal S3x256x1024 .bf16)
  (x3 : Vec Ideal S1x1024 .f32) (xs0 : Vec Ideal S2048x1024 .bf16) (xs1 : Vec Ideal S2048x1024 .bf16)
  (xs2 : Vec Ideal S2048x1024 .f32) (fh0 : HbBuf0 (F := Ideal) c hbM0_0) (fh1 : HbBuf0 (F := Ideal) c hbM0_1)
  (fh2 : HbBuf0 (F := Ideal) c hbM0_2) (fh3 : HbBuf0 (F := Ideal) c hbM0_3)

theorem dw_A (hc0 : cond0_0 i) (hc1 : ¬cond0_1 i) (p : Fin 3) (k : Fin 256) (x : Fin 1024) :
    out0_A_5 (F := Ideal) c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3 (ix3 p k x)
      = dWBlk fh0 fh1 x0 x1 x2 p k x := by
  unfold out0_A_5
  rw [View.read_writes_eq_canon _ _ _ (cover0_A_5 c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3)]
  unfold kernelRun0_A
  dsimp only
  sl_unfold_words
  simp only [View.readAt_eq_ld, k3.read_unread, k4.read_unread, k5.read_unread, readCov_whole]
  exact View.canon_eq_of_allAt _ _ _ (dw_cover fh0 fh1 x0 x1 x2 a16.view a17.view _) (dw_at fh0 fh1 x0 x1 x2 a16.view a17.view p k x)

theorem acc_A (hc0 : cond0_0 i) (hc1 : ¬cond0_1 i) (r : Fin 2048) (x : Fin 1024) :
    sout0_A_2 (F := Ideal) c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3 (ix2 r x)
      = 0 + dHStep fh0 x0 x1 x2 r x := by
  unfold sout0_A_2
  rw [View.read_writes_eq_canon _ _ _ (scover0_A_2 c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3)]
  unfold kernelRun0_A
  dsimp only
  sl_unfold_words
  simp only [View.readAt_eq_ld, k3.read_unread, k4.read_unread, k5.read_unread, readCov_whole]
  simp (disch := decide) only [↓View.readCov_skip, ↓View.readCov_fill]
  have key := canon_append_of_allAt [(⟨Rect.unit ![0, 0] ![2048, 1024] inb_S2048x1024_S2048x1024_0_0, k0_pay28 (F := Ideal)⟩ :
      View.Piece (Elt Ideal) S2048x1024 .f32)] _ _ (accPieces fh0 x0 x1 x2 (k0_pay28 (F := Ideal))) (acc_cover fh0 x0 x1 x2 (k0_pay28 (F := Ideal)) _)
    (acc_at fh0 x0 x1 x2 (k0_pay28 (F := Ideal)) r x)
  simp only [accPieces, List.cons_append, List.nil_append] at key
  exact key.trans (congrArg (· + _) (by pointwise [k0_pay28]))

theorem dw_B (hc0 : ¬cond0_0 i) (hc1 : ¬cond0_1 i) (p : Fin 3) (k : Fin 256) (x : Fin 1024) :
    out0_B_5 (F := Ideal) c i a3 k3 a4 k4 a5 k5 a7 k7 a11 k11 a12 k12 a13 k13 a14 k14 a15 k15 a16 k16 a17 k17 a19 k19 a20 k20 a21 k21 a22 k22 hc0 hc1 x0 x1 x2 x3 xs0 xs1 xs2 fh0 fh1 fh2 fh3 (ix3 p k x)
      = dWBlk xs0 xs1 x0 x1 x2 p k x := by
  unfold out0_B_5
  rw [View.read_writes_eq_canon _ _ _ (cover0_B_5 c i a3 k3 a4 k4 a5 k5 a7 k7 a11 k11 a12 k12 a13 k13 a14 k14 a15 k15 a16 k16 a17 k17 a19 k19 a20 k20 a21 k21 a22 k22 hc0 hc1 x0 x1 x2 x3 xs0 xs1 xs2 fh0 fh1 fh2 fh3)]
  unfold kernelRun0_B
  dsimp only
  sl_unfold_words
  simp only [View.readAt_eq_ld, k3.read_unread, k4.read_unread, k5.read_unread, k13.read_unread,
    k14.read_unread]
  exact View.canon_eq_of_allAt _ _ _ (dw_cover xs0 xs1 x0 x1 x2 a16.view a17.view _) (dw_at xs0 xs1 x0 x1 x2 a16.view a17.view p k x)

theorem acc_B (hc0 : ¬cond0_0 i) (hc1 : ¬cond0_1 i) (r : Fin 2048) (x : Fin 1024) :
    sout0_B_2 (F := Ideal) c i a3 k3 a4 k4 a5 k5 a7 k7 a11 k11 a12 k12 a13 k13 a14 k14 a15 k15 a16 k16 a17 k17 a19 k19 a20 k20 a21 k21 a22 k22 hc0 hc1 x0 x1 x2 x3 xs0 xs1 xs2 fh0 fh1 fh2 fh3 (ix2 r x)
      = xs2 (ix2 r x) + dHStep xs0 x0 x1 x2 r x := by
  unfold sout0_B_2
  rw [View.read_writes_eq_canon _ _ _ (scover0_B_2 c i a3 k3 a4 k4 a5 k5 a7 k7 a11 k11 a12 k12 a13 k13 a14 k14 a15 k15 a16 k16 a17 k17 a19 k19 a20 k20 a21 k21 a22 k22 hc0 hc1 x0 x1 x2 x3 xs0 xs1 xs2 fh0 fh1 fh2 fh3)]
  unfold kernelRun0_B
  dsimp only
  sl_unfold_words
  simp only [View.readAt_eq_ld, k3.read_unread, k4.read_unread, k5.read_unread, k13.read_unread,
    k14.read_unread, k15.read_unread]
  exact View.canon_eq_of_allAt _ _ _ (acc_cover xs0 x0 x1 x2 xs2 _) (acc_at xs0 x0 x1 x2 xs2 r x)

theorem dw_C (hc0 : ¬cond0_0 i) (hc1 : cond0_1 i) (hd0 : Disjoint (((Memref.whole main_v31_0).slice (Rect.unit (s := S2048x1024) ![512, 0] S512x1024.size inb_S2048x1024_S512x1024_512_0) (fun _ => rfl))).view.set (((Memref.whole main_v31_0).slice (Rect.unit (s := S2048x1024) ![0, 0] S512x1024.size inb_S2048x1024_S512x1024_0_0) (fun _ => rfl))).view.set) (hd1 : Disjoint (((Memref.whole main_v31_1).slice (Rect.unit (s := S2048x1024) ![512, 0] S512x1024.size inb_S2048x1024_S512x1024_512_0) (fun _ => rfl))).view.set (((Memref.whole main_v31_1).slice (Rect.unit (s := S2048x1024) ![0, 0] S512x1024.size inb_S2048x1024_S512x1024_0_0) (fun _ => rfl))).view.set) (hd2 : Disjoint (((Memref.whole main_v31_0).slice (Rect.unit (s := S2048x1024) ![1024, 0] S512x1024.size inb_S2048x1024_S512x1024_1024_0) (fun _ => rfl))).view.set (((Memref.whole main_v31_0).slice (Rect.unit (s := S2048x1024) ![512, 0] S512x1024.size inb_S2048x1024_S512x1024_512_0) (fun _ => rfl))).view.set) (hd3 : Disjoint (((Memref.whole main_v31_1).slice (Rect.unit (s := S2048x1024) ![1024, 0] S512x1024.size inb_S2048x1024_S512x1024_1024_0) (fun _ => rfl))).view.set (((Memref.whole main_v31_1).slice (Rect.unit (s := S2048x1024) ![512, 0] S512x1024.size inb_S2048x1024_S512x1024_512_0) (fun _ => rfl))).view.set) (hd4 : Disjoint (((Memref.whole main_v31_0).slice (Rect.unit (s := S2048x1024) ![1536, 0] S512x1024.size inb_S2048x1024_S512x1024_1536_0) (fun _ => rfl))).view.set (((Memref.whole main_v31_0).slice (Rect.unit (s := S2048x1024) ![1024, 0] S512x1024.size inb_S2048x1024_S512x1024_1024_0) (fun _ => rfl))).view.set) (hd5 : Disjoint (((Memref.whole main_v31_1).slice (Rect.unit (s := S2048x1024) ![1536, 0] S512x1024.size inb_S2048x1024_S512x1024_1536_0) (fun _ => rfl))).view.set (((Memref.whole main_v31_1).slice (Rect.unit (s := S2048x1024) ![1024, 0] S512x1024.size inb_S2048x1024_S512x1024_1024_0) (fun _ => rfl))).view.set) (p : Fin 3) (k : Fin 256) (x : Fin 1024) :
    out0_C_5 (F := Ideal) c i a3 k3 a4 k4 a5 k5 a7 k7 a11 k11 a12 k12 a13 k13 a14 k14 a15 k15 a16 k16 a17 k17 a19 k19 a20 k20 a21 k21 a22 k22 hc0 hc1 hd0 hd1 hd2 hd3 hd4 hd5 x0 x1 x2 x3 xs0 xs1 xs2 fh0 fh1 fh2 fh3 (ix3 p k x)
      = dWBlk xs0 xs1 x0 x1 x2 p k x := by
  unfold out0_C_5
  rw [View.read_writes_eq_canon _ _ _ (cover0_C_5 c i a3 k3 a4 k4 a5 k5 a7 k7 a11 k11 a12 k12 a13 k13 a14 k14 a15 k15 a16 k16 a17 k17 a19 k19 a20 k20 a21 k21 a22 k22 hc0 hc1 hd0 hd1 hd2 hd3 hd4 hd5 x0 x1 x2 x3 xs0 xs1 xs2 fh0 fh1 fh2 fh3)]
  unfold kernelRun0_C
  dsimp only
  sl_unfold_words
  simp only [View.readAt_eq_ld, k3.read_unread, k4.read_unread, k5.read_unread, k13.read_unread,
    k14.read_unread]
  exact View.canon_eq_of_allAt _ _ _ (dw_cover xs0 xs1 x0 x1 x2 a16.view a17.view _) (dw_at xs0 xs1 x0 x1 x2 a16.view a17.view p k x)

theorem acc_C (hc0 : ¬cond0_0 i) (hc1 : cond0_1 i) (hd0 : Disjoint (((Memref.whole main_v31_0).slice (Rect.unit (s := S2048x1024) ![512, 0] S512x1024.size inb_S2048x1024_S512x1024_512_0) (fun _ => rfl))).view.set (((Memref.whole main_v31_0).slice (Rect.unit (s := S2048x1024) ![0, 0] S512x1024.size inb_S2048x1024_S512x1024_0_0) (fun _ => rfl))).view.set) (hd1 : Disjoint (((Memref.whole main_v31_1).slice (Rect.unit (s := S2048x1024) ![512, 0] S512x1024.size inb_S2048x1024_S512x1024_512_0) (fun _ => rfl))).view.set (((Memref.whole main_v31_1).slice (Rect.unit (s := S2048x1024) ![0, 0] S512x1024.size inb_S2048x1024_S512x1024_0_0) (fun _ => rfl))).view.set) (hd2 : Disjoint (((Memref.whole main_v31_0).slice (Rect.unit (s := S2048x1024) ![1024, 0] S512x1024.size inb_S2048x1024_S512x1024_1024_0) (fun _ => rfl))).view.set (((Memref.whole main_v31_0).slice (Rect.unit (s := S2048x1024) ![512, 0] S512x1024.size inb_S2048x1024_S512x1024_512_0) (fun _ => rfl))).view.set) (hd3 : Disjoint (((Memref.whole main_v31_1).slice (Rect.unit (s := S2048x1024) ![1024, 0] S512x1024.size inb_S2048x1024_S512x1024_1024_0) (fun _ => rfl))).view.set (((Memref.whole main_v31_1).slice (Rect.unit (s := S2048x1024) ![512, 0] S512x1024.size inb_S2048x1024_S512x1024_512_0) (fun _ => rfl))).view.set) (hd4 : Disjoint (((Memref.whole main_v31_0).slice (Rect.unit (s := S2048x1024) ![1536, 0] S512x1024.size inb_S2048x1024_S512x1024_1536_0) (fun _ => rfl))).view.set (((Memref.whole main_v31_0).slice (Rect.unit (s := S2048x1024) ![1024, 0] S512x1024.size inb_S2048x1024_S512x1024_1024_0) (fun _ => rfl))).view.set) (hd5 : Disjoint (((Memref.whole main_v31_1).slice (Rect.unit (s := S2048x1024) ![1536, 0] S512x1024.size inb_S2048x1024_S512x1024_1536_0) (fun _ => rfl))).view.set (((Memref.whole main_v31_1).slice (Rect.unit (s := S2048x1024) ![1024, 0] S512x1024.size inb_S2048x1024_S512x1024_1024_0) (fun _ => rfl))).view.set) (r : Fin 2048) (x : Fin 1024) :
    sout0_C_2 (F := Ideal) c i a3 k3 a4 k4 a5 k5 a7 k7 a11 k11 a12 k12 a13 k13 a14 k14 a15 k15 a16 k16 a17 k17 a19 k19 a20 k20 a21 k21 a22 k22 hc0 hc1 hd0 hd1 hd2 hd3 hd4 hd5 x0 x1 x2 x3 xs0 xs1 xs2 fh0 fh1 fh2 fh3 (ix2 r x)
      = xs2 (ix2 r x) + dHStep xs0 x0 x1 x2 r x := by
  unfold sout0_C_2
  rw [View.read_writes_eq_canon _ _ _ (scover0_C_2 c i a3 k3 a4 k4 a5 k5 a7 k7 a11 k11 a12 k12 a13 k13 a14 k14 a15 k15 a16 k16 a17 k17 a19 k19 a20 k20 a21 k21 a22 k22 hc0 hc1 hd0 hd1 hd2 hd3 hd4 hd5 x0 x1 x2 x3 xs0 xs1 xs2 fh0 fh1 fh2 fh3)]
  unfold kernelRun0_C
  dsimp only
  sl_unfold_words
  simp only [View.readAt_eq_ld, k3.read_unread, k4.read_unread, k5.read_unread, k13.read_unread,
    k14.read_unread, k15.read_unread]
  exact View.canon_eq_of_allAt _ _ _ (acc_cover xs0 x0 x1 x2 xs2 _) (acc_at xs0 x0 x1 x2 xs2 r x)

theorem keep0_A (hc0 : cond0_0 i) (hc1 : ¬cond0_1 i) :
    sout0_A_0 (F := Ideal) c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3 = fh0 := by
  unfold sout0_A_0
  rw [View.read_writes_eq_canon _ _ _ (scover0_A_0 c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3)]
  unfold kernelRun0_A
  dsimp only
  sl_unfold_words
  exact View.canon_unit_zero rfl _ _

theorem keep1_A (hc0 : cond0_0 i) (hc1 : ¬cond0_1 i) :
    sout0_A_1 (F := Ideal) c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3 = fh1 := by
  unfold sout0_A_1
  rw [View.read_writes_eq_canon _ _ _ (scover0_A_1 c i a3 k3 a4 k4 a5 k5 a7 k7 a11 k11 a12 k12 a13 k13 a14 k14 a15 k15 a16 k16 a17 k17 a19 k19 a20 k20 a21 k21 a22 k22 hc0 hc1 x0 x1 x2 x3 fh0 fh1 fh2 fh3)]
  unfold kernelRun0_A
  dsimp only
  sl_unfold_words
  exact View.canon_unit_zero rfl _ _

end Cert.Ffn2BwdIdeal.Value
end
-- ==== Proof.NormMath.lean ====
module
public import proofs.«01_k».proof.Proof.Reals

/-! The norm before a layer, as plain functions of the whole arrays: `x` the rows, `g` the gain. -/

@[expose] public section
noncomputable section
namespace Cert.FfnMath
open Idealize.ShloMosaic

/-- The width of a row and the small number added under the root, as the programs write them. -/
abbrev width : EReal := Ideal.ofBits .f32 0x44800000#32
abbrev tiny : EReal := Ideal.ofBits .f32 0x358637BD#32

section
variable (x : A2 2048 1024) (g : A2 1 1024)

/-- One over the root of a row's mean square. -/
def rstd (r : Fin 2048) : EReal := Ideal.rsqrt (Ideal.div (∑ y : Fin 1024, x (ix2 r y) * x (ix2 r y)) width + tiny)
/-- A row scaled by it. -/
def xn (r : Fin 2048) (k : Fin 1024) : EReal := x (ix2 r k) * rstd x r
/-- The normed rows. -/
def normed : A2 2048 1024 := fun i => xn x (i 0) (i 1) * g (ix2 0 (i 1))
/-- The gain's gradient, from the gradient `dh` of the normed rows. -/
def dGain (dh : Fin 2048 → Fin 1024 → EReal) (k : Fin 1024) : EReal := ∑ r : Fin 2048, dh r k * xn x r k
end

/-- Four sums over 512 rows each are the sum over all the rows. -/
theorem sum_chunks (F : Fin 2048 → EReal) :
    (∑ r : Fin 512, F ⟨0 + r.val, by omega⟩) + (∑ r : Fin 512, F ⟨512 + r.val, by omega⟩) + (∑ r : Fin 512, F ⟨1024 + r.val, by omega⟩)
      + (∑ r : Fin 512, F ⟨1536 + r.val, by omega⟩) = ∑ r : Fin 2048, F r := by
  have e : ∑ t : Fin 4, ∑ r : Fin 512, F ⟨512 * t.val + r.val, by omega⟩ = ∑ r : Fin 2048, F r := by
    rw [← Fintype.sum_prod_type' (fun (t : Fin 4) (r : Fin 512) => F ⟨512 * t.val + r.val, by omega⟩)]
    refine Fintype.sum_equiv (finProdFinEquiv (m := 4) (n := 512)) _ _ fun p => ?_
    refine congrArg F (Fin.ext ?_)
    show 512 * p.1.val + p.2.val = p.2.val + 512 * p.1.val
    exact Nat.add_comm _ _
  rw [← e, Fin.sum_univ_four]
  rfl

/-- A load of the rectangle that the last store filled reads what it stored. -/
theorem readCov_head {sig : RefSig} {κ : Kind} {sp : Space} {s : Shape} {Val : EltTy → Type} {e : EltTy} [∀ e, Nonempty (Val e)]
    (v : View sig κ sp s e) (r : Rect s) (w : r.shape.Idx → Val e) (L : List (View.Piece Val s e)) :
    v.readCov (⟨r, w⟩ :: L) r.toLoadRect = w := by
  rw [View.readCov_eq_canon']
  funext j
  exact View.canon_cons_emb ..

theorem ofBits_width : width = ((1024 : ℝ) : EReal) := by
  simp [width, Ideal.ofBits, Ideal.ieee, -EReal.coe_mul]; norm_num
theorem tiny_pos : ∃ e : ℝ, 0 < e ∧ tiny = e := by
  refine ⟨8796093 / 8796093022208, by norm_num, ?_⟩
  simp [tiny, Ideal.ofBits, Ideal.ieee, -EReal.coe_mul]; norm_num

end Cert.FfnMath
end
-- ==== Proof.Ffn2Norm.lean ====
module
public import proofs.«01_k».proof.Proof.Ffn2Cases
public import proofs.«01_k».proof.Proof.NormMath

/-! What the last grid point stores as the gain's gradient: it reads the accumulator and the norm's input back in four
blocks of 512 rows. -/

@[expose] public section
noncomputable section
namespace Cert.Ffn2BwdIdeal.Value
open Cert.Ffn2BwdIdeal Cert.Ffn2BwdIdeal.Gen Cert.FfnMath Idealize.ShloMosaic

/-- One block's share of the gain's gradient. -/
def chunkGain (X D : A2 512 1024) (k : Fin 1024) : EReal :=
  ∑ r : Fin 512, D (ix2 r k) * (X (ix2 r k) * Ideal.rsqrt (Ideal.div (∑ y : Fin 1024, X (ix2 r y) * X (ix2 r y)) width + tiny))

theorem tower (X0 X1 X2 X3 D0 D1 D2 D3 : Vec Ideal S512x1024 .f32) (x : Fin 1024) :
    k0_pay27 (k0_pay21 (k0_pay15 (k0_pay9 k0_pay3 X0 D0) X1 D1) (k0_pay17 X2) D2) (k0_pay23 X3) D3 (ix2 0 x)
      = chunkGain X0 D0 x + chunkGain X1 D1 x + chunkGain X2 D2 x + chunkGain X3 D3 x := by
  pointwise [k0_pay27, k0_pay21, k0_pay15, k0_pay9, k0_pay3, k0_pay17, k0_pay23, k0_pay5, k0_pay11, k0_pay4, k0_pay10, k0_pay16, k0_pay22]
  rfl

theorem chunk_at (o : Nat) (ho : o + 512 ≤ 2048) (x : A2 2048 1024) (dh : Fin 2048 → Fin 1024 → EReal) (X D : A2 512 1024)
    (hX : ∀ r k, X (ix2 r k) = x (ix2 ⟨o + r.val, by omega⟩ k)) (hD : ∀ r k, D (ix2 r k) = dh ⟨o + r.val, by omega⟩ k) (k : Fin 1024) :
    chunkGain X D k = ∑ r : Fin 512, dh ⟨o + r.val, by omega⟩ k * xn x ⟨o + r.val, by omega⟩ k := by
  unfold chunkGain xn rstd
  simp only [hX, hD]

section
variable (d : Vec Ideal S2048x1024 .bf16) (g u : Vec Ideal S1x2048x256 .bf16) (w : Vec Ideal S3x256x1024 .bf16)
  (acc : Vec Ideal S2048x1024 .f32)

/-- Row `r` of the block of 512 rows that starts at row `o`. -/
def rowAt (o : Nat) (ho : o + 512 ≤ 2048) (r : Fin 512) : Fin 2048 := ⟨o + r.val, by omega⟩

theorem acc_read {sig : RefSig} {κ : Kind} {sp : Space} (v : View sig κ sp S2048x1024 .f32) (o : Nat) (ho : o + 512 ≤ 2048)
    (inb : ∀ q, (![o, 0] : Fin 2 → Nat) q + (![512, 1024] : Fin 2 → Nat) q ≤ S2048x1024.size q) :
    v.readCov (accPieces d g u w acc) (Rect.unit ![o, 0] ![512, 1024] inb).toLoadRect
      = fun j : (⟨2, ![512, 1024]⟩ : Shape).Idx => acc (ix2 (rowAt o ho (j 0)) (j 1)) + dHStep d g u w (rowAt o ho (j 0)) (j 1) := by
  rw [View.readCov_eq_canon_ld _ _ _ (acc_cover d g u w acc)]
  funext j
  obtain ⟨r, k, rfl⟩ : ∃ (r : Fin 512) (k : Fin 1024), j = ix2 r k := ⟨j 0, j 1, eq_ix2 j⟩
  refine (ld_rows _ _ r k).trans ?_
  exact View.canon_eq_of_allAt _ _ _ (acc_cover d g u w acc _) (acc_at d g u w acc (rowAt o ho r) k)

/-- What a copy of 512 rows of the norm's input brings. -/
theorem copy_read (c : Dev nD) (f : HbBuf0 (F := Ideal) c hbM0_2) (o : Nat) (ho : o + 512 ≤ 2048)
    (inb : ∀ q, (![o, 0] : Fin 2 → Nat) q + (![512, 1024] : Fin 2 → Nat) q ≤ S2048x1024.size q) (r : Fin 512) (k : Fin 1024) :
    (ReadAs.same.apply (View.read (Elt Ideal) ((View.whole main_arg0).slice (Rect.unit ![o, 0] ![512, 1024] inb)) f) : A2 512 1024) (ix2 r k)
      = (f : A2 2048 1024) (ix2 (rowAt o ho r) k) := by
  show View.read (Elt Ideal) ((View.whole main_arg0).slice (Rect.unit ![o, 0] ![512, 1024] inb)) f _ = _
  rw [View.read_apply]
  show f _ = f _
  congr 1
  funext a
  apply Fin.ext
  match a with
  | ⟨0, _⟩ => show o + 1 * r.val = o + r.val; omega
  | ⟨1, _⟩ => show 0 + 1 * k.val = k.val; omega

theorem row_read (w : Vec Ideal S1x1024 .f32) (inb : ∀ q, (![0, 0] : Fin 2 → Nat) q + S1x1024.size q ≤ S1x1024.size q) :
    View.canon [(⟨Rect.unit ![0, 0] S1x1024.size inb, w⟩ : View.Piece (Elt Ideal) S1x1024 .f32)] = w :=
  View.canon_unit_zero (S := S1x1024) (off := ![0, 0]) (funext fun a => by match a with | 0 => rfl | 1 => rfl) inb w
end

variable (c : Dev nD) (i : grid0.Coords)
  (arg3 : Memref sig .tc .vmem S1x2048x256 .bf16) (harg3 : arg3.IsWhole)
  (arg4 : Memref sig .tc .vmem S1x2048x256 .bf16) (harg4 : arg4.IsWhole)
  (arg5 : Memref sig .tc .vmem S3x256x1024 .bf16) (harg5 : arg5.IsWhole)
  (arg7 : Memref sig .tc .vmem S1x1024 .f32) (harg7 : arg7.IsWhole)
  (arg11 : Memref sig .tc .vmem S1x1024 .f32) (harg11 : arg11.IsWhole)
  (arg12 : Memref sig .tc .vmem S3x256x1024 .bf16) (harg12 : arg12.IsWhole)
  (arg13 : Memref sig .tc .vmem S2048x1024 .bf16) (harg13 : arg13.IsWhole)
  (arg14 : Memref sig .tc .vmem S2048x1024 .bf16) (harg14 : arg14.IsWhole)
  (arg15 : Memref sig .tc .vmem S2048x1024 .f32) (harg15 : arg15.IsWhole)
  (arg16 : Memref sig .tc .vmem S2048x512 .bf16) (harg16 : arg16.IsWhole)
  (arg17 : Memref sig .tc .vmem S2048x256 .bf16) (harg17 : arg17.IsWhole)
  (arg19 : Memref sig .tc .vmem S1024x1024 .f32) (harg19 : arg19.IsWhole)
  (arg20 : Memref sig .tc .vmem S1024x1024 .f32) (harg20 : arg20.IsWhole)
  (arg21 : Memref sig .tc .vmem S1024x1024 .f32) (harg21 : arg21.IsWhole)
  (arg22 : Memref sig .tc .vmem S1024x1024 .bf16) (harg22 : arg22.IsWhole)
  (x0 : Vec Ideal S1x2048x256 .bf16) (x1 : Vec Ideal S1x2048x256 .bf16) (x2 : Vec Ideal S3x256x1024 .bf16)
  (x3 : Vec Ideal S1x1024 .f32) (xs0 : Vec Ideal S2048x1024 .bf16) (xs1 : Vec Ideal S2048x1024 .bf16)
  (xs2 : Vec Ideal S2048x1024 .f32) (fh0 : HbBuf0 (F := Ideal) c hbM0_0) (fh1 : HbBuf0 (F := Ideal) c hbM0_1)
  (fh2 : HbBuf0 (F := Ideal) c hbM0_2) (fh3 : HbBuf0 (F := Ideal) c hbM0_3)

theorem dg_C (hc0 : ¬cond0_0 i) (hc1 : cond0_1 i) (hd0 : Disjoint (((Memref.whole main_v31_0).slice (Rect.unit (s := S2048x1024) ![512, 0] S512x1024.size inb_S2048x1024_S512x1024_512_0) (fun _ => rfl))).view.set (((Memref.whole main_v31_0).slice (Rect.unit (s := S2048x1024) ![0, 0] S512x1024.size inb_S2048x1024_S512x1024_0_0) (fun _ => rfl))).view.set) (hd1 : Disjoint (((Memref.whole main_v31_1).slice (Rect.unit (s := S2048x1024) ![512, 0] S512x1024.size inb_S2048x1024_S512x1024_512_0) (fun _ => rfl))).view.set (((Memref.whole main_v31_1).slice (Rect.unit (s := S2048x1024) ![0, 0] S512x1024.size inb_S2048x1024_S512x1024_0_0) (fun _ => rfl))).view.set) (hd2 : Disjoint (((Memref.whole main_v31_0).slice (Rect.unit (s := S2048x1024) ![1024, 0] S512x1024.size inb_S2048x1024_S512x1024_1024_0) (fun _ => rfl))).view.set (((Memref.whole main_v31_0).slice (Rect.unit (s := S2048x1024) ![512, 0] S512x1024.size inb_S2048x1024_S512x1024_512_0) (fun _ => rfl))).view.set) (hd3 : Disjoint (((Memref.whole main_v31_1).slice (Rect.unit (s := S2048x1024) ![1024, 0] S512x1024.size inb_S2048x1024_S512x1024_1024_0) (fun _ => rfl))).view.set (((Memref.whole main_v31_1).slice (Rect.unit (s := S2048x1024) ![512, 0] S512x1024.size inb_S2048x1024_S512x1024_512_0) (fun _ => rfl))).view.set) (hd4 : Disjoint (((Memref.whole main_v31_0).slice (Rect.unit (s := S2048x1024) ![1536, 0] S512x1024.size inb_S2048x1024_S512x1024_1536_0) (fun _ => rfl))).view.set (((Memref.whole main_v31_0).slice (Rect.unit (s := S2048x1024) ![1024, 0] S512x1024.size inb_S2048x1024_S512x1024_1024_0) (fun _ => rfl))).view.set) (hd5 : Disjoint (((Memref.whole main_v31_1).slice (Rect.unit (s := S2048x1024) ![1536, 0] S512x1024.size inb_S2048x1024_S512x1024_1536_0) (fun _ => rfl))).view.set (((Memref.whole main_v31_1).slice (Rect.unit (s := S2048x1024) ![1024, 0] S512x1024.size inb_S2048x1024_S512x1024_1024_0) (fun _ => rfl))).view.set) (k : Fin 1024) :
    out0_C_4 (F := Ideal) c i arg3 harg3 arg4 harg4 arg5 harg5 arg7 harg7 arg11 harg11 arg12 harg12 arg13 harg13 arg14 harg14 arg15 harg15 arg16 harg16 arg17 harg17 arg19 harg19 arg20 harg20 arg21 harg21 arg22 harg22 hc0 hc1 hd0 hd1 hd2 hd3 hd4 hd5 x0 x1 x2 x3 xs0 xs1 xs2 fh0 fh1 fh2 fh3 (ix2 0 k)
      = dGain fh2 (fun r k => xs2 (ix2 r k) + dHStep xs0 x0 x1 x2 r k) k := by
  unfold out0_C_4
  rw [View.read_writes_eq_canon _ _ _ (cover0_C_4 c i arg3 harg3 arg4 harg4 arg5 harg5 arg7 harg7 arg11 harg11 arg12 harg12 arg13 harg13 arg14 harg14 arg15 harg15 arg16 harg16 arg17 harg17 arg19 harg19 arg20 harg20 arg21 harg21 arg22 harg22 hc0 hc1 hd0 hd1 hd2 hd3 hd4 hd5 x0 x1 x2 x3 xs0 xs1 xs2 fh0 fh1 fh2 fh3)]
  unfold kernelRun0_C
  dsimp only
  sl_unfold_words
  simp only [View.readAt_eq_ld, harg3.read_unread, harg4.read_unread, harg5.read_unread, harg13.read_unread,
    harg15.read_unread]
  have h0 := acc_read xs0 x0 x1 x2 xs2 arg15.view 0 (by decide) inb_S2048x1024_S512x1024_0_0
  have h1 := acc_read xs0 x0 x1 x2 xs2 arg15.view 512 (by decide) inb_S2048x1024_S512x1024_512_0
  have h2 := acc_read xs0 x0 x1 x2 xs2 arg15.view 1024 (by decide) inb_S2048x1024_S512x1024_1024_0
  have h3 := acc_read xs0 x0 x1 x2 xs2 arg15.view 1536 (by decide) inb_S2048x1024_S512x1024_1536_0
  unfold accPieces at h0 h1 h2 h3
  rw [row_read, h0, h1, h2, h3]
  simp (disch := decide) only [↓View.readCov_skip, readCov_head]
  refine (tower _ _ _ _ _ _ _ _ k).trans ?_
  unfold dGain
  rw [← sum_chunks]
  refine congr (congrArg HAdd.hAdd (congr (congrArg HAdd.hAdd (congr (congrArg HAdd.hAdd ?_) ?_)) ?_)) ?_
  · exact chunk_at 0 (by decide) fh2 (fun r k => xs2 (ix2 r k) + dHStep xs0 x0 x1 x2 r k) _ _ (copy_read c fh2 0 (by decide) _) (fun r k => rfl) k
  · exact chunk_at 512 (by decide) fh2 (fun r k => xs2 (ix2 r k) + dHStep xs0 x0 x1 x2 r k) _ _ (copy_read c fh2 512 (by decide) _) (fun r k => rfl) k
  · exact chunk_at 1024 (by decide) fh2 (fun r k => xs2 (ix2 r k) + dHStep xs0 x0 x1 x2 r k) _ _ (copy_read c fh2 1024 (by decide) _) (fun r k => rfl) k
  · exact chunk_at 1536 (by decide) fh2 (fun r k => xs2 (ix2 r k) + dHStep xs0 x0 x1 x2 r k) _ _ (copy_read c fh2 1536 (by decide) _) (fun r k => rfl) k

end Cert.Ffn2BwdIdeal.Value
end
-- ==== Proof.Ffn2Run.lean ====
module
public import proofs.«01_k».proof.Proof.Ffn2Norm
public import Idealize.ShloMosaic.Lib.Pipeline.Value

/-! The eleven grid points in order: what the scratch and the outputs hold after each, and so what the run returns. -/

@[expose] public section
noncomputable section
namespace Cert.Ffn2BwdIdeal.Value
open Cert.Ffn2BwdIdeal Cert.Ffn2BwdIdeal.Gen Cert.FfnMath Idealize.ShloMosaic Idealize.ShloMosaic.TcCoe Idealize.SL.Sem

variable (m : (ℓ : Loc nD τ sig) → Buf (Elt Ideal) ℓ) (ρ : Dev nD → PrngReg) (c : Dev nD)

/-- The arrays the call is given: half of the incoming gradient, the input, the saved gate and up columns, the weights. -/
def arrD : A2 2048 1024 := V m c main_v29
def arrH : A2 2048 1024 := V m c main_v30
def arrG : A3 11 2048 256 := V m c main_v22
def arrU : A3 11 2048 256 := V m c main_v26
def arrW : A3 3 2816 1024 := V m c main_v18
/-- The rows the norm was taken of. -/
def arrX : A2 2048 1024 := V m c main_arg0

/-- A grid point as the number of its block. -/
def pt (t : Fin cfg0.N) : Fin 11 := ⟨t.val, lt_of_lt_of_eq t.isLt N_0⟩

theorem index0 (t : Fin cfg0.N) : win0_0.index t 0 = t.val ∧ win0_0.index t 1 = 0 ∧ win0_0.index t 2 = 0 := by
  rcases fin_N0 t with rfl | rfl | rfl | rfl | rfl | rfl | rfl | rfl | rfl | rfl | rfl <;> decide
theorem index1 (t : Fin cfg0.N) : win0_1.index t 0 = t.val ∧ win0_1.index t 1 = 0 ∧ win0_1.index t 2 = 0 := by
  rcases fin_N0 t with rfl | rfl | rfl | rfl | rfl | rfl | rfl | rfl | rfl | rfl | rfl <;> decide
theorem index2 (t : Fin cfg0.N) : win0_2.index t 0 = 0 ∧ win0_2.index t 1 = t.val ∧ win0_2.index t 2 = 0 := by
  rcases fin_N0 t with rfl | rfl | rfl | rfl | rfl | rfl | rfl | rfl | rfl | rfl | rfl <;> decide
theorem index5 (t : Fin cfg0.N) : win0_5.index t 0 = 0 ∧ win0_5.index t 1 = t.val ∧ win0_5.index t 2 = 0 := by
  rcases fin_N0 t with rfl | rfl | rfl | rfl | rfl | rfl | rfl | rfl | rfl | rfl | rfl <;> decide

theorem blk_gate (t : Fin cfg0.N) : (iblk m c 0 t : Vec Ideal S1x2048x256 .bf16) = blkCols (arrG m c) (pt t) := by
  funext j
  unfold iblk
  rw [View.read_apply]
  show V m c main_v22 _ = V m c main_v22 _
  congr 1
  funext a
  apply Fin.ext
  have hi := index0 t
  match a with
  | ⟨0, _⟩ => show win0_0.index t 0 * 1 + 1 * (j 0).val = t.val; rw [hi.1]; have h : (j 0).val < 1 := (j 0).isLt; omega
  | ⟨1, _⟩ => show win0_0.index t 1 * 2048 + 1 * (j 1).val = (j 1).val; rw [hi.2.1]; omega
  | ⟨2, _⟩ => show win0_0.index t 2 * 256 + 1 * (j 2).val = (j 2).val; rw [hi.2.2]; omega

theorem blk_up (t : Fin cfg0.N) : (iblk m c 1 t : Vec Ideal S1x2048x256 .bf16) = blkCols (arrU m c) (pt t) := by
  funext j
  unfold iblk
  rw [View.read_apply]
  show V m c main_v26 _ = V m c main_v26 _
  congr 1
  funext a
  apply Fin.ext
  have hi := index1 t
  match a with
  | ⟨0, _⟩ => show win0_1.index t 0 * 1 + 1 * (j 0).val = t.val; rw [hi.1]; have h : (j 0).val < 1 := (j 0).isLt; omega
  | ⟨1, _⟩ => show win0_1.index t 1 * 2048 + 1 * (j 1).val = (j 1).val; rw [hi.2.1]; omega
  | ⟨2, _⟩ => show win0_1.index t 2 * 256 + 1 * (j 2).val = (j 2).val; rw [hi.2.2]; omega

theorem blk_w (t : Fin cfg0.N) : (iblk m c 2 t : Vec Ideal S3x256x1024 .bf16) = blkRows (arrW m c) (pt t) := by
  funext j
  unfold iblk
  rw [View.read_apply]
  show V m c main_v18 _ = V m c main_v18 _
  congr 1
  funext a
  apply Fin.ext
  have hi := index2 t
  match a with
  | ⟨0, _⟩ => show win0_2.index t 0 * 3 + 1 * (j 0).val = (j 0).val; rw [hi.1]; omega
  | ⟨1, _⟩ => show win0_2.index t 1 * 256 + 1 * (j 1).val = 256 * t.val + (j 1).val; rw [hi.2.1]; omega
  | ⟨2, _⟩ => show win0_2.index t 2 * 1024 + 1 * (j 2).val = (j 2).val; rw [hi.2.2]; omega

/-- What block `t` adds to the input's gradient. -/
def stepAt (t : Fin 11) (r : Fin 2048) (x : Fin 1024) : EReal :=
  dHStep (arrD m c) (blkCols (arrG m c) t) (blkCols (arrU m c) t) (blkRows (arrW m c) t) r x
/-- The weights' gradients of block `t`. -/
def dwAt (t : Fin 11) (p : Fin 3) (k : Fin 256) (x : Fin 1024) : EReal :=
  dWBlk (arrD m c) (arrH m c) (blkCols (arrG m c) t) (blkCols (arrU m c) t) (blkRows (arrW m c) t) p k x
/-- The blocks up to the `n`-th, added. -/
def accTo (n : Nat) (r : Fin 2048) (x : Fin 1024) : EReal :=
  ∑ t ∈ Finset.range (n + 1), if h : t < 11 then stepAt m c ⟨t, h⟩ r x else 0

theorem accTo_succ (n : Nat) (h : n + 1 < 11) (r : Fin 2048) (x : Fin 1024) :
    accTo m c (n + 1) r x = accTo m c n r x + stepAt m c ⟨n + 1, h⟩ r x := by
  unfold accTo
  rw [Finset.sum_range_succ, dif_pos h]

/-- What grid point `n` leaves: the fetched arrays, the accumulator, the weights' gradients of its block. -/
structure Left (n : Nat) (hn : n < cfg0.N) : Prop where
  d : (outsAt0 m c n hn).2.2.1 = arrD m c
  h : (outsAt0 m c n hn).2.2.2.1 = arrH m c
  acc : ∀ r x, (outsAt0 m c n hn).2.2.2.2 (ix2 r x) = accTo m c n r x
  dw : ∀ p k x, (outsAt0 m c n hn).2.1 (ix3 p k x) = dwAt m c (pt ⟨n, hn⟩) p k x
  dg : n = 10 → ∀ x : Fin 1024, (outsAt0 m c n hn).1 (ix2 0 x) = dGain (arrX m c) (accTo m c n) x

theorem dw_ptA (t : Fin cfg0.N) (h0 : t.val % 11 = 0) (h1 : ¬t.val % 11 = 10) (p : Fin 3) (k : Fin 256) (x : Fin 1024) :
    (outsAt0 m c t.val t.isLt).2.1 (ix3 p k x) = dwAt m c (pt t) p k x := by
  rw [outsAt0_A m c t h0 h1]
  dsimp only
  rw [dw_A, blk_gate, blk_up, blk_w]
  rfl

theorem acc_ptA (t : Fin cfg0.N) (h0 : t.val % 11 = 0) (h1 : ¬t.val % 11 = 10) (r : Fin 2048) (x : Fin 1024) :
    (outsAt0 m c t.val t.isLt).2.2.2.2 (ix2 r x) = 0 + stepAt m c (pt t) r x := by
  rw [outsAt0_A m c t h0 h1]
  dsimp only
  rw [acc_A, blk_gate, blk_up, blk_w]
  rfl

theorem dw_ptB (t : Fin cfg0.N) (h0 : ¬t.val % 11 = 0) (h1 : ¬t.val % 11 = 10) (hd : (outsAt0 m c (t.val - 1) (Nat.lt_of_le_of_lt (Nat.sub_le _ _) t.isLt)).2.2.1 = arrD m c)
    (hh : (outsAt0 m c (t.val - 1) (Nat.lt_of_le_of_lt (Nat.sub_le _ _) t.isLt)).2.2.2.1 = arrH m c) (p : Fin 3) (k : Fin 256) (x : Fin 1024) :
    (outsAt0 m c t.val t.isLt).2.1 (ix3 p k x) = dwAt m c (pt t) p k x := by
  rw [outsAt0_B m c t h0 h1]
  dsimp only
  rw [dw_B, blk_gate, blk_up, blk_w, hd, hh]
  rfl

theorem acc_ptB (t : Fin cfg0.N) (h0 : ¬t.val % 11 = 0) (h1 : ¬t.val % 11 = 10) (hd : (outsAt0 m c (t.val - 1) (Nat.lt_of_le_of_lt (Nat.sub_le _ _) t.isLt)).2.2.1 = arrD m c) (r : Fin 2048) (x : Fin 1024) :
    (outsAt0 m c t.val t.isLt).2.2.2.2 (ix2 r x) = (outsAt0 m c (t.val - 1) (Nat.lt_of_le_of_lt (Nat.sub_le _ _) t.isLt)).2.2.2.2 (ix2 r x) + stepAt m c (pt t) r x := by
  rw [outsAt0_B m c t h0 h1]
  dsimp only
  rw [acc_B, blk_gate, blk_up, blk_w, hd]
  rfl

theorem dw_ptC (t : Fin cfg0.N) (h0 : ¬t.val % 11 = 0) (h1 : t.val % 11 = 10) (hd : (outsAt0 m c (t.val - 1) (Nat.lt_of_le_of_lt (Nat.sub_le _ _) t.isLt)).2.2.1 = arrD m c)
    (hh : (outsAt0 m c (t.val - 1) (Nat.lt_of_le_of_lt (Nat.sub_le _ _) t.isLt)).2.2.2.1 = arrH m c) (p : Fin 3) (k : Fin 256) (x : Fin 1024) :
    (outsAt0 m c t.val t.isLt).2.1 (ix3 p k x) = dwAt m c (pt t) p k x := by
  rw [outsAt0_C m c t h0 h1]
  dsimp only
  rw [dw_C, blk_gate, blk_up, blk_w, hd, hh]
  rfl

theorem acc_ptC (t : Fin cfg0.N) (h0 : ¬t.val % 11 = 0) (h1 : t.val % 11 = 10) (hd : (outsAt0 m c (t.val - 1) (Nat.lt_of_le_of_lt (Nat.sub_le _ _) t.isLt)).2.2.1 = arrD m c) (r : Fin 2048) (x : Fin 1024) :
    (outsAt0 m c t.val t.isLt).2.2.2.2 (ix2 r x) = (outsAt0 m c (t.val - 1) (Nat.lt_of_le_of_lt (Nat.sub_le _ _) t.isLt)).2.2.2.2 (ix2 r x) + stepAt m c (pt t) r x := by
  rw [outsAt0_C m c t h0 h1]
  dsimp only
  rw [acc_C, blk_gate, blk_up, blk_w, hd]
  rfl

theorem dg_ptC (t : Fin cfg0.N) (h0 : ¬t.val % 11 = 0) (h1 : t.val % 11 = 10) (hd : (outsAt0 m c (t.val - 1) (Nat.lt_of_le_of_lt (Nat.sub_le _ _) t.isLt)).2.2.1 = arrD m c) (x : Fin 1024) :
    (outsAt0 m c t.val t.isLt).1 (ix2 0 x) = dGain (arrX m c) (fun r x => (outsAt0 m c (t.val - 1) (Nat.lt_of_le_of_lt (Nat.sub_le _ _) t.isLt)).2.2.2.2 (ix2 r x) + stepAt m c (pt t) r x) x := by
  rw [outsAt0_C m c t h0 h1]
  dsimp only
  rw [dg_C, blk_gate, blk_up, blk_w, hd]
  rfl

theorem d_ptA (t : Fin cfg0.N) (h0 : t.val % 11 = 0) (h1 : ¬t.val % 11 = 10) : (outsAt0 m c t.val t.isLt).2.2.1 = arrD m c := by
  rw [outsAt0_A m c t h0 h1]
  dsimp only
  exact keep0_A ..
theorem h_ptA (t : Fin cfg0.N) (h0 : t.val % 11 = 0) (h1 : ¬t.val % 11 = 10) : (outsAt0 m c t.val t.isLt).2.2.2.1 = arrH m c := by
  rw [outsAt0_A m c t h0 h1]
  dsimp only
  exact keep1_A ..

theorem d_ptB (t : Fin cfg0.N) (h0 : ¬t.val % 11 = 0) (h1 : ¬t.val % 11 = 10) : (outsAt0 m c t.val t.isLt).2.2.1
    = (outsAt0 m c (t.val - 1) (Nat.lt_of_le_of_lt (Nat.sub_le _ _) t.isLt)).2.2.1 := by
  rw [outsAt0_B m c t h0 h1]
  dsimp only
  unfold sout0_B_0
  rfl
theorem h_ptB (t : Fin cfg0.N) (h0 : ¬t.val % 11 = 0) (h1 : ¬t.val % 11 = 10) : (outsAt0 m c t.val t.isLt).2.2.2.1
    = (outsAt0 m c (t.val - 1) (Nat.lt_of_le_of_lt (Nat.sub_le _ _) t.isLt)).2.2.2.1 := by
  rw [outsAt0_B m c t h0 h1]
  dsimp only
  unfold sout0_B_1
  rfl
theorem d_ptC (t : Fin cfg0.N) (h0 : ¬t.val % 11 = 0) (h1 : t.val % 11 = 10) : (outsAt0 m c t.val t.isLt).2.2.1
    = (outsAt0 m c (t.val - 1) (Nat.lt_of_le_of_lt (Nat.sub_le _ _) t.isLt)).2.2.1 := by
  rw [outsAt0_C m c t h0 h1]
  dsimp only
  unfold sout0_C_0
  rfl
theorem h_ptC (t : Fin cfg0.N) (h0 : ¬t.val % 11 = 0) (h1 : t.val % 11 = 10) : (outsAt0 m c t.val t.isLt).2.2.2.1
    = (outsAt0 m c (t.val - 1) (Nat.lt_of_le_of_lt (Nat.sub_le _ _) t.isLt)).2.2.2.1 := by
  rw [outsAt0_C m c t h0 h1]
  dsimp only
  unfold sout0_C_1
  rfl

theorem left : ∀ (n : Nat) (hn : n < cfg0.N), Left m c n hn
  | 0, hn => {
      d := d_ptA m c ⟨0, hn⟩ (Nat.zero_mod _) (by show ¬ 0 % 11 = 10; omega)
      h := h_ptA m c ⟨0, hn⟩ (Nat.zero_mod _) (by show ¬ 0 % 11 = 10; omega)
      dw := dw_ptA m c ⟨0, hn⟩ (Nat.zero_mod _) (by show ¬ 0 % 11 = 10; omega)
      acc := fun r x => by
        refine (acc_ptA m c ⟨0, hn⟩ (Nat.zero_mod _) (by show ¬ 0 % 11 = 10; omega) r x).trans ?_
        unfold accTo
        rw [Finset.sum_range_one, dif_pos (by decide), zero_add]
        rfl
      dg := fun h => absurd h (by decide) }
  | n + 1, hn => by
    have hN : n + 1 < 11 := lt_of_lt_of_eq hn N_0
    have ih := left n (Nat.lt_of_succ_lt hn)
    have h0 : ¬ (n + 1) % 11 = 0 := by omega
    have e (r : Fin 2048) (x : Fin 1024) : (outsAt0 m c n (Nat.lt_of_succ_lt hn)).2.2.2.2 (ix2 r x) + stepAt m c (pt ⟨n + 1, hn⟩) r x
        = accTo m c (n + 1) r x := by rw [ih.acc, accTo_succ m c n hN]; rfl
    by_cases h10 : (n + 1) % 11 = 10
    · exact {
        d := (d_ptC m c ⟨n + 1, hn⟩ h0 h10).trans ih.d
        h := (h_ptC m c ⟨n + 1, hn⟩ h0 h10).trans ih.h
        dw := dw_ptC m c ⟨n + 1, hn⟩ h0 h10 ih.d ih.h
        acc := fun r x => (acc_ptC m c ⟨n + 1, hn⟩ h0 h10 ih.d r x).trans (e r x)
        dg := fun _ x => (dg_ptC m c ⟨n + 1, hn⟩ h0 h10 ih.d x).trans (congrArg (fun f => dGain (arrX m c) f x) (funext fun r => funext fun k => e r k)) }
    · exact {
        d := (d_ptB m c ⟨n + 1, hn⟩ h0 h10).trans ih.d
        h := (h_ptB m c ⟨n + 1, hn⟩ h0 h10).trans ih.h
        dw := dw_ptB m c ⟨n + 1, hn⟩ h0 h10 ih.d ih.h
        acc := fun r x => (acc_ptB m c ⟨n + 1, hn⟩ h0 h10 ih.d r x).trans (e r x)
        dg := fun h => absurd h (by omega) }

/-- Two grid points store different blocks of the weights' gradients. -/
theorem apart_dw (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (Fin.ext (by
    have e : win0_5.index t 1 = win0_5.index t' 1 := congrFun h 1
    rwa [(index5 t).2.1, (index5 t').2.1] at e))

/-- A block of the weights' gradients after the run is what its grid point left. -/
theorem written_dw (t : Fin cfg0.N) : ((cfg0.win 5).blk t).view.read (Elt Ideal) ((dats m 0 c).arrAt 5 cfg0.N)
    = (cfg0.win 5).cut (grid0.coords t) (outsAt0 m c t.val t.isLt).2.1 := by
  refine ((dats m 0 c).read_blk_arrAt_eq_flushed 5 apart_dw cfg0.N t t.isLt (flush0_5 t)).trans ?_
  show (cfg0.win 5).cut (grid0.coords t) ((dats m 0 c).after 5 t) = _
  rw [after0_5]

/-- Only one grid point stores the gain's gradient. -/
theorem apart_dg (t t' : Fin cfg0.N) (h : (cfg0.win 4).flush t = true) (h' : (cfg0.win 4).flush t' = true) (hne : t ≠ t') :
    Disjoint ((cfg0.win 4).blk t).view.set ((cfg0.win 4).blk t').view.set := by
  have a := (flush0_4 t).mp h
  have a' := (flush0_4 t').mp h'
  have b : t.val < 11 := lt_of_lt_of_eq t.isLt N_0
  have b' : t'.val < 11 := lt_of_lt_of_eq t'.isLt N_0
  exact absurd (Fin.ext (by omega)) hne

/-- The gain's gradient after the run is what the last grid point left. -/
theorem written_dg (t : Fin cfg0.N) (h : t.val % 11 = 10) : ((cfg0.win 4).blk t).view.read (Elt Ideal) ((dats m 0 c).arrAt 4 cfg0.N)
    = (cfg0.win 4).cut (grid0.coords t) (outsAt0 m c t.val t.isLt).1 := by
  refine ((dats m 0 c).read_blk_arrAt_eq_flushed 4 apart_dg cfg0.N t t.isLt ((flush0_4 t).mpr h)).trans ?_
  show (cfg0.win 4).cut (grid0.coords t) ((dats m 0 c).after 4 t) = _
  rw [after0_4]

/-- The array of the weights' gradients after the run. -/
theorem final_dw (t : Fin 11) (p : Fin 3) (k : Fin 256) (x : Fin 1024) :
    ((dats m 0 c).arrAt 5 cfg0.N : Vec Ideal S3x2816x1024 .bf16) (ix3 p ⟨256 * t.val + k.val, by have := t.isLt; have := k.isLt; omega⟩ x) = dwAt m c t p k x := by
  have hn : t.val < cfg0.N := lt_of_lt_of_eq t.isLt N_0.symm
  have e := congrFun (written_dw m c ⟨t.val, hn⟩) (ix3 p k x)
  rw [View.read_apply] at e
  refine Eq.trans ?_ (e.trans ((left m c t.val hn).dw p k x))
  show (dats m 0 c).arrAt 5 cfg0.N _ = (dats m 0 c).arrAt 5 cfg0.N _
  congr 1
  funext a
  apply Fin.ext
  have hi := index5 ⟨t.val, hn⟩
  have h0 := p.isLt
  match a with
  | ⟨0, _⟩ => show p.val = win0_5.index ⟨t.val, hn⟩ 0 * 3 + 1 * p.val; rw [hi.1]; omega
  | ⟨1, _⟩ => show 256 * t.val + k.val = win0_5.index ⟨t.val, hn⟩ 1 * 256 + 1 * k.val; rw [hi.2.1]; show 256 * t.val + k.val = t.val * 256 + 1 * k.val; omega
  | ⟨2, _⟩ => show x.val = win0_5.index ⟨t.val, hn⟩ 2 * 1024 + 1 * x.val; rw [hi.2.2]; omega

/-- The eleven blocks' contributions to the input's gradient, added. -/
def dhSum (r : Fin 2048) (x : Fin 1024) : EReal := ∑ t : Fin 11, stepAt m c t r x

theorem accTo_last (r : Fin 2048) (x : Fin 1024) : accTo m c 10 r x = dhSum m c r x := by
  unfold accTo dhSum
  rw [Finset.sum_range]
  exact Finset.sum_congr rfl fun t _ => dif_pos t.isLt

theorem index4 (t : Fin cfg0.N) : win0_4.index t 0 = 0 ∧ win0_4.index t 1 = 0 := by
  rcases fin_N0 t with rfl | rfl | rfl | rfl | rfl | rfl | rfl | rfl | rfl | rfl | rfl <;> decide

/-- The gain's gradient after the run: it is written back once, after the last grid point. -/
theorem final_dg (x : Fin 1024) :
    ((dats m 0 c).arrAt 4 cfg0.N : Vec Ideal S1x1024 .f32) (ix2 0 x) = dGain (arrX m c) (dhSum m c) x := by
  have hn : 10 < cfg0.N := lt_of_lt_of_eq (by decide) N_0.symm
  have e := congrFun (written_dg m c ⟨10, hn⟩ rfl) (ix2 0 x)
  rw [View.read_apply] at e
  refine Eq.trans ?_ (e.trans (((left m c 10 hn).dg rfl x).trans
    (congrArg (fun f => dGain (arrX m c) f x) (funext fun r => funext fun k => accTo_last m c r k))))
  show (dats m 0 c).arrAt 4 cfg0.N _ = (dats m 0 c).arrAt 4 cfg0.N _
  congr 1
  funext a
  apply Fin.ext
  have hi := index4 ⟨10, hn⟩
  match a with
  | ⟨0, _⟩ => show 0 = win0_4.index ⟨10, hn⟩ 0 * 1 + 1 * 0; rw [hi.1]
  | ⟨1, _⟩ => show x.val = win0_4.index ⟨10, hn⟩ 1 * 1024 + 1 * x.val; rw [hi.2]; omega

/-- What a run leaves in the two arrays, and the arguments unchanged. -/
theorem results : θ_run defs (onTc (τ := τ) (main (F := Ideal))) ⟨m, fun _ => 0, ρ⟩ fun r => ∀ c : Dev nD,
      r.2.mem ((c : Thread nD τ).loc main_v31_2) = (dats m 0 c).arrAt 4 cfg0.N
      ∧ r.2.mem ((c : Thread nD τ).loc main_v31_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  exact ⟨(h c).1 4, (h c).1 5,
    ((h c).2 main_arg0 (Finset.mem_sdiff.mpr ⟨Pipeline.mem_restRefs_of main_arg0 (by decide) (by decide), by decide⟩)).trans (V_main_arg0 m c),
    ((h c).1 3).trans (((dats m 0 c).arrAt_in 3 rfl _).trans ((A_eq m c 3).trans (V_main_arg1 m c))),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c)⟩

end Cert.Ffn2BwdIdeal.Value
end
-- ==== Proof.Ffn2Host.lean ====
module
public import proofs.«01_k».proof.Proof.Ffn2Run
public import proofs.«01_k».proof.Proof.FfnWhole

@[expose] public section
noncomputable section
namespace Cert.Ffn2BwdIdeal.Value
open Cert.Ffn2BwdIdeal Cert.Ffn2BwdIdeal.Gen Cert.FfnMath Idealize.ShloMosaic Idealize.ShloMosaic.TcCoe Idealize.SL.Sem

variable (m : (ℓ : Loc nD τ sig) → Buf (Elt Ideal) ℓ) (c : Dev nD)

/-- One half, as the program writes it. -/
abbrev half : EReal := Ideal.ofBits .f32 0x3F000000#32

/-- The program's arguments: the rows, the norm's gain, the three weights, the incoming gradient. -/
def inX : A2 2048 1024 := m ((c : Thread nD τ).loc main_arg0)
def inN : A2 1 1024 := m ((c : Thread nD τ).loc main_arg1)
def inG : A2 1024 2816 := m ((c : Thread nD τ).loc main_arg2)
def inU : A2 1024 2816 := m ((c : Thread nD τ).loc main_arg3)
def inD : A2 2816 1024 := m ((c : Thread nD τ).loc main_arg4)
def inC : A2 2048 1024 := m ((c : Thread nD τ).loc main_arg5)
/-- The layer's input: the normed rows. -/
abbrev inH : A2 2048 1024 := normed (inX m c) (inN m c)

theorem arrX_eq : arrX m c = inX m c := by
  unfold arrX V
  after_results_simp
  rfl
theorem arrD_at (r : Fin 2048) (x : Fin 1024) : arrD m c (ix2 r x) = half * inC m c (ix2 r x) := by
  unfold arrD V
  after_results_simp
  pointwise
  rfl
theorem arrH_at (r : Fin 2048) (x : Fin 1024) : arrH m c (ix2 r x) = inH m c (ix2 r x) := by
  unfold arrH V
  after_results_simp
  pointwise
  rfl
theorem arrH_eq : arrH m c = inH m c := by
  funext i
  obtain ⟨r, x, rfl⟩ := exists_ix2 i
  exact arrH_at m c r x
theorem arrG_at (p : Fin 11) (r : Fin 2048) (x : Fin 256) : arrG m c (ix3 p r x) = proj (inH m c) (inG m c) r (colOf p x) := by
  unfold arrG V
  after_results_simp
  pointwise
  exact Finset.sum_congr rfl fun y _ => congrArg (fun q : Fin 2816 => inH m c (ix2 r y) * inG m c (ix2 y q))
    (Fin.ext (congrArg (· + x.val) (Nat.mul_comm p.val 256)))
theorem arrU_at (p : Fin 11) (r : Fin 2048) (x : Fin 256) : arrU m c (ix3 p r x) = proj (inH m c) (inU m c) r (colOf p x) := by
  unfold arrU V
  after_results_simp
  pointwise
  exact Finset.sum_congr rfl fun y _ => congrArg (fun q : Fin 2816 => inH m c (ix2 r y) * inU m c (ix2 y q))
    (Fin.ext (congrArg (· + x.val) (Nat.mul_comm p.val 256)))
theorem arrW_at0 (r : Fin 2816) (x : Fin 1024) : arrW m c (ix3 0 r x) = inG m c (ix2 x r) := by
  unfold arrW V
  after_results_simp
  pointwise
  after_results_simp
  pointwise
  rfl
theorem arrW_at1 (r : Fin 2816) (x : Fin 1024) : arrW m c (ix3 1 r x) = inU m c (ix2 x r) := by
  unfold arrW V
  after_results_simp
  pointwise
  after_results_simp
  pointwise
  rfl
theorem arrW_at2 (r : Fin 2816) (x : Fin 1024) : arrW m c (ix3 2 r x) = inD m c (ix2 r x) := by
  unfold arrW V
  after_results_simp
  pointwise
  after_results_simp
  pointwise
  rfl
end Cert.Ffn2BwdIdeal.Value
end
-- ==== Proof.Ffn2Ref.lean ====
module
public import proofs.«01_k».proof.Proof.FfnWhole
public import proofs.«01_k».proof.Proof.NormMath
public import proofs.«01_k».proof.Proof.Gen.Ffn2BwdRefIdeal.Read

/-! What the second feed-forward's reference computes, read at an index, in the words of the whole arrays' functions. -/

@[expose] public section
noncomputable section
namespace Cert.Ffn2BwdRefIdeal.Read
open Cert.Ffn2BwdRefIdeal Cert.FfnMath Idealize.ShloMosaic Idealize.ShloMosaic.TcCoe Idealize.SL.Sem

variable (x : A2 2048 1024) (gn : A2 1 1024) (wg wu : A2 1024 2816) (wd : A2 2816 1024) (ct d : A2 2048 1024)

theorem rstd_at (r : Fin 2048) : val_main_v7 (F := Ideal) x (ix2 r 0) = rstd x r := by
  pointwise [val_main_v7, val_main_v6, val_main_v5, val_main_cst_1, val_main_v4, val_main_v3, val_main_cst_0, val_main_v2, val_main_v1, val_main_cst, val_main_v0]
  rfl

theorem xn_at (r : Fin 2048) (k : Fin 1024) : val_main_v12 (F := Ideal) x (ix2 r k) = xn x r k := by
  pointwise [val_main_v12, val_main_v11]
  exact congrArg (x (ix2 r k) * ·) (rstd_at x r)

theorem h_eq : val_main_v14 (F := Ideal) x gn = normed x gn := by
  funext i
  obtain ⟨r, k, rfl⟩ := exists_ix2 i
  pointwise [val_main_v14, val_main_v13]
  rw [xn_at]
  rfl

theorem g_at (r : Fin 2048) (f : Fin 2816) : val_main_v15 (F := Ideal) x gn wg (ix2 r f) = proj (normed x gn) wg r f := by
  rw [← h_eq]
  pointwise [val_main_v15]
  rfl

theorem u_at (r : Fin 2048) (f : Fin 2816) : val_main_v17 (F := Ideal) x gn wu (ix2 r f) = proj (normed x gn) wu r f := by
  rw [← h_eq]
  pointwise [val_main_v17]
  rfl

theorem s_at (r : Fin 2048) (f : Fin 2816) : val_main_v16_2 (F := Ideal) x gn wg (ix2 r f) = sg (proj (normed x gn) wg r f) := by
  pointwise [val_main_v16_2, val_main_call0_v4, val_main_call0_v3, val_main_call0_v2, val_main_call0_v1, val_main_call0_v0, val_main_call0_cst, val_main_call0_cst_0]
  rw [g_at]
  unfold sg
  rw [zero_sub]

section
variable (hd : ∀ r x, d (ix2 r x) = Ideal.ofBits .f32 0x3F000000#32 * ct (ix2 r x))

theorem ct_at (r : Fin 2048) (k : Fin 1024) : val_main_v23 (F := Ideal) ct (ix2 r k) = ct (ix2 r k) := by
  pointwise [val_main_v23]

include hd in
theorem d_at (r : Fin 2048) (k : Fin 1024) : val_main_v25 (F := Ideal) ct (ix2 r k) = d (ix2 r k) := by
  pointwise [val_main_v25, val_main_v24, val_main_cst_4]
  rw [ct_at]
  exact (hd r k).symm

include hd in
theorem a_at (r : Fin 2048) (f : Fin 2816) : val_main_v28 (F := Ideal) wd ct (ix2 r f) = wAct d wd r f := by
  pointwise [val_main_v28]
  exact Finset.sum_congr rfl fun x _ => congrArg (· * wd (ix2 f x)) (d_at ct d hd r x)

theorem s1_at (r : Fin 2048) (f : Fin 2816) :
    val_main_v16_1 (F := Ideal) x gn wg (ix2 r f) = sg (proj (normed x gn) wg r f) * (1 - sg (proj (normed x gn) wg r f)) := by
  pointwise [val_main_v16_1, val_main_call0_v7, val_main_call0_v6, val_main_call0_cst_1]
  rw [s_at]

include hd in
/-- The gate's gradient, where the activation's gradient and the up column are real. -/
theorem dg_at (r : Fin 2048) (f : Fin 2816) (a u : ℝ) (ha : wAct d wd r f = a) (hu : proj (normed x gn) wu r f = u) :
    val_main_v34 (F := Ideal) x gn wg wu wd ct (ix2 r f) = wG d (normed x gn) wg wu wd r f := by
  pointwise [val_main_v34, val_main_call1_v0, val_main_call1_v1, val_main_call1_v2, val_main_v30]
  rw [a_at wd ct d hd, u_at, g_at, s_at, s1_at]
  unfold wG
  rw [ha, hu, gate_two_ways]

variable (fin : ∀ r f, (∃ a : ℝ, wAct d wd r f = a) ∧ ∃ u : ℝ, proj (normed x gn) wu r f = u)

include hd fin in
theorem dg_whole (r : Fin 2048) (f : Fin 2816) :
    val_main_v34 (F := Ideal) x gn wg wu wd ct (ix2 r f) = wG d (normed x gn) wg wu wd r f := by
  obtain ⟨⟨a, ha⟩, u, hu⟩ := fin r f
  exact dg_at x gn wg wu wd ct d hd r f a u ha hu

include hd in
theorem du_whole (r : Fin 2048) (f : Fin 2816) :
    val_main_v29 (F := Ideal) x gn wg wd ct (ix2 r f) = wU d (normed x gn) wg wd r f := by
  pointwise [val_main_v29, val_main_v16_0]
  rw [a_at wd ct d hd, g_at, s_at]
  exact mul_comm _ _

include hd fin in
/-- The reference's stacked gradients of the weights. -/
theorem dw_whole (p : Fin 3) (f : Fin 2816) (k : Fin 1024) :
    val_main_v65 (F := Ideal) x gn wg wu wd ct (ix3 p f k) = wDW d (normed x gn) wg wu wd p f k := by
  match p with
  | 0 =>
    pointwise [val_main_v65, val_main_v64, val_main_v61, val_main_v62, val_main_v63, val_main_v59, val_main_v36, val_main_v35]
    exact Finset.sum_congr rfl fun r _ => congr (congrArg HMul.hMul (dg_whole x gn wg wu wd ct d hd fin r f)) (congrFun (h_eq x gn) _)
  | 1 =>
    pointwise [val_main_v65, val_main_v64, val_main_v61, val_main_v62, val_main_v63, val_main_v60, val_main_v32, val_main_v31]
    exact Finset.sum_congr rfl fun r _ => congr (congrArg HMul.hMul (du_whole x gn wg wd ct d hd r f)) (congrFun (h_eq x gn) _)
  | 2 =>
    pointwise [val_main_v65, val_main_v64, val_main_v61, val_main_v62, val_main_v63, val_main_v27, val_main_v26, val_main_v18, val_main_v16_0]
    refine Finset.sum_congr rfl fun r _ => ?_
    rw [d_at ct d hd, g_at, s_at, u_at]
    exact mul_comm _ _

include hd fin in
/-- The reference's gradient of the normed rows. -/
theorem dh_whole (r : Fin 2048) (k : Fin 1024) :
    val_main_v38 (F := Ideal) x gn wg wu wd ct (ix2 r k) = wDH d (normed x gn) wg wu wd r k := by
  pointwise [val_main_v38, val_main_v33, val_main_v37]
  refine (add_comm _ _).trans (congr (congrArg HAdd.hAdd ?_) ?_)
  · exact Finset.sum_congr rfl fun f _ => congrArg (· * wg (ix2 k f)) (dg_whole x gn wg wu wd ct d hd fin r f)
  · exact Finset.sum_congr rfl fun f _ => congrArg (· * wu (ix2 k f)) (du_whole x gn wg wd ct d hd r f)

include hd fin in
/-- The reference's gradient of the gain. -/
theorem dgain_whole (k : Fin 1024) :
    val_main_v41 (F := Ideal) x gn wg wu wd ct (ix2 0 k) = dGain x (wDH d (normed x gn) wg wu wd) k := by
  pointwise [val_main_v41, val_main_v40, val_main_cst_5, val_main_v39]
  refine Finset.sum_congr rfl fun r _ => ?_
  rw [xn_at, dh_whole x gn wg wu wd ct d hd fin]
  exact mul_comm _ _
end
end Cert.Ffn2BwdRefIdeal.Read
end
-- ==== Proof.Ffn2Value.lean ====
module
public import proofs.«01_k».proof.Defs
public import proofs.«01_k».proof.Proof.Reals
public import proofs.«01_k».proof.Proof.Ffn2Host
public import proofs.«01_k».proof.Proof.Ffn2Ref
public import proofs.«01_k».proof.Proof.Gen.Pre_finite_ffn2
public import proofs.«01_k».proof.Proof.Gen.Ffn2BwdRefIdeal.Run

/-! The second feed-forward's gradients: the kernel's and the reference's are the same functions of the arguments. -/

@[expose] public section
noncomputable section
namespace Cert.Ffn2Value
open Cert.FfnMath Idealize.ShloMosaic Idealize.ShloMosaic.TcCoe Idealize.SL.Sem

section Kernel
open Cert.Ffn2BwdIdeal Cert.Ffn2BwdIdeal.Gen Cert.Ffn2BwdIdeal.Value
variable (m : (ℓ : Loc nD τ sig) → Buf (Elt Ideal) ℓ) (c : Dev nD)

/-- The kernel's gradient of the gain. -/
theorem kernel_dg :
    ((dats m 0 c).arrAt 4 cfg0.N : A2 1 1024)
      = fun i => dGain (inX m c) (wDH (arrD m c) (inH m c) (inG m c) (inU m c) (inD m c)) (i 1) := by
  funext i
  obtain ⟨r, x, rfl⟩ := exists_ix2 i
  obtain rfl : r = 0 := Subsingleton.elim _ _
  refine (final_dg m c x).trans ?_
  rw [arrX_eq]
  refine congrArg (fun f => dGain (inX m c) f x) (funext fun r => funext fun k => ?_)
  exact dH_whole (d := arrD m c) (arrG_at m c) (arrU_at m c) (arrW_at0 m c) (arrW_at1 m c) (arrW_at2 m c) r k

/-- The kernel's gradients of the weights. -/
theorem kernel_dw :
    ((dats m 0 c).arrAt 5 cfg0.N : A3 3 2816 1024)
      = fun i => wDW (arrD m c) (inH m c) (inG m c) (inU m c) (inD m c) (i 0) (i 1) (i 2) := by
  funext i
  obtain ⟨p, f, x, rfl⟩ := exists_ix3 i
  obtain ⟨t, k, rfl⟩ := colOf_surj f
  refine (final_dw m c t p k x).trans ?_
  unfold dwAt
  rw [arrH_eq]
  exact dW_whole (d := arrD m c) (arrG_at m c) (arrU_at m c) (arrW_at2 m c) t p k x

/-- Real rows have a real norm. -/
theorem isR_rstd {x : A2 2048 1024} (h : ∀ i, IsR (x i)) (r : Fin 2048) : IsR (rstd x r) := by
  choose y hy using h
  obtain ⟨e, he, ht⟩ := tiny_pos
  unfold rstd
  obtain ⟨S, h0, hs⟩ : ∃ S : ℝ, 0 ≤ S ∧ ∑ k : Fin 1024, x (ix2 r k) * x (ix2 r k) = S :=
    Finset.sum_induction _ (fun z : EReal => ∃ S : ℝ, 0 ≤ S ∧ z = S)
      (fun _ _ ⟨a, ha, ea⟩ ⟨b, hb, eb⟩ => ⟨a + b, add_nonneg ha hb, by rw [ea, eb, EReal.coe_add]⟩)
      ⟨0, le_rfl, EReal.coe_zero.symm⟩ fun k _ => ⟨y (ix2 r k) * y (ix2 r k), mul_self_nonneg _, by rw [hy, EReal.coe_mul]⟩
  rw [hs, ofBits_width, ht]
  unfold Ideal.div
  rw [if_neg (by exact_mod_cast (by norm_num : (1024 : ℝ) ≠ 0)), ← EReal.coe_inv, ← EReal.coe_mul, ← EReal.coe_add]
  have hp : 0 < S * (1024 : ℝ)⁻¹ + e := by positivity
  generalize S * (1024 : ℝ)⁻¹ + e = T at hp
  refine ⟨(Real.sqrt T)⁻¹, ?_⟩
  show (if T < 0 then (⊥ : EReal) else if T = 0 then ⊤ else ((Real.sqrt T)⁻¹ : ℝ)) = _
  rw [if_neg hp.le.not_gt, if_neg hp.ne']

/-- Real rows and a real gain make real normed rows. -/
theorem isR_normed {x : A2 2048 1024} {g : A2 1 1024} (h : ∀ i, IsR (x i)) (hg : ∀ i, IsR (g i)) (i) : IsR (normed x g i) :=
  ((h _).mul (isR_rstd h _)).mul (hg _)

/-- The precondition makes the activation's gradient and the up columns real. -/
theorem reals (hp : Cert.Pre_Ffn2BwdIdeal_finite_ffn2 m) (r : Fin 2048) (f : Fin 2816) :
    (∃ a : ℝ, wAct (arrD m c) (inD m c) r f = a) ∧ ∃ u : ℝ, proj (inH m c) (inU m c) r f = u := by
  obtain ⟨h0, h1, h2, h3, h4⟩ := hp c
  have f0 : ∀ i, IsR (inX m c i) := isR_of_fin _ _ (fun _ => rfl) h0
  have f1 : ∀ i, IsR (inN m c i) := isR_of_fin _ _ (fun _ => rfl) h1
  have f2 : ∀ i, IsR (inU m c i) := isR_of_fin _ _ (fun _ => rfl) h2
  have f3 : ∀ i, IsR (inD m c i) := isR_of_fin _ _ (fun _ => rfl) h3
  have f4 : ∀ i, IsR (inC m c i) := isR_of_fin _ _ (fun _ => rfl) h4
  refine ⟨isR_wAct (fun i => ?_) f3 r f, isR_proj (isR_normed f0 f1) f2 r f⟩
  obtain ⟨a, b, rfl⟩ := exists_ix2 i
  rw [arrD_at]
  exact isR_half.mul (f4 _)
end Kernel

/-- The reference terminates, leaves its arguments alone, and declares no semaphore. -/
theorem frame_ref : Cert.quiescent_Ffn2BwdRefIdeal := fun m ρ _ =>
  (θ_run Cert.Ffn2BwdRefIdeal.defs _ _).mono (fun r h => ⟨fun c => (h c).2.2, sem_eq_zero_of_no_sems (by decide) r.2⟩)
    (Cert.Ffn2BwdRefIdeal.Value.run (F := Ideal) m ρ)

theorem algebraic : Cert.algebraic_Ffn2BwdIdeal_Ffn2BwdRefIdeal_pre_finite_ffn2 := by
  intro m g m' g' hp hm
  refine ⟨fun c i => dGain (Cert.Ffn2BwdIdeal.Value.inX m c) (wDH (Cert.Ffn2BwdIdeal.Value.arrD m c) (Cert.Ffn2BwdIdeal.Value.inH m c) (Cert.Ffn2BwdIdeal.Value.inG m c) (Cert.Ffn2BwdIdeal.Value.inU m c) (Cert.Ffn2BwdIdeal.Value.inD m c)) (i 1),
    fun c i => wDW (Cert.Ffn2BwdIdeal.Value.arrD m c) (Cert.Ffn2BwdIdeal.Value.inH m c) (Cert.Ffn2BwdIdeal.Value.inG m c) (Cert.Ffn2BwdIdeal.Value.inU m c) (Cert.Ffn2BwdIdeal.Value.inD m c) (i 0) (i 1) (i 2),
    (θ_run _ _ _).mono (fun r h c => ?_) (Cert.Ffn2BwdIdeal.Value.results m g),
    (θ_run _ _ _).mono (fun r h c => ?_) (Cert.Ffn2BwdRefIdeal.Value.run m' g')⟩
  · obtain ⟨e0, e1, a⟩ := h c
    exact ⟨e0.trans (kernel_dg m c), e1.trans (kernel_dw m c), a⟩
  · obtain ⟨e0, e1, a⟩ := h c
    obtain ⟨h0, h1, h2, h3, h4, h5⟩ := hm c
    refine ⟨e0.trans ?_, e1.trans ?_, a⟩
    · refine (Cert.Ffn2BwdRefIdeal.Read.val_main_v41_eq m' c).trans ?_
      rw [h0, h1, h2, h3, h4, h5]
      funext i
      obtain ⟨r, x, rfl⟩ := exists_ix2 i
      obtain rfl : r = 0 := Subsingleton.elim _ _
      exact Cert.Ffn2BwdRefIdeal.Read.dgain_whole _ _ _ _ _ _ _ (Cert.Ffn2BwdIdeal.Value.arrD_at m c) (reals m c hp) x
    · refine (Cert.Ffn2BwdRefIdeal.Read.val_main_v65_eq m' c).trans ?_
      rw [h0, h1, h2, h3, h4, h5]
      funext i
      obtain ⟨p, f, x, rfl⟩ := exists_ix3 i
      exact Cert.Ffn2BwdRefIdeal.Read.dw_whole _ _ _ _ _ _ _ (Cert.Ffn2BwdIdeal.Value.arrD_at m c) (reals m c hp) p f x

end Cert.Ffn2Value
end
-- ==== Proof.Ffn1FwdIdealRuns.lean ====
/- The forward feed-forward call `ffn1_fwd`: the program up to the grid, the conditions of the body and where its windows are idle. -/
module

public import proofs.«01_k».proof.Proof.Gen.Ffn1FwdIdeal.Launch
public import proofs.«01_k».proof.Proof.Gen.Ffn1FwdIdeal.Skeleton
public import proofs.«01_k».proof.Proof.Gen.Ffn1FwdIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Ffn1FwdIdeal.Body

open Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What core `c`'s buffers hold when the grid is entered: the arrays after the host operations that come before the call. -/
abbrev V (c : Dev nD) (b : Ref sig .tc) : Buf (Elt F) ((c : Thread nD τ).loc b) := StableHlo.after hostOps0 (fun b => m (c, b)) b

/-- The host operations before the call make no fresh buffers. -/
theorem hostOps0_fresh : (hostOps0 : List (HloOp τ sig (Elt F))).Forall fun op => op.fresh = ∅ := by
  simp only [List.Forall]; repeat' constructor

set_option maxHeartbeats 800000 in
/-- The program up to the call: the host operations, then the grid. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations do not write this argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of this input window holds its block at every point, fetched there or kept from before. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of this input window holds its block at every point, fetched there or kept from before. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of this input window holds its block at every point, fetched there or kept from before. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A run that leaves the arrays as the grid leaves them has left the argument arrays as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c)))⟩) h

/-- The condition of one of the body's conditionals, at a grid point. -/
abbrev cond0_0 (i : grid0.Coords) : Prop := k0_cond1 i = 1#1
/-- At which grid points that condition holds. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-- The condition of one of the body's conditionals, at a grid point. -/
abbrev cond0_1 (i : grid0.Coords) : Prop := k0_cond2 i = 1#1
/-- At which grid points that condition holds. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of one of the body's conditionals, at a grid point. -/
abbrev cond0_2 (i : grid0.Coords) : Prop := k0_cond3 i = 1#1
/-- At which grid points that condition holds. -/
theorem hcond0_2 : ∀ t : Fin cfg0.N, cond0_2 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_2, k0_cond3, e0]
    word_cmp
   : ∀ t : Fin grid0.N, cond0_2 (grid0.coords t) ↔ t.val % 11 = 10)

/-- This window is stored into, or read, at these points. -/
theorem liveAt0_0 : ∀ t : Fin cfg0.N, cfg0.idle 0 (grid0.coords t) = false := fun _ => rfl
/-- This window is stored into, or read, at these points. -/
theorem liveAt0_1 : ∀ t : Fin cfg0.N, cfg0.idle 1 (grid0.coords t) = false := fun _ => rfl
/-- This window is stored into, or read, at these points. -/
theorem liveAt0_2 : ∀ t : Fin cfg0.N, cfg0.idle 2 (grid0.coords t) = false := fun _ => rfl
/-- Whether this output's buffer holds nothing that the body has stored yet, position by position. -/
def freshTab0_3 : ℕ → Bool
  | 0 => true
  | n + 1 => (0x400 : ℕ).testBit n
/-- The table goes from point to point as write-backs and idle points say. -/
theorem freshTab0_3_step : ∀ t : Fin cfg0.N,
    freshTab0_3 (t.val + 1) = ((cfg0.win 3).flush t || (cfg0.idle 3 (cfg0.grid.coords t) && freshTab0_3 t.val)) := by decide +kernel
/-- The table says when the buffer holds nothing stored. -/
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- This window is stored into, or read, at these points. -/
theorem liveAt0_3_A : ∀ t : Fin cfg0.N, cond0_0 (grid0.coords t) → ¬cond0_1 (grid0.coords t) → ¬cond0_2 (grid0.coords t) → cfg0.idle 3 (grid0.coords t) = false := by decide +kernel
/-- This window is stored into, or read, at these points. -/
theorem liveAt0_3_B : ∀ t : Fin cfg0.N, ¬cond0_0 (grid0.coords t) → cond0_1 (grid0.coords t) → ¬cond0_2 (grid0.coords t) → cfg0.idle 3 (grid0.coords t) = false := by decide +kernel
/-- At these points the buffer holds what an earlier point stored. -/
theorem notFresh0_3_B : ∀ t : Fin cfg0.N, ¬cond0_0 (grid0.coords t) → cond0_1 (grid0.coords t) → ¬cond0_2 (grid0.coords t) → cfg0.fresh 3 t.val = false := by
  intro t; rw [fresh0_3_eq t]; revert t; decide +kernel
/-- This window is stored into, or read, at these points. -/
theorem liveAt0_3_C : ∀ t : Fin cfg0.N, ¬cond0_0 (grid0.coords t) → cond0_1 (grid0.coords t) → cond0_2 (grid0.coords t) → cfg0.idle 3 (grid0.coords t) = false := by decide +kernel
/-- At these points the buffer holds what an earlier point stored. -/
theorem notFresh0_3_C : ∀ t : Fin cfg0.N, ¬cond0_0 (grid0.coords t) → cond0_1 (grid0.coords t) → cond0_2 (grid0.coords t) → cfg0.fresh 3 t.val = false := by
  intro t; rw [fresh0_3_eq t]; revert t; decide +kernel
/-- This window is stored into, or read, at these points. -/
theorem liveAt0_4_A : ∀ t : Fin cfg0.N, cond0_0 (grid0.coords t) → ¬cond0_1 (grid0.coords t) → ¬cond0_2 (grid0.coords t) → cfg0.idle 4 (grid0.coords t) = false := by decide +kernel
/-- This window is stored into, or read, at these points. -/
theorem liveAt0_4_B : ∀ t : Fin cfg0.N, ¬cond0_0 (grid0.coords t) → cond0_1 (grid0.coords t) → ¬cond0_2 (grid0.coords t) → cfg0.idle 4 (grid0.coords t) = false := by decide +kernel
/-- This window is stored into, or read, at these points. -/
theorem liveAt0_4_C : ∀ t : Fin cfg0.N, ¬cond0_0 (grid0.coords t) → cond0_1 (grid0.coords t) → cond0_2 (grid0.coords t) → cfg0.idle 4 (grid0.coords t) = false := by decide +kernel
/-- This window is stored into, or read, at these points. -/
theorem liveAt0_5_A : ∀ t : Fin cfg0.N, cond0_0 (grid0.coords t) → ¬cond0_1 (grid0.coords t) → ¬cond0_2 (grid0.coords t) → cfg0.idle 5 (grid0.coords t) = false := by decide +kernel
/-- This window is stored into, or read, at these points. -/
theorem liveAt0_5_B : ∀ t : Fin cfg0.N, ¬cond0_0 (grid0.coords t) → cond0_1 (grid0.coords t) → ¬cond0_2 (grid0.coords t) → cfg0.idle 5 (grid0.coords t) = false := by decide +kernel
/-- This window is stored into, or read, at these points. -/
theorem liveAt0_5_C : ∀ t : Fin cfg0.N, ¬cond0_0 (grid0.coords t) → cond0_1 (grid0.coords t) → cond0_2 (grid0.coords t) → cfg0.idle 5 (grid0.coords t) = false := by decide +kernel
/-- This output is left alone at these points. -/
theorem idleAt0_6_A : ∀ t : Fin cfg0.N, cond0_0 (grid0.coords t) → ¬cond0_1 (grid0.coords t) → ¬cond0_2 (grid0.coords t) → cfg0.idle 6 (grid0.coords t) = true := by decide +kernel
/-- This output is not written back at these points. -/
theorem noFlush0_6_A : ∀ t : Fin cfg0.N, cond0_0 (grid0.coords t) → ¬cond0_1 (grid0.coords t) → ¬cond0_2 (grid0.coords t) → (cfg0.win 6).flush t = false := by decide +kernel
/-- This output is left alone at these points. -/
theorem idleAt0_6_B : ∀ t : Fin cfg0.N, ¬cond0_0 (grid0.coords t) → cond0_1 (grid0.coords t) → ¬cond0_2 (grid0.coords t) → cfg0.idle 6 (grid0.coords t) = true := by decide +kernel
/-- This output is not written back at these points. -/
theorem noFlush0_6_B : ∀ t : Fin cfg0.N, ¬cond0_0 (grid0.coords t) → cond0_1 (grid0.coords t) → ¬cond0_2 (grid0.coords t) → (cfg0.win 6).flush t = false := by decide +kernel
/-- This window is stored into, or read, at these points. -/
theorem liveAt0_6_C : ∀ t : Fin cfg0.N, ¬cond0_0 (grid0.coords t) → cond0_1 (grid0.coords t) → cond0_2 (grid0.coords t) → cfg0.idle 6 (grid0.coords t) = false := by decide +kernel

/-- One buffer of this output window, through which its contents are stated. -/
abbrev VO0_3 : View sig .tc .vmem S2048x1024 .f32 := (Memref.whole cc0_stg3_0 : Memref sig .tc .vmem S2048x1024 .f32).view
/-- One buffer of this output window, through which its contents are stated. -/
abbrev VO0_4 : View sig .tc .vmem S1x2048x256 .bf16 := (Memref.whole cc0_stg4_0 : Memref sig .tc .vmem S1x2048x256 .bf16).view
/-- One buffer of this output window, through which its contents are stated. -/
abbrev VO0_5 : View sig .tc .vmem S1x2048x256 .bf16 := (Memref.whole cc0_stg5_0 : Memref sig .tc .vmem S1x2048x256 .bf16).view
/-- One buffer of this output window, through which its contents are stated. -/
abbrev VO0_6 : View sig .tc .vmem S2048x1024 .bf16 := (Memref.whole cc0_stg6_0 : Memref sig .tc .vmem S2048x1024 .bf16).view
/-- The buffer that this window uses at a point. -/
abbrev ms0_0 (t : Fin cfg0.N) : Memref sig .tc .vmem S2048x1024 .bf16 := win0_0.stage (cfg0.slots t 0)
/-- It is a whole buffer. -/
abbrev hs0_0 (t : Fin cfg0.N) : (ms0_0 t).IsWhole := hstage0_0 ((cfg0.slots t 0).cast nbuf0_0)
/-- The buffer that this window uses at a point. -/
abbrev ms0_1 (t : Fin cfg0.N) : Memref sig .tc .vmem S3x256x1024 .bf16 := win0_1.stage (cfg0.slots t 1)
/-- It is a whole buffer. -/
abbrev hs0_1 (t : Fin cfg0.N) : (ms0_1 t).IsWhole := hstage0_1 ((cfg0.slots t 1).cast nbuf0_1)
/-- The buffer that this window uses at a point. -/
abbrev ms0_2 (t : Fin cfg0.N) : Memref sig .tc .vmem S1x1024 .f32 := win0_2.stage (cfg0.slots t 2)
/-- It is a whole buffer. -/
abbrev hs0_2 (t : Fin cfg0.N) : (ms0_2 t).IsWhole := hstage0_2 ((cfg0.slots t 2).cast nbuf0_2)
/-- The buffer that this window uses at a point. -/
abbrev ms0_3 (t : Fin cfg0.N) : Memref sig .tc .vmem S2048x1024 .f32 := win0_3.stage (cfg0.slots t 3)
/-- It is a whole buffer. -/
abbrev hs0_3 (t : Fin cfg0.N) : (ms0_3 t).IsWhole := hstage0_3 ((cfg0.slots t 3).cast nbuf0_3)
/-- The buffer that this window uses at a point. -/
abbrev ms0_4 (t : Fin cfg0.N) : Memref sig .tc .vmem S1x2048x256 .bf16 := win0_4.stage (cfg0.slots t 4)
/-- It is a whole buffer. -/
abbrev hs0_4 (t : Fin cfg0.N) : (ms0_4 t).IsWhole := hstage0_4 ((cfg0.slots t 4).cast nbuf0_4)
/-- The buffer that this window uses at a point. -/
abbrev ms0_5 (t : Fin cfg0.N) : Memref sig .tc .vmem S1x2048x256 .bf16 := win0_5.stage (cfg0.slots t 5)
/-- It is a whole buffer. -/
abbrev hs0_5 (t : Fin cfg0.N) : (ms0_5 t).IsWhole := hstage0_5 ((cfg0.slots t 5).cast nbuf0_5)
/-- The buffer that this window uses at a point. -/
abbrev ms0_6 (t : Fin cfg0.N) : Memref sig .tc .vmem S2048x1024 .bf16 := win0_6.stage (cfg0.slots t 6)
/-- It is a whole buffer. -/
abbrev hs0_6 (t : Fin cfg0.N) : (ms0_6 t).IsWhole := hstage0_6 ((cfg0.slots t 6).cast nbuf0_6)
/-- The array the body copies from by itself, whole. -/
abbrev hbM0_0 : Memref sig .tc .hbm S2048x1024 .f32 := Memref.whole main_arg4
/-- The contents of such an array's buffer on core `c`. -/
abbrev HbBuf0 (c : Dev nD) {sp : Space} {S : Shape} {e : EltTy} (M : Memref sig .tc sp S e) : Type := Buf (Elt F) (M.view.loc (c : Thread nD τ))
/-- The array held whole, at contents `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The semaphores of the body's own copies. -/
abbrev osem0 : Fin 2 → SemLoc sig := fun j => (![SemLoc.dma 10, SemLoc.dma 11] : Fin 2 → SemLoc sig) j
/-- None of them belongs to a window. -/
theorem ownSemFacts0 : Pipeline.OwnSemFacts spec0 osem0 := by decide
/-- These semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The arrays the body copies from, as references. -/
def H0 : Finset (Ref sig .tc) := {main_arg4}
/-- None of them is a window's array. -/
theorem H0_sub : H0 ⊆ Pipeline.restRefs sig spec0 := by decide
/-- These arrays at what the grid finds in them, one by one. -/
theorem hbmPts0_eq (c : Dev nD) :
    (bigSep H0 (fun b => ((c : Thread nD τ).loc b) ↦{fullShare} V m c b) : sProp 𝕄) = iprop(hbPt0 c hbM0_0 (V m c main_arg4)) := by
  rw [BI.bigSep_eq_bigSepL_of_eq [main_arg4] (by decide) (by decide)]; rfl

/-- What holds between grid points: the scratch buffers at any contents, the generator's register at some state, the semaphores at zero and the copied array unchanged. -/
theorem PhiD0_eq (c : Dev nD) :
    (Pipeline.ΦD osem0 spec0 H0 (V m) c : sProp 𝕄)
      = iprop((BI.emp : sProp 𝕄) ∗ (∃ r, prngReg c r) ∗ iprop(semVal ((c : Thread nD τ), SemLoc.dma 10) 0 ∗ semVal ((c : Thread nD τ), SemLoc.dma 11) 0) ∗ iprop(hbPt0 c hbM0_0 (V m c main_arg4))) := by
  rw [Pipeline.ΦD_eq, scopedRest0_eq, ownSems00_eq, hbmPts0_eq]

end Cert.Ffn1FwdIdeal.Body

end
-- ==== Proof.Ffn1FwdIdealRunA.lean ====
/- The body of `ffn1_fwd` at the first grid point. -/
module

public import proofs.«01_k».proof.Proof.Ffn1FwdIdealRuns

@[expose] public section

set_option maxRecDepth 16384

noncomputable section

namespace Cert.Ffn1FwdIdeal.Body

open Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in set_option sl_exec.dmaWindow true in set_option sl_exec.dmaWindowSet true in
/-- The body at the first grid point: the copies of the residual's rows go straight into the output window's buffer, each is waited for before its rows are added to. What each output's buffer ends with is found by running the body. -/
noncomputable def kernelRun0_A (c : Dev nD) (i : grid0.Coords) (arg1 : Memref sig .tc .vmem S2048x1024 .bf16) (harg1 : arg1.IsWhole) (arg2 : Memref sig .tc .vmem S3x256x1024 .bf16) (harg2 : arg2.IsWhole) (arg4 : Memref sig .tc .vmem S1x1024 .f32) (harg4 : arg4.IsWhole) (arg5 : Memref sig .tc .vmem S2048x1024 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x1024 .bf16) (harg8 : arg8.IsWhole) (hc0 : cond0_0 i) (hc1 : ¬cond0_1 i) (hc2 : ¬cond0_2 i)
    (x0 : Vec F S2048x1024 .bf16) (x1 : Vec F S3x256x1024 .bf16) (x2 : Vec F S1x1024 .f32) (fh0 : HbBuf0 (F := F) c hbM0_0) :
    Σ' (L3 : List (View.Piece (Elt F) S2048x1024 .f32)), Σ' (L4 : List (View.Piece (Elt F) S1x2048x256 .bf16)), Σ' (L5 : List (View.Piece (Elt F) S1x2048x256 .bf16)), { L6 : List (View.Piece (Elt F) S2048x1024 .bf16) //
      ∀ (xi6 : Vec F S2048x1024 .bf16) (W : Waits sig Unit) (K : PUnit → sProp 𝕄),
        iprop(owns (c : Thread nD τ) arg1 fullShare x0 ∗ owns (c : Thread nD τ) arg2 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi6 ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_ffn1_fwd i arg1 harg1 arg2 harg2 (Memref.whole main_arg4) (Memref.isWhole_whole _) arg4 harg4 arg5 harg5 arg6 harg6 arg7 harg7 arg8 harg8 cc0_scratch0) K } := by
  refine ⟨?_, ?_, ?_, [], fun xi6 W K => ?run⟩
  case run =>
    simp only [cc0_ffn1_fwd_eq_skeleton]; unfold cc0_ffn1_fwd_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hq0, Hq1, Hh0, HW, Hk⟩
    obtain rfl := harg1.eq_unread hf0; obtain rfl := harg2.eq_unread hf1; obtain rfl := harg4.eq_unread hf2; obtain rfl := harg8.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]
    · iexists _; isplitr; · ipureintro; exact harg8.read_unread _
      iexact H6
    isplitl [Hq0]; · iexact Hq0
    isplitl [Hq1]; · iexact Hq1
    isplitl [Hh0]; · iexact Hh0
    iexists _; iexact HW

end Cert.Ffn1FwdIdeal.Body

end
-- ==== Proof.Ffn1FwdIdealRunB.lean ====
/- The body of `ffn1_fwd` between the first and the last grid point. -/
module

public import proofs.«01_k».proof.Proof.Ffn1FwdIdealRunA

@[expose] public section

set_option maxRecDepth 16384

noncomputable section

namespace Cert.Ffn1FwdIdeal.Body

open Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body between the first and the last grid point: it adds to what the point before left in the output's buffer. What each output's buffer ends with is found by running the body. -/
noncomputable def kernelRun0_B (c : Dev nD) (i : grid0.Coords) (arg1 : Memref sig .tc .vmem S2048x1024 .bf16) (harg1 : arg1.IsWhole) (arg2 : Memref sig .tc .vmem S3x256x1024 .bf16) (harg2 : arg2.IsWhole) (arg4 : Memref sig .tc .vmem S1x1024 .f32) (harg4 : arg4.IsWhole) (arg5 : Memref sig .tc .vmem S2048x1024 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x1024 .bf16) (harg8 : arg8.IsWhole) (hc0 : ¬cond0_0 i) (hc1 : cond0_1 i) (hc2 : ¬cond0_2 i)
    (x0 : Vec F S2048x1024 .bf16) (x1 : Vec F S3x256x1024 .bf16) (x2 : Vec F S1x1024 .f32) (xo3 : Vec F S2048x1024 .f32) (fh0 : HbBuf0 (F := F) c hbM0_0) :
    Σ' (L3 : List (View.Piece (Elt F) S2048x1024 .f32)), Σ' (L4 : List (View.Piece (Elt F) S1x2048x256 .bf16)), Σ' (L5 : List (View.Piece (Elt F) S1x2048x256 .bf16)), { L6 : List (View.Piece (Elt F) S2048x1024 .bf16) //
      ∀ (xi6 : Vec F S2048x1024 .bf16) (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare xo3 ∗ (∃ d, owns (c : Thread nD τ) arg6 fullShare d) ∗ (∃ d, owns (c : Thread nD τ) arg7 fullShare d) ∗ owns (c : Thread nD τ) arg8 fullShare xi6 ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_ffn1_fwd i arg1 harg1 arg2 harg2 (Memref.whole main_arg4) (Memref.isWhole_whole _) arg4 harg4 arg5 harg5 arg6 harg6 arg7 harg7 arg8 harg8 cc0_scratch0) K } := by
  refine ⟨?_, ?_, ?_, [], fun xi6 W K => ?run⟩
  case run =>
    simp only [cc0_ffn1_fwd_eq_skeleton]; unfold cc0_ffn1_fwd_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hq0, Hq1, Hh0, HW, Hk⟩
    obtain rfl := harg1.eq_unread hf0; obtain rfl := harg2.eq_unread hf1; obtain rfl := harg4.eq_unread hf2; obtain rfl := harg5.eq_unread hf3; obtain rfl := harg8.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]
    · iexists _; isplitr; · ipureintro; exact harg8.read_unread _
      iexact H6
    isplitl [Hq0]; · iexact Hq0
    isplitl [Hq1]; · iexact Hq1
    isplitl [Hh0]; · iexact Hh0
    iexists _; iexact HW

end Cert.Ffn1FwdIdeal.Body

end
-- ==== Proof.Ffn1FwdIdealRunC.lean ====
/- The body of `ffn1_fwd` at the last grid point. -/
module

public import proofs.«01_k».proof.Proof.Ffn1FwdIdealRunB

@[expose] public section

set_option maxRecDepth 16384

noncomputable section

namespace Cert.Ffn1FwdIdeal.Body

open Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the last grid point: it adds for the last time, then makes the outputs that need the whole sum. What each output's buffer ends with is found by running the body. -/
noncomputable def kernelRun0_C (c : Dev nD) (i : grid0.Coords) (arg1 : Memref sig .tc .vmem S2048x1024 .bf16) (harg1 : arg1.IsWhole) (arg2 : Memref sig .tc .vmem S3x256x1024 .bf16) (harg2 : arg2.IsWhole) (arg4 : Memref sig .tc .vmem S1x1024 .f32) (harg4 : arg4.IsWhole) (arg5 : Memref sig .tc .vmem S2048x1024 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x1024 .bf16) (harg8 : arg8.IsWhole) (hc0 : ¬cond0_0 i) (hc1 : cond0_1 i) (hc2 : cond0_2 i)
    (x0 : Vec F S2048x1024 .bf16) (x1 : Vec F S3x256x1024 .bf16) (x2 : Vec F S1x1024 .f32) (xo3 : Vec F S2048x1024 .f32) (fh0 : HbBuf0 (F := F) c hbM0_0) :
    Σ' (L3 : List (View.Piece (Elt F) S2048x1024 .f32)), Σ' (L4 : List (View.Piece (Elt F) S1x2048x256 .bf16)), Σ' (L5 : List (View.Piece (Elt F) S1x2048x256 .bf16)), { L6 : List (View.Piece (Elt F) S2048x1024 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare xo3 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_ffn1_fwd i arg1 harg1 arg2 harg2 (Memref.whole main_arg4) (Memref.isWhole_whole _) arg4 harg4 arg5 harg5 arg6 harg6 arg7 harg7 arg8 harg8 cc0_scratch0) K } := by
  refine ⟨?_, ?_, ?_, ?_, fun W K => ?run⟩
  case run =>
    simp only [cc0_ffn1_fwd_eq_skeleton]; unfold cc0_ffn1_fwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hq0, Hq1, Hh0, HW, Hk⟩
    obtain rfl := harg1.eq_unread hf0; obtain rfl := harg2.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [Hq0]; · iexact Hq0
    isplitl [Hq1]; · iexact Hq1
    isplitl [Hh0]; · iexact Hh0
    iexists _; iexact HW

end Cert.Ffn1FwdIdeal.Body

end
-- ==== Proof.Ffn1FwdIdealFrame.lean ====
/- The frame of `ffn1_fwd`: what the outputs hold after each grid point, the body at every point, and the whole run. -/
module

public import proofs.«01_k».proof.Proof.Ffn1FwdIdealRunC
public import Idealize.ShloMosaic.Lib.Claim

@[expose] public section

set_option maxRecDepth 16384

noncomputable section

namespace Cert.Ffn1FwdIdeal.Body

open Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section caseA

variable (c : Dev nD) (i : grid0.Coords) (a1 : Memref sig .tc .vmem S2048x1024 .bf16) (k1 : a1.IsWhole) (a2 : Memref sig .tc .vmem S3x256x1024 .bf16) (k2 : a2.IsWhole) (a4 : Memref sig .tc .vmem S1x1024 .f32) (k4 : a4.IsWhole) (a5 : Memref sig .tc .vmem S2048x1024 .f32) (k5 : a5.IsWhole) (a6 : Memref sig .tc .vmem S1x2048x256 .bf16) (k6 : a6.IsWhole) (a7 : Memref sig .tc .vmem S1x2048x256 .bf16) (k7 : a7.IsWhole) (a8 : Memref sig .tc .vmem S2048x1024 .bf16) (k8 : a8.IsWhole) (hc0 : cond0_0 i) (hc1 : ¬cond0_1 i) (hc2 : ¬cond0_2 i)
    (x0 : Vec F S2048x1024 .bf16) (x1 : Vec F S3x256x1024 .bf16) (x2 : Vec F S1x1024 .f32) (fh0 : HbBuf0 (F := F) c hbM0_0)

/-- The stores into this output at these points cover its block. -/
theorem cover0_A_3 (y : S2048x1024.Idx) :
    ∃ pc ∈ (kernelRun0_A c i a1 k1 a2 k2 a4 k4 a5 k5 a6 k6 a7 k7 a8 k8 hc0 hc1 hc2 x0 x1 x2 fh0).1, y ∈ pc.1.set :=
  View.cover_of_tiledL (kernelRun0_A c i a1 k1 a2 k2 a4 k4 a5 k5 a6 k6 a7 k7 a8 k8 hc0 hc1 hc2 x0 x1 x2 fh0).1 S1024x1024.size (by sl_kernel_rfl) y

/-- What the body leaves in this output's buffer at these points: its stores, read back. -/
def out0_A_3 : Vec F S2048x1024 .f32 :=
  VO0_3.read (Elt F) (VO0_3.writes (Elt F) VO0_3.junk (kernelRun0_A c i a1 k1 a2 k2 a4 k4 a5 k5 a6 k6 a7 k7 a8 k8 hc0 hc1 hc2 x0 x1 x2 fh0).1)

/-- The stores into this output at these points cover its block. -/
theorem cover0_A_4 (y : S1x2048x256.Idx) :
    ∃ pc ∈ (kernelRun0_A c i a1 k1 a2 k2 a4 k4 a5 k5 a6 k6 a7 k7 a8 k8 hc0 hc1 hc2 x0 x1 x2 fh0).2.1, y ∈ pc.1.set :=
  View.cover_of_tiledL (kernelRun0_A c i a1 k1 a2 k2 a4 k4 a5 k5 a6 k6 a7 k7 a8 k8 hc0 hc1 hc2 x0 x1 x2 fh0).2.1 S1x1024x256.size (by sl_kernel_rfl) y

/-- What the body leaves in this output's buffer at these points: its stores, read back. -/
def out0_A_4 : Vec F S1x2048x256 .bf16 :=
  VO0_4.read (Elt F) (VO0_4.writes (Elt F) VO0_4.junk (kernelRun0_A c i a1 k1 a2 k2 a4 k4 a5 k5 a6 k6 a7 k7 a8 k8 hc0 hc1 hc2 x0 x1 x2 fh0).2.1)

/-- The stores into this output at these points cover its block. -/
theorem cover0_A_5 (y : S1x2048x256.Idx) :
    ∃ pc ∈ (kernelRun0_A c i a1 k1 a2 k2 a4 k4 a5 k5 a6 k6 a7 k7 a8 k8 hc0 hc1 hc2 x0 x1 x2 fh0).2.2.1, y ∈ pc.1.set :=
  View.cover_of_tiledL (kernelRun0_A c i a1 k1 a2 k2 a4 k4 a5 k5 a6 k6 a7 k7 a8 k8 hc0 hc1 hc2 x0 x1 x2 fh0).2.2.1 S1x1024x256.size (by sl_kernel_rfl) y

/-- What the body leaves in this output's buffer at these points: its stores, read back. -/
def out0_A_5 : Vec F S1x2048x256 .bf16 :=
  VO0_5.read (Elt F) (VO0_5.writes (Elt F) VO0_5.junk (kernelRun0_A c i a1 k1 a2 k2 a4 k4 a5 k5 a6 k6 a7 k7 a8 k8 hc0 hc1 hc2 x0 x1 x2 fh0).2.2.1)

/-- What the body leaves in this output's buffer at these points: its stores, read back. -/
def out0_A_6 : Vec F S2048x1024 .bf16 :=
  VO0_6.read (Elt F) (VO0_6.writes (Elt F) VO0_6.junk (kernelRun0_A c i a1 k1 a2 k2 a4 k4 a5 k5 a6 k6 a7 k7 a8 k8 hc0 hc1 hc2 x0 x1 x2 fh0).2.2.2.1)

end caseA

section caseB

variable (c : Dev nD) (i : grid0.Coords) (a1 : Memref sig .tc .vmem S2048x1024 .bf16) (k1 : a1.IsWhole) (a2 : Memref sig .tc .vmem S3x256x1024 .bf16) (k2 : a2.IsWhole) (a4 : Memref sig .tc .vmem S1x1024 .f32) (k4 : a4.IsWhole) (a5 : Memref sig .tc .vmem S2048x1024 .f32) (k5 : a5.IsWhole) (a6 : Memref sig .tc .vmem S1x2048x256 .bf16) (k6 : a6.IsWhole) (a7 : Memref sig .tc .vmem S1x2048x256 .bf16) (k7 : a7.IsWhole) (a8 : Memref sig .tc .vmem S2048x1024 .bf16) (k8 : a8.IsWhole) (hc0 : ¬cond0_0 i) (hc1 : cond0_1 i) (hc2 : ¬cond0_2 i)
    (x0 : Vec F S2048x1024 .bf16) (x1 : Vec F S3x256x1024 .bf16) (x2 : Vec F S1x1024 .f32) (xo3 : Vec F S2048x1024 .f32) (fh0 : HbBuf0 (F := F) c hbM0_0)

/-- The stores into this output at these points cover its block. -/
theorem cover0_B_3 (y : S2048x1024.Idx) :
    ∃ pc ∈ (kernelRun0_B c i a1 k1 a2 k2 a4 k4 a5 k5 a6 k6 a7 k7 a8 k8 hc0 hc1 hc2 x0 x1 x2 xo3 fh0).1, y ∈ pc.1.set :=
  View.cover_of_tiledL (kernelRun0_B c i a1 k1 a2 k2 a4 k4 a5 k5 a6 k6 a7 k7 a8 k8 hc0 hc1 hc2 x0 x1 x2 xo3 fh0).1 S1024x1024.size (by sl_kernel_rfl) y

/-- What the body leaves in this output's buffer at these points: its stores, read back. -/
def out0_B_3 : Vec F S2048x1024 .f32 :=
  VO0_3.read (Elt F) (VO0_3.writes (Elt F) VO0_3.junk (kernelRun0_B c i a1 k1 a2 k2 a4 k4 a5 k5 a6 k6 a7 k7 a8 k8 hc0 hc1 hc2 x0 x1 x2 xo3 fh0).1)

/-- The stores into this output at these points cover its block. -/
theorem cover0_B_4 (y : S1x2048x256.Idx) :
    ∃ pc ∈ (kernelRun0_B c i a1 k1 a2 k2 a4 k4 a5 k5 a6 k6 a7 k7 a8 k8 hc0 hc1 hc2 x0 x1 x2 xo3 fh0).2.1, y ∈ pc.1.set :=
  View.cover_of_tiledL (kernelRun0_B c i a1 k1 a2 k2 a4 k4 a5 k5 a6 k6 a7 k7 a8 k8 hc0 hc1 hc2 x0 x1 x2 xo3 fh0).2.1 S1x1024x256.size (by sl_kernel_rfl) y

/-- What the body leaves in this output's buffer at these points: its stores, read back. -/
def out0_B_4 : Vec F S1x2048x256 .bf16 :=
  VO0_4.read (Elt F) (VO0_4.writes (Elt F) VO0_4.junk (kernelRun0_B c i a1 k1 a2 k2 a4 k4 a5 k5 a6 k6 a7 k7 a8 k8 hc0 hc1 hc2 x0 x1 x2 xo3 fh0).2.1)

/-- The stores into this output at these points cover its block. -/
theorem cover0_B_5 (y : S1x2048x256.Idx) :
    ∃ pc ∈ (kernelRun0_B c i a1 k1 a2 k2 a4 k4 a5 k5 a6 k6 a7 k7 a8 k8 hc0 hc1 hc2 x0 x1 x2 xo3 fh0).2.2.1, y ∈ pc.1.set :=
  View.cover_of_tiledL (kernelRun0_B c i a1 k1 a2 k2 a4 k4 a5 k5 a6 k6 a7 k7 a8 k8 hc0 hc1 hc2 x0 x1 x2 xo3 fh0).2.2.1 S1x1024x256.size (by sl_kernel_rfl) y

/-- What the body leaves in this output's buffer at these points: its stores, read back. -/
def out0_B_5 : Vec F S1x2048x256 .bf16 :=
  VO0_5.read (Elt F) (VO0_5.writes (Elt F) VO0_5.junk (kernelRun0_B c i a1 k1 a2 k2 a4 k4 a5 k5 a6 k6 a7 k7 a8 k8 hc0 hc1 hc2 x0 x1 x2 xo3 fh0).2.2.1)

/-- What the body leaves in this output's buffer at these points: its stores, read back. -/
def out0_B_6 : Vec F S2048x1024 .bf16 :=
  VO0_6.read (Elt F) (VO0_6.writes (Elt F) VO0_6.junk (kernelRun0_B c i a1 k1 a2 k2 a4 k4 a5 k5 a6 k6 a7 k7 a8 k8 hc0 hc1 hc2 x0 x1 x2 xo3 fh0).2.2.2.1)

end caseB

section caseC

variable (c : Dev nD) (i : grid0.Coords) (a1 : Memref sig .tc .vmem S2048x1024 .bf16) (k1 : a1.IsWhole) (a2 : Memref sig .tc .vmem S3x256x1024 .bf16) (k2 : a2.IsWhole) (a4 : Memref sig .tc .vmem S1x1024 .f32) (k4 : a4.IsWhole) (a5 : Memref sig .tc .vmem S2048x1024 .f32) (k5 : a5.IsWhole) (a6 : Memref sig .tc .vmem S1x2048x256 .bf16) (k6 : a6.IsWhole) (a7 : Memref sig .tc .vmem S1x2048x256 .bf16) (k7 : a7.IsWhole) (a8 : Memref sig .tc .vmem S2048x1024 .bf16) (k8 : a8.IsWhole) (hc0 : ¬cond0_0 i) (hc1 : cond0_1 i) (hc2 : cond0_2 i)
    (x0 : Vec F S2048x1024 .bf16) (x1 : Vec F S3x256x1024 .bf16) (x2 : Vec F S1x1024 .f32) (xo3 : Vec F S2048x1024 .f32) (fh0 : HbBuf0 (F := F) c hbM0_0)

/-- The stores into this output at these points cover its block. -/
theorem cover0_C_3 (y : S2048x1024.Idx) :
    ∃ pc ∈ (kernelRun0_C c i a1 k1 a2 k2 a4 k4 a5 k5 a6 k6 a7 k7 a8 k8 hc0 hc1 hc2 x0 x1 x2 xo3 fh0).1, y ∈ pc.1.set :=
  View.cover_of_tiledL (kernelRun0_C c i a1 k1 a2 k2 a4 k4 a5 k5 a6 k6 a7 k7 a8 k8 hc0 hc1 hc2 x0 x1 x2 xo3 fh0).1 S1024x1024.size (by sl_kernel_rfl) y

/-- What the body leaves in this output's buffer at these points: its stores, read back. -/
def out0_C_3 : Vec F S2048x1024 .f32 :=
  VO0_3.read (Elt F) (VO0_3.writes (Elt F) VO0_3.junk (kernelRun0_C c i a1 k1 a2 k2 a4 k4 a5 k5 a6 k6 a7 k7 a8 k8 hc0 hc1 hc2 x0 x1 x2 xo3 fh0).1)

/-- The stores into this output at these points cover its block. -/
theorem cover0_C_4 (y : S1x2048x256.Idx) :
    ∃ pc ∈ (kernelRun0_C c i a1 k1 a2 k2 a4 k4 a5 k5 a6 k6 a7 k7 a8 k8 hc0 hc1 hc2 x0 x1 x2 xo3 fh0).2.1, y ∈ pc.1.set :=
  View.cover_of_tiledL (kernelRun0_C c i a1 k1 a2 k2 a4 k4 a5 k5 a6 k6 a7 k7 a8 k8 hc0 hc1 hc2 x0 x1 x2 xo3 fh0).2.1 S1x1024x256.size (by sl_kernel_rfl) y

/-- What the body leaves in this output's buffer at these points: its stores, read back. -/
def out0_C_4 : Vec F S1x2048x256 .bf16 :=
  VO0_4.read (Elt F) (VO0_4.writes (Elt F) VO0_4.junk (kernelRun0_C c i a1 k1 a2 k2 a4 k4 a5 k5 a6 k6 a7 k7 a8 k8 hc0 hc1 hc2 x0 x1 x2 xo3 fh0).2.1)

/-- The stores into this output at these points cover its block. -/
theorem cover0_C_5 (y : S1x2048x256.Idx) :
    ∃ pc ∈ (kernelRun0_C c i a1 k1 a2 k2 a4 k4 a5 k5 a6 k6 a7 k7 a8 k8 hc0 hc1 hc2 x0 x1 x2 xo3 fh0).2.2.1, y ∈ pc.1.set :=
  View.cover_of_tiledL (kernelRun0_C c i a1 k1 a2 k2 a4 k4 a5 k5 a6 k6 a7 k7 a8 k8 hc0 hc1 hc2 x0 x1 x2 xo3 fh0).2.2.1 S1x1024x256.size (by sl_kernel_rfl) y

/-- What the body leaves in this output's buffer at these points: its stores, read back. -/
def out0_C_5 : Vec F S1x2048x256 .bf16 :=
  VO0_5.read (Elt F) (VO0_5.writes (Elt F) VO0_5.junk (kernelRun0_C c i a1 k1 a2 k2 a4 k4 a5 k5 a6 k6 a7 k7 a8 k8 hc0 hc1 hc2 x0 x1 x2 xo3 fh0).2.2.1)

/-- The stores into this output at these points cover its block. -/
theorem cover0_C_6 (y : S2048x1024.Idx) :
    ∃ pc ∈ (kernelRun0_C c i a1 k1 a2 k2 a4 k4 a5 k5 a6 k6 a7 k7 a8 k8 hc0 hc1 hc2 x0 x1 x2 xo3 fh0).2.2.2.1, y ∈ pc.1.set :=
  View.cover_of_tiledL (kernelRun0_C c i a1 k1 a2 k2 a4 k4 a5 k5 a6 k6 a7 k7 a8 k8 hc0 hc1 hc2 x0 x1 x2 xo3 fh0).2.2.2.1 S256x1024.size (by sl_kernel_rfl) y

/-- What the body leaves in this output's buffer at these points: its stores, read back. -/
def out0_C_6 : Vec F S2048x1024 .bf16 :=
  VO0_6.read (Elt F) (VO0_6.writes (Elt F) VO0_6.junk (kernelRun0_C c i a1 k1 a2 k2 a4 k4 a5 k5 a6 k6 a7 k7 a8 k8 hc0 hc1 hc2 x0 x1 x2 xo3 fh0).2.2.2.1)

end caseC

/-- What the outputs' buffers hold after a point of this case. -/
def atA (c : Dev nD) (t : Fin cfg0.N) (hc0 : cond0_0 (grid0.coords t)) (hc1 : ¬cond0_1 (grid0.coords t)) (hc2 : ¬cond0_2 (grid0.coords t)) :
    Vec F S2048x1024 .f32 × Vec F S1x2048x256 .bf16 × Vec F S1x2048x256 .bf16 × Vec F S2048x1024 .bf16 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) (V m c main_arg4),
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) (V m c main_arg4),
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) (V m c main_arg4),
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) (V m c main_arg4))

/-- What the outputs' buffers hold after a point of this case. -/
def atB (c : Dev nD) (t : Fin cfg0.N) (hc0 : ¬cond0_0 (grid0.coords t)) (hc1 : cond0_1 (grid0.coords t)) (hc2 : ¬cond0_2 (grid0.coords t)) (p : Vec F S2048x1024 .f32) :
    Vec F S2048x1024 .f32 × Vec F S1x2048x256 .bf16 × Vec F S1x2048x256 .bf16 × Vec F S2048x1024 .bf16 :=
  (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4),
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4),
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4),
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4))

/-- What the outputs' buffers hold after a point of this case. -/
def atC (c : Dev nD) (t : Fin cfg0.N) (hc0 : ¬cond0_0 (grid0.coords t)) (hc1 : cond0_1 (grid0.coords t)) (hc2 : cond0_2 (grid0.coords t)) (p : Vec F S2048x1024 .f32) :
    Vec F S2048x1024 .f32 × Vec F S1x2048x256 .bf16 × Vec F S1x2048x256 .bf16 × Vec F S2048x1024 .bf16 :=
  (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4),
    out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4),
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4),
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 hc2 (iblk m c 0 t) (iblk m c 1 t) (iblk m c 2 t) p (V m c main_arg4))

/-- What the outputs' buffers hold after each point: what the body leaves there, over what the point before left. -/
def outsAt0 (c : Dev nD) : (n : ℕ) → n < cfg0.N → Vec F S2048x1024 .f32 × Vec F S1x2048x256 .bf16 × Vec F S1x2048x256 .bf16 × Vec F S2048x1024 .bf16
  | 0, hn => atA m c ⟨0, hn⟩ ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h))
  | n + 1, hn =>
    if h0 : (n + 1) % 11 = 0 then
      if h1 : 1 ≤ (n + 1) then
        False.elim (by have hN : n + 1 < 11 := lt_of_lt_of_eq hn (show cfg0.N = 11 from N_0); omega)
      else
        if h2 : (n + 1) % 11 = 10 then
          False.elim (by have hN : n + 1 < 11 := lt_of_lt_of_eq hn (show cfg0.N = 11 from N_0); omega)
        else
          atA m c ⟨n + 1, hn⟩ ((hcond0_0 ⟨n + 1, hn⟩).mpr h0) (fun h => h1 ((hcond0_1 ⟨n + 1, hn⟩).mp h)) (fun h => h2 ((hcond0_2 ⟨n + 1, hn⟩).mp h))
    else
      if h1 : 1 ≤ (n + 1) then
        if h2 : (n + 1) % 11 = 10 then
          atC m c ⟨n + 1, hn⟩ (fun h => h0 ((hcond0_0 ⟨n + 1, hn⟩).mp h)) ((hcond0_1 ⟨n + 1, hn⟩).mpr h1) ((hcond0_2 ⟨n + 1, hn⟩).mpr h2) (outsAt0 c n (Nat.lt_of_succ_lt hn)).1
        else
          atB m c ⟨n + 1, hn⟩ (fun h => h0 ((hcond0_0 ⟨n + 1, hn⟩).mp h)) ((hcond0_1 ⟨n + 1, hn⟩).mpr h1) (fun h => h2 ((hcond0_2 ⟨n + 1, hn⟩).mp h)) (outsAt0 c n (Nat.lt_of_succ_lt hn)).1
      else
        False.elim (by have hN : n + 1 < 11 := lt_of_lt_of_eq hn (show cfg0.N = 11 from N_0); omega)

/-- The same at a point of this case. -/
theorem outsAt0_A (c : Dev nD) (t : Fin cfg0.N) (h0 : t.val % 11 = 0) (h1 : ¬1 ≤ t.val) (h2 : ¬t.val % 11 = 10) :
    outsAt0 m c t.val t.isLt = atA m c t ((hcond0_0 t).mpr h0) (fun h => h1 ((hcond0_1 t).mp h)) (fun h => h2 ((hcond0_2 t).mp h)) := by
  obtain ⟨n, hn⟩ := t
  cases n with
  | zero => exact rfl
  | succ n => exact (dif_pos h0).trans ((dif_neg h1).trans ((dif_neg h2).trans rfl))

/-- The same at a point of this case. -/
theorem outsAt0_B (c : Dev nD) (t : Fin cfg0.N) (h0 : ¬t.val % 11 = 0) (h1 : 1 ≤ t.val) (h2 : ¬t.val % 11 = 10) :
    outsAt0 m c t.val t.isLt = atB m c t (fun h => h0 ((hcond0_0 t).mp h)) ((hcond0_1 t).mpr h1) (fun h => h2 ((hcond0_2 t).mp h)) (outsAt0 m c (t.val - 1) (Nat.lt_of_le_of_lt (Nat.sub_le _ _) t.isLt)).1 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The same at a point of this case. -/
theorem outsAt0_C (c : Dev nD) (t : Fin cfg0.N) (h0 : ¬t.val % 11 = 0) (h1 : 1 ≤ t.val) (h2 : t.val % 11 = 10) :
    outsAt0 m c t.val t.isLt = atC m c t (fun h => h0 ((hcond0_0 t).mp h)) ((hcond0_1 t).mpr h1) ((hcond0_2 t).mpr h2) (outsAt0 m c (t.val - 1) (Nat.lt_of_le_of_lt (Nat.sub_le _ _) t.isLt)).1 := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The data of the pipeline's proof: the arrays as the grid finds them, and what each window's buffer holds after the body at each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.ΦD osem0 spec0 H0 (V m) c
  q _ := fullShare
  owed _ := 0

/-- The arrays are those that the grid finds. -/
theorem A_eq (c : Dev nD) (w : Fin cfg0.W) : (dats m 0 c).A w = V m c (Pipeline.arrRef spec0 w) := by
  dsimp only [dats]

/-- What this window's buffer holds after the body at a point. -/
theorem after0_0 (c : Dev nD) (t : Fin cfg0.N) : (dats m 0 c).after 0 t = iblk m c 0 t := by dsimp only [dats]
/-- What this window's buffer holds after the body at a point. -/
theorem after0_1 (c : Dev nD) (t : Fin cfg0.N) : (dats m 0 c).after 1 t = iblk m c 1 t := by dsimp only [dats]
/-- What this window's buffer holds after the body at a point. -/
theorem after0_2 (c : Dev nD) (t : Fin cfg0.N) : (dats m 0 c).after 2 t = iblk m c 2 t := by dsimp only [dats]
/-- What this window's buffer holds after the body at a point. -/
theorem after0_3 (c : Dev nD) (t : Fin cfg0.N) : (dats m 0 c).after 3 t = (outsAt0 m c t.val t.isLt).1 := by dsimp only [dats]
/-- What this window's buffer holds after the body at a point. -/
theorem after0_4 (c : Dev nD) (t : Fin cfg0.N) : (dats m 0 c).after 4 t = (outsAt0 m c t.val t.isLt).2.1 := by dsimp only [dats]
/-- What this window's buffer holds after the body at a point. -/
theorem after0_5 (c : Dev nD) (t : Fin cfg0.N) : (dats m 0 c).after 5 t = (outsAt0 m c t.val t.isLt).2.2.1 := by dsimp only [dats]
/-- What this window's buffer holds after the body at a point. -/
theorem after0_6 (c : Dev nD) (t : Fin cfg0.N) : (dats m 0 c).after 6 t = (outsAt0 m c t.val t.isLt).2.2.2 := by dsimp only [dats]

/-- The buffer of this input window holds its block before the body. -/
theorem before0_0 (c : Dev nD) (t : Fin cfg0.N) (d) : (dats m 0 c).before 0 t d = iblk m c 0 t :=
  before0_0_of m (dats m 0 c) (A_eq m c 0) (after0_0 m c) t d
/-- The buffer of this input window holds its block before the body. -/
theorem before0_1 (c : Dev nD) (t : Fin cfg0.N) (d) : (dats m 0 c).before 1 t d = iblk m c 1 t :=
  before0_1_of m (dats m 0 c) (A_eq m c 1) (after0_1 m c) t d
/-- The buffer of this input window holds its block before the body. -/
theorem before0_2 (c : Dev nD) (t : Fin cfg0.N) (d) : (dats m 0 c).before 2 t d = iblk m c 2 t :=
  before0_2_of m (dats m 0 c) (A_eq m c 2) (after0_2 m c) t d

/-- An output that a point leaves alone keeps what the point before left. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 11 := lt_of_lt_of_eq t.isLt (show cfg0.N = 11 from N_0)
  rw [after0_3, after0_3]
  by_cases h0 : t.val % 11 = 0
  · by_cases h1 : 1 ≤ t.val
    · exfalso; omega
    · by_cases h2 : t.val % 11 = 10
      · exfalso; omega
      · rw [liveAt0_3_A t ((hcond0_0 t).mpr h0) (fun h => h1 ((hcond0_1 t).mp h)) (fun h => h2 ((hcond0_2 t).mp h))] at hi
        exact absurd hi Bool.false_ne_true
  · by_cases h1 : 1 ≤ t.val
    · by_cases h2 : t.val % 11 = 10
      · rw [liveAt0_3_C t (fun h => h0 ((hcond0_0 t).mp h)) ((hcond0_1 t).mpr h1) ((hcond0_2 t).mpr h2)] at hi
        exact absurd hi Bool.false_ne_true
      · rw [liveAt0_3_B t (fun h => h0 ((hcond0_0 t).mp h)) ((hcond0_1 t).mpr h1) (fun h => h2 ((hcond0_2 t).mp h))] at hi
        exact absurd hi Bool.false_ne_true
    · exfalso; omega
/-- The buffer of this output holds what the point before left. -/
theorem before0_3_B (c : Dev nD) (t : Fin cfg0.N) (h0 : ¬t.val % 11 = 0) (h1 : 1 ≤ t.val) (h2 : ¬t.val % 11 = 10) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_B t (fun h => h0 ((hcond0_0 t).mp h)) ((hcond0_1 t).mpr h1) (fun h => h2 ((hcond0_2 t).mp h))]; exact Bool.false_ne_true)]
  dsimp only [dats]
/-- The buffer of this output holds what the point before left. -/
theorem before0_3_C (c : Dev nD) (t : Fin cfg0.N) (h0 : ¬t.val % 11 = 0) (h1 : 1 ≤ t.val) (h2 : t.val % 11 = 10) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_C t (fun h => h0 ((hcond0_0 t).mp h)) ((hcond0_1 t).mpr h1) ((hcond0_2 t).mpr h2)]; exact Bool.false_ne_true)]
  dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body is correct at every point: the conditions say which of the three cases the point is, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 11 := lt_of_lt_of_eq t.isLt (show cfg0.N = 11 from N_0)
  by_cases h0 : t.val % 11 = 0
  · by_cases h1 : 1 ≤ t.val
    · exfalso; omega
    · by_cases h2 : t.val % 11 = 10
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h)) (fun h => h2 ((hcond0_2 t).mp h))], after0_3]
        rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h)) (fun h => h2 ((hcond0_2 t).mp h))], after0_4]
        rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) (fun h => h2 ((hcond0_2 t).mp h))], after0_5]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        rw [outsAt0_A m c t h0 h1 h2]
        unfold atA out0_A_3 out0_A_4 out0_A_5; (try dsimp only)
        iintro ⟨⟨-, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (V m c main_arg4)).2.2.2.2 _ W _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexact H6
        isplitl [Hq0]; · iexact Hq0
        isplitl [Hq1]; · iexact Hq1
        isplitl [Hh0]; · iexact Hh0
        isplitl [HW]; · iexact HW
        iintro ⟨H0, H1, H2, ⟨%e3, H3⟩, ⟨%e4, H4⟩, ⟨%e5, H5⟩, H6, Hq0, Hq1, Hh0, ⟨%W', HW'⟩⟩
        isplitl [Hg Hq0 Hq1 Hh0]
        · isplitl []
          · iempintro
          isplitl [Hg]
          · iexact Hg
          isplitl [Hq0 Hq1]
          · isplitl [Hq0]; · iexact Hq0
            iexact Hq1
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _)
        iexists _; iexact H6
  · by_cases h1 : 1 ≤ t.val
    · by_cases h2 : t.val % 11 = 10
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1) ((hcond0_2 t).mpr h2)], after0_3]
        rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1) ((hcond0_2 t).mpr h2)], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) ((hcond0_2 t).mpr h2)], after0_6]
        rw [outsAt0_C m c t h0 h1 h2]
        simp only [before0_3_C m c t h0 h1 h2]
        unfold atC out0_C_3 out0_C_4 out0_C_5 out0_C_6; (try dsimp only)
        iintro ⟨⟨-, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ (fun h => h0 ((hcond0_0 t).mp h)) ((hcond0_1 t).mpr h1) ((hcond0_2 t).mpr h2) (iblk m c 0 t) (iblk m c 1 t) (iblk m c 2 t) _ (V m c main_arg4)).2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [Hq0]; · iexact Hq0
        isplitl [Hq1]; · iexact Hq1
        isplitl [Hh0]; · iexact Hh0
        isplitl [HW]; · iexact HW
        iintro ⟨H0, H1, H2, ⟨%e3, H3⟩, ⟨%e4, H4⟩, ⟨%e5, H5⟩, ⟨%e6, H6⟩, Hq0, Hq1, Hh0, ⟨%W', HW'⟩⟩
        isplitl [Hg Hq0 Hq1 Hh0]
        · isplitl []
          · iempintro
          isplitl [Hg]
          · iexact Hg
          isplitl [Hq0 Hq1]
          · isplitl [Hq0]; · iexact Hq0
            iexact Hq1
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1) (fun h => h2 ((hcond0_2 t).mp h))], after0_3]
        rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h))], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [outsAt0_B m c t h0 h1 h2]
        simp only [before0_3_B m c t h0 h1 h2]
        unfold atB out0_B_3 out0_B_4 out0_B_5; (try dsimp only)
        iintro ⟨⟨-, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _ (V m c main_arg4)).2.2.2.2 _ W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [Hq0]; · iexact Hq0
        isplitl [Hq1]; · iexact Hq1
        isplitl [Hh0]; · iexact Hh0
        isplitl [HW]; · iexact HW
        iintro ⟨H0, H1, H2, ⟨%e3, H3⟩, ⟨%e4, H4⟩, ⟨%e5, H5⟩, H6, Hq0, Hq1, Hh0, ⟨%W', HW'⟩⟩
        isplitl [Hg Hq0 Hq1 Hh0]
        · isplitl []
          · iempintro
          isplitl [Hg]
          · iexact Hg
          isplitl [Hq0 Hq1]
          · isplitl [Hq0]; · iexact Hq0
            iexact Hq1
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _)
        iexists _; iexact H6
    · exfalso; omega

/-- The body called at a point is the kernel on that point's buffers. -/
theorem defs₀_row (t : Fin cfg0.N) :
    defs₀ (F := F) .tc cfg0.body (cfg0.bodyArgs t (cfg0.slots t)) = bodyAt0 t := by
  unfold defs₀; rw [Defs.onTc_tc]

/-- The body is correct, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends with the arrays as the pipeline leaves them and with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, the argument arrays are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Ffn1FwdIdeal.Body

end
-- ==== Proof.Ffn2FwdIdealRuns.lean ====
/- The forward feed-forward call `ffn2_fwd`: the program up to the grid, the conditions of the body and where its windows are idle. -/
module

public import proofs.«01_k».proof.Proof.Gen.Ffn2FwdIdeal.Launch
public import proofs.«01_k».proof.Proof.Gen.Ffn2FwdIdeal.Skeleton
public import proofs.«01_k».proof.Proof.Gen.Ffn2FwdIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Ffn2FwdIdeal.Body

open Cert.Ffn2FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What core `c`'s memory holds after the host operations before the call. -/
abbrev V0 (c : Dev nD) : Valuation τ sig (Elt F) := StableHlo.after (List.flatten [hostOps0]) (fun b => m (c, b))
/-- What core `c`'s buffers hold when the grid is entered: the arrays after the host operations that come before the call. -/
abbrev V (c : Dev nD) (b : Ref sig .tc) : Buf (Elt F) ((c : Thread nD τ).loc b) := V0 m c (Proc.devRef .tc b)

/-- The host operations before the call make no fresh buffers. -/
theorem hostOps0_fresh : (hostOps0 : List (HloOp τ sig (Elt F))).Forall fun op => op.fresh = ∅ := by
  simp only [List.Forall]; repeat' constructor
/-- The host operations after the call make no fresh buffers. -/
theorem hostOps1_fresh : (hostOps1 : List (HloOp τ sig (Elt F))).Forall fun op => op.fresh = ∅ := by
  simp only [List.Forall]; repeat' constructor

set_option maxHeartbeats 800000 in
/-- The program up to the call: the host operations, then the grid. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The same, for each group of them. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- They do not write an array of a window. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The host operations do not write this argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host operations do not write this argument array. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operations after the call do not write this argument array. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The host operations after the call do not write this argument array. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The host operations after the call do not write this argument array. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The host operations after the call do not write this argument array. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The host operations after the call do not write this argument array. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- The host operations after the call do not write this argument array. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of this input window holds its block at every point, fetched there or kept from before. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of this input window holds its block at every point, fetched there or kept from before. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A run that leaves the arrays as the grid leaves them has left the argument arrays as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-- The condition of one of the body's conditionals, at a grid point. -/
abbrev cond0_0 (i : grid0.Coords) : Prop := k0_cond1 i = 1#1
/-- At which grid points that condition holds. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-- The condition of one of the body's conditionals, at a grid point. -/
abbrev cond0_1 (i : grid0.Coords) : Prop := k0_cond2 i = 1#1
/-- At which grid points that condition holds. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of one of the body's conditionals, at a grid point. -/
abbrev cond0_2 (i : grid0.Coords) : Prop := k0_cond3 i = 1#1
/-- At which grid points that condition holds. -/
theorem hcond0_2 : ∀ t : Fin cfg0.N, cond0_2 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_2, k0_cond3, e0]
    word_cmp
   : ∀ t : Fin grid0.N, cond0_2 (grid0.coords t) ↔ t.val % 11 = 10)

/-- This window is stored into, or read, at these points. -/
theorem liveAt0_0 : ∀ t : Fin cfg0.N, cfg0.idle 0 (grid0.coords t) = false := fun _ => rfl
/-- This window is stored into, or read, at these points. -/
theorem liveAt0_1 : ∀ t : Fin cfg0.N, cfg0.idle 1 (grid0.coords t) = false := fun _ => rfl
/-- Whether this output's buffer holds nothing that the body has stored yet, position by position. -/
def freshTab0_2 : ℕ → Bool
  | 0 => true
  | n + 1 => (0x400 : ℕ).testBit n
/-- The table goes from point to point as write-backs and idle points say. -/
theorem freshTab0_2_step : ∀ t : Fin cfg0.N,
    freshTab0_2 (t.val + 1) = ((cfg0.win 2).flush t || (cfg0.idle 2 (cfg0.grid.coords t) && freshTab0_2 t.val)) := by decide +kernel
/-- The table says when the buffer holds nothing stored. -/
theorem fresh0_2_eq (t : Fin cfg0.N) : cfg0.fresh 2 t.val = freshTab0_2 t.val :=
  Pipeline.Cfg.fresh_tab cfg0 2 freshTab0_2 rfl freshTab0_2_step t.val (Nat.le_of_lt t.isLt)
/-- This window is stored into, or read, at these points. -/
theorem liveAt0_2_A : ∀ t : Fin cfg0.N, cond0_0 (grid0.coords t) → ¬cond0_1 (grid0.coords t) → ¬cond0_2 (grid0.coords t) → cfg0.idle 2 (grid0.coords t) = false := by decide +kernel
/-- This window is stored into, or read, at these points. -/
theorem liveAt0_2_B : ∀ t : Fin cfg0.N, ¬cond0_0 (grid0.coords t) → cond0_1 (grid0.coords t) → ¬cond0_2 (grid0.coords t) → cfg0.idle 2 (grid0.coords t) = false := by decide +kernel
/-- At these points the buffer holds what an earlier point stored. -/
theorem notFresh0_2_B : ∀ t : Fin cfg0.N, ¬cond0_0 (grid0.coords t) → cond0_1 (grid0.coords t) → ¬cond0_2 (grid0.coords t) → cfg0.fresh 2 t.val = false := by
  intro t; rw [fresh0_2_eq t]; revert t; decide +kernel
/-- This window is stored into, or read, at these points. -/
theorem liveAt0_2_C : ∀ t : Fin cfg0.N, ¬cond0_0 (grid0.coords t) → cond0_1 (grid0.coords t) → cond0_2 (grid0.coords t) → cfg0.idle 2 (grid0.coords t) = false := by decide +kernel
/-- At these points the buffer holds what an earlier point stored. -/
theorem notFresh0_2_C : ∀ t : Fin cfg0.N, ¬cond0_0 (grid0.coords t) → cond0_1 (grid0.coords t) → cond0_2 (grid0.coords t) → cfg0.fresh 2 t.val = false := by
  intro t; rw [fresh0_2_eq t]; revert t; decide +kernel
/-- This window is stored into, or read, at these points. -/
theorem liveAt0_3_A : ∀ t : Fin cfg0.N, cond0_0 (grid0.coords t) → ¬cond0_1 (grid0.coords t) → ¬cond0_2 (grid0.coords t) → cfg0.idle 3 (grid0.coords t) = false := by decide +kernel
/-- This window is stored into, or read, at these points. -/
theorem liveAt0_3_B : ∀ t : Fin cfg0.N, ¬cond0_0 (grid0.coords t) → cond0_1 (grid0.coords t) → ¬cond0_2 (grid0.coords t) → cfg0.idle 3 (grid0.coords t) = false := by decide +kernel
/-- This window is stored into, or read, at these points. -/
theorem liveAt0_3_C : ∀ t : Fin cfg0.N, ¬cond0_0 (grid0.coords t) → cond0_1 (grid0.coords t) → cond0_2 (grid0.coords t) → cfg0.idle 3 (grid0.coords t) = false := by decide +kernel
/-- This window is stored into, or read, at these points. -/
theorem liveAt0_4_A : ∀ t : Fin cfg0.N, cond0_0 (grid0.coords t) → ¬cond0_1 (grid0.coords t) → ¬cond0_2 (grid0.coords t) → cfg0.idle 4 (grid0.coords t) = false := by decide +kernel
/-- This window is stored into, or read, at these points. -/
theorem liveAt0_4_B : ∀ t : Fin cfg0.N, ¬cond0_0 (grid0.coords t) → cond0_1 (grid0.coords t) → ¬cond0_2 (grid0.coords t) → cfg0.idle 4 (grid0.coords t) = false := by decide +kernel
/-- This window is stored into, or read, at these points. -/
theorem liveAt0_4_C : ∀ t : Fin cfg0.N, ¬cond0_0 (grid0.coords t) → cond0_1 (grid0.coords t) → cond0_2 (grid0.coords t) → cfg0.idle 4 (grid0.coords t) = false := by decide +kernel
/-- This output is left alone at these points. -/
theorem idleAt0_5_A : ∀ t : Fin cfg0.N, cond0_0 (grid0.coords t) → ¬cond0_1 (grid0.coords t) → ¬cond0_2 (grid0.coords t) → cfg0.idle 5 (grid0.coords t) = true := by decide +kernel
/-- This output is not written back at these points. -/
theorem noFlush0_5_A : ∀ t : Fin cfg0.N, cond0_0 (grid0.coords t) → ¬cond0_1 (grid0.coords t) → ¬cond0_2 (grid0.coords t) → (cfg0.win 5).flush t = false := by decide +kernel
/-- This output is left alone at these points. -/
theorem idleAt0_5_B : ∀ t : Fin cfg0.N, ¬cond0_0 (grid0.coords t) → cond0_1 (grid0.coords t) → ¬cond0_2 (grid0.coords t) → cfg0.idle 5 (grid0.coords t) = true := by decide +kernel
/-- This output is not written back at these points. -/
theorem noFlush0_5_B : ∀ t : Fin cfg0.N, ¬cond0_0 (grid0.coords t) → cond0_1 (grid0.coords t) → ¬cond0_2 (grid0.coords t) → (cfg0.win 5).flush t = false := by decide +kernel
/-- This window is stored into, or read, at these points. -/
theorem liveAt0_5_C : ∀ t : Fin cfg0.N, ¬cond0_0 (grid0.coords t) → cond0_1 (grid0.coords t) → cond0_2 (grid0.coords t) → cfg0.idle 5 (grid0.coords t) = false := by decide +kernel
/-- This output is left alone at these points. -/
theorem idleAt0_6_A : ∀ t : Fin cfg0.N, cond0_0 (grid0.coords t) → ¬cond0_1 (grid0.coords t) → ¬cond0_2 (grid0.coords t) → cfg0.idle 6 (grid0.coords t) = true := by decide +kernel
/-- This output is not written back at these points. -/
theorem noFlush0_6_A : ∀ t : Fin cfg0.N, cond0_0 (grid0.coords t) → ¬cond0_1 (grid0.coords t) → ¬cond0_2 (grid0.coords t) → (cfg0.win 6).flush t = false := by decide +kernel
/-- This output is left alone at these points. -/
theorem idleAt0_6_B : ∀ t : Fin cfg0.N, ¬cond0_0 (grid0.coords t) → cond0_1 (grid0.coords t) → ¬cond0_2 (grid0.coords t) → cfg0.idle 6 (grid0.coords t) = true := by decide +kernel
/-- This output is not written back at these points. -/
theorem noFlush0_6_B : ∀ t : Fin cfg0.N, ¬cond0_0 (grid0.coords t) → cond0_1 (grid0.coords t) → ¬cond0_2 (grid0.coords t) → (cfg0.win 6).flush t = false := by decide +kernel
/-- This window is stored into, or read, at these points. -/
theorem liveAt0_6_C : ∀ t : Fin cfg0.N, ¬cond0_0 (grid0.coords t) → cond0_1 (grid0.coords t) → cond0_2 (grid0.coords t) → cfg0.idle 6 (grid0.coords t) = false := by decide +kernel

/-- One buffer of this output window, through which its contents are stated. -/
abbrev VO0_2 : View sig .tc .vmem S2048x1024 .f32 := (Memref.whole cc0_stg2_0 : Memref sig .tc .vmem S2048x1024 .f32).view
/-- One buffer of this output window, through which its contents are stated. -/
abbrev VO0_3 : View sig .tc .vmem S1x2048x256 .bf16 := (Memref.whole cc0_stg3_0 : Memref sig .tc .vmem S1x2048x256 .bf16).view
/-- One buffer of this output window, through which its contents are stated. -/
abbrev VO0_4 : View sig .tc .vmem S1x2048x256 .bf16 := (Memref.whole cc0_stg4_0 : Memref sig .tc .vmem S1x2048x256 .bf16).view
/-- One buffer of this output window, through which its contents are stated. -/
abbrev VO0_5 : View sig .tc .vmem S2048x1024 .bf16 := (Memref.whole cc0_stg5_0 : Memref sig .tc .vmem S2048x1024 .bf16).view
/-- One buffer of this output window, through which its contents are stated. -/
abbrev VO0_6 : View sig .tc .vmem S1x128 .f32 := (Memref.whole cc0_stg6_0 : Memref sig .tc .vmem S1x128 .f32).view
/-- The buffer that this window uses at a point. -/
abbrev ms0_0 (t : Fin cfg0.N) : Memref sig .tc .vmem S2048x1024 .bf16 := win0_0.stage (cfg0.slots t 0)
/-- It is a whole buffer. -/
abbrev hs0_0 (t : Fin cfg0.N) : (ms0_0 t).IsWhole := hstage0_0 ((cfg0.slots t 0).cast nbuf0_0)
/-- The buffer that this window uses at a point. -/
abbrev ms0_1 (t : Fin cfg0.N) : Memref sig .tc .vmem S3x256x1024 .bf16 := win0_1.stage (cfg0.slots t 1)
/-- It is a whole buffer. -/
abbrev hs0_1 (t : Fin cfg0.N) : (ms0_1 t).IsWhole := hstage0_1 ((cfg0.slots t 1).cast nbuf0_1)
/-- The buffer that this window uses at a point. -/
abbrev ms0_2 (t : Fin cfg0.N) : Memref sig .tc .vmem S2048x1024 .f32 := win0_2.stage (cfg0.slots t 2)
/-- It is a whole buffer. -/
abbrev hs0_2 (t : Fin cfg0.N) : (ms0_2 t).IsWhole := hstage0_2 ((cfg0.slots t 2).cast nbuf0_2)
/-- The buffer that this window uses at a point. -/
abbrev ms0_3 (t : Fin cfg0.N) : Memref sig .tc .vmem S1x2048x256 .bf16 := win0_3.stage (cfg0.slots t 3)
/-- It is a whole buffer. -/
abbrev hs0_3 (t : Fin cfg0.N) : (ms0_3 t).IsWhole := hstage0_3 ((cfg0.slots t 3).cast nbuf0_3)
/-- The buffer that this window uses at a point. -/
abbrev ms0_4 (t : Fin cfg0.N) : Memref sig .tc .vmem S1x2048x256 .bf16 := win0_4.stage (cfg0.slots t 4)
/-- It is a whole buffer. -/
abbrev hs0_4 (t : Fin cfg0.N) : (ms0_4 t).IsWhole := hstage0_4 ((cfg0.slots t 4).cast nbuf0_4)
/-- The buffer that this window uses at a point. -/
abbrev ms0_5 (t : Fin cfg0.N) : Memref sig .tc .vmem S2048x1024 .bf16 := win0_5.stage (cfg0.slots t 5)
/-- It is a whole buffer. -/
abbrev hs0_5 (t : Fin cfg0.N) : (ms0_5 t).IsWhole := hstage0_5 ((cfg0.slots t 5).cast nbuf0_5)
/-- The buffer that this window uses at a point. -/
abbrev ms0_6 (t : Fin cfg0.N) : Memref sig .tc .vmem S1x128 .f32 := win0_6.stage (cfg0.slots t 6)
/-- It is a whole buffer. -/
abbrev hs0_6 (t : Fin cfg0.N) : (ms0_6 t).IsWhole := hstage0_6 ((cfg0.slots t 6).cast nbuf0_6)
/-- A scratch buffer of the kernel, whole. -/
abbrev scM0_0 : Memref sig .tc .vmem S1024x1024 .f32 := Memref.whole cc0_scratch0
/-- The array the body copies from by itself, whole. -/
abbrev hbM0_0 : Memref sig .tc .hbm S2048x1024 .f32 := Memref.whole main_arg4
/-- The array the body copies from by itself, whole. -/
abbrev hbM0_1 : Memref sig .tc .hbm S2048x1024 .f32 := Memref.whole main_arg5
/-- The contents of such an array's buffer on core `c`. -/
abbrev HbBuf0 (c : Dev nD) {sp : Space} {S : Shape} {e : EltTy} (M : Memref sig .tc sp S e) : Type := Buf (Elt F) (M.view.loc (c : Thread nD τ))
/-- The array held whole, at contents `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The semaphores of the body's own copies. -/
abbrev osem0 : Fin 2 → SemLoc sig := fun j => (![SemLoc.dma 10, SemLoc.dma 11] : Fin 2 → SemLoc sig) j
/-- None of them belongs to a window. -/
theorem ownSemFacts0 : Pipeline.OwnSemFacts spec0 osem0 := by decide
/-- These semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The arrays the body copies from, as references. -/
def H0 : Finset (Ref sig .tc) := {main_arg4, main_arg5}
/-- None of them is a window's array. -/
theorem H0_sub : H0 ⊆ Pipeline.restRefs sig spec0 := by decide
/-- They touch no array that the body copies from. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- These arrays at what the grid finds in them, one by one. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg5)) := by
  rw [BI.bigSep_eq_bigSepL_of_eq [main_arg4, main_arg5] (by decide) (by decide)]; rfl

/-- What holds between grid points: the scratch buffers at any contents, the generator's register at some state, the semaphores at zero and the copied array unchanged. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg4) ∗ hbPt0 c hbM0_1 (V m c main_arg5))) := by
  rw [Pipeline.ΦD_eq, scopedRest0_eq, ownSems00_eq, hbmPts0_eq]; simp only [scM0_0, owns_whole]; try rfl

end Cert.Ffn2FwdIdeal.Body

end
-- ==== Proof.Ffn2FwdIdealRunA.lean ====
/- The body of `ffn2_fwd` at the first grid point. -/
module

public import proofs.«01_k».proof.Proof.Ffn2FwdIdealRuns

@[expose] public section

set_option maxRecDepth 16384

noncomputable section

namespace Cert.Ffn2FwdIdeal.Body

open Cert.Ffn2FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in set_option sl_exec.dmaWindow true in set_option sl_exec.dmaWindowSet true in
/-- The body at the first grid point: the copies of the residual's rows go straight into the output window's buffer, each is waited for before its rows are added to. What each output's buffer ends with is found by running the body. -/
noncomputable def kernelRun0_A (c : Dev nD) (i : grid0.Coords) (arg1 : Memref sig .tc .vmem S2048x1024 .bf16) (harg1 : arg1.IsWhole) (arg2 : Memref sig .tc .vmem S3x256x1024 .bf16) (harg2 : arg2.IsWhole) (arg5 : Memref sig .tc .vmem S2048x1024 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x1024 .bf16) (harg8 : arg8.IsWhole) (arg9 : Memref sig .tc .vmem S1x128 .f32) (harg9 : arg9.IsWhole) (arg10 : Memref sig .tc .vmem S1024x1024 .f32) (harg10 : arg10.IsWhole) (hc0 : cond0_0 i) (hc1 : ¬cond0_1 i) (hc2 : ¬cond0_2 i)
    (x0 : Vec F S2048x1024 .bf16) (x1 : Vec F S3x256x1024 .bf16) (fh0 : HbBuf0 (F := F) c hbM0_0) (fh1 : HbBuf0 (F := F) c hbM0_1) :
    Σ' (L2 : List (View.Piece (Elt F) S2048x1024 .f32)), Σ' (L3 : List (View.Piece (Elt F) S1x2048x256 .bf16)), Σ' (L4 : List (View.Piece (Elt F) S1x2048x256 .bf16)), Σ' (L5 : List (View.Piece (Elt F) S2048x1024 .bf16)), Σ' (L6 : List (View.Piece (Elt F) S1x128 .f32)), { LT0 : List (View.Piece (Elt F) S1024x1024 .f32) //
      ∀ (xi5 : Vec F S2048x1024 .bf16) (xi6 : Vec F S1x128 .f32) (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi5 ∗ owns (c : Thread nD τ) arg9 fullShare xi6 ∗ (∃ d, owns (c : Thread nD τ) arg10 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ owns (c : Thread nD τ) arg8 fullShare xi5 ∗ owns (c : Thread nD τ) arg9 fullShare xi6 ∗ (∃ d, owns (c : Thread nD τ) arg10 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn2_fwd i arg1 harg1 arg2 harg2 (Memref.whole main_arg4) (Memref.isWhole_whole _) (Memref.whole main_arg5) (Memref.isWhole_whole _) arg5 harg5 arg6 harg6 arg7 harg7 arg8 harg8 arg9 harg9 arg10 harg10 cc0_scratch1) K } := by
  refine ⟨?_, ?_, ?_, [], [], [], fun xi5 xi6 W K => ?run⟩
  case run =>
    simp only [cc0_ffn2_fwd_eq_skeleton]; unfold cc0_ffn2_fwd_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%ds0, %fs0, -, HS0⟩, Hq0, Hq1, Hh0, Hh1, HW, Hk⟩
    obtain rfl := harg1.eq_unread hf0; obtain rfl := harg2.eq_unread hf1; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg8.read_unread _
      iexact H5
    isplitl [H6]
    · iexists _; isplitr; · ipureintro; exact harg9.read_unread _
      iexact H6
    isplitl [HS0]
    · iexists _, _; isplitr; swap; · iexact HS0
      ipureintro; rfl
    isplitl [Hq0]; · iexact Hq0
    isplitl [Hq1]; · iexact Hq1
    isplitl [Hh0]; · iexact Hh0
    isplitl [Hh1]; · iexact Hh1
    iexists _; iexact HW

end Cert.Ffn2FwdIdeal.Body

end
-- ==== Proof.Ffn2FwdIdealRunB.lean ====
/- The body of `ffn2_fwd` between the first and the last grid point. -/
module

public import proofs.«01_k».proof.Proof.Ffn2FwdIdealRunA

@[expose] public section

set_option maxRecDepth 16384

noncomputable section

namespace Cert.Ffn2FwdIdeal.Body

open Cert.Ffn2FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body between the first and the last grid point: it adds to what the point before left in the output's buffer. What each output's buffer ends with is found by running the body. -/
noncomputable def kernelRun0_B (c : Dev nD) (i : grid0.Coords) (arg1 : Memref sig .tc .vmem S2048x1024 .bf16) (harg1 : arg1.IsWhole) (arg2 : Memref sig .tc .vmem S3x256x1024 .bf16) (harg2 : arg2.IsWhole) (arg5 : Memref sig .tc .vmem S2048x1024 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x1024 .bf16) (harg8 : arg8.IsWhole) (arg9 : Memref sig .tc .vmem S1x128 .f32) (harg9 : arg9.IsWhole) (arg10 : Memref sig .tc .vmem S1024x1024 .f32) (harg10 : arg10.IsWhole) (hc0 : ¬cond0_0 i) (hc1 : cond0_1 i) (hc2 : ¬cond0_2 i)
    (x0 : Vec F S2048x1024 .bf16) (x1 : Vec F S3x256x1024 .bf16) (xo2 : Vec F S2048x1024 .f32) (fh0 : HbBuf0 (F := F) c hbM0_0) (fh1 : HbBuf0 (F := F) c hbM0_1) :
    Σ' (L2 : List (View.Piece (Elt F) S2048x1024 .f32)), Σ' (L3 : List (View.Piece (Elt F) S1x2048x256 .bf16)), Σ' (L4 : List (View.Piece (Elt F) S1x2048x256 .bf16)), Σ' (L5 : List (View.Piece (Elt F) S2048x1024 .bf16)), Σ' (L6 : List (View.Piece (Elt F) S1x128 .f32)), { LT0 : List (View.Piece (Elt F) S1024x1024 .f32) //
      ∀ (xi5 : Vec F S2048x1024 .bf16) (xi6 : Vec F S1x128 .f32) (W : Waits sig Unit) (K : PUnit → sProp 𝕄),
        iprop(owns (c : Thread nD τ) arg1 fullShare x0 ∗ owns (c : Thread nD τ) arg2 fullShare x1 ∗ owns (c : Thread nD τ) arg5 fullShare xo2 ∗ (∃ d, owns (c : Thread nD τ) arg6 fullShare d) ∗ (∃ d, owns (c : Thread nD τ) arg7 fullShare d) ∗ owns (c : Thread nD τ) arg8 fullShare xi5 ∗ owns (c : Thread nD τ) arg9 fullShare xi6 ∗ (∃ d, owns (c : Thread nD τ) arg10 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ owns (c : Thread nD τ) arg8 fullShare xi5 ∗ owns (c : Thread nD τ) arg9 fullShare xi6 ∗ (∃ d, owns (c : Thread nD τ) arg10 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn2_fwd i arg1 harg1 arg2 harg2 (Memref.whole main_arg4) (Memref.isWhole_whole _) (Memref.whole main_arg5) (Memref.isWhole_whole _) arg5 harg5 arg6 harg6 arg7 harg7 arg8 harg8 arg9 harg9 arg10 harg10 cc0_scratch1) K } := by
  refine ⟨?_, ?_, ?_, [], [], [], fun xi5 xi6 W K => ?run⟩
  case run =>
    simp only [cc0_ffn2_fwd_eq_skeleton]; unfold cc0_ffn2_fwd_skel
    simp only [k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ds0, %fs0, -, HS0⟩, Hq0, Hq1, Hh0, Hh1, HW, Hk⟩
    obtain rfl := harg1.eq_unread hf0; obtain rfl := harg2.eq_unread hf1; obtain rfl := harg5.eq_unread hf2; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]
    · iexists _; isplitr; · ipureintro; exact harg8.read_unread _
      iexact H5
    isplitl [H6]
    · iexists _; isplitr; · ipureintro; exact harg9.read_unread _
      iexact H6
    isplitl [HS0]
    · iexists _, _; isplitr; swap; · iexact HS0
      ipureintro; rfl
    isplitl [Hq0]; · iexact Hq0
    isplitl [Hq1]; · iexact Hq1
    isplitl [Hh0]; · iexact Hh0
    isplitl [Hh1]; · iexact Hh1
    iexists _; iexact HW

end Cert.Ffn2FwdIdeal.Body

end
-- ==== Proof.Ffn2FwdIdealRunC.lean ====
/- The body of `ffn2_fwd` at the last grid point. -/
module

public import proofs.«01_k».proof.Proof.Ffn2FwdIdealRunB

@[expose] public section

set_option maxRecDepth 16384

noncomputable section

namespace Cert.Ffn2FwdIdeal.Body

open Cert.Ffn2FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the last grid point: it adds for the last time, then makes the outputs that need the whole sum. What each output's buffer ends with is found by running the body. -/
noncomputable def kernelRun0_C (c : Dev nD) (i : grid0.Coords) (arg1 : Memref sig .tc .vmem S2048x1024 .bf16) (harg1 : arg1.IsWhole) (arg2 : Memref sig .tc .vmem S3x256x1024 .bf16) (harg2 : arg2.IsWhole) (arg5 : Memref sig .tc .vmem S2048x1024 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x1024 .bf16) (harg8 : arg8.IsWhole) (arg9 : Memref sig .tc .vmem S1x128 .f32) (harg9 : arg9.IsWhole) (arg10 : Memref sig .tc .vmem S1024x1024 .f32) (harg10 : arg10.IsWhole) (hc0 : ¬cond0_0 i) (hc1 : cond0_1 i) (hc2 : cond0_2 i)
    (x0 : Vec F S2048x1024 .bf16) (x1 : Vec F S3x256x1024 .bf16) (xo2 : Vec F S2048x1024 .f32) (fh0 : HbBuf0 (F := F) c hbM0_0) (fh1 : HbBuf0 (F := F) c hbM0_1) :
    Σ' (L2 : List (View.Piece (Elt F) S2048x1024 .f32)), Σ' (L3 : List (View.Piece (Elt F) S1x2048x256 .bf16)), Σ' (L4 : List (View.Piece (Elt F) S1x2048x256 .bf16)), Σ' (L5 : List (View.Piece (Elt F) S2048x1024 .bf16)), Σ' (L6 : List (View.Piece (Elt F) S1x128 .f32)), { LT0 : List (View.Piece (Elt F) S1024x1024 .f32) //
      ∀ (W : Waits sig Unit) (K : PUnit → sProp 𝕄),
        iprop(owns (c : Thread nD τ) arg1 fullShare x0 ∗ owns (c : Thread nD τ) arg2 fullShare x1 ∗ owns (c : Thread nD τ) arg5 fullShare xo2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LT0) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn2_fwd i arg1 harg1 arg2 harg2 (Memref.whole main_arg4) (Memref.isWhole_whole _) (Memref.whole main_arg5) (Memref.isWhole_whole _) arg5 harg5 arg6 harg6 arg7 harg7 arg8 harg8 arg9 harg9 arg10 harg10 cc0_scratch1) K } := by
  refine ⟨?_, ?_, ?_, ?_, ?_, ?_, fun W K => ?run⟩
  case run =>
    simp only [cc0_ffn2_fwd_eq_skeleton]; unfold cc0_ffn2_fwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hq0, Hq1, Hh0, Hh1, HW, Hk⟩
    obtain rfl := harg1.eq_unread hf0; obtain rfl := harg2.eq_unread hf1; obtain rfl := harg5.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexists _; iexact HS0
    isplitl [Hq0]; · iexact Hq0
    isplitl [Hq1]; · iexact Hq1
    isplitl [Hh0]; · iexact Hh0
    isplitl [Hh1]; · iexact Hh1
    iexists _; iexact HW

end Cert.Ffn2FwdIdeal.Body

end
-- ==== Proof.Ffn2FwdIdealFrame.lean ====
/- The frame of `ffn2_fwd`: what the outputs hold after each grid point, the body at every point, and the whole run. -/
module

public import proofs.«01_k».proof.Proof.Ffn2FwdIdealRunC
public import Idealize.ShloMosaic.Lib.Claim

@[expose] public section

set_option maxRecDepth 16384

noncomputable section

namespace Cert.Ffn2FwdIdeal.Body

open Cert.Ffn2FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section caseA

variable (c : Dev nD) (i : grid0.Coords) (a1 : Memref sig .tc .vmem S2048x1024 .bf16) (k1 : a1.IsWhole) (a2 : Memref sig .tc .vmem S3x256x1024 .bf16) (k2 : a2.IsWhole) (a5 : Memref sig .tc .vmem S2048x1024 .f32) (k5 : a5.IsWhole) (a6 : Memref sig .tc .vmem S1x2048x256 .bf16) (k6 : a6.IsWhole) (a7 : Memref sig .tc .vmem S1x2048x256 .bf16) (k7 : a7.IsWhole) (a8 : Memref sig .tc .vmem S2048x1024 .bf16) (k8 : a8.IsWhole) (a9 : Memref sig .tc .vmem S1x128 .f32) (k9 : a9.IsWhole) (a10 : Memref sig .tc .vmem S1024x1024 .f32) (k10 : a10.IsWhole) (hc0 : cond0_0 i) (hc1 : ¬cond0_1 i) (hc2 : ¬cond0_2 i)
    (x0 : Vec F S2048x1024 .bf16) (x1 : Vec F S3x256x1024 .bf16) (fh0 : HbBuf0 (F := F) c hbM0_0) (fh1 : HbBuf0 (F := F) c hbM0_1)

/-- The stores into this output at these points cover its block. -/
theorem cover0_A_2 (y : S2048x1024.Idx) :
    ∃ pc ∈ (kernelRun0_A c i a1 k1 a2 k2 a5 k5 a6 k6 a7 k7 a8 k8 a9 k9 a10 k10 hc0 hc1 hc2 x0 x1 fh0 fh1).1, y ∈ pc.1.set :=
  View.cover_of_tiledL (kernelRun0_A c i a1 k1 a2 k2 a5 k5 a6 k6 a7 k7 a8 k8 a9 k9 a10 k10 hc0 hc1 hc2 x0 x1 fh0 fh1).1 S1024x1024.size (by sl_kernel_rfl) y

/-- What the body leaves in this output's buffer at these points: its stores, read back. -/
def out0_A_2 : Vec F S2048x1024 .f32 :=
  VO0_2.read (Elt F) (VO0_2.writes (Elt F) VO0_2.junk (kernelRun0_A c i a1 k1 a2 k2 a5 k5 a6 k6 a7 k7 a8 k8 a9 k9 a10 k10 hc0 hc1 hc2 x0 x1 fh0 fh1).1)

/-- The stores into this output at these points cover its block. -/
theorem cover0_A_3 (y : S1x2048x256.Idx) :
    ∃ pc ∈ (kernelRun0_A c i a1 k1 a2 k2 a5 k5 a6 k6 a7 k7 a8 k8 a9 k9 a10 k10 hc0 hc1 hc2 x0 x1 fh0 fh1).2.1, y ∈ pc.1.set :=
  View.cover_of_tiledL (kernelRun0_A c i a1 k1 a2 k2 a5 k5 a6 k6 a7 k7 a8 k8 a9 k9 a10 k10 hc0 hc1 hc2 x0 x1 fh0 fh1).2.1 S1x1024x256.size (by sl_kernel_rfl) y

/-- What the body leaves in this output's buffer at these points: its stores, read back. -/
def out0_A_3 : Vec F S1x2048x256 .bf16 :=
  VO0_3.read (Elt F) (VO0_3.writes (Elt F) VO0_3.junk (kernelRun0_A c i a1 k1 a2 k2 a5 k5 a6 k6 a7 k7 a8 k8 a9 k9 a10 k10 hc0 hc1 hc2 x0 x1 fh0 fh1).2.1)

/-- The stores into this output at these points cover its block. -/
theorem cover0_A_4 (y : S1x2048x256.Idx) :
    ∃ pc ∈ (kernelRun0_A c i a1 k1 a2 k2 a5 k5 a6 k6 a7 k7 a8 k8 a9 k9 a10 k10 hc0 hc1 hc2 x0 x1 fh0 fh1).2.2.1, y ∈ pc.1.set :=
  View.cover_of_tiledL (kernelRun0_A c i a1 k1 a2 k2 a5 k5 a6 k6 a7 k7 a8 k8 a9 k9 a10 k10 hc0 hc1 hc2 x0 x1 fh0 fh1).2.2.1 S1x1024x256.size (by sl_kernel_rfl) y

/-- What the body leaves in this output's buffer at these points: its stores, read back. -/
def out0_A_4 : Vec F S1x2048x256 .bf16 :=
  VO0_4.read (Elt F) (VO0_4.writes (Elt F) VO0_4.junk (kernelRun0_A c i a1 k1 a2 k2 a5 k5 a6 k6 a7 k7 a8 k8 a9 k9 a10 k10 hc0 hc1 hc2 x0 x1 fh0 fh1).2.2.1)

/-- What the body leaves in this output's buffer at these points: its stores, read back. -/
def out0_A_5 : Vec F S2048x1024 .bf16 :=
  VO0_5.read (Elt F) (VO0_5.writes (Elt F) VO0_5.junk (kernelRun0_A c i a1 k1 a2 k2 a5 k5 a6 k6 a7 k7 a8 k8 a9 k9 a10 k10 hc0 hc1 hc2 x0 x1 fh0 fh1).2.2.2.1)

/-- What the body leaves in this output's buffer at these points: its stores, read back. -/
def out0_A_6 : Vec F S1x128 .f32 :=
  VO0_6.read (Elt F) (VO0_6.writes (Elt F) VO0_6.junk (kernelRun0_A c i a1 k1 a2 k2 a5 k5 a6 k6 a7 k7 a8 k8 a9 k9 a10 k10 hc0 hc1 hc2 x0 x1 fh0 fh1).2.2.2.2.1)

end caseA

section caseB

variable (c : Dev nD) (i : grid0.Coords) (a1 : Memref sig .tc .vmem S2048x1024 .bf16) (k1 : a1.IsWhole) (a2 : Memref sig .tc .vmem S3x256x1024 .bf16) (k2 : a2.IsWhole) (a5 : Memref sig .tc .vmem S2048x1024 .f32) (k5 : a5.IsWhole) (a6 : Memref sig .tc .vmem S1x2048x256 .bf16) (k6 : a6.IsWhole) (a7 : Memref sig .tc .vmem S1x2048x256 .bf16) (k7 : a7.IsWhole) (a8 : Memref sig .tc .vmem S2048x1024 .bf16) (k8 : a8.IsWhole) (a9 : Memref sig .tc .vmem S1x128 .f32) (k9 : a9.IsWhole) (a10 : Memref sig .tc .vmem S1024x1024 .f32) (k10 : a10.IsWhole) (hc0 : ¬cond0_0 i) (hc1 : cond0_1 i) (hc2 : ¬cond0_2 i)
    (x0 : Vec F S2048x1024 .bf16) (x1 : Vec F S3x256x1024 .bf16) (xo2 : Vec F S2048x1024 .f32) (fh0 : HbBuf0 (F := F) c hbM0_0) (fh1 : HbBuf0 (F := F) c hbM0_1)

/-- The stores into this output at these points cover its block. -/
theorem cover0_B_2 (y : S2048x1024.Idx) :
    ∃ pc ∈ (kernelRun0_B c i a1 k1 a2 k2 a5 k5 a6 k6 a7 k7 a8 k8 a9 k9 a10 k10 hc0 hc1 hc2 x0 x1 xo2 fh0 fh1).1, y ∈ pc.1.set :=
  View.cover_of_tiledL (kernelRun0_B c i a1 k1 a2 k2 a5 k5 a6 k6 a7 k7 a8 k8 a9 k9 a10 k10 hc0 hc1 hc2 x0 x1 xo2 fh0 fh1).1 S1024x1024.size (by sl_kernel_rfl) y

/-- What the body leaves in this output's buffer at these points: its stores, read back. -/
def out0_B_2 : Vec F S2048x1024 .f32 :=
  VO0_2.read (Elt F) (VO0_2.writes (Elt F) VO0_2.junk (kernelRun0_B c i a1 k1 a2 k2 a5 k5 a6 k6 a7 k7 a8 k8 a9 k9 a10 k10 hc0 hc1 hc2 x0 x1 xo2 fh0 fh1).1)

/-- The stores into this output at these points cover its block. -/
theorem cover0_B_3 (y : S1x2048x256.Idx) :
    ∃ pc ∈ (kernelRun0_B c i a1 k1 a2 k2 a5 k5 a6 k6 a7 k7 a8 k8 a9 k9 a10 k10 hc0 hc1 hc2 x0 x1 xo2 fh0 fh1).2.1, y ∈ pc.1.set :=
  View.cover_of_tiledL (kernelRun0_B c i a1 k1 a2 k2 a5 k5 a6 k6 a7 k7 a8 k8 a9 k9 a10 k10 hc0 hc1 hc2 x0 x1 xo2 fh0 fh1).2.1 S1x1024x256.size (by sl_kernel_rfl) y

/-- What the body leaves in this output's buffer at these points: its stores, read back. -/
def out0_B_3 : Vec F S1x2048x256 .bf16 :=
  VO0_3.read (Elt F) (VO0_3.writes (Elt F) VO0_3.junk (kernelRun0_B c i a1 k1 a2 k2 a5 k5 a6 k6 a7 k7 a8 k8 a9 k9 a10 k10 hc0 hc1 hc2 x0 x1 xo2 fh0 fh1).2.1)

/-- The stores into this output at these points cover its block. -/
theorem cover0_B_4 (y : S1x2048x256.Idx) :
    ∃ pc ∈ (kernelRun0_B c i a1 k1 a2 k2 a5 k5 a6 k6 a7 k7 a8 k8 a9 k9 a10 k10 hc0 hc1 hc2 x0 x1 xo2 fh0 fh1).2.2.1, y ∈ pc.1.set :=
  View.cover_of_tiledL (kernelRun0_B c i a1 k1 a2 k2 a5 k5 a6 k6 a7 k7 a8 k8 a9 k9 a10 k10 hc0 hc1 hc2 x0 x1 xo2 fh0 fh1).2.2.1 S1x1024x256.size (by sl_kernel_rfl) y

/-- What the body leaves in this output's buffer at these points: its stores, read back. -/
def out0_B_4 : Vec F S1x2048x256 .bf16 :=
  VO0_4.read (Elt F) (VO0_4.writes (Elt F) VO0_4.junk (kernelRun0_B c i a1 k1 a2 k2 a5 k5 a6 k6 a7 k7 a8 k8 a9 k9 a10 k10 hc0 hc1 hc2 x0 x1 xo2 fh0 fh1).2.2.1)

/-- What the body leaves in this output's buffer at these points: its stores, read back. -/
def out0_B_5 : Vec F S2048x1024 .bf16 :=
  VO0_5.read (Elt F) (VO0_5.writes (Elt F) VO0_5.junk (kernelRun0_B c i a1 k1 a2 k2 a5 k5 a6 k6 a7 k7 a8 k8 a9 k9 a10 k10 hc0 hc1 hc2 x0 x1 xo2 fh0 fh1).2.2.2.1)

/-- What the body leaves in this output's buffer at these points: its stores, read back. -/
def out0_B_6 : Vec F S1x128 .f32 :=
  VO0_6.read (Elt F) (VO0_6.writes (Elt F) VO0_6.junk (kernelRun0_B c i a1 k1 a2 k2 a5 k5 a6 k6 a7 k7 a8 k8 a9 k9 a10 k10 hc0 hc1 hc2 x0 x1 xo2 fh0 fh1).2.2.2.2.1)

end caseB

section caseC

variable (c : Dev nD) (i : grid0.Coords) (a1 : Memref sig .tc .vmem S2048x1024 .bf16) (k1 : a1.IsWhole) (a2 : Memref sig .tc .vmem S3x256x1024 .bf16) (k2 : a2.IsWhole) (a5 : Memref sig .tc .vmem S2048x1024 .f32) (k5 : a5.IsWhole) (a6 : Memref sig .tc .vmem S1x2048x256 .bf16) (k6 : a6.IsWhole) (a7 : Memref sig .tc .vmem S1x2048x256 .bf16) (k7 : a7.IsWhole) (a8 : Memref sig .tc .vmem S2048x1024 .bf16) (k8 : a8.IsWhole) (a9 : Memref sig .tc .vmem S1x128 .f32) (k9 : a9.IsWhole) (a10 : Memref sig .tc .vmem S1024x1024 .f32) (k10 : a10.IsWhole) (hc0 : ¬cond0_0 i) (hc1 : cond0_1 i) (hc2 : cond0_2 i)
    (x0 : Vec F S2048x1024 .bf16) (x1 : Vec F S3x256x1024 .bf16) (xo2 : Vec F S2048x1024 .f32) (fh0 : HbBuf0 (F := F) c hbM0_0) (fh1 : HbBuf0 (F := F) c hbM0_1)

/-- The stores into this output at these points cover its block. -/
theorem cover0_C_2 (y : S2048x1024.Idx) :
    ∃ pc ∈ (kernelRun0_C c i a1 k1 a2 k2 a5 k5 a6 k6 a7 k7 a8 k8 a9 k9 a10 k10 hc0 hc1 hc2 x0 x1 xo2 fh0 fh1).1, y ∈ pc.1.set :=
  View.cover_of_tiledL (kernelRun0_C c i a1 k1 a2 k2 a5 k5 a6 k6 a7 k7 a8 k8 a9 k9 a10 k10 hc0 hc1 hc2 x0 x1 xo2 fh0 fh1).1 S1024x1024.size (by sl_kernel_rfl) y

/-- What the body leaves in this output's buffer at these points: its stores, read back. -/
def out0_C_2 : Vec F S2048x1024 .f32 :=
  VO0_2.read (Elt F) (VO0_2.writes (Elt F) VO0_2.junk (kernelRun0_C c i a1 k1 a2 k2 a5 k5 a6 k6 a7 k7 a8 k8 a9 k9 a10 k10 hc0 hc1 hc2 x0 x1 xo2 fh0 fh1).1)

/-- The stores into this output at these points cover its block. -/
theorem cover0_C_3 (y : S1x2048x256.Idx) :
    ∃ pc ∈ (kernelRun0_C c i a1 k1 a2 k2 a5 k5 a6 k6 a7 k7 a8 k8 a9 k9 a10 k10 hc0 hc1 hc2 x0 x1 xo2 fh0 fh1).2.1, y ∈ pc.1.set :=
  View.cover_of_tiledL (kernelRun0_C c i a1 k1 a2 k2 a5 k5 a6 k6 a7 k7 a8 k8 a9 k9 a10 k10 hc0 hc1 hc2 x0 x1 xo2 fh0 fh1).2.1 S1x1024x256.size (by sl_kernel_rfl) y

/-- What the body leaves in this output's buffer at these points: its stores, read back. -/
def out0_C_3 : Vec F S1x2048x256 .bf16 :=
  VO0_3.read (Elt F) (VO0_3.writes (Elt F) VO0_3.junk (kernelRun0_C c i a1 k1 a2 k2 a5 k5 a6 k6 a7 k7 a8 k8 a9 k9 a10 k10 hc0 hc1 hc2 x0 x1 xo2 fh0 fh1).2.1)

/-- The stores into this output at these points cover its block. -/
theorem cover0_C_4 (y : S1x2048x256.Idx) :
    ∃ pc ∈ (kernelRun0_C c i a1 k1 a2 k2 a5 k5 a6 k6 a7 k7 a8 k8 a9 k9 a10 k10 hc0 hc1 hc2 x0 x1 xo2 fh0 fh1).2.2.1, y ∈ pc.1.set :=
  View.cover_of_tiledL (kernelRun0_C c i a1 k1 a2 k2 a5 k5 a6 k6 a7 k7 a8 k8 a9 k9 a10 k10 hc0 hc1 hc2 x0 x1 xo2 fh0 fh1).2.2.1 S1x1024x256.size (by sl_kernel_rfl) y

/-- What the body leaves in this output's buffer at these points: its stores, read back. -/
def out0_C_4 : Vec F S1x2048x256 .bf16 :=
  VO0_4.read (Elt F) (VO0_4.writes (Elt F) VO0_4.junk (kernelRun0_C c i a1 k1 a2 k2 a5 k5 a6 k6 a7 k7 a8 k8 a9 k9 a10 k10 hc0 hc1 hc2 x0 x1 xo2 fh0 fh1).2.2.1)

/-- The stores into this output at these points cover its block. -/
theorem cover0_C_5 (y : S2048x1024.Idx) :
    ∃ pc ∈ (kernelRun0_C c i a1 k1 a2 k2 a5 k5 a6 k6 a7 k7 a8 k8 a9 k9 a10 k10 hc0 hc1 hc2 x0 x1 xo2 fh0 fh1).2.2.2.1, y ∈ pc.1.set :=
  View.cover_of_tiledL (kernelRun0_C c i a1 k1 a2 k2 a5 k5 a6 k6 a7 k7 a8 k8 a9 k9 a10 k10 hc0 hc1 hc2 x0 x1 xo2 fh0 fh1).2.2.2.1 S1024x1024.size (by sl_kernel_rfl) y

/-- What the body leaves in this output's buffer at these points: its stores, read back. -/
def out0_C_5 : Vec F S2048x1024 .bf16 :=
  VO0_5.read (Elt F) (VO0_5.writes (Elt F) VO0_5.junk (kernelRun0_C c i a1 k1 a2 k2 a5 k5 a6 k6 a7 k7 a8 k8 a9 k9 a10 k10 hc0 hc1 hc2 x0 x1 xo2 fh0 fh1).2.2.2.1)

/-- The stores into this output at these points cover its block. -/
theorem cover0_C_6 (y : S1x128.Idx) :
    ∃ pc ∈ (kernelRun0_C c i a1 k1 a2 k2 a5 k5 a6 k6 a7 k7 a8 k8 a9 k9 a10 k10 hc0 hc1 hc2 x0 x1 xo2 fh0 fh1).2.2.2.2.1, y ∈ pc.1.set :=
  View.cover_of_tiledL (kernelRun0_C c i a1 k1 a2 k2 a5 k5 a6 k6 a7 k7 a8 k8 a9 k9 a10 k10 hc0 hc1 hc2 x0 x1 xo2 fh0 fh1).2.2.2.2.1 S1x128.size (by sl_kernel_rfl) y

/-- What the body leaves in this output's buffer at these points: its stores, read back. -/
def out0_C_6 : Vec F S1x128 .f32 :=
  VO0_6.read (Elt F) (VO0_6.writes (Elt F) VO0_6.junk (kernelRun0_C c i a1 k1 a2 k2 a5 k5 a6 k6 a7 k7 a8 k8 a9 k9 a10 k10 hc0 hc1 hc2 x0 x1 xo2 fh0 fh1).2.2.2.2.1)

end caseC

/-- What the outputs' buffers hold after a point of this case. -/
def atA (c : Dev nD) (t : Fin cfg0.N) (hc0 : cond0_0 (grid0.coords t)) (hc1 : ¬cond0_1 (grid0.coords t)) (hc2 : ¬cond0_2 (grid0.coords t)) :
    Vec F S2048x1024 .f32 × Vec F S1x2048x256 .bf16 × Vec F S1x2048x256 .bf16 × Vec F S2048x1024 .bf16 × Vec F S1x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) (V m c main_arg4) (V m c main_arg5),
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) (V m c main_arg4) (V m c main_arg5),
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) (V m c main_arg4) (V m c main_arg5),
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) (V m c main_arg4) (V m c main_arg5),
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) (V m c main_arg4) (V m c main_arg5))

/-- What the outputs' buffers hold after a point of this case. -/
def atB (c : Dev nD) (t : Fin cfg0.N) (hc0 : ¬cond0_0 (grid0.coords t)) (hc1 : cond0_1 (grid0.coords t)) (hc2 : ¬cond0_2 (grid0.coords t)) (p : Vec F S2048x1024 .f32) :
    Vec F S2048x1024 .f32 × Vec F S1x2048x256 .bf16 × Vec F S1x2048x256 .bf16 × Vec F S2048x1024 .bf16 × Vec F S1x128 .f32 :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5))

/-- What the outputs' buffers hold after a point of this case. -/
def atC (c : Dev nD) (t : Fin cfg0.N) (hc0 : ¬cond0_0 (grid0.coords t)) (hc1 : cond0_1 (grid0.coords t)) (hc2 : cond0_2 (grid0.coords t)) (p : Vec F S2048x1024 .f32) :
    Vec F S2048x1024 .f32 × Vec F S1x2048x256 .bf16 × Vec F S1x2048x256 .bf16 × Vec F S2048x1024 .bf16 × Vec F S1x128 .f32 :=
  (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5),
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 hc2 (iblk m c 0 t) (iblk m c 1 t) p (V m c main_arg4) (V m c main_arg5))

/-- What the outputs' buffers hold after each point: what the body leaves there, over what the point before left. -/
def outsAt0 (c : Dev nD) : (n : ℕ) → n < cfg0.N → Vec F S2048x1024 .f32 × Vec F S1x2048x256 .bf16 × Vec F S1x2048x256 .bf16 × Vec F S2048x1024 .bf16 × Vec F S1x128 .f32
  | 0, hn => atA m c ⟨0, hn⟩ ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h))
  | n + 1, hn =>
    if h0 : (n + 1) % 11 = 0 then
      if h1 : 1 ≤ (n + 1) then
        False.elim (by have hN : n + 1 < 11 := lt_of_lt_of_eq hn (show cfg0.N = 11 from N_0); omega)
      else
        if h2 : (n + 1) % 11 = 10 then
          False.elim (by have hN : n + 1 < 11 := lt_of_lt_of_eq hn (show cfg0.N = 11 from N_0); omega)
        else
          atA m c ⟨n + 1, hn⟩ ((hcond0_0 ⟨n + 1, hn⟩).mpr h0) (fun h => h1 ((hcond0_1 ⟨n + 1, hn⟩).mp h)) (fun h => h2 ((hcond0_2 ⟨n + 1, hn⟩).mp h))
    else
      if h1 : 1 ≤ (n + 1) then
        if h2 : (n + 1) % 11 = 10 then
          atC m c ⟨n + 1, hn⟩ (fun h => h0 ((hcond0_0 ⟨n + 1, hn⟩).mp h)) ((hcond0_1 ⟨n + 1, hn⟩).mpr h1) ((hcond0_2 ⟨n + 1, hn⟩).mpr h2) (outsAt0 c n (Nat.lt_of_succ_lt hn)).1
        else
          atB m c ⟨n + 1, hn⟩ (fun h => h0 ((hcond0_0 ⟨n + 1, hn⟩).mp h)) ((hcond0_1 ⟨n + 1, hn⟩).mpr h1) (fun h => h2 ((hcond0_2 ⟨n + 1, hn⟩).mp h)) (outsAt0 c n (Nat.lt_of_succ_lt hn)).1
      else
        False.elim (by have hN : n + 1 < 11 := lt_of_lt_of_eq hn (show cfg0.N = 11 from N_0); omega)

/-- The same at a point of this case. -/
theorem outsAt0_A (c : Dev nD) (t : Fin cfg0.N) (h0 : t.val % 11 = 0) (h1 : ¬1 ≤ t.val) (h2 : ¬t.val % 11 = 10) :
    outsAt0 m c t.val t.isLt = atA m c t ((hcond0_0 t).mpr h0) (fun h => h1 ((hcond0_1 t).mp h)) (fun h => h2 ((hcond0_2 t).mp h)) := by
  obtain ⟨n, hn⟩ := t
  cases n with
  | zero => exact rfl
  | succ n => exact (dif_pos h0).trans ((dif_neg h1).trans ((dif_neg h2).trans rfl))

/-- The same at a point of this case. -/
theorem outsAt0_B (c : Dev nD) (t : Fin cfg0.N) (h0 : ¬t.val % 11 = 0) (h1 : 1 ≤ t.val) (h2 : ¬t.val % 11 = 10) :
    outsAt0 m c t.val t.isLt = atB m c t (fun h => h0 ((hcond0_0 t).mp h)) ((hcond0_1 t).mpr h1) (fun h => h2 ((hcond0_2 t).mp h)) (outsAt0 m c (t.val - 1) (Nat.lt_of_le_of_lt (Nat.sub_le _ _) t.isLt)).1 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The same at a point of this case. -/
theorem outsAt0_C (c : Dev nD) (t : Fin cfg0.N) (h0 : ¬t.val % 11 = 0) (h1 : 1 ≤ t.val) (h2 : t.val % 11 = 10) :
    outsAt0 m c t.val t.isLt = atC m c t (fun h => h0 ((hcond0_0 t).mp h)) ((hcond0_1 t).mpr h1) ((hcond0_2 t).mpr h2) (outsAt0 m c (t.val - 1) (Nat.lt_of_le_of_lt (Nat.sub_le _ _) t.isLt)).1 := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The data of the pipeline's proof: the arrays as the grid finds them, and what each window's buffer holds after the body at each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2
  Φ _ := Pipeline.ΦD osem0 spec0 H0 (V m) c
  q _ := fullShare
  owed _ := 0

/-- The arrays are those that the grid finds. -/
theorem A_eq (c : Dev nD) (w : Fin cfg0.W) : (dats m 0 c).A w = V m c (Pipeline.arrRef spec0 w) := by
  dsimp only [dats]

/-- What this window's buffer holds after the body at a point. -/
theorem after0_0 (c : Dev nD) (t : Fin cfg0.N) : (dats m 0 c).after 0 t = iblk m c 0 t := by dsimp only [dats]
/-- What this window's buffer holds after the body at a point. -/
theorem after0_1 (c : Dev nD) (t : Fin cfg0.N) : (dats m 0 c).after 1 t = iblk m c 1 t := by dsimp only [dats]
/-- What this window's buffer holds after the body at a point. -/
theorem after0_2 (c : Dev nD) (t : Fin cfg0.N) : (dats m 0 c).after 2 t = (outsAt0 m c t.val t.isLt).1 := by dsimp only [dats]
/-- What this window's buffer holds after the body at a point. -/
theorem after0_3 (c : Dev nD) (t : Fin cfg0.N) : (dats m 0 c).after 3 t = (outsAt0 m c t.val t.isLt).2.1 := by dsimp only [dats]
/-- What this window's buffer holds after the body at a point. -/
theorem after0_4 (c : Dev nD) (t : Fin cfg0.N) : (dats m 0 c).after 4 t = (outsAt0 m c t.val t.isLt).2.2.1 := by dsimp only [dats]
/-- What this window's buffer holds after the body at a point. -/
theorem after0_5 (c : Dev nD) (t : Fin cfg0.N) : (dats m 0 c).after 5 t = (outsAt0 m c t.val t.isLt).2.2.2.1 := by dsimp only [dats]
/-- What this window's buffer holds after the body at a point. -/
theorem after0_6 (c : Dev nD) (t : Fin cfg0.N) : (dats m 0 c).after 6 t = (outsAt0 m c t.val t.isLt).2.2.2.2 := by dsimp only [dats]

/-- The buffer of this input window holds its block before the body. -/
theorem before0_0 (c : Dev nD) (t : Fin cfg0.N) (d) : (dats m 0 c).before 0 t d = iblk m c 0 t :=
  before0_0_of m (dats m 0 c) (A_eq m c 0) (after0_0 m c) t d
/-- The buffer of this input window holds its block before the body. -/
theorem before0_1 (c : Dev nD) (t : Fin cfg0.N) (d) : (dats m 0 c).before 1 t d = iblk m c 1 t :=
  before0_1_of m (dats m 0 c) (A_eq m c 1) (after0_1 m c) t d

/-- An output that a point leaves alone keeps what the point before left. -/
theorem hcarry0_2 (c : Dev nD) : ∀ (t : Fin cfg0.N) (_ : t.val ≠ 0), cfg0.idle 2 (grid0.coords t) = true → cfg0.fresh 2 t.val = false →
    (dats m 0 c).after 2 t = (dats m 0 c).after 2 ⟨t.val - 1, by omega⟩ := by
  intro t _ hi _
  have hN : t.val < 11 := lt_of_lt_of_eq t.isLt (show cfg0.N = 11 from N_0)
  rw [after0_2, after0_2]
  by_cases h0 : t.val % 11 = 0
  · by_cases h1 : 1 ≤ t.val
    · exfalso; omega
    · by_cases h2 : t.val % 11 = 10
      · exfalso; omega
      · rw [liveAt0_2_A t ((hcond0_0 t).mpr h0) (fun h => h1 ((hcond0_1 t).mp h)) (fun h => h2 ((hcond0_2 t).mp h))] at hi
        exact absurd hi Bool.false_ne_true
  · by_cases h1 : 1 ≤ t.val
    · by_cases h2 : t.val % 11 = 10
      · rw [liveAt0_2_C t (fun h => h0 ((hcond0_0 t).mp h)) ((hcond0_1 t).mpr h1) ((hcond0_2 t).mpr h2)] at hi
        exact absurd hi Bool.false_ne_true
      · rw [liveAt0_2_B t (fun h => h0 ((hcond0_0 t).mp h)) ((hcond0_1 t).mpr h1) (fun h => h2 ((hcond0_2 t).mp h))] at hi
        exact absurd hi Bool.false_ne_true
    · exfalso; omega
/-- The buffer of this output holds what the point before left. -/
theorem before0_2_B (c : Dev nD) (t : Fin cfg0.N) (h0 : ¬t.val % 11 = 0) (h1 : 1 ≤ t.val) (h2 : ¬t.val % 11 = 10) (d) :
    (dats m 0 c).before 2 t d = (outsAt0 m c (t.val - 1) (Nat.lt_of_le_of_lt (Nat.sub_le _ _) t.isLt)).1 := by
  rw [Dat.before_out_traj _ 2 rfl (fun _ _ => rfl) (hcarry0_2 m c) t.val t rfl d,
    if_neg (by rw [notFresh0_2_B t (fun h => h0 ((hcond0_0 t).mp h)) ((hcond0_1 t).mpr h1) (fun h => h2 ((hcond0_2 t).mp h))]; exact Bool.false_ne_true)]
  dsimp only [dats]
/-- The buffer of this output holds what the point before left. -/
theorem before0_2_C (c : Dev nD) (t : Fin cfg0.N) (h0 : ¬t.val % 11 = 0) (h1 : 1 ≤ t.val) (h2 : t.val % 11 = 10) (d) :
    (dats m 0 c).before 2 t d = (outsAt0 m c (t.val - 1) (Nat.lt_of_le_of_lt (Nat.sub_le _ _) t.isLt)).1 := by
  rw [Dat.before_out_traj _ 2 rfl (fun _ _ => rfl) (hcarry0_2 m c) t.val t rfl d,
    if_neg (by rw [notFresh0_2_C t (fun h => h0 ((hcond0_0 t).mp h)) ((hcond0_1 t).mpr h1) ((hcond0_2 t).mpr h2)]; exact Bool.false_ne_true)]
  dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body is correct at every point: the conditions say which of the three cases the point is, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 11 := lt_of_lt_of_eq t.isLt (show cfg0.N = 11 from N_0)
  by_cases h0 : t.val % 11 = 0
  · by_cases h1 : 1 ≤ t.val
    · exfalso; omega
    · by_cases h2 : t.val % 11 = 10
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2_A t ((hcond0_0 t).mpr h0) (fun h => h1 ((hcond0_1 t).mp h)) (fun h => h2 ((hcond0_2 t).mp h))], after0_2]
        rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h)) (fun h => h2 ((hcond0_2 t).mp h))], after0_3]
        rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h)) (fun h => h2 ((hcond0_2 t).mp h))], after0_4]
        rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        rw [outsAt0_A m c t h0 h1 h2]
        unfold atA out0_A_2 out0_A_3 out0_A_4; (try dsimp only)
        iintro ⟨⟨HS0, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (fun h => h2 ((hcond0_2 t).mp h)) (iblk m c 0 t) (iblk m c 1 t) (V m c main_arg4) (V m c main_arg5)).2.2.2.2.2.2 _ _ W _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [H6]; · iexact H6
        isplitl [HS0]; · iexact HS0
        isplitl [Hq0]; · iexact Hq0
        isplitl [Hq1]; · iexact Hq1
        isplitl [Hh0]; · iexact Hh0
        isplitl [Hh1]; · iexact Hh1
        isplitl [HW]; · iexact HW
        iintro ⟨H0, H1, ⟨%e2, H2⟩, ⟨%e3, H3⟩, ⟨%e4, H4⟩, H5, H6, HS0, Hq0, Hq1, Hh0, Hh1, ⟨%W', HW'⟩⟩
        isplitl [HS0 Hg Hq0 Hq1 Hh0 Hh1]
        · isplitl [HS0]
          · iexact HS0
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _)
        isplitl [H5]; · iexists _; iexact H5
        iexists _; iexact H6
  · by_cases h1 : 1 ≤ t.val
    · by_cases h2 : t.val % 11 = 10
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1) ((hcond0_2 t).mpr h2)], after0_2]
        rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1) ((hcond0_2 t).mpr h2)], after0_3]
        rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1) ((hcond0_2 t).mpr h2)], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) ((hcond0_2 t).mpr h2)], after0_6]
        rw [outsAt0_C m c t h0 h1 h2]
        simp only [before0_2_C m c t h0 h1 h2]
        unfold atC out0_C_2 out0_C_3 out0_C_4 out0_C_5 out0_C_6; (try dsimp only)
        iintro ⟨⟨HS0, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) ((hcond0_2 t).mpr h2) (iblk m c 0 t) (iblk m c 1 t) _ (V m c main_arg4) (V m c main_arg5)).2.2.2.2.2.2 W _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [HS0]; · iexact HS0
        isplitl [Hq0]; · iexact Hq0
        isplitl [Hq1]; · iexact Hq1
        isplitl [Hh0]; · iexact Hh0
        isplitl [Hh1]; · iexact Hh1
        isplitl [HW]; · iexact HW
        iintro ⟨H0, H1, ⟨%e2, H2⟩, ⟨%e3, H3⟩, ⟨%e4, H4⟩, ⟨%e5, H5⟩, ⟨%e6, H6⟩, ⟨%fT0, HS0⟩, Hq0, Hq1, Hh0, Hh1, ⟨%W', HW'⟩⟩
        isplitl [HS0 Hg Hq0 Hq1 Hh0 Hh1]
        · isplitl [HS0]
          · iexists _; unfold owns; iexists _; isplitr
            swap; · iexact HS0
            ipureintro; rfl
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1) (fun h => h2 ((hcond0_2 t).mp h))], after0_2]
        rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1) (fun h => h2 ((hcond0_2 t).mp h))], after0_3]
        rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h))], after0_4]
        rw [Dat.leavesExact_idle (dats m 0 c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [outsAt0_B m c t h0 h1 h2]
        simp only [before0_2_B m c t h0 h1 h2]
        unfold atB out0_B_2 out0_B_3 out0_B_4; (try dsimp only)
        iintro ⟨⟨HS0, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) _ (V m c main_arg4) (V m c main_arg5)).2.2.2.2.2.2 _ _ W _)
        isplitl [H0]; · iexact H0
        isplitl [H1]; · iexact H1
        isplitl [H2]; · iexact H2
        isplitl [H3]; · iexists _; iexact H3
        isplitl [H4]; · iexists _; iexact H4
        isplitl [H5]; · iexact H5
        isplitl [H6]; · iexact H6
        isplitl [HS0]; · iexact HS0
        isplitl [Hq0]; · iexact Hq0
        isplitl [Hq1]; · iexact Hq1
        isplitl [Hh0]; · iexact Hh0
        isplitl [Hh1]; · iexact Hh1
        isplitl [HW]; · iexact HW
        iintro ⟨H0, H1, ⟨%e2, H2⟩, ⟨%e3, H3⟩, ⟨%e4, H4⟩, H5, H6, HS0, Hq0, Hq1, Hh0, Hh1, ⟨%W', HW'⟩⟩
        isplitl [HS0 Hg Hq0 Hq1 Hh0 Hh1]
        · isplitl [HS0]
          · iexact HS0
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _)
        isplitl [H5]; · iexists _; iexact H5
        iexists _; iexact H6
    · exfalso; omega

/-- The body called at a point is the kernel on that point's buffers. -/
theorem defs₀_row (t : Fin cfg0.N) :
    defs₀ (F := F) .tc cfg0.body (cfg0.bodyArgs t (cfg0.slots t)) = bodyAt0 t := by
  unfold defs₀; rw [Defs.onTc_tc]

/-- The body is correct, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run of the program ends with the arrays as the pipeline leaves them and with every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, the argument arrays are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Ffn2FwdIdeal.Body

end
-- ==== Proof.FfnFwdFrames.lean ====
module
public import proofs.«01_k».proof.Defs
public import proofs.«01_k».proof.Proof.Gen.Ffn1Fwd
public import proofs.«01_k».proof.Proof.Gen.Ffn2Fwd
public import proofs.«01_k».proof.Proof.Ffn1FwdIdealFrame
public import proofs.«01_k».proof.Proof.Ffn2FwdIdealFrame

/-! The frames of the two forward kernels as printed.  Printed and idealised kernel have the same text, and the idealised one's run
is stated over any floats: at machine floats it is the printed one's. -/

@[expose] public section
set_option maxRecDepth 16384
noncomputable section
namespace Cert.FfnFwdFrames
open Idealize.ShloMosaic Idealize.ShloMosaic.TcCoe Idealize.SL.Sem
variable {F : FTy → Type} [FloatOps F]

/-- The two printings of `ffn1_fwd` give its one label the same body. -/
theorem bodies1 : Cert.Ffn1Fwd.defs₀ (F := F) = Cert.Ffn1FwdIdeal.defs₀ := by
  unfold Cert.Ffn1Fwd.defs₀ Cert.Ffn1FwdIdeal.defs₀
  refine congrArg Defs.onTc (funext fun l => funext fun x => ?_)
  match l, x with
  | 0, (_, _) => rfl
theorem defs1 : Cert.Ffn1Fwd.defs (F := F) = Cert.Ffn1FwdIdeal.defs := congrArg (Pipeline.defs Cert.Ffn1FwdIdeal.pcfgs) bodies1

/-- `ffn1_fwd` terminates without a fault, leaves its arguments alone and its semaphores at zero. -/
theorem frame1 : Cert.quiescent_Ffn1Fwd := fun m ρ _ => by
  have h := Cert.Ffn1FwdIdeal.Body.frame (F := Bits) m ρ
  rw [← defs1] at h
  exact h

/-- The two printings of `ffn2_fwd` give its one label the same body. -/
theorem bodies2 : Cert.Ffn2Fwd.defs₀ (F := F) = Cert.Ffn2FwdIdeal.defs₀ := by
  unfold Cert.Ffn2Fwd.defs₀ Cert.Ffn2FwdIdeal.defs₀
  refine congrArg Defs.onTc (funext fun l => funext fun x => ?_)
  match l, x with
  | 0, (_, _) => rfl
theorem defs2 : Cert.Ffn2Fwd.defs (F := F) = Cert.Ffn2FwdIdeal.defs := congrArg (Pipeline.defs Cert.Ffn2FwdIdeal.pcfgs) bodies2

/-- `ffn2_fwd` terminates without a fault, leaves its arguments alone and its semaphores at zero. -/
theorem frame2 : Cert.quiescent_Ffn2Fwd := fun m ρ _ => by
  have h := Cert.Ffn2FwdIdeal.Body.frame (F := Bits) m ρ
  rw [← defs2] at h
  exact h

end Cert.FfnFwdFrames
end
-- ==== Proof.FfnFwdMath.lean ====
module
public import proofs.«01_k».proof.Proof.FfnWhole
public import proofs.«01_k».proof.Proof.NormMath

/-! The arithmetic of the gated feed-forward itself, on one block of 256 hidden columns and over all the columns: `h` the
layer's input (rows by model width), `w` the three weights' block (gate, up, down: hidden column by model width), `x` what
the layer's output is added to. -/

@[expose] public section
noncomputable section
namespace Cert.FfnMath
open Idealize.ShloMosaic

/-- One half, as the programs write it. -/
abbrev half : EReal := Ideal.ofBits .f32 0x3F000000#32

theorem half_real : half = (((1 : ℝ) / 2 : ℝ) : EReal) := by
  simp [half, Ideal.ofBits, Ideal.ieee, -EReal.coe_mul]; norm_num

section Block
variable (h : A2 2048 1024) (w : A3 3 256 1024)

/-- The gate's column `k` of the block, or the up projection's: plane `p` of the weights. -/
def bProj (p : Fin 3) (r : Fin 2048) (k : Fin 256) : EReal := ∑ y : Fin 1024, h (ix2 r y) * w (ix3 p k y)
/-- What the block adds to the output. -/
def bStep (r : Fin 2048) (x : Fin 1024) : EReal :=
  ∑ k : Fin 256, half * actF (bProj h w 0 r k) (bProj h w 1 r k) * w (ix3 2 k x)
/-- The rows `x` with the block's part added. -/
def bAdd (x : A2 2048 1024) : A2 2048 1024 := fun i => x i + bStep h w (i 0) (i 1)
end Block

/-- A sum with every term taken a real number of times. -/
theorem mul_sum_real {ι : Type} (s : Finset ι) (c : ℝ) (F : ι → EReal) (hc : 0 ≤ c) :
    (c : EReal) * ∑ i ∈ s, F i = ∑ i ∈ s, (c : EReal) * F i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

section Whole
variable (h : A2 2048 1024) (wg wu : A2 1024 2816) (wd : A2 2816 1024)

/-- The feed-forward's output, before it is halved. -/
def ffOut (r : Fin 2048) (x : Fin 1024) : EReal := ∑ f : Fin 2816, wC h wg wu r f * wd (ix2 f x)
/-- The rows `x` with half of the output added. -/
def ffAdd (x : A2 2048 1024) : A2 2048 1024 := fun i => x i + half * ffOut h wg wu wd (i 0) (i 1)

variable {h wg wu wd} {W : A3 3 2816 1024}
  (h0 : ∀ f x, W (ix3 0 f x) = wg (ix2 x f)) (h1 : ∀ f x, W (ix3 1 f x) = wu (ix2 x f)) (h2 : ∀ f x, W (ix3 2 f x) = wd (ix2 f x))

include h0 in
theorem gate_whole (t : Fin 11) (r : Fin 2048) (k : Fin 256) : bProj h (blkRows W t) 0 r k = proj h wg r (colOf t k) :=
  Finset.sum_congr rfl fun y _ => congrArg (h (ix2 r y) * ·) (h0 (colOf t k) y)
include h1 in
theorem up_whole (t : Fin 11) (r : Fin 2048) (k : Fin 256) : bProj h (blkRows W t) 1 r k = proj h wu r (colOf t k) :=
  Finset.sum_congr rfl fun y _ => congrArg (h (ix2 r y) * ·) (h1 (colOf t k) y)

include h0 h1 h2 in
/-- The blocks' parts add up to half of the output. -/
theorem steps_whole (r : Fin 2048) (x : Fin 1024) :
    ∑ t : Fin 11, bStep h (blkRows W t) r x = half * ffOut h wg wu wd r x := by
  unfold ffOut
  rw [half_real, mul_sum_real _ _ _ (by norm_num), ← half_real, ← sum_blocks]
  refine Finset.sum_congr rfl fun t _ => Finset.sum_congr rfl fun k _ => ?_
  rw [gate_whole h0, up_whole h1, mul_assoc]
  exact congrArg (half * ·) (congrArg (wC h wg wu r (colOf t k) * ·) (h2 (colOf t k) x))

end Whole

end Cert.FfnMath
end
-- ==== Proof.Ffn1FwdBlock.lean ====
module
public import proofs.«01_k».proof.Proof.Ffn1FwdIdealFrame
public import proofs.«01_k».proof.Proof.FfnFwdMath

/-! What one point of the grid stores, and the values of the stores at an index: the two row chunks of the output, of the
gate's and the up projection's columns, and the eight row chunks of the normed output. The chunks' payloads carry other
names at the first grid point, which adds to the rows that it copied in, than at the later ones. -/

@[expose] public section
noncomputable section
namespace Cert.Ffn1FwdIdeal.Value
open Cert.Ffn1FwdIdeal Cert.Ffn1FwdIdeal.Gen Cert.FfnMath Idealize.ShloMosaic

section Pieces
variable (h : Vec Ideal S2048x1024 .bf16) (w : Vec Ideal S3x256x1024 .bf16) (x : Vec Ideal S2048x1024 .f32)
  (gain : Vec Ideal S1x1024 .f32)

/-- The output's stores at the first point, last first, over the rows `x`. -/
def xoFirst : List (View.Piece (Elt Ideal) S2048x1024 .f32) :=
  [⟨Rect.unit ![1024, 0] ![1024, 1024] inb_S2048x1024_S1024x1024_1024_0, k0_pay2 (k0_pay23 (k0_pay11 (View.ld w (Rect.unit ![0, 0, 0] ![2, 256, 1024] inb_S3x256x1024_S2x256x1024_0_0_0))) (View.ld h (Rect.unit ![1024, 0] ![1024, 1024] inb_S2048x1024_S1024x1024_1024_0))) (View.ld w (Rect.unit ![2, 0, 0] ![1, 256, 1024] inb_S3x256x1024_S1x256x1024_2_0_0)) (View.ld x (Rect.unit ![1024, 0] ![1024, 1024] inb_S2048x1024_S1024x1024_1024_0))⟩,
    ⟨Rect.unit ![0, 0] ![1024, 1024] inb_S2048x1024_S1024x1024_0_0, k0_pay19 (k0_pay15 (View.ld w (Rect.unit ![0, 0, 0] ![2, 256, 1024] inb_S3x256x1024_S2x256x1024_0_0_0)) (View.ld h (Rect.unit ![0, 0] ![1024, 1024] inb_S2048x1024_S1024x1024_0_0))) (View.ld w (Rect.unit ![2, 0, 0] ![1, 256, 1024] inb_S3x256x1024_S1x256x1024_2_0_0)) (View.ld x (Rect.unit ![0, 0] ![1024, 1024] inb_S2048x1024_S1024x1024_0_0))⟩]
/-- The output's stores at a later point. -/
def xoLater : List (View.Piece (Elt Ideal) S2048x1024 .f32) :=
  [⟨Rect.unit ![1024, 0] ![1024, 1024] inb_S2048x1024_S1024x1024_1024_0, k0_pay8 (k0_pay25 (View.ld w (Rect.unit ![0, 0, 0] ![2, 256, 1024] inb_S3x256x1024_S2x256x1024_0_0_0))) (View.ld h (Rect.unit ![1024, 0] ![1024, 1024] inb_S2048x1024_S1024x1024_1024_0)) (View.ld w (Rect.unit ![2, 0, 0] ![1, 256, 1024] inb_S3x256x1024_S1x256x1024_2_0_0)) (View.ld x (Rect.unit ![1024, 0] ![1024, 1024] inb_S2048x1024_S1024x1024_1024_0))⟩,
    ⟨Rect.unit ![0, 0] ![1024, 1024] inb_S2048x1024_S1024x1024_0_0, k0_pay31 (View.ld w (Rect.unit ![0, 0, 0] ![2, 256, 1024] inb_S3x256x1024_S2x256x1024_0_0_0)) (View.ld h (Rect.unit ![0, 0] ![1024, 1024] inb_S2048x1024_S1024x1024_0_0)) (View.ld w (Rect.unit ![2, 0, 0] ![1, 256, 1024] inb_S3x256x1024_S1x256x1024_2_0_0)) (View.ld x (Rect.unit ![0, 0] ![1024, 1024] inb_S2048x1024_S1024x1024_0_0))⟩]
/-- The gate's stores at the first point. -/
def gFirst : List (View.Piece (Elt Ideal) S1x2048x256 .bf16) :=
  [⟨Rect.unit ![0, 1024, 0] ![1, 1024, 256] inb_S1x2048x256_S1x1024x256_0_1024_0, k0_pay24 (k0_pay11 (View.ld w (Rect.unit ![0, 0, 0] ![2, 256, 1024] inb_S3x256x1024_S2x256x1024_0_0_0))) (View.ld h (Rect.unit ![1024, 0] ![1024, 1024] inb_S2048x1024_S1024x1024_1024_0))⟩,
    ⟨Rect.unit ![0, 0, 0] ![1, 1024, 256] inb_S1x2048x256_S1x1024x256_0_0_0, k0_pay16 (View.ld w (Rect.unit ![0, 0, 0] ![2, 256, 1024] inb_S3x256x1024_S2x256x1024_0_0_0)) (View.ld h (Rect.unit ![0, 0] ![1024, 1024] inb_S2048x1024_S1024x1024_0_0))⟩]
/-- The gate's stores at a later point. -/
def gLater : List (View.Piece (Elt Ideal) S1x2048x256 .bf16) :=
  [⟨Rect.unit ![0, 1024, 0] ![1, 1024, 256] inb_S1x2048x256_S1x1024x256_0_1024_0, k0_pay6 (k0_pay25 (View.ld w (Rect.unit ![0, 0, 0] ![2, 256, 1024] inb_S3x256x1024_S2x256x1024_0_0_0))) (View.ld h (Rect.unit ![1024, 0] ![1024, 1024] inb_S2048x1024_S1024x1024_1024_0))⟩,
    ⟨Rect.unit ![0, 0, 0] ![1, 1024, 256] inb_S1x2048x256_S1x1024x256_0_0_0, k0_pay29 (View.ld w (Rect.unit ![0, 0, 0] ![2, 256, 1024] inb_S3x256x1024_S2x256x1024_0_0_0)) (View.ld h (Rect.unit ![0, 0] ![1024, 1024] inb_S2048x1024_S1024x1024_0_0))⟩]
/-- The up projection's stores at the first point. -/
def uFirst : List (View.Piece (Elt Ideal) S1x2048x256 .bf16) :=
  [⟨Rect.unit ![0, 1024, 0] ![1, 1024, 256] inb_S1x2048x256_S1x1024x256_0_1024_0, k0_pay1 (k0_pay22 (k0_pay11 (View.ld w (Rect.unit ![0, 0, 0] ![2, 256, 1024] inb_S3x256x1024_S2x256x1024_0_0_0))) (View.ld h (Rect.unit ![1024, 0] ![1024, 1024] inb_S2048x1024_S1024x1024_1024_0)))⟩,
    ⟨Rect.unit ![0, 0, 0] ![1, 1024, 256] inb_S1x2048x256_S1x1024x256_0_0_0, k0_pay18 (k0_pay17 (View.ld w (Rect.unit ![0, 0, 0] ![2, 256, 1024] inb_S3x256x1024_S2x256x1024_0_0_0)) (View.ld h (Rect.unit ![0, 0] ![1024, 1024] inb_S2048x1024_S1024x1024_0_0)))⟩]
/-- The up projection's stores at a later point. -/
def uLater : List (View.Piece (Elt Ideal) S1x2048x256 .bf16) :=
  [⟨Rect.unit ![0, 1024, 0] ![1, 1024, 256] inb_S1x2048x256_S1x1024x256_0_1024_0, k0_pay7 (k0_pay25 (View.ld w (Rect.unit ![0, 0, 0] ![2, 256, 1024] inb_S3x256x1024_S2x256x1024_0_0_0))) (View.ld h (Rect.unit ![1024, 0] ![1024, 1024] inb_S2048x1024_S1024x1024_1024_0))⟩,
    ⟨Rect.unit ![0, 0, 0] ![1, 1024, 256] inb_S1x2048x256_S1x1024x256_0_0_0, k0_pay30 (View.ld w (Rect.unit ![0, 0, 0] ![2, 256, 1024] inb_S3x256x1024_S2x256x1024_0_0_0)) (View.ld h (Rect.unit ![0, 0] ![1024, 1024] inb_S2048x1024_S1024x1024_0_0))⟩]

/-- The copies of the rows, which the first point starts with. -/
def copies : List (View.Piece (Elt Ideal) S2048x1024 .f32) :=
  [⟨Rect.unit ![1024, 0] ![1024, 1024] inb_S2048x1024_S1024x1024_1024_0, View.ld x (Rect.unit ![1024, 0] ![1024, 1024] inb_S2048x1024_S1024x1024_1024_0)⟩, ⟨Rect.unit ![0, 0] ![1024, 1024] inb_S2048x1024_S1024x1024_0_0, View.ld x (Rect.unit ![0, 0] ![1024, 1024] inb_S2048x1024_S1024x1024_0_0)⟩]
/-- The stores of the normed output `x`, last first. -/
def hnPieces : List (View.Piece (Elt Ideal) S2048x1024 .bf16) :=
  [⟨Rect.unit ![1792, 0] ![256, 1024] inb_S2048x1024_S256x1024_1792_0, k0_pay10 (View.ld x (Rect.unit ![1792, 0] ![256, 1024] inb_S2048x1024_S256x1024_1792_0)) (View.ld gain (Rect.unit ![0, 0] ![1, 1024] inb_S1x1024_S1x1024_0_0))⟩,
    ⟨Rect.unit ![1536, 0] ![256, 1024] inb_S2048x1024_S256x1024_1536_0, k0_pay9 (k0_pay42 (View.ld x (Rect.unit ![1536, 0] ![256, 1024] inb_S2048x1024_S256x1024_1536_0))) (View.ld gain (Rect.unit ![0, 0] ![1, 1024] inb_S1x1024_S1x1024_0_0))⟩,
    ⟨Rect.unit ![1280, 0] ![256, 1024] inb_S2048x1024_S256x1024_1280_0, k0_pay41 (View.ld x (Rect.unit ![1280, 0] ![256, 1024] inb_S2048x1024_S256x1024_1280_0)) (View.ld gain (Rect.unit ![0, 0] ![1, 1024] inb_S1x1024_S1x1024_0_0))⟩,
    ⟨Rect.unit ![1024, 0] ![256, 1024] inb_S2048x1024_S256x1024_1024_0, k0_pay40 (k0_pay38 (View.ld x (Rect.unit ![1024, 0] ![256, 1024] inb_S2048x1024_S256x1024_1024_0))) (k0_pay39 (View.ld x (Rect.unit ![1024, 0] ![256, 1024] inb_S2048x1024_S256x1024_1024_0))) (FloatOps.ofBits FTy.f32 0x358637BD#32) (View.ld gain (Rect.unit ![0, 0] ![1, 1024] inb_S1x1024_S1x1024_0_0))⟩,
    ⟨Rect.unit ![768, 0] ![256, 1024] inb_S2048x1024_S256x1024_768_0, k0_pay37 (View.ld x (Rect.unit ![768, 0] ![256, 1024] inb_S2048x1024_S256x1024_768_0)) (View.ld gain (Rect.unit ![0, 0] ![1, 1024] inb_S1x1024_S1x1024_0_0))⟩,
    ⟨Rect.unit ![512, 0] ![256, 1024] inb_S2048x1024_S256x1024_512_0, k0_pay36 (k0_pay34 (View.ld x (Rect.unit ![512, 0] ![256, 1024] inb_S2048x1024_S256x1024_512_0))) (k0_pay35 (View.ld x (Rect.unit ![512, 0] ![256, 1024] inb_S2048x1024_S256x1024_512_0))) (View.ld gain (Rect.unit ![0, 0] ![1, 1024] inb_S1x1024_S1x1024_0_0))⟩,
    ⟨Rect.unit ![256, 0] ![256, 1024] inb_S2048x1024_S256x1024_256_0, k0_pay33 (View.ld x (Rect.unit ![256, 0] ![256, 1024] inb_S2048x1024_S256x1024_256_0)) (View.ld gain (Rect.unit ![0, 0] ![1, 1024] inb_S1x1024_S1x1024_0_0))⟩,
    ⟨Rect.unit ![0, 0] ![256, 1024] inb_S2048x1024_S256x1024_0_0, k0_pay32 (View.ld x (Rect.unit ![0, 0] ![256, 1024] inb_S2048x1024_S256x1024_0_0)) (View.ld gain (Rect.unit ![0, 0] ![1, 1024] inb_S1x1024_S1x1024_0_0))⟩]

theorem xoFirst_at (r : Fin 2048) (k : Fin 1024) : View.AllAt (xoFirst h w x) (ix2 r k) (bAdd h w x (ix2 r k)) := by
  unfold xoFirst
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay2, k0_pay11, k0_pay12, k0_pay13, k0_pay14, k0_pay15, k0_pay19, k0_pay20, k0_pay21, k0_pay22, k0_pay23]
    try simp only [ld_rows, ld_planes, zero_add, Fin.eta, div_lo, div_hi, mod_lo, mod_hi]
    rfl
theorem xoFirst_cover (y : S2048x1024.Idx) : ∃ p ∈ xoFirst h w x, y ∈ p.1.set :=
  View.cover_of_tiled _ ![1024, 1024] (by sl_kernel_rfl) y

theorem xoLater_at (r : Fin 2048) (k : Fin 1024) : View.AllAt (xoLater h w x) (ix2 r k) (bAdd h w x (ix2 r k)) := by
  unfold xoLater
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay3, k0_pay4, k0_pay5, k0_pay8, k0_pay25, k0_pay26, k0_pay27, k0_pay28, k0_pay31]
    try simp only [ld_rows, ld_planes, zero_add, Fin.eta, div_lo, div_hi, mod_lo, mod_hi]
    rfl
theorem xoLater_cover (y : S2048x1024.Idx) : ∃ p ∈ xoLater h w x, y ∈ p.1.set :=
  View.cover_of_tiled _ ![1024, 1024] (by sl_kernel_rfl) y

theorem gFirst_at (r : Fin 2048) (k : Fin 256) : View.AllAt (gFirst h w) (ix3 0 r k) (bProj h w 0 r k) := by
  unfold gFirst
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay11, k0_pay12, k0_pay13, k0_pay16, k0_pay20, k0_pay21, k0_pay24]
    try simp only [ld_rows, ld_planes, zero_add, Fin.eta, div_lo, div_hi, mod_lo, mod_hi]
    rfl
theorem gFirst_cover (y : S1x2048x256.Idx) : ∃ p ∈ gFirst h w, y ∈ p.1.set :=
  View.cover_of_tiled _ ![1, 1024, 256] (by sl_kernel_rfl) y

theorem gLater_at (r : Fin 2048) (k : Fin 256) : View.AllAt (gLater h w) (ix3 0 r k) (bProj h w 0 r k) := by
  unfold gLater
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay3, k0_pay4, k0_pay6, k0_pay25, k0_pay26, k0_pay27, k0_pay29]
    try simp only [ld_rows, ld_planes, zero_add, Fin.eta, div_lo, div_hi, mod_lo, mod_hi]
    rfl
theorem gLater_cover (y : S1x2048x256.Idx) : ∃ p ∈ gLater h w, y ∈ p.1.set :=
  View.cover_of_tiled _ ![1, 1024, 256] (by sl_kernel_rfl) y

theorem uFirst_at (r : Fin 2048) (k : Fin 256) : View.AllAt (uFirst h w) (ix3 0 r k) (bProj h w 1 r k) := by
  unfold uFirst
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay1, k0_pay11, k0_pay12, k0_pay14, k0_pay17, k0_pay18, k0_pay20, k0_pay22]
    try simp only [ld_rows, ld_planes, zero_add, Fin.eta, div_lo, div_hi, mod_lo, mod_hi]
    rfl
theorem uFirst_cover (y : S1x2048x256.Idx) : ∃ p ∈ uFirst h w, y ∈ p.1.set :=
  View.cover_of_tiled _ ![1, 1024, 256] (by sl_kernel_rfl) y

theorem uLater_at (r : Fin 2048) (k : Fin 256) : View.AllAt (uLater h w) (ix3 0 r k) (bProj h w 1 r k) := by
  unfold uLater
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay3, k0_pay5, k0_pay7, k0_pay25, k0_pay26, k0_pay28, k0_pay30]
    try simp only [ld_rows, ld_planes, zero_add, Fin.eta, div_lo, div_hi, mod_lo, mod_hi]
    rfl
theorem uLater_cover (y : S1x2048x256.Idx) : ∃ p ∈ uLater h w, y ∈ p.1.set :=
  View.cover_of_tiled _ ![1, 1024, 256] (by sl_kernel_rfl) y

theorem copies_at (r : Fin 2048) (k : Fin 1024) : View.AllAt (copies x) (ix2 r k) (x (ix2 r k)) := by
  unfold copies
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    exact ld_rows ..
theorem copies_cover (y : S2048x1024.Idx) : ∃ p ∈ copies x, y ∈ p.1.set :=
  View.cover_of_tiled _ ![1024, 1024] (by sl_kernel_rfl) y

theorem hnPieces_at (r : Fin 2048) (k : Fin 1024) : View.AllAt (hnPieces x gain) (ix2 r k) (normed x gain (ix2 r k)) := by
  unfold hnPieces
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  all_goals
    intro y hy
    obtain ⟨a, b, rfl⟩ : ∃ (a : Fin 256) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay9, k0_pay10, k0_pay32, k0_pay33, k0_pay34, k0_pay35, k0_pay36, k0_pay37, k0_pay38, k0_pay39, k0_pay40, k0_pay41, k0_pay42]
    try simp only [ld_rows, ld_planes, zero_add, Fin.eta, div_lo, div_hi, mod_lo, mod_hi]
    rfl
theorem hnPieces_cover (y : S2048x1024.Idx) : ∃ p ∈ hnPieces x gain, y ∈ p.1.set :=
  View.cover_of_tiled _ ![256, 1024] (by sl_kernel_rfl) y

/-- The first point's stores, the copies among them, leave the rows with the block's part added. -/
theorem xoFirst_canon : View.canon (xoFirst h w x ++ copies x) = bAdd h w x := by
  funext j
  obtain ⟨r, k, rfl⟩ := exists_ix2 j
  exact canon_append_of_allAt _ _ _ _ (xoFirst_cover h w x _) (xoFirst_at h w x r k)
theorem xoLater_canon : View.canon (xoLater h w x) = bAdd h w x := by
  funext j
  obtain ⟨r, k, rfl⟩ := exists_ix2 j
  exact View.canon_eq_of_allAt _ _ _ (xoLater_cover h w x _) (xoLater_at h w x r k)
theorem copies_canon : View.canon (copies x) = x := by
  funext j
  obtain ⟨r, k, rfl⟩ := exists_ix2 j
  exact View.canon_eq_of_allAt _ _ _ (copies_cover x _) (copies_at x r k)
theorem hn_canon : View.canon (hnPieces x gain) = normed x gain := by
  funext j
  obtain ⟨r, k, rfl⟩ := exists_ix2 j
  exact View.canon_eq_of_allAt _ _ _ (hnPieces_cover x gain _) (hnPieces_at x gain r k)

end Pieces

end Cert.Ffn1FwdIdeal.Value
end
-- ==== Proof.Ffn1FwdCases.lean ====
module
public import proofs.«01_k».proof.Proof.Ffn1FwdBlock

/-! What each kind of grid point leaves: the first (it copies in the rows that the output is added to), the middle ones, and
the last (it also norms the output). -/

@[expose] public section
noncomputable section
namespace Cert.Ffn1FwdIdeal.Value
open Cert.Ffn1FwdIdeal Cert.Ffn1FwdIdeal.Gen Cert.Ffn1FwdIdeal.Body Cert.FfnMath Idealize.ShloMosaic

variable (c : Dev nD) (i : grid0.Coords) (arg1 : Memref sig .tc .vmem S2048x1024 .bf16) (harg1 : arg1.IsWhole)
  (arg2 : Memref sig .tc .vmem S3x256x1024 .bf16) (harg2 : arg2.IsWhole)
  (arg4 : Memref sig .tc .vmem S1x1024 .f32) (harg4 : arg4.IsWhole)
  (arg5 : Memref sig .tc .vmem S2048x1024 .f32) (harg5 : arg5.IsWhole)
  (arg6 : Memref sig .tc .vmem S1x2048x256 .bf16) (harg6 : arg6.IsWhole)
  (arg7 : Memref sig .tc .vmem S1x2048x256 .bf16) (harg7 : arg7.IsWhole)
  (arg8 : Memref sig .tc .vmem S2048x1024 .bf16) (harg8 : arg8.IsWhole)
  (x0 : Vec Ideal S2048x1024 .bf16) (x1 : Vec Ideal S3x256x1024 .bf16) (x2 : Vec Ideal S1x1024 .f32) (xo3 : Vec Ideal S2048x1024 .f32)
  (fh0 : HbBuf0 (F := Ideal) c hbM0_0)

theorem xo_A (hc0 : cond0_0 i) (hc1 : ¬cond0_1 i) (hc2 : ¬cond0_2 i) :
    out0_A_3 (F := Ideal) c i arg1 harg1 arg2 harg2 arg4 harg4 arg5 harg5 arg6 harg6 arg7 harg7 arg8 harg8 hc0 hc1 hc2 x0 x1 x2 fh0
      = bAdd x0 x1 fh0 := by
  unfold out0_A_3
  rw [View.read_writes_eq_canon _ _ _ (cover0_A_3 c i arg1 harg1 arg2 harg2 arg4 harg4 arg5 harg5 arg6 harg6 arg7 harg7 arg8 harg8 hc0 hc1 hc2 x0 x1 x2 fh0)]
  unfold kernelRun0_A
  dsimp only
  sl_unfold_words
  simp only [View.readAt_eq_ld, harg1.read_unread, harg2.read_unread, harg4.read_unread]
  simp (disch := decide) only [↓View.readCov_skip, readCov_head]
  exact xoFirst_canon x0 x1 fh0

theorem gate_A (hc0 : cond0_0 i) (hc1 : ¬cond0_1 i) (hc2 : ¬cond0_2 i) (r : Fin 2048) (k : Fin 256) :
    out0_A_4 (F := Ideal) c i arg1 harg1 arg2 harg2 arg4 harg4 arg5 harg5 arg6 harg6 arg7 harg7 arg8 harg8 hc0 hc1 hc2 x0 x1 x2 fh0 (ix3 0 r k)
      = bProj x0 x1 0 r k := by
  unfold out0_A_4
  rw [View.read_writes_eq_canon _ _ _ (cover0_A_4 c i arg1 harg1 arg2 harg2 arg4 harg4 arg5 harg5 arg6 harg6 arg7 harg7 arg8 harg8 hc0 hc1 hc2 x0 x1 x2 fh0)]
  unfold kernelRun0_A
  dsimp only
  sl_unfold_words
  simp only [View.readAt_eq_ld, harg1.read_unread, harg2.read_unread, harg4.read_unread]
  exact View.canon_eq_of_allAt _ _ _ (gFirst_cover x0 x1 _) (gFirst_at x0 x1 r k)

theorem up_A (hc0 : cond0_0 i) (hc1 : ¬cond0_1 i) (hc2 : ¬cond0_2 i) (r : Fin 2048) (k : Fin 256) :
    out0_A_5 (F := Ideal) c i arg1 harg1 arg2 harg2 arg4 harg4 arg5 harg5 arg6 harg6 arg7 harg7 arg8 harg8 hc0 hc1 hc2 x0 x1 x2 fh0 (ix3 0 r k)
      = bProj x0 x1 1 r k := by
  unfold out0_A_5
  rw [View.read_writes_eq_canon _ _ _ (cover0_A_5 c i arg1 harg1 arg2 harg2 arg4 harg4 arg5 harg5 arg6 harg6 arg7 harg7 arg8 harg8 hc0 hc1 hc2 x0 x1 x2 fh0)]
  unfold kernelRun0_A
  dsimp only
  sl_unfold_words
  simp only [View.readAt_eq_ld, harg1.read_unread, harg2.read_unread, harg4.read_unread]
  exact View.canon_eq_of_allAt _ _ _ (uFirst_cover x0 x1 _) (uFirst_at x0 x1 r k)

theorem xo_B (hc0 : ¬cond0_0 i) (hc1 : cond0_1 i) (hc2 : ¬cond0_2 i) :
    out0_B_3 (F := Ideal) c i arg1 harg1 arg2 harg2 arg4 harg4 arg5 harg5 arg6 harg6 arg7 harg7 arg8 harg8 hc0 hc1 hc2 x0 x1 x2 xo3 fh0
      = bAdd x0 x1 xo3 := by
  unfold out0_B_3
  rw [View.read_writes_eq_canon _ _ _ (cover0_B_3 c i arg1 harg1 arg2 harg2 arg4 harg4 arg5 harg5 arg6 harg6 arg7 harg7 arg8 harg8 hc0 hc1 hc2 x0 x1 x2 xo3 fh0)]
  unfold kernelRun0_B
  dsimp only
  sl_unfold_words
  simp only [View.readAt_eq_ld, harg1.read_unread, harg2.read_unread, harg4.read_unread, harg5.read_unread]
  exact xoLater_canon x0 x1 xo3

theorem gate_B (hc0 : ¬cond0_0 i) (hc1 : cond0_1 i) (hc2 : ¬cond0_2 i) (r : Fin 2048) (k : Fin 256) :
    out0_B_4 (F := Ideal) c i arg1 harg1 arg2 harg2 arg4 harg4 arg5 harg5 arg6 harg6 arg7 harg7 arg8 harg8 hc0 hc1 hc2 x0 x1 x2 xo3 fh0 (ix3 0 r k)
      = bProj x0 x1 0 r k := by
  unfold out0_B_4
  rw [View.read_writes_eq_canon _ _ _ (cover0_B_4 c i arg1 harg1 arg2 harg2 arg4 harg4 arg5 harg5 arg6 harg6 arg7 harg7 arg8 harg8 hc0 hc1 hc2 x0 x1 x2 xo3 fh0)]
  unfold kernelRun0_B
  dsimp only
  sl_unfold_words
  simp only [View.readAt_eq_ld, harg1.read_unread, harg2.read_unread, harg4.read_unread, harg5.read_unread]
  exact View.canon_eq_of_allAt _ _ _ (gLater_cover x0 x1 _) (gLater_at x0 x1 r k)

theorem up_B (hc0 : ¬cond0_0 i) (hc1 : cond0_1 i) (hc2 : ¬cond0_2 i) (r : Fin 2048) (k : Fin 256) :
    out0_B_5 (F := Ideal) c i arg1 harg1 arg2 harg2 arg4 harg4 arg5 harg5 arg6 harg6 arg7 harg7 arg8 harg8 hc0 hc1 hc2 x0 x1 x2 xo3 fh0 (ix3 0 r k)
      = bProj x0 x1 1 r k := by
  unfold out0_B_5
  rw [View.read_writes_eq_canon _ _ _ (cover0_B_5 c i arg1 harg1 arg2 harg2 arg4 harg4 arg5 harg5 arg6 harg6 arg7 harg7 arg8 harg8 hc0 hc1 hc2 x0 x1 x2 xo3 fh0)]
  unfold kernelRun0_B
  dsimp only
  sl_unfold_words
  simp only [View.readAt_eq_ld, harg1.read_unread, harg2.read_unread, harg4.read_unread, harg5.read_unread]
  exact View.canon_eq_of_allAt _ _ _ (uLater_cover x0 x1 _) (uLater_at x0 x1 r k)

theorem xo_C (hc0 : ¬cond0_0 i) (hc1 : cond0_1 i) (hc2 : cond0_2 i) :
    out0_C_3 (F := Ideal) c i arg1 harg1 arg2 harg2 arg4 harg4 arg5 harg5 arg6 harg6 arg7 harg7 arg8 harg8 hc0 hc1 hc2 x0 x1 x2 xo3 fh0
      = bAdd x0 x1 xo3 := by
  unfold out0_C_3
  rw [View.read_writes_eq_canon _ _ _ (cover0_C_3 c i arg1 harg1 arg2 harg2 arg4 harg4 arg5 harg5 arg6 harg6 arg7 harg7 arg8 harg8 hc0 hc1 hc2 x0 x1 x2 xo3 fh0)]
  unfold kernelRun0_C
  dsimp only
  sl_unfold_words
  simp only [View.readAt_eq_ld, harg1.read_unread, harg2.read_unread, harg4.read_unread, harg5.read_unread]
  exact xoLater_canon x0 x1 xo3

theorem gate_C (hc0 : ¬cond0_0 i) (hc1 : cond0_1 i) (hc2 : cond0_2 i) (r : Fin 2048) (k : Fin 256) :
    out0_C_4 (F := Ideal) c i arg1 harg1 arg2 harg2 arg4 harg4 arg5 harg5 arg6 harg6 arg7 harg7 arg8 harg8 hc0 hc1 hc2 x0 x1 x2 xo3 fh0 (ix3 0 r k)
      = bProj x0 x1 0 r k := by
  unfold out0_C_4
  rw [View.read_writes_eq_canon _ _ _ (cover0_C_4 c i arg1 harg1 arg2 harg2 arg4 harg4 arg5 harg5 arg6 harg6 arg7 harg7 arg8 harg8 hc0 hc1 hc2 x0 x1 x2 xo3 fh0)]
  unfold kernelRun0_C
  dsimp only
  sl_unfold_words
  simp only [View.readAt_eq_ld, harg1.read_unread, harg2.read_unread, harg4.read_unread, harg5.read_unread]
  exact View.canon_eq_of_allAt _ _ _ (gLater_cover x0 x1 _) (gLater_at x0 x1 r k)

theorem up_C (hc0 : ¬cond0_0 i) (hc1 : cond0_1 i) (hc2 : cond0_2 i) (r : Fin 2048) (k : Fin 256) :
    out0_C_5 (F := Ideal) c i arg1 harg1 arg2 harg2 arg4 harg4 arg5 harg5 arg6 harg6 arg7 harg7 arg8 harg8 hc0 hc1 hc2 x0 x1 x2 xo3 fh0 (ix3 0 r k)
      = bProj x0 x1 1 r k := by
  unfold out0_C_5
  rw [View.read_writes_eq_canon _ _ _ (cover0_C_5 c i arg1 harg1 arg2 harg2 arg4 harg4 arg5 harg5 arg6 harg6 arg7 harg7 arg8 harg8 hc0 hc1 hc2 x0 x1 x2 xo3 fh0)]
  unfold kernelRun0_C
  dsimp only
  sl_unfold_words
  simp only [View.readAt_eq_ld, harg1.read_unread, harg2.read_unread, harg4.read_unread, harg5.read_unread]
  exact View.canon_eq_of_allAt _ _ _ (uLater_cover x0 x1 _) (uLater_at x0 x1 r k)

theorem hn_C (hc0 : ¬cond0_0 i) (hc1 : cond0_1 i) (hc2 : cond0_2 i) :
    out0_C_6 (F := Ideal) c i arg1 harg1 arg2 harg2 arg4 harg4 arg5 harg5 arg6 harg6 arg7 harg7 arg8 harg8 hc0 hc1 hc2 x0 x1 x2 xo3 fh0
      = normed (bAdd x0 x1 xo3) x2 := by
  unfold out0_C_6
  rw [View.read_writes_eq_canon _ _ _ (cover0_C_6 c i arg1 harg1 arg2 harg2 arg4 harg4 arg5 harg5 arg6 harg6 arg7 harg7 arg8 harg8 hc0 hc1 hc2 x0 x1 x2 xo3 fh0)]
  unfold kernelRun0_C
  dsimp only
  sl_unfold_words
  simp only [View.readAt_eq_ld, harg1.read_unread, harg2.read_unread, harg4.read_unread, harg5.read_unread]
  have e : ∀ (v : View sig .tc .vmem S2048x1024 .f32) (q : Rect S2048x1024), v.readCov (xoLater x0 x1 xo3) q.toLoadRect = View.ld (bAdd x0 x1 xo3) q :=
    fun v q => (View.readCov_eq_canon_ld v _ q (xoLater_cover x0 x1 xo3)).trans (by rw [xoLater_canon])
  unfold xoLater at e
  simp only [e]
  exact hn_canon (bAdd x0 x1 xo3) x2

end Cert.Ffn1FwdIdeal.Value
end
-- ==== Proof.Ffn1FwdRun.lean ====
module
public import proofs.«01_k».proof.Proof.Ffn1FwdCases
public import Idealize.ShloMosaic.Lib.Pipeline.Value

/-! The eleven grid points in order: what the outputs' buffers hold after each, and so what the run returns. -/

@[expose] public section
noncomputable section
namespace Cert.Ffn1FwdIdeal.Value
open Cert.Ffn1FwdIdeal Cert.Ffn1FwdIdeal.Gen Cert.Ffn1FwdIdeal.Body Cert.FfnMath Idealize.ShloMosaic Idealize.ShloMosaic.TcCoe Idealize.SL.Sem

variable (m : (ℓ : Loc nD τ sig) → Buf (Elt Ideal) ℓ) (ρ : Dev nD → PrngReg) (c : Dev nD)

/-- The arrays the call is given: the layer's input, the weights, the rows that the output is added to, the gain. -/
def arrH : A2 2048 1024 := V m c main_v7
def arrW : A3 3 2816 1024 := V m c main_v6
def arrX : A2 2048 1024 := V m c main_arg4
def arrGain : A2 1 1024 := V m c main_arg5

/-- A grid point as the number of its block. -/
def pt (t : Fin cfg0.N) : Fin 11 := ⟨t.val, lt_of_lt_of_eq t.isLt N_0⟩

theorem index0 (t : Fin cfg0.N) : win0_0.index t 0 = 0 ∧ win0_0.index t 1 = 0 := by
  rcases fin_N0 t with rfl | rfl | rfl | rfl | rfl | rfl | rfl | rfl | rfl | rfl | rfl <;> decide
theorem index3 (t : Fin cfg0.N) : win0_3.index t 0 = 0 ∧ win0_3.index t 1 = 0 := by
  rcases fin_N0 t with rfl | rfl | rfl | rfl | rfl | rfl | rfl | rfl | rfl | rfl | rfl <;> decide
theorem index6 (t : Fin cfg0.N) : win0_6.index t 0 = 0 ∧ win0_6.index t 1 = 0 := by
  rcases fin_N0 t with rfl | rfl | rfl | rfl | rfl | rfl | rfl | rfl | rfl | rfl | rfl <;> decide
theorem index2 (t : Fin cfg0.N) : win0_2.index t 0 = 0 ∧ win0_2.index t 1 = 0 := by
  rcases fin_N0 t with rfl | rfl | rfl | rfl | rfl | rfl | rfl | rfl | rfl | rfl | rfl <;> decide
theorem index1 (t : Fin cfg0.N) : win0_1.index t 0 = 0 ∧ win0_1.index t 1 = t.val ∧ win0_1.index t 2 = 0 := by
  rcases fin_N0 t with rfl | rfl | rfl | rfl | rfl | rfl | rfl | rfl | rfl | rfl | rfl <;> decide
theorem index4 (t : Fin cfg0.N) : win0_4.index t 0 = t.val ∧ win0_4.index t 1 = 0 ∧ win0_4.index t 2 = 0 := by
  rcases fin_N0 t with rfl | rfl | rfl | rfl | rfl | rfl | rfl | rfl | rfl | rfl | rfl <;> decide
theorem index5 (t : Fin cfg0.N) : win0_5.index t 0 = t.val ∧ win0_5.index t 1 = 0 ∧ win0_5.index t 2 = 0 := by
  rcases fin_N0 t with rfl | rfl | rfl | rfl | rfl | rfl | rfl | rfl | rfl | rfl | rfl <;> decide

theorem blk_h (t : Fin cfg0.N) : (iblk m c 0 t : Vec Ideal S2048x1024 .bf16) = arrH m c := by
  funext j
  unfold iblk
  rw [View.read_apply]
  show V m c main_v7 _ = V m c main_v7 _
  congr 1
  funext a
  apply Fin.ext
  have hi := index0 t
  match a with
  | ⟨0, _⟩ => show win0_0.index t 0 * 2048 + 1 * (j 0).val = (j 0).val; rw [hi.1]; omega
  | ⟨1, _⟩ => show win0_0.index t 1 * 1024 + 1 * (j 1).val = (j 1).val; rw [hi.2]; omega

theorem blk_gain (t : Fin cfg0.N) : (iblk m c 2 t : Vec Ideal S1x1024 .f32) = arrGain m c := by
  funext j
  unfold iblk
  rw [View.read_apply]
  show V m c main_arg5 _ = V m c main_arg5 _
  congr 1
  funext a
  apply Fin.ext
  have hi := index2 t
  match a with
  | ⟨0, _⟩ => show win0_2.index t 0 * 1 + 1 * (j 0).val = (j 0).val; rw [hi.1]; omega
  | ⟨1, _⟩ => show win0_2.index t 1 * 1024 + 1 * (j 1).val = (j 1).val; rw [hi.2]; omega

theorem blk_w (t : Fin cfg0.N) : (iblk m c 1 t : Vec Ideal S3x256x1024 .bf16) = blkRows (arrW m c) (pt t) := by
  funext j
  unfold iblk
  rw [View.read_apply]
  show V m c main_v6 _ = V m c main_v6 _
  congr 1
  funext a
  apply Fin.ext
  have hi := index1 t
  match a with
  | ⟨0, _⟩ => show win0_1.index t 0 * 3 + 1 * (j 0).val = (j 0).val; rw [hi.1]; omega
  | ⟨1, _⟩ => show win0_1.index t 1 * 256 + 1 * (j 1).val = 256 * t.val + (j 1).val; rw [hi.2.1]; omega
  | ⟨2, _⟩ => show win0_1.index t 2 * 1024 + 1 * (j 2).val = (j 2).val; rw [hi.2.2]; omega

/-- The output after the first `n` blocks. -/
def xoTo : Nat → A2 2048 1024
  | 0 => arrX m c
  | n + 1 => if h : n < 11 then bAdd (arrH m c) (blkRows (arrW m c) ⟨n, h⟩) (xoTo n) else xoTo n

theorem xoTo_succ (n : Nat) (h : n < 11) : xoTo m c (n + 1) = bAdd (arrH m c) (blkRows (arrW m c) ⟨n, h⟩) (xoTo m c n) := by
  show (if h : n < 11 then bAdd (arrH m c) (blkRows (arrW m c) ⟨n, h⟩) (xoTo m c n) else xoTo m c n) = _
  rw [dif_pos h]

/-- The output, once all the blocks are added. -/
theorem xoTo_last (r : Fin 2048) (x : Fin 1024) :
    xoTo m c 11 (ix2 r x) = arrX m c (ix2 r x) + ∑ t : Fin 11, bStep (arrH m c) (blkRows (arrW m c) t) r x := by
  have k : ∀ n ≤ 11, xoTo m c n (ix2 r x) = arrX m c (ix2 r x)
      + ∑ t ∈ Finset.range n, if h : t < 11 then bStep (arrH m c) (blkRows (arrW m c) ⟨t, h⟩) r x else 0 := by
    intro n
    induction n with
    | zero => intro _; rw [Finset.sum_range_zero, add_zero]; rfl
    | succ n ih =>
      intro h
      rw [xoTo_succ m c n h, Finset.sum_range_succ, dif_pos (show n < 11 from h), ← add_assoc, ← ih (Nat.le_of_lt h)]
      rfl
  rw [k 11 (le_refl _), Finset.sum_range]
  exact congrArg (_ + ·) (Finset.sum_congr rfl fun t _ => dif_pos t.isLt)

/-- What grid point `n` leaves: the output so far, the gate's and the up projection's columns of its block, and at the last
point the normed output. -/
structure Left (n : Nat) (hn : n < cfg0.N) : Prop where
  xo : (outsAt0 m c n hn).1 = xoTo m c (n + 1)
  gate : ∀ r k, (outsAt0 m c n hn).2.1 (ix3 0 r k) = bProj (arrH m c) (blkRows (arrW m c) (pt ⟨n, hn⟩)) 0 r k
  up : ∀ r k, (outsAt0 m c n hn).2.2.1 (ix3 0 r k) = bProj (arrH m c) (blkRows (arrW m c) (pt ⟨n, hn⟩)) 1 r k
  hn : n = 10 → (outsAt0 m c n hn).2.2.2 = normed (xoTo m c (n + 1)) (arrGain m c)

theorem left_first (t : Fin cfg0.N) (h0 : t.val % 11 = 0) (h1 : ¬1 ≤ t.val) (h2 : ¬t.val % 11 = 10) : Left m c t.val t.isLt := by
  have ht : t.val = 0 := by omega
  refine ⟨?_, fun r k => ?_, fun r k => ?_, fun h => absurd h (by omega)⟩
  · rw [outsAt0_A m c t h0 h1 h2]
    unfold atA
    dsimp only
    rw [xo_A, blk_h, blk_w, xoTo_succ m c t.val (lt_of_lt_of_eq t.isLt N_0)]
    refine congrArg (bAdd (arrH m c) (blkRows (arrW m c) (pt t))) ?_
    rw [ht]
    rfl
  · rw [outsAt0_A m c t h0 h1 h2]
    unfold atA
    dsimp only
    rw [gate_A, blk_h, blk_w]
  · rw [outsAt0_A m c t h0 h1 h2]
    unfold atA
    dsimp only
    rw [up_A, blk_h, blk_w]

theorem left_mid (t : Fin cfg0.N) (h0 : ¬t.val % 11 = 0) (h1 : 1 ≤ t.val) (h2 : ¬t.val % 11 = 10)
    (ih : (outsAt0 m c (t.val - 1) (Nat.lt_of_le_of_lt (Nat.sub_le _ _) t.isLt)).1 = xoTo m c t.val) : Left m c t.val t.isLt := by
  refine ⟨?_, fun r k => ?_, fun r k => ?_, fun h => absurd h (by omega)⟩
  · rw [outsAt0_B m c t h0 h1 h2]
    unfold atB
    dsimp only
    rw [xo_B, blk_h, blk_w, xoTo_succ m c t.val (lt_of_lt_of_eq t.isLt N_0), ih]
    rfl
  · rw [outsAt0_B m c t h0 h1 h2]
    unfold atB
    dsimp only
    rw [gate_B, blk_h, blk_w]
  · rw [outsAt0_B m c t h0 h1 h2]
    unfold atB
    dsimp only
    rw [up_B, blk_h, blk_w]

theorem left_last (t : Fin cfg0.N) (h0 : ¬t.val % 11 = 0) (h1 : 1 ≤ t.val) (h2 : t.val % 11 = 10)
    (ih : (outsAt0 m c (t.val - 1) (Nat.lt_of_le_of_lt (Nat.sub_le _ _) t.isLt)).1 = xoTo m c t.val) : Left m c t.val t.isLt := by
  have e : bAdd (arrH m c) (blkRows (arrW m c) (pt t)) (xoTo m c t.val) = xoTo m c (t.val + 1) :=
    (xoTo_succ m c t.val (lt_of_lt_of_eq t.isLt N_0)).symm
  refine ⟨?_, fun r k => ?_, fun r k => ?_, fun _ => ?_⟩
  · rw [outsAt0_C m c t h0 h1 h2]
    unfold atC
    dsimp only
    rw [xo_C, blk_h, blk_w, ih, e]
  · rw [outsAt0_C m c t h0 h1 h2]
    unfold atC
    dsimp only
    rw [gate_C, blk_h, blk_w]
  · rw [outsAt0_C m c t h0 h1 h2]
    unfold atC
    dsimp only
    rw [up_C, blk_h, blk_w]
  · rw [outsAt0_C m c t h0 h1 h2]
    unfold atC
    dsimp only
    rw [hn_C, blk_h, blk_w, blk_gain, ih, e]

theorem left : ∀ (n : Nat) (hn : n < cfg0.N), Left m c n hn
  | 0, hn => left_first m c ⟨0, hn⟩ (Nat.zero_mod _) (by show ¬1 ≤ 0; omega) (by show ¬ 0 % 11 = 10; omega)
  | n + 1, hn => by
    have hN : n + 1 < 11 := lt_of_lt_of_eq hn N_0
    have ih := (left n (Nat.lt_of_succ_lt hn)).xo
    by_cases h10 : (n + 1) % 11 = 10
    · exact left_last m c ⟨n + 1, hn⟩ (by show ¬ (n + 1) % 11 = 0; omega) (by show 1 ≤ n + 1; omega) h10 ih
    · exact left_mid m c ⟨n + 1, hn⟩ (by show ¬ (n + 1) % 11 = 0; omega) (by show 1 ≤ n + 1; omega) h10 ih

theorem apart4 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (Fin.ext (by
    have e : win0_4.index t 0 = win0_4.index t' 0 := congrFun h 0
    rwa [(index4 t).1, (index4 t').1] at e))
theorem written4 (t : Fin cfg0.N) : ((cfg0.win 4).blk t).view.read (Elt Ideal) ((dats m 0 c).arrAt 4 cfg0.N)
    = (cfg0.win 4).cut (grid0.coords t) (outsAt0 m c t.val t.isLt).2.1 := by
  refine ((dats m 0 c).read_blk_arrAt_eq_flushed 4 apart4 cfg0.N t t.isLt (flush0_4 t)).trans ?_
  show (cfg0.win 4).cut (grid0.coords t) ((dats m 0 c).after 4 t) = _
  rw [after0_4]
theorem final_gate (t : Fin 11) (r : Fin 2048) (k : Fin 256) :
    ((dats m 0 c).arrAt 4 cfg0.N : A3 11 2048 256) (ix3 t r k) = bProj (arrH m c) (blkRows (arrW m c) t) 0 r k := by
  have hn : t.val < cfg0.N := lt_of_lt_of_eq t.isLt N_0.symm
  have e := congrFun (written4 m c ⟨t.val, hn⟩) (ix3 0 r k)
  rw [View.read_apply] at e
  refine Eq.trans ?_ (e.trans ((left m c t.val hn).gate r k))
  show (dats m 0 c).arrAt 4 cfg0.N _ = (dats m 0 c).arrAt 4 cfg0.N _
  congr 1
  funext a
  apply Fin.ext
  have hi := index4 ⟨t.val, hn⟩
  match a with
  | ⟨0, _⟩ => show t.val = win0_4.index ⟨t.val, hn⟩ 0 * 1 + 1 * 0; rw [hi.1]; show t.val = t.val * 1 + 1 * 0; omega
  | ⟨1, _⟩ => show r.val = win0_4.index ⟨t.val, hn⟩ 1 * 2048 + 1 * r.val; rw [hi.2.1]; omega
  | ⟨2, _⟩ => show k.val = win0_4.index ⟨t.val, hn⟩ 2 * 256 + 1 * k.val; rw [hi.2.2]; omega

theorem apart5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (Fin.ext (by
    have e : win0_5.index t 0 = win0_5.index t' 0 := congrFun h 0
    rwa [(index5 t).1, (index5 t').1] at e))
theorem written5 (t : Fin cfg0.N) : ((cfg0.win 5).blk t).view.read (Elt Ideal) ((dats m 0 c).arrAt 5 cfg0.N)
    = (cfg0.win 5).cut (grid0.coords t) (outsAt0 m c t.val t.isLt).2.2.1 := by
  refine ((dats m 0 c).read_blk_arrAt_eq_flushed 5 apart5 cfg0.N t t.isLt (flush0_5 t)).trans ?_
  show (cfg0.win 5).cut (grid0.coords t) ((dats m 0 c).after 5 t) = _
  rw [after0_5]
theorem final_up (t : Fin 11) (r : Fin 2048) (k : Fin 256) :
    ((dats m 0 c).arrAt 5 cfg0.N : A3 11 2048 256) (ix3 t r k) = bProj (arrH m c) (blkRows (arrW m c) t) 1 r k := by
  have hn : t.val < cfg0.N := lt_of_lt_of_eq t.isLt N_0.symm
  have e := congrFun (written5 m c ⟨t.val, hn⟩) (ix3 0 r k)
  rw [View.read_apply] at e
  refine Eq.trans ?_ (e.trans ((left m c t.val hn).up r k))
  show (dats m 0 c).arrAt 5 cfg0.N _ = (dats m 0 c).arrAt 5 cfg0.N _
  congr 1
  funext a
  apply Fin.ext
  have hi := index5 ⟨t.val, hn⟩
  match a with
  | ⟨0, _⟩ => show t.val = win0_5.index ⟨t.val, hn⟩ 0 * 1 + 1 * 0; rw [hi.1]; show t.val = t.val * 1 + 1 * 0; omega
  | ⟨1, _⟩ => show r.val = win0_5.index ⟨t.val, hn⟩ 1 * 2048 + 1 * r.val; rw [hi.2.1]; omega
  | ⟨2, _⟩ => show k.val = win0_5.index ⟨t.val, hn⟩ 2 * 256 + 1 * k.val; rw [hi.2.2]; omega

/-- Only one grid point writes this array back. -/
theorem apart3 (t t' : Fin cfg0.N) (h : (cfg0.win 3).flush t = true) (h' : (cfg0.win 3).flush t' = true) (hne : t ≠ t') :
    Disjoint ((cfg0.win 3).blk t).view.set ((cfg0.win 3).blk t').view.set := by
  have a := (flush0_3 t).mp h
  have a' := (flush0_3 t').mp h'
  have b : t.val < 11 := lt_of_lt_of_eq t.isLt N_0
  have b' : t'.val < 11 := lt_of_lt_of_eq t'.isLt N_0
  exact absurd (Fin.ext (by omega)) hne
theorem written3 (t : Fin cfg0.N) (h : t.val % 11 = 10) : ((cfg0.win 3).blk t).view.read (Elt Ideal) ((dats m 0 c).arrAt 3 cfg0.N)
    = (cfg0.win 3).cut (grid0.coords t) (outsAt0 m c t.val t.isLt).1 := by
  refine ((dats m 0 c).read_blk_arrAt_eq_flushed 3 apart3 cfg0.N t t.isLt ((flush0_3 t).mpr h)).trans ?_
  show (cfg0.win 3).cut (grid0.coords t) ((dats m 0 c).after 3 t) = _
  rw [after0_3]
theorem final_xo : ((dats m 0 c).arrAt 3 cfg0.N : A2 2048 1024) = xoTo m c 11 := by
  funext j
  obtain ⟨r, k, rfl⟩ := exists_ix2 j
  have hn : 10 < cfg0.N := lt_of_lt_of_eq (by decide) N_0.symm
  have e := congrFun (written3 m c ⟨10, hn⟩ rfl) (ix2 r k)
  rw [View.read_apply] at e
  refine Eq.trans ?_ (e.trans (congrFun (left m c 10 hn).xo (ix2 r k)))
  show (dats m 0 c).arrAt 3 cfg0.N _ = (dats m 0 c).arrAt 3 cfg0.N _
  congr 1
  funext a
  apply Fin.ext
  have hi := index3 ⟨10, hn⟩
  match a with
  | ⟨0, _⟩ => show r.val = win0_3.index ⟨10, hn⟩ 0 * 2048 + 1 * r.val; rw [hi.1]; omega
  | ⟨1, _⟩ => show k.val = win0_3.index ⟨10, hn⟩ 1 * 1024 + 1 * k.val; rw [hi.2]; omega

/-- Only one grid point writes this array back. -/
theorem apart6 (t t' : Fin cfg0.N) (h : (cfg0.win 6).flush t = true) (h' : (cfg0.win 6).flush t' = true) (hne : t ≠ t') :
    Disjoint ((cfg0.win 6).blk t).view.set ((cfg0.win 6).blk t').view.set := by
  have a := (flush0_6 t).mp h
  have a' := (flush0_6 t').mp h'
  have b : t.val < 11 := lt_of_lt_of_eq t.isLt N_0
  have b' : t'.val < 11 := lt_of_lt_of_eq t'.isLt N_0
  exact absurd (Fin.ext (by omega)) hne
theorem written6 (t : Fin cfg0.N) (h : t.val % 11 = 10) : ((cfg0.win 6).blk t).view.read (Elt Ideal) ((dats m 0 c).arrAt 6 cfg0.N)
    = (cfg0.win 6).cut (grid0.coords t) (outsAt0 m c t.val t.isLt).2.2.2 := by
  refine ((dats m 0 c).read_blk_arrAt_eq_flushed 6 apart6 cfg0.N t t.isLt ((flush0_6 t).mpr h)).trans ?_
  show (cfg0.win 6).cut (grid0.coords t) ((dats m 0 c).after 6 t) = _
  rw [after0_6]
theorem final_hn : ((dats m 0 c).arrAt 6 cfg0.N : A2 2048 1024) = normed (xoTo m c 11) (arrGain m c) := by
  funext j
  obtain ⟨r, k, rfl⟩ := exists_ix2 j
  have hn : 10 < cfg0.N := lt_of_lt_of_eq (by decide) N_0.symm
  have e := congrFun (written6 m c ⟨10, hn⟩ rfl) (ix2 r k)
  rw [View.read_apply] at e
  refine Eq.trans ?_ (e.trans (congrFun ((left m c 10 hn).hn rfl) (ix2 r k)))
  show (dats m 0 c).arrAt 6 cfg0.N _ = (dats m 0 c).arrAt 6 cfg0.N _
  congr 1
  funext a
  apply Fin.ext
  have hi := index6 ⟨10, hn⟩
  match a with
  | ⟨0, _⟩ => show r.val = win0_6.index ⟨10, hn⟩ 0 * 2048 + 1 * r.val; rw [hi.1]; omega
  | ⟨1, _⟩ => show k.val = win0_6.index ⟨10, hn⟩ 1 * 1024 + 1 * k.val; rw [hi.2]; omega

/-- What a run leaves in the four arrays, and the arguments unchanged. -/
theorem results : θ_run defs (onTc (τ := τ) (main (F := Ideal))) ⟨m, fun _ => 0, ρ⟩ fun r => ∀ c : Dev nD,
      r.2.mem ((c : Thread nD τ).loc main_v8_0) = (dats m 0 c).arrAt 3 cfg0.N
      ∧ r.2.mem ((c : Thread nD τ).loc main_v8_1) = (dats m 0 c).arrAt 4 cfg0.N
      ∧ r.2.mem ((c : Thread nD τ).loc main_v8_2) = (dats m 0 c).arrAt 5 cfg0.N
      ∧ r.2.mem ((c : Thread nD τ).loc main_v8_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 3, (h.1 c).1 4, (h.1 c).1 5, (h.1 c).1 6, h.2 c⟩) (θ_run_and (run_main m ρ) (unchanged m ρ))

end Cert.Ffn1FwdIdeal.Value
end
-- ==== Proof.Ffn1FwdHost.lean ====
module
public import proofs.«01_k».proof.Proof.Ffn1FwdRun

@[expose] public section
noncomputable section
namespace Cert.Ffn1FwdIdeal.Value
open Cert.Ffn1FwdIdeal Cert.Ffn1FwdIdeal.Gen Cert.Ffn1FwdIdeal.Body Cert.FfnMath Idealize.ShloMosaic Idealize.ShloMosaic.TcCoe Idealize.SL.Sem

variable (m : (ℓ : Loc nD τ sig) → Buf (Elt Ideal) ℓ) (c : Dev nD)

/-- The program's arguments: the layer's input, the three weights, the rows to add to, and the gain. -/
def inH : A2 2048 1024 := m ((c : Thread nD τ).loc main_arg0)
def inG : A2 1024 2816 := m ((c : Thread nD τ).loc main_arg1)
def inU : A2 1024 2816 := m ((c : Thread nD τ).loc main_arg2)
def inD : A2 2816 1024 := m ((c : Thread nD τ).loc main_arg3)
def inX : A2 2048 1024 := m ((c : Thread nD τ).loc main_arg4)
def inGain : A2 1 1024 := m ((c : Thread nD τ).loc main_arg5)

theorem arrH_eq : arrH m c = inH m c := by
  unfold arrH V
  after_results_simp
  rfl
theorem arrX_eq : arrX m c = inX m c := V_main_arg4 m c
theorem arrGain_eq : arrGain m c = inGain m c := V_main_arg5 m c
theorem arrW_at0 (r : Fin 2816) (x : Fin 1024) : arrW m c (ix3 0 r x) = inG m c (ix2 x r) := by
  unfold arrW V
  after_results_simp
  pointwise
  after_results_simp
  pointwise
  rfl
theorem arrW_at1 (r : Fin 2816) (x : Fin 1024) : arrW m c (ix3 1 r x) = inU m c (ix2 x r) := by
  unfold arrW V
  after_results_simp
  pointwise
  after_results_simp
  pointwise
  rfl
theorem arrW_at2 (r : Fin 2816) (x : Fin 1024) : arrW m c (ix3 2 r x) = inD m c (ix2 r x) := by
  unfold arrW V
  after_results_simp
  pointwise
  after_results_simp
  pointwise
  rfl

theorem gate_cols (t : Fin 11) (r : Fin 2048) (k : Fin 256) :
    bProj (arrH m c) (blkRows (arrW m c) t) 0 r k = proj (inH m c) (inG m c) r (colOf t k) :=
  (gate_whole (arrW_at0 m c) t r k).trans (congrArg (fun h => proj h (inG m c) r (colOf t k)) (arrH_eq m c))
theorem up_cols (t : Fin 11) (r : Fin 2048) (k : Fin 256) :
    bProj (arrH m c) (blkRows (arrW m c) t) 1 r k = proj (inH m c) (inU m c) r (colOf t k) :=
  (up_whole (arrW_at1 m c) t r k).trans (congrArg (fun h => proj h (inU m c) r (colOf t k)) (arrH_eq m c))

/-- All the blocks added: the layer's output. -/
theorem xo_whole : xoTo m c 11 = ffAdd (inH m c) (inG m c) (inU m c) (inD m c) (inX m c) := by
  funext i
  obtain ⟨r, x, rfl⟩ := exists_ix2 i
  rw [xoTo_last, steps_whole (arrW_at0 m c) (arrW_at1 m c) (arrW_at2 m c), arrH_eq, arrX_eq]
  rfl
end Cert.Ffn1FwdIdeal.Value
end
-- ==== Proof.Ffn1FwdRef.lean ====
module
public import proofs.«01_k».proof.Proof.FfnFwdMath
public import proofs.«01_k».proof.Proof.Gen.Ffn1FwdRefIdeal.Read

/-! What the reference computes, read at an index, in the words of the whole arrays' functions. -/

@[expose] public section
noncomputable section
namespace Cert.Ffn1FwdRefIdeal.Read
open Cert.Ffn1FwdRefIdeal Cert.FfnMath Idealize.ShloMosaic Idealize.ShloMosaic.TcCoe Idealize.SL.Sem

variable (h : A2 2048 1024) (wg wu : A2 1024 2816) (wd : A2 2816 1024) (x : A2 2048 1024) (gain : A2 1 1024)

theorem act_at (r : Fin 2048) (f : Fin 2816) : val_main_v3 (F := Ideal) h wg wu (ix2 r f) = wC h wg wu r f := by
  pointwise [val_main_v3, val_main_v2, val_main_call0_v5, val_main_call0_v4, val_main_call0_v3, val_main_call0_v2, val_main_call0_v1, val_main_call0_v0, val_main_call0_cst, val_main_call0_cst_0, val_main_v0, val_main_v1]
  unfold wC actF sg proj
  rw [zero_sub]

/-- The layer's output. -/
theorem out_whole : val_main_v7 (F := Ideal) h wg wu wd x = ffAdd h wg wu wd x := by
  funext i
  obtain ⟨r, y, rfl⟩ := exists_ix2 i
  pointwise [val_main_v7, val_main_v6, val_main_v5, val_main_cst, val_main_v4]
  exact congrArg (fun z : EReal => x (ix2 r y) + half * z) (Finset.sum_congr rfl fun f _ => congrArg (· * wd (ix2 f y)) (act_at h wg wu r f))

theorem gate_saved (t : Fin 11) (r : Fin 2048) (k : Fin 256) :
    val_main_v10 (F := Ideal) h wg (ix3 t r k) = proj h wg r (colOf t k) := by
  pointwise [val_main_v10, val_main_v9, val_main_v8, val_main_v0]
  exact Finset.sum_congr rfl fun y _ => congrArg (fun q : Fin 2816 => h (ix2 r y) * wg (ix2 y q))
    (Fin.ext (congrArg (· + k.val) (Nat.mul_comm t.val 256)))
theorem up_saved (t : Fin 11) (r : Fin 2048) (k : Fin 256) :
    val_main_v13 (F := Ideal) h wu (ix3 t r k) = proj h wu r (colOf t k) := by
  pointwise [val_main_v13, val_main_v12, val_main_v11, val_main_v1]
  exact Finset.sum_congr rfl fun y _ => congrArg (fun q : Fin 2816 => h (ix2 r y) * wu (ix2 y q))
    (Fin.ext (congrArg (· + k.val) (Nat.mul_comm t.val 256)))

/-- The normed output. -/
theorem hn_whole : val_main_v26 (F := Ideal) h wg wu wd x gain = normed (ffAdd h wg wu wd x) gain := by
  funext i
  obtain ⟨r, y, rfl⟩ := exists_ix2 i
  pointwise [val_main_v26, val_main_v25, val_main_v24, val_main_v23, val_main_v22, val_main_v21, val_main_v20, val_main_v19, val_main_cst_2, val_main_v18, val_main_v17, val_main_cst_1, val_main_v16, val_main_v15, val_main_cst_0, val_main_v14]
  rw [out_whole]
  rfl
end Cert.Ffn1FwdRefIdeal.Read
end
-- ==== Proof.Ffn1FwdValue.lean ====
module
public import proofs.«01_k».proof.Defs
public import proofs.«01_k».proof.Proof.Ffn1FwdHost
public import proofs.«01_k».proof.Proof.Ffn1FwdRef
public import proofs.«01_k».proof.Proof.Gen.Ffn1FwdRefIdeal.Run

/-! The first feed-forward: the kernel's results and the reference's are the same functions of the arguments. -/

@[expose] public section
noncomputable section
namespace Cert.Ffn1FwdValue
open Cert.FfnMath Idealize.ShloMosaic Idealize.ShloMosaic.TcCoe Idealize.SL.Sem

section Kernel
open Cert.Ffn1FwdIdeal Cert.Ffn1FwdIdeal.Gen Cert.Ffn1FwdIdeal.Body Cert.Ffn1FwdIdeal.Value
variable (m : (ℓ : Loc nD τ sig) → Buf (Elt Ideal) ℓ) (c : Dev nD)

/-- The layer's output, from the arguments. -/
def out : A2 2048 1024 := ffAdd (inH m c) (inG m c) (inU m c) (inD m c) (inX m c)

theorem kernel_out : ((dats m 0 c).arrAt 3 cfg0.N : A2 2048 1024) = out m c := (final_xo m c).trans (xo_whole m c)
theorem kernel_gate : ((dats m 0 c).arrAt 4 cfg0.N : A3 11 2048 256) = fun i => proj (inH m c) (inG m c) (i 1) (colOf (i 0) (i 2)) := by
  funext i
  obtain ⟨t, r, k, rfl⟩ := exists_ix3 i
  exact (final_gate m c t r k).trans (gate_cols m c t r k)
theorem kernel_up : ((dats m 0 c).arrAt 5 cfg0.N : A3 11 2048 256) = fun i => proj (inH m c) (inU m c) (i 1) (colOf (i 0) (i 2)) := by
  funext i
  obtain ⟨t, r, k, rfl⟩ := exists_ix3 i
  exact (final_up m c t r k).trans (up_cols m c t r k)
theorem kernel_hn : ((dats m 0 c).arrAt 6 cfg0.N : A2 2048 1024) = normed (out m c) (inGain m c) := by
  rw [final_hn, xo_whole, arrGain_eq]
  rfl
end Kernel

/-- The reference terminates, leaves its arguments alone, and declares no semaphore. -/
theorem frame_ref : Cert.quiescent_Ffn1FwdRefIdeal := fun m ρ _ =>
  (θ_run Cert.Ffn1FwdRefIdeal.defs _ _).mono (fun r h => ⟨fun c => (h c).2.2.2.2, sem_eq_zero_of_no_sems (by decide) r.2⟩)
    (Cert.Ffn1FwdRefIdeal.Value.run (F := Ideal) m ρ)

open Cert.Ffn1FwdIdeal.Value in
theorem algebraic : Cert.algebraic_Ffn1FwdIdeal_Ffn1FwdRefIdeal := by
  intro m g m' g' hp hm
  refine ⟨fun c => out m c, fun c i => proj (inH m c) (inG m c) (i 1) (colOf (i 0) (i 2)),
    fun c i => proj (inH m c) (inU m c) (i 1) (colOf (i 0) (i 2)), fun c => normed (out m c) (inGain m c),
    (θ_run _ _ _).mono (fun r h c => ?_) (results m g), (θ_run _ _ _).mono (fun r h c => ?_) (Cert.Ffn1FwdRefIdeal.Value.run m' g')⟩
  · obtain ⟨e0, e1, e2, e3, a⟩ := h c
    exact ⟨e0.trans (kernel_out m c), e1.trans (kernel_gate m c), e2.trans (kernel_up m c), e3.trans (kernel_hn m c), a⟩
  · obtain ⟨e0, e1, e2, e3, a⟩ := h c
    obtain ⟨h0, h1, h2, h3, h4, h5⟩ := hm c
    refine ⟨e0.trans ?_, e1.trans ?_, e2.trans ?_, e3.trans ?_, a⟩
    · refine (Cert.Ffn1FwdRefIdeal.Read.val_main_v7_eq _ _ _ _ _).trans ?_
      rw [h0, h1, h2, h3, h4]
      exact Cert.Ffn1FwdRefIdeal.Read.out_whole _ _ _ _ _
    · refine (Cert.Ffn1FwdRefIdeal.Read.val_main_v10_eq _ _).trans ?_
      rw [h0, h1]
      funext i
      obtain ⟨t, r, k, rfl⟩ := exists_ix3 i
      exact Cert.Ffn1FwdRefIdeal.Read.gate_saved _ _ t r k
    · refine (Cert.Ffn1FwdRefIdeal.Read.val_main_v13_eq _ _).trans ?_
      rw [h0, h2]
      funext i
      obtain ⟨t, r, k, rfl⟩ := exists_ix3 i
      exact Cert.Ffn1FwdRefIdeal.Read.up_saved _ _ t r k
    · refine (Cert.Ffn1FwdRefIdeal.Read.val_main_v26_eq _ _ _ _ _ _).trans ?_
      rw [h0, h1, h2, h3, h4, h5]
      exact Cert.Ffn1FwdRefIdeal.Read.hn_whole _ _ _ _ _ _

end Cert.Ffn1FwdValue
end
-- ==== Proof.FfnLossMath.lean ====
module
public import proofs.«01_k».proof.Proof.FfnFwdMath

/-! The loss of the layer's output against a target, and its gradient: half the sum over the rows of the mean square
difference. The kernel adds the squares up in 128 lanes, the reference row by row. -/

@[expose] public section
noncomputable section
namespace Cert.FfnMath
open Idealize.ShloMosaic

/-- One over the model width, and half of it, as the programs write them. -/
abbrev overWidth : EReal := Ideal.ofBits .f32 0x3A800000#32
abbrev halfOver : EReal := Ideal.ofBits .f32 0x3A000000#32

theorem overWidth_real : overWidth = (((1 : ℝ) / 1024 : ℝ) : EReal) := by
  simp [overWidth, Ideal.ofBits, Ideal.ieee, -EReal.coe_mul]; norm_num
theorem halfOver_real : halfOver = (((1 : ℝ) / 2048 : ℝ) : EReal) := by
  simp [halfOver, Ideal.ofBits, Ideal.ieee, -EReal.coe_mul]; norm_num
theorem two_real : Ideal.ofBits .f32 0x40000000#32 = ((2 : ℝ) : EReal) := by
  simp [Ideal.ofBits, Ideal.ieee, -EReal.coe_mul]; norm_num

theorem div_width (z : EReal) : Ideal.div z width = z * overWidth := by
  rw [ofBits_width, overWidth_real]
  unfold Ideal.div
  rw [if_neg (by exact_mod_cast (by norm_num : (1024 : ℝ) ≠ 0)), ← EReal.coe_inv]
  norm_num

section
variable (y t : A2 2048 1024)

/-- The difference from the target. -/
def err (r : Fin 2048) (x : Fin 1024) : EReal := y (ix2 r x) - t (ix2 r x)
/-- The loss's gradient. -/
def dyOf : A2 2048 1024 := fun i => err y t (i 0) (i 1) * overWidth
/-- Half of the gradient. -/
def dybOf : A2 2048 1024 := fun i => half * dyOf y t i
/-- The squares of 1024 rows from row `o` on, column by column. -/
def colLoss (o : Nat) (ho : o + 1024 ≤ 2048) (x : Fin 1024) : EReal :=
  (∑ a : Fin 1024, err y t ⟨o + a.val, by omega⟩ x * err y t ⟨o + a.val, by omega⟩ x) * halfOver
/-- One of the 128 lanes, from the columns' sums of both halves of the rows. -/
def lane (C C' : Fin 1024 → EReal) (l : Fin 128) : EReal :=
  0 + C ⟨0 + l.val, by omega⟩ + C ⟨128 + l.val, by omega⟩ + C ⟨256 + l.val, by omega⟩ + C ⟨384 + l.val, by omega⟩
    + C ⟨512 + l.val, by omega⟩ + C ⟨640 + l.val, by omega⟩ + C ⟨768 + l.val, by omega⟩ + C ⟨896 + l.val, by omega⟩
    + C' ⟨0 + l.val, by omega⟩ + C' ⟨128 + l.val, by omega⟩ + C' ⟨256 + l.val, by omega⟩ + C' ⟨384 + l.val, by omega⟩
    + C' ⟨512 + l.val, by omega⟩ + C' ⟨640 + l.val, by omega⟩ + C' ⟨768 + l.val, by omega⟩ + C' ⟨896 + l.val, by omega⟩
/-- The lanes of the loss. -/
def lanesOf : A2 1 128 := fun i => lane (colLoss y t 0 (by omega)) (colLoss y t 1024 (by omega)) (i 1)
/-- The loss. -/
def lossOf : EReal := halfOver * ∑ r : Fin 2048, ∑ x : Fin 1024, err y t r x * err y t r x
end

/-- The columns in eight groups of 128. -/
theorem sum_groups (C : Fin 1024 → EReal) :
    (∑ l : Fin 128, C ⟨0 + l.val, by omega⟩) + (∑ l : Fin 128, C ⟨128 + l.val, by omega⟩) + (∑ l : Fin 128, C ⟨256 + l.val, by omega⟩)
      + (∑ l : Fin 128, C ⟨384 + l.val, by omega⟩) + (∑ l : Fin 128, C ⟨512 + l.val, by omega⟩) + (∑ l : Fin 128, C ⟨640 + l.val, by omega⟩)
      + (∑ l : Fin 128, C ⟨768 + l.val, by omega⟩) + (∑ l : Fin 128, C ⟨896 + l.val, by omega⟩) = ∑ x : Fin 1024, C x := by
  have e : ∑ k : Fin 8, ∑ l : Fin 128, C ⟨128 * k.val + l.val, by omega⟩ = ∑ x : Fin 1024, C x := by
    rw [← Fintype.sum_prod_type' (fun (k : Fin 8) (l : Fin 128) => C ⟨128 * k.val + l.val, by omega⟩)]
    refine Fintype.sum_equiv (finProdFinEquiv (m := 8) (n := 128)) _ _ fun p => ?_
    refine congrArg C (Fin.ext ?_)
    show 128 * p.1.val + p.2.val = p.2.val + 128 * p.1.val
    exact Nat.add_comm _ _
  rw [← e, Fin.sum_univ_eight]
  rfl

/-- The rows in two halves. -/
theorem sum_halves (F : Fin 2048 → EReal) :
    (∑ a : Fin 1024, F ⟨0 + a.val, by omega⟩) + (∑ a : Fin 1024, F ⟨1024 + a.val, by omega⟩) = ∑ r : Fin 2048, F r := by
  have e : ∑ q : Fin 2, ∑ a : Fin 1024, F ⟨1024 * q.val + a.val, by omega⟩ = ∑ r : Fin 2048, F r := by
    rw [← Fintype.sum_prod_type' (fun (q : Fin 2) (a : Fin 1024) => F ⟨1024 * q.val + a.val, by omega⟩)]
    refine Fintype.sum_equiv (finProdFinEquiv (m := 2) (n := 1024)) _ _ fun p => ?_
    refine congrArg F (Fin.ext ?_)
    show 1024 * p.1.val + p.2.val = p.2.val + 1024 * p.1.val
    exact Nat.add_comm _ _
  rw [← e, Fin.sum_univ_two]
  rfl

theorem lane_sum (C C' : Fin 1024 → EReal) : ∑ l : Fin 128, lane C C' l = ∑ x, C x + ∑ x, C' x := by
  unfold lane
  rw [← sum_groups C, ← sum_groups C']
  simp only [zero_add, Finset.sum_add_distrib, add_assoc]

/-- The lanes add up to the loss. -/
theorem lanes_loss (y t : A2 2048 1024) : ∑ l : Fin 128, lanesOf y t (ix2 0 l) = lossOf y t := by
  refine (lane_sum _ _).trans ?_
  have k : ∀ o ho, ∑ x, colLoss y t o ho x
      = halfOver * ∑ a : Fin 1024, ∑ x : Fin 1024, err y t ⟨o + a.val, by omega⟩ x * err y t ⟨o + a.val, by omega⟩ x := by
    intro o ho
    unfold colLoss
    rw [Finset.sum_comm, halfOver_real, mul_sum_real _ _ _ (by norm_num)]
    exact Finset.sum_congr rfl fun x _ => mul_comm _ _
  rw [k, k]
  unfold lossOf
  rw [← sum_halves, halfOver_real]
  exact (EReal.left_distrib_of_nonneg_of_ne_top (by exact_mod_cast (by norm_num : (0 : ℝ) ≤ 1 / 2048)) (EReal.coe_ne_top _) _ _).symm

/-- The loss row by row. -/
theorem loss_rows (y t : A2 2048 1024) :
    half * ∑ r : Fin 2048, Ideal.div (∑ x : Fin 1024, err y t r x * err y t r x) width = lossOf y t := by
  unfold lossOf
  simp only [div_width]
  rw [half_real, overWidth_real, halfOver_real, mul_sum_real _ _ _ (by norm_num), mul_sum_real _ _ _ (by norm_num)]
  refine Finset.sum_congr rfl fun r _ => ?_
  rw [mul_comm _ (((1 : ℝ) / 1024 : ℝ) : EReal), ← mul_assoc, ← EReal.coe_mul]
  norm_num

/-- The gradient with its factors in the reference's order. -/
theorem dy_order (e : EReal) :
    Ideal.div half width * (Ideal.ofBits .f32 0x40000000#32 * e) = e * overWidth := by
  rw [div_width, half_real, two_real, overWidth_real, ← EReal.coe_mul, ← mul_assoc, ← EReal.coe_mul, mul_comm]
  norm_num

/-- A load of the whole of a buffer that the last store filled reads what it stored. -/
theorem readCov_full {sig : RefSig} {κ : Kind} {sp : Space} {n k : Nat} {Val : EltTy → Type} {e : EltTy} [∀ e, Nonempty (Val e)]
    (v : View sig κ sp ⟨2, ![n, k]⟩ e) (w : (⟨2, ![n, k]⟩ : Shape).Idx → Val e) (L : List (View.Piece Val ⟨2, ![n, k]⟩ e)) (h) :
    v.readCov (⟨Rect.whole ⟨2, ![n, k]⟩, w⟩ :: L) (Rect.unit ![0, 0] ![n, k] h).toLoadRect = w := by
  rw [View.readCov_eq_canon']
  funext j
  refine Eq.trans (congrArg _ ?_) (View.canon_cons_emb (Rect.whole ⟨2, ![n, k]⟩) w L j)
  funext a
  apply Fin.ext
  match a with
  | ⟨0, _⟩ => rfl
  | ⟨1, _⟩ => rfl

/-- A store of the whole leaves what it stored. -/
theorem canon_full {n k : Nat} {Val : EltTy → Type} {e : EltTy} [∀ e, Nonempty (Val e)]
    (w : (⟨2, ![n, k]⟩ : Shape).Idx → Val e) (L : List (View.Piece Val ⟨2, ![n, k]⟩ e)) (h) :
    View.canon ((⟨Rect.unit ![0, 0] ![n, k] h, w⟩ : View.Piece Val ⟨2, ![n, k]⟩ e) :: L) = w := by
  funext j
  refine Eq.trans (congrArg _ ?_) (View.canon_cons_emb (Rect.unit (s := ⟨2, ![n, k]⟩) ![0, 0] ![n, k] h) w L j)
  funext a
  apply Fin.ext
  match a with
  | ⟨0, _⟩ => show (j 0).val = 0 + 1 * (j 0).val; omega
  | ⟨1, _⟩ => show (j 1).val = 0 + 1 * (j 1).val; omega

end Cert.FfnMath
end
-- ==== Proof.Ffn2FwdBlock.lean ====
module
public import proofs.«01_k».proof.Proof.Ffn2FwdIdealFrame
public import proofs.«01_k».proof.Proof.FfnLossMath

/-! What one point of the grid stores, and the values of the stores at an index: the two row chunks of the output, of the
gate's and the up projection's columns, and of the loss's gradient; and the lanes of the loss. The chunks' payloads carry other
names at the first grid point, which adds to the rows that it copied in, than at the later ones. -/

@[expose] public section
noncomputable section
namespace Cert.Ffn2FwdIdeal.Value
open Cert.Ffn2FwdIdeal Cert.Ffn2FwdIdeal.Gen Cert.FfnMath Idealize.ShloMosaic

section Pieces
variable (h : Vec Ideal S2048x1024 .bf16) (w : Vec Ideal S3x256x1024 .bf16) (x t : Vec Ideal S2048x1024 .f32)

/-- The output's stores at the first point, last first, over the rows `x`. -/
def xoFirst : List (View.Piece (Elt Ideal) S2048x1024 .f32) :=
  [⟨Rect.unit ![1024, 0] ![1024, 1024] inb_S2048x1024_S1024x1024_1024_0, k0_pay2 (k0_pay22 (k0_pay10 (View.ld w (Rect.unit ![0, 0, 0] ![2, 256, 1024] inb_S3x256x1024_S2x256x1024_0_0_0))) (View.ld h (Rect.unit ![1024, 0] ![1024, 1024] inb_S2048x1024_S1024x1024_1024_0))) (View.ld w (Rect.unit ![2, 0, 0] ![1, 256, 1024] inb_S3x256x1024_S1x256x1024_2_0_0)) (View.ld x (Rect.unit ![1024, 0] ![1024, 1024] inb_S2048x1024_S1024x1024_1024_0))⟩,
    ⟨Rect.unit ![0, 0] ![1024, 1024] inb_S2048x1024_S1024x1024_0_0, k0_pay18 (k0_pay14 (View.ld w (Rect.unit ![0, 0, 0] ![2, 256, 1024] inb_S3x256x1024_S2x256x1024_0_0_0)) (View.ld h (Rect.unit ![0, 0] ![1024, 1024] inb_S2048x1024_S1024x1024_0_0))) (View.ld w (Rect.unit ![2, 0, 0] ![1, 256, 1024] inb_S3x256x1024_S1x256x1024_2_0_0)) (View.ld x (Rect.unit ![0, 0] ![1024, 1024] inb_S2048x1024_S1024x1024_0_0))⟩]
/-- The output's stores at a later point. -/
def xoLater : List (View.Piece (Elt Ideal) S2048x1024 .f32) :=
  [⟨Rect.unit ![1024, 0] ![1024, 1024] inb_S2048x1024_S1024x1024_1024_0, k0_pay8 (k0_pay24 (View.ld w (Rect.unit ![0, 0, 0] ![2, 256, 1024] inb_S3x256x1024_S2x256x1024_0_0_0))) (View.ld h (Rect.unit ![1024, 0] ![1024, 1024] inb_S2048x1024_S1024x1024_1024_0)) (View.ld w (Rect.unit ![2, 0, 0] ![1, 256, 1024] inb_S3x256x1024_S1x256x1024_2_0_0)) (View.ld x (Rect.unit ![1024, 0] ![1024, 1024] inb_S2048x1024_S1024x1024_1024_0))⟩,
    ⟨Rect.unit ![0, 0] ![1024, 1024] inb_S2048x1024_S1024x1024_0_0, k0_pay30 (View.ld w (Rect.unit ![0, 0, 0] ![2, 256, 1024] inb_S3x256x1024_S2x256x1024_0_0_0)) (View.ld h (Rect.unit ![0, 0] ![1024, 1024] inb_S2048x1024_S1024x1024_0_0)) (View.ld w (Rect.unit ![2, 0, 0] ![1, 256, 1024] inb_S3x256x1024_S1x256x1024_2_0_0)) (View.ld x (Rect.unit ![0, 0] ![1024, 1024] inb_S2048x1024_S1024x1024_0_0))⟩]
/-- The gate's stores at the first point. -/
def gFirst : List (View.Piece (Elt Ideal) S1x2048x256 .bf16) :=
  [⟨Rect.unit ![0, 1024, 0] ![1, 1024, 256] inb_S1x2048x256_S1x1024x256_0_1024_0, k0_pay23 (k0_pay10 (View.ld w (Rect.unit ![0, 0, 0] ![2, 256, 1024] inb_S3x256x1024_S2x256x1024_0_0_0))) (View.ld h (Rect.unit ![1024, 0] ![1024, 1024] inb_S2048x1024_S1024x1024_1024_0))⟩,
    ⟨Rect.unit ![0, 0, 0] ![1, 1024, 256] inb_S1x2048x256_S1x1024x256_0_0_0, k0_pay15 (View.ld w (Rect.unit ![0, 0, 0] ![2, 256, 1024] inb_S3x256x1024_S2x256x1024_0_0_0)) (View.ld h (Rect.unit ![0, 0] ![1024, 1024] inb_S2048x1024_S1024x1024_0_0))⟩]
/-- The gate's stores at a later point. -/
def gLater : List (View.Piece (Elt Ideal) S1x2048x256 .bf16) :=
  [⟨Rect.unit ![0, 1024, 0] ![1, 1024, 256] inb_S1x2048x256_S1x1024x256_0_1024_0, k0_pay6 (k0_pay24 (View.ld w (Rect.unit ![0, 0, 0] ![2, 256, 1024] inb_S3x256x1024_S2x256x1024_0_0_0))) (View.ld h (Rect.unit ![1024, 0] ![1024, 1024] inb_S2048x1024_S1024x1024_1024_0))⟩,
    ⟨Rect.unit ![0, 0, 0] ![1, 1024, 256] inb_S1x2048x256_S1x1024x256_0_0_0, k0_pay28 (View.ld w (Rect.unit ![0, 0, 0] ![2, 256, 1024] inb_S3x256x1024_S2x256x1024_0_0_0)) (View.ld h (Rect.unit ![0, 0] ![1024, 1024] inb_S2048x1024_S1024x1024_0_0))⟩]
/-- The up projection's stores at the first point. -/
def uFirst : List (View.Piece (Elt Ideal) S1x2048x256 .bf16) :=
  [⟨Rect.unit ![0, 1024, 0] ![1, 1024, 256] inb_S1x2048x256_S1x1024x256_0_1024_0, k0_pay1 (k0_pay21 (k0_pay10 (View.ld w (Rect.unit ![0, 0, 0] ![2, 256, 1024] inb_S3x256x1024_S2x256x1024_0_0_0))) (View.ld h (Rect.unit ![1024, 0] ![1024, 1024] inb_S2048x1024_S1024x1024_1024_0)))⟩,
    ⟨Rect.unit ![0, 0, 0] ![1, 1024, 256] inb_S1x2048x256_S1x1024x256_0_0_0, k0_pay17 (k0_pay16 (View.ld w (Rect.unit ![0, 0, 0] ![2, 256, 1024] inb_S3x256x1024_S2x256x1024_0_0_0)) (View.ld h (Rect.unit ![0, 0] ![1024, 1024] inb_S2048x1024_S1024x1024_0_0)))⟩]
/-- The up projection's stores at a later point. -/
def uLater : List (View.Piece (Elt Ideal) S1x2048x256 .bf16) :=
  [⟨Rect.unit ![0, 1024, 0] ![1, 1024, 256] inb_S1x2048x256_S1x1024x256_0_1024_0, k0_pay7 (k0_pay24 (View.ld w (Rect.unit ![0, 0, 0] ![2, 256, 1024] inb_S3x256x1024_S2x256x1024_0_0_0))) (View.ld h (Rect.unit ![1024, 0] ![1024, 1024] inb_S2048x1024_S1024x1024_1024_0))⟩,
    ⟨Rect.unit ![0, 0, 0] ![1, 1024, 256] inb_S1x2048x256_S1x1024x256_0_0_0, k0_pay29 (View.ld w (Rect.unit ![0, 0, 0] ![2, 256, 1024] inb_S3x256x1024_S2x256x1024_0_0_0)) (View.ld h (Rect.unit ![0, 0] ![1024, 1024] inb_S2048x1024_S1024x1024_0_0))⟩]

/-- The copies of the rows, which the first point starts with. -/
def copies : List (View.Piece (Elt Ideal) S2048x1024 .f32) :=
  [⟨Rect.unit ![1024, 0] ![1024, 1024] inb_S2048x1024_S1024x1024_1024_0, View.ld x (Rect.unit ![1024, 0] ![1024, 1024] inb_S2048x1024_S1024x1024_1024_0)⟩, ⟨Rect.unit ![0, 0] ![1024, 1024] inb_S2048x1024_S1024x1024_0_0, View.ld x (Rect.unit ![0, 0] ![1024, 1024] inb_S2048x1024_S1024x1024_0_0)⟩]
/-- The stores of the loss's gradient at the output `x` and the target `t`, last first. -/
def dyPieces : List (View.Piece (Elt Ideal) S2048x1024 .f32) :=
  [⟨Rect.unit ![1024, 0] ![1024, 1024] inb_S2048x1024_S1024x1024_1024_0, k0_pay37 (View.ld x (Rect.unit ![1024, 0] ![1024, 1024] inb_S2048x1024_S1024x1024_1024_0)) (View.ld t (Rect.unit ![1024, 0] ![1024, 1024] inb_S2048x1024_S1024x1024_1024_0))⟩, ⟨Rect.unit ![0, 0] ![1024, 1024] inb_S2048x1024_S1024x1024_0_0, k0_pay32 (View.ld x (Rect.unit ![0, 0] ![1024, 1024] inb_S2048x1024_S1024x1024_0_0)) (View.ld t (Rect.unit ![0, 0] ![1024, 1024] inb_S2048x1024_S1024x1024_0_0))⟩]
/-- The stores of half of the gradient. -/
def dybPieces : List (View.Piece (Elt Ideal) S2048x1024 .bf16) :=
  [⟨Rect.unit ![1024, 0] ![1024, 1024] inb_S2048x1024_S1024x1024_1024_0, k0_pay38 (View.ld x (Rect.unit ![1024, 0] ![1024, 1024] inb_S2048x1024_S1024x1024_1024_0)) (View.ld t (Rect.unit ![1024, 0] ![1024, 1024] inb_S2048x1024_S1024x1024_1024_0))⟩, ⟨Rect.unit ![0, 0] ![1024, 1024] inb_S2048x1024_S1024x1024_0_0, k0_pay33 (View.ld x (Rect.unit ![0, 0] ![1024, 1024] inb_S2048x1024_S1024x1024_0_0)) (View.ld t (Rect.unit ![0, 0] ![1024, 1024] inb_S2048x1024_S1024x1024_0_0))⟩]
/-- The store of the lanes of the loss. -/
def lanesPiece : FVec Ideal S1x128 .f32 :=
  k0_pay9 (k0_pay39 (View.ld x (Rect.unit ![1024, 0] ![1024, 1024] inb_S2048x1024_S1024x1024_1024_0)) (View.ld t (Rect.unit ![1024, 0] ![1024, 1024] inb_S2048x1024_S1024x1024_1024_0))) (k0_pay40 (k0_pay34 (View.ld x (Rect.unit ![0, 0] ![1024, 1024] inb_S2048x1024_S1024x1024_0_0)) (View.ld t (Rect.unit ![0, 0] ![1024, 1024] inb_S2048x1024_S1024x1024_0_0))) (k0_pay35 (View.ld x (Rect.unit ![0, 0] ![1024, 1024] inb_S2048x1024_S1024x1024_0_0)) (View.ld t (Rect.unit ![0, 0] ![1024, 1024] inb_S2048x1024_S1024x1024_0_0))) (View.ld x (Rect.unit ![1024, 0] ![1024, 1024] inb_S2048x1024_S1024x1024_1024_0)) (View.ld t (Rect.unit ![1024, 0] ![1024, 1024] inb_S2048x1024_S1024x1024_1024_0)))

theorem xoFirst_at (r : Fin 2048) (k : Fin 1024) : View.AllAt (xoFirst h w x) (ix2 r k) (bAdd h w x (ix2 r k)) := by
  unfold xoFirst
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay2, k0_pay10, k0_pay11, k0_pay12, k0_pay13, k0_pay14, k0_pay18, k0_pay19, k0_pay20, k0_pay21, k0_pay22]
    try simp only [ld_rows, ld_planes, zero_add, Fin.eta, div_lo, div_hi, mod_lo, mod_hi]
    rfl
theorem xoFirst_cover (y : S2048x1024.Idx) : ∃ p ∈ xoFirst h w x, y ∈ p.1.set :=
  View.cover_of_tiled _ ![1024, 1024] (by sl_kernel_rfl) y

theorem xoLater_at (r : Fin 2048) (k : Fin 1024) : View.AllAt (xoLater h w x) (ix2 r k) (bAdd h w x (ix2 r k)) := by
  unfold xoLater
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay3, k0_pay4, k0_pay5, k0_pay8, k0_pay24, k0_pay25, k0_pay26, k0_pay27, k0_pay30]
    try simp only [ld_rows, ld_planes, zero_add, Fin.eta, div_lo, div_hi, mod_lo, mod_hi]
    rfl
theorem xoLater_cover (y : S2048x1024.Idx) : ∃ p ∈ xoLater h w x, y ∈ p.1.set :=
  View.cover_of_tiled _ ![1024, 1024] (by sl_kernel_rfl) y

theorem gFirst_at (r : Fin 2048) (k : Fin 256) : View.AllAt (gFirst h w) (ix3 0 r k) (bProj h w 0 r k) := by
  unfold gFirst
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay10, k0_pay11, k0_pay12, k0_pay15, k0_pay19, k0_pay20, k0_pay23]
    try simp only [ld_rows, ld_planes, zero_add, Fin.eta, div_lo, div_hi, mod_lo, mod_hi]
    rfl
theorem gFirst_cover (y : S1x2048x256.Idx) : ∃ p ∈ gFirst h w, y ∈ p.1.set :=
  View.cover_of_tiled _ ![1, 1024, 256] (by sl_kernel_rfl) y

theorem gLater_at (r : Fin 2048) (k : Fin 256) : View.AllAt (gLater h w) (ix3 0 r k) (bProj h w 0 r k) := by
  unfold gLater
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay3, k0_pay4, k0_pay6, k0_pay24, k0_pay25, k0_pay26, k0_pay28]
    try simp only [ld_rows, ld_planes, zero_add, Fin.eta, div_lo, div_hi, mod_lo, mod_hi]
    rfl
theorem gLater_cover (y : S1x2048x256.Idx) : ∃ p ∈ gLater h w, y ∈ p.1.set :=
  View.cover_of_tiled _ ![1, 1024, 256] (by sl_kernel_rfl) y

theorem uFirst_at (r : Fin 2048) (k : Fin 256) : View.AllAt (uFirst h w) (ix3 0 r k) (bProj h w 1 r k) := by
  unfold uFirst
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay1, k0_pay10, k0_pay11, k0_pay13, k0_pay16, k0_pay17, k0_pay19, k0_pay21]
    try simp only [ld_rows, ld_planes, zero_add, Fin.eta, div_lo, div_hi, mod_lo, mod_hi]
    rfl
theorem uFirst_cover (y : S1x2048x256.Idx) : ∃ p ∈ uFirst h w, y ∈ p.1.set :=
  View.cover_of_tiled _ ![1, 1024, 256] (by sl_kernel_rfl) y

theorem uLater_at (r : Fin 2048) (k : Fin 256) : View.AllAt (uLater h w) (ix3 0 r k) (bProj h w 1 r k) := by
  unfold uLater
  refine View.allAt_cons_unit _ _ _ _ _ ?_ (View.allAt_cons_unit _ _ _ _ _ ?_ (View.allAt_nil _ _))
  all_goals
    intro y hy
    obtain ⟨z, a, b, rfl⟩ : ∃ (z : Fin 1) (a : Fin 1024) (b : Fin 256), y = ix3 z a b := ⟨y 0, y 1, y 2, eq_ix3 y⟩
    obtain ⟨r, hr⟩ := r
    obtain rfl : r = _ + a.val := hy 1
    obtain rfl : k = b := Fin.ext ((hy 2).trans (Nat.zero_add _))
    pointwise [k0_pay3, k0_pay5, k0_pay7, k0_pay24, k0_pay25, k0_pay27, k0_pay29]
    try simp only [ld_rows, ld_planes, zero_add, Fin.eta, div_lo, div_hi, mod_lo, mod_hi]
    rfl
theorem uLater_cover (y : S1x2048x256.Idx) : ∃ p ∈ uLater h w, y ∈ p.1.set :=
  View.cover_of_tiled _ ![1, 1024, 256] (by sl_kernel_rfl) y

theorem copies_at (r : Fin 2048) (k : Fin 1024) : View.AllAt (copies x) (ix2 r k) (x (ix2 r k)) := by
  unfold copies
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    exact ld_rows ..
theorem copies_cover (y : S2048x1024.Idx) : ∃ p ∈ copies x, y ∈ p.1.set :=
  View.cover_of_tiled _ ![1024, 1024] (by sl_kernel_rfl) y

theorem dyPieces_at (r : Fin 2048) (k : Fin 1024) : View.AllAt (dyPieces x t) (ix2 r k) (dyOf x t (ix2 r k)) := by
  unfold dyPieces
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay31, k0_pay32, k0_pay36, k0_pay37]
    try simp only [ld_rows, ld_planes, zero_add, Fin.eta, div_lo, div_hi, mod_lo, mod_hi]
    rfl
theorem dyPieces_cover (y : S2048x1024.Idx) : ∃ p ∈ dyPieces x t, y ∈ p.1.set :=
  View.cover_of_tiled _ ![1024, 1024] (by sl_kernel_rfl) y

theorem dybPieces_at (r : Fin 2048) (k : Fin 1024) : View.AllAt (dybPieces x t) (ix2 r k) (dybOf x t (ix2 r k)) := by
  unfold dybPieces
  refine View.allAt_cons_unit _ _ _ _ _ ?_ (View.allAt_cons_unit _ _ _ _ _ ?_ (View.allAt_nil _ _))
  all_goals
    intro y hy
    obtain ⟨a, b, rfl⟩ : ∃ (a : Fin 1024) (b : Fin 1024), y = ix2 a b := ⟨y 0, y 1, eq_ix2 y⟩
    obtain ⟨r, hr⟩ := r
    obtain rfl : r = _ + a.val := hy 0
    obtain rfl : k = b := Fin.ext ((hy 1).trans (Nat.zero_add _))
    pointwise [k0_pay31, k0_pay32, k0_pay33, k0_pay36, k0_pay37, k0_pay38]
    try simp only [ld_rows, ld_planes, zero_add, Fin.eta, div_lo, div_hi, mod_lo, mod_hi]
    rfl
theorem dybPieces_cover (y : S2048x1024.Idx) : ∃ p ∈ dybPieces x t, y ∈ p.1.set :=
  View.cover_of_tiled _ ![1024, 1024] (by sl_kernel_rfl) y

section Chunk
variable (Y T : Vec Ideal S1024x1024 .f32)

/-- A column's squares in a chunk of 1024 rows. -/
theorem col_first_at (k : Fin 1024) : k0_pay34 Y T (ix2 0 k)
    = (∑ a : Fin 1024, (Y (ix2 a k) - T (ix2 a k)) * (Y (ix2 a k) - T (ix2 a k))) * halfOver := by
  pointwise [k0_pay34, k0_pay31]
theorem col_second_at (k : Fin 1024) : k0_pay39 Y T (ix2 0 k)
    = (∑ a : Fin 1024, (Y (ix2 a k) - T (ix2 a k)) * (Y (ix2 a k) - T (ix2 a k))) * halfOver := by
  pointwise [k0_pay39, k0_pay36]
/-- The lanes' sums, a group of columns after the other. -/
theorem lanes_first (l : Fin 128) (C : Fin 1024 → EReal) (hC : ∀ k, k0_pay34 Y T (ix2 0 k) = C k) : k0_pay35 Y T (ix2 0 l)
    = 0 + C ⟨0 + l.val, by omega⟩ + C ⟨128 + l.val, by omega⟩ + C ⟨256 + l.val, by omega⟩ + C ⟨384 + l.val, by omega⟩
      + C ⟨512 + l.val, by omega⟩ + C ⟨640 + l.val, by omega⟩ + C ⟨768 + l.val, by omega⟩ := by
  obtain rfl : (fun k => k0_pay34 Y T (ix2 0 k)) = C := funext hC
  unfold k0_pay35
  generalize k0_pay34 Y T = v
  pointwise []
theorem lanes_second (V : FVec Ideal S1x1024 .f32) (W : FVec Ideal S1x128 .f32) (l : Fin 128) (C : Fin 1024 → EReal)
    (hC : ∀ k, k0_pay39 Y T (ix2 0 k) = C k) : k0_pay40 V W Y T (ix2 0 l)
    = W (ix2 0 l) + V (ix2 0 ⟨896 + l.val, by omega⟩)
      + C ⟨0 + l.val, by omega⟩ + C ⟨128 + l.val, by omega⟩ + C ⟨256 + l.val, by omega⟩ + C ⟨384 + l.val, by omega⟩
      + C ⟨512 + l.val, by omega⟩ + C ⟨640 + l.val, by omega⟩ + C ⟨768 + l.val, by omega⟩ := by
  obtain rfl : (fun k => k0_pay39 Y T (ix2 0 k)) = C := funext hC
  unfold k0_pay40
  generalize k0_pay39 Y T = v
  pointwise []
theorem lanes_third (V : FVec Ideal S1x1024 .f32) (W : FVec Ideal S1x128 .f32) (l : Fin 128) :
    k0_pay9 V W (ix2 0 l) = W (ix2 0 l) + V (ix2 0 ⟨896 + l.val, by omega⟩) := by
  pointwise [k0_pay9]
end Chunk

theorem col_first (k : Fin 1024) : k0_pay34 (View.ld x (Rect.unit ![0, 0] ![1024, 1024] inb_S2048x1024_S1024x1024_0_0)) (View.ld t (Rect.unit ![0, 0] ![1024, 1024] inb_S2048x1024_S1024x1024_0_0)) (ix2 0 k) = colLoss x t 0 (by omega) k := by
  refine (col_first_at _ _ k).trans (congrArg (· * halfOver) (Finset.sum_congr rfl fun a _ => ?_))
  rw [ld_rows, ld_rows]
  rfl
theorem col_second (k : Fin 1024) : k0_pay39 (View.ld x (Rect.unit ![1024, 0] ![1024, 1024] inb_S2048x1024_S1024x1024_1024_0)) (View.ld t (Rect.unit ![1024, 0] ![1024, 1024] inb_S2048x1024_S1024x1024_1024_0)) (ix2 0 k) = colLoss x t 1024 (by omega) k := by
  refine (col_second_at _ _ k).trans (congrArg (· * halfOver) (Finset.sum_congr rfl fun a _ => ?_))
  rw [ld_rows, ld_rows]
  rfl
theorem lanes_eq : lanesPiece x t = lanesOf x t := by
  funext j
  obtain ⟨z, l, rfl⟩ : ∃ (z : Fin 1) (l : Fin 128), j = ix2 z l := ⟨j 0, j 1, eq_ix2 j⟩
  obtain rfl : z = 0 := Subsingleton.elim _ _
  unfold lanesPiece
  rw [lanes_third, lanes_second _ _ _ _ l _ (col_second x t), lanes_first _ _ l _ (col_first x t), col_first, col_second]
  rfl

/-- The first point's stores, the copies among them, leave the rows with the block's part added. -/
theorem xoFirst_canon : View.canon (xoFirst h w x ++ copies x) = bAdd h w x := by
  funext j
  obtain ⟨r, k, rfl⟩ := exists_ix2 j
  exact canon_append_of_allAt _ _ _ _ (xoFirst_cover h w x _) (xoFirst_at h w x r k)
theorem xoLater_canon : View.canon (xoLater h w x) = bAdd h w x := by
  funext j
  obtain ⟨r, k, rfl⟩ := exists_ix2 j
  exact View.canon_eq_of_allAt _ _ _ (xoLater_cover h w x _) (xoLater_at h w x r k)
theorem copies_canon : View.canon (copies x) = x := by
  funext j
  obtain ⟨r, k, rfl⟩ := exists_ix2 j
  exact View.canon_eq_of_allAt _ _ _ (copies_cover x _) (copies_at x r k)
/-- The gradient is stored over the output. -/
theorem dy_canon (L : List (View.Piece (Elt Ideal) S2048x1024 .f32)) : View.canon (dyPieces x t ++ L) = dyOf x t := by
  funext j
  obtain ⟨r, k, rfl⟩ := exists_ix2 j
  exact canon_append_of_allAt _ _ _ _ (dyPieces_cover x t _) (dyPieces_at x t r k)
theorem dyb_canon : View.canon (dybPieces x t) = dybOf x t := by
  funext j
  obtain ⟨r, k, rfl⟩ := exists_ix2 j
  exact View.canon_eq_of_allAt _ _ _ (dybPieces_cover x t _) (dybPieces_at x t r k)

end Pieces

end Cert.Ffn2FwdIdeal.Value
end
-- ==== Proof.Ffn2FwdCases.lean ====
module
public import proofs.«01_k».proof.Proof.Ffn2FwdBlock

/-! What each kind of grid point leaves: the first (it copies in the rows that the output is added to), the middle ones, and the last (it also leaves the loss's
gradient and lanes). -/

@[expose] public section
noncomputable section
namespace Cert.Ffn2FwdIdeal.Value
open Cert.Ffn2FwdIdeal Cert.Ffn2FwdIdeal.Gen Cert.Ffn2FwdIdeal.Body Cert.FfnMath Idealize.ShloMosaic

variable (c : Dev nD) (i : grid0.Coords) (a1 : Memref sig .tc .vmem S2048x1024 .bf16) (k1 : a1.IsWhole)
  (a2 : Memref sig .tc .vmem S3x256x1024 .bf16) (k2 : a2.IsWhole)
  (a5 : Memref sig .tc .vmem S2048x1024 .f32) (k5 : a5.IsWhole)
  (a6 : Memref sig .tc .vmem S1x2048x256 .bf16) (k6 : a6.IsWhole)
  (a7 : Memref sig .tc .vmem S1x2048x256 .bf16) (k7 : a7.IsWhole)
  (a8 : Memref sig .tc .vmem S2048x1024 .bf16) (k8 : a8.IsWhole)
  (a9 : Memref sig .tc .vmem S1x128 .f32) (k9 : a9.IsWhole)
  (a10 : Memref sig .tc .vmem S1024x1024 .f32) (k10 : a10.IsWhole)
  (x0 : Vec Ideal S2048x1024 .bf16) (x1 : Vec Ideal S3x256x1024 .bf16) (xo2 : Vec Ideal S2048x1024 .f32)
  (fh0 : HbBuf0 (F := Ideal) c hbM0_0) (fh1 : HbBuf0 (F := Ideal) c hbM0_1)

theorem xo_A (hc0 : cond0_0 i) (hc1 : ¬cond0_1 i) (hc2 : ¬cond0_2 i) :
    out0_A_2 (F := Ideal) c i a1 k1 a2 k2 a5 k5 a6 k6 a7 k7 a8 k8 a9 k9 a10 k10 hc0 hc1 hc2 x0 x1 fh0 fh1
      = bAdd x0 x1 fh0 := by
  unfold out0_A_2
  rw [View.read_writes_eq_canon _ _ _ (cover0_A_2 c i a1 k1 a2 k2 a5 k5 a6 k6 a7 k7 a8 k8 a9 k9 a10 k10 hc0 hc1 hc2 x0 x1 fh0 fh1)]
  unfold kernelRun0_A
  dsimp only
  sl_unfold_words
  simp only [View.readAt_eq_ld, k1.read_unread, k2.read_unread]
  simp (disch := decide) only [↓View.readCov_skip, readCov_head]
  exact xoFirst_canon x0 x1 fh0

theorem gate_A (hc0 : cond0_0 i) (hc1 : ¬cond0_1 i) (hc2 : ¬cond0_2 i) (r : Fin 2048) (k : Fin 256) :
    out0_A_3 (F := Ideal) c i a1 k1 a2 k2 a5 k5 a6 k6 a7 k7 a8 k8 a9 k9 a10 k10 hc0 hc1 hc2 x0 x1 fh0 fh1 (ix3 0 r k)
      = bProj x0 x1 0 r k := by
  unfold out0_A_3
  rw [View.read_writes_eq_canon _ _ _ (cover0_A_3 c i a1 k1 a2 k2 a5 k5 a6 k6 a7 k7 a8 k8 a9 k9 a10 k10 hc0 hc1 hc2 x0 x1 fh0 fh1)]
  unfold kernelRun0_A
  dsimp only
  sl_unfold_words
  simp only [View.readAt_eq_ld, k1.read_unread, k2.read_unread]
  exact View.canon_eq_of_allAt _ _ _ (gFirst_cover x0 x1 _) (gFirst_at x0 x1 r k)

theorem up_A (hc0 : cond0_0 i) (hc1 : ¬cond0_1 i) (hc2 : ¬cond0_2 i) (r : Fin 2048) (k : Fin 256) :
    out0_A_4 (F := Ideal) c i a1 k1 a2 k2 a5 k5 a6 k6 a7 k7 a8 k8 a9 k9 a10 k10 hc0 hc1 hc2 x0 x1 fh0 fh1 (ix3 0 r k)
      = bProj x0 x1 1 r k := by
  unfold out0_A_4
  rw [View.read_writes_eq_canon _ _ _ (cover0_A_4 c i a1 k1 a2 k2 a5 k5 a6 k6 a7 k7 a8 k8 a9 k9 a10 k10 hc0 hc1 hc2 x0 x1 fh0 fh1)]
  unfold kernelRun0_A
  dsimp only
  sl_unfold_words
  simp only [View.readAt_eq_ld, k1.read_unread, k2.read_unread]
  exact View.canon_eq_of_allAt _ _ _ (uFirst_cover x0 x1 _) (uFirst_at x0 x1 r k)

theorem xo_B (hc0 : ¬cond0_0 i) (hc1 : cond0_1 i) (hc2 : ¬cond0_2 i) :
    out0_B_2 (F := Ideal) c i a1 k1 a2 k2 a5 k5 a6 k6 a7 k7 a8 k8 a9 k9 a10 k10 hc0 hc1 hc2 x0 x1 xo2 fh0 fh1
      = bAdd x0 x1 xo2 := by
  unfold out0_B_2
  rw [View.read_writes_eq_canon _ _ _ (cover0_B_2 c i a1 k1 a2 k2 a5 k5 a6 k6 a7 k7 a8 k8 a9 k9 a10 k10 hc0 hc1 hc2 x0 x1 xo2 fh0 fh1)]
  unfold kernelRun0_B
  dsimp only
  sl_unfold_words
  simp only [View.readAt_eq_ld, k1.read_unread, k2.read_unread, k5.read_unread]
  exact xoLater_canon x0 x1 xo2

theorem gate_B (hc0 : ¬cond0_0 i) (hc1 : cond0_1 i) (hc2 : ¬cond0_2 i) (r : Fin 2048) (k : Fin 256) :
    out0_B_3 (F := Ideal) c i a1 k1 a2 k2 a5 k5 a6 k6 a7 k7 a8 k8 a9 k9 a10 k10 hc0 hc1 hc2 x0 x1 xo2 fh0 fh1 (ix3 0 r k)
      = bProj x0 x1 0 r k := by
  unfold out0_B_3
  rw [View.read_writes_eq_canon _ _ _ (cover0_B_3 c i a1 k1 a2 k2 a5 k5 a6 k6 a7 k7 a8 k8 a9 k9 a10 k10 hc0 hc1 hc2 x0 x1 xo2 fh0 fh1)]
  unfold kernelRun0_B
  dsimp only
  sl_unfold_words
  simp only [View.readAt_eq_ld, k1.read_unread, k2.read_unread, k5.read_unread]
  exact View.canon_eq_of_allAt _ _ _ (gLater_cover x0 x1 _) (gLater_at x0 x1 r k)

theorem up_B (hc0 : ¬cond0_0 i) (hc1 : cond0_1 i) (hc2 : ¬cond0_2 i) (r : Fin 2048) (k : Fin 256) :
    out0_B_4 (F := Ideal) c i a1 k1 a2 k2 a5 k5 a6 k6 a7 k7 a8 k8 a9 k9 a10 k10 hc0 hc1 hc2 x0 x1 xo2 fh0 fh1 (ix3 0 r k)
      = bProj x0 x1 1 r k := by
  unfold out0_B_4
  rw [View.read_writes_eq_canon _ _ _ (cover0_B_4 c i a1 k1 a2 k2 a5 k5 a6 k6 a7 k7 a8 k8 a9 k9 a10 k10 hc0 hc1 hc2 x0 x1 xo2 fh0 fh1)]
  unfold kernelRun0_B
  dsimp only
  sl_unfold_words
  simp only [View.readAt_eq_ld, k1.read_unread, k2.read_unread, k5.read_unread]
  exact View.canon_eq_of_allAt _ _ _ (uLater_cover x0 x1 _) (uLater_at x0 x1 r k)

theorem gate_C (hc0 : ¬cond0_0 i) (hc1 : cond0_1 i) (hc2 : cond0_2 i) (r : Fin 2048) (k : Fin 256) :
    out0_C_3 (F := Ideal) c i a1 k1 a2 k2 a5 k5 a6 k6 a7 k7 a8 k8 a9 k9 a10 k10 hc0 hc1 hc2 x0 x1 xo2 fh0 fh1 (ix3 0 r k)
      = bProj x0 x1 0 r k := by
  unfold out0_C_3
  rw [View.read_writes_eq_canon _ _ _ (cover0_C_3 c i a1 k1 a2 k2 a5 k5 a6 k6 a7 k7 a8 k8 a9 k9 a10 k10 hc0 hc1 hc2 x0 x1 xo2 fh0 fh1)]
  unfold kernelRun0_C
  dsimp only
  sl_unfold_words
  simp only [View.readAt_eq_ld, k1.read_unread, k2.read_unread, k5.read_unread]
  exact View.canon_eq_of_allAt _ _ _ (gLater_cover x0 x1 _) (gLater_at x0 x1 r k)

theorem up_C (hc0 : ¬cond0_0 i) (hc1 : cond0_1 i) (hc2 : cond0_2 i) (r : Fin 2048) (k : Fin 256) :
    out0_C_4 (F := Ideal) c i a1 k1 a2 k2 a5 k5 a6 k6 a7 k7 a8 k8 a9 k9 a10 k10 hc0 hc1 hc2 x0 x1 xo2 fh0 fh1 (ix3 0 r k)
      = bProj x0 x1 1 r k := by
  unfold out0_C_4
  rw [View.read_writes_eq_canon _ _ _ (cover0_C_4 c i a1 k1 a2 k2 a5 k5 a6 k6 a7 k7 a8 k8 a9 k9 a10 k10 hc0 hc1 hc2 x0 x1 xo2 fh0 fh1)]
  unfold kernelRun0_C
  dsimp only
  sl_unfold_words
  simp only [View.readAt_eq_ld, k1.read_unread, k2.read_unread, k5.read_unread]
  exact View.canon_eq_of_allAt _ _ _ (uLater_cover x0 x1 _) (uLater_at x0 x1 r k)

/-- The added rows, read back from the stores. -/
theorem later_first (v : View sig .tc .vmem S2048x1024 .f32) :
    k0_pay30 (View.ld x1 (Rect.unit ![0, 0, 0] ![2, 256, 1024] inb_S3x256x1024_S2x256x1024_0_0_0)) (View.ld x0 (Rect.unit ![0, 0] ![1024, 1024] inb_S2048x1024_S1024x1024_0_0)) (View.ld x1 (Rect.unit ![2, 0, 0] ![1, 256, 1024] inb_S3x256x1024_S1x256x1024_2_0_0)) (View.ld xo2 (Rect.unit ![0, 0] ![1024, 1024] inb_S2048x1024_S1024x1024_0_0)) = View.ld (Val := Elt Ideal) (e' := .f32) (bAdd x0 x1 xo2) (Rect.unit ![0, 0] ![1024, 1024] inb_S2048x1024_S1024x1024_0_0) := by
  have e := (View.readCov_eq_canon_ld v _ (Rect.unit ![0, 0] ![1024, 1024] inb_S2048x1024_S1024x1024_0_0) (xoLater_cover x0 x1 xo2)).trans
    (by rw [xoLater_canon])
  unfold xoLater at e
  simp (disch := decide) only [↓View.readCov_skip, readCov_head] at e
  exact e
theorem later_second (v : View sig .tc .vmem S2048x1024 .f32) :
    k0_pay8 (k0_pay24 (View.ld x1 (Rect.unit ![0, 0, 0] ![2, 256, 1024] inb_S3x256x1024_S2x256x1024_0_0_0))) (View.ld x0 (Rect.unit ![1024, 0] ![1024, 1024] inb_S2048x1024_S1024x1024_1024_0)) (View.ld x1 (Rect.unit ![2, 0, 0] ![1, 256, 1024] inb_S3x256x1024_S1x256x1024_2_0_0)) (View.ld xo2 (Rect.unit ![1024, 0] ![1024, 1024] inb_S2048x1024_S1024x1024_1024_0)) = View.ld (Val := Elt Ideal) (e' := .f32) (bAdd x0 x1 xo2) (Rect.unit ![1024, 0] ![1024, 1024] inb_S2048x1024_S1024x1024_1024_0) := by
  have e := (View.readCov_eq_canon_ld v _ (Rect.unit ![1024, 0] ![1024, 1024] inb_S2048x1024_S1024x1024_1024_0) (xoLater_cover x0 x1 xo2)).trans
    (by rw [xoLater_canon])
  unfold xoLater at e
  simp only [readCov_head] at e
  exact e

theorem dy_C (hc0 : ¬cond0_0 i) (hc1 : cond0_1 i) (hc2 : cond0_2 i) :
    out0_C_2 (F := Ideal) c i a1 k1 a2 k2 a5 k5 a6 k6 a7 k7 a8 k8 a9 k9 a10 k10 hc0 hc1 hc2 x0 x1 xo2 fh0 fh1
      = dyOf (bAdd x0 x1 xo2) fh1 := by
  unfold out0_C_2
  rw [View.read_writes_eq_canon _ _ _ (cover0_C_2 c i a1 k1 a2 k2 a5 k5 a6 k6 a7 k7 a8 k8 a9 k9 a10 k10 hc0 hc1 hc2 x0 x1 xo2 fh0 fh1)]
  unfold kernelRun0_C
  dsimp only
  sl_unfold_words
  simp only [View.readAt_eq_ld, k1.read_unread, k2.read_unread, k5.read_unread]
  simp (disch := decide) only [↓View.readCov_skip, readCov_head, readCov_full]
  rw [later_first x0 x1 xo2 a5.view, later_second x0 x1 xo2 a5.view]
  exact dy_canon (bAdd x0 x1 xo2) fh1 _

theorem dyb_C (hc0 : ¬cond0_0 i) (hc1 : cond0_1 i) (hc2 : cond0_2 i) :
    out0_C_5 (F := Ideal) c i a1 k1 a2 k2 a5 k5 a6 k6 a7 k7 a8 k8 a9 k9 a10 k10 hc0 hc1 hc2 x0 x1 xo2 fh0 fh1
      = dybOf (bAdd x0 x1 xo2) fh1 := by
  unfold out0_C_5
  rw [View.read_writes_eq_canon _ _ _ (cover0_C_5 c i a1 k1 a2 k2 a5 k5 a6 k6 a7 k7 a8 k8 a9 k9 a10 k10 hc0 hc1 hc2 x0 x1 xo2 fh0 fh1)]
  unfold kernelRun0_C
  dsimp only
  sl_unfold_words
  simp only [View.readAt_eq_ld, k1.read_unread, k2.read_unread, k5.read_unread]
  simp (disch := decide) only [↓View.readCov_skip, readCov_head, readCov_full]
  rw [later_first x0 x1 xo2 a5.view, later_second x0 x1 xo2 a5.view]
  exact dyb_canon (bAdd x0 x1 xo2) fh1

theorem lanes_C (hc0 : ¬cond0_0 i) (hc1 : cond0_1 i) (hc2 : cond0_2 i) :
    out0_C_6 (F := Ideal) c i a1 k1 a2 k2 a5 k5 a6 k6 a7 k7 a8 k8 a9 k9 a10 k10 hc0 hc1 hc2 x0 x1 xo2 fh0 fh1
      = lanesOf (bAdd x0 x1 xo2) fh1 := by
  unfold out0_C_6
  rw [View.read_writes_eq_canon _ _ _ (cover0_C_6 c i a1 k1 a2 k2 a5 k5 a6 k6 a7 k7 a8 k8 a9 k9 a10 k10 hc0 hc1 hc2 x0 x1 xo2 fh0 fh1)]
  unfold kernelRun0_C
  dsimp only
  sl_unfold_words
  simp only [View.readAt_eq_ld, k1.read_unread, k2.read_unread, k5.read_unread]
  simp (disch := decide) only [↓View.readCov_skip, readCov_head, readCov_full]
  rw [later_first x0 x1 xo2 a5.view, later_second x0 x1 xo2 a5.view]
  exact (canon_full _ _ _).trans (lanes_eq (bAdd x0 x1 xo2) fh1)

end Cert.Ffn2FwdIdeal.Value
end
-- ==== Proof.Ffn2FwdRun.lean ====
module
public import proofs.«01_k».proof.Proof.Ffn2FwdCases
public import Idealize.ShloMosaic.Lib.Pipeline.Value

/-! The eleven grid points in order: what the outputs' buffers hold after each, and so what the run returns. -/

@[expose] public section
noncomputable section
namespace Cert.Ffn2FwdIdeal.Value
open Cert.Ffn2FwdIdeal Cert.Ffn2FwdIdeal.Gen Cert.Ffn2FwdIdeal.Body Cert.FfnMath Idealize.ShloMosaic Idealize.ShloMosaic.TcCoe Idealize.SL.Sem

variable (m : (ℓ : Loc nD τ sig) → Buf (Elt Ideal) ℓ) (ρ : Dev nD → PrngReg) (c : Dev nD)

/-- The arrays the call is given: the layer's input, the weights, the rows that the output is added to, the target. -/
def arrH : A2 2048 1024 := V m c main_v7
def arrW : A3 3 2816 1024 := V m c main_v6
def arrX : A2 2048 1024 := V m c main_arg4
def arrT : A2 2048 1024 := V m c main_arg5

/-- A grid point as the number of its block. -/
def pt (t : Fin cfg0.N) : Fin 11 := ⟨t.val, lt_of_lt_of_eq t.isLt N_0⟩

theorem index0 (t : Fin cfg0.N) : win0_0.index t 0 = 0 ∧ win0_0.index t 1 = 0 := by
  rcases fin_N0 t with rfl | rfl | rfl | rfl | rfl | rfl | rfl | rfl | rfl | rfl | rfl <;> decide
theorem index2 (t : Fin cfg0.N) : win0_2.index t 0 = 0 ∧ win0_2.index t 1 = 0 := by
  rcases fin_N0 t with rfl | rfl | rfl | rfl | rfl | rfl | rfl | rfl | rfl | rfl | rfl <;> decide
theorem index5 (t : Fin cfg0.N) : win0_5.index t 0 = 0 ∧ win0_5.index t 1 = 0 := by
  rcases fin_N0 t with rfl | rfl | rfl | rfl | rfl | rfl | rfl | rfl | rfl | rfl | rfl <;> decide
theorem index6 (t : Fin cfg0.N) : win0_6.index t 0 = 0 ∧ win0_6.index t 1 = 0 := by
  rcases fin_N0 t with rfl | rfl | rfl | rfl | rfl | rfl | rfl | rfl | rfl | rfl | rfl <;> decide
theorem index1 (t : Fin cfg0.N) : win0_1.index t 0 = 0 ∧ win0_1.index t 1 = t.val ∧ win0_1.index t 2 = 0 := by
  rcases fin_N0 t with rfl | rfl | rfl | rfl | rfl | rfl | rfl | rfl | rfl | rfl | rfl <;> decide
theorem index3 (t : Fin cfg0.N) : win0_3.index t 0 = t.val ∧ win0_3.index t 1 = 0 ∧ win0_3.index t 2 = 0 := by
  rcases fin_N0 t with rfl | rfl | rfl | rfl | rfl | rfl | rfl | rfl | rfl | rfl | rfl <;> decide
theorem index4 (t : Fin cfg0.N) : win0_4.index t 0 = t.val ∧ win0_4.index t 1 = 0 ∧ win0_4.index t 2 = 0 := by
  rcases fin_N0 t with rfl | rfl | rfl | rfl | rfl | rfl | rfl | rfl | rfl | rfl | rfl <;> decide

theorem blk_h (t : Fin cfg0.N) : (iblk m c 0 t : Vec Ideal S2048x1024 .bf16) = arrH m c := by
  funext j
  unfold iblk
  rw [View.read_apply]
  show V m c main_v7 _ = V m c main_v7 _
  congr 1
  funext a
  apply Fin.ext
  have hi := index0 t
  match a with
  | ⟨0, _⟩ => show win0_0.index t 0 * 2048 + 1 * (j 0).val = (j 0).val; rw [hi.1]; omega
  | ⟨1, _⟩ => show win0_0.index t 1 * 1024 + 1 * (j 1).val = (j 1).val; rw [hi.2]; omega

theorem blk_w (t : Fin cfg0.N) : (iblk m c 1 t : Vec Ideal S3x256x1024 .bf16) = blkRows (arrW m c) (pt t) := by
  funext j
  unfold iblk
  rw [View.read_apply]
  show V m c main_v6 _ = V m c main_v6 _
  congr 1
  funext a
  apply Fin.ext
  have hi := index1 t
  match a with
  | ⟨0, _⟩ => show win0_1.index t 0 * 3 + 1 * (j 0).val = (j 0).val; rw [hi.1]; omega
  | ⟨1, _⟩ => show win0_1.index t 1 * 256 + 1 * (j 1).val = 256 * t.val + (j 1).val; rw [hi.2.1]; omega
  | ⟨2, _⟩ => show win0_1.index t 2 * 1024 + 1 * (j 2).val = (j 2).val; rw [hi.2.2]; omega

/-- The output after the first `n` blocks. -/
def xoTo : Nat → A2 2048 1024
  | 0 => arrX m c
  | n + 1 => if h : n < 11 then bAdd (arrH m c) (blkRows (arrW m c) ⟨n, h⟩) (xoTo n) else xoTo n

theorem xoTo_succ (n : Nat) (h : n < 11) : xoTo m c (n + 1) = bAdd (arrH m c) (blkRows (arrW m c) ⟨n, h⟩) (xoTo m c n) := by
  show (if h : n < 11 then bAdd (arrH m c) (blkRows (arrW m c) ⟨n, h⟩) (xoTo m c n) else xoTo m c n) = _
  rw [dif_pos h]

/-- The output, once all the blocks are added. -/
theorem xoTo_last (r : Fin 2048) (x : Fin 1024) :
    xoTo m c 11 (ix2 r x) = arrX m c (ix2 r x) + ∑ t : Fin 11, bStep (arrH m c) (blkRows (arrW m c) t) r x := by
  have k : ∀ n ≤ 11, xoTo m c n (ix2 r x) = arrX m c (ix2 r x)
      + ∑ t ∈ Finset.range n, if h : t < 11 then bStep (arrH m c) (blkRows (arrW m c) ⟨t, h⟩) r x else 0 := by
    intro n
    induction n with
    | zero => intro _; rw [Finset.sum_range_zero, add_zero]; rfl
    | succ n ih =>
      intro h
      rw [xoTo_succ m c n h, Finset.sum_range_succ, dif_pos (show n < 11 from h), ← add_assoc, ← ih (Nat.le_of_lt h)]
      rfl
  rw [k 11 (le_refl _), Finset.sum_range]
  exact congrArg (_ + ·) (Finset.sum_congr rfl fun t _ => dif_pos t.isLt)

/-- What grid point `n` leaves: the output so far, or at the last point the loss's gradient at it, its half and the loss's
lanes; the gate's and the up projection's columns of its block. -/
structure Left (n : Nat) (hn : n < cfg0.N) : Prop where
  xo : n ≠ 10 → (outsAt0 m c n hn).1 = xoTo m c (n + 1)
  dy : n = 10 → (outsAt0 m c n hn).1 = dyOf (xoTo m c (n + 1)) (arrT m c)
  gate : ∀ r k, (outsAt0 m c n hn).2.1 (ix3 0 r k) = bProj (arrH m c) (blkRows (arrW m c) (pt ⟨n, hn⟩)) 0 r k
  up : ∀ r k, (outsAt0 m c n hn).2.2.1 (ix3 0 r k) = bProj (arrH m c) (blkRows (arrW m c) (pt ⟨n, hn⟩)) 1 r k
  dyb : n = 10 → (outsAt0 m c n hn).2.2.2.1 = dybOf (xoTo m c (n + 1)) (arrT m c)
  lanes : n = 10 → (outsAt0 m c n hn).2.2.2.2 = lanesOf (xoTo m c (n + 1)) (arrT m c)

theorem left_first (t : Fin cfg0.N) (h0 : t.val % 11 = 0) (h1 : ¬1 ≤ t.val) (h2 : ¬t.val % 11 = 10) : Left m c t.val t.isLt := by
  have ht : t.val = 0 := by omega
  refine ⟨fun _ => ?_, fun h => absurd h (by omega), fun r k => ?_, fun r k => ?_, fun h => absurd h (by omega), fun h => absurd h (by omega)⟩
  · rw [outsAt0_A m c t h0 h1 h2]
    unfold atA
    dsimp only
    rw [xo_A, blk_h, blk_w, xoTo_succ m c t.val (lt_of_lt_of_eq t.isLt N_0)]
    refine congrArg (bAdd (arrH m c) (blkRows (arrW m c) (pt t))) ?_
    rw [ht]
    rfl
  · rw [outsAt0_A m c t h0 h1 h2]
    unfold atA
    dsimp only
    rw [gate_A, blk_h, blk_w]
  · rw [outsAt0_A m c t h0 h1 h2]
    unfold atA
    dsimp only
    rw [up_A, blk_h, blk_w]

theorem left_mid (t : Fin cfg0.N) (h0 : ¬t.val % 11 = 0) (h1 : 1 ≤ t.val) (h2 : ¬t.val % 11 = 10)
    (ih : (outsAt0 m c (t.val - 1) (Nat.lt_of_le_of_lt (Nat.sub_le _ _) t.isLt)).1 = xoTo m c t.val) : Left m c t.val t.isLt := by
  refine ⟨fun _ => ?_, fun h => absurd h (by omega), fun r k => ?_, fun r k => ?_, fun h => absurd h (by omega), fun h => absurd h (by omega)⟩
  · rw [outsAt0_B m c t h0 h1 h2]
    unfold atB
    dsimp only
    rw [xo_B, blk_h, blk_w, xoTo_succ m c t.val (lt_of_lt_of_eq t.isLt N_0), ih]
    rfl
  · rw [outsAt0_B m c t h0 h1 h2]
    unfold atB
    dsimp only
    rw [gate_B, blk_h, blk_w]
  · rw [outsAt0_B m c t h0 h1 h2]
    unfold atB
    dsimp only
    rw [up_B, blk_h, blk_w]

theorem left_last (t : Fin cfg0.N) (h0 : ¬t.val % 11 = 0) (h1 : 1 ≤ t.val) (h2 : t.val % 11 = 10)
    (ih : (outsAt0 m c (t.val - 1) (Nat.lt_of_le_of_lt (Nat.sub_le _ _) t.isLt)).1 = xoTo m c t.val) : Left m c t.val t.isLt := by
  have e : bAdd (arrH m c) (blkRows (arrW m c) (pt t)) (xoTo m c t.val) = xoTo m c (t.val + 1) :=
    (xoTo_succ m c t.val (lt_of_lt_of_eq t.isLt N_0)).symm
  have ht : t.val = 10 := by have := lt_of_lt_of_eq t.isLt N_0; omega
  refine ⟨fun h => absurd ht h, fun _ => ?_, fun r k => ?_, fun r k => ?_, fun _ => ?_, fun _ => ?_⟩
  · rw [outsAt0_C m c t h0 h1 h2]
    unfold atC
    dsimp only
    rw [dy_C, blk_h, blk_w, ih, e]
    rfl
  · rw [outsAt0_C m c t h0 h1 h2]
    unfold atC
    dsimp only
    rw [gate_C, blk_h, blk_w]
  · rw [outsAt0_C m c t h0 h1 h2]
    unfold atC
    dsimp only
    rw [up_C, blk_h, blk_w]
  · rw [outsAt0_C m c t h0 h1 h2]
    unfold atC
    dsimp only
    rw [dyb_C, blk_h, blk_w, ih, e]
    rfl
  · rw [outsAt0_C m c t h0 h1 h2]
    unfold atC
    dsimp only
    rw [lanes_C, blk_h, blk_w, ih, e]
    rfl

theorem left : ∀ (n : Nat) (hn : n < cfg0.N), Left m c n hn
  | 0, hn => left_first m c ⟨0, hn⟩ (Nat.zero_mod _) (by show ¬1 ≤ 0; omega) (by show ¬ 0 % 11 = 10; omega)
  | n + 1, hn => by
    have hN : n + 1 < 11 := lt_of_lt_of_eq hn N_0
    have ih := (left n (Nat.lt_of_succ_lt hn)).xo (by omega)
    by_cases h10 : (n + 1) % 11 = 10
    · exact left_last m c ⟨n + 1, hn⟩ (by show ¬ (n + 1) % 11 = 0; omega) (by show 1 ≤ n + 1; omega) h10 ih
    · exact left_mid m c ⟨n + 1, hn⟩ (by show ¬ (n + 1) % 11 = 0; omega) (by show 1 ≤ n + 1; omega) h10 ih

theorem apart3 (t t' : Fin cfg0.N) (_ : (cfg0.win 3).flush t = true) (_ : (cfg0.win 3).flush t' = true) (hne : t ≠ t') :
    Disjoint ((cfg0.win 3).blk t).view.set ((cfg0.win 3).blk t').view.set :=
  (cfg0.win 3).disjoint_blk fun h => hne (Fin.ext (by
    have e : win0_3.index t 0 = win0_3.index t' 0 := congrFun h 0
    rwa [(index3 t).1, (index3 t').1] at e))
theorem written3 (t : Fin cfg0.N) : ((cfg0.win 3).blk t).view.read (Elt Ideal) ((dats m 0 c).arrAt 3 cfg0.N)
    = (cfg0.win 3).cut (grid0.coords t) (outsAt0 m c t.val t.isLt).2.1 := by
  refine ((dats m 0 c).read_blk_arrAt_eq_flushed 3 apart3 cfg0.N t t.isLt (flush0_3 t)).trans ?_
  show (cfg0.win 3).cut (grid0.coords t) ((dats m 0 c).after 3 t) = _
  rw [after0_3]
theorem final_gate (t : Fin 11) (r : Fin 2048) (k : Fin 256) :
    ((dats m 0 c).arrAt 3 cfg0.N : A3 11 2048 256) (ix3 t r k) = bProj (arrH m c) (blkRows (arrW m c) t) 0 r k := by
  have hn : t.val < cfg0.N := lt_of_lt_of_eq t.isLt N_0.symm
  have e := congrFun (written3 m c ⟨t.val, hn⟩) (ix3 0 r k)
  rw [View.read_apply] at e
  refine Eq.trans ?_ (e.trans ((left m c t.val hn).gate r k))
  show (dats m 0 c).arrAt 3 cfg0.N _ = (dats m 0 c).arrAt 3 cfg0.N _
  congr 1
  funext a
  apply Fin.ext
  have hi := index3 ⟨t.val, hn⟩
  match a with
  | ⟨0, _⟩ => show t.val = win0_3.index ⟨t.val, hn⟩ 0 * 1 + 1 * 0; rw [hi.1]; show t.val = t.val * 1 + 1 * 0; omega
  | ⟨1, _⟩ => show r.val = win0_3.index ⟨t.val, hn⟩ 1 * 2048 + 1 * r.val; rw [hi.2.1]; omega
  | ⟨2, _⟩ => show k.val = win0_3.index ⟨t.val, hn⟩ 2 * 256 + 1 * k.val; rw [hi.2.2]; omega

theorem apart4 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (Fin.ext (by
    have e : win0_4.index t 0 = win0_4.index t' 0 := congrFun h 0
    rwa [(index4 t).1, (index4 t').1] at e))
theorem written4 (t : Fin cfg0.N) : ((cfg0.win 4).blk t).view.read (Elt Ideal) ((dats m 0 c).arrAt 4 cfg0.N)
    = (cfg0.win 4).cut (grid0.coords t) (outsAt0 m c t.val t.isLt).2.2.1 := by
  refine ((dats m 0 c).read_blk_arrAt_eq_flushed 4 apart4 cfg0.N t t.isLt (flush0_4 t)).trans ?_
  show (cfg0.win 4).cut (grid0.coords t) ((dats m 0 c).after 4 t) = _
  rw [after0_4]
theorem final_up (t : Fin 11) (r : Fin 2048) (k : Fin 256) :
    ((dats m 0 c).arrAt 4 cfg0.N : A3 11 2048 256) (ix3 t r k) = bProj (arrH m c) (blkRows (arrW m c) t) 1 r k := by
  have hn : t.val < cfg0.N := lt_of_lt_of_eq t.isLt N_0.symm
  have e := congrFun (written4 m c ⟨t.val, hn⟩) (ix3 0 r k)
  rw [View.read_apply] at e
  refine Eq.trans ?_ (e.trans ((left m c t.val hn).up r k))
  show (dats m 0 c).arrAt 4 cfg0.N _ = (dats m 0 c).arrAt 4 cfg0.N _
  congr 1
  funext a
  apply Fin.ext
  have hi := index4 ⟨t.val, hn⟩
  match a with
  | ⟨0, _⟩ => show t.val = win0_4.index ⟨t.val, hn⟩ 0 * 1 + 1 * 0; rw [hi.1]; show t.val = t.val * 1 + 1 * 0; omega
  | ⟨1, _⟩ => show r.val = win0_4.index ⟨t.val, hn⟩ 1 * 2048 + 1 * r.val; rw [hi.2.1]; omega
  | ⟨2, _⟩ => show k.val = win0_4.index ⟨t.val, hn⟩ 2 * 256 + 1 * k.val; rw [hi.2.2]; omega

/-- Only one grid point writes this array back. -/
theorem apart2 (t t' : Fin cfg0.N) (h : (cfg0.win 2).flush t = true) (h' : (cfg0.win 2).flush t' = true) (hne : t ≠ t') :
    Disjoint ((cfg0.win 2).blk t).view.set ((cfg0.win 2).blk t').view.set := by
  have a := (flush0_2 t).mp h
  have a' := (flush0_2 t').mp h'
  have b : t.val < 11 := lt_of_lt_of_eq t.isLt N_0
  have b' : t'.val < 11 := lt_of_lt_of_eq t'.isLt N_0
  exact absurd (Fin.ext (by omega)) hne
theorem written2 (t : Fin cfg0.N) (h : t.val % 11 = 10) : ((cfg0.win 2).blk t).view.read (Elt Ideal) ((dats m 0 c).arrAt 2 cfg0.N)
    = (cfg0.win 2).cut (grid0.coords t) (outsAt0 m c t.val t.isLt).1 := by
  refine ((dats m 0 c).read_blk_arrAt_eq_flushed 2 apart2 cfg0.N t t.isLt ((flush0_2 t).mpr h)).trans ?_
  show (cfg0.win 2).cut (grid0.coords t) ((dats m 0 c).after 2 t) = _
  rw [after0_2]
theorem final_dy : ((dats m 0 c).arrAt 2 cfg0.N : A2 2048 1024) = dyOf (xoTo m c 11) (arrT m c) := by
  funext j
  obtain ⟨r, k, rfl⟩ := exists_ix2 j
  have hn : 10 < cfg0.N := lt_of_lt_of_eq (by decide) N_0.symm
  have e := congrFun (written2 m c ⟨10, hn⟩ rfl) (ix2 r k)
  rw [View.read_apply] at e
  refine Eq.trans ?_ (e.trans (congrFun ((left m c 10 hn).dy rfl) (ix2 r k)))
  show (dats m 0 c).arrAt 2 cfg0.N _ = (dats m 0 c).arrAt 2 cfg0.N _
  congr 1
  funext a
  apply Fin.ext
  have hi := index2 ⟨10, hn⟩
  match a with
  | ⟨0, _⟩ => show r.val = win0_2.index ⟨10, hn⟩ 0 * 2048 + 1 * r.val; rw [hi.1]; omega
  | ⟨1, _⟩ => show k.val = win0_2.index ⟨10, hn⟩ 1 * 1024 + 1 * k.val; rw [hi.2]; omega

/-- Only one grid point writes this array back. -/
theorem apart5 (t t' : Fin cfg0.N) (h : (cfg0.win 5).flush t = true) (h' : (cfg0.win 5).flush t' = true) (hne : t ≠ t') :
    Disjoint ((cfg0.win 5).blk t).view.set ((cfg0.win 5).blk t').view.set := by
  have a := (flush0_5 t).mp h
  have a' := (flush0_5 t').mp h'
  have b : t.val < 11 := lt_of_lt_of_eq t.isLt N_0
  have b' : t'.val < 11 := lt_of_lt_of_eq t'.isLt N_0
  exact absurd (Fin.ext (by omega)) hne
theorem written5 (t : Fin cfg0.N) (h : t.val % 11 = 10) : ((cfg0.win 5).blk t).view.read (Elt Ideal) ((dats m 0 c).arrAt 5 cfg0.N)
    = (cfg0.win 5).cut (grid0.coords t) (outsAt0 m c t.val t.isLt).2.2.2.1 := by
  refine ((dats m 0 c).read_blk_arrAt_eq_flushed 5 apart5 cfg0.N t t.isLt ((flush0_5 t).mpr h)).trans ?_
  show (cfg0.win 5).cut (grid0.coords t) ((dats m 0 c).after 5 t) = _
  rw [after0_5]
theorem final_dyb : ((dats m 0 c).arrAt 5 cfg0.N : A2 2048 1024) = dybOf (xoTo m c 11) (arrT m c) := by
  funext j
  obtain ⟨r, k, rfl⟩ := exists_ix2 j
  have hn : 10 < cfg0.N := lt_of_lt_of_eq (by decide) N_0.symm
  have e := congrFun (written5 m c ⟨10, hn⟩ rfl) (ix2 r k)
  rw [View.read_apply] at e
  refine Eq.trans ?_ (e.trans (congrFun ((left m c 10 hn).dyb rfl) (ix2 r k)))
  show (dats m 0 c).arrAt 5 cfg0.N _ = (dats m 0 c).arrAt 5 cfg0.N _
  congr 1
  funext a
  apply Fin.ext
  have hi := index5 ⟨10, hn⟩
  match a with
  | ⟨0, _⟩ => show r.val = win0_5.index ⟨10, hn⟩ 0 * 2048 + 1 * r.val; rw [hi.1]; omega
  | ⟨1, _⟩ => show k.val = win0_5.index ⟨10, hn⟩ 1 * 1024 + 1 * k.val; rw [hi.2]; omega

/-- Only one grid point writes this array back. -/
theorem apart6 (t t' : Fin cfg0.N) (h : (cfg0.win 6).flush t = true) (h' : (cfg0.win 6).flush t' = true) (hne : t ≠ t') :
    Disjoint ((cfg0.win 6).blk t).view.set ((cfg0.win 6).blk t').view.set := by
  have a := (flush0_6 t).mp h
  have a' := (flush0_6 t').mp h'
  have b : t.val < 11 := lt_of_lt_of_eq t.isLt N_0
  have b' : t'.val < 11 := lt_of_lt_of_eq t'.isLt N_0
  exact absurd (Fin.ext (by omega)) hne
theorem written6 (t : Fin cfg0.N) (h : t.val % 11 = 10) : ((cfg0.win 6).blk t).view.read (Elt Ideal) ((dats m 0 c).arrAt 6 cfg0.N)
    = (cfg0.win 6).cut (grid0.coords t) (outsAt0 m c t.val t.isLt).2.2.2.2 := by
  refine ((dats m 0 c).read_blk_arrAt_eq_flushed 6 apart6 cfg0.N t t.isLt ((flush0_6 t).mpr h)).trans ?_
  show (cfg0.win 6).cut (grid0.coords t) ((dats m 0 c).after 6 t) = _
  rw [after0_6]
theorem final_lanes : ((dats m 0 c).arrAt 6 cfg0.N : A2 1 128) = lanesOf (xoTo m c 11) (arrT m c) := by
  funext j
  obtain ⟨r, k, rfl⟩ := exists_ix2 j
  have hn : 10 < cfg0.N := lt_of_lt_of_eq (by decide) N_0.symm
  have e := congrFun (written6 m c ⟨10, hn⟩ rfl) (ix2 r k)
  rw [View.read_apply] at e
  refine Eq.trans ?_ (e.trans (congrFun ((left m c 10 hn).lanes rfl) (ix2 r k)))
  show (dats m 0 c).arrAt 6 cfg0.N _ = (dats m 0 c).arrAt 6 cfg0.N _
  congr 1
  funext a
  apply Fin.ext
  have hi := index6 ⟨10, hn⟩
  match a with
  | ⟨0, _⟩ => show r.val = win0_6.index ⟨10, hn⟩ 0 * 1 + 1 * r.val; rw [hi.1]; omega
  | ⟨1, _⟩ => show k.val = win0_6.index ⟨10, hn⟩ 1 * 128 + 1 * k.val; rw [hi.2]; omega

/-- The host's sum of the lanes. -/
theorem loss_sum : Pipeline.afterTail₀ cfgs (dats m) 0 (V0 m) [hostOps1] c main_v9
    = Host.reduceAdd (F := Ideal) (φ := .f32) ((dats m 0 c).arrAt 6 cfg0.N : A2 1 128) (constant S_ .f32 0x00000000#32) reducesTo_S1x128_S_d0_1 h_S_ := by
  unfold Pipeline.afterTail₀
  show StableHlo.after hostOps1 _ _ = _
  after_results_simp
  exact congrArg (fun z : A2 1 128 => Host.reduceAdd (F := Ideal) (φ := .f32) z (constant S_ .f32 0x00000000#32) reducesTo_S1x128_S_d0_1 h_S_)
    (Pipeline.withArrays_arr spec0 (by decide) c (V0 m c) (fun w => (dats m 0 c).arrAt w cfg0.N) 6)

/-- A sum of the host's over both axes of an array of one row. -/
theorem sum_row (Z : A2 1 128) : Host.reduceAdd (F := Ideal) (φ := .f32) Z (constant S_ .f32 0x00000000#32) reducesTo_S1x128_S_d0_1 h_S_
    = fun _ => ∑ l : Fin 128, Z (ix2 0 l) := by
  funext j
  pointwise []
  exact Fin.sum_univ_one _

/-- What a run leaves in the five results, and the arguments unchanged. -/
theorem results : θ_run defs (onTc (τ := τ) (main (F := Ideal))) ⟨m, fun _ => 0, ρ⟩ fun r => ∀ c : Dev nD,
      r.2.mem ((c : Thread nD τ).loc main_v8_0) = (dats m 0 c).arrAt 2 cfg0.N
      ∧ r.2.mem ((c : Thread nD τ).loc main_v8_1) = (dats m 0 c).arrAt 3 cfg0.N
      ∧ r.2.mem ((c : Thread nD τ).loc main_v8_2) = (dats m 0 c).arrAt 4 cfg0.N
      ∧ r.2.mem ((c : Thread nD τ).loc main_v8_3) = (dats m 0 c).arrAt 5 cfg0.N
      ∧ r.2.mem ((c : Thread nD τ).loc main_v9) = Host.reduceAdd (F := Ideal) (φ := .f32) ((dats m 0 c).arrAt 6 cfg0.N : A2 1 128) (constant S_ .f32 0x00000000#32) reducesTo_S1x128_S_d0_1 h_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 2, (h.1 c).1 3, (h.1 c).1 4, (h.1 c).1 5,
    ((h.1 c).2 main_v9 (Pipeline.mem_restRefs_of main_v9 (by decide) (by decide))).trans (loss_sum m c), h.2 c⟩) (θ_run_and (run_main m ρ) (unchanged m ρ))

end Cert.Ffn2FwdIdeal.Value
end
-- ==== Proof.Ffn2FwdHost.lean ====
module
public import proofs.«01_k».proof.Proof.Ffn2FwdRun

@[expose] public section
noncomputable section
namespace Cert.Ffn2FwdIdeal.Value
open Cert.Ffn2FwdIdeal Cert.Ffn2FwdIdeal.Gen Cert.Ffn2FwdIdeal.Body Cert.FfnMath Idealize.ShloMosaic Idealize.ShloMosaic.TcCoe Idealize.SL.Sem

variable (m : (ℓ : Loc nD τ sig) → Buf (Elt Ideal) ℓ) (c : Dev nD)

/-- The program's arguments: the layer's input, the three weights, the rows to add to, and the target. -/
def inH : A2 2048 1024 := m ((c : Thread nD τ).loc main_arg0)
def inG : A2 1024 2816 := m ((c : Thread nD τ).loc main_arg1)
def inU : A2 1024 2816 := m ((c : Thread nD τ).loc main_arg2)
def inD : A2 2816 1024 := m ((c : Thread nD τ).loc main_arg3)
def inX : A2 2048 1024 := m ((c : Thread nD τ).loc main_arg4)
def inT : A2 2048 1024 := m ((c : Thread nD τ).loc main_arg5)

theorem arrH_eq : arrH m c = inH m c := by
  unfold arrH V V0
  simp only [List.flatten_cons, List.flatten_nil, List.append_nil]
  after_results_simp
  rfl
theorem arrX_eq : arrX m c = inX m c := V_main_arg4 m c
theorem arrT_eq : arrT m c = inT m c := V_main_arg5 m c
theorem arrW_at0 (r : Fin 2816) (x : Fin 1024) : arrW m c (ix3 0 r x) = inG m c (ix2 x r) := by
  unfold arrW V V0
  simp only [List.flatten_cons, List.flatten_nil, List.append_nil]
  after_results_simp
  pointwise
  after_results_simp
  pointwise
  rfl
theorem arrW_at1 (r : Fin 2816) (x : Fin 1024) : arrW m c (ix3 1 r x) = inU m c (ix2 x r) := by
  unfold arrW V V0
  simp only [List.flatten_cons, List.flatten_nil, List.append_nil]
  after_results_simp
  pointwise
  after_results_simp
  pointwise
  rfl
theorem arrW_at2 (r : Fin 2816) (x : Fin 1024) : arrW m c (ix3 2 r x) = inD m c (ix2 r x) := by
  unfold arrW V V0
  simp only [List.flatten_cons, List.flatten_nil, List.append_nil]
  after_results_simp
  pointwise
  after_results_simp
  pointwise
  rfl

theorem gate_cols (t : Fin 11) (r : Fin 2048) (k : Fin 256) :
    bProj (arrH m c) (blkRows (arrW m c) t) 0 r k = proj (inH m c) (inG m c) r (colOf t k) :=
  (gate_whole (arrW_at0 m c) t r k).trans (congrArg (fun h => proj h (inG m c) r (colOf t k)) (arrH_eq m c))
theorem up_cols (t : Fin 11) (r : Fin 2048) (k : Fin 256) :
    bProj (arrH m c) (blkRows (arrW m c) t) 1 r k = proj (inH m c) (inU m c) r (colOf t k) :=
  (up_whole (arrW_at1 m c) t r k).trans (congrArg (fun h => proj h (inU m c) r (colOf t k)) (arrH_eq m c))

/-- All the blocks added: the layer's output. -/
theorem xo_whole : xoTo m c 11 = ffAdd (inH m c) (inG m c) (inU m c) (inD m c) (inX m c) := by
  funext i
  obtain ⟨r, x, rfl⟩ := exists_ix2 i
  rw [xoTo_last, steps_whole (arrW_at0 m c) (arrW_at1 m c) (arrW_at2 m c), arrH_eq, arrX_eq]
  rfl
end Cert.Ffn2FwdIdeal.Value
end
-- ==== Proof.Ffn2FwdRef.lean ====
module
public import proofs.«01_k».proof.Proof.FfnLossMath
public import proofs.«01_k».proof.Proof.Gen.Ffn2FwdRefIdeal.Read

/-! What the reference computes, read at an index, in the words of the whole arrays' functions. -/

@[expose] public section
noncomputable section
namespace Cert.Ffn2FwdRefIdeal.Read
open Cert.Ffn2FwdRefIdeal Cert.FfnMath Idealize.ShloMosaic Idealize.ShloMosaic.TcCoe Idealize.SL.Sem

variable (h : A2 2048 1024) (wg wu : A2 1024 2816) (wd : A2 2816 1024) (x t : A2 2048 1024)

theorem act_at (r : Fin 2048) (f : Fin 2816) : val_main_v3 (F := Ideal) h wg wu (ix2 r f) = wC h wg wu r f := by
  pointwise [val_main_v3, val_main_v2, val_main_call0_v5, val_main_call0_v4, val_main_call0_v3, val_main_call0_v2, val_main_call0_v1, val_main_call0_v0, val_main_call0_cst, val_main_call0_cst_0, val_main_v0, val_main_v1]
  unfold wC actF sg proj
  rw [zero_sub]

/-- The layer's output. -/
theorem out_whole : val_main_v7 (F := Ideal) h wg wu wd x = ffAdd h wg wu wd x := by
  funext i
  obtain ⟨r, y, rfl⟩ := exists_ix2 i
  pointwise [val_main_v7, val_main_v6, val_main_v5, val_main_cst, val_main_v4]
  exact congrArg (fun z : EReal => x (ix2 r y) + half * z) (Finset.sum_congr rfl fun f _ => congrArg (· * wd (ix2 f y)) (act_at h wg wu r f))

theorem gate_saved (p : Fin 11) (r : Fin 2048) (k : Fin 256) :
    val_main_v25 (F := Ideal) h wg (ix3 p r k) = proj h wg r (colOf p k) := by
  pointwise [val_main_v25, val_main_v24, val_main_v23, val_main_v0]
  exact Finset.sum_congr rfl fun y _ => congrArg (fun q : Fin 2816 => h (ix2 r y) * wg (ix2 y q))
    (Fin.ext (congrArg (· + k.val) (Nat.mul_comm p.val 256)))
theorem up_saved (p : Fin 11) (r : Fin 2048) (k : Fin 256) :
    val_main_v28 (F := Ideal) h wu (ix3 p r k) = proj h wu r (colOf p k) := by
  pointwise [val_main_v28, val_main_v27, val_main_v26, val_main_v1]
  exact Finset.sum_congr rfl fun y _ => congrArg (fun q : Fin 2816 => h (ix2 r y) * wu (ix2 y q))
    (Fin.ext (congrArg (· + k.val) (Nat.mul_comm p.val 256)))

/-- The loss's gradient. -/
theorem dy_whole : val_main_v22 (F := Ideal) h wg wu wd x t = dyOf (ffAdd h wg wu wd x) t := by
  funext i
  obtain ⟨r, y, rfl⟩ := exists_ix2 i
  pointwise [val_main_v22, val_main_v21, val_main_v20, val_main_v19, val_main_cst_7, val_main_v18, val_main_v17, val_main_cst_6, val_main_cst_5, val_main_v11, val_main_v10, val_main_cst_0, val_main_v8]
  rw [out_whole]
  exact dy_order (err (ffAdd h wg wu wd x) t r y)
/-- Half of the gradient. -/
theorem dyb_whole : val_main_v31 (F := Ideal) h wg wu wd x t = dybOf (ffAdd h wg wu wd x) t := by
  funext i
  obtain ⟨r, y, rfl⟩ := exists_ix2 i
  pointwise [val_main_v31, val_main_v30, val_main_v29, val_main_cst_8]
  rw [dy_whole]
  rfl
/-- The loss. -/
theorem loss_whole : val_main_v16 (F := Ideal) h wg wu wd x t = fun _ => lossOf (ffAdd h wg wu wd x) t := by
  funext i
  refine Eq.trans ?_ (loss_rows (ffAdd h wg wu wd x) t)
  pointwise [val_main_v16, val_main_cst_4, val_main_v15, val_main_cst_3, val_main_v14, val_main_v13, val_main_cst_2, val_main_v12, val_main_cst_1, val_main_v9, val_main_v8]
  rw [out_whole]
  rfl
end Cert.Ffn2FwdRefIdeal.Read
end
-- ==== Proof.Ffn2FwdValue.lean ====
module
public import proofs.«01_k».proof.Defs
public import proofs.«01_k».proof.Proof.Ffn2FwdHost
public import proofs.«01_k».proof.Proof.Ffn2FwdRef
public import proofs.«01_k».proof.Proof.Gen.Ffn2FwdRefIdeal.Run

/-! The second feed-forward and the loss: the kernel's results and the reference's are the same functions of the arguments. -/

@[expose] public section
noncomputable section
namespace Cert.Ffn2FwdValue
open Cert.FfnMath Idealize.ShloMosaic Idealize.ShloMosaic.TcCoe Idealize.SL.Sem

section Kernel
open Cert.Ffn2FwdIdeal Cert.Ffn2FwdIdeal.Gen Cert.Ffn2FwdIdeal.Body Cert.Ffn2FwdIdeal.Value
variable (m : (ℓ : Loc nD τ sig) → Buf (Elt Ideal) ℓ) (c : Dev nD)

/-- The layer's output, from the arguments. -/
def out : A2 2048 1024 := ffAdd (inH m c) (inG m c) (inU m c) (inD m c) (inX m c)

theorem kernel_dy : ((dats m 0 c).arrAt 2 cfg0.N : A2 2048 1024) = dyOf (out m c) (inT m c) := by
  rw [final_dy, xo_whole, arrT_eq]
  rfl
theorem kernel_gate : ((dats m 0 c).arrAt 3 cfg0.N : A3 11 2048 256) = fun i => proj (inH m c) (inG m c) (i 1) (colOf (i 0) (i 2)) := by
  funext i
  obtain ⟨t, r, k, rfl⟩ := exists_ix3 i
  exact (final_gate m c t r k).trans (gate_cols m c t r k)
theorem kernel_up : ((dats m 0 c).arrAt 4 cfg0.N : A3 11 2048 256) = fun i => proj (inH m c) (inU m c) (i 1) (colOf (i 0) (i 2)) := by
  funext i
  obtain ⟨t, r, k, rfl⟩ := exists_ix3 i
  exact (final_up m c t r k).trans (up_cols m c t r k)
theorem kernel_dyb : ((dats m 0 c).arrAt 5 cfg0.N : A2 2048 1024) = dybOf (out m c) (inT m c) := by
  rw [final_dyb, xo_whole, arrT_eq]
  rfl
theorem kernel_loss : Host.reduceAdd (F := Ideal) (φ := .f32) ((dats m 0 c).arrAt 6 cfg0.N : A2 1 128) (constant S_ .f32 0x00000000#32) reducesTo_S1x128_S_d0_1 h_S_
    = fun _ => lossOf (out m c) (inT m c) := by
  rw [final_lanes, xo_whole, arrT_eq, sum_row]
  exact funext fun _ => lanes_loss _ _
end Kernel

/-- The reference terminates, leaves its arguments alone, and declares no semaphore. -/
theorem frame_ref : Cert.quiescent_Ffn2FwdRefIdeal := fun m ρ _ =>
  (θ_run Cert.Ffn2FwdRefIdeal.defs _ _).mono (fun r h => ⟨fun c => (h c).2.2.2.2.2, sem_eq_zero_of_no_sems (by decide) r.2⟩)
    (Cert.Ffn2FwdRefIdeal.Value.run (F := Ideal) m ρ)

open Cert.Ffn2FwdIdeal.Value in
theorem algebraic : Cert.algebraic_Ffn2FwdIdeal_Ffn2FwdRefIdeal := by
  intro m g m' g' hp hm
  refine ⟨fun c => dyOf (out m c) (inT m c), fun c i => proj (inH m c) (inG m c) (i 1) (colOf (i 0) (i 2)),
    fun c i => proj (inH m c) (inU m c) (i 1) (colOf (i 0) (i 2)), fun c => dybOf (out m c) (inT m c), fun c _ => lossOf (out m c) (inT m c),
    (θ_run _ _ _).mono (fun r h c => ?_) (results m g), (θ_run _ _ _).mono (fun r h c => ?_) (Cert.Ffn2FwdRefIdeal.Value.run m' g')⟩
  · obtain ⟨e0, e1, e2, e3, e4, a⟩ := h c
    exact ⟨e0.trans (kernel_dy m c), e1.trans (kernel_gate m c), e2.trans (kernel_up m c), e3.trans (kernel_dyb m c),
      e4.trans (kernel_loss m c), a⟩
  · obtain ⟨e0, e1, e2, e3, e4, a⟩ := h c
    obtain ⟨h0, h1, h2, h3, h4, h5⟩ := hm c
    refine ⟨e0.trans ?_, e1.trans ?_, e2.trans ?_, e3.trans ?_, e4.trans ?_, a⟩
    · refine (Cert.Ffn2FwdRefIdeal.Read.val_main_v22_eq _ _ _ _ _ _).trans ?_
      rw [h0, h1, h2, h3, h4, h5]
      exact Cert.Ffn2FwdRefIdeal.Read.dy_whole _ _ _ _ _ _
    · refine (Cert.Ffn2FwdRefIdeal.Read.val_main_v25_eq _ _).trans ?_
      rw [h0, h1]
      funext i
      obtain ⟨t, r, k, rfl⟩ := exists_ix3 i
      exact Cert.Ffn2FwdRefIdeal.Read.gate_saved _ _ t r k
    · refine (Cert.Ffn2FwdRefIdeal.Read.val_main_v28_eq _ _).trans ?_
      rw [h0, h2]
      funext i
      obtain ⟨t, r, k, rfl⟩ := exists_ix3 i
      exact Cert.Ffn2FwdRefIdeal.Read.up_saved _ _ t r k
    · refine (Cert.Ffn2FwdRefIdeal.Read.val_main_v31_eq _ _ _ _ _ _).trans ?_
      rw [h0, h1, h2, h3, h4, h5]
      exact Cert.Ffn2FwdRefIdeal.Read.dyb_whole _ _ _ _ _ _
    · refine (Cert.Ffn2FwdRefIdeal.Read.val_main_v16_eq _ _ _ _ _ _).trans ?_
      rw [h0, h1, h2, h3, h4, h5]
      exact Cert.Ffn2FwdRefIdeal.Read.loss_whole _ _ _ _ _ _

end Cert.Ffn2FwdValue
end
-- ==== Proof.ProjMath.lean ====
module
public import proofs.«01_k».proof.Proof.FfnMath
public import proofs.«01_k».proof.Proof.NormMath
public import Idealize.ShloMosaic.Lib.Pipeline.Value

/-! The projections into and out of the mixer: the sums of products they consist of, and the grid's four blocks of 512
rows. -/

@[expose] public section
noncomputable section
namespace Cert.FfnMath
open Idealize.ShloMosaic

section
variable {n k o : Nat}
/-- The product of two matrices, the second one laid out by columns. -/
def mulNT (a : A2 n k) (b : A2 o k) : A2 n o := fun i => ∑ x : Fin k, a (ix2 (i 0) x) * b (ix2 (i 1) x)
/-- The product of two matrices, the first one laid out by columns. -/
def mulTN (a : A2 k n) (b : A2 k o) : A2 n o := fun i => ∑ x : Fin k, a (ix2 x (i 0)) * b (ix2 x (i 1))
/-- The product of two matrices. -/
def mulNN (a : A2 n k) (b : A2 k o) : A2 n o := fun i => ∑ x : Fin k, a (ix2 (i 0) x) * b (ix2 x (i 1))
/-- Block `t` of 512 rows. -/
def rows (a : A2 2048 k) (t : Fin 4) : A2 512 k := fun i => a (ix2 ⟨512 * t.val + (i 0).val, by have := (i 0).isLt; have e : (⟨2, ![512, k]⟩ : Shape).size 0 = 512 := rfl; omega⟩ (i 1))
end

/-- The norm of a block of rows. -/
def normedBlk (x : A2 512 1024) (g : A2 1 1024) : A2 512 1024 := fun i =>
  x i * Ideal.rsqrt (Ideal.div (∑ y : Fin 1024, x (ix2 (i 0) y) * x (ix2 (i 0) y)) width + tiny) * g (ix2 0 (i 1))

theorem off2 : (![0, 0] : Fin 2 → Nat) = fun _ => 0 := funext fun a => by
  match a with
  | 0 => rfl
  | 1 => rfl

/-- A load of a whole array reads it. -/
theorem ld_whole {Val : EltTy → Type} {e : EltTy} {n m : Nat} (X : (⟨2, ![n, m]⟩ : Shape).Idx → Val e)
    (inb : ∀ a, (![0, 0] : Fin 2 → Nat) a + (![n, m] : Fin 2 → Nat) a ≤ (⟨2, ![n, m]⟩ : Shape).size a) :
    View.ld X (Rect.unit ![0, 0] ![n, m] inb) = X :=
  View.ld_unit_zero (S := ⟨2, ![n, m]⟩) off2 inb X

/-- Row `r` of block `t`. -/
def rowOf (t : Fin 4) (r : Fin 512) : Fin 2048 := ⟨512 * t.val + r.val, by omega⟩
theorem rowOf_surj (q : Fin 2048) : ∃ t r, q = rowOf t r :=
  ⟨⟨q.val / 512, by omega⟩, ⟨q.val % 512, Nat.mod_lt _ (by decide)⟩, Fin.ext (Nat.div_add_mod _ _).symm⟩

theorem mulNT_rows {k o : Nat} (a : A2 2048 k) (b : A2 o k) (t : Fin 4) : mulNT (rows a t) b = rows (mulNT a b) t := rfl

/-- The four blocks' products added are the product over all the rows. -/
theorem mulTN_rows {n o : Nat} (a : A2 2048 n) (b : A2 2048 o) (i) :
    mulTN (rows a 0) (rows b 0) i + mulTN (rows a 1) (rows b 1) i + mulTN (rows a 2) (rows b 2) i + mulTN (rows a 3) (rows b 3) i
      = mulTN a b i :=
  sum_chunks fun r => a (ix2 r (i 0)) * b (ix2 r (i 1))
end Cert.FfnMath
end
-- ==== Proof.OutProjBwdCases.lean ====
module
public import proofs.«01_k».proof.Proof.ProjMath
public import proofs.«01_k».proof.Proof.Gen.OutProjBwdIdeal.Value

/-! The gradients of the projection out of the mixer: what each kind of grid point leaves. The first point starts the sum
of the weight's gradient, the others add to it, the last one also copies it out. -/

@[expose] public section
noncomputable section
namespace Cert.OutProjBwdIdeal.Value
open Cert.OutProjBwdIdeal Cert.OutProjBwdIdeal.Gen Cert.FfnMath Idealize.ShloMosaic

section
variable (d : A2 512 1024) (w : A2 1024 1024) (y : A2 512 1024) (s : A2 1024 1024)
theorem pay2_eq : k0_pay2 (F := Ideal) d w = mulNT d w := by
  funext i
  obtain ⟨r, k, rfl⟩ := exists_ix2 i
  pointwise [k0_pay2, k0_pay1]
  rfl
theorem pay3_eq : k0_pay3 (F := Ideal) d y = mulTN y d := by
  funext i
  obtain ⟨r, k, rfl⟩ := exists_ix2 i
  pointwise [k0_pay3, k0_pay1]
  rfl
theorem pay4_eq : k0_pay4 (F := Ideal) d y = mulTN y d := by
  funext i
  obtain ⟨r, k, rfl⟩ := exists_ix2 i
  pointwise [k0_pay4]
  rw [pay3_eq]
theorem pay5_eq : k0_pay5 (F := Ideal) d y s = fun i => s i + mulTN y d i := by
  funext i
  obtain ⟨r, k, rfl⟩ := exists_ix2 i
  pointwise [k0_pay5]
  rw [pay3_eq]
theorem pay6_eq : k0_pay6 (F := Ideal) s = s := by
  funext i
  obtain ⟨r, k, rfl⟩ := exists_ix2 i
  pointwise [k0_pay6]
end

variable (c : Dev nD) (i : grid0.Coords) (arg1 : Memref sig .tc .vmem S512x1024 .bf16) (harg1 : arg1.IsWhole)
  (arg2 : Memref sig .tc .vmem S1024x1024 .bf16) (harg2 : arg2.IsWhole)
  (arg3 : Memref sig .tc .vmem S512x1024 .bf16) (harg3 : arg3.IsWhole)
  (arg4 : Memref sig .tc .vmem S512x1024 .f32) (harg4 : arg4.IsWhole)
  (arg5 : Memref sig .tc .vmem S1024x1024 .bf16) (harg5 : arg5.IsWhole)
  (arg6 : Memref sig .tc .vmem S1024x1024 .f32) (harg6 : arg6.IsWhole)
  (x0 : Vec Ideal S512x1024 .bf16) (x1 : Vec Ideal S1024x1024 .bf16) (x2 : Vec Ideal S512x1024 .bf16)
  (xs0 : Vec Ideal S1024x1024 .f32)

theorem dy_A (hc0 : cond0_0 i) (hc1 : ¬cond0_1 i) (hc2 : ¬cond0_2 i) :
    out0_A_3 (F := Ideal) c i arg1 harg1 arg2 harg2 arg3 harg3 arg4 harg4 arg5 harg5 arg6 harg6 hc0 hc1 hc2 x0 x1 x2 = mulNT x0 x1 := by
  unfold out0_A_3
  rw [View.read_writes_eq_canon _ _ _ (cover0_A_3 c i arg1 harg1 arg2 harg2 arg3 harg3 arg4 harg4 arg5 harg5 arg6 harg6 hc0 hc1 hc2 x0 x1 x2)]
  unfold kernelRun0_A
  dsimp only
  sl_unfold_words
  simp only [View.readAt_eq_ld, harg1.read_unread, harg2.read_unread, harg3.read_unread, readCov_head, ld_whole]
  exact (View.canon_cons_unit_zero off2 _ _ _).trans (pay2_eq x0 x1)

theorem acc_A (hc0 : cond0_0 i) (hc1 : ¬cond0_1 i) (hc2 : ¬cond0_2 i) :
    sout0_A_0 (F := Ideal) c i arg1 harg1 arg2 harg2 arg3 harg3 arg4 harg4 arg5 harg5 arg6 harg6 hc0 hc1 hc2 x0 x1 x2 = mulTN x2 x0 := by
  unfold sout0_A_0
  rw [View.read_writes_eq_canon _ _ _ (scover0_A_0 c i arg1 harg1 arg2 harg2 arg3 harg3 arg4 harg4 arg5 harg5 arg6 harg6 hc0 hc1 hc2 x0 x1 x2)]
  unfold kernelRun0_A
  dsimp only
  sl_unfold_words
  simp only [View.readAt_eq_ld, harg1.read_unread, harg2.read_unread, harg3.read_unread, readCov_head, ld_whole]
  exact (View.canon_cons_unit_zero off2 _ _ _).trans (pay4_eq x0 x2)

theorem dy_B (hc0 : ¬cond0_0 i) (hc1 : cond0_1 i) (hc2 : ¬cond0_2 i) :
    out0_B_3 (F := Ideal) c i arg1 harg1 arg2 harg2 arg3 harg3 arg4 harg4 arg5 harg5 arg6 harg6 hc0 hc1 hc2 x0 x1 x2 xs0 = mulNT x0 x1 := by
  unfold out0_B_3
  rw [View.read_writes_eq_canon _ _ _ (cover0_B_3 c i arg1 harg1 arg2 harg2 arg3 harg3 arg4 harg4 arg5 harg5 arg6 harg6 hc0 hc1 hc2 x0 x1 x2 xs0)]
  unfold kernelRun0_B
  dsimp only
  sl_unfold_words
  simp only [View.readAt_eq_ld, harg1.read_unread, harg2.read_unread, harg3.read_unread, harg6.read_unread, readCov_head, ld_whole]
  exact (View.canon_cons_unit_zero off2 _ _ _).trans (pay2_eq x0 x1)

theorem acc_B (hc0 : ¬cond0_0 i) (hc1 : cond0_1 i) (hc2 : ¬cond0_2 i) :
    sout0_B_0 (F := Ideal) c i arg1 harg1 arg2 harg2 arg3 harg3 arg4 harg4 arg5 harg5 arg6 harg6 hc0 hc1 hc2 x0 x1 x2 xs0 = fun i => xs0 i + mulTN x2 x0 i := by
  unfold sout0_B_0
  rw [View.read_writes_eq_canon _ _ _ (scover0_B_0 c i arg1 harg1 arg2 harg2 arg3 harg3 arg4 harg4 arg5 harg5 arg6 harg6 hc0 hc1 hc2 x0 x1 x2 xs0)]
  unfold kernelRun0_B
  dsimp only
  sl_unfold_words
  simp only [View.readAt_eq_ld, harg1.read_unread, harg2.read_unread, harg3.read_unread, harg6.read_unread, readCov_head, ld_whole]
  exact (View.canon_cons_unit_zero off2 _ _ _).trans (pay5_eq x0 x2 xs0)

theorem dy_C (hc0 : ¬cond0_0 i) (hc1 : cond0_1 i) (hc2 : cond0_2 i) :
    out0_C_3 (F := Ideal) c i arg1 harg1 arg2 harg2 arg3 harg3 arg4 harg4 arg5 harg5 arg6 harg6 hc0 hc1 hc2 x0 x1 x2 xs0 = mulNT x0 x1 := by
  unfold out0_C_3
  rw [View.read_writes_eq_canon _ _ _ (cover0_C_3 c i arg1 harg1 arg2 harg2 arg3 harg3 arg4 harg4 arg5 harg5 arg6 harg6 hc0 hc1 hc2 x0 x1 x2 xs0)]
  unfold kernelRun0_C
  dsimp only
  sl_unfold_words
  simp only [View.readAt_eq_ld, harg1.read_unread, harg2.read_unread, harg3.read_unread, harg6.read_unread, readCov_head, ld_whole]
  exact (View.canon_cons_unit_zero off2 _ _ _).trans (pay2_eq x0 x1)

theorem acc_C (hc0 : ¬cond0_0 i) (hc1 : cond0_1 i) (hc2 : cond0_2 i) :
    sout0_C_0 (F := Ideal) c i arg1 harg1 arg2 harg2 arg3 harg3 arg4 harg4 arg5 harg5 arg6 harg6 hc0 hc1 hc2 x0 x1 x2 xs0 = fun i => xs0 i + mulTN x2 x0 i := by
  unfold sout0_C_0
  rw [View.read_writes_eq_canon _ _ _ (scover0_C_0 c i arg1 harg1 arg2 harg2 arg3 harg3 arg4 harg4 arg5 harg5 arg6 harg6 hc0 hc1 hc2 x0 x1 x2 xs0)]
  unfold kernelRun0_C
  dsimp only
  sl_unfold_words
  simp only [View.readAt_eq_ld, harg1.read_unread, harg2.read_unread, harg3.read_unread, harg6.read_unread, readCov_head, ld_whole]
  exact (View.canon_cons_unit_zero off2 _ _ _).trans (pay5_eq x0 x2 xs0)

theorem dw_C (hc0 : ¬cond0_0 i) (hc1 : cond0_1 i) (hc2 : cond0_2 i) :
    out0_C_4 (F := Ideal) c i arg1 harg1 arg2 harg2 arg3 harg3 arg4 harg4 arg5 harg5 arg6 harg6 hc0 hc1 hc2 x0 x1 x2 xs0 = fun i => xs0 i + mulTN x2 x0 i := by
  unfold out0_C_4
  rw [View.read_writes_eq_canon _ _ _ (cover0_C_4 c i arg1 harg1 arg2 harg2 arg3 harg3 arg4 harg4 arg5 harg5 arg6 harg6 hc0 hc1 hc2 x0 x1 x2 xs0)]
  unfold kernelRun0_C
  dsimp only
  sl_unfold_words
  simp only [View.readAt_eq_ld, harg1.read_unread, harg2.read_unread, harg3.read_unread, harg6.read_unread, readCov_head, ld_whole]
  exact (View.canon_cons_unit_zero off2 _ _ _).trans ((pay6_eq _).trans (pay5_eq x0 x2 xs0))

end Cert.OutProjBwdIdeal.Value
end
-- ==== Proof.OutProjBwdRun.lean ====
module
public import proofs.«01_k».proof.Proof.OutProjBwdCases

/-! The four grid points in order: what they leave, and so what the run returns, as functions of the arguments. -/

@[expose] public section
noncomputable section
namespace Cert.OutProjBwdIdeal.Value
open Cert.OutProjBwdIdeal Cert.OutProjBwdIdeal.Gen Cert.FfnMath Idealize.ShloMosaic Idealize.ShloMosaic.TcCoe Idealize.SL.Sem

variable (m : (ℓ : Loc nD τ sig) → Buf (Elt Ideal) ℓ) (c : Dev nD)

/-- The arguments: the mixer's output, the weight, the gradient of the projection's output. -/
def inY : A2 2048 1024 := m ((c : Thread nD τ).loc main_arg0)
def inW : A2 1024 1024 := m ((c : Thread nD τ).loc main_arg1)
def inC : A2 2048 1024 := m ((c : Thread nD τ).loc main_arg2)

theorem host_c : V m c main_v0 = inC m c := by
  unfold V
  after_results_simp
  rfl
theorem host_w : V m c main_v1 = inW m c := by
  unfold V
  after_results_simp
  rfl
theorem host_y : V m c main_v2 = inY m c := by
  unfold V
  after_results_simp
  rfl

/-- A grid point as the number of its block. -/
def pt (t : Fin cfg0.N) : Fin 4 := ⟨t.val, lt_of_lt_of_eq t.isLt N_0⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t

theorem blk_c (t : Fin cfg0.N) : (iblk m c 0 t : Vec Ideal S512x1024 .bf16) = rows (inC m c) (pt t) := by
  rw [← host_c]
  funext j
  unfold iblk
  rw [View.read_apply]
  show V m c main_v0 _ = V m c main_v0 _
  congr 1
  funext a
  apply Fin.ext
  have hi := index0 t
  match a with
  | ⟨0, _⟩ => show win0_0.index t 0 * 512 + 1 * (j 0).val = 512 * t.val + (j 0).val; rw [hi.1]; omega
  | ⟨1, _⟩ => show win0_0.index t 1 * 1024 + 1 * (j 1).val = (j 1).val; rw [hi.2]; omega
theorem blk_w (t : Fin cfg0.N) : (iblk m c 1 t : Vec Ideal S1024x1024 .bf16) = inW m c := by
  rw [← host_w]
  funext j
  unfold iblk
  rw [View.read_apply]
  show V m c main_v1 _ = V m c main_v1 _
  congr 1
  funext a
  apply Fin.ext
  have hi := index1 t
  match a with
  | ⟨0, _⟩ => show win0_1.index t 0 * 1024 + 1 * (j 0).val = (j 0).val; rw [hi.1]; omega
  | ⟨1, _⟩ => show win0_1.index t 1 * 1024 + 1 * (j 1).val = (j 1).val; rw [hi.2]; omega
theorem blk_y (t : Fin cfg0.N) : (iblk m c 2 t : Vec Ideal S512x1024 .bf16) = rows (inY m c) (pt t) := by
  rw [← host_y]
  funext j
  unfold iblk
  rw [View.read_apply]
  show V m c main_v2 _ = V m c main_v2 _
  congr 1
  funext a
  apply Fin.ext
  have hi := index2 t
  match a with
  | ⟨0, _⟩ => show win0_2.index t 0 * 512 + 1 * (j 0).val = 512 * t.val + (j 0).val; rw [hi.1]; omega
  | ⟨1, _⟩ => show win0_2.index t 1 * 1024 + 1 * (j 1).val = (j 1).val; rw [hi.2]; omega

/-- What the first `n + 1` points leave. -/
abbrev Left (n : Nat) (h : 0 + n < cfg0.N) :=
  Pipeline.accAt (fun n h => stAt0 m c n h (junk0 (F := Ideal))) (stAt0 m c) 0 n h

/-- Block `t`'s part of the weight's gradient. -/
abbrev part (t : Fin 4) : A2 1024 1024 := mulTN (rows (inY m c) t) (rows (inC m c) t)

/-- At every point the block of rows of the input's gradient is written. -/
theorem st_dy (n : Nat) (h : n < cfg0.N) (acc) : (stAt0 m c n h acc).1 = rows (mulNT (inC m c) (inW m c)) (pt ⟨n, h⟩) := by
  have hN : n < 4 := lt_of_lt_of_eq h N_0
  rw [← mulNT_rows]
  rcases Nat.lt_or_ge n 1 with h1 | h1
  · rw [stAt0_A m c ⟨n, h⟩ acc (show n % 4 = 0 by omega) (show ¬1 ≤ n by omega) (show ¬n % 4 = 3 by omega)]
    dsimp only
    rw [dy_A, blk_c, blk_w]
  · rcases Nat.lt_or_ge n 3 with h3 | h3
    · rw [stAt0_B m c ⟨n, h⟩ acc (show ¬n % 4 = 0 by omega) h1 (show ¬n % 4 = 3 by omega)]
      dsimp only
      rw [dy_B, blk_c, blk_w]
    · rw [stAt0_C m c ⟨n, h⟩ acc (show ¬n % 4 = 0 by omega) h1 (show n % 4 = 3 by omega)]
      dsimp only
      rw [dy_C, blk_c, blk_w]

theorem left_dy (n : Nat) (h : 0 + n < cfg0.N) : (Left m c n h).1 = rows (mulNT (inC m c) (inW m c)) (pt ⟨n, by omega⟩) := by
  match n with
  | 0 => exact st_dy m c 0 h _
  | k + 1 =>
    refine (st_dy m c (0 + (k + 1)) h _).trans (congrArg (rows _) (Fin.ext (Nat.zero_add _)))

theorem st_first (h : 0 < cfg0.N) (acc) : (stAt0 m c 0 h acc).2.2 = part m c 0 := by
  rw [stAt0_A m c ⟨0, h⟩ acc rfl (show ¬1 ≤ 0 by decide) (show ¬0 % 4 = 3 by decide)]
  dsimp only
  rw [acc_A, blk_c, blk_y]
  rfl
theorem st_mid (n : Nat) (h : n < cfg0.N) (h1 : 1 ≤ n) (h3 : n < 3) (acc) :
    (stAt0 m c n h acc).2.2 = fun i => acc.2.2 i + part m c (pt ⟨n, h⟩) i := by
  rw [stAt0_B m c ⟨n, h⟩ acc (show ¬n % 4 = 0 by omega) h1 (show ¬n % 4 = 3 by omega)]
  dsimp only
  rw [acc_B, blk_c, blk_y]
theorem st_last (h : 3 < cfg0.N) (acc) : (stAt0 m c 3 h acc).2.1 = fun i => acc.2.2 i + part m c 3 i := by
  rw [stAt0_C m c ⟨3, h⟩ acc (show ¬3 % 4 = 0 by decide) (show 1 ≤ 3 by decide) rfl]
  dsimp only
  rw [dw_C, blk_c, blk_y]
  rfl

theorem left_dw (h : 0 + 3 < cfg0.N) : (Left m c 3 h).2.1 = mulTN (inY m c) (inC m c) := by
  have h0 : 0 + 0 < cfg0.N := Nat.lt_of_le_of_lt (by decide) h
  have h1 : 0 + 1 < cfg0.N := Nat.lt_of_le_of_lt (by decide) h
  have h2 : 0 + 2 < cfg0.N := Nat.lt_of_le_of_lt (by decide) h
  have e0 : (Left m c 0 h0).2.2 = part m c 0 := st_first m c h0 _
  have e1 : (Left m c 1 h1).2.2 = fun i => (Left m c 0 h0).2.2 i + part m c 1 i := st_mid m c 1 h1 (by decide) (by decide) _
  have e2 : (Left m c 2 h2).2.2 = fun i => (Left m c 1 h1).2.2 i + part m c 2 i := st_mid m c 2 h2 (by decide) (by decide) _
  have e3 : (Left m c 3 h).2.1 = fun i => (Left m c 2 h2).2.2 i + part m c 3 i := st_last m c h _
  rw [e3, e2, e1, e0]
  exact funext fun i => mulTN_rows (inY m c) (inC m c) i

/-- The first result: the gradient of the mixer's output. -/
theorem final_dy : (G3 m c : A2 2048 1024) = mulNT (inC m c) (inW m c) := by
  funext i
  have hi0 : (i 0).val < 2048 := (i 0).isLt
  have hi1 : (i 1).val < 1024 := (i 1).isLt
  have hp : pt3Of i < cfg0.N := lt_of_lt_of_eq (show 1 * ((i 0).val / 512 - 0) + 1 * ((i 1).val / 1024 - 0) < 4 by omega) N_0.symm
  unfold G3
  rw [dif_pos hp, left_dy]
  show mulNT _ _ _ = mulNT _ _ _
  refine congrArg (mulNT (inC m c) (inW m c)) (funext fun a => Fin.ext ?_)
  match a with
  | ⟨0, _⟩ =>
    show 512 * (1 * ((i 0).val / 512 - 0) + 1 * ((i 1).val / 1024 - 0)) + (i 0).val % 512 = (i 0).val
    omega
  | ⟨1, _⟩ => show (i 1).val % 1024 = (i 1).val; omega
/-- The second result: the weight's gradient. -/
theorem final_dw : (G4 m c : A2 1024 1024) = mulTN (inY m c) (inC m c) := (G4_last m c).trans (left_dw m c _)
end Cert.OutProjBwdIdeal.Value
end
-- ==== Proof.OutProjBwdValue.lean ====
module
public import proofs.«01_k».proof.Defs
public import proofs.«01_k».proof.Proof.OutProjBwdRun
public import proofs.«01_k».proof.Proof.Gen.OutProjBwdRefIdeal.Read

/-! The gradients of the projection out of the mixer: the kernel's results and the reference's are the same functions of
the arguments. -/

@[expose] public section
noncomputable section

namespace Cert.OutProjBwdRefIdeal.Read
open Cert.OutProjBwdRefIdeal Cert.FfnMath Idealize.ShloMosaic
variable (y : A2 2048 1024) (w : A2 1024 1024) (d : A2 2048 1024)

theorem dy_whole : val_main_v3 (F := Ideal) w d = mulNT d w := by
  funext i
  obtain ⟨r, k, rfl⟩ := exists_ix2 i
  pointwise [val_main_v3]
  rfl
theorem dw_whole : val_main_v4 (F := Ideal) y d = mulTN y d := by
  funext i
  obtain ⟨r, k, rfl⟩ := exists_ix2 i
  pointwise [val_main_v4, val_main_v2, val_main_v1]
  exact Finset.sum_congr rfl fun x _ => mul_comm _ _
end Cert.OutProjBwdRefIdeal.Read

namespace Cert.OutProjBwdValue
open Cert.FfnMath Idealize.ShloMosaic Idealize.ShloMosaic.TcCoe Idealize.SL.Sem

/-- The reference terminates, leaves its arguments alone, and declares no semaphore. -/
theorem frame_ref : Cert.quiescent_OutProjBwdRefIdeal := fun m ρ _ =>
  (θ_run Cert.OutProjBwdRefIdeal.defs _ _).mono (fun r h => ⟨fun c => (h c).2.2, sem_eq_zero_of_no_sems (by decide) r.2⟩)
    (Cert.OutProjBwdRefIdeal.Value.run (F := Ideal) m ρ)

open Cert.OutProjBwdIdeal.Value in
theorem algebraic : Cert.algebraic_OutProjBwdIdeal_OutProjBwdRefIdeal := by
  intro m g m' g' hp hm
  refine ⟨fun c => mulNT (inC m c) (inW m c), fun c => mulTN (inY m c) (inC m c),
    (θ_run _ _ _).mono (fun r h c => ?_) (Cert.OutProjBwdIdeal.Value.run (F := Ideal) m g),
    (θ_run _ _ _).mono (fun r h c => ?_) (Cert.OutProjBwdRefIdeal.Value.run m' g')⟩
  · obtain ⟨e0, e1, a⟩ := h c
    exact ⟨e0.trans (final_dy m c), e1.trans (final_dw m c), a⟩
  · obtain ⟨e0, e1, a⟩ := h c
    obtain ⟨h0, h1, h2⟩ := hm c
    refine ⟨e0.trans ?_, e1.trans ?_, a⟩
    · refine (Cert.OutProjBwdRefIdeal.Read.val_main_v3_eq _ _).trans ?_
      rw [h1, h2]
      exact Cert.OutProjBwdRefIdeal.Read.dy_whole _ _
    · refine (Cert.OutProjBwdRefIdeal.Read.val_main_v4_eq _ _).trans ?_
      rw [h0, h2]
      exact Cert.OutProjBwdRefIdeal.Read.dw_whole _ _
end Cert.OutProjBwdValue
end
-- ==== Proof.NormGradMath.lean ====
module
public import proofs.«01_k».proof.Proof.ProjMath
public import proofs.«01_k».proof.Proof.FfnFwdMath

/-! The gradient of the norm before a layer, in the two ways the kernel and the reference write it. Nothing is asked of the
rows: where a row's mean square is infinite, one over its root is zero and both ways leave the incoming gradient. -/

@[expose] public section
noncomputable section
namespace Cert.FfnMath
open Idealize.ShloMosaic

abbrev negHalf : EReal := Ideal.ofBits .f32 0xBF000000#32
theorem negHalf_real : negHalf = ((-((1 : ℝ) / 2) : ℝ) : EReal) := by
  simp [negHalf, Ideal.ofBits, Ideal.ieee, -EReal.coe_mul, -EReal.coe_neg]; norm_num

/-- The mean square of a row, with the small number added. -/
def msq (x : Fin 1024 → EReal) : EReal := Ideal.div (∑ y : Fin 1024, x y * x y) width + tiny

theorem msq_cases (x : Fin 1024 → EReal) : msq x = ⊤ ∨ ∃ T : ℝ, 0 < T ∧ msq x = T := by
  obtain ⟨e, he, ht⟩ := tiny_pos
  have hS : 0 ≤ ∑ y : Fin 1024, x y * x y := Finset.sum_nonneg fun y _ => by
    rcases le_total 0 (x y) with h | h
    · exact EReal.mul_nonneg h h
    · rw [← neg_mul_neg]
      exact EReal.mul_nonneg (EReal.neg_nonneg.mpr h) (EReal.neg_nonneg.mpr h)
  unfold msq
  rw [ofBits_width, ht]
  unfold Ideal.div
  rw [if_neg (by exact_mod_cast (by norm_num : (1024 : ℝ) ≠ 0)), ← EReal.coe_inv]
  generalize ∑ y : Fin 1024, x y * x y = S at hS
  induction S with
  | bot => exact absurd hS (by decide)
  | top =>
    left
    rw [EReal.top_mul_coe_of_pos (by norm_num), EReal.top_add_coe]
  | coe s =>
    right
    refine ⟨s * (1024 : ℝ)⁻¹ + e, ?_, by rw [EReal.coe_add, EReal.coe_mul]⟩
    have : 0 ≤ s := by exact_mod_cast hS
    positivity

/-- The two ways with real numbers for the root's inverse and the width's. -/
theorem grad_core (a w : ℝ) (ha : 0 ≤ a) (hw : 0 ≤ w) (d x P dr : EReal) :
    dr + (a : EReal) * (d - x * a * (a * P * w))
      = dr + d * a + x * (P * (((-((1 : ℝ) / 2) : ℝ) : EReal) * ((a * (a * a) : ℝ) : EReal)) * w)
          + P * (((-((1 : ℝ) / 2) : ℝ) : EReal) * ((a * (a * a) : ℝ) : EReal)) * w * x := by
  have hb : 0 ≤ a * (a * a) * w := by positivity
  have hE : x * a * (a * P * w) = ((a * a * w : ℝ) : EReal) * (x * P) := by
    simp only [EReal.coe_mul]; ac_rfl
  have hq : P * (((-((1 : ℝ) / 2) : ℝ) : EReal) * ((a * (a * a) : ℝ) : EReal)) * w * x
      = ((a * (a * a) * w * (1 / 2) : ℝ) : EReal) * -(x * P) := by
    rw [mul_neg, ← neg_mul, ← EReal.coe_neg, show -(a * (a * a) * w * (1 / 2)) = -((1 : ℝ) / 2) * (a * (a * a)) * w by ring]
    simp only [EReal.coe_mul]
    ac_rfl
  have hq' : x * (P * (((-((1 : ℝ) / 2) : ℝ) : EReal) * ((a * (a * a) : ℝ) : EReal)) * w)
      = ((a * (a * a) * w * (1 / 2) : ℝ) : EReal) * -(x * P) := (mul_comm _ _).trans hq
  have hs : ((a * (a * a) * w * (1 / 2) : ℝ) : EReal) * -(x * P) + ((a * (a * a) * w * (1 / 2) : ℝ) : EReal) * -(x * P)
      = ((a * (a * a) * w : ℝ) : EReal) * -(x * P) := by
    rw [← EReal.right_distrib_of_nonneg (by exact_mod_cast (by positivity)) (by exact_mod_cast (by positivity)), ← EReal.coe_add]
    congr 2
    ring
  rw [hq, hq', add_assoc (dr + d * a), hs, hE, sub_eq_add_neg,
    EReal.left_distrib_of_nonneg_of_ne_top (by exact_mod_cast ha) (EReal.coe_ne_top a), ← mul_neg, ← mul_assoc (a : EReal) ((a * a * w : ℝ) : EReal),
    ← EReal.coe_mul, show a * (a * a * w) = a * (a * a) * w by ring, mul_comm (a : EReal) d, ← add_assoc]

/-- The kernel's way and the reference's: `D` is the gradient of the scaled row, `dr` what comes past the layer. -/
theorem grad_two_ways (x D : Fin 1024 → EReal) (k : Fin 1024) (dr : EReal) :
    dr + Ideal.rsqrt (msq x) * (D k - x k * Ideal.rsqrt (msq x) * Ideal.div (∑ y : Fin 1024, D y * (x y * Ideal.rsqrt (msq x))) width)
      = dr + D k * Ideal.rsqrt (msq x)
          + x k * Ideal.div ((∑ y : Fin 1024, x y * D y) * (negHalf * Ideal.div (Ideal.rsqrt (msq x)) (msq x))) width
          + Ideal.div ((∑ y : Fin 1024, x y * D y) * (negHalf * Ideal.div (Ideal.rsqrt (msq x)) (msq x))) width * x k := by
  have hdiv : ∀ z : EReal, Ideal.div z width = z * (((1024 : ℝ)⁻¹ : ℝ) : EReal) := fun z => by
    rw [ofBits_width]
    unfold Ideal.div
    rw [if_neg (by exact_mod_cast (by norm_num : (1024 : ℝ) ≠ 0)), ← EReal.coe_inv]
  rw [hdiv, hdiv, negHalf_real]
  rcases msq_cases x with h | ⟨T, hT, h⟩
  · rw [h]
    have h0 : Ideal.rsqrt ⊤ = 0 := rfl
    have h1 : Ideal.div 0 ⊤ = 0 := by
      unfold Ideal.div
      rw [if_neg (by decide), zero_mul]
    rw [h0, h1]
    simp
  · rw [h]
    have hr : Ideal.rsqrt (T : EReal) = (((Real.sqrt T)⁻¹ : ℝ) : EReal) := by
      show (if T < 0 then (⊥ : EReal) else if T = 0 then ⊤ else ((Real.sqrt T)⁻¹ : ℝ)) = _
      rw [if_neg hT.le.not_gt, if_neg hT.ne']
    have hsq : T⁻¹ = (Real.sqrt T)⁻¹ * (Real.sqrt T)⁻¹ := by
      rw [← mul_inv, Real.mul_self_sqrt hT.le]
    have hv : Ideal.div (((Real.sqrt T)⁻¹ : ℝ) : EReal) (T : EReal)
        = (((Real.sqrt T)⁻¹ * ((Real.sqrt T)⁻¹ * (Real.sqrt T)⁻¹) : ℝ) : EReal) := by
      unfold Ideal.div
      rw [if_neg (by exact_mod_cast hT.ne'), ← EReal.coe_inv, ← EReal.coe_mul, hsq]
    have hp : 0 ≤ (Real.sqrt T)⁻¹ := inv_nonneg.mpr (Real.sqrt_nonneg T)
    rw [hr, hv]
    generalize (Real.sqrt T)⁻¹ = a at hp
    have hP : ∑ y : Fin 1024, D y * (x y * (a : EReal)) = (a : EReal) * ∑ y : Fin 1024, x y * D y := by
      rw [mul_sum_real _ _ _ hp]
      exact Finset.sum_congr rfl fun y _ => by ac_rfl
    rw [hP]
    exact grad_core a _ hp (by norm_num) _ _ _ _

section
variable {n : Nat}
/-- One over the root of a row's mean square. -/
def rs (x : A2 n 1024) (r : Fin n) : EReal := Ideal.rsqrt (msq fun y => x (ix2 r y))
/-- The gradient of the rows before the norm: `dh` is that of the normed rows, `dr` what comes past the layer. -/
def normGrad (x : A2 n 1024) (g : A2 1 1024) (dh dr : A2 n 1024) : A2 n 1024 := fun i =>
  dr i + rs x (i 0) * (dh i * g (ix2 0 (i 1)) - x i * rs x (i 0)
    * Ideal.div (∑ y : Fin 1024, dh (ix2 (i 0) y) * g (ix2 0 y) * (x (ix2 (i 0) y) * rs x (i 0))) width)
/-- The gradient of the gain. -/
def gainGrad (x dh : A2 n 1024) : A2 1 1024 := fun i => ∑ r : Fin n, dh (ix2 r (i 1)) * (x (ix2 r (i 1)) * rs x r)
/-- Half of an array. -/
def halved (a : A2 n 1024) : A2 n 1024 := fun i => half * a i
end

theorem normGrad_rows (x : A2 2048 1024) (g : A2 1 1024) (dh dr : A2 2048 1024) (t : Fin 4) :
    normGrad (rows x t) g (rows dh t) (rows dr t) = rows (normGrad x g dh dr) t := by
  funext i
  show rows dr t i + _ = dr _ + _
  rfl
theorem mulNN_rows {k o : Nat} (a : A2 2048 k) (b : A2 k o) (t : Fin 4) : mulNN (rows a t) b = rows (mulNN a b) t := rfl
theorem gainGrad_rows (x dh : A2 2048 1024) (i) :
    gainGrad (rows x 0) (rows dh 0) i + gainGrad (rows x 1) (rows dh 1) i + gainGrad (rows x 2) (rows dh 2) i
      + gainGrad (rows x 3) (rows dh 3) i = gainGrad x dh i :=
  sum_chunks fun r => dh (ix2 r (i 1)) * (x (ix2 r (i 1)) * rs x r)
end Cert.FfnMath
end
-- ==== Proof.InProjBwdCases.lean ====
module
public import proofs.«01_k».proof.Proof.NormGradMath
public import proofs.«01_k».proof.Proof.Gen.InProjBwdIdeal.Value

/-! The gradients of the projection into the mixer and of the norm before it: what each kind of grid point leaves. The first
point starts the sums of the weight's and the gain's gradients, the others add to them, the last one also copies the
weight's out. -/

@[expose] public section
noncomputable section
namespace Cert.InProjBwdIdeal.Value
open Cert.InProjBwdIdeal Cert.InProjBwdIdeal.Gen Cert.FfnMath Idealize.ShloMosaic

section
variable (dz : A2 512 1280) (w : A2 1280 1024) (h x dr v u : A2 512 1024) (g : A2 1 1024) (s : A2 1280 1024)
theorem pay8_eq : k0_pay8 (F := Ideal) dz w = mulNN dz w := by
  funext i
  obtain ⟨r, k, rfl⟩ := exists_ix2 i
  pointwise [k0_pay8, k0_pay7]
  rfl
theorem pay9_eq : k0_pay9 (F := Ideal) dz h = mulTN dz h := by
  funext i
  obtain ⟨r, k, rfl⟩ := exists_ix2 i
  pointwise [k0_pay9, k0_pay7]
  rfl
theorem pay10_at (r : Fin 512) : k0_pay10 (F := Ideal) x (ix2 r 0) = rs x r := by
  pointwise [k0_pay10]
  rfl
theorem pay11_at (r : Fin 512) (k : Fin 1024) : k0_pay11 (F := Ideal) x (ix2 r k) = x (ix2 r k) * rs x r := by
  pointwise [k0_pay11]
  rw [pay10_at]
theorem pay12_eq : k0_pay12 (F := Ideal) dz w x g dr = normGrad x g (mulNN dz w) dr := by
  funext i
  obtain ⟨r, k, rfl⟩ := exists_ix2 i
  pointwise [k0_pay12]
  simp only [pay10_at, pay11_at, pay8_eq]
  rfl
theorem pay1_eq : k0_pay1 (F := Ideal) v k0_pay13 = halved v := by
  funext i
  obtain ⟨r, k, rfl⟩ := exists_ix2 i
  pointwise [k0_pay1, k0_pay13]
  rfl
theorem pay2_eq : k0_pay2 (F := Ideal) v (k0_pay11 (F := Ideal) x) = gainGrad x v := by
  funext i
  obtain ⟨r, k, rfl⟩ := exists_ix2 i
  pointwise [k0_pay2]
  simp only [pay11_at]
  rfl
theorem pay5_eq : k0_pay5 (F := Ideal) v (k0_pay11 (F := Ideal) x) g = fun i => g i + gainGrad x v i := by
  rw [← pay2_eq]
  funext i
  obtain ⟨r, k, rfl⟩ := exists_ix2 i
  pointwise [k0_pay5]
theorem pay3_eq (s : A2 1280 1024) : k0_pay3 (F := Ideal) s = s := by
  funext i
  obtain ⟨r, k, rfl⟩ := exists_ix2 i
  pointwise [k0_pay3]
theorem pay4_eq (p s : A2 1280 1024) : k0_pay4 (F := Ideal) p s = fun i => s i + p i := by
  funext i
  obtain ⟨r, k, rfl⟩ := exists_ix2 i
  pointwise [k0_pay4]
theorem pay6_eq : k0_pay6 (F := Ideal) s = s := by
  funext i
  obtain ⟨r, k, rfl⟩ := exists_ix2 i
  pointwise [k0_pay6]
end

variable (c : Dev nD) (i : grid0.Coords)
  (a1 : Memref sig .tc .vmem S512x1280 .f32) (k1 : a1.IsWhole)
  (a2 : Memref sig .tc .vmem S1280x1024 .bf16) (k2 : a2.IsWhole)
  (a3 : Memref sig .tc .vmem S512x1024 .bf16) (k3 : a3.IsWhole)
  (a4 : Memref sig .tc .vmem S512x1024 .f32) (k4 : a4.IsWhole)
  (a5 : Memref sig .tc .vmem S1x1024 .f32) (k5 : a5.IsWhole)
  (a6 : Memref sig .tc .vmem S512x1024 .f32) (k6 : a6.IsWhole)
  (a7 : Memref sig .tc .vmem S512x1024 .f32) (k7 : a7.IsWhole)
  (a8 : Memref sig .tc .vmem S512x1024 .bf16) (k8 : a8.IsWhole)
  (a9 : Memref sig .tc .vmem S1x1024 .f32) (k9 : a9.IsWhole)
  (a10 : Memref sig .tc .vmem S1280x1024 .bf16) (k10 : a10.IsWhole)
  (a11 : Memref sig .tc .vmem S1280x1024 .f32) (k11 : a11.IsWhole)
  (x0 : Vec Ideal S512x1280 .f32) (x1 : Vec Ideal S1280x1024 .bf16) (x2 : Vec Ideal S512x1024 .bf16) (x3 : Vec Ideal S512x1024 .f32) (x4 : Vec Ideal S1x1024 .f32) (x5 : Vec Ideal S512x1024 .f32)
  (xo8 : Vec Ideal S1x1024 .f32) (xs0 : Vec Ideal S1280x1024 .f32)

theorem dx_A (hc0 : cond0_0 i) (hc1 : ¬cond0_1 i) (hc2 : ¬cond0_2 i) :
    out0_A_6 (F := Ideal) c i a1 k1 a2 k2 a3 k3 a4 k4 a5 k5 a6 k6 a7 k7 a8 k8 a9 k9 a10 k10 a11 k11 hc0 hc1 hc2 x0 x1 x2 x3 x4 x5 = normGrad x3 x4 (mulNN x0 x1) x5 := by
  unfold out0_A_6
  rw [View.read_writes_eq_canon _ _ _ (cover0_A_6 c i a1 k1 a2 k2 a3 k3 a4 k4 a5 k5 a6 k6 a7 k7 a8 k8 a9 k9 a10 k10 a11 k11 hc0 hc1 hc2 x0 x1 x2 x3 x4 x5)]
  unfold kernelRun0_A
  dsimp only
  sl_unfold_words
  simp only [View.readAt_eq_ld, k1.read_unread, k2.read_unread, k3.read_unread, k4.read_unread, k5.read_unread, k6.read_unread, readCov_head, ld_whole]
  refine (View.canon_cons_unit_zero off2 _ _ _).trans ?_
  exact pay12_eq x0 x1 x3 x5 x4

theorem dxb_A (hc0 : cond0_0 i) (hc1 : ¬cond0_1 i) (hc2 : ¬cond0_2 i) :
    out0_A_7 (F := Ideal) c i a1 k1 a2 k2 a3 k3 a4 k4 a5 k5 a6 k6 a7 k7 a8 k8 a9 k9 a10 k10 a11 k11 hc0 hc1 hc2 x0 x1 x2 x3 x4 x5 = halved (normGrad x3 x4 (mulNN x0 x1) x5) := by
  unfold out0_A_7
  rw [View.read_writes_eq_canon _ _ _ (cover0_A_7 c i a1 k1 a2 k2 a3 k3 a4 k4 a5 k5 a6 k6 a7 k7 a8 k8 a9 k9 a10 k10 a11 k11 hc0 hc1 hc2 x0 x1 x2 x3 x4 x5)]
  unfold kernelRun0_A
  dsimp only
  sl_unfold_words
  simp only [View.readAt_eq_ld, k1.read_unread, k2.read_unread, k3.read_unread, k4.read_unread, k5.read_unread, k6.read_unread, readCov_head, ld_whole]
  refine (View.canon_cons_unit_zero off2 _ _ _).trans ?_
  exact (pay1_eq _).trans (congrArg halved (pay12_eq x0 x1 x3 x5 x4))

theorem dg_A (hc0 : cond0_0 i) (hc1 : ¬cond0_1 i) (hc2 : ¬cond0_2 i) :
    out0_A_8 (F := Ideal) c i a1 k1 a2 k2 a3 k3 a4 k4 a5 k5 a6 k6 a7 k7 a8 k8 a9 k9 a10 k10 a11 k11 hc0 hc1 hc2 x0 x1 x2 x3 x4 x5 = gainGrad x3 (mulNN x0 x1) := by
  unfold out0_A_8
  rw [View.read_writes_eq_canon _ _ _ (cover0_A_8 c i a1 k1 a2 k2 a3 k3 a4 k4 a5 k5 a6 k6 a7 k7 a8 k8 a9 k9 a10 k10 a11 k11 hc0 hc1 hc2 x0 x1 x2 x3 x4 x5)]
  unfold kernelRun0_A
  dsimp only
  sl_unfold_words
  simp only [View.readAt_eq_ld, k1.read_unread, k2.read_unread, k3.read_unread, k4.read_unread, k5.read_unread, k6.read_unread, readCov_head, ld_whole]
  refine (View.canon_cons_unit_zero off2 _ _ _).trans ?_
  exact (pay2_eq x3 _).trans (congrArg (gainGrad x3) (pay8_eq x0 x1))

theorem acc_A (hc0 : cond0_0 i) (hc1 : ¬cond0_1 i) (hc2 : ¬cond0_2 i) :
    sout0_A_0 (F := Ideal) c i a1 k1 a2 k2 a3 k3 a4 k4 a5 k5 a6 k6 a7 k7 a8 k8 a9 k9 a10 k10 a11 k11 hc0 hc1 hc2 x0 x1 x2 x3 x4 x5 = mulTN x0 x2 := by
  unfold sout0_A_0
  rw [View.read_writes_eq_canon _ _ _ (scover0_A_0 c i a1 k1 a2 k2 a3 k3 a4 k4 a5 k5 a6 k6 a7 k7 a8 k8 a9 k9 a10 k10 a11 k11 hc0 hc1 hc2 x0 x1 x2 x3 x4 x5)]
  unfold kernelRun0_A
  dsimp only
  sl_unfold_words
  simp only [View.readAt_eq_ld, k1.read_unread, k2.read_unread, k3.read_unread, k4.read_unread, k5.read_unread, k6.read_unread, readCov_head, ld_whole]
  refine (View.canon_cons_unit_zero off2 _ _ _).trans ?_
  exact (pay3_eq _).trans (pay9_eq x0 x2)

theorem dx_B (hc0 : ¬cond0_0 i) (hc1 : cond0_1 i) (hc2 : ¬cond0_2 i) :
    out0_B_6 (F := Ideal) c i a1 k1 a2 k2 a3 k3 a4 k4 a5 k5 a6 k6 a7 k7 a8 k8 a9 k9 a10 k10 a11 k11 hc0 hc1 hc2 x0 x1 x2 x3 x4 x5 xo8 xs0 = normGrad x3 x4 (mulNN x0 x1) x5 := by
  unfold out0_B_6
  rw [View.read_writes_eq_canon _ _ _ (cover0_B_6 c i a1 k1 a2 k2 a3 k3 a4 k4 a5 k5 a6 k6 a7 k7 a8 k8 a9 k9 a10 k10 a11 k11 hc0 hc1 hc2 x0 x1 x2 x3 x4 x5 xo8 xs0)]
  unfold kernelRun0_B
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact pay12_eq x0 x1 x3 x5 x4

theorem dxb_B (hc0 : ¬cond0_0 i) (hc1 : cond0_1 i) (hc2 : ¬cond0_2 i) :
    out0_B_7 (F := Ideal) c i a1 k1 a2 k2 a3 k3 a4 k4 a5 k5 a6 k6 a7 k7 a8 k8 a9 k9 a10 k10 a11 k11 hc0 hc1 hc2 x0 x1 x2 x3 x4 x5 xo8 xs0 = halved (normGrad x3 x4 (mulNN x0 x1) x5) := by
  unfold out0_B_7
  rw [View.read_writes_eq_canon _ _ _ (cover0_B_7 c i a1 k1 a2 k2 a3 k3 a4 k4 a5 k5 a6 k6 a7 k7 a8 k8 a9 k9 a10 k10 a11 k11 hc0 hc1 hc2 x0 x1 x2 x3 x4 x5 xo8 xs0)]
  unfold kernelRun0_B
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay1_eq _).trans (congrArg halved (pay12_eq x0 x1 x3 x5 x4))

theorem dg_B (hc0 : ¬cond0_0 i) (hc1 : cond0_1 i) (hc2 : ¬cond0_2 i) :
    out0_B_8 (F := Ideal) c i a1 k1 a2 k2 a3 k3 a4 k4 a5 k5 a6 k6 a7 k7 a8 k8 a9 k9 a10 k10 a11 k11 hc0 hc1 hc2 x0 x1 x2 x3 x4 x5 xo8 xs0 = fun i => xo8 i + gainGrad x3 (mulNN x0 x1) i := by
  unfold out0_B_8
  rw [View.read_writes_eq_canon _ _ _ (cover0_B_8 c i a1 k1 a2 k2 a3 k3 a4 k4 a5 k5 a6 k6 a7 k7 a8 k8 a9 k9 a10 k10 a11 k11 hc0 hc1 hc2 x0 x1 x2 x3 x4 x5 xo8 xs0)]
  unfold kernelRun0_B
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay5_eq x3 _ xo8).trans (congrArg (fun v i => xo8 i + gainGrad x3 v i) (pay8_eq x0 x1))

theorem acc_B (hc0 : ¬cond0_0 i) (hc1 : cond0_1 i) (hc2 : ¬cond0_2 i) :
    sout0_B_0 (F := Ideal) c i a1 k1 a2 k2 a3 k3 a4 k4 a5 k5 a6 k6 a7 k7 a8 k8 a9 k9 a10 k10 a11 k11 hc0 hc1 hc2 x0 x1 x2 x3 x4 x5 xo8 xs0 = fun i => xs0 i + mulTN x0 x2 i := by
  unfold sout0_B_0
  rw [View.read_writes_eq_canon _ _ _ (scover0_B_0 c i a1 k1 a2 k2 a3 k3 a4 k4 a5 k5 a6 k6 a7 k7 a8 k8 a9 k9 a10 k10 a11 k11 hc0 hc1 hc2 x0 x1 x2 x3 x4 x5 xo8 xs0)]
  unfold kernelRun0_B
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay4_eq _ xs0).trans (congrArg (fun (v : A2 1280 1024) i => xs0 i + v i) (pay9_eq x0 x2))

theorem dx_C (hc0 : ¬cond0_0 i) (hc1 : cond0_1 i) (hc2 : cond0_2 i) :
    out0_C_6 (F := Ideal) c i a1 k1 a2 k2 a3 k3 a4 k4 a5 k5 a6 k6 a7 k7 a8 k8 a9 k9 a10 k10 a11 k11 hc0 hc1 hc2 x0 x1 x2 x3 x4 x5 xo8 xs0 = normGrad x3 x4 (mulNN x0 x1) x5 := by
  unfold out0_C_6
  rw [View.read_writes_eq_canon _ _ _ (cover0_C_6 c i a1 k1 a2 k2 a3 k3 a4 k4 a5 k5 a6 k6 a7 k7 a8 k8 a9 k9 a10 k10 a11 k11 hc0 hc1 hc2 x0 x1 x2 x3 x4 x5 xo8 xs0)]
  unfold kernelRun0_C
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact pay12_eq x0 x1 x3 x5 x4

theorem dxb_C (hc0 : ¬cond0_0 i) (hc1 : cond0_1 i) (hc2 : cond0_2 i) :
    out0_C_7 (F := Ideal) c i a1 k1 a2 k2 a3 k3 a4 k4 a5 k5 a6 k6 a7 k7 a8 k8 a9 k9 a10 k10 a11 k11 hc0 hc1 hc2 x0 x1 x2 x3 x4 x5 xo8 xs0 = halved (normGrad x3 x4 (mulNN x0 x1) x5) := by
  unfold out0_C_7
  rw [View.read_writes_eq_canon _ _ _ (cover0_C_7 c i a1 k1 a2 k2 a3 k3 a4 k4 a5 k5 a6 k6 a7 k7 a8 k8 a9 k9 a10 k10 a11 k11 hc0 hc1 hc2 x0 x1 x2 x3 x4 x5 xo8 xs0)]
  unfold kernelRun0_C
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay1_eq _).trans (congrArg halved (pay12_eq x0 x1 x3 x5 x4))

theorem dg_C (hc0 : ¬cond0_0 i) (hc1 : cond0_1 i) (hc2 : cond0_2 i) :
    out0_C_8 (F := Ideal) c i a1 k1 a2 k2 a3 k3 a4 k4 a5 k5 a6 k6 a7 k7 a8 k8 a9 k9 a10 k10 a11 k11 hc0 hc1 hc2 x0 x1 x2 x3 x4 x5 xo8 xs0 = fun i => xo8 i + gainGrad x3 (mulNN x0 x1) i := by
  unfold out0_C_8
  rw [View.read_writes_eq_canon _ _ _ (cover0_C_8 c i a1 k1 a2 k2 a3 k3 a4 k4 a5 k5 a6 k6 a7 k7 a8 k8 a9 k9 a10 k10 a11 k11 hc0 hc1 hc2 x0 x1 x2 x3 x4 x5 xo8 xs0)]
  unfold kernelRun0_C
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay5_eq x3 _ xo8).trans (congrArg (fun v i => xo8 i + gainGrad x3 v i) (pay8_eq x0 x1))

theorem acc_C (hc0 : ¬cond0_0 i) (hc1 : cond0_1 i) (hc2 : cond0_2 i) :
    sout0_C_0 (F := Ideal) c i a1 k1 a2 k2 a3 k3 a4 k4 a5 k5 a6 k6 a7 k7 a8 k8 a9 k9 a10 k10 a11 k11 hc0 hc1 hc2 x0 x1 x2 x3 x4 x5 xo8 xs0 = fun i => xs0 i + mulTN x0 x2 i := by
  unfold sout0_C_0
  rw [View.read_writes_eq_canon _ _ _ (scover0_C_0 c i a1 k1 a2 k2 a3 k3 a4 k4 a5 k5 a6 k6 a7 k7 a8 k8 a9 k9 a10 k10 a11 k11 hc0 hc1 hc2 x0 x1 x2 x3 x4 x5 xo8 xs0)]
  unfold kernelRun0_C
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay4_eq _ xs0).trans (congrArg (fun (v : A2 1280 1024) i => xs0 i + v i) (pay9_eq x0 x2))

theorem dw_C (hc0 : ¬cond0_0 i) (hc1 : cond0_1 i) (hc2 : cond0_2 i) :
    out0_C_9 (F := Ideal) c i a1 k1 a2 k2 a3 k3 a4 k4 a5 k5 a6 k6 a7 k7 a8 k8 a9 k9 a10 k10 a11 k11 hc0 hc1 hc2 x0 x1 x2 x3 x4 x5 xo8 xs0 = fun i => xs0 i + mulTN x0 x2 i := by
  unfold out0_C_9
  rw [View.read_writes_eq_canon _ _ _ (cover0_C_9 c i a1 k1 a2 k2 a3 k3 a4 k4 a5 k5 a6 k6 a7 k7 a8 k8 a9 k9 a10 k10 a11 k11 hc0 hc1 hc2 x0 x1 x2 x3 x4 x5 xo8 xs0)]
  unfold kernelRun0_C
  dsimp only
  sl_unfold_words
  simp only [View.readAt_eq_ld, k1.read_unread, k2.read_unread, k3.read_unread, k4.read_unread, k5.read_unread, k6.read_unread, k9.read_unread, k11.read_unread, readCov_head, ld_whole]
  refine (View.canon_cons_unit_zero off2 _ _ _).trans ?_
  exact (pay6_eq _).trans ((pay4_eq _ xs0).trans (congrArg (fun (v : A2 1280 1024) i => xs0 i + v i) (pay9_eq x0 x2)))

end Cert.InProjBwdIdeal.Value
end
-- ==== Proof.InProjBwdRun.lean ====
module
public import proofs.«01_k».proof.Proof.InProjBwdCases

/-! The four grid points in order: what they leave, and so what the run returns, as functions of the arguments. -/

@[expose] public section
noncomputable section
namespace Cert.InProjBwdIdeal.Value
open Cert.InProjBwdIdeal Cert.InProjBwdIdeal.Gen Cert.FfnMath Idealize.ShloMosaic Idealize.ShloMosaic.TcCoe Idealize.SL.Sem

variable (m : (ℓ : Loc nD τ sig) → Buf (Elt Ideal) ℓ) (c : Dev nD)

/-- The arguments: the rows before the norm, the gain, the weight, what comes past the layer, and the gradient of the
projection's output. -/
def inX : A2 2048 1024 := m ((c : Thread nD τ).loc main_arg0)
def inGain : A2 1 1024 := m ((c : Thread nD τ).loc main_arg1)
def inW : A2 1024 1280 := m ((c : Thread nD τ).loc main_arg2)
def inR : A2 2048 1024 := m ((c : Thread nD τ).loc main_arg3)
def inZ : A2 2048 1280 := m ((c : Thread nD τ).loc main_arg4)
/-- The weight by columns. -/
def inWT : A2 1280 1024 := fun i => inW m c (ix2 (i 1) (i 0))
/-- The normed rows, and their gradient. -/
def inH : A2 2048 1024 := normed (inX m c) (inGain m c)
def dH : A2 2048 1024 := mulNN (inZ m c) (inWT m c)
/-- The gradient of the rows before the norm. -/
def dX : A2 2048 1024 := normGrad (inX m c) (inGain m c) (dH m c) (inR m c)

theorem host0 : V m c main_arg4 = inZ m c := V_main_arg4 m c
theorem host3 : V m c main_arg0 = inX m c := V_main_arg0 m c
theorem host4 : V m c main_arg1 = inGain m c := V_main_arg1 m c
theorem host5 : V m c main_arg3 = inR m c := V_main_arg3 m c
theorem host1 : V m c main_v14 = inWT m c := by
  funext i
  obtain ⟨r, k, rfl⟩ := exists_ix2 i
  unfold V
  after_results_simp
  pointwise
  rfl
theorem host2 : V m c main_v12 = inH m c := by
  funext i
  obtain ⟨r, k, rfl⟩ := exists_ix2 i
  unfold V
  after_results_simp
  pointwise
  rfl

/-- A grid point as the number of its block. -/
def pt (t : Fin cfg0.N) : Fin 4 := ⟨t.val, lt_of_lt_of_eq t.isLt N_0⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = t.val ∧ win0_5.index t 1 = 0 :=
  (by decide +kernel : ∀ t : Fin grid0.N, win0_5.index t 0 = t.val ∧ win0_5.index t 1 = 0) t

theorem blk0 (t : Fin cfg0.N) : (iblk m c 0 t : Vec Ideal S512x1280 .f32) = rows (inZ m c) (pt t) := by
  rw [← host0]
  funext j
  unfold iblk
  rw [View.read_apply]
  show V m c main_arg4 _ = V m c main_arg4 _
  congr 1
  funext a
  apply Fin.ext
  have hi := index0 t
  match a with
  | ⟨0, _⟩ => show win0_0.index t 0 * 512 + 1 * (j 0).val = 512 * t.val + (j 0).val; rw [hi.1]; omega
  | ⟨1, _⟩ => show win0_0.index t 1 * 1280 + 1 * (j 1).val = (j 1).val; rw [hi.2]; omega
theorem blk1 (t : Fin cfg0.N) : (iblk m c 1 t : Vec Ideal S1280x1024 .bf16) = inWT m c := by
  rw [← host1]
  funext j
  unfold iblk
  rw [View.read_apply]
  show V m c main_v14 _ = V m c main_v14 _
  congr 1
  funext a
  apply Fin.ext
  have hi := index1 t
  match a with
  | ⟨0, _⟩ => show win0_1.index t 0 * 1280 + 1 * (j 0).val = (j 0).val; rw [hi.1]; omega
  | ⟨1, _⟩ => show win0_1.index t 1 * 1024 + 1 * (j 1).val = (j 1).val; rw [hi.2]; omega
theorem blk2 (t : Fin cfg0.N) : (iblk m c 2 t : Vec Ideal S512x1024 .bf16) = rows (inH m c) (pt t) := by
  rw [← host2]
  funext j
  unfold iblk
  rw [View.read_apply]
  show V m c main_v12 _ = V m c main_v12 _
  congr 1
  funext a
  apply Fin.ext
  have hi := index2 t
  match a with
  | ⟨0, _⟩ => show win0_2.index t 0 * 512 + 1 * (j 0).val = 512 * t.val + (j 0).val; rw [hi.1]; omega
  | ⟨1, _⟩ => show win0_2.index t 1 * 1024 + 1 * (j 1).val = (j 1).val; rw [hi.2]; omega
theorem blk3 (t : Fin cfg0.N) : (iblk m c 3 t : Vec Ideal S512x1024 .f32) = rows (inX m c) (pt t) := by
  rw [← host3]
  funext j
  unfold iblk
  rw [View.read_apply]
  show V m c main_arg0 _ = V m c main_arg0 _
  congr 1
  funext a
  apply Fin.ext
  have hi := index3 t
  match a with
  | ⟨0, _⟩ => show win0_3.index t 0 * 512 + 1 * (j 0).val = 512 * t.val + (j 0).val; rw [hi.1]; omega
  | ⟨1, _⟩ => show win0_3.index t 1 * 1024 + 1 * (j 1).val = (j 1).val; rw [hi.2]; omega
theorem blk4 (t : Fin cfg0.N) : (iblk m c 4 t : Vec Ideal S1x1024 .f32) = inGain m c := by
  rw [← host4]
  funext j
  unfold iblk
  rw [View.read_apply]
  show V m c main_arg1 _ = V m c main_arg1 _
  congr 1
  funext a
  apply Fin.ext
  have hi := index4 t
  match a with
  | ⟨0, _⟩ => show win0_4.index t 0 * 1 + 1 * (j 0).val = (j 0).val; rw [hi.1]; omega
  | ⟨1, _⟩ => show win0_4.index t 1 * 1024 + 1 * (j 1).val = (j 1).val; rw [hi.2]; omega
theorem blk5 (t : Fin cfg0.N) : (iblk m c 5 t : Vec Ideal S512x1024 .f32) = rows (inR m c) (pt t) := by
  rw [← host5]
  funext j
  unfold iblk
  rw [View.read_apply]
  show V m c main_arg3 _ = V m c main_arg3 _
  congr 1
  funext a
  apply Fin.ext
  have hi := index5 t
  match a with
  | ⟨0, _⟩ => show win0_5.index t 0 * 512 + 1 * (j 0).val = 512 * t.val + (j 0).val; rw [hi.1]; omega
  | ⟨1, _⟩ => show win0_5.index t 1 * 1024 + 1 * (j 1).val = (j 1).val; rw [hi.2]; omega

/-- What the first `n + 1` points leave. -/
abbrev Left (n : Nat) (h : 0 + n < cfg0.N) :=
  Pipeline.accAt (fun n h => stAt0 m c n h (junk0 (F := Ideal))) (stAt0 m c) 0 n h

/-- Block `t`'s part of the weight's gradient, and of the gain's. -/
abbrev part (t : Fin 4) : A2 1280 1024 := mulTN (rows (inZ m c) t) (rows (inH m c) t)
abbrev gpart (t : Fin 4) : A2 1 1024 := gainGrad (rows (inX m c) t) (rows (dH m c) t)

/-- At every point the block of rows is written. -/
theorem st_dx (n : Nat) (h : n < cfg0.N) (acc) : (stAt0 m c n h acc).1 = rows (dX m c) (pt ⟨n, h⟩) := by
  have hN : n < 4 := lt_of_lt_of_eq h N_0
  have e : rows (dX m c) (pt ⟨n, h⟩) = normGrad (rows (inX m c) (pt ⟨n, h⟩)) (inGain m c) (mulNN (rows (inZ m c) (pt ⟨n, h⟩)) (inWT m c)) (rows (inR m c) (pt ⟨n, h⟩)) :=
    (normGrad_rows _ _ _ _ _).symm
  rcases Nat.lt_or_ge n 1 with h1 | h1
  · rw [stAt0_A m c ⟨n, h⟩ acc (show n % 4 = 0 by omega) (show ¬1 ≤ n by omega) (show ¬n % 4 = 3 by omega)]
    dsimp only
    rw [dx_A, blk0, blk1, blk3, blk4, blk5]
    exact e.symm
  · rcases Nat.lt_or_ge n 3 with h3 | h3
    · rw [stAt0_B m c ⟨n, h⟩ acc (show ¬n % 4 = 0 by omega) h1 (show ¬n % 4 = 3 by omega)]
      dsimp only
      rw [dx_B, blk0, blk1, blk3, blk4, blk5]
      exact e.symm
    · rw [stAt0_C m c ⟨n, h⟩ acc (show ¬n % 4 = 0 by omega) h1 (show n % 4 = 3 by omega)]
      dsimp only
      rw [dx_C, blk0, blk1, blk3, blk4, blk5]
      exact e.symm

theorem left_dx (n : Nat) (h : 0 + n < cfg0.N) : (Left m c n h).1 = rows (dX m c) (pt ⟨n, by omega⟩) := by
  match n with
  | 0 => exact st_dx m c 0 h _
  | k + 1 =>
    refine (st_dx m c (0 + (k + 1)) h _).trans (congrArg (rows _) (Fin.ext (Nat.zero_add _)))

/-- At every point the block of rows is written. -/
theorem st_dxb (n : Nat) (h : n < cfg0.N) (acc) : (stAt0 m c n h acc).2.1 = rows (halved (dX m c)) (pt ⟨n, h⟩) := by
  have hN : n < 4 := lt_of_lt_of_eq h N_0
  have e : rows (dX m c) (pt ⟨n, h⟩) = normGrad (rows (inX m c) (pt ⟨n, h⟩)) (inGain m c) (mulNN (rows (inZ m c) (pt ⟨n, h⟩)) (inWT m c)) (rows (inR m c) (pt ⟨n, h⟩)) :=
    (normGrad_rows _ _ _ _ _).symm
  rcases Nat.lt_or_ge n 1 with h1 | h1
  · rw [stAt0_A m c ⟨n, h⟩ acc (show n % 4 = 0 by omega) (show ¬1 ≤ n by omega) (show ¬n % 4 = 3 by omega)]
    dsimp only
    rw [dxb_A, blk0, blk1, blk3, blk4, blk5]
    exact (congrArg halved e).symm
  · rcases Nat.lt_or_ge n 3 with h3 | h3
    · rw [stAt0_B m c ⟨n, h⟩ acc (show ¬n % 4 = 0 by omega) h1 (show ¬n % 4 = 3 by omega)]
      dsimp only
      rw [dxb_B, blk0, blk1, blk3, blk4, blk5]
      exact (congrArg halved e).symm
    · rw [stAt0_C m c ⟨n, h⟩ acc (show ¬n % 4 = 0 by omega) h1 (show n % 4 = 3 by omega)]
      dsimp only
      rw [dxb_C, blk0, blk1, blk3, blk4, blk5]
      exact (congrArg halved e).symm

theorem left_dxb (n : Nat) (h : 0 + n < cfg0.N) : (Left m c n h).2.1 = rows (halved (dX m c)) (pt ⟨n, by omega⟩) := by
  match n with
  | 0 => exact st_dxb m c 0 h _
  | k + 1 =>
    refine (st_dxb m c (0 + (k + 1)) h _).trans (congrArg (rows _) (Fin.ext (Nat.zero_add _)))

theorem first_w (h : 0 < cfg0.N) (acc) : (stAt0 m c 0 h acc).2.2.2.2 = part m c 0 := by
  rw [stAt0_A m c ⟨0, h⟩ acc rfl (show ¬1 ≤ 0 by decide) (show ¬0 % 4 = 3 by decide)]
  dsimp only
  rw [acc_A, blk0, blk2]
  rfl
theorem mid_w (n : Nat) (h : n < cfg0.N) (h1 : 1 ≤ n) (h3 : n < 3) (acc) :
    (stAt0 m c n h acc).2.2.2.2 = fun i => acc.2.2.2.2 i + part m c (pt ⟨n, h⟩) i := by
  rw [stAt0_B m c ⟨n, h⟩ acc (show ¬n % 4 = 0 by omega) h1 (show ¬n % 4 = 3 by omega)]
  dsimp only
  rw [acc_B, blk0, blk2]
theorem last_w (h : 3 < cfg0.N) (acc) : (stAt0 m c 3 h acc).2.2.2.1 = fun i => acc.2.2.2.2 i + part m c 3 i := by
  rw [stAt0_C m c ⟨3, h⟩ acc (show ¬3 % 4 = 0 by decide) (show 1 ≤ 3 by decide) rfl]
  dsimp only
  rw [dw_C, blk0, blk2]
  rfl
theorem first_g (h : 0 < cfg0.N) (acc) : (stAt0 m c 0 h acc).2.2.1 = gpart m c 0 := by
  rw [stAt0_A m c ⟨0, h⟩ acc rfl (show ¬1 ≤ 0 by decide) (show ¬0 % 4 = 3 by decide)]
  dsimp only
  rw [dg_A, blk0, blk1, blk3]
  rfl
theorem mid_g (n : Nat) (h : n < cfg0.N) (h1 : 1 ≤ n) (h3 : n < 3) (acc) :
    (stAt0 m c n h acc).2.2.1 = fun i => acc.2.2.1 i + gpart m c (pt ⟨n, h⟩) i := by
  rw [stAt0_B m c ⟨n, h⟩ acc (show ¬n % 4 = 0 by omega) h1 (show ¬n % 4 = 3 by omega)]
  dsimp only
  rw [dg_B, blk0, blk1, blk3]
  rfl
theorem last_g (h : 3 < cfg0.N) (acc) : (stAt0 m c 3 h acc).2.2.1 = fun i => acc.2.2.1 i + gpart m c 3 i := by
  rw [stAt0_C m c ⟨3, h⟩ acc (show ¬3 % 4 = 0 by decide) (show 1 ≤ 3 by decide) rfl]
  dsimp only
  rw [dg_C, blk0, blk1, blk3]
  rfl

theorem left_dw (h : 0 + 3 < cfg0.N) : (Left m c 3 h).2.2.2.1 = mulTN (inZ m c) (inH m c) := by
  have h0 : 0 + 0 < cfg0.N := Nat.lt_of_le_of_lt (by decide) h
  have h1 : 0 + 1 < cfg0.N := Nat.lt_of_le_of_lt (by decide) h
  have h2 : 0 + 2 < cfg0.N := Nat.lt_of_le_of_lt (by decide) h
  have e0 : (Left m c 0 h0).2.2.2.2 = part m c 0 := first_w m c h0 _
  have e1 : (Left m c 1 h1).2.2.2.2 = fun i => (Left m c 0 h0).2.2.2.2 i + part m c 1 i := mid_w m c 1 h1 (by decide) (by decide) _
  have e2 : (Left m c 2 h2).2.2.2.2 = fun i => (Left m c 1 h1).2.2.2.2 i + part m c 2 i := mid_w m c 2 h2 (by decide) (by decide) _
  have e3 : (Left m c 3 h).2.2.2.1 = fun i => (Left m c 2 h2).2.2.2.2 i + part m c 3 i := last_w m c h _
  rw [e3, e2, e1, e0]
  exact funext fun i => mulTN_rows (inZ m c) (inH m c) i

theorem left_dg (h : 0 + 3 < cfg0.N) : (Left m c 3 h).2.2.1 = gainGrad (inX m c) (dH m c) := by
  have h0 : 0 + 0 < cfg0.N := Nat.lt_of_le_of_lt (by decide) h
  have h1 : 0 + 1 < cfg0.N := Nat.lt_of_le_of_lt (by decide) h
  have h2 : 0 + 2 < cfg0.N := Nat.lt_of_le_of_lt (by decide) h
  have e0 : (Left m c 0 h0).2.2.1 = gpart m c 0 := first_g m c h0 _
  have e1 : (Left m c 1 h1).2.2.1 = fun i => (Left m c 0 h0).2.2.1 i + gpart m c 1 i := mid_g m c 1 h1 (by decide) (by decide) _
  have e2 : (Left m c 2 h2).2.2.1 = fun i => (Left m c 1 h1).2.2.1 i + gpart m c 2 i := mid_g m c 2 h2 (by decide) (by decide) _
  have e3 : (Left m c 3 h).2.2.1 = fun i => (Left m c 2 h2).2.2.1 i + gpart m c 3 i := last_g m c h _
  rw [e3, e2, e1, e0]
  exact funext fun i => gainGrad_rows (inX m c) (dH m c) i

/-- The first result: the gradient of the rows before the norm. -/
theorem final_dx : (G6 m c : A2 2048 1024) = dX m c := by
  funext i
  have hi0 : (i 0).val < 2048 := (i 0).isLt
  have hi1 : (i 1).val < 1024 := (i 1).isLt
  have hp : pt6Of i < cfg0.N := lt_of_lt_of_eq (show 1 * ((i 0).val / 512 - 0) + 1 * ((i 1).val / 1024 - 0) < 4 by omega) N_0.symm
  unfold G6
  rw [dif_pos hp, left_dx]
  generalize dX m c = a
  show a _ = a _
  refine congrArg a (funext fun b => Fin.ext ?_)
  match b with
  | ⟨0, _⟩ =>
    show 512 * (1 * ((i 0).val / 512 - 0) + 1 * ((i 1).val / 1024 - 0)) + (i 0).val % 512 = (i 0).val
    omega
  | ⟨1, _⟩ => show (i 1).val % 1024 = (i 1).val; omega
/-- The second result: half of it. -/
theorem final_dxb : (G7 m c : A2 2048 1024) = halved (dX m c) := by
  funext i
  have hi0 : (i 0).val < 2048 := (i 0).isLt
  have hi1 : (i 1).val < 1024 := (i 1).isLt
  have hp : pt7Of i < cfg0.N := lt_of_lt_of_eq (show 1 * ((i 0).val / 512 - 0) + 1 * ((i 1).val / 1024 - 0) < 4 by omega) N_0.symm
  unfold G7
  rw [dif_pos hp, left_dxb]
  generalize halved (dX m c) = a
  show a _ = a _
  refine congrArg a (funext fun b => Fin.ext ?_)
  match b with
  | ⟨0, _⟩ =>
    show 512 * (1 * ((i 0).val / 512 - 0) + 1 * ((i 1).val / 1024 - 0)) + (i 0).val % 512 = (i 0).val
    omega
  | ⟨1, _⟩ => show (i 1).val % 1024 = (i 1).val; omega
/-- The third result: the gain's gradient. -/
theorem final_dg : (G8 m c : A2 1 1024) = gainGrad (inX m c) (dH m c) := (G8_last m c).trans (left_dg m c _)
/-- The fourth result: the weight's gradient. -/
theorem final_dw : (G9 m c : A2 1280 1024) = mulTN (inZ m c) (inH m c) := (G9_last m c).trans (left_dw m c _)
end Cert.InProjBwdIdeal.Value
end
-- ==== Proof.InProjBwdValue.lean ====
module
public import proofs.«01_k».proof.Defs
public import proofs.«01_k».proof.Proof.InProjBwdRun
public import proofs.«01_k».proof.Proof.Gen.InProjBwdRefIdeal.Read

/-! The gradients of the projection into the mixer and of the norm before it: the kernel's results and the reference's are
the same functions of the arguments. -/

@[expose] public section
noncomputable section

namespace Cert.InProjBwdRefIdeal.Read
open Cert.InProjBwdRefIdeal Cert.FfnMath Idealize.ShloMosaic
variable (x : A2 2048 1024) (g : A2 1 1024) (w : A2 1024 1280) (dr : A2 2048 1024) (dz : A2 2048 1280)

/-- The weight by columns. -/
abbrev byCols : A2 1280 1024 := fun i => w (ix2 (i 1) (i 0))

theorem msq_at (r : Fin 2048) : val_main_v6 (F := Ideal) x (ix2 r 0) = msq fun y => x (ix2 r y) := by
  pointwise [val_main_v6, val_main_v5, val_main_cst_1, val_main_v4, val_main_v3, val_main_cst_0, val_main_v2, val_main_v1, val_main_cst, val_main_v0]
  rfl
theorem rs_at (r : Fin 2048) : val_main_v7 (F := Ideal) x (ix2 r 0) = rs x r := by
  pointwise [val_main_v7]
  rw [msq_at]
  rfl
theorem xn_at (r : Fin 2048) (k : Fin 1024) : val_main_v12 (F := Ideal) x (ix2 r k) = x (ix2 r k) * rs x r := by
  pointwise [val_main_v12, val_main_v11]
  rw [rs_at]
theorem h_at (r : Fin 2048) (k : Fin 1024) : val_main_v14 (F := Ideal) x g (ix2 r k) = normed x g (ix2 r k) := by
  pointwise [val_main_v14, val_main_v13]
  rw [xn_at]
  rfl
theorem dh_at (r : Fin 2048) (k : Fin 1024) : val_main_v18 (F := Ideal) w dz (ix2 r k) = mulNN dz (byCols w) (ix2 r k) := by
  pointwise [val_main_v18]
  rfl
theorem d_at (r : Fin 2048) (k : Fin 1024) :
    val_main_v23 (F := Ideal) g w dz (ix2 r k) = mulNN dz (byCols w) (ix2 r k) * g (ix2 0 k) := by
  pointwise [val_main_v23, val_main_v22]
  rw [dh_at]
theorem scale_at (r : Fin 2048) :
    val_main_v10 (F := Ideal) x (ix2 r 0) = negHalf * Ideal.div (rs x r) (msq fun y => x (ix2 r y)) := by
  pointwise [val_main_v10, val_main_v9, val_main_cst_2, val_main_v8]
  rw [rs_at, msq_at]
theorem sum_at (r : Fin 2048) :
    val_main_v26 (F := Ideal) x g w dz (ix2 r 0) = ∑ y : Fin 1024, x (ix2 r y) * (mulNN dz (byCols w) (ix2 r y) * g (ix2 0 y)) := by
  pointwise [val_main_v26, val_main_v25, val_main_cst_4, val_main_v24]
  simp only [d_at]
theorem q_at (r : Fin 2048) (k : Fin 1024) :
    val_main_v34 (F := Ideal) x g w dz (ix2 r k)
      = Ideal.div ((∑ y : Fin 1024, x (ix2 r y) * (mulNN dz (byCols w) (ix2 r y) * g (ix2 0 y)))
          * (negHalf * Ideal.div (rs x r) (msq fun y => x (ix2 r y)))) width := by
  pointwise [val_main_v34, val_main_v33, val_main_cst_6, val_main_v32, val_main_v31, val_main_cst_5, val_main_v30]
  refine (Fin.sum_univ_one _).trans ?_
  rw [sum_at, scale_at]

theorem dx_at (r : Fin 2048) (k : Fin 1024) :
    val_main_v38 (F := Ideal) x g w dr dz (ix2 r k) = normGrad x g (mulNN dz (byCols w)) dr (ix2 r k) := by
  pointwise [val_main_v38, val_main_v37, val_main_v36, val_main_v35, val_main_v29, val_main_v28, val_main_v27]
  rw [q_at, d_at, rs_at]
  exact (grad_two_ways (fun y => x (ix2 r y)) (fun y => mulNN dz (byCols w) (ix2 r y) * g (ix2 0 y)) k (dr (ix2 r k))).symm
theorem dx_whole : val_main_v38 (F := Ideal) x g w dr dz = normGrad x g (mulNN dz (byCols w)) dr := by
  funext i
  obtain ⟨r, k, rfl⟩ := exists_ix2 i
  exact dx_at x g w dr dz r k
theorem dxb_whole : val_main_v41 (F := Ideal) x g w dr dz = halved (normGrad x g (mulNN dz (byCols w)) dr) := by
  funext i
  obtain ⟨r, k, rfl⟩ := exists_ix2 i
  pointwise [val_main_v41, val_main_v40, val_main_v39, val_main_cst_7]
  rw [dx_at]
  rfl
theorem dg_whole : val_main_v21 (F := Ideal) x w dz = gainGrad x (mulNN dz (byCols w)) := by
  funext i
  obtain ⟨r, k, rfl⟩ := exists_ix2 i
  obtain rfl : r = 0 := Subsingleton.elim _ _
  pointwise [val_main_v21, val_main_v20, val_main_cst_3, val_main_v19]
  refine Finset.sum_congr rfl fun r _ => ?_
  rw [xn_at, dh_at]
  exact mul_comm _ _
theorem dw_whole : val_main_v43 (F := Ideal) x g dz = mulTN dz (normed x g) := by
  funext i
  obtain ⟨r, k, rfl⟩ := exists_ix2 i
  pointwise [val_main_v43, val_main_v42, val_main_v17, val_main_v16]
  exact Finset.sum_congr rfl fun y _ => congrArg (dz (ix2 y r) * ·) (h_at x g y k)
end Cert.InProjBwdRefIdeal.Read

namespace Cert.InProjBwdValue
open Cert.FfnMath Idealize.ShloMosaic Idealize.ShloMosaic.TcCoe Idealize.SL.Sem

/-- The reference terminates, leaves its arguments alone, and declares no semaphore. -/
theorem frame_ref : Cert.quiescent_InProjBwdRefIdeal := fun m ρ _ =>
  (θ_run Cert.InProjBwdRefIdeal.defs _ _).mono (fun r h => ⟨fun c => (h c).2.2.2.2, sem_eq_zero_of_no_sems (by decide) r.2⟩)
    (Cert.InProjBwdRefIdeal.Value.run (F := Ideal) m ρ)

open Cert.InProjBwdIdeal.Value in
theorem algebraic : Cert.algebraic_InProjBwdIdeal_InProjBwdRefIdeal := by
  intro m g m' g' hp hm
  refine ⟨fun c => dX m c, fun c => halved (dX m c), fun c => gainGrad (inX m c) (dH m c), fun c => mulTN (inZ m c) (inH m c),
    (θ_run _ _ _).mono (fun r h c => ?_) (Cert.InProjBwdIdeal.Value.run (F := Ideal) m g),
    (θ_run _ _ _).mono (fun r h c => ?_) (Cert.InProjBwdRefIdeal.Value.run m' g')⟩
  · obtain ⟨e0, e1, e2, e3, a⟩ := h c
    exact ⟨e0.trans (final_dx m c), e1.trans (final_dxb m c), e2.trans (final_dg m c), e3.trans (final_dw m c), a⟩
  · obtain ⟨e0, e1, e2, e3, a⟩ := h c
    obtain ⟨h0, h1, h2, h3, h4⟩ := hm c
    refine ⟨e0.trans ?_, e1.trans ?_, e2.trans ?_, e3.trans ?_, a⟩
    · refine (Cert.InProjBwdRefIdeal.Read.val_main_v38_eq m' c).trans ?_
      rw [h0, h1, h2, h3, h4]
      exact Cert.InProjBwdRefIdeal.Read.dx_whole _ _ _ _ _
    · refine (Cert.InProjBwdRefIdeal.Read.val_main_v41_eq m' c).trans ?_
      rw [h0, h1, h2, h3, h4]
      exact Cert.InProjBwdRefIdeal.Read.dxb_whole _ _ _ _ _
    · refine (Cert.InProjBwdRefIdeal.Read.val_main_v21_eq _ _ _).trans ?_
      rw [h0, h2, h4]
      exact Cert.InProjBwdRefIdeal.Read.dg_whole _ _ _
    · refine (Cert.InProjBwdRefIdeal.Read.val_main_v43_eq _ _ _).trans ?_
      rw [h0, h1, h4]
      exact Cert.InProjBwdRefIdeal.Read.dw_whole _ _ _
end Cert.InProjBwdValue
end
-- ==== Proof.InProjFwdRun.lean ====
module
public import proofs.«01_k».proof.Proof.ProjMath
public import proofs.«01_k».proof.Proof.Gen.InProjFwdIdeal.Value

/-! The projection into the mixer: every grid point leaves the product of its rows with the weight, so the run returns the
whole product. -/

@[expose] public section
noncomputable section
namespace Cert.InProjFwdIdeal.Value
open Cert.InProjFwdIdeal Cert.InProjFwdIdeal.Gen Cert.FfnMath Idealize.ShloMosaic Idealize.ShloMosaic.TcCoe Idealize.SL.Sem

theorem pay1_eq (h : A2 512 1024) (w : A2 1280 1024) : k0_pay1 (F := Ideal) h w = mulNT h w := by
  funext i
  obtain ⟨r, k, rfl⟩ := exists_ix2 i
  pointwise [k0_pay1]
  rfl
theorem out_eq (h : A2 512 1024) (w : A2 1280 1024) : out0_2 (F := Ideal) h w = mulNT h w := by
  unfold out0_2
  exact (View.canon_cons_unit_zero off2 _ _ _).trans ((congrArg₂ (k0_pay1 (F := Ideal)) (ld_whole h _) (ld_whole w _)).trans (pay1_eq h w))

variable (m : (ℓ : Loc nD τ sig) → Buf (Elt Ideal) ℓ) (c : Dev nD)

/-- The arguments: the layer's input and the weight. -/
def inH : A2 2048 1024 := m ((c : Thread nD τ).loc main_arg0)
def inW : A2 1024 1280 := m ((c : Thread nD τ).loc main_arg1)
/-- The weight laid out by columns. -/
def inWT : A2 1280 1024 := fun i => inW m c (ix2 (i 1) (i 0))

theorem host0 : V m c main_v0 = inH m c := by
  unfold V
  after_results_simp
  rfl
theorem host1 : V m c main_v2 = inWT m c := by
  funext i
  obtain ⟨r, k, rfl⟩ := exists_ix2 i
  unfold V
  after_results_simp
  pointwise
  rfl

/-- A grid point as the number of its block. -/
def pt (t : Fin cfg0.N) : Fin 4 := ⟨t.val, lt_of_lt_of_eq t.isLt N_0⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t

theorem blk_h (t : Fin cfg0.N) : (iblk m c 0 t : Vec Ideal S512x1024 .bf16) = rows (inH m c) (pt t) := by
  rw [← host0]
  funext j
  unfold iblk
  rw [View.read_apply]
  show V m c main_v0 _ = V m c main_v0 _
  congr 1
  funext a
  apply Fin.ext
  have hi := index0 t
  match a with
  | ⟨0, _⟩ => show win0_0.index t 0 * 512 + 1 * (j 0).val = 512 * t.val + (j 0).val; rw [hi.1]; omega
  | ⟨1, _⟩ => show win0_0.index t 1 * 1024 + 1 * (j 1).val = (j 1).val; rw [hi.2]; omega
theorem blk_w (t : Fin cfg0.N) : (iblk m c 1 t : Vec Ideal S1280x1024 .bf16) = inWT m c := by
  rw [← host1]
  funext j
  unfold iblk
  rw [View.read_apply]
  show V m c main_v2 _ = V m c main_v2 _
  congr 1
  funext a
  apply Fin.ext
  have hi := index1 t
  match a with
  | ⟨0, _⟩ => show win0_1.index t 0 * 1280 + 1 * (j 0).val = (j 0).val; rw [hi.1]; omega
  | ⟨1, _⟩ => show win0_1.index t 1 * 1024 + 1 * (j 1).val = (j 1).val; rw [hi.2]; omega

/-- The result: the whole product. -/
theorem final_z : ((dats m 0 c).arrAt 2 cfg0.N : A2 2048 1280) = mulNN (inH m c) (inW m c) := by
  funext i
  obtain ⟨q, y, rfl⟩ := exists_ix2 i
  obtain ⟨t, r, rfl⟩ := rowOf_surj q
  have hn : t.val < cfg0.N := lt_of_lt_of_eq t.isLt N_0.symm
  have e := congrFun ((blocks2 m c ⟨t.val, hn⟩ (flush0_2 ⟨t.val, hn⟩)).trans (flushed2 m c ⟨t.val, hn⟩)) (ix2 r y)
  rw [View.read_apply, blk_h, blk_w, out_eq, mulNT_rows] at e
  refine Eq.trans ?_ e
  show (dats m 0 c).arrAt 2 cfg0.N _ = (dats m 0 c).arrAt 2 cfg0.N _
  congr 1
  funext a
  apply Fin.ext
  have hi := index2 ⟨t.val, hn⟩
  match a with
  | ⟨0, _⟩ => show 512 * t.val + r.val = win0_2.index ⟨t.val, hn⟩ 0 * 512 + 1 * r.val; rw [hi.1]; show 512 * t.val + r.val = t.val * 512 + 1 * r.val; omega
  | ⟨1, _⟩ => show y.val = win0_2.index ⟨t.val, hn⟩ 1 * 1280 + 1 * y.val; rw [hi.2]; omega
end Cert.InProjFwdIdeal.Value
end
-- ==== Proof.InProjFwdValue.lean ====
module
public import proofs.«01_k».proof.Defs
public import proofs.«01_k».proof.Proof.InProjFwdRun
public import proofs.«01_k».proof.Proof.Gen.InProjFwdRefIdeal.Read

/-! The projection into the mixer: the kernel's result and the reference's are the same function of the arguments. -/

@[expose] public section
noncomputable section

namespace Cert.InProjFwdRefIdeal.Read
open Cert.InProjFwdRefIdeal Cert.FfnMath Idealize.ShloMosaic

theorem z_whole (h : A2 2048 1024) (w : A2 1024 1280) : val_main_v0 (F := Ideal) h w = mulNN h w := by
  funext i
  obtain ⟨r, k, rfl⟩ := exists_ix2 i
  pointwise [val_main_v0]
  rfl
end Cert.InProjFwdRefIdeal.Read

namespace Cert.InProjFwdValue
open Cert.FfnMath Idealize.ShloMosaic Idealize.ShloMosaic.TcCoe Idealize.SL.Sem

/-- The reference terminates, leaves its arguments alone, and declares no semaphore. -/
theorem frame_ref : Cert.quiescent_InProjFwdRefIdeal := fun m ρ _ =>
  (θ_run Cert.InProjFwdRefIdeal.defs _ _).mono (fun r h => ⟨fun c => (h c).2, sem_eq_zero_of_no_sems (by decide) r.2⟩)
    (Cert.InProjFwdRefIdeal.Value.run (F := Ideal) m ρ)

open Cert.InProjFwdIdeal.Value in
theorem algebraic : Cert.algebraic_InProjFwdIdeal_InProjFwdRefIdeal := by
  intro m g m' g' hp hm
  refine ⟨fun c => mulNN (inH m c) (inW m c),
    (θ_run _ _ _).mono (fun r h c => ?_) (Cert.InProjFwdIdeal.Value.run_blocks (F := Ideal) m g),
    (θ_run _ _ _).mono (fun r h c => ?_) (Cert.InProjFwdRefIdeal.Value.run m' g')⟩
  · obtain ⟨e0, a⟩ := h c
    exact ⟨e0.trans (final_z m c), a⟩
  · obtain ⟨e0, a⟩ := h c
    obtain ⟨h0, h1⟩ := hm c
    refine ⟨e0.trans ?_, a⟩
    · refine (Cert.InProjFwdRefIdeal.Read.val_main_v0_eq _ _).trans ?_
      rw [h0, h1]
      exact Cert.InProjFwdRefIdeal.Read.z_whole _ _
end Cert.InProjFwdValue
end
-- ==== Proof.OutProjFwdRun.lean ====
module
public import proofs.«01_k».proof.Proof.ProjMath
public import proofs.«01_k».proof.Proof.Gen.OutProjFwdIdeal.Value

/-! The projection out of the mixer: every grid point leaves its rows of the sum and of its norm, so the run returns the
whole of both. -/

@[expose] public section
noncomputable section
namespace Cert.OutProjFwdIdeal.Value
open Cert.OutProjFwdIdeal Cert.OutProjFwdIdeal.Gen Cert.FfnMath Idealize.ShloMosaic Idealize.ShloMosaic.TcCoe Idealize.SL.Sem

section
variable (x : A2 512 1024) (y : A2 512 1024) (w : A2 1024 1024) (g : A2 1 1024)
theorem pay1_eq : k0_pay1 (F := Ideal) x y w = fun i => x i + mulNN y w i := by
  funext i
  obtain ⟨r, k, rfl⟩ := exists_ix2 i
  pointwise [k0_pay1]
  rfl
theorem pay2_eq : k0_pay2 (F := Ideal) x y w g = normedBlk (fun i => x i + mulNN y w i) g := by
  funext i
  obtain ⟨r, k, rfl⟩ := exists_ix2 i
  pointwise [k0_pay2]
  rw [pay1_eq]
  rfl
theorem out_eq : out0_4 (F := Ideal) y w x g = fun i => x i + mulNN y w i := by
  unfold out0_4
  refine (View.canon_cons_unit_zero off2 _ _ _).trans (Eq.trans ?_ (pay1_eq x y w))
  exact congr (congrArg₂ (k0_pay1 (F := Ideal)) (ld_whole (Val := Elt Ideal) (e := .f32) x _) (ld_whole (Val := Elt Ideal) (e := .bf16) y _)) (ld_whole (Val := Elt Ideal) (e := .bf16) w _)
theorem norm_eq : out0_5 (F := Ideal) y w x g = normedBlk (fun i => x i + mulNN y w i) g := by
  unfold out0_5
  refine (View.canon_cons_unit_zero off2 _ _ _).trans (Eq.trans ?_ (pay2_eq x y w g))
  exact congr (congr (congrArg₂ (k0_pay2 (F := Ideal)) (ld_whole (Val := Elt Ideal) (e := .f32) x _) (ld_whole (Val := Elt Ideal) (e := .bf16) y _)) (ld_whole (Val := Elt Ideal) (e := .bf16) w _)) (ld_whole (Val := Elt Ideal) (e := .f32) g _)
end

variable (m : (ℓ : Loc nD τ sig) → Buf (Elt Ideal) ℓ) (c : Dev nD)

/-- The arguments: the mixer's output, the weight, the rows to add to, and the gain. -/
def inY : A2 2048 1024 := m ((c : Thread nD τ).loc main_arg0)
def inW : A2 1024 1024 := m ((c : Thread nD τ).loc main_arg1)
def inX : A2 2048 1024 := m ((c : Thread nD τ).loc main_arg2)
def inGain : A2 1 1024 := m ((c : Thread nD τ).loc main_arg3)
/-- The sum the projection leaves. -/
def added : A2 2048 1024 := fun i => inX m c i + mulNN (inY m c) (inW m c) i

theorem host0 : V m c main_v0 = inY m c := by
  unfold V
  after_results_simp
  rfl
theorem host1 : V m c main_v1 = inW m c := by
  unfold V
  after_results_simp
  rfl
theorem host2 : V m c main_arg2 = inX m c := V_main_arg2 m c
theorem host3 : V m c main_arg3 = inGain m c := V_main_arg3 m c

/-- A grid point as the number of its block. -/
def pt (t : Fin cfg0.N) : Fin 4 := ⟨t.val, lt_of_lt_of_eq t.isLt N_0⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index5 (t : Fin cfg0.N) : win0_5.index t 0 = t.val ∧ win0_5.index t 1 = 0 :=
  (by decide +kernel : ∀ t : Fin grid0.N, win0_5.index t 0 = t.val ∧ win0_5.index t 1 = 0) t

theorem blk_y (t : Fin cfg0.N) : (iblk m c 0 t : Vec Ideal S512x1024 .bf16) = rows (inY m c) (pt t) := by
  rw [← host0]
  funext j
  unfold iblk
  rw [View.read_apply]
  show V m c main_v0 _ = V m c main_v0 _
  congr 1
  funext a
  apply Fin.ext
  have hi := index0 t
  match a with
  | ⟨0, _⟩ => show win0_0.index t 0 * 512 + 1 * (j 0).val = 512 * t.val + (j 0).val; rw [hi.1]; omega
  | ⟨1, _⟩ => show win0_0.index t 1 * 1024 + 1 * (j 1).val = (j 1).val; rw [hi.2]; omega
theorem blk_w (t : Fin cfg0.N) : (iblk m c 1 t : Vec Ideal S1024x1024 .bf16) = inW m c := by
  rw [← host1]
  funext j
  unfold iblk
  rw [View.read_apply]
  show V m c main_v1 _ = V m c main_v1 _
  congr 1
  funext a
  apply Fin.ext
  have hi := index1 t
  match a with
  | ⟨0, _⟩ => show win0_1.index t 0 * 1024 + 1 * (j 0).val = (j 0).val; rw [hi.1]; omega
  | ⟨1, _⟩ => show win0_1.index t 1 * 1024 + 1 * (j 1).val = (j 1).val; rw [hi.2]; omega
theorem blk_x (t : Fin cfg0.N) : (iblk m c 2 t : Vec Ideal S512x1024 .f32) = rows (inX m c) (pt t) := by
  rw [← host2]
  funext j
  unfold iblk
  rw [View.read_apply]
  show V m c main_arg2 _ = V m c main_arg2 _
  congr 1
  funext a
  apply Fin.ext
  have hi := index2 t
  match a with
  | ⟨0, _⟩ => show win0_2.index t 0 * 512 + 1 * (j 0).val = 512 * t.val + (j 0).val; rw [hi.1]; omega
  | ⟨1, _⟩ => show win0_2.index t 1 * 1024 + 1 * (j 1).val = (j 1).val; rw [hi.2]; omega
theorem blk_g (t : Fin cfg0.N) : (iblk m c 3 t : Vec Ideal S1x1024 .f32) = inGain m c := by
  rw [← host3]
  funext j
  unfold iblk
  rw [View.read_apply]
  show V m c main_arg3 _ = V m c main_arg3 _
  congr 1
  funext a
  apply Fin.ext
  have hi := index3 t
  match a with
  | ⟨0, _⟩ => show win0_3.index t 0 * 1 + 1 * (j 0).val = (j 0).val; rw [hi.1]; omega
  | ⟨1, _⟩ => show win0_3.index t 1 * 1024 + 1 * (j 1).val = (j 1).val; rw [hi.2]; omega

/-- The first result: the sum. -/
theorem final_x : ((dats m 0 c).arrAt 4 cfg0.N : A2 2048 1024) = added m c := by
  funext i
  obtain ⟨q, y, rfl⟩ := exists_ix2 i
  obtain ⟨t, r, rfl⟩ := rowOf_surj q
  have hn : t.val < cfg0.N := lt_of_lt_of_eq t.isLt N_0.symm
  have e := congrFun ((blocks4 m c ⟨t.val, hn⟩ (flush0_4 ⟨t.val, hn⟩)).trans (flushed4 m c ⟨t.val, hn⟩)) (ix2 r y)
  rw [View.read_apply, blk_y, blk_w, blk_x, blk_g, out_eq] at e
  refine Eq.trans ?_ e
  show (dats m 0 c).arrAt 4 cfg0.N _ = (dats m 0 c).arrAt 4 cfg0.N _
  congr 1
  funext a
  apply Fin.ext
  have hi := index4 ⟨t.val, hn⟩
  match a with
  | ⟨0, _⟩ => show 512 * t.val + r.val = win0_4.index ⟨t.val, hn⟩ 0 * 512 + 1 * r.val; rw [hi.1]; show 512 * t.val + r.val = t.val * 512 + 1 * r.val; omega
  | ⟨1, _⟩ => show y.val = win0_4.index ⟨t.val, hn⟩ 1 * 1024 + 1 * y.val; rw [hi.2]; omega
/-- The second result: its norm. -/
theorem final_h : ((dats m 0 c).arrAt 5 cfg0.N : A2 2048 1024) = normed (added m c) (inGain m c) := by
  funext i
  obtain ⟨q, y, rfl⟩ := exists_ix2 i
  obtain ⟨t, r, rfl⟩ := rowOf_surj q
  have hn : t.val < cfg0.N := lt_of_lt_of_eq t.isLt N_0.symm
  have e := congrFun ((blocks5 m c ⟨t.val, hn⟩ (flush0_5 ⟨t.val, hn⟩)).trans (flushed5 m c ⟨t.val, hn⟩)) (ix2 r y)
  rw [View.read_apply, blk_y, blk_w, blk_x, blk_g, norm_eq] at e
  refine Eq.trans ?_ e
  show (dats m 0 c).arrAt 5 cfg0.N _ = (dats m 0 c).arrAt 5 cfg0.N _
  congr 1
  funext a
  apply Fin.ext
  have hi := index5 ⟨t.val, hn⟩
  match a with
  | ⟨0, _⟩ => show 512 * t.val + r.val = win0_5.index ⟨t.val, hn⟩ 0 * 512 + 1 * r.val; rw [hi.1]; show 512 * t.val + r.val = t.val * 512 + 1 * r.val; omega
  | ⟨1, _⟩ => show y.val = win0_5.index ⟨t.val, hn⟩ 1 * 1024 + 1 * y.val; rw [hi.2]; omega
end Cert.OutProjFwdIdeal.Value
end
-- ==== Proof.OutProjFwdValue.lean ====
module
public import proofs.«01_k».proof.Defs
public import proofs.«01_k».proof.Proof.OutProjFwdRun
public import proofs.«01_k».proof.Proof.Gen.OutProjFwdRefIdeal.Read

/-! The projection out of the mixer: the kernel's results and the reference's are the same functions of the arguments. -/

@[expose] public section
noncomputable section

namespace Cert.OutProjFwdRefIdeal.Read
open Cert.OutProjFwdRefIdeal Cert.FfnMath Idealize.ShloMosaic

variable (y : A2 2048 1024) (w : A2 1024 1024) (x : A2 2048 1024) (g : A2 1 1024)

theorem x_whole : val_main_v1 (F := Ideal) y w x = fun i => x i + mulNN y w i := by
  funext i
  obtain ⟨r, k, rfl⟩ := exists_ix2 i
  pointwise [val_main_v1, val_main_v0]
  rfl
theorem h_whole : val_main_v14 (F := Ideal) y w x g = normed (fun i => x i + mulNN y w i) g := by
  funext i
  obtain ⟨r, k, rfl⟩ := exists_ix2 i
  pointwise [val_main_v14, val_main_v13, val_main_v12, val_main_v11, val_main_v10, val_main_v9, val_main_v8, val_main_v7, val_main_cst_1, val_main_v6, val_main_v5, val_main_cst_0, val_main_v4, val_main_v3, val_main_cst, val_main_v2]
  rw [x_whole]
  rfl
end Cert.OutProjFwdRefIdeal.Read

namespace Cert.OutProjFwdValue
open Cert.FfnMath Idealize.ShloMosaic Idealize.ShloMosaic.TcCoe Idealize.SL.Sem

/-- The reference terminates, leaves its arguments alone, and declares no semaphore. -/
theorem frame_ref : Cert.quiescent_OutProjFwdRefIdeal := fun m ρ _ =>
  (θ_run Cert.OutProjFwdRefIdeal.defs _ _).mono (fun r h => ⟨fun c => (h c).2.2, sem_eq_zero_of_no_sems (by decide) r.2⟩)
    (Cert.OutProjFwdRefIdeal.Value.run (F := Ideal) m ρ)

open Cert.OutProjFwdIdeal.Value in
theorem algebraic : Cert.algebraic_OutProjFwdIdeal_OutProjFwdRefIdeal := by
  intro m g m' g' hp hm
  refine ⟨fun c => added m c, fun c => normed (added m c) (inGain m c),
    (θ_run _ _ _).mono (fun r h c => ?_) (Cert.OutProjFwdIdeal.Value.run_blocks (F := Ideal) m g),
    (θ_run _ _ _).mono (fun r h c => ?_) (Cert.OutProjFwdRefIdeal.Value.run m' g')⟩
  · obtain ⟨e0, e1, a⟩ := h c
    exact ⟨e0.trans (final_x m c), e1.trans (final_h m c), a⟩
  · obtain ⟨e0, e1, a⟩ := h c
    obtain ⟨h0, h1, h2, h3⟩ := hm c
    refine ⟨e0.trans ?_, e1.trans ?_, a⟩
    · refine (Cert.OutProjFwdRefIdeal.Read.val_main_v1_eq _ _ _).trans ?_
      rw [h0, h1, h2]
      exact Cert.OutProjFwdRefIdeal.Read.x_whole _ _ _
    · refine (Cert.OutProjFwdRefIdeal.Read.val_main_v14_eq _ _ _ _).trans ?_
      rw [h0, h1, h2, h3]
      exact Cert.OutProjFwdRefIdeal.Read.h_whole _ _ _ _
end Cert.OutProjFwdValue
end
-- ==== Proof.AdamwSmallIdealFrame.lean ====
module
public import proofs.«01_k».proof.Proof.Gen.AdamwSmallIdeal.Launch
public import proofs.«01_k».proof.Proof.Gen.AdamwSmallIdeal.Skeleton
public import proofs.«01_k».proof.Proof.Gen.AdamwSmallIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

/-! The optimiser's call for the nine small weights, over any floats: it runs, leaves its 36 argument arrays alone and its semaphores
at zero, and each of its 27 results is the AdamW formula of the arguments.  The call has no grid: every window is a whole array.
Windows 0-8 are the weights, 9-17 and 18-26 the two moments, 27-35 the gradients, 36-44 the changes of the weights, 45-53 and 54-62
the new moments. -/

@[expose] public section
set_option maxRecDepth 16384
noncomputable section

namespace Cert.AdamwSmallIdeal.Body
open Cert.AdamwSmallIdeal Cert.AdamwSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "⟪" c ", " a ", " x "⟫" => owns (c : Thread nD τ) a fullShare x

/-! ## AdamW of one weight -/

section formula
variable {S : Shape}

/-- A constant of the formula, at every index. -/
abbrev con (S : Shape) (b : BitVec 32) : FVec F S .f32 := broadcast S (Scalar.ofBits .f32 b)
/-- The new first moment, of the gradient and the old one. -/
def newM (g m : Vec F S .f32) : FVec F S .f32 := addf (mulf (con S 0x3F666666#32) m) (mulf (con S 0x3DCCCCCD#32) g)
/-- The new second moment. -/
def newV (g v : Vec F S .f32) : FVec F S .f32 := addf (mulf (con S 0x3F7FBE77#32) v) (mulf (con S 0x3A83126F#32) (mulf g g))
/-- The change of the weight. -/
def delta (w g m v : Vec F S .f32) : FVec F S .f32 :=
  mulf (con S 0xBA83126F#32) (addf (divf (divf (newM g m) (con S 0x3F26BD02#32))
    (addf (sqrt (divf (newV g v) (con S 0x3C231ACC#32))) (con S 0x322BCC77#32))) (mulf (con S 0x3C23D70A#32) w))

variable {z : Fin S.rank → Nat} (hz : z = fun _ => 0) (inb : ∀ a, z a + S.size a ≤ S.size a)
include hz
/-- Loads of whole arrays change nothing. -/
theorem newM_ld (g m : Vec F S .f32) :
    newM (S := S) (View.ld g (Rect.unit z S.size inb)) (View.ld m (Rect.unit z S.size inb)) = newM g m := by
  rw [View.ld_unit_zero (S := S) hz inb g, View.ld_unit_zero (S := S) hz inb m]
theorem newV_ld (g v : Vec F S .f32) :
    newV (S := S) (View.ld g (Rect.unit z S.size inb)) (View.ld v (Rect.unit z S.size inb)) = newV g v := by
  rw [View.ld_unit_zero (S := S) hz inb g, View.ld_unit_zero (S := S) hz inb v]
theorem delta_ld (w g m v : Vec F S .f32) :
    delta (S := S) (View.ld w (Rect.unit z S.size inb)) (View.ld g (Rect.unit z S.size inb)) (View.ld m (Rect.unit z S.size inb))
      (View.ld v (Rect.unit z S.size inb)) = delta w g m v := by
  rw [View.ld_unit_zero (S := S) hz inb w, View.ld_unit_zero (S := S) hz inb g, View.ld_unit_zero (S := S) hz inb m,
    View.ld_unit_zero (S := S) hz inb v]
/-- An array written whole holds what was written. -/
theorem wrote {κ : Kind} {sp : Space} {v : View sig κ sp S .f32} {f : v.ty.Contents (Elt F)} {p q : Vec F S .f32} (h : p = q) :
    v.read (Elt F) (v.writes (Elt F) f [⟨Rect.unit z S.size inb, p⟩]) = q :=
  (View.read_writes_eq_canon v f _ fun y => ⟨_, List.mem_singleton_self _, by
    subst hz; exact (Rect.mem_set_unit (inb := inb)).2 fun a => ⟨Nat.zero_le _, by simp⟩⟩).trans ((View.canon_unit_zero hz inb p).trans h)
end formula

/-- An array left alone is owned at what it held. -/
theorem held (c : Dev nD) {S : Shape} (a : Memref sig .tc .vmem S .f32) (f : a.view.ty.Contents (Elt F)) :
    (a.view.loc (c : Thread nD τ) ↦[a.view.set]{fullShare} f : sProp 𝕄)
      ⊢ iprop(∃ g, ⌜a.view.read (Elt F) g = a.view.read (Elt F) f⌝ ∗ (a.view.loc (c : Thread nD τ) ↦[a.view.set]{fullShare} g)) := by
  iintro H; iexists f; isplitr; · ipureintro; rfl
  iexact H

theorem z2 : (![0, 0] : Fin 2 → Nat) = fun _ => 0 := funext fun a => by fin_cases a <;> rfl
theorem z4 : (![0, 0, 0, 0] : Fin 4 → Nat) = fun _ => 0 := funext fun a => by fin_cases a <;> rfl

theorem i0 : ∀ a, ((![0, 0] : Fin _ → Nat)) a + S1x1024.size a ≤ S1x1024.size a := inb_S1x1024_S1x1024_0_0
theorem i1 : ∀ a, ((![0, 0] : Fin _ → Nat)) a + S1x512.size a ≤ S1x512.size a := inb_S1x512_S1x512_0_0
theorem i2 : ∀ a, ((![0, 0] : Fin _ → Nat)) a + S1x64.size a ≤ S1x64.size a := inb_S1x64_S1x64_0_0
theorem i3 : ∀ a, ((![0, 0] : Fin _ → Nat)) a + S1x8.size a ≤ S1x8.size a := inb_S1x8_S1x8_0_0
theorem i4 : ∀ a, ((![0, 0] : Fin _ → Nat)) a + S32x8.size a ≤ S32x8.size a := inb_S32x8_S32x8_0_0
theorem i5 : ∀ a, ((![0, 0, 0, 0] : Fin _ → Nat)) a + S1x4x128x128.size a ≤ S1x4x128x128.size a := inb_S1x4x128x128_S1x4x128x128_0_0_0_0

/-! ## The body -/

set_option maxHeartbeats 4000000 in
/-- The body run on whole arrays: the inputs stay, and each output holds its formula. -/
theorem sound_kernel (c : Dev nD)
    {a0 a1 a2 a9 a10 a11 a18 a19 a20 a27 a28 a29 a36 a37 a38 a45 a46 a47 a54 a55 a56 : Memref sig .tc .vmem S1x1024 .f32}
    {a3 a12 a21 a30 a39 a48 a57 : Memref sig .tc .vmem S1x512 .f32}
    {a4 a5 a13 a14 a22 a23 a31 a32 a40 a41 a49 a50 a58 a59 : Memref sig .tc .vmem S1x64 .f32}
    {a6 a15 a24 a33 a42 a51 a60 : Memref sig .tc .vmem S1x8 .f32}
    {a7 a16 a25 a34 a43 a52 a61 : Memref sig .tc .vmem S32x8 .f32}
    {a8 a17 a26 a35 a44 a53 a62 : Memref sig .tc .vmem S1x4x128x128 .f32} {h0 : a0.IsWhole}
    {h1 : a1.IsWhole} {h2 : a2.IsWhole} {h3 : a3.IsWhole} {h4 : a4.IsWhole} {h5 : a5.IsWhole}
    {h6 : a6.IsWhole} {h7 : a7.IsWhole} {h8 : a8.IsWhole} {h9 : a9.IsWhole} {h10 : a10.IsWhole}
    {h11 : a11.IsWhole} {h12 : a12.IsWhole} {h13 : a13.IsWhole} {h14 : a14.IsWhole}
    {h15 : a15.IsWhole} {h16 : a16.IsWhole} {h17 : a17.IsWhole} {h18 : a18.IsWhole}
    {h19 : a19.IsWhole} {h20 : a20.IsWhole} {h21 : a21.IsWhole} {h22 : a22.IsWhole}
    {h23 : a23.IsWhole} {h24 : a24.IsWhole} {h25 : a25.IsWhole} {h26 : a26.IsWhole}
    {h27 : a27.IsWhole} {h28 : a28.IsWhole} {h29 : a29.IsWhole} {h30 : a30.IsWhole}
    {h31 : a31.IsWhole} {h32 : a32.IsWhole} {h33 : a33.IsWhole} {h34 : a34.IsWhole}
    {h35 : a35.IsWhole} {h36 : a36.IsWhole} {h37 : a37.IsWhole} {h38 : a38.IsWhole}
    {h39 : a39.IsWhole} {h40 : a40.IsWhole} {h41 : a41.IsWhole} {h42 : a42.IsWhole}
    {h43 : a43.IsWhole} {h44 : a44.IsWhole} {h45 : a45.IsWhole} {h46 : a46.IsWhole}
    {h47 : a47.IsWhole} {h48 : a48.IsWhole} {h49 : a49.IsWhole} {h50 : a50.IsWhole}
    {h51 : a51.IsWhole} {h52 : a52.IsWhole} {h53 : a53.IsWhole} {h54 : a54.IsWhole}
    {h55 : a55.IsWhole} {h56 : a56.IsWhole} {h57 : a57.IsWhole} {h58 : a58.IsWhole}
    {h59 : a59.IsWhole} {h60 : a60.IsWhole} {h61 : a61.IsWhole} {h62 : a62.IsWhole}
    (x0 x1 x2 x9 x10 x11 x18 x19 x20 x27 x28 x29 : Vec F S1x1024 .f32) (x3 x12 x21 x30 : Vec F S1x512 .f32)
    (x4 x5 x13 x14 x22 x23 x31 x32 : Vec F S1x64 .f32) (x6 x15 x24 x33 : Vec F S1x8 .f32) (x7 x16 x25 x34 : Vec F S32x8 .f32)
    (x8 x17 x26 x35 : Vec F S1x4x128x128 .f32)
    (K : PUnit → sProp 𝕄) :
    iprop(⟪c, a0, x0⟫ ∗ ⟪c, a1, x1⟫ ∗ ⟪c, a2, x2⟫ ∗ ⟪c, a3, x3⟫ ∗ ⟪c, a4, x4⟫ ∗ ⟪c, a5, x5⟫ ∗ ⟪c, a6, x6⟫ ∗
      ⟪c, a7, x7⟫ ∗ ⟪c, a8, x8⟫ ∗ ⟪c, a9, x9⟫ ∗ ⟪c, a10, x10⟫ ∗ ⟪c, a11, x11⟫ ∗ ⟪c, a12, x12⟫ ∗ ⟪c, a13, x13⟫ ∗
      ⟪c, a14, x14⟫ ∗ ⟪c, a15, x15⟫ ∗ ⟪c, a16, x16⟫ ∗ ⟪c, a17, x17⟫ ∗ ⟪c, a18, x18⟫ ∗ ⟪c, a19, x19⟫ ∗
      ⟪c, a20, x20⟫ ∗ ⟪c, a21, x21⟫ ∗ ⟪c, a22, x22⟫ ∗ ⟪c, a23, x23⟫ ∗ ⟪c, a24, x24⟫ ∗ ⟪c, a25, x25⟫ ∗
      ⟪c, a26, x26⟫ ∗ ⟪c, a27, x27⟫ ∗ ⟪c, a28, x28⟫ ∗ ⟪c, a29, x29⟫ ∗ ⟪c, a30, x30⟫ ∗ ⟪c, a31, x31⟫ ∗
      ⟪c, a32, x32⟫ ∗ ⟪c, a33, x33⟫ ∗ ⟪c, a34, x34⟫ ∗ ⟪c, a35, x35⟫ ∗ (∃ y, ⟪c, a36, y⟫) ∗ (∃ y, ⟪c, a37, y⟫) ∗
      (∃ y, ⟪c, a38, y⟫) ∗ (∃ y, ⟪c, a39, y⟫) ∗ (∃ y, ⟪c, a40, y⟫) ∗ (∃ y, ⟪c, a41, y⟫) ∗ (∃ y, ⟪c, a42, y⟫) ∗
      (∃ y, ⟪c, a43, y⟫) ∗ (∃ y, ⟪c, a44, y⟫) ∗ (∃ y, ⟪c, a45, y⟫) ∗ (∃ y, ⟪c, a46, y⟫) ∗ (∃ y, ⟪c, a47, y⟫) ∗
      (∃ y, ⟪c, a48, y⟫) ∗ (∃ y, ⟪c, a49, y⟫) ∗ (∃ y, ⟪c, a50, y⟫) ∗ (∃ y, ⟪c, a51, y⟫) ∗ (∃ y, ⟪c, a52, y⟫) ∗
      (∃ y, ⟪c, a53, y⟫) ∗ (∃ y, ⟪c, a54, y⟫) ∗ (∃ y, ⟪c, a55, y⟫) ∗ (∃ y, ⟪c, a56, y⟫) ∗ (∃ y, ⟪c, a57, y⟫) ∗
      (∃ y, ⟪c, a58, y⟫) ∗ (∃ y, ⟪c, a59, y⟫) ∗ (∃ y, ⟪c, a60, y⟫) ∗ (∃ y, ⟪c, a61, y⟫) ∗ (∃ y, ⟪c, a62, y⟫)
      ∗ (iprop(⟪c, a0, x0⟫ ∗ ⟪c, a1, x1⟫ ∗ ⟪c, a2, x2⟫ ∗ ⟪c, a3, x3⟫ ∗ ⟪c, a4, x4⟫ ∗ ⟪c, a5, x5⟫ ∗ ⟪c, a6, x6⟫ ∗
        ⟪c, a7, x7⟫ ∗ ⟪c, a8, x8⟫ ∗ ⟪c, a9, x9⟫ ∗ ⟪c, a10, x10⟫ ∗ ⟪c, a11, x11⟫ ∗ ⟪c, a12, x12⟫ ∗
        ⟪c, a13, x13⟫ ∗ ⟪c, a14, x14⟫ ∗ ⟪c, a15, x15⟫ ∗ ⟪c, a16, x16⟫ ∗ ⟪c, a17, x17⟫ ∗ ⟪c, a18, x18⟫ ∗
        ⟪c, a19, x19⟫ ∗ ⟪c, a20, x20⟫ ∗ ⟪c, a21, x21⟫ ∗ ⟪c, a22, x22⟫ ∗ ⟪c, a23, x23⟫ ∗ ⟪c, a24, x24⟫ ∗
        ⟪c, a25, x25⟫ ∗ ⟪c, a26, x26⟫ ∗ ⟪c, a27, x27⟫ ∗ ⟪c, a28, x28⟫ ∗ ⟪c, a29, x29⟫ ∗ ⟪c, a30, x30⟫ ∗
        ⟪c, a31, x31⟫ ∗ ⟪c, a32, x32⟫ ∗ ⟪c, a33, x33⟫ ∗ ⟪c, a34, x34⟫ ∗ ⟪c, a35, x35⟫ ∗
        ⟪c, a36, delta x0 x27 x9 x18⟫ ∗ ⟪c, a37, delta x1 x28 x10 x19⟫ ∗ ⟪c, a38, delta x2 x29 x11 x20⟫ ∗
        ⟪c, a39, delta x3 x30 x12 x21⟫ ∗ ⟪c, a40, delta x4 x31 x13 x22⟫ ∗ ⟪c, a41, delta x5 x32 x14 x23⟫ ∗
        ⟪c, a42, delta x6 x33 x15 x24⟫ ∗ ⟪c, a43, delta x7 x34 x16 x25⟫ ∗ ⟪c, a44, delta x8 x35 x17 x26⟫ ∗
        ⟪c, a45, newM x27 x9⟫ ∗ ⟪c, a46, newM x28 x10⟫ ∗ ⟪c, a47, newM x29 x11⟫ ∗ ⟪c, a48, newM x30 x12⟫ ∗
        ⟪c, a49, newM x31 x13⟫ ∗ ⟪c, a50, newM x32 x14⟫ ∗ ⟪c, a51, newM x33 x15⟫ ∗ ⟪c, a52, newM x34 x16⟫ ∗
        ⟪c, a53, newM x35 x17⟫ ∗ ⟪c, a54, newV x27 x18⟫ ∗ ⟪c, a55, newV x28 x19⟫ ∗ ⟪c, a56, newV x29 x20⟫ ∗
        ⟪c, a57, newV x30 x21⟫ ∗ ⟪c, a58, newV x31 x22⟫ ∗ ⟪c, a59, newV x32 x23⟫ ∗ ⟪c, a60, newV x33 x24⟫ ∗
        ⟪c, a61, newV x34 x25⟫ ∗ ⟪c, a62, newV x35 x26⟫) -∗ K PUnit.unit))
    ⊢ wp frame (wpE (defs₀ (F := F)) Variants.none c none) Set.univ (cc0_adamw_small a0 h0 a1 h1 a2 h2 a3 h3 a4 h4 a5 h5 a6 h6 a7 h7 a8 h8 a9 h9 a10 h10
      a11 h11 a12 h12 a13 h13 a14 h14 a15 h15 a16 h16 a17 h17 a18 h18 a19 h19
      a20 h20 a21 h21 a22 h22 a23 h23 a24 h24 a25 h25 a26 h26 a27 h27 a28 h28
      a29 h29 a30 h30 a31 h31 a32 h32 a33 h33 a34 h34 a35 h35 a36 h36 a37 h37
      a38 h38 a39 h39 a40 h40 a41 h41 a42 h42 a43 h43 a44 h44 a45 h45 a46 h46
      a47 h47 a48 h48 a49 h49 a50 h50 a51 h51 a52 h52 a53 h53 a54 h54 a55 h55
      a56 h56 a57 h57 a58 h58 a59 h59 a60 h60 a61 h61 a62 h62) K := by
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%f16, %hf16, H16⟩, ⟨%f17, %hf17, H17⟩, ⟨%f18, %hf18, H18⟩,
    ⟨%f19, %hf19, H19⟩, ⟨%f20, %hf20, H20⟩, ⟨%f21, %hf21, H21⟩, ⟨%f22, %hf22, H22⟩, ⟨%f23, %hf23, H23⟩, ⟨%f24, %hf24, H24⟩,
    ⟨%f25, %hf25, H25⟩, ⟨%f26, %hf26, H26⟩, ⟨%f27, %hf27, H27⟩, ⟨%f28, %hf28, H28⟩, ⟨%f29, %hf29, H29⟩, ⟨%f30, %hf30, H30⟩,
    ⟨%f31, %hf31, H31⟩, ⟨%f32, %hf32, H32⟩, ⟨%f33, %hf33, H33⟩, ⟨%f34, %hf34, H34⟩, ⟨%f35, %hf35, H35⟩, ⟨%y36, %f36, -, H36⟩,
    ⟨%y37, %f37, -, H37⟩, ⟨%y38, %f38, -, H38⟩, ⟨%y39, %f39, -, H39⟩, ⟨%y40, %f40, -, H40⟩, ⟨%y41, %f41, -, H41⟩,
    ⟨%y42, %f42, -, H42⟩, ⟨%y43, %f43, -, H43⟩, ⟨%y44, %f44, -, H44⟩, ⟨%y45, %f45, -, H45⟩, ⟨%y46, %f46, -, H46⟩,
    ⟨%y47, %f47, -, H47⟩, ⟨%y48, %f48, -, H48⟩, ⟨%y49, %f49, -, H49⟩, ⟨%y50, %f50, -, H50⟩, ⟨%y51, %f51, -, H51⟩,
    ⟨%y52, %f52, -, H52⟩, ⟨%y53, %f53, -, H53⟩, ⟨%y54, %f54, -, H54⟩, ⟨%y55, %f55, -, H55⟩, ⟨%y56, %f56, -, H56⟩,
    ⟨%y57, %f57, -, H57⟩, ⟨%y58, %f58, -, H58⟩, ⟨%y59, %f59, -, H59⟩, ⟨%y60, %f60, -, H60⟩, ⟨%y61, %f61, -, H61⟩,
    ⟨%y62, %f62, -, H62⟩, Hk⟩
  subst hf0 hf1 hf2 hf3 hf4 hf5 hf6 hf7 hf8 hf9 hf10 hf11
  subst hf12 hf13 hf14 hf15 hf16 hf17 hf18 hf19 hf20 hf21 hf22 hf23
  subst hf24 hf25 hf26 hf27 hf28 hf29 hf30 hf31 hf32 hf33 hf34 hf35
  sl_exec
  sl_step
  iapply Hk
  isplitl [H0]; · iapply (held c a0 f0) $$ H0
  isplitl [H1]; · iapply (held c a1 f1) $$ H1
  isplitl [H2]; · iapply (held c a2 f2) $$ H2
  isplitl [H3]; · iapply (held c a3 f3) $$ H3
  isplitl [H4]; · iapply (held c a4 f4) $$ H4
  isplitl [H5]; · iapply (held c a5 f5) $$ H5
  isplitl [H6]; · iapply (held c a6 f6) $$ H6
  isplitl [H7]; · iapply (held c a7 f7) $$ H7
  isplitl [H8]; · iapply (held c a8 f8) $$ H8
  isplitl [H9]; · iapply (held c a9 f9) $$ H9
  isplitl [H10]; · iapply (held c a10 f10) $$ H10
  isplitl [H11]; · iapply (held c a11 f11) $$ H11
  isplitl [H12]; · iapply (held c a12 f12) $$ H12
  isplitl [H13]; · iapply (held c a13 f13) $$ H13
  isplitl [H14]; · iapply (held c a14 f14) $$ H14
  isplitl [H15]; · iapply (held c a15 f15) $$ H15
  isplitl [H16]; · iapply (held c a16 f16) $$ H16
  isplitl [H17]; · iapply (held c a17 f17) $$ H17
  isplitl [H18]; · iapply (held c a18 f18) $$ H18
  isplitl [H19]; · iapply (held c a19 f19) $$ H19
  isplitl [H20]; · iapply (held c a20 f20) $$ H20
  isplitl [H21]; · iapply (held c a21 f21) $$ H21
  isplitl [H22]; · iapply (held c a22 f22) $$ H22
  isplitl [H23]; · iapply (held c a23 f23) $$ H23
  isplitl [H24]; · iapply (held c a24 f24) $$ H24
  isplitl [H25]; · iapply (held c a25 f25) $$ H25
  isplitl [H26]; · iapply (held c a26 f26) $$ H26
  isplitl [H27]; · iapply (held c a27 f27) $$ H27
  isplitl [H28]; · iapply (held c a28 f28) $$ H28
  isplitl [H29]; · iapply (held c a29 f29) $$ H29
  isplitl [H30]; · iapply (held c a30 f30) $$ H30
  isplitl [H31]; · iapply (held c a31 f31) $$ H31
  isplitl [H32]; · iapply (held c a32 f32) $$ H32
  isplitl [H33]; · iapply (held c a33 f33) $$ H33
  isplitl [H34]; · iapply (held c a34 f34) $$ H34
  isplitl [H35]; · iapply (held c a35 f35) $$ H35
  isplitl [H36]
  · iexists _; isplitr; swap; · iexact H36
    ipureintro; exact wrote z2 i0 (delta_ld z2 i0 _ _ _ _)
  isplitl [H37]
  · iexists _; isplitr; swap; · iexact H37
    ipureintro; exact wrote z2 i0 (delta_ld z2 i0 _ _ _ _)
  isplitl [H38]
  · iexists _; isplitr; swap; · iexact H38
    ipureintro; exact wrote z2 i0 (delta_ld z2 i0 _ _ _ _)
  isplitl [H39]
  · iexists _; isplitr; swap; · iexact H39
    ipureintro; exact wrote z2 i1 (delta_ld z2 i1 _ _ _ _)
  isplitl [H40]
  · iexists _; isplitr; swap; · iexact H40
    ipureintro; exact wrote z2 i2 (delta_ld z2 i2 _ _ _ _)
  isplitl [H41]
  · iexists _; isplitr; swap; · iexact H41
    ipureintro; exact wrote z2 i2 (delta_ld z2 i2 _ _ _ _)
  isplitl [H42]
  · iexists _; isplitr; swap; · iexact H42
    ipureintro; exact wrote z2 i3 (delta_ld z2 i3 _ _ _ _)
  isplitl [H43]
  · iexists _; isplitr; swap; · iexact H43
    ipureintro; exact wrote z2 i4 (delta_ld z2 i4 _ _ _ _)
  isplitl [H44]
  · iexists _; isplitr; swap; · iexact H44
    ipureintro; exact wrote z4 i5 (delta_ld z4 i5 _ _ _ _)
  isplitl [H45]
  · iexists _; isplitr; swap; · iexact H45
    ipureintro; exact wrote z2 i0 (newM_ld z2 i0 _ _)
  isplitl [H46]
  · iexists _; isplitr; swap; · iexact H46
    ipureintro; exact wrote z2 i0 (newM_ld z2 i0 _ _)
  isplitl [H47]
  · iexists _; isplitr; swap; · iexact H47
    ipureintro; exact wrote z2 i0 (newM_ld z2 i0 _ _)
  isplitl [H48]
  · iexists _; isplitr; swap; · iexact H48
    ipureintro; exact wrote z2 i1 (newM_ld z2 i1 _ _)
  isplitl [H49]
  · iexists _; isplitr; swap; · iexact H49
    ipureintro; exact wrote z2 i2 (newM_ld z2 i2 _ _)
  isplitl [H50]
  · iexists _; isplitr; swap; · iexact H50
    ipureintro; exact wrote z2 i2 (newM_ld z2 i2 _ _)
  isplitl [H51]
  · iexists _; isplitr; swap; · iexact H51
    ipureintro; exact wrote z2 i3 (newM_ld z2 i3 _ _)
  isplitl [H52]
  · iexists _; isplitr; swap; · iexact H52
    ipureintro; exact wrote z2 i4 (newM_ld z2 i4 _ _)
  isplitl [H53]
  · iexists _; isplitr; swap; · iexact H53
    ipureintro; exact wrote z4 i5 (newM_ld z4 i5 _ _)
  isplitl [H54]
  · iexists _; isplitr; swap; · iexact H54
    ipureintro; exact wrote z2 i0 (newV_ld z2 i0 _ _)
  isplitl [H55]
  · iexists _; isplitr; swap; · iexact H55
    ipureintro; exact wrote z2 i0 (newV_ld z2 i0 _ _)
  isplitl [H56]
  · iexists _; isplitr; swap; · iexact H56
    ipureintro; exact wrote z2 i0 (newV_ld z2 i0 _ _)
  isplitl [H57]
  · iexists _; isplitr; swap; · iexact H57
    ipureintro; exact wrote z2 i1 (newV_ld z2 i1 _ _)
  isplitl [H58]
  · iexists _; isplitr; swap; · iexact H58
    ipureintro; exact wrote z2 i2 (newV_ld z2 i2 _ _)
  isplitl [H59]
  · iexists _; isplitr; swap; · iexact H59
    ipureintro; exact wrote z2 i2 (newV_ld z2 i2 _ _)
  isplitl [H60]
  · iexists _; isplitr; swap; · iexact H60
    ipureintro; exact wrote z2 i3 (newV_ld z2 i3 _ _)
  isplitl [H61]
  · iexists _; isplitr; swap; · iexact H61
    ipureintro; exact wrote z2 i4 (newV_ld z2 i4 _ _)
  · iexists _; isplitr
    swap; · iexact H62
    ipureintro; exact wrote z4 i5 (newV_ld z4 i5 _ _)

/-! ## The call -/

variable (m : (ℓ : Loc nD τ sig) → Buf (Elt F) ℓ) (ρ : Dev nD → PrngReg)

/-- The arrays as the call finds them: as launched. -/
abbrev V (c : Dev nD) (b : Ref sig .tc) : Buf (Elt F) ((c : Thread nD τ).loc b) := m ((c : Thread nD τ).loc b)

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: each input's buffer keeps its block, each output's holds its formula; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => delta (S := S1x1024) (iblk m c 0 t) (iblk m c 27 t) (iblk m c 9 t) (iblk m c 18 t)
    | ⟨37, _⟩ => delta (S := S1x1024) (iblk m c 1 t) (iblk m c 28 t) (iblk m c 10 t) (iblk m c 19 t)
    | ⟨38, _⟩ => delta (S := S1x1024) (iblk m c 2 t) (iblk m c 29 t) (iblk m c 11 t) (iblk m c 20 t)
    | ⟨39, _⟩ => delta (S := S1x512) (iblk m c 3 t) (iblk m c 30 t) (iblk m c 12 t) (iblk m c 21 t)
    | ⟨40, _⟩ => delta (S := S1x64) (iblk m c 4 t) (iblk m c 31 t) (iblk m c 13 t) (iblk m c 22 t)
    | ⟨41, _⟩ => delta (S := S1x64) (iblk m c 5 t) (iblk m c 32 t) (iblk m c 14 t) (iblk m c 23 t)
    | ⟨42, _⟩ => delta (S := S1x8) (iblk m c 6 t) (iblk m c 33 t) (iblk m c 15 t) (iblk m c 24 t)
    | ⟨43, _⟩ => delta (S := S32x8) (iblk m c 7 t) (iblk m c 34 t) (iblk m c 16 t) (iblk m c 25 t)
    | ⟨44, _⟩ => delta (S := S1x4x128x128) (iblk m c 8 t) (iblk m c 35 t) (iblk m c 17 t) (iblk m c 26 t)
    | ⟨45, _⟩ => newM (S := S1x1024) (iblk m c 27 t) (iblk m c 9 t)
    | ⟨46, _⟩ => newM (S := S1x1024) (iblk m c 28 t) (iblk m c 10 t)
    | ⟨47, _⟩ => newM (S := S1x1024) (iblk m c 29 t) (iblk m c 11 t)
    | ⟨48, _⟩ => newM (S := S1x512) (iblk m c 30 t) (iblk m c 12 t)
    | ⟨49, _⟩ => newM (S := S1x64) (iblk m c 31 t) (iblk m c 13 t)
    | ⟨50, _⟩ => newM (S := S1x64) (iblk m c 32 t) (iblk m c 14 t)
    | ⟨51, _⟩ => newM (S := S1x8) (iblk m c 33 t) (iblk m c 15 t)
    | ⟨52, _⟩ => newM (S := S32x8) (iblk m c 34 t) (iblk m c 16 t)
    | ⟨53, _⟩ => newM (S := S1x4x128x128) (iblk m c 35 t) (iblk m c 17 t)
    | ⟨54, _⟩ => newV (S := S1x1024) (iblk m c 27 t) (iblk m c 18 t)
    | ⟨55, _⟩ => newV (S := S1x1024) (iblk m c 28 t) (iblk m c 19 t)
    | ⟨56, _⟩ => newV (S := S1x1024) (iblk m c 29 t) (iblk m c 20 t)
    | ⟨57, _⟩ => newV (S := S1x512) (iblk m c 30 t) (iblk m c 21 t)
    | ⟨58, _⟩ => newV (S := S1x64) (iblk m c 31 t) (iblk m c 22 t)
    | ⟨59, _⟩ => newV (S := S1x64) (iblk m c 32 t) (iblk m c 23 t)
    | ⟨60, _⟩ => newV (S := S1x8) (iblk m c 33 t) (iblk m c 24 t)
    | ⟨61, _⟩ => newV (S := S32x8) (iblk m c 34 t) (iblk m c 25 t)
    | ⟨62, _⟩ => newV (S := S1x4x128x128) (iblk m c 35 t) (iblk m c 26 t)
    | ⟨_ + 63, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- The call has one point. -/
theorem one_point (t t' : Fin cfg0.N) : t = t' :=
  Fin.ext (by have h := t.isLt; have h' := t'.isLt; change _ < 1 at h; change _ < 1 at h'; omega)

/-- An input's buffer holds its block before the body. -/
theorem fetched_in (c : Dev nD) (w : Fin cfg0.W) (t : Fin cfg0.N) (d) (hw : (cfg0.win w).isOut = false)
    (hk : ∀ t, (cfg0.win w).cut (cfg0.grid.coords t) ((dats m 0 c).after w t) = (dats m 0 c).blockOf w t) :
    (dats m 0 c).before w t d = (dats m 0 c).fetched w t d :=
  (dats m 0 c).before_in_eq_fetched w hw (fun _ => rfl) (fun t t' _ => by rw [one_point t t']) hk t d

variable (c : Dev nD) (t : Fin cfg0.N)
set_option maxHeartbeats 4000000 in
/-- So every input's buffer holds its block. -/
theorem before : (∀ d, (dats m 0 c).before 0 t d = iblk m c 0 t) ∧ (∀ d, (dats m 0 c).before 1 t d = iblk m c 1 t) ∧
    (∀ d, (dats m 0 c).before 2 t d = iblk m c 2 t) ∧ (∀ d, (dats m 0 c).before 3 t d = iblk m c 3 t) ∧
    (∀ d, (dats m 0 c).before 4 t d = iblk m c 4 t) ∧ (∀ d, (dats m 0 c).before 5 t d = iblk m c 5 t) ∧
    (∀ d, (dats m 0 c).before 6 t d = iblk m c 6 t) ∧ (∀ d, (dats m 0 c).before 7 t d = iblk m c 7 t) ∧
    (∀ d, (dats m 0 c).before 8 t d = iblk m c 8 t) ∧ (∀ d, (dats m 0 c).before 9 t d = iblk m c 9 t) ∧
    (∀ d, (dats m 0 c).before 10 t d = iblk m c 10 t) ∧ (∀ d, (dats m 0 c).before 11 t d = iblk m c 11 t) ∧
    (∀ d, (dats m 0 c).before 12 t d = iblk m c 12 t) ∧ (∀ d, (dats m 0 c).before 13 t d = iblk m c 13 t) ∧
    (∀ d, (dats m 0 c).before 14 t d = iblk m c 14 t) ∧ (∀ d, (dats m 0 c).before 15 t d = iblk m c 15 t) ∧
    (∀ d, (dats m 0 c).before 16 t d = iblk m c 16 t) ∧ (∀ d, (dats m 0 c).before 17 t d = iblk m c 17 t) ∧
    (∀ d, (dats m 0 c).before 18 t d = iblk m c 18 t) ∧ (∀ d, (dats m 0 c).before 19 t d = iblk m c 19 t) ∧
    (∀ d, (dats m 0 c).before 20 t d = iblk m c 20 t) ∧ (∀ d, (dats m 0 c).before 21 t d = iblk m c 21 t) ∧
    (∀ d, (dats m 0 c).before 22 t d = iblk m c 22 t) ∧ (∀ d, (dats m 0 c).before 23 t d = iblk m c 23 t) ∧
    (∀ d, (dats m 0 c).before 24 t d = iblk m c 24 t) ∧ (∀ d, (dats m 0 c).before 25 t d = iblk m c 25 t) ∧
    (∀ d, (dats m 0 c).before 26 t d = iblk m c 26 t) ∧ (∀ d, (dats m 0 c).before 27 t d = iblk m c 27 t) ∧
    (∀ d, (dats m 0 c).before 28 t d = iblk m c 28 t) ∧ (∀ d, (dats m 0 c).before 29 t d = iblk m c 29 t) ∧
    (∀ d, (dats m 0 c).before 30 t d = iblk m c 30 t) ∧ (∀ d, (dats m 0 c).before 31 t d = iblk m c 31 t) ∧
    (∀ d, (dats m 0 c).before 32 t d = iblk m c 32 t) ∧ (∀ d, (dats m 0 c).before 33 t d = iblk m c 33 t) ∧
    (∀ d, (dats m 0 c).before 34 t d = iblk m c 34 t) ∧ (∀ d, (dats m 0 c).before 35 t d = iblk m c 35 t) := by
  and_intros <;> exact fun d => fetched_in m c _ t d rfl fun _ => by dsimp only [dats]; rfl

/-- What the body is called with, and what it returns, window by window. -/
def bodyPre : sProp 𝕄 :=
  iprop((dats m 0 c).Φ t.castSucc ∗ (dats m 0 c).owesAt () t.castSucc
    ∗ (∃ d, ⟪c, st0_0 t, (dats m 0 c).before 0 t d⟫) ∗ (∃ d, ⟪c, st0_1 t, (dats m 0 c).before 1 t d⟫) ∗
    (∃ d, ⟪c, st0_2 t, (dats m 0 c).before 2 t d⟫) ∗ (∃ d, ⟪c, st0_3 t, (dats m 0 c).before 3 t d⟫) ∗
    (∃ d, ⟪c, st0_4 t, (dats m 0 c).before 4 t d⟫) ∗ (∃ d, ⟪c, st0_5 t, (dats m 0 c).before 5 t d⟫) ∗
    (∃ d, ⟪c, st0_6 t, (dats m 0 c).before 6 t d⟫) ∗ (∃ d, ⟪c, st0_7 t, (dats m 0 c).before 7 t d⟫) ∗
    (∃ d, ⟪c, st0_8 t, (dats m 0 c).before 8 t d⟫) ∗ (∃ d, ⟪c, st0_9 t, (dats m 0 c).before 9 t d⟫) ∗
    (∃ d, ⟪c, st0_10 t, (dats m 0 c).before 10 t d⟫) ∗ (∃ d, ⟪c, st0_11 t, (dats m 0 c).before 11 t d⟫) ∗
    (∃ d, ⟪c, st0_12 t, (dats m 0 c).before 12 t d⟫) ∗ (∃ d, ⟪c, st0_13 t, (dats m 0 c).before 13 t d⟫) ∗
    (∃ d, ⟪c, st0_14 t, (dats m 0 c).before 14 t d⟫) ∗ (∃ d, ⟪c, st0_15 t, (dats m 0 c).before 15 t d⟫) ∗
    (∃ d, ⟪c, st0_16 t, (dats m 0 c).before 16 t d⟫) ∗ (∃ d, ⟪c, st0_17 t, (dats m 0 c).before 17 t d⟫) ∗
    (∃ d, ⟪c, st0_18 t, (dats m 0 c).before 18 t d⟫) ∗ (∃ d, ⟪c, st0_19 t, (dats m 0 c).before 19 t d⟫) ∗
    (∃ d, ⟪c, st0_20 t, (dats m 0 c).before 20 t d⟫) ∗ (∃ d, ⟪c, st0_21 t, (dats m 0 c).before 21 t d⟫) ∗
    (∃ d, ⟪c, st0_22 t, (dats m 0 c).before 22 t d⟫) ∗ (∃ d, ⟪c, st0_23 t, (dats m 0 c).before 23 t d⟫) ∗
    (∃ d, ⟪c, st0_24 t, (dats m 0 c).before 24 t d⟫) ∗ (∃ d, ⟪c, st0_25 t, (dats m 0 c).before 25 t d⟫) ∗
    (∃ d, ⟪c, st0_26 t, (dats m 0 c).before 26 t d⟫) ∗ (∃ d, ⟪c, st0_27 t, (dats m 0 c).before 27 t d⟫) ∗
    (∃ d, ⟪c, st0_28 t, (dats m 0 c).before 28 t d⟫) ∗ (∃ d, ⟪c, st0_29 t, (dats m 0 c).before 29 t d⟫) ∗
    (∃ d, ⟪c, st0_30 t, (dats m 0 c).before 30 t d⟫) ∗ (∃ d, ⟪c, st0_31 t, (dats m 0 c).before 31 t d⟫) ∗
    (∃ d, ⟪c, st0_32 t, (dats m 0 c).before 32 t d⟫) ∗ (∃ d, ⟪c, st0_33 t, (dats m 0 c).before 33 t d⟫) ∗
    (∃ d, ⟪c, st0_34 t, (dats m 0 c).before 34 t d⟫) ∗ (∃ d, ⟪c, st0_35 t, (dats m 0 c).before 35 t d⟫) ∗
    (∃ d, ⟪c, st0_36 t, (dats m 0 c).before 36 t d⟫) ∗ (∃ d, ⟪c, st0_37 t, (dats m 0 c).before 37 t d⟫) ∗
    (∃ d, ⟪c, st0_38 t, (dats m 0 c).before 38 t d⟫) ∗ (∃ d, ⟪c, st0_39 t, (dats m 0 c).before 39 t d⟫) ∗
    (∃ d, ⟪c, st0_40 t, (dats m 0 c).before 40 t d⟫) ∗ (∃ d, ⟪c, st0_41 t, (dats m 0 c).before 41 t d⟫) ∗
    (∃ d, ⟪c, st0_42 t, (dats m 0 c).before 42 t d⟫) ∗ (∃ d, ⟪c, st0_43 t, (dats m 0 c).before 43 t d⟫) ∗
    (∃ d, ⟪c, st0_44 t, (dats m 0 c).before 44 t d⟫) ∗ (∃ d, ⟪c, st0_45 t, (dats m 0 c).before 45 t d⟫) ∗
    (∃ d, ⟪c, st0_46 t, (dats m 0 c).before 46 t d⟫) ∗ (∃ d, ⟪c, st0_47 t, (dats m 0 c).before 47 t d⟫) ∗
    (∃ d, ⟪c, st0_48 t, (dats m 0 c).before 48 t d⟫) ∗ (∃ d, ⟪c, st0_49 t, (dats m 0 c).before 49 t d⟫) ∗
    (∃ d, ⟪c, st0_50 t, (dats m 0 c).before 50 t d⟫) ∗ (∃ d, ⟪c, st0_51 t, (dats m 0 c).before 51 t d⟫) ∗
    (∃ d, ⟪c, st0_52 t, (dats m 0 c).before 52 t d⟫) ∗ (∃ d, ⟪c, st0_53 t, (dats m 0 c).before 53 t d⟫) ∗
    (∃ d, ⟪c, st0_54 t, (dats m 0 c).before 54 t d⟫) ∗ (∃ d, ⟪c, st0_55 t, (dats m 0 c).before 55 t d⟫) ∗
    (∃ d, ⟪c, st0_56 t, (dats m 0 c).before 56 t d⟫) ∗ (∃ d, ⟪c, st0_57 t, (dats m 0 c).before 57 t d⟫) ∗
    (∃ d, ⟪c, st0_58 t, (dats m 0 c).before 58 t d⟫) ∗ (∃ d, ⟪c, st0_59 t, (dats m 0 c).before 59 t d⟫) ∗
    (∃ d, ⟪c, st0_60 t, (dats m 0 c).before 60 t d⟫) ∗ (∃ d, ⟪c, st0_61 t, (dats m 0 c).before 61 t d⟫) ∗
    (∃ d, ⟪c, st0_62 t, (dats m 0 c).before 62 t d⟫))
def bodyPost : sProp 𝕄 :=
  iprop((dats m 0 c).Φ t.succ ∗ (dats m 0 c).owesAt () t.succ
    ∗ ⟪c, st0_0 t, (dats m 0 c).after 0 t⟫ ∗ ⟪c, st0_1 t, (dats m 0 c).after 1 t⟫ ∗ ⟪c, st0_2 t, (dats m 0 c).after 2 t⟫ ∗
    ⟪c, st0_3 t, (dats m 0 c).after 3 t⟫ ∗ ⟪c, st0_4 t, (dats m 0 c).after 4 t⟫ ∗ ⟪c, st0_5 t, (dats m 0 c).after 5 t⟫ ∗
    ⟪c, st0_6 t, (dats m 0 c).after 6 t⟫ ∗ ⟪c, st0_7 t, (dats m 0 c).after 7 t⟫ ∗ ⟪c, st0_8 t, (dats m 0 c).after 8 t⟫ ∗
    ⟪c, st0_9 t, (dats m 0 c).after 9 t⟫ ∗ ⟪c, st0_10 t, (dats m 0 c).after 10 t⟫ ∗ ⟪c, st0_11 t, (dats m 0 c).after 11 t⟫ ∗
    ⟪c, st0_12 t, (dats m 0 c).after 12 t⟫ ∗ ⟪c, st0_13 t, (dats m 0 c).after 13 t⟫ ∗ ⟪c, st0_14 t, (dats m 0 c).after 14 t⟫ ∗
    ⟪c, st0_15 t, (dats m 0 c).after 15 t⟫ ∗ ⟪c, st0_16 t, (dats m 0 c).after 16 t⟫ ∗ ⟪c, st0_17 t, (dats m 0 c).after 17 t⟫ ∗
    ⟪c, st0_18 t, (dats m 0 c).after 18 t⟫ ∗ ⟪c, st0_19 t, (dats m 0 c).after 19 t⟫ ∗ ⟪c, st0_20 t, (dats m 0 c).after 20 t⟫ ∗
    ⟪c, st0_21 t, (dats m 0 c).after 21 t⟫ ∗ ⟪c, st0_22 t, (dats m 0 c).after 22 t⟫ ∗ ⟪c, st0_23 t, (dats m 0 c).after 23 t⟫ ∗
    ⟪c, st0_24 t, (dats m 0 c).after 24 t⟫ ∗ ⟪c, st0_25 t, (dats m 0 c).after 25 t⟫ ∗ ⟪c, st0_26 t, (dats m 0 c).after 26 t⟫ ∗
    ⟪c, st0_27 t, (dats m 0 c).after 27 t⟫ ∗ ⟪c, st0_28 t, (dats m 0 c).after 28 t⟫ ∗ ⟪c, st0_29 t, (dats m 0 c).after 29 t⟫ ∗
    ⟪c, st0_30 t, (dats m 0 c).after 30 t⟫ ∗ ⟪c, st0_31 t, (dats m 0 c).after 31 t⟫ ∗ ⟪c, st0_32 t, (dats m 0 c).after 32 t⟫ ∗
    ⟪c, st0_33 t, (dats m 0 c).after 33 t⟫ ∗ ⟪c, st0_34 t, (dats m 0 c).after 34 t⟫ ∗ ⟪c, st0_35 t, (dats m 0 c).after 35 t⟫ ∗
    ⟪c, st0_36 t, (dats m 0 c).after 36 t⟫ ∗ ⟪c, st0_37 t, (dats m 0 c).after 37 t⟫ ∗ ⟪c, st0_38 t, (dats m 0 c).after 38 t⟫ ∗
    ⟪c, st0_39 t, (dats m 0 c).after 39 t⟫ ∗ ⟪c, st0_40 t, (dats m 0 c).after 40 t⟫ ∗ ⟪c, st0_41 t, (dats m 0 c).after 41 t⟫ ∗
    ⟪c, st0_42 t, (dats m 0 c).after 42 t⟫ ∗ ⟪c, st0_43 t, (dats m 0 c).after 43 t⟫ ∗ ⟪c, st0_44 t, (dats m 0 c).after 44 t⟫ ∗
    ⟪c, st0_45 t, (dats m 0 c).after 45 t⟫ ∗ ⟪c, st0_46 t, (dats m 0 c).after 46 t⟫ ∗ ⟪c, st0_47 t, (dats m 0 c).after 47 t⟫ ∗
    ⟪c, st0_48 t, (dats m 0 c).after 48 t⟫ ∗ ⟪c, st0_49 t, (dats m 0 c).after 49 t⟫ ∗ ⟪c, st0_50 t, (dats m 0 c).after 50 t⟫ ∗
    ⟪c, st0_51 t, (dats m 0 c).after 51 t⟫ ∗ ⟪c, st0_52 t, (dats m 0 c).after 52 t⟫ ∗ ⟪c, st0_53 t, (dats m 0 c).after 53 t⟫ ∗
    ⟪c, st0_54 t, (dats m 0 c).after 54 t⟫ ∗ ⟪c, st0_55 t, (dats m 0 c).after 55 t⟫ ∗ ⟪c, st0_56 t, (dats m 0 c).after 56 t⟫ ∗
    ⟪c, st0_57 t, (dats m 0 c).after 57 t⟫ ∗ ⟪c, st0_58 t, (dats m 0 c).after 58 t⟫ ∗ ⟪c, st0_59 t, (dats m 0 c).after 59 t⟫ ∗
    ⟪c, st0_60 t, (dats m 0 c).after 60 t⟫ ∗ ⟪c, st0_61 t, (dats m 0 c).after 61 t⟫ ∗ ⟪c, st0_62 t, (dats m 0 c).after 62 t⟫)

set_option maxHeartbeats 4000000 in
theorem sound_body :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  generalize (dats m 0 c).Φ t.castSucc = Φ
  generalize (dats m 0 c).owesAt () t.castSucc = O
  obtain ⟨b0, b1, b2, b3, b4, b5, b6, b7, b8, b9, b10, b11, b12, b13, b14, b15, b16, b17, b18, b19, b20, b21, b22, b23, b24, b25, b26,
    b27, b28, b29, b30, b31, b32, b33, b34, b35⟩ := before m c t
  simp only [b0, b1, b2, b3, b4, b5, b6, b7, b8, b9, b10, b11, b12, b13, b14, b15, b16, b17, b18, b19, b20, b21, b22, b23, b24, b25, b26,
    b27, b28, b29, b30, b31, b32, b33, b34, b35]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩,
    ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩,
    ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩,
    ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩,
    ⟨%d56, H56⟩, ⟨%d57, H57⟩, ⟨%d58, H58⟩, ⟨%d59, H59⟩, ⟨%d60, H60⟩, ⟨%d61, H61⟩, ⟨%d62, H62⟩⟩
  iapply (sound_kernel c (iblk m c 0 t) (iblk m c 1 t) (iblk m c 2 t) (iblk m c 9 t) (iblk m c 10 t) (iblk m c 11 t) (iblk m c 18 t) (iblk m c 19 t)
    (iblk m c 20 t) (iblk m c 27 t) (iblk m c 28 t) (iblk m c 29 t) (iblk m c 3 t) (iblk m c 12 t) (iblk m c 21 t)
    (iblk m c 30 t) (iblk m c 4 t) (iblk m c 5 t) (iblk m c 13 t) (iblk m c 14 t) (iblk m c 22 t) (iblk m c 23 t)
    (iblk m c 31 t) (iblk m c 32 t) (iblk m c 6 t) (iblk m c 15 t) (iblk m c 24 t) (iblk m c 33 t) (iblk m c 7 t)
    (iblk m c 16 t) (iblk m c 25 t) (iblk m c 34 t) (iblk m c 8 t) (iblk m c 17 t) (iblk m c 26 t) (iblk m c 35 t) _)
  iframe H0 H1 H2 H3 H4 H5 H6 H7 H8 H9 H10 H11 H12 H13 H14 H15 H16 H17 H18 H19 H20 H21 H22 H23 H24 H25 H26 H27 H28 H29 H30 H31 H32 H33 H34
    H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  iintro H
  iframe HΦ Ho H

theorem defs₀_row : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with every window's array at what the body left and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as it was launched. -/
theorem kept {r : PUnit × MemSt nD τ sig (Elt F)} (h : Pipeline.FramePost cfgs (dats m) 0 (V m) r) (c : Dev nD) (w : Fin cfg0.W)
    (hw : (cfg0.win w).isOut = false) : r.2.mem ((c : Thread nD τ).loc (Pipeline.arrRef spec0 w)) = V m c (Pipeline.arrRef spec0 w) :=
  ((h c).1 w).trans (((dats m 0 c).arrAt_in w hw _).trans (A_eq m c w))

/-- An argument array is as it was launched. -/
abbrev Same (r : PUnit × MemSt nD τ sig (Elt F)) (c : Dev nD) (b : Ref sig .tc) : Prop :=
  r.2.mem ((c.tc : Thread nD τ).loc b) = m ((c.tc : Thread nD τ).loc b)

set_option maxHeartbeats 4000000 in
/-- The call terminates without a fault, leaves its arguments alone and its semaphores at zero. -/
theorem frame : θ_run defs (onTc (τ := τ) (main (F := F))) ⟨m, fun _ => 0, ρ⟩ (fun r => (∀ c : Dev nD,
      Same m r c main_arg0 ∧ Same m r c main_arg1 ∧ Same m r c main_arg2 ∧ Same m r c main_arg3 ∧ Same m r c main_arg4 ∧
      Same m r c main_arg5 ∧ Same m r c main_arg6 ∧ Same m r c main_arg7 ∧ Same m r c main_arg8 ∧ Same m r c main_arg9 ∧
      Same m r c main_arg10 ∧ Same m r c main_arg11 ∧ Same m r c main_arg12 ∧ Same m r c main_arg13 ∧ Same m r c main_arg14 ∧
      Same m r c main_arg15 ∧ Same m r c main_arg16 ∧ Same m r c main_arg17 ∧ Same m r c main_arg18 ∧ Same m r c main_arg19 ∧
      Same m r c main_arg20 ∧ Same m r c main_arg21 ∧ Same m r c main_arg22 ∧ Same m r c main_arg23 ∧ Same m r c main_arg24 ∧
      Same m r c main_arg25 ∧ Same m r c main_arg26 ∧ Same m r c main_arg27 ∧ Same m r c main_arg28 ∧ Same m r c main_arg29 ∧
      Same m r c main_arg30 ∧ Same m r c main_arg31 ∧ Same m r c main_arg32 ∧ Same m r c main_arg33 ∧ Same m r c main_arg34 ∧
      Same m r c main_arg35)
      ∧ r.2.sem = fun _ => 0) :=
  (θ_run defs _ _).mono (fun _ h => ⟨fun c => ⟨kept m h.1 c 0 rfl, kept m h.1 c 1 rfl, kept m h.1 c 2 rfl, kept m h.1 c 3 rfl, kept m h.1 c 4 rfl, kept m h.1 c 5 rfl,
    kept m h.1 c 6 rfl, kept m h.1 c 7 rfl, kept m h.1 c 8 rfl, kept m h.1 c 27 rfl, kept m h.1 c 28 rfl, kept m h.1 c 29 rfl,
    kept m h.1 c 30 rfl, kept m h.1 c 31 rfl, kept m h.1 c 32 rfl, kept m h.1 c 33 rfl, kept m h.1 c 34 rfl,
    kept m h.1 c 35 rfl, kept m h.1 c 9 rfl, kept m h.1 c 10 rfl, kept m h.1 c 11 rfl, kept m h.1 c 12 rfl,
    kept m h.1 c 13 rfl, kept m h.1 c 14 rfl, kept m h.1 c 15 rfl, kept m h.1 c 16 rfl, kept m h.1 c 17 rfl,
    kept m h.1 c 18 rfl, kept m h.1 c 19 rfl, kept m h.1 c 20 rfl, kept m h.1 c 21 rfl, kept m h.1 c 22 rfl,
    kept m h.1 c 23 rfl, kept m h.1 c 24 rfl, kept m h.1 c 25 rfl, kept m h.1 c 26 rfl⟩,
    h.2⟩) (run_main m ρ)

end Cert.AdamwSmallIdeal.Body
end
-- ==== Proof.AdamwSmallValue.lean ====
module
public import proofs.«01_k».proof.Defs
public import proofs.«01_k».proof.Proof.Gen.AdamwSmall
public import proofs.«01_k».proof.Proof.AdamwSmallIdealFrame
public import proofs.«01_k».proof.Proof.Gen.AdamwSmallRefIdeal.Run

/-! The optimiser's call for the nine small weights: its 27 results are the reference's, weight by weight.  Every block is a whole
array, so the results are the formulas of `AdamwSmallIdealFrame` at the argument arrays. -/

@[expose] public section
set_option maxRecDepth 16384
noncomputable section

namespace Cert.AdamwSmallIdeal.Body
open Cert.AdamwSmallIdeal Cert.AdamwSmallIdeal.Gen
open Idealize.ShloMosaic Idealize.ShloMosaic.TcCoe Idealize.SL.Sem
open Idealize.ShloMosaic.Pipeline (Dat Cfg Window)

variable {F : FTy → Type} [FloatOps F] (m : (ℓ : Loc nD τ sig) → Buf (Elt F) ℓ)

/-- Without a grid every block starts at index zero. -/
theorem index_zero (w : Fin cfg0.W) (t : Fin cfg0.N) (a) : (cfg0.win w).index t a = 0 :=
  ((cfg0.win w).whole_of_rank_zero rfl).2 _ a

/-- So an index of a block is the same index of the array. -/
theorem emb_eq {S : Shape} (e j : S.Idx) (ix : Fin S.rank → ℕ) (h0 : ∀ a, ix a = 0)
    (h : ∀ a, (e a).val = ix a * S.size a + 1 * (j a).val) : e = j :=
  funext fun a => Fin.ext ((h a).trans (by rw [h0 a]; omega))

/-- So a block read off its array is the array. -/
theorem rd (S : Shape) (X : S.Idx → Elt F .f32) {e : S.Idx → S.Idx} {ix : Fin S.rank → ℕ} (h0 : ∀ a, ix a = 0)
    (h : ∀ j a, (e j a).val = ix a * S.size a + 1 * (j a).val) : (fun j => X (e j)) = X :=
  funext fun j => congrArg X (emb_eq _ j _ h0 (h j))

/-- So if an output's block is `G`, it is what its indices read of the array `G`, and they cover the array: what follows from the two
follows from the first. -/
theorem whole {S : Shape} {G : S.Idx → Elt F .f32} {A : Fin cfg0.N → S.Idx → Elt F .f32} {P : Prop} {ix : Fin cfg0.N → Fin S.rank → ℕ}
    (e : Fin cfg0.N → S.Idx → S.Idx) (h0 : ∀ t a, ix t a = 0) (h : ∀ t j a, (e t j a).val = ix t a * S.size a + 1 * (j a).val)
    (hA : ∀ t, A t = G) (hP : (∀ t, A t = fun j => G (e t j)) → (∀ t i, ∃ j, e t j = i) → P) : P :=
  hP (fun t => (hA t).trans (rd S G (h0 t) (h t)).symm) fun t i => ⟨i, emb_eq _ i _ (h0 t) (h t i)⟩

/-- The one point. -/
abbrev t0 : Fin cfg0.N := ⟨0, by decide⟩

/-- An output's array ends at `X`, if `X` is what the body leaves and the block's indices are the array's. -/
theorem ends (c : Dev nD) (w : Fin cfg0.W) (hf : ∀ t, (cfg0.win w).flush t = true)
    (X : Buf (Elt F) ((cfg0.win w).arr.view.loc (c.tc : Thread nD τ)))
    (hX : ∀ t, (cfg0.win w).cut (cfg0.grid.coords t) ((dats m 0 c).after w t) = ((cfg0.win w).blk t).view.read (Elt F) X)
    (hi : ∀ t i, ∃ j, ((cfg0.win w).blk t).view.emb j = i) : (dats m 0 c).arrAt w cfg0.N = X :=
  (dats m 0 c).arrAt_eq_of_cover w X
    (fun t _ => hX t)
    (fun i => ⟨t0, hf t0, by obtain ⟨j, rfl⟩ := hi t0 i; exact ((cfg0.win w).blk t0).view.emb_mem_set j⟩)

section
variable {S : Shape} {w w' g g' n n' v v' : Vec F S .f32}
theorem newM_congr (hg : g = g') (hn : n = n') : newM g n = newM g' n' := by rw [hg, hn]
theorem newV_congr (hg : g = g') (hv : v = v') : newV g v = newV g' v' := by rw [hg, hv]
theorem delta_congr (hw : w = w') (hg : g = g') (hn : n = n') (hv : v = v') : delta w g n v = delta w' g' n' v' := by
  rw [hw, hg, hn, hv]
end

variable (c : Dev nD) (t : Fin cfg0.N)
/-- Each input's block is its array. -/
theorem in0 : iblk m c 0 t = V m c main_arg0 := rd S1x1024 (V m c main_arg0) (index_zero 0 t) fun _ _ => rfl
theorem in1 : iblk m c 1 t = V m c main_arg1 := rd S1x1024 (V m c main_arg1) (index_zero 1 t) fun _ _ => rfl
theorem in2 : iblk m c 2 t = V m c main_arg2 := rd S1x1024 (V m c main_arg2) (index_zero 2 t) fun _ _ => rfl
theorem in3 : iblk m c 3 t = V m c main_arg3 := rd S1x512 (V m c main_arg3) (index_zero 3 t) fun _ _ => rfl
theorem in4 : iblk m c 4 t = V m c main_arg4 := rd S1x64 (V m c main_arg4) (index_zero 4 t) fun _ _ => rfl
theorem in5 : iblk m c 5 t = V m c main_arg5 := rd S1x64 (V m c main_arg5) (index_zero 5 t) fun _ _ => rfl
theorem in6 : iblk m c 6 t = V m c main_arg6 := rd S1x8 (V m c main_arg6) (index_zero 6 t) fun _ _ => rfl
theorem in7 : iblk m c 7 t = V m c main_arg7 := rd S32x8 (V m c main_arg7) (index_zero 7 t) fun _ _ => rfl
theorem in8 : iblk m c 8 t = V m c main_arg8 := rd S1x4x128x128 (V m c main_arg8) (index_zero 8 t) fun _ _ => rfl
theorem in9 : iblk m c 9 t = V m c main_arg18 := rd S1x1024 (V m c main_arg18) (index_zero 9 t) fun _ _ => rfl
theorem in10 : iblk m c 10 t = V m c main_arg19 := rd S1x1024 (V m c main_arg19) (index_zero 10 t) fun _ _ => rfl
theorem in11 : iblk m c 11 t = V m c main_arg20 := rd S1x1024 (V m c main_arg20) (index_zero 11 t) fun _ _ => rfl
theorem in12 : iblk m c 12 t = V m c main_arg21 := rd S1x512 (V m c main_arg21) (index_zero 12 t) fun _ _ => rfl
theorem in13 : iblk m c 13 t = V m c main_arg22 := rd S1x64 (V m c main_arg22) (index_zero 13 t) fun _ _ => rfl
theorem in14 : iblk m c 14 t = V m c main_arg23 := rd S1x64 (V m c main_arg23) (index_zero 14 t) fun _ _ => rfl
theorem in15 : iblk m c 15 t = V m c main_arg24 := rd S1x8 (V m c main_arg24) (index_zero 15 t) fun _ _ => rfl
theorem in16 : iblk m c 16 t = V m c main_arg25 := rd S32x8 (V m c main_arg25) (index_zero 16 t) fun _ _ => rfl
theorem in17 : iblk m c 17 t = V m c main_arg26 := rd S1x4x128x128 (V m c main_arg26) (index_zero 17 t) fun _ _ => rfl
theorem in18 : iblk m c 18 t = V m c main_arg27 := rd S1x1024 (V m c main_arg27) (index_zero 18 t) fun _ _ => rfl
theorem in19 : iblk m c 19 t = V m c main_arg28 := rd S1x1024 (V m c main_arg28) (index_zero 19 t) fun _ _ => rfl
theorem in20 : iblk m c 20 t = V m c main_arg29 := rd S1x1024 (V m c main_arg29) (index_zero 20 t) fun _ _ => rfl
theorem in21 : iblk m c 21 t = V m c main_arg30 := rd S1x512 (V m c main_arg30) (index_zero 21 t) fun _ _ => rfl
theorem in22 : iblk m c 22 t = V m c main_arg31 := rd S1x64 (V m c main_arg31) (index_zero 22 t) fun _ _ => rfl
theorem in23 : iblk m c 23 t = V m c main_arg32 := rd S1x64 (V m c main_arg32) (index_zero 23 t) fun _ _ => rfl
theorem in24 : iblk m c 24 t = V m c main_arg33 := rd S1x8 (V m c main_arg33) (index_zero 24 t) fun _ _ => rfl
theorem in25 : iblk m c 25 t = V m c main_arg34 := rd S32x8 (V m c main_arg34) (index_zero 25 t) fun _ _ => rfl
theorem in26 : iblk m c 26 t = V m c main_arg35 := rd S1x4x128x128 (V m c main_arg35) (index_zero 26 t) fun _ _ => rfl
theorem in27 : iblk m c 27 t = V m c main_arg9 := rd S1x1024 (V m c main_arg9) (index_zero 27 t) fun _ _ => rfl
theorem in28 : iblk m c 28 t = V m c main_arg10 := rd S1x1024 (V m c main_arg10) (index_zero 28 t) fun _ _ => rfl
theorem in29 : iblk m c 29 t = V m c main_arg11 := rd S1x1024 (V m c main_arg11) (index_zero 29 t) fun _ _ => rfl
theorem in30 : iblk m c 30 t = V m c main_arg12 := rd S1x512 (V m c main_arg12) (index_zero 30 t) fun _ _ => rfl
theorem in31 : iblk m c 31 t = V m c main_arg13 := rd S1x64 (V m c main_arg13) (index_zero 31 t) fun _ _ => rfl
theorem in32 : iblk m c 32 t = V m c main_arg14 := rd S1x64 (V m c main_arg14) (index_zero 32 t) fun _ _ => rfl
theorem in33 : iblk m c 33 t = V m c main_arg15 := rd S1x8 (V m c main_arg15) (index_zero 33 t) fun _ _ => rfl
theorem in34 : iblk m c 34 t = V m c main_arg16 := rd S32x8 (V m c main_arg16) (index_zero 34 t) fun _ _ => rfl
theorem in35 : iblk m c 35 t = V m c main_arg17 := rd S1x4x128x128 (V m c main_arg17) (index_zero 35 t) fun _ _ => rfl

local notation "⟦" a "⟧" => V m c a
/-- Each output's array after the call. -/
abbrev G36 : Vec F S1x1024 .f32 := delta (S := S1x1024) ⟦main_arg0⟧ ⟦main_arg9⟧ ⟦main_arg18⟧ ⟦main_arg27⟧
theorem final36 : (dats m 0 c).arrAt 36 cfg0.N = G36 m c :=
  whole (S := S1x1024) (G := G36 m c) (A := (dats m 0 c).after 36) (fun t => ((cfg0.win 36).blk t).view.emb) (index_zero 36) (fun _ _ _ => rfl) (fun t => delta_congr (in0 m c t) (in27 m c t) (in9 m c t) (in18 m c t))
    (ends m c 36 flush0_36 (G36 m c))
abbrev G37 : Vec F S1x1024 .f32 := delta (S := S1x1024) ⟦main_arg1⟧ ⟦main_arg10⟧ ⟦main_arg19⟧ ⟦main_arg28⟧
theorem final37 : (dats m 0 c).arrAt 37 cfg0.N = G37 m c :=
  whole (S := S1x1024) (G := G37 m c) (A := (dats m 0 c).after 37) (fun t => ((cfg0.win 37).blk t).view.emb) (index_zero 37) (fun _ _ _ => rfl) (fun t => delta_congr (in1 m c t) (in28 m c t) (in10 m c t) (in19 m c t))
    (ends m c 37 flush0_37 (G37 m c))
abbrev G38 : Vec F S1x1024 .f32 := delta (S := S1x1024) ⟦main_arg2⟧ ⟦main_arg11⟧ ⟦main_arg20⟧ ⟦main_arg29⟧
theorem final38 : (dats m 0 c).arrAt 38 cfg0.N = G38 m c :=
  whole (S := S1x1024) (G := G38 m c) (A := (dats m 0 c).after 38) (fun t => ((cfg0.win 38).blk t).view.emb) (index_zero 38) (fun _ _ _ => rfl) (fun t => delta_congr (in2 m c t) (in29 m c t) (in11 m c t) (in20 m c t))
    (ends m c 38 flush0_38 (G38 m c))
abbrev G39 : Vec F S1x512 .f32 := delta (S := S1x512) ⟦main_arg3⟧ ⟦main_arg12⟧ ⟦main_arg21⟧ ⟦main_arg30⟧
theorem final39 : (dats m 0 c).arrAt 39 cfg0.N = G39 m c :=
  whole (S := S1x512) (G := G39 m c) (A := (dats m 0 c).after 39) (fun t => ((cfg0.win 39).blk t).view.emb) (index_zero 39) (fun _ _ _ => rfl) (fun t => delta_congr (in3 m c t) (in30 m c t) (in12 m c t) (in21 m c t))
    (ends m c 39 flush0_39 (G39 m c))
abbrev G40 : Vec F S1x64 .f32 := delta (S := S1x64) ⟦main_arg4⟧ ⟦main_arg13⟧ ⟦main_arg22⟧ ⟦main_arg31⟧
theorem final40 : (dats m 0 c).arrAt 40 cfg0.N = G40 m c :=
  whole (S := S1x64) (G := G40 m c) (A := (dats m 0 c).after 40) (fun t => ((cfg0.win 40).blk t).view.emb) (index_zero 40) (fun _ _ _ => rfl) (fun t => delta_congr (in4 m c t) (in31 m c t) (in13 m c t) (in22 m c t))
    (ends m c 40 flush0_40 (G40 m c))
abbrev G41 : Vec F S1x64 .f32 := delta (S := S1x64) ⟦main_arg5⟧ ⟦main_arg14⟧ ⟦main_arg23⟧ ⟦main_arg32⟧
theorem final41 : (dats m 0 c).arrAt 41 cfg0.N = G41 m c :=
  whole (S := S1x64) (G := G41 m c) (A := (dats m 0 c).after 41) (fun t => ((cfg0.win 41).blk t).view.emb) (index_zero 41) (fun _ _ _ => rfl) (fun t => delta_congr (in5 m c t) (in32 m c t) (in14 m c t) (in23 m c t))
    (ends m c 41 flush0_41 (G41 m c))
abbrev G42 : Vec F S1x8 .f32 := delta (S := S1x8) ⟦main_arg6⟧ ⟦main_arg15⟧ ⟦main_arg24⟧ ⟦main_arg33⟧
theorem final42 : (dats m 0 c).arrAt 42 cfg0.N = G42 m c :=
  whole (S := S1x8) (G := G42 m c) (A := (dats m 0 c).after 42) (fun t => ((cfg0.win 42).blk t).view.emb) (index_zero 42) (fun _ _ _ => rfl) (fun t => delta_congr (in6 m c t) (in33 m c t) (in15 m c t) (in24 m c t))
    (ends m c 42 flush0_42 (G42 m c))
abbrev G43 : Vec F S32x8 .f32 := delta (S := S32x8) ⟦main_arg7⟧ ⟦main_arg16⟧ ⟦main_arg25⟧ ⟦main_arg34⟧
theorem final43 : (dats m 0 c).arrAt 43 cfg0.N = G43 m c :=
  whole (S := S32x8) (G := G43 m c) (A := (dats m 0 c).after 43) (fun t => ((cfg0.win 43).blk t).view.emb) (index_zero 43) (fun _ _ _ => rfl) (fun t => delta_congr (in7 m c t) (in34 m c t) (in16 m c t) (in25 m c t))
    (ends m c 43 flush0_43 (G43 m c))
abbrev G44 : Vec F S1x4x128x128 .f32 := delta (S := S1x4x128x128) ⟦main_arg8⟧ ⟦main_arg17⟧ ⟦main_arg26⟧ ⟦main_arg35⟧
theorem final44 : (dats m 0 c).arrAt 44 cfg0.N = G44 m c :=
  whole (S := S1x4x128x128) (G := G44 m c) (A := (dats m 0 c).after 44) (fun t => ((cfg0.win 44).blk t).view.emb) (index_zero 44) (fun _ _ _ => rfl) (fun t => delta_congr (in8 m c t) (in35 m c t) (in17 m c t) (in26 m c t))
    (ends m c 44 flush0_44 (G44 m c))
abbrev G45 : Vec F S1x1024 .f32 := newM (S := S1x1024) ⟦main_arg9⟧ ⟦main_arg18⟧
theorem final45 : (dats m 0 c).arrAt 45 cfg0.N = G45 m c :=
  whole (S := S1x1024) (G := G45 m c) (A := (dats m 0 c).after 45) (fun t => ((cfg0.win 45).blk t).view.emb) (index_zero 45) (fun _ _ _ => rfl) (fun t => newM_congr (in27 m c t) (in9 m c t))
    (ends m c 45 flush0_45 (G45 m c))
abbrev G46 : Vec F S1x1024 .f32 := newM (S := S1x1024) ⟦main_arg10⟧ ⟦main_arg19⟧
theorem final46 : (dats m 0 c).arrAt 46 cfg0.N = G46 m c :=
  whole (S := S1x1024) (G := G46 m c) (A := (dats m 0 c).after 46) (fun t => ((cfg0.win 46).blk t).view.emb) (index_zero 46) (fun _ _ _ => rfl) (fun t => newM_congr (in28 m c t) (in10 m c t))
    (ends m c 46 flush0_46 (G46 m c))
abbrev G47 : Vec F S1x1024 .f32 := newM (S := S1x1024) ⟦main_arg11⟧ ⟦main_arg20⟧
theorem final47 : (dats m 0 c).arrAt 47 cfg0.N = G47 m c :=
  whole (S := S1x1024) (G := G47 m c) (A := (dats m 0 c).after 47) (fun t => ((cfg0.win 47).blk t).view.emb) (index_zero 47) (fun _ _ _ => rfl) (fun t => newM_congr (in29 m c t) (in11 m c t))
    (ends m c 47 flush0_47 (G47 m c))
abbrev G48 : Vec F S1x512 .f32 := newM (S := S1x512) ⟦main_arg12⟧ ⟦main_arg21⟧
theorem final48 : (dats m 0 c).arrAt 48 cfg0.N = G48 m c :=
  whole (S := S1x512) (G := G48 m c) (A := (dats m 0 c).after 48) (fun t => ((cfg0.win 48).blk t).view.emb) (index_zero 48) (fun _ _ _ => rfl) (fun t => newM_congr (in30 m c t) (in12 m c t))
    (ends m c 48 flush0_48 (G48 m c))
abbrev G49 : Vec F S1x64 .f32 := newM (S := S1x64) ⟦main_arg13⟧ ⟦main_arg22⟧
theorem final49 : (dats m 0 c).arrAt 49 cfg0.N = G49 m c :=
  whole (S := S1x64) (G := G49 m c) (A := (dats m 0 c).after 49) (fun t => ((cfg0.win 49).blk t).view.emb) (index_zero 49) (fun _ _ _ => rfl) (fun t => newM_congr (in31 m c t) (in13 m c t))
    (ends m c 49 flush0_49 (G49 m c))
abbrev G50 : Vec F S1x64 .f32 := newM (S := S1x64) ⟦main_arg14⟧ ⟦main_arg23⟧
theorem final50 : (dats m 0 c).arrAt 50 cfg0.N = G50 m c :=
  whole (S := S1x64) (G := G50 m c) (A := (dats m 0 c).after 50) (fun t => ((cfg0.win 50).blk t).view.emb) (index_zero 50) (fun _ _ _ => rfl) (fun t => newM_congr (in32 m c t) (in14 m c t))
    (ends m c 50 flush0_50 (G50 m c))
abbrev G51 : Vec F S1x8 .f32 := newM (S := S1x8) ⟦main_arg15⟧ ⟦main_arg24⟧
theorem final51 : (dats m 0 c).arrAt 51 cfg0.N = G51 m c :=
  whole (S := S1x8) (G := G51 m c) (A := (dats m 0 c).after 51) (fun t => ((cfg0.win 51).blk t).view.emb) (index_zero 51) (fun _ _ _ => rfl) (fun t => newM_congr (in33 m c t) (in15 m c t))
    (ends m c 51 flush0_51 (G51 m c))
abbrev G52 : Vec F S32x8 .f32 := newM (S := S32x8) ⟦main_arg16⟧ ⟦main_arg25⟧
theorem final52 : (dats m 0 c).arrAt 52 cfg0.N = G52 m c :=
  whole (S := S32x8) (G := G52 m c) (A := (dats m 0 c).after 52) (fun t => ((cfg0.win 52).blk t).view.emb) (index_zero 52) (fun _ _ _ => rfl) (fun t => newM_congr (in34 m c t) (in16 m c t))
    (ends m c 52 flush0_52 (G52 m c))
abbrev G53 : Vec F S1x4x128x128 .f32 := newM (S := S1x4x128x128) ⟦main_arg17⟧ ⟦main_arg26⟧
theorem final53 : (dats m 0 c).arrAt 53 cfg0.N = G53 m c :=
  whole (S := S1x4x128x128) (G := G53 m c) (A := (dats m 0 c).after 53) (fun t => ((cfg0.win 53).blk t).view.emb) (index_zero 53) (fun _ _ _ => rfl) (fun t => newM_congr (in35 m c t) (in17 m c t))
    (ends m c 53 flush0_53 (G53 m c))
abbrev G54 : Vec F S1x1024 .f32 := newV (S := S1x1024) ⟦main_arg9⟧ ⟦main_arg27⟧
theorem final54 : (dats m 0 c).arrAt 54 cfg0.N = G54 m c :=
  whole (S := S1x1024) (G := G54 m c) (A := (dats m 0 c).after 54) (fun t => ((cfg0.win 54).blk t).view.emb) (index_zero 54) (fun _ _ _ => rfl) (fun t => newV_congr (in27 m c t) (in18 m c t))
    (ends m c 54 flush0_54 (G54 m c))
abbrev G55 : Vec F S1x1024 .f32 := newV (S := S1x1024) ⟦main_arg10⟧ ⟦main_arg28⟧
theorem final55 : (dats m 0 c).arrAt 55 cfg0.N = G55 m c :=
  whole (S := S1x1024) (G := G55 m c) (A := (dats m 0 c).after 55) (fun t => ((cfg0.win 55).blk t).view.emb) (index_zero 55) (fun _ _ _ => rfl) (fun t => newV_congr (in28 m c t) (in19 m c t))
    (ends m c 55 flush0_55 (G55 m c))
abbrev G56 : Vec F S1x1024 .f32 := newV (S := S1x1024) ⟦main_arg11⟧ ⟦main_arg29⟧
theorem final56 : (dats m 0 c).arrAt 56 cfg0.N = G56 m c :=
  whole (S := S1x1024) (G := G56 m c) (A := (dats m 0 c).after 56) (fun t => ((cfg0.win 56).blk t).view.emb) (index_zero 56) (fun _ _ _ => rfl) (fun t => newV_congr (in29 m c t) (in20 m c t))
    (ends m c 56 flush0_56 (G56 m c))
abbrev G57 : Vec F S1x512 .f32 := newV (S := S1x512) ⟦main_arg12⟧ ⟦main_arg30⟧
theorem final57 : (dats m 0 c).arrAt 57 cfg0.N = G57 m c :=
  whole (S := S1x512) (G := G57 m c) (A := (dats m 0 c).after 57) (fun t => ((cfg0.win 57).blk t).view.emb) (index_zero 57) (fun _ _ _ => rfl) (fun t => newV_congr (in30 m c t) (in21 m c t))
    (ends m c 57 flush0_57 (G57 m c))
abbrev G58 : Vec F S1x64 .f32 := newV (S := S1x64) ⟦main_arg13⟧ ⟦main_arg31⟧
theorem final58 : (dats m 0 c).arrAt 58 cfg0.N = G58 m c :=
  whole (S := S1x64) (G := G58 m c) (A := (dats m 0 c).after 58) (fun t => ((cfg0.win 58).blk t).view.emb) (index_zero 58) (fun _ _ _ => rfl) (fun t => newV_congr (in31 m c t) (in22 m c t))
    (ends m c 58 flush0_58 (G58 m c))
abbrev G59 : Vec F S1x64 .f32 := newV (S := S1x64) ⟦main_arg14⟧ ⟦main_arg32⟧
theorem final59 : (dats m 0 c).arrAt 59 cfg0.N = G59 m c :=
  whole (S := S1x64) (G := G59 m c) (A := (dats m 0 c).after 59) (fun t => ((cfg0.win 59).blk t).view.emb) (index_zero 59) (fun _ _ _ => rfl) (fun t => newV_congr (in32 m c t) (in23 m c t))
    (ends m c 59 flush0_59 (G59 m c))
abbrev G60 : Vec F S1x8 .f32 := newV (S := S1x8) ⟦main_arg15⟧ ⟦main_arg33⟧
theorem final60 : (dats m 0 c).arrAt 60 cfg0.N = G60 m c :=
  whole (S := S1x8) (G := G60 m c) (A := (dats m 0 c).after 60) (fun t => ((cfg0.win 60).blk t).view.emb) (index_zero 60) (fun _ _ _ => rfl) (fun t => newV_congr (in33 m c t) (in24 m c t))
    (ends m c 60 flush0_60 (G60 m c))
abbrev G61 : Vec F S32x8 .f32 := newV (S := S32x8) ⟦main_arg16⟧ ⟦main_arg34⟧
theorem final61 : (dats m 0 c).arrAt 61 cfg0.N = G61 m c :=
  whole (S := S32x8) (G := G61 m c) (A := (dats m 0 c).after 61) (fun t => ((cfg0.win 61).blk t).view.emb) (index_zero 61) (fun _ _ _ => rfl) (fun t => newV_congr (in34 m c t) (in25 m c t))
    (ends m c 61 flush0_61 (G61 m c))
abbrev G62 : Vec F S1x4x128x128 .f32 := newV (S := S1x4x128x128) ⟦main_arg17⟧ ⟦main_arg35⟧
theorem final62 : (dats m 0 c).arrAt 62 cfg0.N = G62 m c :=
  whole (S := S1x4x128x128) (G := G62 m c) (A := (dats m 0 c).after 62) (fun t => ((cfg0.win 62).blk t).view.emb) (index_zero 62) (fun _ _ _ => rfl) (fun t => newV_congr (in35 m c t) (in26 m c t))
    (ends m c 62 flush0_62 (G62 m c))
end Cert.AdamwSmallIdeal.Body

namespace Cert.AdamwSmallValue
open Idealize.ShloMosaic Idealize.ShloMosaic.TcCoe Idealize.SL.Sem Cert.AdamwSmallIdeal.Body

section reference
variable {S : Shape} (h : Cert.AdamwSmallRefIdeal.S_.BroadcastsInDim S ![]) {w w' g g' n n' v v' : Vec Ideal S .f32}

/-- A constant of the reference, at every index. -/
abbrev rcon (b : BitVec 32) : FVec Ideal S .f32 := broadcastInDim S ![] h (constant Cert.AdamwSmallRefIdeal.S_ .f32 b)
abbrev rM (g n : Vec Ideal S .f32) : FVec Ideal S .f32 := addf (mulf (rcon h 0x3F666666#32) n) (mulf (rcon h 0x3DCCCCCD#32) g)
abbrev rV (g v : Vec Ideal S .f32) : FVec Ideal S .f32 :=
  addf (mulf (rcon h 0x3F7FBE77#32) v) (mulf (rcon h 0x3A83126F#32) (mulf g g))

/-- The reference's formulas are the kernel's. -/
theorem ref_newM (hg : g' = g) (hn : n' = n) : rM h g' n' = newM g n := by subst hg hn; rfl
theorem ref_newV (hg : g' = g) (hv : v' = v) : rV h g' v' = newV g v := by subst hg hv; rfl
theorem ref_delta (hw : w' = w) (hg : g' = g) (hn : n' = n) (hv : v' = v) :
    mulf (rcon h 0xBA83126F#32) (addf (Host.divf (Host.divf (rM h g' n') (rcon h 0x3F26BD02#32))
      (addf (Host.sqrt (Host.divf (rV h g' v') (rcon h 0x3C231ACC#32))) (rcon h 0x322BCC77#32))) (mulf (rcon h 0x3C23D70A#32) w'))
      = delta w g n v := by
  subst hw hg hn hv; rfl
end reference

variable {F : FTy → Type} [FloatOps F]

set_option maxHeartbeats 4000000 in
/-- The two printings of the call give its one label the same body. -/
theorem bodies : Cert.AdamwSmall.defs₀ (F := F) = Cert.AdamwSmallIdeal.defs₀ := by
  unfold Cert.AdamwSmall.defs₀ Cert.AdamwSmallIdeal.defs₀
  refine congrArg Defs.onTc (funext fun l => funext fun x => ?_)
  match l, x with
  | 0, (_, _) => rfl
set_option maxHeartbeats 4000000 in
theorem same_defs : Cert.AdamwSmall.defs (F := F) = Cert.AdamwSmallIdeal.defs :=
  congrArg (Pipeline.defs Cert.AdamwSmallIdeal.pcfgs) bodies
set_option maxHeartbeats 4000000 in
theorem same_main : Cert.AdamwSmall.main (F := F) = Cert.AdamwSmallIdeal.main := rfl

set_option maxHeartbeats 4000000 in
/-- The call as printed terminates without a fault, leaves its arguments alone and its semaphores at zero. -/
theorem frame_printed : Cert.quiescent_AdamwSmall := fun m ρ _ => by
  have e : θ_run (Cert.AdamwSmall.defs (F := Bits)) (onTc (Cert.AdamwSmall.main (F := Bits)))
      = θ_run Cert.AdamwSmallIdeal.defs (onTc Cert.AdamwSmallIdeal.main) := by
    rw [same_defs, same_main]
  rw [e]
  exact Cert.AdamwSmallIdeal.Body.frame (F := Bits) m ρ

/-- The reference terminates, leaves its arguments alone, and declares no semaphore. -/
theorem frame_ref : Cert.quiescent_AdamwSmallRefIdeal := fun m ρ _ =>
  (θ_run Cert.AdamwSmallRefIdeal.defs _ _).mono (fun r h => ⟨fun c => (h c).2.2.2.2.2.2.2.2.2.2.2.2.2.2.2.2.2.2.2.2.2.2.2.2.2.2.2, sem_eq_zero_of_no_sems (by decide) r.2⟩)
    (Cert.AdamwSmallRefIdeal.Value.run (F := Ideal) m ρ)

set_option maxHeartbeats 4000000 in
theorem algebraic : Cert.algebraic_AdamwSmallIdeal_AdamwSmallRefIdeal := by
  intro m g m' g' hp hm
  refine ⟨G36 m, G37 m, G38 m, G39 m, G40 m, G41 m, G42 m, G43 m, G44 m, G45 m, G46 m, G47 m, G48 m, G49 m, G50 m, G51 m, G52 m, G53 m,
    G54 m, G55 m, G56 m, G57 m, G58 m, G59 m, G60 m, G61 m, G62 m,
    (θ_run _ _ _).mono (fun r h c => ?_) (run_main (F := Ideal) m g),
    (θ_run _ _ _).mono (fun r h c => ?_) (Cert.AdamwSmallRefIdeal.Value.run m' g')⟩
  · exact ⟨((h.1 c).1 36).trans (final36 m c), ((h.1 c).1 37).trans (final37 m c), ((h.1 c).1 38).trans (final38 m c),
      ((h.1 c).1 39).trans (final39 m c), ((h.1 c).1 40).trans (final40 m c), ((h.1 c).1 41).trans (final41 m c),
      ((h.1 c).1 42).trans (final42 m c), ((h.1 c).1 43).trans (final43 m c), ((h.1 c).1 44).trans (final44 m c),
      ((h.1 c).1 45).trans (final45 m c), ((h.1 c).1 46).trans (final46 m c), ((h.1 c).1 47).trans (final47 m c),
      ((h.1 c).1 48).trans (final48 m c), ((h.1 c).1 49).trans (final49 m c), ((h.1 c).1 50).trans (final50 m c),
      ((h.1 c).1 51).trans (final51 m c), ((h.1 c).1 52).trans (final52 m c), ((h.1 c).1 53).trans (final53 m c),
      ((h.1 c).1 54).trans (final54 m c), ((h.1 c).1 55).trans (final55 m c), ((h.1 c).1 56).trans (final56 m c),
      ((h.1 c).1 57).trans (final57 m c), ((h.1 c).1 58).trans (final58 m c), ((h.1 c).1 59).trans (final59 m c),
      ((h.1 c).1 60).trans (final60 m c), ((h.1 c).1 61).trans (final61 m c), ((h.1 c).1 62).trans (final62 m c),
      kept m h.1 c 0 rfl, kept m h.1 c 1 rfl, kept m h.1 c 2 rfl, kept m h.1 c 3 rfl, kept m h.1 c 4 rfl, kept m h.1 c 5 rfl,
      kept m h.1 c 6 rfl, kept m h.1 c 7 rfl, kept m h.1 c 8 rfl, kept m h.1 c 27 rfl, kept m h.1 c 28 rfl,
      kept m h.1 c 29 rfl, kept m h.1 c 30 rfl, kept m h.1 c 31 rfl, kept m h.1 c 32 rfl, kept m h.1 c 33 rfl,
      kept m h.1 c 34 rfl, kept m h.1 c 35 rfl, kept m h.1 c 9 rfl, kept m h.1 c 10 rfl, kept m h.1 c 11 rfl,
      kept m h.1 c 12 rfl, kept m h.1 c 13 rfl, kept m h.1 c 14 rfl, kept m h.1 c 15 rfl, kept m h.1 c 16 rfl,
      kept m h.1 c 17 rfl, kept m h.1 c 18 rfl, kept m h.1 c 19 rfl, kept m h.1 c 20 rfl, kept m h.1 c 21 rfl,
      kept m h.1 c 22 rfl, kept m h.1 c 23 rfl, kept m h.1 c 24 rfl, kept m h.1 c 25 rfl, kept m h.1 c 26 rfl⟩
  · obtain ⟨e36, e37, e38, e39, e40, e41, e42, e43, e44, e45, e46, e47, e48, e49, e50, e51, e52, e53, e54, e55, e56, e57, e58, e59, e60,
      e61, e62, a⟩ := h c
    obtain ⟨h0, h1, h2, h3, h4, h5, h6, h7, h8, h9, h10, h11, h12, h13, h14, h15, h16, h17, h18, h19, h20, h21, h22, h23, h24, h25, h26,
      h27, h28, h29, h30, h31, h32, h33, h34, h35⟩ := hm c
    exact ⟨e36.trans (ref_delta _ h0 h9 h18 h27), e37.trans (ref_delta _ h1 h10 h19 h28), e38.trans (ref_delta _ h2 h11 h20 h29),
      e39.trans (ref_delta _ h3 h12 h21 h30), e40.trans (ref_delta _ h4 h13 h22 h31), e41.trans (ref_delta _ h5 h14 h23 h32),
      e42.trans (ref_delta _ h6 h15 h24 h33), e43.trans (ref_delta _ h7 h16 h25 h34), e44.trans (ref_delta _ h8 h17 h26 h35),
      e45.trans (ref_newM _ h9 h18), e46.trans (ref_newM _ h10 h19), e47.trans (ref_newM _ h11 h20),
      e48.trans (ref_newM _ h12 h21), e49.trans (ref_newM _ h13 h22), e50.trans (ref_newM _ h14 h23),
      e51.trans (ref_newM _ h15 h24), e52.trans (ref_newM _ h16 h25), e53.trans (ref_newM _ h17 h26),
      e54.trans (ref_newV _ h9 h27), e55.trans (ref_newV _ h10 h28), e56.trans (ref_newV _ h11 h29),
      e57.trans (ref_newV _ h12 h30), e58.trans (ref_newV _ h13 h31), e59.trans (ref_newV _ h14 h32),
      e60.trans (ref_newV _ h15 h33), e61.trans (ref_newV _ h16 h34), e62.trans (ref_newV _ h17 h35), a⟩
end Cert.AdamwSmallValue
end
-- ==== Proof.lean ====
module

public import proofs.«01_k».proof.Defs
public import proofs.«01_k».proof.Proof.Gen.Ffn1Bwd.Frame
public import proofs.«01_k».proof.Proof.Gen.Ffn1BwdIdeal.Frame
public import proofs.«01_k».proof.Proof.Gen.Ffn1BwdIdeal.Value
public import proofs.«01_k».proof.Proof.Gen.Ffn1BwdRefIdeal
public import proofs.«01_k».proof.Proof.Gen.Ffn1BwdRefIdeal.Run
public import proofs.«01_k».proof.Proof.Gen.Ffn1BwdRefIdeal.Read
public import proofs.«01_k».proof.Proof.Gen.Ffn2Bwd.Frame
public import proofs.«01_k».proof.Proof.Gen.Ffn2BwdIdeal.Frame
public import proofs.«01_k».proof.Proof.Gen.Ffn2BwdRefIdeal
public import proofs.«01_k».proof.Proof.Gen.Ffn2BwdRefIdeal.Run
public import proofs.«01_k».proof.Proof.Gen.Ffn2BwdRefIdeal.Read
public import proofs.«01_k».proof.Proof.Gen.Pre_finite_ffn1
public import proofs.«01_k».proof.Proof.Gen.Pre_finite_ffn2
public import proofs.«01_k».proof.Proof.Ffn1Value
public import proofs.«01_k».proof.Proof.Ffn2Value
public import proofs.«01_k».proof.Proof.Gen.Ffn1FwdRefIdeal.Run
public import proofs.«01_k».proof.Proof.Gen.Ffn2FwdRefIdeal.Run
public import proofs.«01_k».proof.Proof.FfnFwdFrames
public import proofs.«01_k».proof.Proof.Ffn1FwdIdealFrame
public import proofs.«01_k».proof.Proof.Ffn1FwdValue
public import proofs.«01_k».proof.Proof.Ffn2FwdIdealFrame
public import proofs.«01_k».proof.Proof.Ffn2FwdValue
public import proofs.«01_k».proof.Proof.Gen.OutProjBwd.Frame
public import proofs.«01_k».proof.Proof.Gen.OutProjBwdIdeal.Frame
public import proofs.«01_k».proof.Proof.Gen.OutProjBwdRefIdeal
public import proofs.«01_k».proof.Proof.Gen.OutProjBwdRefIdeal.Run
public import proofs.«01_k».proof.Proof.Gen.OutProjBwdRefIdeal.Read
public import proofs.«01_k».proof.Proof.OutProjBwdValue
public import proofs.«01_k».proof.Proof.Gen.InProjBwd.Frame
public import proofs.«01_k».proof.Proof.Gen.InProjBwdIdeal.Frame
public import proofs.«01_k».proof.Proof.Gen.InProjBwdRefIdeal
public import proofs.«01_k».proof.Proof.Gen.InProjBwdRefIdeal.Run
public import proofs.«01_k».proof.Proof.Gen.InProjBwdRefIdeal.Read
public import proofs.«01_k».proof.Proof.InProjBwdValue
public import proofs.«01_k».proof.Proof.Gen.InProjFwd.Frame
public import proofs.«01_k».proof.Proof.Gen.InProjFwdIdeal.Frame
public import proofs.«01_k».proof.Proof.Gen.InProjFwdRefIdeal
public import proofs.«01_k».proof.Proof.Gen.InProjFwdRefIdeal.Run
public import proofs.«01_k».proof.Proof.Gen.InProjFwdRefIdeal.Read
public import proofs.«01_k».proof.Proof.InProjFwdValue
public import proofs.«01_k».proof.Proof.Gen.OutProjFwd.Frame
public import proofs.«01_k».proof.Proof.Gen.OutProjFwdIdeal.Frame
public import proofs.«01_k».proof.Proof.Gen.OutProjFwdRefIdeal
public import proofs.«01_k».proof.Proof.Gen.OutProjFwdRefIdeal.Run
public import proofs.«01_k».proof.Proof.Gen.OutProjFwdRefIdeal.Read
public import proofs.«01_k».proof.Proof.OutProjFwdValue
public import proofs.«01_k».proof.Proof.Gen.AdamwSmall
public import proofs.«01_k».proof.Proof.Gen.AdamwSmallIdeal
public import proofs.«01_k».proof.Proof.Gen.AdamwSmallRefIdeal
public import proofs.«01_k».proof.Proof.Gen.AdamwSmallRefIdeal.Run
public import proofs.«01_k».proof.Proof.AdamwSmallIdealFrame
public import proofs.«01_k».proof.Proof.AdamwSmallValue
public import Idealize.ShloMosaic.Adequacy
public import Idealize.ShloMosaic.Init

@[expose] public section

noncomputable section

namespace Cert.Proof

open Idealize.ShloMosaic Idealize.SL.Sem

theorem claim : Cert.Claim := ⟨Cert.Ffn1Bwd.Gen.facts, Cert.Ffn1BwdIdeal.Gen.facts, Cert.Ffn1BwdRefIdeal.Gen.facts,
  Cert.Ffn2Bwd.Gen.facts, Cert.Ffn2BwdIdeal.Gen.facts, Cert.Ffn2BwdRefIdeal.Gen.facts,
  Cert.Ffn1Fwd.Gen.facts, Cert.Ffn1FwdIdeal.Gen.facts, Cert.Ffn1FwdRefIdeal.Gen.facts,
  Cert.Ffn2Fwd.Gen.facts, Cert.Ffn2FwdIdeal.Gen.facts, Cert.Ffn2FwdRefIdeal.Gen.facts,
  Cert.OutProjBwd.Gen.facts, Cert.OutProjBwdIdeal.Gen.facts, Cert.OutProjBwdRefIdeal.Gen.facts,
  Cert.InProjBwd.Gen.facts, Cert.InProjBwdIdeal.Gen.facts, Cert.InProjBwdRefIdeal.Gen.facts,
  Cert.InProjFwd.Gen.facts, Cert.InProjFwdIdeal.Gen.facts, Cert.InProjFwdRefIdeal.Gen.facts,
  Cert.OutProjFwd.Gen.facts, Cert.OutProjFwdIdeal.Gen.facts, Cert.OutProjFwdRefIdeal.Gen.facts,
  Cert.AdamwSmall.Gen.facts, Cert.AdamwSmallIdeal.Gen.facts, Cert.AdamwSmallRefIdeal.Gen.facts,
  Cert.Pre_finite_ffn1.Gen.facts, Cert.Pre_finite_ffn2.Gen.facts, by
  refine ⟨fun m ρ _ => Cert.Ffn1Bwd.Gen.frame m ρ, fun m ρ _ => Cert.Ffn1BwdIdeal.Gen.frame m ρ, fun m ρ _ => Cert.Ffn1BwdIdeal.Gen.frame m ρ,
    Cert.Ffn1Value.frame_ref, fun m ρ _ => Cert.Ffn1Value.frame_ref m ρ trivial,
    fun m ρ _ => Cert.Ffn2Bwd.Gen.frame m ρ, fun m ρ _ => Cert.Ffn2BwdIdeal.Gen.frame m ρ, fun m ρ _ => Cert.Ffn2BwdIdeal.Gen.frame m ρ,
    Cert.Ffn2Value.frame_ref, fun m ρ _ => Cert.Ffn2Value.frame_ref m ρ trivial,
    Cert.FfnFwdFrames.frame1, fun m ρ _ => Cert.Ffn1FwdIdeal.Body.frame m ρ, Cert.Ffn1FwdValue.frame_ref,
    Cert.FfnFwdFrames.frame2, fun m ρ _ => Cert.Ffn2FwdIdeal.Body.frame m ρ, Cert.Ffn2FwdValue.frame_ref,
    fun m ρ _ => Cert.OutProjBwd.Gen.frame m ρ, fun m ρ _ => Cert.OutProjBwdIdeal.Gen.frame m ρ, Cert.OutProjBwdValue.frame_ref,
    fun m ρ _ => Cert.InProjBwd.Gen.frame m ρ, fun m ρ _ => Cert.InProjBwdIdeal.Gen.frame m ρ, Cert.InProjBwdValue.frame_ref,
    fun m ρ _ => Cert.InProjFwd.Gen.frame m ρ, fun m ρ _ => Cert.InProjFwdIdeal.Gen.frame m ρ, Cert.InProjFwdValue.frame_ref,
    fun m ρ _ => Cert.OutProjFwd.Gen.frame m ρ, fun m ρ _ => Cert.OutProjFwdIdeal.Gen.frame m ρ, Cert.OutProjFwdValue.frame_ref,
    Cert.AdamwSmallValue.frame_printed, fun m ρ _ => Cert.AdamwSmallIdeal.Body.frame m ρ, Cert.AdamwSmallValue.frame_ref,
    trivial, Cert.Ffn1Value.algebraic, trivial, Cert.Ffn2Value.algebraic,
    trivial, Cert.Ffn1FwdValue.algebraic, trivial, Cert.Ffn2FwdValue.algebraic,
    trivial, Cert.OutProjBwdValue.algebraic,
    trivial, Cert.InProjBwdValue.algebraic,
    trivial, Cert.InProjFwdValue.algebraic,
    trivial, Cert.OutProjFwdValue.algebraic,
    trivial, Cert.AdamwSmallValue.algebraic⟩⟩

end Cert.Proof

end
